-- ==== Defs.lean ====
def Pre_Kernel [hPre_sizes_fit : Cert.Pre_sizes_fit.Facts] (m : (ℓ : Loc Cert.Kernel.nD Cert.Kernel.τ Cert.Kernel.sig) → Buf (Elt Bits) ℓ) : Prop :=
  ∀ c : Dev Cert.Kernel.nD,
    (Cert.Pre_sizes_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_sizes_fit : Cert.Pre_sizes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_sizes_fit : Cert.Pre_sizes_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_sizes_fit : Cert.Pre_sizes_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_sizes_fit : Cert.Pre_sizes_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_sizes_fit : Cert.Pre_sizes_fit.Facts),
    quiescent_Kernel (hKernel := hKernel) (hPre_sizes_fit := hPre_sizes_fit)
    ∧ quiescent_KernelIdeal (hKernelIdeal := hKernelIdeal) (hPre_sizes_fit := hPre_sizes_fit)
    ∧ quiescent_ReferenceIdeal (hReferenceIdeal := hReferenceIdeal) (hPre_sizes_fit := hPre_sizes_fit)
    ∧ preserves_Kernel_KernelIdeal
    ∧ algebraic_KernelIdeal_ReferenceIdeal (hKernelIdeal := hKernelIdeal) (hReferenceIdeal := hReferenceIdeal) (hPre_sizes_fit := hPre_sizes_fit)
-- ==== Pre_sizes_fit.lean ====
abbrev S1536x2048 : Shape := ⟨2, ![1536, 2048]⟩
abbrev S60 : Shape := ⟨1, ![60]⟩
abbrev S1536 : Shape := ⟨1, ![1536]⟩
abbrev S60x1024x2816 : Shape := ⟨3, ![60, 1024, 2816]⟩
abbrev S60x16x2816 : Shape := ⟨3, ![60, 16, 2816]⟩
abbrev S60x704x2048 : Shape := ⟨3, ![60, 704, 2048]⟩
abbrev S60x11x2048 : Shape := ⟨3, ![60, 11, 2048]⟩
abbrev S_ : Shape := ⟨0, ![]⟩

class Facts : Prop where
  bcast_S_S60 : S_.BroadcastsInDim S60 (![] : Fin 0 → Fin S60.rank)
  reducesTo_S60_S_d0 : S60.ReducesTo [0] S_
  h_S_ : 0 < S_.numel

variable [Facts]

def fn {F : FTy → Type} [FloatOps F] (main_arg0 : FVec F S1536x2048 .bf16) (main_arg1 : IVec S60 32) (main_arg2 : FVec F S1536 .f32) (main_arg3 : IVec S60x1024x2816 8) (main_arg4 : FVec F S60x16x2816 .bf16) (main_arg5 : IVec S60x704x2048 8) (main_arg6 : FVec F S60x11x2048 .bf16) : IVec S_ 1 :=
  let main_c : IVec S_ 32 := constantI S_ 32 0#32
  let main_v0 : IVec S60 32 := broadcastInDim S60 ![] bcast_S_S60 main_c
  let main_v1 : IVec S60 1 := cmpi .sge main_arg1 main_v0
  let main_c_0 : IVec S_ 32 := constantI S_ 32 1536#32
  let main_v2 : IVec S60 32 := broadcastInDim S60 ![] bcast_S_S60 main_c_0
  let main_v3 : IVec S60 1 := cmpi .sle main_arg1 main_v2
  let main_v4 : IVec S60 1 := andi main_v1 main_v3
  let main_c_1 : IVec S_ 1 := constantI S_ 1 1#1
  let main_v5 : IVec S_ 1 := (fun x v => Host.reduce IntOp.andi x v reducesTo_S60_S_d0 h_S_) main_v4 main_c_1
  let main_c_2 : IVec S_ 32 := constantI S_ 32 0#32
  let main_v6 : IVec S_ 32 := (fun x v => Host.reduce IntOp.addi x v reducesTo_S60_S_d0 h_S_) main_arg1 main_c_2
  let main_c_3 : IVec S_ 32 := constantI S_ 32 1536#32
  let main_v7 : IVec S_ 1 := cmpi .sle main_v6 main_c_3
  let main_v8 : IVec S_ 1 := andi main_v5 main_v7
  main_v8
-- ==== Kernel.lean ====
abbrev S1536x2048 : Shape := ⟨2, ![1536, 2048]⟩
abbrev S60 : Shape := ⟨1, ![60]⟩
abbrev S1536 : Shape := ⟨1, ![1536]⟩
abbrev S60x1024x2816 : Shape := ⟨3, ![60, 1024, 2816]⟩
abbrev S60x16x2816 : Shape := ⟨3, ![60, 16, 2816]⟩
abbrev S60x704x2048 : Shape := ⟨3, ![60, 704, 2048]⟩
abbrev S60x11x2048 : Shape := ⟨3, ![60, 11, 2048]⟩
abbrev S12x128 : Shape := ⟨2, ![12, 128]⟩
abbrev S2x1024x2816 : Shape := ⟨3, ![2, 1024, 2816]⟩
abbrev S2x16x2816 : Shape := ⟨3, ![2, 16, 2816]⟩
abbrev S2x704x2048 : Shape := ⟨3, ![2, 704, 2048]⟩
abbrev S2x11x2048 : Shape := ⟨3, ![2, 11, 2048]⟩
abbrev S128x2816 : Shape := ⟨2, ![128, 2816]⟩
abbrev S128x1408 : Shape := ⟨2, ![128, 1408]⟩
abbrev S1536x128 : Shape := ⟨2, ![1536, 128]⟩
abbrev S5x128 : Shape := ⟨2, ![5, 128]⟩
abbrev S2x4 : Shape := ⟨2, ![2, 4]⟩
abbrev S1 : Shape := ⟨1, ![1]⟩
abbrev S1x1 : Shape := ⟨2, ![1, 1]⟩
abbrev S_ : Shape := ⟨0, ![]⟩
abbrev S1x1024x2816 : Shape := ⟨3, ![1, 1024, 2816]⟩
abbrev S1024x2816 : Shape := ⟨2, ![1024, 2816]⟩
abbrev S1x16x2816 : Shape := ⟨3, ![1, 16, 2816]⟩
abbrev S16x2816 : Shape := ⟨2, ![16, 2816]⟩
abbrev S1x704x2048 : Shape := ⟨3, ![1, 704, 2048]⟩
abbrev S704x2048 : Shape := ⟨2, ![704, 2048]⟩
abbrev S1x11x2048 : Shape := ⟨3, ![1, 11, 2048]⟩
abbrev S11x2048 : Shape := ⟨2, ![11, 2048]⟩
abbrev S1x128 : Shape := ⟨2, ![1, 128]⟩
abbrev S128x128 : Shape := ⟨2, ![128, 128]⟩
abbrev S128x2048 : Shape := ⟨2, ![128, 2048]⟩
abbrev S1x1024x256 : Shape := ⟨3, ![1, 1024, 256]⟩
abbrev S1024x256 : Shape := ⟨2, ![1024, 256]⟩
abbrev S1024x1x256 : Shape := ⟨3, ![1024, 1, 256]⟩
abbrev S1024x2x256 : Shape := ⟨3, ![1024, 2, 256]⟩
abbrev S2048x256 : Shape := ⟨2, ![2048, 256]⟩
abbrev S1x1x256 : Shape := ⟨3, ![1, 1, 256]⟩
abbrev S1x256 : Shape := ⟨2, ![1, 256]⟩
abbrev S128x256 : Shape := ⟨2, ![128, 256]⟩
abbrev S1x704x256 : Shape := ⟨3, ![1, 704, 256]⟩
abbrev S704x256 : Shape := ⟨2, ![704, 256]⟩
abbrev S704x1x256 : Shape := ⟨3, ![704, 1, 256]⟩
abbrev S704x2x256 : Shape := ⟨3, ![704, 2, 256]⟩
abbrev S1408x256 : Shape := ⟨2, ![1408, 256]⟩

abbrev nBuf : Space → Nat
  | .hbm => 9
  | .vmem => 10
  | .smem => 2
  | _ => 0

abbrev bufTy : (tb : Table) → Fin (tcTables nBuf tb) → BufTy
  | .hbm, ⟨0, _⟩ => ⟨S1536x2048, .bf16⟩
  | .hbm, ⟨1, _⟩ => ⟨S60, .i32⟩
  | .hbm, ⟨2, _⟩ => ⟨S1536, .f32⟩
  | .hbm, ⟨3, _⟩ => ⟨S60x1024x2816, .i8⟩
  | .hbm, ⟨4, _⟩ => ⟨S60x16x2816, .bf16⟩
  | .hbm, ⟨5, _⟩ => ⟨S60x704x2048, .i8⟩
  | .hbm, ⟨6, _⟩ => ⟨S60x11x2048, .bf16⟩
  | .hbm, ⟨7, _⟩ => ⟨S12x128, .f32⟩
  | .hbm, ⟨8, _⟩ => ⟨S1536x2048, .bf16⟩
  | .local _ .vmem, ⟨0, _⟩ => ⟨S1536x2048, .bf16⟩
  | .local _ .vmem, ⟨1, _⟩ => ⟨S12x128, .f32⟩
  | .local _ .vmem, ⟨2, _⟩ => ⟨S1536x2048, .bf16⟩
  | .local _ .vmem, ⟨3, _⟩ => ⟨S2x1024x2816, .i8⟩
  | .local _ .vmem, ⟨4, _⟩ => ⟨S2x16x2816, .bf16⟩
  | .local _ .vmem, ⟨5, _⟩ => ⟨S2x704x2048, .i8⟩
  | .local _ .vmem, ⟨6, _⟩ => ⟨S2x11x2048, .bf16⟩
  | .local _ .vmem, ⟨7, _⟩ => ⟨S128x2816, .f32⟩
  | .local _ .vmem, ⟨8, _⟩ => ⟨S128x1408, .bf16⟩
  | .local _ .vmem, ⟨9, _⟩ => ⟨S1536x128, .f32⟩
  | .local _ .smem, ⟨0, _⟩ => ⟨S60, .i32⟩
  | .local _ .smem, ⟨1, _⟩ => ⟨S5x128, .i32⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_stg0_0 : Ref sig .tc := ⟨.smem, 0, rfl⟩
abbrev cc0_scratch7 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32_2 : BitVec 32 := 0#32
  let c60_i32 : BitVec 32 := 60#32
  let v0 : BitVec 32 := Scalar.addi c0_i32_2 c60_i32
  let c1_i32 : BitVec 32 := 1#32
  ⟨c0_i32_2, v0, c1_i32⟩
def k0_off1 (k0_t1 : Fin k0_t1_loop.trips) : Fin 1 → Nat :=
  let c0_i32_2 : BitVec 32 := 0#32
  let c1_i32 : BitVec 32 := 1#32
  let arg17 : BitVec 32 := Scf.iv c0_i32_2 c1_i32 k0_t1
  let v112 : Index := Scalar.indexCast arg17
  ![v112.toNat]
def k0_off2 (arg21 : BitVec 32) : Fin 2 → Nat :=
  let c0_39 : Index := 0#32
  let v121 : Index := Scalar.indexCast arg21
  ![0, v121.toNat]

def k0_off3 (arg21 : BitVec 32) : Fin 2 → Nat :=
  let c1_40 : Index := 1#32
  let v123 : Index := Scalar.indexCast arg21
  ![1, v123.toNat]
def k0_off4 (arg21 : BitVec 32) : Fin 2 → Nat :=
  let c2_41 : Index := 2#32
  let v125 : Index := Scalar.indexCast arg21
  ![2, v125.toNat]
def k0_off5 (arg21 : BitVec 32) : Fin 2 → Nat :=
  let c3_42 : Index := 3#32
  let v129 : Index := Scalar.indexCast arg21
  ![3, v129.toNat]
def k0_off6 (arg21 : BitVec 32) : Fin 2 → Nat :=
  let c4_43 : Index := 4#32
  let v131 : Index := Scalar.indexCast arg21
  ![4, v131.toNat]

def k0_chk1 (arg21 : BitVec 32) : Prop :=
  (∀ a, (k0_off2 arg21) a + S1x1.size a ≤ S5x128.size a) ∧
  (∀ a, (k0_off3 arg21) a + S1x1.size a ≤ S5x128.size a) ∧
  (∀ a, (k0_off4 arg21) a + S1x1.size a ≤ S5x128.size a) ∧
  (∀ a, (k0_off5 arg21) a + S1x1.size a ≤ S5x128.size a) ∧
  (∀ a, (k0_off6 arg21) a + S1x1.size a ≤ S5x128.size a)
theorem k0_off2_inb : ∀ (arg21 : BitVec 32) (k0_hw1 : k0_chk1 arg21), ∀ a, (k0_off2 arg21) a + S1x1.size a ≤ S5x128.size a := fun arg21 k0_hw1 => k0_hw1.1
theorem k0_off3_inb : ∀ (arg21 : BitVec 32) (k0_hw1 : k0_chk1 arg21), ∀ a, (k0_off3 arg21) a + S1x1.size a ≤ S5x128.size a := fun arg21 k0_hw1 => k0_hw1.2.1
theorem k0_off4_inb : ∀ (arg21 : BitVec 32) (k0_hw1 : k0_chk1 arg21), ∀ a, (k0_off4 arg21) a + S1x1.size a ≤ S5x128.size a := fun arg21 k0_hw1 => k0_hw1.2.2.1
theorem k0_off5_inb : ∀ (arg21 : BitVec 32) (k0_hw1 : k0_chk1 arg21), ∀ a, (k0_off5 arg21) a + S1x1.size a ≤ S5x128.size a := fun arg21 k0_hw1 => k0_hw1.2.2.2.1
theorem k0_off6_inb : ∀ (arg21 : BitVec 32) (k0_hw1 : k0_chk1 arg21), ∀ a, (k0_off6 arg21) a + S1x1.size a ≤ S5x128.size a := fun arg21 k0_hw1 => k0_hw1.2.2.2.2

def k0_off7 (v1_0 : BitVec 32) : Fin 2 → Nat :=
  let c4 : Index := 4#32
  let v2 : Index := Scalar.indexCast v1_0
  ![4, v2.toNat]

def k0_off8 (v112 : BitVec 32) : Fin 3 → Nat :=
  let c0_i32_46 : BitVec 32 := 0#32
  let c0_i32_47 : BitVec 32 := 0#32
  ![v112.toNat, 0, 0]
def k0_cond1 (v1_0 : BitVec 32) : BitVec 1 :=
  let c0_i32_4 : BitVec 32 := 0#32
  let v4 : BitVec 1 := Scalar.cmpi .sgt v1_0 c0_i32_4
  let v5 : BitVec 32 := Scalar.extui v4
  let c0_i32_5 : BitVec 32 := 0#32
  let v6 : BitVec 1 := Scalar.cmpi .ne v5 c0_i32_5
  v6

def k0_off9 (v112 : BitVec 32) : Fin 3 → Nat :=
  let c0_i32_53 : BitVec 32 := 0#32
  let c0_i32_54 : BitVec 32 := 0#32
  ![v112.toNat, 0, 0]
def k0_off10 (v112 : BitVec 32) : Fin 3 → Nat :=
  let c0_i32_59 : BitVec 32 := 0#32
  let c0_i32_60 : BitVec 32 := 0#32
  ![v112.toNat, 0, 0]
def k0_off11 (v112 : BitVec 32) : Fin 3 → Nat :=
  let c0_i32_65 : BitVec 32 := 0#32
  let c0_i32_66 : BitVec 32 := 0#32
  ![v112.toNat, 0, 0]

def k0_chk3 (v1_0 : BitVec 32) (v112 : BitVec 32) : Prop :=
  (∀ (k0_h1 : k0_cond1 v1_0 = 1#1), ∀ a, (k0_off8 v112) a + S1x1024x2816.size a ≤ S60x1024x2816.size a) ∧
  (∀ (k0_h1 : k0_cond1 v1_0 = 1#1), ∀ (hinb : ∀ a, (k0_off8 v112) a + S1x1024x2816.size a ≤ S60x1024x2816.size a), (Rect.unit (s := S60x1024x2816) (k0_off8 v112) S1x1024x2816.size hinb).WholeWords (EltTy.packing .i8)) ∧
  (∀ (k0_h1 : k0_cond1 v1_0 = 1#1), ∀ a, (k0_off9 v112) a + S1x16x2816.size a ≤ S60x16x2816.size a) ∧
  (∀ (k0_h1 : k0_cond1 v1_0 = 1#1), ∀ (hinb : ∀ a, (k0_off9 v112) a + S1x16x2816.size a ≤ S60x16x2816.size a), (Rect.unit (s := S60x16x2816) (k0_off9 v112) S1x16x2816.size hinb).WholeWords (EltTy.packing .bf16)) ∧
  (∀ (k0_h1 : k0_cond1 v1_0 = 1#1), ∀ a, (k0_off10 v112) a + S1x704x2048.size a ≤ S60x704x2048.size a) ∧
  (∀ (k0_h1 : k0_cond1 v1_0 = 1#1), ∀ (hinb : ∀ a, (k0_off10 v112) a + S1x704x2048.size a ≤ S60x704x2048.size a), (Rect.unit (s := S60x704x2048) (k0_off10 v112) S1x704x2048.size hinb).WholeWords (EltTy.packing .i8)) ∧
  (∀ (k0_h1 : k0_cond1 v1_0 = 1#1), ∀ a, (k0_off11 v112) a + S1x11x2048.size a ≤ S60x11x2048.size a) ∧
  (∀ (k0_h1 : k0_cond1 v1_0 = 1#1), ∀ (hinb : ∀ a, (k0_off11 v112) a + S1x11x2048.size a ≤ S60x11x2048.size a), (Rect.unit (s := S60x11x2048) (k0_off11 v112) S1x11x2048.size hinb).WholeWords (EltTy.packing .bf16))
theorem k0_off8_inb : ∀ (v1_0 : BitVec 32) (v112 : BitVec 32) (k0_hw3 : k0_chk3 v1_0 v112), ∀ (k0_h1 : k0_cond1 v1_0 = 1#1), ∀ a, (k0_off8 v112) a + S1x1024x2816.size a ≤ S60x1024x2816.size a := fun v1_0 v112 k0_hw3 k0_h1 => k0_hw3.1 k0_h1
theorem k0_off8_wordsi8 : ∀ (v1_0 : BitVec 32) (v112 : BitVec 32) (k0_hw3 : k0_chk3 v1_0 v112), ∀ (k0_h1 : k0_cond1 v1_0 = 1#1), (Rect.unit (s := S60x1024x2816) (k0_off8 v112) S1x1024x2816.size (k0_off8_inb v1_0 v112 k0_hw3 k0_h1)).WholeWords (EltTy.packing .i8) := fun v1_0 v112 k0_hw3 k0_h1 => k0_hw3.2.1 k0_h1 (k0_off8_inb v1_0 v112 k0_hw3 k0_h1)
theorem k0_off9_inb : ∀ (v1_0 : BitVec 32) (v112 : BitVec 32) (k0_hw3 : k0_chk3 v1_0 v112), ∀ (k0_h1 : k0_cond1 v1_0 = 1#1), ∀ a, (k0_off9 v112) a + S1x16x2816.size a ≤ S60x16x2816.size a := fun v1_0 v112 k0_hw3 k0_h1 => k0_hw3.2.2.1 k0_h1
theorem k0_off9_wordsbf16 : ∀ (v1_0 : BitVec 32) (v112 : BitVec 32) (k0_hw3 : k0_chk3 v1_0 v112), ∀ (k0_h1 : k0_cond1 v1_0 = 1#1), (Rect.unit (s := S60x16x2816) (k0_off9 v112) S1x16x2816.size (k0_off9_inb v1_0 v112 k0_hw3 k0_h1)).WholeWords (EltTy.packing .bf16) := fun v1_0 v112 k0_hw3 k0_h1 => k0_hw3.2.2.2.1 k0_h1 (k0_off9_inb v1_0 v112 k0_hw3 k0_h1)
theorem k0_off10_inb : ∀ (v1_0 : BitVec 32) (v112 : BitVec 32) (k0_hw3 : k0_chk3 v1_0 v112), ∀ (k0_h1 : k0_cond1 v1_0 = 1#1), ∀ a, (k0_off10 v112) a + S1x704x2048.size a ≤ S60x704x2048.size a := fun v1_0 v112 k0_hw3 k0_h1 => k0_hw3.2.2.2.2.1 k0_h1
theorem k0_off10_wordsi8 : ∀ (v1_0 : BitVec 32) (v112 : BitVec 32) (k0_hw3 : k0_chk3 v1_0 v112), ∀ (k0_h1 : k0_cond1 v1_0 = 1#1), (Rect.unit (s := S60x704x2048) (k0_off10 v112) S1x704x2048.size (k0_off10_inb v1_0 v112 k0_hw3 k0_h1)).WholeWords (EltTy.packing .i8) := fun v1_0 v112 k0_hw3 k0_h1 => k0_hw3.2.2.2.2.2.1 k0_h1 (k0_off10_inb v1_0 v112 k0_hw3 k0_h1)
theorem k0_off11_inb : ∀ (v1_0 : BitVec 32) (v112 : BitVec 32) (k0_hw3 : k0_chk3 v1_0 v112), ∀ (k0_h1 : k0_cond1 v1_0 = 1#1), ∀ a, (k0_off11 v112) a + S1x11x2048.size a ≤ S60x11x2048.size a := fun v1_0 v112 k0_hw3 k0_h1 => k0_hw3.2.2.2.2.2.2.1 k0_h1
theorem k0_off11_wordsbf16 : ∀ (v1_0 : BitVec 32) (v112 : BitVec 32) (k0_hw3 : k0_chk3 v1_0 v112), ∀ (k0_h1 : k0_cond1 v1_0 = 1#1), (Rect.unit (s := S60x11x2048) (k0_off11 v112) S1x11x2048.size (k0_off11_inb v1_0 v112 k0_hw3 k0_h1)).WholeWords (EltTy.packing .bf16) := fun v1_0 v112 k0_hw3 k0_h1 => k0_hw3.2.2.2.2.2.2.2 k0_h1 (k0_off11_inb v1_0 v112 k0_hw3 k0_h1)

@[reducible] def k0_t2_loop (v1_0 : BitVec 32) : Scf.Loop 32 :=
  let c0_i32_34 : BitVec 32 := 0#32
  let v105 : BitVec 32 := Scalar.subi v1_0 c0_i32_34
  let c1_i32_36 : BitVec 32 := 1#32
  let v107 : BitVec 32 := Scalar.divsi v105 c1_i32_36
  let v108 : BitVec 32 := Scalar.muli v107 c1_i32_36
  let v109 : BitVec 32 := Scalar.addi c0_i32_34 v108
  let c1_i32_37 : BitVec 32 := 1#32
  ⟨c0_i32_34, v109, c1_i32_37⟩
def k0_off12 (v1_0 : BitVec 32) (k0_t2 : Fin (k0_t2_loop v1_0).trips) : Fin 2 → Nat :=
  let c0_39 : Index := 0#32
  let c0_i32_34 : BitVec 32 := 0#32
  let c1_i32_37 : BitVec 32 := 1#32
  let arg17 : BitVec 32 := Scf.iv c0_i32_34 c1_i32_37 k0_t2
  let v112 : Index := Scalar.indexCast arg17
  ![0, v112.toNat]
def k0_off13 (v1_0 : BitVec 32) (k0_t2 : Fin (k0_t2_loop v1_0).trips) : Fin 2 → Nat :=
  let c1_40 : Index := 1#32
  let c0_i32_34 : BitVec 32 := 0#32
  let c1_i32_37 : BitVec 32 := 1#32
  let arg17 : BitVec 32 := Scf.iv c0_i32_34 c1_i32_37 k0_t2
  let v114 : Index := Scalar.indexCast arg17
  ![1, v114.toNat]
def k0_off14 (v1_0 : BitVec 32) (k0_t2 : Fin (k0_t2_loop v1_0).trips) : Fin 2 → Nat :=
  let c2_41 : Index := 2#32
  let c0_i32_34 : BitVec 32 := 0#32
  let c1_i32_37 : BitVec 32 := 1#32
  let arg17 : BitVec 32 := Scf.iv c0_i32_34 c1_i32_37 k0_t2
  let v116 : Index := Scalar.indexCast arg17
  ![2, v116.toNat]
def k0_off15 (v1_0 : BitVec 32) (k0_t2 : Fin (k0_t2_loop v1_0).trips) : Fin 2 → Nat :=
  let c3_42 : Index := 3#32
  let c0_i32_34 : BitVec 32 := 0#32
  let c1_i32_37 : BitVec 32 := 1#32
  let arg17 : BitVec 32 := Scf.iv c0_i32_34 c1_i32_37 k0_t2
  let v118 : Index := Scalar.indexCast arg17
  ![3, v118.toNat]
def k0_off16 (v1_0 : BitVec 32) (k0_t2 : Fin (k0_t2_loop v1_0).trips) : Fin 2 → Nat :=
  let c4_43 : Index := 4#32
  let c0_i32_34 : BitVec 32 := 0#32
  let c1_i32_37 : BitVec 32 := 1#32
  let arg17 : BitVec 32 := Scf.iv c0_i32_34 c1_i32_37 k0_t2
  let v120 : Index := Scalar.indexCast arg17
  ![4, v120.toNat]
def k0_mult1 (v115 : BitVec 32) : BitVec 32 :=
  v115

def k0_off17 (v1_0 : BitVec 32) (k0_t2 : Fin (k0_t2_loop v1_0).trips) : Fin 2 → Nat :=
  let c4_48 : Index := 4#32
  let c0_i32_34 : BitVec 32 := 0#32
  let c1_i32_37 : BitVec 32 := 1#32
  let arg17 : BitVec 32 := Scf.iv c0_i32_34 c1_i32_37 k0_t2
  let c1_i32_46 : BitVec 32 := 1#32
  let v125 : BitVec 32 := Scalar.subi arg17 c1_i32_46
  let c0_i32_47 : BitVec 32 := 0#32
  let v126 : BitVec 32 := Scalar.maxsi v125 c0_i32_47
  let v127 : Index := Scalar.indexCast v126
  ![4, v127.toNat]
def k0_off18 (v121 : BitVec 32) : Fin 2 → Nat :=
  let c1_i32_44 : BitVec 32 := 1#32
  let v123 : BitVec 32 := Scalar.andi v121 c1_i32_44
  let c0_i32_862 : BitVec 32 := 0#32
  ![v123.toNat, 0]
def k0_cond2 (v1_0 : BitVec 32) (k0_t2 : Fin (k0_t2_loop v1_0).trips) (v121 : BitVec 32) (v128 : BitVec 32) : BitVec 1 :=
  let c0_i32_34 : BitVec 32 := 0#32
  let c1_i32_37 : BitVec 32 := 1#32
  let arg17 : BitVec 32 := Scf.iv c0_i32_34 c1_i32_37 k0_t2
  let c0_i32_45 : BitVec 32 := 0#32
  let v124 : BitVec 1 := Scalar.cmpi .eq arg17 c0_i32_45
  let v129 : BitVec 1 := Scalar.cmpi .ne v128 v121
  let v130 : BitVec 1 := Scalar.ori v124 v129
  let v131 : BitVec 32 := Scalar.extui v130
  let c0_i32_49 : BitVec 32 := 0#32
  let v132 : BitVec 1 := Scalar.cmpi .ne v131 c0_i32_49
  v132

def k0_off19 (v121 : BitVec 32) : Fin 3 → Nat :=
  let c1_i32_44 : BitVec 32 := 1#32
  let v123 : BitVec 32 := Scalar.andi v121 c1_i32_44
  let c0_i32_863 : BitVec 32 := 0#32
  let c0_i32_864 : BitVec 32 := 0#32
  ![v123.toNat, 0, 0]
def k0_off20 (v113 : BitVec 32) : Fin 3 → Nat :=
  let c0_i32_865 : BitVec 32 := 0#32
  let c0_i32_866 : BitVec 32 := 0#32
  ![v113.toNat, 0, 0]
def k0_off21 (v121 : BitVec 32) : Fin 2 → Nat :=
  let c1_i32_44 : BitVec 32 := 1#32
  let v123 : BitVec 32 := Scalar.andi v121 c1_i32_44
  let c1_i32_867 : BitVec 32 := 1#32
  ![v123.toNat, 1]
def k0_off22 (v121 : BitVec 32) : Fin 3 → Nat :=
  let c1_i32_44 : BitVec 32 := 1#32
  let v123 : BitVec 32 := Scalar.andi v121 c1_i32_44
  let c0_i32_868 : BitVec 32 := 0#32
  let c0_i32_869 : BitVec 32 := 0#32
  ![v123.toNat, 0, 0]
def k0_off23 (v113 : BitVec 32) : Fin 3 → Nat :=
  let c0_i32_870 : BitVec 32 := 0#32
  let c0_i32_871 : BitVec 32 := 0#32
  ![v113.toNat, 0, 0]
def k0_off24 (v121 : BitVec 32) : Fin 2 → Nat :=
  let c1_i32_44 : BitVec 32 := 1#32
  let v123 : BitVec 32 := Scalar.andi v121 c1_i32_44
  let c2_i32 : BitVec 32 := 2#32
  ![v123.toNat, 2]
def k0_off25 (v121 : BitVec 32) : Fin 3 → Nat :=
  let c1_i32_44 : BitVec 32 := 1#32
  let v123 : BitVec 32 := Scalar.andi v121 c1_i32_44
  let c0_i32_872 : BitVec 32 := 0#32
  let c0_i32_873 : BitVec 32 := 0#32
  ![v123.toNat, 0, 0]
def k0_off26 (v113 : BitVec 32) : Fin 3 → Nat :=
  let c0_i32_874 : BitVec 32 := 0#32
  let c0_i32_875 : BitVec 32 := 0#32
  ![v113.toNat, 0, 0]
def k0_off27 (v121 : BitVec 32) : Fin 2 → Nat :=
  let c1_i32_44 : BitVec 32 := 1#32
  let v123 : BitVec 32 := Scalar.andi v121 c1_i32_44
  let c3_i32 : BitVec 32 := 3#32
  ![v123.toNat, 3]
def k0_off28 (v121 : BitVec 32) : Fin 3 → Nat :=
  let c1_i32_44 : BitVec 32 := 1#32
  let v123 : BitVec 32 := Scalar.andi v121 c1_i32_44
  let c0_i32_876 : BitVec 32 := 0#32
  let c0_i32_877 : BitVec 32 := 0#32
  ![v123.toNat, 0, 0]
def k0_off29 (v113 : BitVec 32) : Fin 3 → Nat :=
  let c0_i32_878 : BitVec 32 := 0#32
  let c0_i32_879 : BitVec 32 := 0#32
  ![v113.toNat, 0, 0]

def k0_chk5 (v1_0 : BitVec 32) (k0_t2 : Fin (k0_t2_loop v1_0).trips) (v113 : BitVec 32) (v121 : BitVec 32) (v128 : BitVec 32) : Prop :=
  (∀ (k0_h2 : k0_cond2 v1_0 k0_t2 v121 v128 = 1#1), ∀ a, (k0_off18 v121) a + S1x1.size a ≤ S2x4.size a) ∧
  (∀ (k0_h2 : k0_cond2 v1_0 k0_t2 v121 v128 = 1#1), ∀ a, (k0_off19 v121) a + S1x1024x2816.size a ≤ S2x1024x2816.size a) ∧
  (∀ (k0_h2 : k0_cond2 v1_0 k0_t2 v121 v128 = 1#1), ∀ a, (k0_off20 v113) a + S1x1024x2816.size a ≤ S60x1024x2816.size a) ∧
  (∀ (k0_h2 : k0_cond2 v1_0 k0_t2 v121 v128 = 1#1), ∀ (hinb : ∀ a, (k0_off20 v113) a + S1x1024x2816.size a ≤ S60x1024x2816.size a), (Rect.unit (s := S60x1024x2816) (k0_off20 v113) S1x1024x2816.size hinb).WholeWords (EltTy.packing .i8)) ∧
  (∀ (k0_h2 : k0_cond2 v1_0 k0_t2 v121 v128 = 1#1), ∀ (hinb : ∀ a, (k0_off19 v121) a + S1x1024x2816.size a ≤ S2x1024x2816.size a), (Rect.unit (s := S2x1024x2816) (k0_off19 v121) S1x1024x2816.size hinb).WholeWords (EltTy.packing .i8)) ∧
  (∀ (k0_h2 : k0_cond2 v1_0 k0_t2 v121 v128 = 1#1), ∀ a, (k0_off21 v121) a + S1x1.size a ≤ S2x4.size a) ∧
  (∀ (k0_h2 : k0_cond2 v1_0 k0_t2 v121 v128 = 1#1), ∀ a, (k0_off22 v121) a + S1x16x2816.size a ≤ S2x16x2816.size a) ∧
  (∀ (k0_h2 : k0_cond2 v1_0 k0_t2 v121 v128 = 1#1), ∀ a, (k0_off23 v113) a + S1x16x2816.size a ≤ S60x16x2816.size a) ∧
  (∀ (k0_h2 : k0_cond2 v1_0 k0_t2 v121 v128 = 1#1), ∀ (hinb : ∀ a, (k0_off23 v113) a + S1x16x2816.size a ≤ S60x16x2816.size a), (Rect.unit (s := S60x16x2816) (k0_off23 v113) S1x16x2816.size hinb).WholeWords (EltTy.packing .bf16)) ∧
  (∀ (k0_h2 : k0_cond2 v1_0 k0_t2 v121 v128 = 1#1), ∀ (hinb : ∀ a, (k0_off22 v121) a + S1x16x2816.size a ≤ S2x16x2816.size a), (Rect.unit (s := S2x16x2816) (k0_off22 v121) S1x16x2816.size hinb).WholeWords (EltTy.packing .bf16)) ∧
  (∀ (k0_h2 : k0_cond2 v1_0 k0_t2 v121 v128 = 1#1), ∀ a, (k0_off24 v121) a + S1x1.size a ≤ S2x4.size a) ∧
  (∀ (k0_h2 : k0_cond2 v1_0 k0_t2 v121 v128 = 1#1), ∀ a, (k0_off25 v121) a + S1x704x2048.size a ≤ S2x704x2048.size a) ∧
  (∀ (k0_h2 : k0_cond2 v1_0 k0_t2 v121 v128 = 1#1), ∀ a, (k0_off26 v113) a + S1x704x2048.size a ≤ S60x704x2048.size a) ∧
  (∀ (k0_h2 : k0_cond2 v1_0 k0_t2 v121 v128 = 1#1), ∀ (hinb : ∀ a, (k0_off26 v113) a + S1x704x2048.size a ≤ S60x704x2048.size a), (Rect.unit (s := S60x704x2048) (k0_off26 v113) S1x704x2048.size hinb).WholeWords (EltTy.packing .i8)) ∧
  (∀ (k0_h2 : k0_cond2 v1_0 k0_t2 v121 v128 = 1#1), ∀ (hinb : ∀ a, (k0_off25 v121) a + S1x704x2048.size a ≤ S2x704x2048.size a), (Rect.unit (s := S2x704x2048) (k0_off25 v121) S1x704x2048.size hinb).WholeWords (EltTy.packing .i8)) ∧
  (∀ (k0_h2 : k0_cond2 v1_0 k0_t2 v121 v128 = 1#1), ∀ a, (k0_off27 v121) a + S1x1.size a ≤ S2x4.size a) ∧
  (∀ (k0_h2 : k0_cond2 v1_0 k0_t2 v121 v128 = 1#1), ∀ a, (k0_off28 v121) a + S1x11x2048.size a ≤ S2x11x2048.size a) ∧
  (∀ (k0_h2 : k0_cond2 v1_0 k0_t2 v121 v128 = 1#1), ∀ a, (k0_off29 v113) a + S1x11x2048.size a ≤ S60x11x2048.size a) ∧
  (∀ (k0_h2 : k0_cond2 v1_0 k0_t2 v121 v128 = 1#1), ∀ (hinb : ∀ a, (k0_off29 v113) a + S1x11x2048.size a ≤ S60x11x2048.size a), (Rect.unit (s := S60x11x2048) (k0_off29 v113) S1x11x2048.size hinb).WholeWords (EltTy.packing .bf16)) ∧
  (∀ (k0_h2 : k0_cond2 v1_0 k0_t2 v121 v128 = 1#1), ∀ (hinb : ∀ a, (k0_off28 v121) a + S1x11x2048.size a ≤ S2x11x2048.size a), (Rect.unit (s := S2x11x2048) (k0_off28 v121) S1x11x2048.size hinb).WholeWords (EltTy.packing .bf16))
theorem k0_off18_inb : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), ∀ a, (k0_off18 v121) a + S1x1.size a ≤ S2x4.size a := fun v1_0 k0_t2 v113 v121 v128 k0_hw5 k0_h2 => k0_hw5.1 k0_h2
theorem k0_off19_inb : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), ∀ a, (k0_off19 v121) a + S1x1024x2816.size a ≤ S2x1024x2816.size a := fun v1_0 k0_t2 v113 v121 v128 k0_hw5 k0_h2 => k0_hw5.2.1 k0_h2
theorem k0_off20_inb : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), ∀ a, (k0_off20 v113) a + S1x1024x2816.size a ≤ S60x1024x2816.size a := fun v1_0 k0_t2 v113 v121 v128 k0_hw5 k0_h2 => k0_hw5.2.2.1 k0_h2
theorem k0_off20_wordsi8 : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), (Rect.unit (s := S60x1024x2816) (k0_off20 v113) S1x1024x2816.size (k0_off20_inb v1_0 k0_t2 v113 v121 v128 k0_hw5 k0_h2)).WholeWords (EltTy.packing .i8) := fun v1_0 k0_t2 v113 v121 v128 k0_hw5 k0_h2 => k0_hw5.2.2.2.1 k0_h2 (k0_off20_inb v1_0 k0_t2 v113 v121 v128 k0_hw5 k0_h2)
theorem k0_off19_wordsi8 : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), (Rect.unit (s := S2x1024x2816) (k0_off19 v121) S1x1024x2816.size (k0_off19_inb v1_0 k0_t2 v113 v121 v128 k0_hw5 k0_h2)).WholeWords (EltTy.packing .i8) := fun v1_0 k0_t2 v113 v121 v128 k0_hw5 k0_h2 => k0_hw5.2.2.2.2.1 k0_h2 (k0_off19_inb v1_0 k0_t2 v113 v121 v128 k0_hw5 k0_h2)
theorem k0_off21_inb : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), ∀ a, (k0_off21 v121) a + S1x1.size a ≤ S2x4.size a := fun v1_0 k0_t2 v113 v121 v128 k0_hw5 k0_h2 => k0_hw5.2.2.2.2.2.1 k0_h2
theorem k0_off22_inb : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), ∀ a, (k0_off22 v121) a + S1x16x2816.size a ≤ S2x16x2816.size a := fun v1_0 k0_t2 v113 v121 v128 k0_hw5 k0_h2 => k0_hw5.2.2.2.2.2.2.1 k0_h2
theorem k0_off23_inb : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), ∀ a, (k0_off23 v113) a + S1x16x2816.size a ≤ S60x16x2816.size a := fun v1_0 k0_t2 v113 v121 v128 k0_hw5 k0_h2 => k0_hw5.2.2.2.2.2.2.2.1 k0_h2
theorem k0_off23_wordsbf16 : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), (Rect.unit (s := S60x16x2816) (k0_off23 v113) S1x16x2816.size (k0_off23_inb v1_0 k0_t2 v113 v121 v128 k0_hw5 k0_h2)).WholeWords (EltTy.packing .bf16) := fun v1_0 k0_t2 v113 v121 v128 k0_hw5 k0_h2 => k0_hw5.2.2.2.2.2.2.2.2.1 k0_h2 (k0_off23_inb v1_0 k0_t2 v113 v121 v128 k0_hw5 k0_h2)
theorem k0_off22_wordsbf16 : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), (Rect.unit (s := S2x16x2816) (k0_off22 v121) S1x16x2816.size (k0_off22_inb v1_0 k0_t2 v113 v121 v128 k0_hw5 k0_h2)).WholeWords (EltTy.packing .bf16) := fun v1_0 k0_t2 v113 v121 v128 k0_hw5 k0_h2 => k0_hw5.2.2.2.2.2.2.2.2.2.1 k0_h2 (k0_off22_inb v1_0 k0_t2 v113 v121 v128 k0_hw5 k0_h2)
theorem k0_off24_inb : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), ∀ a, (k0_off24 v121) a + S1x1.size a ≤ S2x4.size a := fun v1_0 k0_t2 v113 v121 v128 k0_hw5 k0_h2 => k0_hw5.2.2.2.2.2.2.2.2.2.2.1 k0_h2
theorem k0_off25_inb : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), ∀ a, (k0_off25 v121) a + S1x704x2048.size a ≤ S2x704x2048.size a := fun v1_0 k0_t2 v113 v121 v128 k0_hw5 k0_h2 => k0_hw5.2.2.2.2.2.2.2.2.2.2.2.1 k0_h2
theorem k0_off26_inb : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), ∀ a, (k0_off26 v113) a + S1x704x2048.size a ≤ S60x704x2048.size a := fun v1_0 k0_t2 v113 v121 v128 k0_hw5 k0_h2 => k0_hw5.2.2.2.2.2.2.2.2.2.2.2.2.1 k0_h2
theorem k0_off26_wordsi8 : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), (Rect.unit (s := S60x704x2048) (k0_off26 v113) S1x704x2048.size (k0_off26_inb v1_0 k0_t2 v113 v121 v128 k0_hw5 k0_h2)).WholeWords (EltTy.packing .i8) := fun v1_0 k0_t2 v113 v121 v128 k0_hw5 k0_h2 => k0_hw5.2.2.2.2.2.2.2.2.2.2.2.2.2.1 k0_h2 (k0_off26_inb v1_0 k0_t2 v113 v121 v128 k0_hw5 k0_h2)
theorem k0_off25_wordsi8 : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), (Rect.unit (s := S2x704x2048) (k0_off25 v121) S1x704x2048.size (k0_off25_inb v1_0 k0_t2 v113 v121 v128 k0_hw5 k0_h2)).WholeWords (EltTy.packing .i8) := fun v1_0 k0_t2 v113 v121 v128 k0_hw5 k0_h2 => k0_hw5.2.2.2.2.2.2.2.2.2.2.2.2.2.2.1 k0_h2 (k0_off25_inb v1_0 k0_t2 v113 v121 v128 k0_hw5 k0_h2)
theorem k0_off27_inb : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), ∀ a, (k0_off27 v121) a + S1x1.size a ≤ S2x4.size a := fun v1_0 k0_t2 v113 v121 v128 k0_hw5 k0_h2 => k0_hw5.2.2.2.2.2.2.2.2.2.2.2.2.2.2.2.1 k0_h2
theorem k0_off28_inb : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), ∀ a, (k0_off28 v121) a + S1x11x2048.size a ≤ S2x11x2048.size a := fun v1_0 k0_t2 v113 v121 v128 k0_hw5 k0_h2 => k0_hw5.2.2.2.2.2.2.2.2.2.2.2.2.2.2.2.2.1 k0_h2
theorem k0_off29_inb : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), ∀ a, (k0_off29 v113) a + S1x11x2048.size a ≤ S60x11x2048.size a := fun v1_0 k0_t2 v113 v121 v128 k0_hw5 k0_h2 => k0_hw5.2.2.2.2.2.2.2.2.2.2.2.2.2.2.2.2.2.1 k0_h2
theorem k0_off29_wordsbf16 : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), (Rect.unit (s := S60x11x2048) (k0_off29 v113) S1x11x2048.size (k0_off29_inb v1_0 k0_t2 v113 v121 v128 k0_hw5 k0_h2)).WholeWords (EltTy.packing .bf16) := fun v1_0 k0_t2 v113 v121 v128 k0_hw5 k0_h2 => k0_hw5.2.2.2.2.2.2.2.2.2.2.2.2.2.2.2.2.2.2.1 k0_h2 (k0_off29_inb v1_0 k0_t2 v113 v121 v128 k0_hw5 k0_h2)
theorem k0_off28_wordsbf16 : ∀ (v1_0 : BitVec 32) (k0_t2 : Fin (k0_t2_loop v1_0).trips) (v113 : BitVec 32) (v121 : BitVec 32) (v128 : BitVec 32) (k0_hw5 : k0_chk5 v1_0 k0_t2 v113 v121 v128), ∀ (k0_h2 : k0_cond2 v1_0 k0_t2 v121 v128 = 1#1), (Rect.unit (s := S2x11x2048) (k0_off28 v121) S1x11x2048.size (k0_off28_inb v1_0 k0_t2 v113 v121 v128 k0_hw5 k0_h2)).WholeWords (EltTy.packing .bf16) := fun v1_0 k0_t2 v113 v121 v128 k0_hw5 k0_h2 => k0_hw5.2.2.2.2.2.2.2.2.2.2.2.2.2.2.2.2.2.2.2 k0_h2 (k0_off28_inb v1_0 k0_t2 v113 v121 v128 k0_hw5 k0_h2)

def k0_off30 (arg19 : BitVec 32) : Fin 2 → Nat :=
  let c4_862 : Index := 4#32
  let v2509 : Index := Scalar.indexCast arg19
  ![4, v2509.toNat]

def k0_chk6 (arg19 : BitVec 32) : Prop :=
  (∀ a, (k0_off30 arg19) a + S1x1.size a ≤ S5x128.size a)
theorem k0_off30_inb : ∀ (arg19 : BitVec 32) (k0_hw6 : k0_chk6 arg19), ∀ a, (k0_off30 arg19) a + S1x1.size a ≤ S5x128.size a := fun arg19 k0_hw6 => k0_hw6

def k0_off31 (v1_0 : BitVec 32) (k0_t2 : Fin (k0_t2_loop v1_0).trips) : Fin 2 → Nat :=
  let c4_863 : Index := 4#32
  let c0_i32_34 : BitVec 32 := 0#32
  let c1_i32_37 : BitVec 32 := 1#32
  let arg17 : BitVec 32 := Scf.iv c0_i32_34 c1_i32_37 k0_t2
  let v2511 : Index := Scalar.indexCast arg17
  ![4, v2511.toNat]
def k0_off32 (v134 : BitVec 32) : Fin 2 → Nat :=
  let c0_862 : Index := 0#32
  let v2509 : Index := Scalar.indexCast v134
  ![0, v2509.toNat]
def k0_cond3 (v1_0 : BitVec 32) (k0_t2 : Fin (k0_t2_loop v1_0).trips) (v121 : BitVec 32) (v128 : BitVec 32) (v134 : BitVec 32) : BitVec 1 :=
  let c0_i32_34 : BitVec 32 := 0#32
  let c1_i32_37 : BitVec 32 := 1#32
  let arg17 : BitVec 32 := Scf.iv c0_i32_34 c1_i32_37 k0_t2
  let c0_i32_45 : BitVec 32 := 0#32
  let v124 : BitVec 1 := Scalar.cmpi .eq arg17 c0_i32_45
  let v129 : BitVec 1 := Scalar.cmpi .ne v128 v121
  let v130 : BitVec 1 := Scalar.ori v124 v129
  let v135 : BitVec 1 := Scalar.cmpi .slt v134 v1_0
  let v136 : BitVec 1 := Scalar.andi v130 v135
  let v137 : BitVec 32 := Scalar.extui v136
  let c0_i32_51 : BitVec 32 := 0#32
  let v138 : BitVec 1 := Scalar.cmpi .ne v137 c0_i32_51
  v138

def k0_off33 (v121 : BitVec 32) : Fin 2 → Nat :=
  let c1_i32_863 : BitVec 32 := 1#32
  let c1_i32_44 : BitVec 32 := 1#32
  let v123 : BitVec 32 := Scalar.andi v121 c1_i32_44
  let v2511 : BitVec 32 := Scalar.subi c1_i32_863 v123
  let c0_i32_864 : BitVec 32 := 0#32
  ![v2511.toNat, 0]
def k0_off34 (v121 : BitVec 32) : Fin 3 → Nat :=
  let c1_i32_863 : BitVec 32 := 1#32
  let c1_i32_44 : BitVec 32 := 1#32
  let v123 : BitVec 32 := Scalar.andi v121 c1_i32_44
  let v2511 : BitVec 32 := Scalar.subi c1_i32_863 v123
  let c0_i32_865 : BitVec 32 := 0#32
  let c0_i32_866 : BitVec 32 := 0#32
  ![v2511.toNat, 0, 0]
def k0_off35 (v2510 : BitVec 32) : Fin 3 → Nat :=
  let c0_i32_867 : BitVec 32 := 0#32
  let c0_i32_868 : BitVec 32 := 0#32
  ![v2510.toNat, 0, 0]

def k0_off36 (v121 : BitVec 32) : Fin 2 → Nat :=
  let c1_i32_863 : BitVec 32 := 1#32
  let c1_i32_44 : BitVec 32 := 1#32
  let v123 : BitVec 32 := Scalar.andi v121 c1_i32_44
  let v2511 : BitVec 32 := Scalar.subi c1_i32_863 v123
  let c1_i32_869 : BitVec 32 := 1#32
  ![v2511.toNat, 1]
def k0_off37 (v121 : BitVec 32) : Fin 3 → Nat :=
  let c1_i32_863 : BitVec 32 := 1#32
  let c1_i32_44 : BitVec 32 := 1#32
  let v123 : BitVec 32 := Scalar.andi v121 c1_i32_44
  let v2511 : BitVec 32 := Scalar.subi c1_i32_863 v123
  let c0_i32_870 : BitVec 32 := 0#32
  let c0_i32_871 : BitVec 32 := 0#32
  ![v2511.toNat, 0, 0]
def k0_off38 (v2510 : BitVec 32) : Fin 3 → Nat :=
  let c0_i32_872 : BitVec 32 := 0#32
  let c0_i32_873 : BitVec 32 := 0#32
  ![v2510.toNat, 0, 0]
def k0_off39 (v121 : BitVec 32) : Fin 2 → Nat :=
  let c1_i32_863 : BitVec 32 := 1#32
  let c1_i32_44 : BitVec 32 := 1#32
  let v123 : BitVec 32 := Scalar.andi v121 c1_i32_44
  let v2511 : BitVec 32 := Scalar.subi c1_i32_863 v123
  let c2_i32 : BitVec 32 := 2#32
  ![v2511.toNat, 2]
def k0_off40 (v121 : BitVec 32) : Fin 3 → Nat :=
  let c1_i32_863 : BitVec 32 := 1#32
  let c1_i32_44 : BitVec 32 := 1#32
  let v123 : BitVec 32 := Scalar.andi v121 c1_i32_44
  let v2511 : BitVec 32 := Scalar.subi c1_i32_863 v123
  let c0_i32_874 : BitVec 32 := 0#32
  let c0_i32_875 : BitVec 32 := 0#32
  ![v2511.toNat, 0, 0]
def k0_off41 (v2510 : BitVec 32) : Fin 3 → Nat :=
  let c0_i32_876 : BitVec 32 := 0#32
  let c0_i32_877 : BitVec 32 := 0#32
  ![v2510.toNat, 0, 0]
def k0_off42 (v121 : BitVec 32) : Fin 2 → Nat :=
  let c1_i32_863 : BitVec 32 := 1#32
  let c1_i32_44 : BitVec 32 := 1#32
  let v123 : BitVec 32 := Scalar.andi v121 c1_i32_44
  let v2511 : BitVec 32 := Scalar.subi c1_i32_863 v123
  let c3_i32 : BitVec 32 := 3#32
  ![v2511.toNat, 3]
def k0_off43 (v121 : BitVec 32) : Fin 3 → Nat :=
  let c1_i32_863 : BitVec 32 := 1#32
  let c1_i32_44 : BitVec 32 := 1#32
  let v123 : BitVec 32 := Scalar.andi v121 c1_i32_44
  let v2511 : BitVec 32 := Scalar.subi c1_i32_863 v123
  let c0_i32_878 : BitVec 32 := 0#32
  let c0_i32_879 : BitVec 32 := 0#32
  ![v2511.toNat, 0, 0]
def k0_off44 (v2510 : BitVec 32) : Fin 3 → Nat :=
  let c0_i32_880 : BitVec 32 := 0#32
  let c0_i32_881 : BitVec 32 := 0#32
  ![v2510.toNat, 0, 0]

def k0_chk8 (v1_0 : BitVec 32) (k0_t2 : Fin (k0_t2_loop v1_0).trips) (v121 : BitVec 32) (v128 : BitVec 32) (v134 : BitVec 32) (v2510 : BitVec 32) : Prop :=
  (∀ (k0_h3 : k0_cond3 v1_0 k0_t2 v121 v128 v134 = 1#1), ∀ a, (k0_off35 v2510) a + S1x1024x2816.size a ≤ S60x1024x2816.size a) ∧
  (∀ (k0_h3 : k0_cond3 v1_0 k0_t2 v121 v128 v134 = 1#1), ∀ (hinb : ∀ a, (k0_off35 v2510) a + S1x1024x2816.size a ≤ S60x1024x2816.size a), (Rect.unit (s := S60x1024x2816) (k0_off35 v2510) S1x1024x2816.size hinb).WholeWords (EltTy.packing .i8)) ∧
  (∀ (k0_h3 : k0_cond3 v1_0 k0_t2 v121 v128 v134 = 1#1), ∀ a, (k0_off38 v2510) a + S1x16x2816.size a ≤ S60x16x2816.size a) ∧
  (∀ (k0_h3 : k0_cond3 v1_0 k0_t2 v121 v128 v134 = 1#1), ∀ (hinb : ∀ a, (k0_off38 v2510) a + S1x16x2816.size a ≤ S60x16x2816.size a), (Rect.unit (s := S60x16x2816) (k0_off38 v2510) S1x16x2816.size hinb).WholeWords (EltTy.packing .bf16)) ∧
  (∀ (k0_h3 : k0_cond3 v1_0 k0_t2 v121 v128 v134 = 1#1), ∀ a, (k0_off41 v2510) a + S1x704x2048.size a ≤ S60x704x2048.size a) ∧
  (∀ (k0_h3 : k0_cond3 v1_0 k0_t2 v121 v128 v134 = 1#1), ∀ (hinb : ∀ a, (k0_off41 v2510) a + S1x704x2048.size a ≤ S60x704x2048.size a), (Rect.unit (s := S60x704x2048) (k0_off41 v2510) S1x704x2048.size hinb).WholeWords (EltTy.packing .i8)) ∧
  (∀ (k0_h3 : k0_cond3 v1_0 k0_t2 v121 v128 v134 = 1#1), ∀ a, (k0_off44 v2510) a + S1x11x2048.size a ≤ S60x11x2048.size a) ∧
  (∀ (k0_h3 : k0_cond3 v1_0 k0_t2 v121 v128 v134 = 1#1), ∀ (hinb : ∀ a, (k0_off44 v2510) a + S1x11x2048.size a ≤ S60x11x2048.size a), (Rect.unit (s := S60x11x2048) (k0_off44 v2510) S1x11x2048.size hinb).WholeWords (EltTy.packing .bf16))
theorem k0_off35_inb : ∀ (v1_0 : BitVec 32) (k0_t2 : Fin (k0_t2_loop v1_0).trips) (v121 : BitVec 32) (v128 : BitVec 32) (v134 : BitVec 32) (v2510 : BitVec 32) (k0_hw8 : k0_chk8 v1_0 k0_t2 v121 v128 v134 v2510), ∀ (k0_h3 : k0_cond3 v1_0 k0_t2 v121 v128 v134 = 1#1), ∀ a, (k0_off35 v2510) a + S1x1024x2816.size a ≤ S60x1024x2816.size a := fun v1_0 k0_t2 v121 v128 v134 v2510 k0_hw8 k0_h3 => k0_hw8.1 k0_h3
theorem k0_off35_wordsi8 : ∀ (v1_0 : BitVec 32) (k0_t2 : Fin (k0_t2_loop v1_0).trips) (v121 : BitVec 32) (v128 : BitVec 32) (v134 : BitVec 32) (v2510 : BitVec 32) (k0_hw8 : k0_chk8 v1_0 k0_t2 v121 v128 v134 v2510), ∀ (k0_h3 : k0_cond3 v1_0 k0_t2 v121 v128 v134 = 1#1), (Rect.unit (s := S60x1024x2816) (k0_off35 v2510) S1x1024x2816.size (k0_off35_inb v1_0 k0_t2 v121 v128 v134 v2510 k0_hw8 k0_h3)).WholeWords (EltTy.packing .i8) := fun v1_0 k0_t2 v121 v128 v134 v2510 k0_hw8 k0_h3 => k0_hw8.2.1 k0_h3 (k0_off35_inb v1_0 k0_t2 v121 v128 v134 v2510 k0_hw8 k0_h3)
theorem k0_off38_inb : ∀ (v1_0 : BitVec 32) (k0_t2 : Fin (k0_t2_loop v1_0).trips) (v121 : BitVec 32) (v128 : BitVec 32) (v134 : BitVec 32) (v2510 : BitVec 32) (k0_hw8 : k0_chk8 v1_0 k0_t2 v121 v128 v134 v2510), ∀ (k0_h3 : k0_cond3 v1_0 k0_t2 v121 v128 v134 = 1#1), ∀ a, (k0_off38 v2510) a + S1x16x2816.size a ≤ S60x16x2816.size a := fun v1_0 k0_t2 v121 v128 v134 v2510 k0_hw8 k0_h3 => k0_hw8.2.2.1 k0_h3
theorem k0_off38_wordsbf16 : ∀ (v1_0 : BitVec 32) (k0_t2 : Fin (k0_t2_loop v1_0).trips) (v121 : BitVec 32) (v128 : BitVec 32) (v134 : BitVec 32) (v2510 : BitVec 32) (k0_hw8 : k0_chk8 v1_0 k0_t2 v121 v128 v134 v2510), ∀ (k0_h3 : k0_cond3 v1_0 k0_t2 v121 v128 v134 = 1#1), (Rect.unit (s := S60x16x2816) (k0_off38 v2510) S1x16x2816.size (k0_off38_inb v1_0 k0_t2 v121 v128 v134 v2510 k0_hw8 k0_h3)).WholeWords (EltTy.packing .bf16) := fun v1_0 k0_t2 v121 v128 v134 v2510 k0_hw8 k0_h3 => k0_hw8.2.2.2.1 k0_h3 (k0_off38_inb v1_0 k0_t2 v121 v128 v134 v2510 k0_hw8 k0_h3)
theorem k0_off41_inb : ∀ (v1_0 : BitVec 32) (k0_t2 : Fin (k0_t2_loop v1_0).trips) (v121 : BitVec 32) (v128 : BitVec 32) (v134 : BitVec 32) (v2510 : BitVec 32) (k0_hw8 : k0_chk8 v1_0 k0_t2 v121 v128 v134 v2510), ∀ (k0_h3 : k0_cond3 v1_0 k0_t2 v121 v128 v134 = 1#1), ∀ a, (k0_off41 v2510) a + S1x704x2048.size a ≤ S60x704x2048.size a := fun v1_0 k0_t2 v121 v128 v134 v2510 k0_hw8 k0_h3 => k0_hw8.2.2.2.2.1 k0_h3
theorem k0_off41_wordsi8 : ∀ (v1_0 : BitVec 32) (k0_t2 : Fin (k0_t2_loop v1_0).trips) (v121 : BitVec 32) (v128 : BitVec 32) (v134 : BitVec 32) (v2510 : BitVec 32) (k0_hw8 : k0_chk8 v1_0 k0_t2 v121 v128 v134 v2510), ∀ (k0_h3 : k0_cond3 v1_0 k0_t2 v121 v128 v134 = 1#1), (Rect.unit (s := S60x704x2048) (k0_off41 v2510) S1x704x2048.size (k0_off41_inb v1_0 k0_t2 v121 v128 v134 v2510 k0_hw8 k0_h3)).WholeWords (EltTy.packing .i8) := fun v1_0 k0_t2 v121 v128 v134 v2510 k0_hw8 k0_h3 => k0_hw8.2.2.2.2.2.1 k0_h3 (k0_off41_inb v1_0 k0_t2 v121 v128 v134 v2510 k0_hw8 k0_h3)
theorem k0_off44_inb : ∀ (v1_0 : BitVec 32) (k0_t2 : Fin (k0_t2_loop v1_0).trips) (v121 : BitVec 32) (v128 : BitVec 32) (v134 : BitVec 32) (v2510 : BitVec 32) (k0_hw8 : k0_chk8 v1_0 k0_t2 v121 v128 v134 v2510), ∀ (k0_h3 : k0_cond3 v1_0 k0_t2 v121 v128 v134 = 1#1), ∀ a, (k0_off44 v2510) a + S1x11x2048.size a ≤ S60x11x2048.size a := fun v1_0 k0_t2 v121 v128 v134 v2510 k0_hw8 k0_h3 => k0_hw8.2.2.2.2.2.2.1 k0_h3
theorem k0_off44_wordsbf16 : ∀ (v1_0 : BitVec 32) (k0_t2 : Fin (k0_t2_loop v1_0).trips) (v121 : BitVec 32) (v128 : BitVec 32) (v134 : BitVec 32) (v2510 : BitVec 32) (k0_hw8 : k0_chk8 v1_0 k0_t2 v121 v128 v134 v2510), ∀ (k0_h3 : k0_cond3 v1_0 k0_t2 v121 v128 v134 = 1#1), (Rect.unit (s := S60x11x2048) (k0_off44 v2510) S1x11x2048.size (k0_off44_inb v1_0 k0_t2 v121 v128 v134 v2510 k0_hw8 k0_h3)).WholeWords (EltTy.packing .bf16) := fun v1_0 k0_t2 v121 v128 v134 v2510 k0_hw8 k0_h3 => k0_hw8.2.2.2.2.2.2.2 k0_h3 (k0_off44_inb v1_0 k0_t2 v121 v128 v134 v2510 k0_hw8 k0_h3)

def k0_chk7 (v1_0 : BitVec 32) (k0_t2 : Fin (k0_t2_loop v1_0).trips) (v121 : BitVec 32) (v128 : BitVec 32) (v134 : BitVec 32) : Prop :=
  (∀ (k0_h3 : k0_cond3 v1_0 k0_t2 v121 v128 v134 = 1#1), ∀ a, (k0_off32 v134) a + S1x1.size a ≤ S5x128.size a) ∧
  (∀ (k0_h3 : k0_cond3 v1_0 k0_t2 v121 v128 v134 = 1#1), ∀ a, (k0_off33 v121) a + S1x1.size a ≤ S2x4.size a) ∧
  (∀ (k0_h3 : k0_cond3 v1_0 k0_t2 v121 v128 v134 = 1#1), ∀ a, (k0_off34 v121) a + S1x1024x2816.size a ≤ S2x1024x2816.size a) ∧
  (∀ (k0_h3 : k0_cond3 v1_0 k0_t2 v121 v128 v134 = 1#1), ∀ (hinb : ∀ a, (k0_off34 v121) a + S1x1024x2816.size a ≤ S2x1024x2816.size a), (Rect.unit (s := S2x1024x2816) (k0_off34 v121) S1x1024x2816.size hinb).WholeWords (EltTy.packing .i8)) ∧
  (∀ (k0_h3 : k0_cond3 v1_0 k0_t2 v121 v128 v134 = 1#1), ∀ a, (k0_off36 v121) a + S1x1.size a ≤ S2x4.size a) ∧
  (∀ (k0_h3 : k0_cond3 v1_0 k0_t2 v121 v128 v134 = 1#1), ∀ a, (k0_off37 v121) a + S1x16x2816.size a ≤ S2x16x2816.size a) ∧
  (∀ (k0_h3 : k0_cond3 v1_0 k0_t2 v121 v128 v134 = 1#1), ∀ (hinb : ∀ a, (k0_off37 v121) a + S1x16x2816.size a ≤ S2x16x2816.size a), (Rect.unit (s := S2x16x2816) (k0_off37 v121) S1x16x2816.size hinb).WholeWords (EltTy.packing .bf16)) ∧
  (∀ (k0_h3 : k0_cond3 v1_0 k0_t2 v121 v128 v134 = 1#1), ∀ a, (k0_off39 v121) a + S1x1.size a ≤ S2x4.size a) ∧
  (∀ (k0_h3 : k0_cond3 v1_0 k0_t2 v121 v128 v134 = 1#1), ∀ a, (k0_off40 v121) a + S1x704x2048.size a ≤ S2x704x2048.size a) ∧
  (∀ (k0_h3 : k0_cond3 v1_0 k0_t2 v121 v128 v134 = 1#1), ∀ (hinb : ∀ a, (k0_off40 v121) a + S1x704x2048.size a ≤ S2x704x2048.size a), (Rect.unit (s := S2x704x2048) (k0_off40 v121) S1x704x2048.size hinb).WholeWords (EltTy.packing .i8)) ∧
  (∀ (k0_h3 : k0_cond3 v1_0 k0_t2 v121 v128 v134 = 1#1), ∀ a, (k0_off42 v121) a + S1x1.size a ≤ S2x4.size a) ∧
  (∀ (k0_h3 : k0_cond3 v1_0 k0_t2 v121 v128 v134 = 1#1), ∀ a, (k0_off43 v121) a + S1x11x2048.size a ≤ S2x11x2048.size a) ∧
  (∀ (k0_h3 : k0_cond3 v1_0 k0_t2 v121 v128 v134 = 1#1), ∀ (hinb : ∀ a, (k0_off43 v121) a + S1x11x2048.size a ≤ S2x11x2048.size a), (Rect.unit (s := S2x11x2048) (k0_off43 v121) S1x11x2048.size hinb).WholeWords (EltTy.packing .bf16))
theorem k0_off32_inb : ∀ (v1_0 : BitVec 32) (k0_t2 : Fin (k0_t2_loop v1_0).trips) (v121 : BitVec 32) (v128 : BitVec 32) (v134 : BitVec 32) (k0_hw7 : k0_chk7 v1_0 k0_t2 v121 v128 v134), ∀ (k0_h3 : k0_cond3 v1_0 k0_t2 v121 v128 v134 = 1#1), ∀ a, (k0_off32 v134) a + S1x1.size a ≤ S5x128.size a := fun v1_0 k0_t2 v121 v128 v134 k0_hw7 k0_h3 => k0_hw7.1 k0_h3
theorem k0_off33_inb : ∀ (v1_0 : BitVec 32) (k0_t2 : Fin (k0_t2_loop v1_0).trips) (v121 : BitVec 32) (v128 : BitVec 32) (v134 : BitVec 32) (k0_hw7 : k0_chk7 v1_0 k0_t2 v121 v128 v134), ∀ (k0_h3 : k0_cond3 v1_0 k0_t2 v121 v128 v134 = 1#1), ∀ a, (k0_off33 v121) a + S1x1.size a ≤ S2x4.size a := fun v1_0 k0_t2 v121 v128 v134 k0_hw7 k0_h3 => k0_hw7.2.1 k0_h3
theorem k0_off34_inb : ∀ (v1_0 : BitVec 32) (k0_t2 : Fin (k0_t2_loop v1_0).trips) (v121 : BitVec 32) (v128 : BitVec 32) (v134 : BitVec 32) (k0_hw7 : k0_chk7 v1_0 k0_t2 v121 v128 v134), ∀ (k0_h3 : k0_cond3 v1_0 k0_t2 v121 v128 v134 = 1#1), ∀ a, (k0_off34 v121) a + S1x1024x2816.size a ≤ S2x1024x2816.size a := fun v1_0 k0_t2 v121 v128 v134 k0_hw7 k0_h3 => k0_hw7.2.2.1 k0_h3
theorem k0_off34_wordsi8 : ∀ (v1_0 : BitVec 32) (k0_t2 : Fin (k0_t2_loop v1_0).trips) (v121 : BitVec 32) (v128 : BitVec 32) (v134 : BitVec 32) (k0_hw7 : k0_chk7 v1_0 k0_t2 v121 v128 v134), ∀ (k0_h3 : k0_cond3 v1_0 k0_t2 v121 v128 v134 = 1#1), (Rect.unit (s := S2x1024x2816) (k0_off34 v121) S1x1024x2816.size (k0_off34_inb v1_0 k0_t2 v121 v128 v134 k0_hw7 k0_h3)).WholeWords (EltTy.packing .i8) := fun v1_0 k0_t2 v121 v128 v134 k0_hw7 k0_h3 => k0_hw7.2.2.2.1 k0_h3 (k0_off34_inb v1_0 k0_t2 v121 v128 v134 k0_hw7 k0_h3)
theorem k0_off36_inb : ∀ (v1_0 : BitVec 32) (k0_t2 : Fin (k0_t2_loop v1_0).trips) (v121 : BitVec 32) (v128 : BitVec 32) (v134 : BitVec 32) (k0_hw7 : k0_chk7 v1_0 k0_t2 v121 v128 v134), ∀ (k0_h3 : k0_cond3 v1_0 k0_t2 v121 v128 v134 = 1#1), ∀ a, (k0_off36 v121) a + S1x1.size a ≤ S2x4.size a := fun v1_0 k0_t2 v121 v128 v134 k0_hw7 k0_h3 => k0_hw7.2.2.2.2.1 k0_h3
theorem k0_off37_inb : ∀ (v1_0 : BitVec 32) (k0_t2 : Fin (k0_t2_loop v1_0).trips) (v121 : BitVec 32) (v128 : BitVec 32) (v134 : BitVec 32) (k0_hw7 : k0_chk7 v1_0 k0_t2 v121 v128 v134), ∀ (k0_h3 : k0_cond3 v1_0 k0_t2 v121 v128 v134 = 1#1), ∀ a, (k0_off37 v121) a + S1x16x2816.size a ≤ S2x16x2816.size a := fun v1_0 k0_t2 v121 v128 v134 k0_hw7 k0_h3 => k0_hw7.2.2.2.2.2.1 k0_h3
theorem k0_off37_wordsbf16 : ∀ (v1_0 : BitVec 32) (k0_t2 : Fin (k0_t2_loop v1_0).trips) (v121 : BitVec 32) (v128 : BitVec 32) (v134 : BitVec 32) (k0_hw7 : k0_chk7 v1_0 k0_t2 v121 v128 v134), ∀ (k0_h3 : k0_cond3 v1_0 k0_t2 v121 v128 v134 = 1#1), (Rect.unit (s := S2x16x2816) (k0_off37 v121) S1x16x2816.size (k0_off37_inb v1_0 k0_t2 v121 v128 v134 k0_hw7 k0_h3)).WholeWords (EltTy.packing .bf16) := fun v1_0 k0_t2 v121 v128 v134 k0_hw7 k0_h3 => k0_hw7.2.2.2.2.2.2.1 k0_h3 (k0_off37_inb v1_0 k0_t2 v121 v128 v134 k0_hw7 k0_h3)
theorem k0_off39_inb : ∀ (v1_0 : BitVec 32) (k0_t2 : Fin (k0_t2_loop v1_0).trips) (v121 : BitVec 32) (v128 : BitVec 32) (v134 : BitVec 32) (k0_hw7 : k0_chk7 v1_0 k0_t2 v121 v128 v134), ∀ (k0_h3 : k0_cond3 v1_0 k0_t2 v121 v128 v134 = 1#1), ∀ a, (k0_off39 v121) a + S1x1.size a ≤ S2x4.size a := fun v1_0 k0_t2 v121 v128 v134 k0_hw7 k0_h3 => k0_hw7.2.2.2.2.2.2.2.1 k0_h3
theorem k0_off40_inb : ∀ (v1_0 : BitVec 32) (k0_t2 : Fin (k0_t2_loop v1_0).trips) (v121 : BitVec 32) (v128 : BitVec 32) (v134 : BitVec 32) (k0_hw7 : k0_chk7 v1_0 k0_t2 v121 v128 v134), ∀ (k0_h3 : k0_cond3 v1_0 k0_t2 v121 v128 v134 = 1#1), ∀ a, (k0_off40 v121) a + S1x704x2048.size a ≤ S2x704x2048.size a := fun v1_0 k0_t2 v121 v128 v134 k0_hw7 k0_h3 => k0_hw7.2.2.2.2.2.2.2.2.1 k0_h3
theorem k0_off40_wordsi8 : ∀ (v1_0 : BitVec 32) (k0_t2 : Fin (k0_t2_loop v1_0).trips) (v121 : BitVec 32) (v128 : BitVec 32) (v134 : BitVec 32) (k0_hw7 : k0_chk7 v1_0 k0_t2 v121 v128 v134), ∀ (k0_h3 : k0_cond3 v1_0 k0_t2 v121 v128 v134 = 1#1), (Rect.unit (s := S2x704x2048) (k0_off40 v121) S1x704x2048.size (k0_off40_inb v1_0 k0_t2 v121 v128 v134 k0_hw7 k0_h3)).WholeWords (EltTy.packing .i8) := fun v1_0 k0_t2 v121 v128 v134 k0_hw7 k0_h3 => k0_hw7.2.2.2.2.2.2.2.2.2.1 k0_h3 (k0_off40_inb v1_0 k0_t2 v121 v128 v134 k0_hw7 k0_h3)
theorem k0_off42_inb : ∀ (v1_0 : BitVec 32) (k0_t2 : Fin (k0_t2_loop v1_0).trips) (v121 : BitVec 32) (v128 : BitVec 32) (v134 : BitVec 32) (k0_hw7 : k0_chk7 v1_0 k0_t2 v121 v128 v134), ∀ (k0_h3 : k0_cond3 v1_0 k0_t2 v121 v128 v134 = 1#1), ∀ a, (k0_off42 v121) a + S1x1.size a ≤ S2x4.size a := fun v1_0 k0_t2 v121 v128 v134 k0_hw7 k0_h3 => k0_hw7.2.2.2.2.2.2.2.2.2.2.1 k0_h3
theorem k0_off43_inb : ∀ (v1_0 : BitVec 32) (k0_t2 : Fin (k0_t2_loop v1_0).trips) (v121 : BitVec 32) (v128 : BitVec 32) (v134 : BitVec 32) (k0_hw7 : k0_chk7 v1_0 k0_t2 v121 v128 v134), ∀ (k0_h3 : k0_cond3 v1_0 k0_t2 v121 v128 v134 = 1#1), ∀ a, (k0_off43 v121) a + S1x11x2048.size a ≤ S2x11x2048.size a := fun v1_0 k0_t2 v121 v128 v134 k0_hw7 k0_h3 => k0_hw7.2.2.2.2.2.2.2.2.2.2.2.1 k0_h3
theorem k0_off43_wordsbf16 : ∀ (v1_0 : BitVec 32) (k0_t2 : Fin (k0_t2_loop v1_0).trips) (v121 : BitVec 32) (v128 : BitVec 32) (v134 : BitVec 32) (k0_hw7 : k0_chk7 v1_0 k0_t2 v121 v128 v134), ∀ (k0_h3 : k0_cond3 v1_0 k0_t2 v121 v128 v134 = 1#1), (Rect.unit (s := S2x11x2048) (k0_off43 v121) S1x11x2048.size (k0_off43_inb v1_0 k0_t2 v121 v128 v134 k0_hw7 k0_h3)).WholeWords (EltTy.packing .bf16) := fun v1_0 k0_t2 v121 v128 v134 k0_hw7 k0_h3 => k0_hw7.2.2.2.2.2.2.2.2.2.2.2.2 k0_h3 (k0_off43_inb v1_0 k0_t2 v121 v128 v134 k0_hw7 k0_h3)

def k0_off45 (v115 : BitVec 32) : Fin 2 → Nat :=
  let v122 : BitVec 32 := v115
  let v139 : Index := Scalar.indexCast v122
  let c0_52 : Index := 0#32
  ![v139.toNat, 0]
def k0_off46 (v121 : BitVec 32) : Fin 3 → Nat :=
  let c1_i32_44 : BitVec 32 := 1#32
  let v123 : BitVec 32 := Scalar.andi v121 c1_i32_44
  let v141 : Index := Scalar.indexCast v123
  let c0_53 : Index := 0#32
  let c0_54 : Index := 0#32
  ![v141.toNat, 0, 0]

def k0_off47 (v121 : BitVec 32) : Fin 3 → Nat :=
  let c1_i32_44 : BitVec 32 := 1#32
  let v123 : BitVec 32 := Scalar.andi v121 c1_i32_44
  let v162 : Index := Scalar.indexCast v123
  let c0_57 : Index := 0#32
  let c0_58 : Index := 0#32
  ![v162.toNat, 0, 0]
def k0_off48 (v121 : BitVec 32) : Fin 3 → Nat :=
  let c1_i32_44 : BitVec 32 := 1#32
  let v123 : BitVec 32 := Scalar.andi v121 c1_i32_44
  let v168 : Index := Scalar.indexCast v123
  let c1_59 : Index := 1#32
  let c0_60 : Index := 0#32
  ![v168.toNat, 1, 0]
def k0_off49 (v121 : BitVec 32) : Fin 3 → Nat :=
  let c1_i32_44 : BitVec 32 := 1#32
  let v123 : BitVec 32 := Scalar.andi v121 c1_i32_44
  let v174 : Index := Scalar.indexCast v123
  let c2_61 : Index := 2#32
  let c0_62 : Index := 0#32
  ![v174.toNat, 2, 0]
def k0_off50 (v121 : BitVec 32) : Fin 3 → Nat :=
  let c1_i32_44 : BitVec 32 := 1#32
  let v123 : BitVec 32 := Scalar.andi v121 c1_i32_44
  let v180 : Index := Scalar.indexCast v123
  let c3_63 : Index := 3#32
  let c0_64 : Index := 0#32
  ![v180.toNat, 3, 0]
def k0_off51 (v121 : BitVec 32) : Fin 3 → Nat :=
  let c1_i32_44 : BitVec 32 := 1#32
  let v123 : BitVec 32 := Scalar.andi v121 c1_i32_44
  let v186 : Index := Scalar.indexCast v123
  let c4_65 : Index := 4#32
  let c0_66 : Index := 0#32
  ![v186.toNat, 4, 0]
def k0_off52 (v121 : BitVec 32) : Fin 3 → Nat :=
  let c1_i32_44 : BitVec 32 := 1#32
  let v123 : BitVec 32 := Scalar.andi v121 c1_i32_44
  let v192 : Index := Scalar.indexCast v123
  let c5_67 : Index := 5#32
  let c0_68 : Index := 0#32
  ![v192.toNat, 5, 0]
def k0_off53 (v121 : BitVec 32) : Fin 3 → Nat :=
  let c1_i32_44 : BitVec 32 := 1#32
  let v123 : BitVec 32 := Scalar.andi v121 c1_i32_44
  let v198 : Index := Scalar.indexCast v123
  let c6_69 : Index := 6#32
  let c0_70 : Index := 0#32
  ![v198.toNat, 6, 0]
def k0_off54 (v121 : BitVec 32) : Fin 3 → Nat :=
  let c1_i32_44 : BitVec 32 := 1#32
  let v123 : BitVec 32 := Scalar.andi v121 c1_i32_44
  let v204 : Index := Scalar.indexCast v123
  let c7_71 : Index := 7#32
  let c0_72 : Index := 0#32
  ![v204.toNat, 7, 0]
def k0_off55 (v121 : BitVec 32) : Fin 3 → Nat :=
  let c1_i32_44 : BitVec 32 := 1#32
  let v123 : BitVec 32 := Scalar.andi v121 c1_i32_44
  let v210 : Index := Scalar.indexCast v123
  let c8_73 : Index := 8#32
  let c0_74 : Index := 0#32
  ![v210.toNat, 8, 0]
def k0_off56 (v121 : BitVec 32) : Fin 3 → Nat :=
  let c1_i32_44 : BitVec 32 := 1#32
  let v123 : BitVec 32 := Scalar.andi v121 c1_i32_44
  let v216 : Index := Scalar.indexCast v123
  let c9_75 : Index := 9#32
  let c0_76 : Index := 0#32
  ![v216.toNat, 9, 0]
def k0_off57 (v121 : BitVec 32) : Fin 3 → Nat :=
  let c1_i32_44 : BitVec 32 := 1#32
  let v123 : BitVec 32 := Scalar.andi v121 c1_i32_44
  let v222 : Index := Scalar.indexCast v123
  let c10_77 : Index := 10#32
  let c0_78 : Index := 0#32
  ![v222.toNat, 10, 0]
def k0_off58 (v121 : BitVec 32) : Fin 3 → Nat :=
  let c1_i32_44 : BitVec 32 := 1#32
  let v123 : BitVec 32 := Scalar.andi v121 c1_i32_44
  let v228 : Index := Scalar.indexCast v123
  let c11_79 : Index := 11#32
  let c0_80 : Index := 0#32
  ![v228.toNat, 11, 0]
def k0_off59 (v121 : BitVec 32) : Fin 3 → Nat :=
  let c1_i32_44 : BitVec 32 := 1#32
  let v123 : BitVec 32 := Scalar.andi v121 c1_i32_44
  let v234 : Index := Scalar.indexCast v123
  let c12 : Index := 12#32
  let c0_81 : Index := 0#32
  ![v234.toNat, 12, 0]
def k0_off60 (v121 : BitVec 32) : Fin 3 → Nat :=
  let c1_i32_44 : BitVec 32 := 1#32
  let v123 : BitVec 32 := Scalar.andi v121 c1_i32_44
  let v240 : Index := Scalar.indexCast v123
  let c13 : Index := 13#32
  let c0_82 : Index := 0#32
  ![v240.toNat, 13, 0]
def k0_off61 (v121 : BitVec 32) : Fin 3 → Nat :=
  let c1_i32_44 : BitVec 32 := 1#32
  let v123 : BitVec 32 := Scalar.andi v121 c1_i32_44
  let v246 : Index := Scalar.indexCast v123
  let c14 : Index := 14#32
  let c0_83 : Index := 0#32
  ![v246.toNat, 14, 0]
def k0_off62 (v121 : BitVec 32) : Fin 3 → Nat :=
  let c1_i32_44 : BitVec 32 := 1#32
  let v123 : BitVec 32 := Scalar.andi v121 c1_i32_44
  let v252 : Index := Scalar.indexCast v123
  let c15 : Index := 15#32
  let c0_84 : Index := 0#32
  ![v252.toNat, 15, 0]
def k0_off63 (v121 : BitVec 32) : Fin 3 → Nat :=
  let c1_i32_44 : BitVec 32 := 1#32
  let v123 : BitVec 32 := Scalar.andi v121 c1_i32_44
  let v263 : Index := Scalar.indexCast v123
  let c0_88 : Index := 0#32
  let c256_89 : Index := 256#32
  ![v263.toNat, 0, 256]
def k0_off64 (v121 : BitVec 32) : Fin 3 → Nat :=
  let c1_i32_44 : BitVec 32 := 1#32
  let v123 : BitVec 32 := Scalar.andi v121 c1_i32_44
  let v284 : Index := Scalar.indexCast v123
  let c0_95 : Index := 0#32
  let c256_96 : Index := 256#32
  ![v284.toNat, 0, 256]
def k0_off65 (v121 : BitVec 32) : Fin 3 → Nat :=
  let c1_i32_44 : BitVec 32 := 1#32
  let v123 : BitVec 32 := Scalar.andi v121 c1_i32_44
  let v290 : Index := Scalar.indexCast v123
  let c1_97 : Index := 1#32
  let c256_98 : Index := 256#32
  ![v290.toNat, 1, 256]
def k0_off66 (v121 : BitVec 32) : Fin 3 → Nat :=
  let c1_i32_44 : BitVec 32 := 1#32
  let v123 : BitVec 32 := Scalar.andi v121 c1_i32_44
  let v296 : Index := Scalar.indexCast v123
  let c2_99 : Index := 2#32
  let c256_100 : Index := 256#32
  ![v296.toNat, 2, 256]
def k0_off67 (v121 : BitVec 32) : Fin 3 → Nat :=
  let c1_i32_44 : BitVec 32 := 1#32
  let v123 : BitVec 32 := Scalar.andi v121 c1_i32_44
  let v302 : Index := Scalar.indexCast v123
  let c3_101 : Index := 3#32
  let c256_102 : Index := 256#32
  ![v302.toNat, 3, 256]
def k0_off68 (v121 : BitVec 32) : Fin 3 → Nat :=
  let c1_i32_44 : BitVec 32 := 1#32
  let v123 : BitVec 32 := Scalar.andi v121 c1_i32_44
  let v308 : Index := Scalar.indexCast v123
  let c4_103 : Index := 4#32
  let c256_104 : Index := 256#32
  ![v308.toNat, 4, 256]
def k0_off69 (v121 : BitVec 32) : Fin 3 → Nat :=
  let c1_i32_44 : BitVec 32 := 1#32
  let v123 : BitVec 32 := Scalar.andi v121 c1_i32_44
  let v314 : Index := Scalar.indexCast v123
  let c5_105 : Index := 5#32
  let c256_106 : Index := 256#32
  ![v314.toNat, 5, 256]
def k0_off70 (v121 : BitVec 32) : Fin 3 → Nat :=
  let c1_i32_44 : BitVec 32 := 1#32
  let v123 : BitVec 32 := Scalar.andi v121 c1_i32_44
  let v320 : Index := Scalar.indexCast v123
  let c6_107 : Index := 6#32
  let c256_108 : Index := 256#32
  ![v320.toNat, 6, 256]
def k0_off71 (v121 : BitVec 32) : Fin 3 → Nat :=
  let c1_i32_44 : BitVec 32 := 1#32
  let v123 : BitVec 32 := Scalar.andi v121 c1_i32_44
  let v326 : Index := Scalar.indexCast v123
  let c7_109 : Index := 7#32
  let c256_110 : Index := 256#32
  ![v326.toNat, 7, 256]
def k0_off72 (v121 : BitVec 32) : Fin 3 → Nat :=
  let c1_i32_44 : BitVec 32 := 1#32
  let v123 : BitVec 32 := Scalar.andi v121 c1_i32_44
  let v332 : Index := Scalar.indexCast v123
  let c8_111 : Index := 8#32
  let c256_112 : Index := 256#32
  ![v332.toNat, 8, 256]
def k0_off73 (v121 : BitVec 32) : Fin 3 → Nat :=
  let c1_i32_44 : BitVec 32 := 1#32
  let v123 : BitVec 32 := Scalar.andi v121 c1_i32_44
  let v338 : Index := Scalar.indexCast v123
  let c9_113 : Index := 9#32
  let c256_114 : Index := 256#32
  ![v338.toNat, 9, 256]
def k0_off74 (v121 : BitVec 32) : Fin 3 → Nat :=
  let c1_i32_44 : BitVec 32 := 1#32
  let v123 : BitVec 32 := Scalar.andi v121 c1_i32_44
  let v344 : Index := Scalar.indexCast v123
  let c10_115 : Index := 10#32
  let c256_116 : Index := 256#32
  ![v344.toNat, 10, 256]
def k0_off75 (v121 : BitVec 32) : Fin 3 → Nat :=
  let c1_i32_44 : BitVec 32 := 1#32
  let v123 : BitVec 32 := Scalar.andi v121 c1_i32_44
  let v350 : Index := Scalar.indexCast v123
  let c11_117 : Index := 11#32
  let c256_118 : Index := 256#32
  ![v350.toNat, 11, 256]
def k0_off76 (v121 : BitVec 32) : Fin 3 → Nat :=
  let c1_i32_44 : BitVec 32 := 1#32
  let v123 : BitVec 32 := Scalar.andi v121 c1_i32_44
  let v356 : Index := Scalar.indexCast v123
  let c12_119 : Index := 12#32
  let c256_120 : Index := 256#32
  ![v356.toNat, 12, 256]
def k0_off77 (v121 : BitVec 32) : Fin 3 → Nat :=
  let c1_i32_44 : BitVec 32 := 1#32
  let v123 : BitVec 32 := Scalar.andi v121 c1_i32_44
  let v362 : Index := Scalar.indexCast v123
  let c13_121 : Index := 13#32
  let c256_122 : Index := 256#32
  ![v362.toNat, 13, 256]
def k0_off78 (v121 : BitVec 32) : Fin 3 → Nat :=
  let c1_i32_44 : BitVec 32 := 1#32
  let v123 : BitVec 32 := Scalar.andi v121 c1_i32_44
  let v368 : Index := Scalar.indexCast v123
  let c14_123 : Index := 14#32
  let c256_124 : Index := 256#32
  ![v368.toNat, 14, 256]
def k0_off79 (v121 : BitVec 32) : Fin 3 → Nat :=
  let c1_i32_44 : BitVec 32 := 1#32
  let v123 : BitVec 32 := Scalar.andi v121 c1_i32_44
  let v374 : Index := Scalar.indexCast v123
  let c15_125 : Index := 15#32
  let c256_126 : Index := 256#32
  ![v374.toNat, 15, 256]
def k0_off80 (v121 : BitVec 32) : Fin 3 → Nat :=
  let c1_i32_44 : BitVec 32 := 1#32
  let v123 : BitVec 32 := Scalar.andi v121 c1_i32_44
  let v385 : Index := Scalar.indexCast v123
  let c0_130 : Index := 0#32
  let c512_131 : Index := 512#32
  ![v385.toNat, 0, 512]
def k0_off81 (v121 : BitVec 32) : Fin 3 → Nat :=
  let c1_i32_44 : BitVec 32 := 1#32
  let v123 : BitVec 32 := Scalar.andi v121 c1_i32_44
  let v406 : Index := Scalar.indexCast v123
  let c0_137 : Index := 0#32
  let c512_138 : Index := 512#32
  ![v406.toNat, 0, 512]
def k0_off82 (v121 : BitVec 32) : Fin 3 → Nat :=
  let c1_i32_44 : BitVec 32 := 1#32
  let v123 : BitVec 32 := Scalar.andi v121 c1_i32_44
  let v412 : Index := Scalar.indexCast v123
  let c1_139 : Index := 1#32
  let c512_140 : Index := 512#32
  ![v412.toNat, 1, 512]
def k0_off83 (v121 : BitVec 32) : Fin 3 → Nat :=
  let c1_i32_44 : BitVec 32 := 1#32
  let v123 : BitVec 32 := Scalar.andi v121 c1_i32_44
  let v418 : Index := Scalar.indexCast v123
  let c2_141 : Index := 2#32
  let c512_142 : Index := 512#32
  ![v418.toNat, 2, 512]
def k0_off84 (v121 : BitVec 32) : Fin 3 → Nat :=
  let c1_i32_44 : BitVec 32 := 1#32
  let v123 : BitVec 32 := Scalar.andi v121 c1_i32_44
  let v424 : Index := Scalar.indexCast v123
  let c3_143 : Index := 3#32
  let c512_144 : Index := 512#32
  ![v424.toNat, 3, 512]
def k0_off85 (v121 : BitVec 32) : Fin 3 → Nat :=
  let c1_i32_44 : BitVec 32 := 1#32
  let v123 : BitVec 32 := Scalar.andi v121 c1_i32_44
  let v430 : Index := Scalar.indexCast v123
  let c4_145 : Index := 4#32
  let c512_146 : Index := 512#32
  ![v430.toNat, 4, 512]
def k0_off86 (v121 : BitVec 32) : Fin 3 → Nat :=
  let c1_i32_44 : BitVec 32 := 1#32
  let v123 : BitVec 32 := Scalar.andi v121 c1_i32_44
  let v436 : Index := Scalar.indexCast v123
  let c5_147 : Index := 5#32
  let c512_148 : Index := 512#32
  ![v436.toNat, 5, 512]
def k0_off87 (v121 : BitVec 32) : Fin 3 → Nat :=
  let c1_i32_44 : BitVec 32 := 1#32
  let v123 : BitVec 32 := Scalar.andi v121 c1_i32_44
  let v442 : Index := Scalar.indexCast v123
  let c6_149 : Index := 6#32
  let c512_150 : Index := 512#32
  ![v442.toNat, 6, 512]
def k0_off88 (v121 : BitVec 32) : Fin 3 → Nat :=
  let c1_i32_44 : BitVec 32 := 1#32
  let v123 : BitVec 32 := Scalar.andi v121 c1_i32_44
  let v448 : Index := Scalar.indexCast v123
  let c7_151 : Index := 7#32
  let c512_152 : Index := 512#32
  ![v448.toNat, 7, 512]
def k0_off89 (v121 : BitVec 32) : Fin 3 → Nat :=
  let c1_i32_44 : BitVec 32 := 1#32
  let v123 : BitVec 32 := Scalar.andi v121 c1_i32_44
  let v454 : Index := Scalar.indexCast v123
  let c8_153 : Index := 8#32
  let c512_154 : Index := 512#32
  ![v454.toNat, 8, 512]
def k0_off90 (v121 : BitVec 32) : Fin 3 → Nat :=
  let c1_i32_44 : BitVec 32 := 1#32
  let v123 : BitVec 32 := Scalar.andi v121 c1_i32_44
  let v460 : Index := Scalar.indexCast v123
  let c9_155 : Index := 9#32
  let c512_156 : Index := 512#32
  ![v460.toNat, 9, 512]
def k0_off91 (v121 : BitVec 32) : Fin 3 → Nat :=
  let c1_i32_44 : BitVec 32 := 1#32
  let v123 : BitVec 32 := Scalar.andi v121 c1_i32_44
  let v466 : Index := Scalar.indexCast v123
  let c10_157 : Index := 10#32
  let c512_158 : Index := 512#32
  ![v466.toNat, 10, 512]
def k0_off92 (v121 : BitVec 32) : Fin 3 → Nat :=
  let c1_i32_44 : BitVec 32 := 1#32
  let v123 : BitVec 32 := Scalar.andi v121 c1_i32_44
  let v472 : Index := Scalar.indexCast v123
  let c11_159 : Index := 11#32
  let c512_160 : Index := 512#32
  ![v472.toNat, 11, 512]
def k0_off93 (v121 : BitVec 32) : Fin 3 → Nat :=
  let c1_i32_44 : BitVec 32 := 1#32
  let v123 : BitVec 32 := Scalar.andi v121 c1_i32_44
  let v478 : Index := Scalar.indexCast v123
  let c12_161 : Index := 12#32
  let c512_162 : Index := 512#32
  ![v478.toNat, 12, 512]
def k0_off94 (v121 : BitVec 32) : Fin 3 → Nat :=
  let c1_i32_44 : BitVec 32 := 1#32
  let v123 : BitVec 32 := Scalar.andi v121 c1_i32_44
  let v484 : Index := Scalar.indexCast v123
  let c13_163 : Index := 13#32
  let c512_164 : Index := 512#32
  ![v484.toNat, 13, 512]
def k0_off95 (v121 : BitVec 32) : Fin 3 → Nat :=
  let c1_i32_44 : BitVec 32 := 1#32
  let v123 : BitVec 32 := Scalar.andi v121 c1_i32_44
  let v490 : Index := Scalar.indexCast v123
  let c14_165 : Index := 14#32
  let c512_166 : Index := 512#32
  ![v490.toNat, 14, 512]
def k0_off96 (v121 : BitVec 32) : Fin 3 → Nat :=
  let c1_i32_44 : BitVec 32 := 1#32
  let v123 : BitVec 32 := Scalar.andi v121 c1_i32_44
  let v496 : Index := Scalar.indexCast v123
  let c15_167 : Index := 15#32
  let c512_168 : Index := 512#32
  ![v496.toNat, 15, 512]
def k0_off97 (v121 : BitVec 32) : Fin 3 → Nat :=
  let c1_i32_44 : BitVec 32 := 1#32
  let v123 : BitVec 32 := Scalar.andi v121 c1_i32_44
  let v507 : Index := Scalar.indexCast v123
  let c0_172 : Index := 0#32
  let c768_173 : Index := 768#32
  ![v507.toNat, 0, 768]
def k0_off98 (v121 : BitVec 32) : Fin 3 → Nat :=
  let c1_i32_44 : BitVec 32 := 1#32
  let v123 : BitVec 32 := Scalar.andi v121 c1_i32_44
  let v528 : Index := Scalar.indexCast v123
  let c0_179 : Index := 0#32
  let c768_180 : Index := 768#32
  ![v528.toNat, 0, 768]
def k0_off99 (v121 : BitVec 32) : Fin 3 → Nat :=
  let c1_i32_44 : BitVec 32 := 1#32
  let v123 : BitVec 32 := Scalar.andi v121 c1_i32_44
  let v534 : Index := Scalar.indexCast v123
  let c1_181 : Index := 1#32
  let c768_182 : Index := 768#32
  ![v534.toNat, 1, 768]
def k0_off100 (v121 : BitVec 32) : Fin 3 → Nat :=
  let c1_i32_44 : BitVec 32 := 1#32
  let v123 : BitVec 32 := Scalar.andi v121 c1_i32_44
  let v540 : Index := Scalar.indexCast v123
  let c2_183 : Index := 2#32
  let c768_184 : Index := 768#32
  ![v540.toNat, 2, 768]
def k0_off101 (v121 : BitVec 32) : Fin 3 → Nat :=
  let c1_i32_44 : BitVec 32 := 1#32
  let v123 : BitVec 32 := Scalar.andi v121 c1_i32_44
  let v546 : Index := Scalar.indexCast v123
  let c3_185 : Index := 3#32
  let c768_186 : Index := 768#32
  ![v546.toNat, 3, 768]
def k0_off102 (v121 : BitVec 32) : Fin 3 → Nat :=
  let c1_i32_44 : BitVec 32 := 1#32
  let v123 : BitVec 32 := Scalar.andi v121 c1_i32_44
  let v552 : Index := Scalar.indexCast v123
  let c4_187 : Index := 4#32
  let c768_188 : Index := 768#32
  ![v552.toNat, 4, 768]
def k0_off103 (v121 : BitVec 32) : Fin 3 → Nat :=
  let c1_i32_44 : BitVec 32 := 1#32
  let v123 : BitVec 32 := Scalar.andi v121 c1_i32_44
  let v558 : Index := Scalar.indexCast v123
  let c5_189 : Index := 5#32
  let c768_190 : Index := 768#32
  ![v558.toNat, 5, 768]
def k0_off104 (v121 : BitVec 32) : Fin 3 → Nat :=
  let c1_i32_44 : BitVec 32 := 1#32
  let v123 : BitVec 32 := Scalar.andi v121 c1_i32_44
  let v564 : Index := Scalar.indexCast v123
  let c6_191 : Index := 6#32
  let c768_192 : Index := 768#32
  ![v564.toNat, 6, 768]
def k0_off105 (v121 : BitVec 32) : Fin 3 → Nat :=
  let c1_i32_44 : BitVec 32 := 1#32
  let v123 : BitVec 32 := Scalar.andi v121 c1_i32_44
  let v570 : Index := Scalar.indexCast v123
  let c7_193 : Index := 7#32
  let c768_194 : Index := 768#32
  ![v570.toNat, 7, 768]
def k0_off106 (v121 : BitVec 32) : Fin 3 → Nat :=
  let c1_i32_44 : BitVec 32 := 1#32
  let v123 : BitVec 32 := Scalar.andi v121 c1_i32_44
  let v576 : Index := Scalar.indexCast v123
  let c8_195 : Index := 8#32
  let c768_196 : Index := 768#32
  ![v576.toNat, 8, 768]
def k0_off107 (v121 : BitVec 32) : Fin 3 → Nat :=
  let c1_i32_44 : BitVec 32 := 1#32
  let v123 : BitVec 32 := Scalar.andi v121 c1_i32_44
  let v582 : Index := Scalar.indexCast v123
  let c9_197 : Index := 9#32
  let c768_198 : Index := 768#32
  ![v582.toNat, 9, 768]
def k0_off108 (v121 : BitVec 32) : Fin 3 → Nat :=
  let c1_i32_44 : BitVec 32 := 1#32
  let v123 : BitVec 32 := Scalar.andi v121 c1_i32_44
  let v588 : Index := Scalar.indexCast v123
  let c10_199 : Index := 10#32
  let c768_200 : Index := 768#32
  ![v588.toNat, 10, 768]
def k0_off109 (v121 : BitVec 32) : Fin 3 → Nat :=
  let c1_i32_44 : BitVec 32 := 1#32
  let v123 : BitVec 32 := Scalar.andi v121 c1_i32_44
  let v594 : Index := Scalar.indexCast v123
  let c11_201 : Index := 11#32
  let c768_202 : Index := 768#32
  ![v594.toNat, 11, 768]
def k0_off110 (v121 : BitVec 32) : Fin 3 → Nat :=
  let c1_i32_44 : BitVec 32 := 1#32
  let v123 : BitVec 32 := Scalar.andi v121 c1_i32_44
  let v600 : Index := Scalar.indexCast v123
  let c12_203 : Index := 12#32
  let c768_204 : Index := 768#32
  ![v600.toNat, 12, 768]
def k0_off111 (v121 : BitVec 32) : Fin 3 → Nat :=
  let c1_i32_44 : BitVec 32 := 1#32
  let v123 : BitVec 32 := Scalar.andi v121 c1_i32_44
  let v606 : Index := Scalar.indexCast v123
  let c13_205 : Index := 13#32
  let c768_206 : Index := 768#32
  ![v606.toNat, 13, 768]
def k0_off112 (v121 : BitVec 32) : Fin 3 → Nat :=
  let c1_i32_44 : BitVec 32 := 1#32
  let v123 : BitVec 32 := Scalar.andi v121 c1_i32_44
  let v612 : Index := Scalar.indexCast v123
  let c14_207 : Index := 14#32
  let c768_208 : Index := 768#32
  ![v612.toNat, 14, 768]
def k0_off113 (v121 : BitVec 32) : Fin 3 → Nat :=
  let c1_i32_44 : BitVec 32 := 1#32
  let v123 : BitVec 32 := Scalar.andi v121 c1_i32_44
  let v618 : Index := Scalar.indexCast v123
  let c15_209 : Index := 15#32
  let c768_210 : Index := 768#32
  ![v618.toNat, 15, 768]
def k0_off114 (v121 : BitVec 32) : Fin 3 → Nat :=
  let c1_i32_44 : BitVec 32 := 1#32
  let v123 : BitVec 32 := Scalar.andi v121 c1_i32_44
  let v629 : Index := Scalar.indexCast v123
  let c0_214 : Index := 0#32
  let c1024_215 : Index := 1024#32
  ![v629.toNat, 0, 1024]
def k0_off115 (v121 : BitVec 32) : Fin 3 → Nat :=
  let c1_i32_44 : BitVec 32 := 1#32
  let v123 : BitVec 32 := Scalar.andi v121 c1_i32_44
  let v650 : Index := Scalar.indexCast v123
  let c0_221 : Index := 0#32
  let c1024_222 : Index := 1024#32
  ![v650.toNat, 0, 1024]
def k0_off116 (v121 : BitVec 32) : Fin 3 → Nat :=
  let c1_i32_44 : BitVec 32 := 1#32
  let v123 : BitVec 32 := Scalar.andi v121 c1_i32_44
  let v656 : Index := Scalar.indexCast v123
  let c1_223 : Index := 1#32
  let c1024_224 : Index := 1024#32
  ![v656.toNat, 1, 1024]
def k0_off117 (v121 : BitVec 32) : Fin 3 → Nat :=
  let c1_i32_44 : BitVec 32 := 1#32
  let v123 : BitVec 32 := Scalar.andi v121 c1_i32_44
  let v662 : Index := Scalar.indexCast v123
  let c2_225 : Index := 2#32
  let c1024_226 : Index := 1024#32
  ![v662.toNat, 2, 1024]
def k0_off118 (v121 : BitVec 32) : Fin 3 → Nat :=
  let c1_i32_44 : BitVec 32 := 1#32
  let v123 : BitVec 32 := Scalar.andi v121 c1_i32_44
  let v668 : Index := Scalar.indexCast v123
  let c3_227 : Index := 3#32
  let c1024_228 : Index := 1024#32
  ![v668.toNat, 3, 1024]
def k0_off119 (v121 : BitVec 32) : Fin 3 → Nat :=
  let c1_i32_44 : BitVec 32 := 1#32
  let v123 : BitVec 32 := Scalar.andi v121 c1_i32_44
  let v674 : Index := Scalar.indexCast v123
  let c4_229 : Index := 4#32
  let c1024_230 : Index := 1024#32
  ![v674.toNat, 4, 1024]
def k0_off120 (v121 : BitVec 32) : Fin 3 → Nat :=
  let c1_i32_44 : BitVec 32 := 1#32
  let v123 : BitVec 32 := Scalar.andi v121 c1_i32_44
  let v680 : Index := Scalar.indexCast v123
  let c5_231 : Index := 5#32
  let c1024_232 : Index := 1024#32
  ![v680.toNat, 5, 1024]
def k0_off121 (v121 : BitVec 32) : Fin 3 → Nat :=
  let c1_i32_44 : BitVec 32 := 1#32
  let v123 : BitVec 32 := Scalar.andi v121 c1_i32_44
  let v686 : Index := Scalar.indexCast v123
  let c6_233 : Index := 6#32
  let c1024_234 : Index := 1024#32
  ![v686.toNat, 6, 1024]
def k0_off122 (v121 : BitVec 32) : Fin 3 → Nat :=
  let c1_i32_44 : BitVec 32 := 1#32
  let v123 : BitVec 32 := Scalar.andi v121 c1_i32_44
  let v692 : Index := Scalar.indexCast v123
  let c7_235 : Index := 7#32
  let c1024_236 : Index := 1024#32
  ![v692.toNat, 7, 1024]
def k0_off123 (v121 : BitVec 32) : Fin 3 → Nat :=
  let c1_i32_44 : BitVec 32 := 1#32
  let v123 : BitVec 32 := Scalar.andi v121 c1_i32_44
  let v698 : Index := Scalar.indexCast v123
  let c8_237 : Index := 8#32
  let c1024_238 : Index := 1024#32
  ![v698.toNat, 8, 1024]
def k0_off124 (v121 : BitVec 32) : Fin 3 → Nat :=
  let c1_i32_44 : BitVec 32 := 1#32
  let v123 : BitVec 32 := Scalar.andi v121 c1_i32_44
  let v704 : Index := Scalar.indexCast v123
  let c9_239 : Index := 9#32
  let c1024_240 : Index := 1024#32
  ![v704.toNat, 9, 1024]
def k0_off125 (v121 : BitVec 32) : Fin 3 → Nat :=
  let c1_i32_44 : BitVec 32 := 1#32
  let v123 : BitVec 32 := Scalar.andi v121 c1_i32_44
  let v710 : Index := Scalar.indexCast v123
  let c10_241 : Index := 10#32
  let c1024_242 : Index := 1024#32
  ![v710.toNat, 10, 1024]
def k0_off126 (v121 : BitVec 32) : Fin 3 → Nat :=
  let c1_i32_44 : BitVec 32 := 1#32
  let v123 : BitVec 32 := Scalar.andi v121 c1_i32_44
  let v716 : Index := Scalar.indexCast v123
  let c11_243 : Index := 11#32
  let c1024_244 : Index := 1024#32
  ![v716.toNat, 11, 1024]
def k0_off127 (v121 : BitVec 32) : Fin 3 → Nat :=
  let c1_i32_44 : BitVec 32 := 1#32
  let v123 : BitVec 32 := Scalar.andi v121 c1_i32_44
  let v722 : Index := Scalar.indexCast v123
  let c12_245 : Index := 12#32
  let c1024_246 : Index := 1024#32
  ![v722.toNat, 12, 1024]
def k0_off128 (v121 : BitVec 32) : Fin 3 → Nat :=
  let c1_i32_44 : BitVec 32 := 1#32
  let v123 : BitVec 32 := Scalar.andi v121 c1_i32_44
  let v728 : Index := Scalar.indexCast v123
  let c13_247 : Index := 13#32
  let c1024_248 : Index := 1024#32
  ![v728.toNat, 13, 1024]
def k0_off129 (v121 : BitVec 32) : Fin 3 → Nat :=
  let c1_i32_44 : BitVec 32 := 1#32
  let v123 : BitVec 32 := Scalar.andi v121 c1_i32_44
  let v734 : Index := Scalar.indexCast v123
  let c14_249 : Index := 14#32
  let c1024_250 : Index := 1024#32
  ![v734.toNat, 14, 1024]
def k0_off130 (v121 : BitVec 32) : Fin 3 → Nat :=
  let c1_i32_44 : BitVec 32 := 1#32
  let v123 : BitVec 32 := Scalar.andi v121 c1_i32_44
  let v740 : Index := Scalar.indexCast v123
  let c15_251 : Index := 15#32
  let c1024_252 : Index := 1024#32
  ![v740.toNat, 15, 1024]
def k0_off131 (v121 : BitVec 32) : Fin 3 → Nat :=
  let c1_i32_44 : BitVec 32 := 1#32
  let v123 : BitVec 32 := Scalar.andi v121 c1_i32_44
  let v751 : Index := Scalar.indexCast v123
  let c0_256 : Index := 0#32
  let c1280_257 : Index := 1280#32
  ![v751.toNat, 0, 1280]
def k0_off132 (v121 : BitVec 32) : Fin 3 → Nat :=
  let c1_i32_44 : BitVec 32 := 1#32
  let v123 : BitVec 32 := Scalar.andi v121 c1_i32_44
  let v772 : Index := Scalar.indexCast v123
  let c0_263 : Index := 0#32
  let c1280_264 : Index := 1280#32
  ![v772.toNat, 0, 1280]
def k0_off133 (v121 : BitVec 32) : Fin 3 → Nat :=
  let c1_i32_44 : BitVec 32 := 1#32
  let v123 : BitVec 32 := Scalar.andi v121 c1_i32_44
  let v778 : Index := Scalar.indexCast v123
  let c1_265 : Index := 1#32
  let c1280_266 : Index := 1280#32
  ![v778.toNat, 1, 1280]
def k0_off134 (v121 : BitVec 32) : Fin 3 → Nat :=
  let c1_i32_44 : BitVec 32 := 1#32
  let v123 : BitVec 32 := Scalar.andi v121 c1_i32_44
  let v784 : Index := Scalar.indexCast v123
  let c2_267 : Index := 2#32
  let c1280_268 : Index := 1280#32
  ![v784.toNat, 2, 1280]
def k0_off135 (v121 : BitVec 32) : Fin 3 → Nat :=
  let c1_i32_44 : BitVec 32 := 1#32
  let v123 : BitVec 32 := Scalar.andi v121 c1_i32_44
  let v790 : Index := Scalar.indexCast v123
  let c3_269 : Index := 3#32
  let c1280_270 : Index := 1280#32
  ![v790.toNat, 3, 1280]
def k0_off136 (v121 : BitVec 32) : Fin 3 → Nat :=
  let c1_i32_44 : BitVec 32 := 1#32
  let v123 : BitVec 32 := Scalar.andi v121 c1_i32_44
  let v796 : Index := Scalar.indexCast v123
  let c4_271 : Index := 4#32
  let c1280_272 : Index := 1280#32
  ![v796.toNat, 4, 1280]
def k0_off137 (v121 : BitVec 32) : Fin 3 → Nat :=
  let c1_i32_44 : BitVec 32 := 1#32
  let v123 : BitVec 32 := Scalar.andi v121 c1_i32_44
  let v802 : Index := Scalar.indexCast v123
  let c5_273 : Index := 5#32
  let c1280_274 : Index := 1280#32
  ![v802.toNat, 5, 1280]
def k0_off138 (v121 : BitVec 32) : Fin 3 → Nat :=
  let c1_i32_44 : BitVec 32 := 1#32
  let v123 : BitVec 32 := Scalar.andi v121 c1_i32_44
  let v808 : Index := Scalar.indexCast v123
  let c6_275 : Index := 6#32
  let c1280_276 : Index := 1280#32
  ![v808.toNat, 6, 1280]
def k0_off139 (v121 : BitVec 32) : Fin 3 → Nat :=
  let c1_i32_44 : BitVec 32 := 1#32
  let v123 : BitVec 32 := Scalar.andi v121 c1_i32_44
  let v814 : Index := Scalar.indexCast v123
  let c7_277 : Index := 7#32
  let c1280_278 : Index := 1280#32
  ![v814.toNat, 7, 1280]
def k0_off140 (v121 : BitVec 32) : Fin 3 → Nat :=
  let c1_i32_44 : BitVec 32 := 1#32
  let v123 : BitVec 32 := Scalar.andi v121 c1_i32_44
  let v820 : Index := Scalar.indexCast v123
  let c8_279 : Index := 8#32
  let c1280_280 : Index := 1280#32
  ![v820.toNat, 8, 1280]
def k0_off141 (v121 : BitVec 32) : Fin 3 → Nat :=
  let c1_i32_44 : BitVec 32 := 1#32
  let v123 : BitVec 32 := Scalar.andi v121 c1_i32_44
  let v826 : Index := Scalar.indexCast v123
  let c9_281 : Index := 9#32
  let c1280_282 : Index := 1280#32
  ![v826.toNat, 9, 1280]
def k0_off142 (v121 : BitVec 32) : Fin 3 → Nat :=
  let c1_i32_44 : BitVec 32 := 1#32
  let v123 : BitVec 32 := Scalar.andi v121 c1_i32_44
  let v832 : Index := Scalar.indexCast v123
  let c10_283 : Index := 10#32
  let c1280_284 : Index := 1280#32
  ![v832.toNat, 10, 1280]
def k0_off143 (v121 : BitVec 32) : Fin 3 → Nat :=
  let c1_i32_44 : BitVec 32 := 1#32
  let v123 : BitVec 32 := Scalar.andi v121 c1_i32_44
  let v838 : Index := Scalar.indexCast v123
  let c11_285 : Index := 11#32
  let c1280_286 : Index := 1280#32
  ![v838.toNat, 11, 1280]
def k0_off144 (v121 : BitVec 32) : Fin 3 → Nat :=
  let c1_i32_44 : BitVec 32 := 1#32
  let v123 : BitVec 32 := Scalar.andi v121 c1_i32_44
  let v844 : Index := Scalar.indexCast v123
  let c12_287 : Index := 12#32
  let c1280_288 : Index := 1280#32
  ![v844.toNat, 12, 1280]
def k0_off145 (v121 : BitVec 32) : Fin 3 → Nat :=
  let c1_i32_44 : BitVec 32 := 1#32
  let v123 : BitVec 32 := Scalar.andi v121 c1_i32_44
  let v850 : Index := Scalar.indexCast v123
  let c13_289 : Index := 13#32
  let c1280_290 : Index := 1280#32
  ![v850.toNat, 13, 1280]
def k0_off146 (v121 : BitVec 32) : Fin 3 → Nat :=
  let c1_i32_44 : BitVec 32 := 1#32
  let v123 : BitVec 32 := Scalar.andi v121 c1_i32_44
  let v856 : Index := Scalar.indexCast v123
  let c14_291 : Index := 14#32
  let c1280_292 : Index := 1280#32
  ![v856.toNat, 14, 1280]
def k0_off147 (v121 : BitVec 32) : Fin 3 → Nat :=
  let c1_i32_44 : BitVec 32 := 1#32
  let v123 : BitVec 32 := Scalar.andi v121 c1_i32_44
  let v862 : Index := Scalar.indexCast v123
  let c15_293 : Index := 15#32
  let c1280_294 : Index := 1280#32
  ![v862.toNat, 15, 1280]
def k0_off148 (v121 : BitVec 32) : Fin 3 → Nat :=
  let c1_i32_44 : BitVec 32 := 1#32
  let v123 : BitVec 32 := Scalar.andi v121 c1_i32_44
  let v873 : Index := Scalar.indexCast v123
  let c0_298 : Index := 0#32
  let c1536 : Index := 1536#32
  ![v873.toNat, 0, 1536]
def k0_off149 (v121 : BitVec 32) : Fin 3 → Nat :=
  let c1_i32_44 : BitVec 32 := 1#32
  let v123 : BitVec 32 := Scalar.andi v121 c1_i32_44
  let v894 : Index := Scalar.indexCast v123
  let c0_304 : Index := 0#32
  let c1536_305 : Index := 1536#32
  ![v894.toNat, 0, 1536]
def k0_off150 (v121 : BitVec 32) : Fin 3 → Nat :=
  let c1_i32_44 : BitVec 32 := 1#32
  let v123 : BitVec 32 := Scalar.andi v121 c1_i32_44
  let v900 : Index := Scalar.indexCast v123
  let c1_306 : Index := 1#32
  let c1536_307 : Index := 1536#32
  ![v900.toNat, 1, 1536]
def k0_off151 (v121 : BitVec 32) : Fin 3 → Nat :=
  let c1_i32_44 : BitVec 32 := 1#32
  let v123 : BitVec 32 := Scalar.andi v121 c1_i32_44
  let v906 : Index := Scalar.indexCast v123
  let c2_308 : Index := 2#32
  let c1536_309 : Index := 1536#32
  ![v906.toNat, 2, 1536]
def k0_off152 (v121 : BitVec 32) : Fin 3 → Nat :=
  let c1_i32_44 : BitVec 32 := 1#32
  let v123 : BitVec 32 := Scalar.andi v121 c1_i32_44
  let v912 : Index := Scalar.indexCast v123
  let c3_310 : Index := 3#32
  let c1536_311 : Index := 1536#32
  ![v912.toNat, 3, 1536]
def k0_off153 (v121 : BitVec 32) : Fin 3 → Nat :=
  let c1_i32_44 : BitVec 32 := 1#32
  let v123 : BitVec 32 := Scalar.andi v121 c1_i32_44
  let v918 : Index := Scalar.indexCast v123
  let c4_312 : Index := 4#32
  let c1536_313 : Index := 1536#32
  ![v918.toNat, 4, 1536]
def k0_off154 (v121 : BitVec 32) : Fin 3 → Nat :=
  let c1_i32_44 : BitVec 32 := 1#32
  let v123 : BitVec 32 := Scalar.andi v121 c1_i32_44
  let v924 : Index := Scalar.indexCast v123
  let c5_314 : Index := 5#32
  let c1536_315 : Index := 1536#32
  ![v924.toNat, 5, 1536]
def k0_off155 (v121 : BitVec 32) : Fin 3 → Nat :=
  let c1_i32_44 : BitVec 32 := 1#32
  let v123 : BitVec 32 := Scalar.andi v121 c1_i32_44
  let v930 : Index := Scalar.indexCast v123
  let c6_316 : Index := 6#32
  let c1536_317 : Index := 1536#32
  ![v930.toNat, 6, 1536]
def k0_off156 (v121 : BitVec 32) : Fin 3 → Nat :=
  let c1_i32_44 : BitVec 32 := 1#32
  let v123 : BitVec 32 := Scalar.andi v121 c1_i32_44
  let v936 : Index := Scalar.indexCast v123
  let c7_318 : Index := 7#32
  let c1536_319 : Index := 1536#32
  ![v936.toNat, 7, 1536]
def k0_off157 (v121 : BitVec 32) : Fin 3 → Nat :=
  let c1_i32_44 : BitVec 32 := 1#32
  let v123 : BitVec 32 := Scalar.andi v121 c1_i32_44
  let v942 : Index := Scalar.indexCast v123
  let c8_320 : Index := 8#32
  let c1536_321 : Index := 1536#32
  ![v942.toNat, 8, 1536]
def k0_off158 (v121 : BitVec 32) : Fin 3 → Nat :=
  let c1_i32_44 : BitVec 32 := 1#32
  let v123 : BitVec 32 := Scalar.andi v121 c1_i32_44
  let v948 : Index := Scalar.indexCast v123
  let c9_322 : Index := 9#32
  let c1536_323 : Index := 1536#32
  ![v948.toNat, 9, 1536]
def k0_off159 (v121 : BitVec 32) : Fin 3 → Nat :=
  let c1_i32_44 : BitVec 32 := 1#32
  let v123 : BitVec 32 := Scalar.andi v121 c1_i32_44
  let v954 : Index := Scalar.indexCast v123
  let c10_324 : Index := 10#32
  let c1536_325 : Index := 1536#32
  ![v954.toNat, 10, 1536]
def k0_off160 (v121 : BitVec 32) : Fin 3 → Nat :=
  let c1_i32_44 : BitVec 32 := 1#32
  let v123 : BitVec 32 := Scalar.andi v121 c1_i32_44
  let v960 : Index := Scalar.indexCast v123
  let c11_326 : Index := 11#32
  let c1536_327 : Index := 1536#32
  ![v960.toNat, 11, 1536]
def k0_off161 (v121 : BitVec 32) : Fin 3 → Nat :=
  let c1_i32_44 : BitVec 32 := 1#32
  let v123 : BitVec 32 := Scalar.andi v121 c1_i32_44
  let v966 : Index := Scalar.indexCast v123
  let c12_328 : Index := 12#32
  let c1536_329 : Index := 1536#32
  ![v966.toNat, 12, 1536]
def k0_off162 (v121 : BitVec 32) : Fin 3 → Nat :=
  let c1_i32_44 : BitVec 32 := 1#32
  let v123 : BitVec 32 := Scalar.andi v121 c1_i32_44
  let v972 : Index := Scalar.indexCast v123
  let c13_330 : Index := 13#32
  let c1536_331 : Index := 1536#32
  ![v972.toNat, 13, 1536]
def k0_off163 (v121 : BitVec 32) : Fin 3 → Nat :=
  let c1_i32_44 : BitVec 32 := 1#32
  let v123 : BitVec 32 := Scalar.andi v121 c1_i32_44
  let v978 : Index := Scalar.indexCast v123
  let c14_332 : Index := 14#32
  let c1536_333 : Index := 1536#32
  ![v978.toNat, 14, 1536]
def k0_off164 (v121 : BitVec 32) : Fin 3 → Nat :=
  let c1_i32_44 : BitVec 32 := 1#32
  let v123 : BitVec 32 := Scalar.andi v121 c1_i32_44
  let v984 : Index := Scalar.indexCast v123
  let c15_334 : Index := 15#32
  let c1536_335 : Index := 1536#32
  ![v984.toNat, 15, 1536]
def k0_off165 (v121 : BitVec 32) : Fin 3 → Nat :=
  let c1_i32_44 : BitVec 32 := 1#32
  let v123 : BitVec 32 := Scalar.andi v121 c1_i32_44
  let v995 : Index := Scalar.indexCast v123
  let c0_339 : Index := 0#32
  let c1792 : Index := 1792#32
  ![v995.toNat, 0, 1792]
def k0_off166 (v121 : BitVec 32) : Fin 3 → Nat :=
  let c1_i32_44 : BitVec 32 := 1#32
  let v123 : BitVec 32 := Scalar.andi v121 c1_i32_44
  let v1016 : Index := Scalar.indexCast v123
  let c0_345 : Index := 0#32
  let c1792_346 : Index := 1792#32
  ![v1016.toNat, 0, 1792]
def k0_off167 (v121 : BitVec 32) : Fin 3 → Nat :=
  let c1_i32_44 : BitVec 32 := 1#32
  let v123 : BitVec 32 := Scalar.andi v121 c1_i32_44
  let v1022 : Index := Scalar.indexCast v123
  let c1_347 : Index := 1#32
  let c1792_348 : Index := 1792#32
  ![v1022.toNat, 1, 1792]
def k0_off168 (v121 : BitVec 32) : Fin 3 → Nat :=
  let c1_i32_44 : BitVec 32 := 1#32
  let v123 : BitVec 32 := Scalar.andi v121 c1_i32_44
  let v1028 : Index := Scalar.indexCast v123
  let c2_349 : Index := 2#32
  let c1792_350 : Index := 1792#32
  ![v1028.toNat, 2, 1792]
def k0_off169 (v121 : BitVec 32) : Fin 3 → Nat :=
  let c1_i32_44 : BitVec 32 := 1#32
  let v123 : BitVec 32 := Scalar.andi v121 c1_i32_44
  let v1034 : Index := Scalar.indexCast v123
  let c3_351 : Index := 3#32
  let c1792_352 : Index := 1792#32
  ![v1034.toNat, 3, 1792]
def k0_off170 (v121 : BitVec 32) : Fin 3 → Nat :=
  let c1_i32_44 : BitVec 32 := 1#32
  let v123 : BitVec 32 := Scalar.andi v121 c1_i32_44
  let v1040 : Index := Scalar.indexCast v123
  let c4_353 : Index := 4#32
  let c1792_354 : Index := 1792#32
  ![v1040.toNat, 4, 1792]
def k0_off171 (v121 : BitVec 32) : Fin 3 → Nat :=
  let c1_i32_44 : BitVec 32 := 1#32
  let v123 : BitVec 32 := Scalar.andi v121 c1_i32_44
  let v1046 : Index := Scalar.indexCast v123
  let c5_355 : Index := 5#32
  let c1792_356 : Index := 1792#32
  ![v1046.toNat, 5, 1792]
def k0_off172 (v121 : BitVec 32) : Fin 3 → Nat :=
  let c1_i32_44 : BitVec 32 := 1#32
  let v123 : BitVec 32 := Scalar.andi v121 c1_i32_44
  let v1052 : Index := Scalar.indexCast v123
  let c6_357 : Index := 6#32
  let c1792_358 : Index := 1792#32
  ![v1052.toNat, 6, 1792]
def k0_off173 (v121 : BitVec 32) : Fin 3 → Nat :=
  let c1_i32_44 : BitVec 32 := 1#32
  let v123 : BitVec 32 := Scalar.andi v121 c1_i32_44
  let v1058 : Index := Scalar.indexCast v123
  let c7_359 : Index := 7#32
  let c1792_360 : Index := 1792#32
  ![v1058.toNat, 7, 1792]
def k0_off174 (v121 : BitVec 32) : Fin 3 → Nat :=
  let c1_i32_44 : BitVec 32 := 1#32
  let v123 : BitVec 32 := Scalar.andi v121 c1_i32_44
  let v1064 : Index := Scalar.indexCast v123
  let c8_361 : Index := 8#32
  let c1792_362 : Index := 1792#32
  ![v1064.toNat, 8, 1792]
def k0_off175 (v121 : BitVec 32) : Fin 3 → Nat :=
  let c1_i32_44 : BitVec 32 := 1#32
  let v123 : BitVec 32 := Scalar.andi v121 c1_i32_44
  let v1070 : Index := Scalar.indexCast v123
  let c9_363 : Index := 9#32
  let c1792_364 : Index := 1792#32
  ![v1070.toNat, 9, 1792]
def k0_off176 (v121 : BitVec 32) : Fin 3 → Nat :=
  let c1_i32_44 : BitVec 32 := 1#32
  let v123 : BitVec 32 := Scalar.andi v121 c1_i32_44
  let v1076 : Index := Scalar.indexCast v123
  let c10_365 : Index := 10#32
  let c1792_366 : Index := 1792#32
  ![v1076.toNat, 10, 1792]
def k0_off177 (v121 : BitVec 32) : Fin 3 → Nat :=
  let c1_i32_44 : BitVec 32 := 1#32
  let v123 : BitVec 32 := Scalar.andi v121 c1_i32_44
  let v1082 : Index := Scalar.indexCast v123
  let c11_367 : Index := 11#32
  let c1792_368 : Index := 1792#32
  ![v1082.toNat, 11, 1792]
def k0_off178 (v121 : BitVec 32) : Fin 3 → Nat :=
  let c1_i32_44 : BitVec 32 := 1#32
  let v123 : BitVec 32 := Scalar.andi v121 c1_i32_44
  let v1088 : Index := Scalar.indexCast v123
  let c12_369 : Index := 12#32
  let c1792_370 : Index := 1792#32
  ![v1088.toNat, 12, 1792]
def k0_off179 (v121 : BitVec 32) : Fin 3 → Nat :=
  let c1_i32_44 : BitVec 32 := 1#32
  let v123 : BitVec 32 := Scalar.andi v121 c1_i32_44
  let v1094 : Index := Scalar.indexCast v123
  let c13_371 : Index := 13#32
  let c1792_372 : Index := 1792#32
  ![v1094.toNat, 13, 1792]
def k0_off180 (v121 : BitVec 32) : Fin 3 → Nat :=
  let c1_i32_44 : BitVec 32 := 1#32
  let v123 : BitVec 32 := Scalar.andi v121 c1_i32_44
  let v1100 : Index := Scalar.indexCast v123
  let c14_373 : Index := 14#32
  let c1792_374 : Index := 1792#32
  ![v1100.toNat, 14, 1792]
def k0_off181 (v121 : BitVec 32) : Fin 3 → Nat :=
  let c1_i32_44 : BitVec 32 := 1#32
  let v123 : BitVec 32 := Scalar.andi v121 c1_i32_44
  let v1106 : Index := Scalar.indexCast v123
  let c15_375 : Index := 15#32
  let c1792_376 : Index := 1792#32
  ![v1106.toNat, 15, 1792]
def k0_off182 (v121 : BitVec 32) : Fin 3 → Nat :=
  let c1_i32_44 : BitVec 32 := 1#32
  let v123 : BitVec 32 := Scalar.andi v121 c1_i32_44
  let v1117 : Index := Scalar.indexCast v123
  let c0_380 : Index := 0#32
  let c2048 : Index := 2048#32
  ![v1117.toNat, 0, 2048]
def k0_off183 (v121 : BitVec 32) : Fin 3 → Nat :=
  let c1_i32_44 : BitVec 32 := 1#32
  let v123 : BitVec 32 := Scalar.andi v121 c1_i32_44
  let v1138 : Index := Scalar.indexCast v123
  let c0_386 : Index := 0#32
  let c2048_387 : Index := 2048#32
  ![v1138.toNat, 0, 2048]
def k0_off184 (v121 : BitVec 32) : Fin 3 → Nat :=
  let c1_i32_44 : BitVec 32 := 1#32
  let v123 : BitVec 32 := Scalar.andi v121 c1_i32_44
  let v1144 : Index := Scalar.indexCast v123
  let c1_388 : Index := 1#32
  let c2048_389 : Index := 2048#32
  ![v1144.toNat, 1, 2048]
def k0_off185 (v121 : BitVec 32) : Fin 3 → Nat :=
  let c1_i32_44 : BitVec 32 := 1#32
  let v123 : BitVec 32 := Scalar.andi v121 c1_i32_44
  let v1150 : Index := Scalar.indexCast v123
  let c2_390 : Index := 2#32
  let c2048_391 : Index := 2048#32
  ![v1150.toNat, 2, 2048]
def k0_off186 (v121 : BitVec 32) : Fin 3 → Nat :=
  let c1_i32_44 : BitVec 32 := 1#32
  let v123 : BitVec 32 := Scalar.andi v121 c1_i32_44
  let v1156 : Index := Scalar.indexCast v123
  let c3_392 : Index := 3#32
  let c2048_393 : Index := 2048#32
  ![v1156.toNat, 3, 2048]
def k0_off187 (v121 : BitVec 32) : Fin 3 → Nat :=
  let c1_i32_44 : BitVec 32 := 1#32
  let v123 : BitVec 32 := Scalar.andi v121 c1_i32_44
  let v1162 : Index := Scalar.indexCast v123
  let c4_394 : Index := 4#32
  let c2048_395 : Index := 2048#32
  ![v1162.toNat, 4, 2048]
def k0_off188 (v121 : BitVec 32) : Fin 3 → Nat :=
  let c1_i32_44 : BitVec 32 := 1#32
  let v123 : BitVec 32 := Scalar.andi v121 c1_i32_44
  let v1168 : Index := Scalar.indexCast v123
  let c5_396 : Index := 5#32
  let c2048_397 : Index := 2048#32
  ![v1168.toNat, 5, 2048]
def k0_off189 (v121 : BitVec 32) : Fin 3 → Nat :=
  let c1_i32_44 : BitVec 32 := 1#32
  let v123 : BitVec 32 := Scalar.andi v121 c1_i32_44
  let v1174 : Index := Scalar.indexCast v123
  let c6_398 : Index := 6#32
  let c2048_399 : Index := 2048#32
  ![v1174.toNat, 6, 2048]
def k0_off190 (v121 : BitVec 32) : Fin 3 → Nat :=
  let c1_i32_44 : BitVec 32 := 1#32
  let v123 : BitVec 32 := Scalar.andi v121 c1_i32_44
  let v1180 : Index := Scalar.indexCast v123
  let c7_400 : Index := 7#32
  let c2048_401 : Index := 2048#32
  ![v1180.toNat, 7, 2048]
def k0_off191 (v121 : BitVec 32) : Fin 3 → Nat :=
  let c1_i32_44 : BitVec 32 := 1#32
  let v123 : BitVec 32 := Scalar.andi v121 c1_i32_44
  let v1186 : Index := Scalar.indexCast v123
  let c8_402 : Index := 8#32
  let c2048_403 : Index := 2048#32
  ![v1186.toNat, 8, 2048]
def k0_off192 (v121 : BitVec 32) : Fin 3 → Nat :=
  let c1_i32_44 : BitVec 32 := 1#32
  let v123 : BitVec 32 := Scalar.andi v121 c1_i32_44
  let v1192 : Index := Scalar.indexCast v123
  let c9_404 : Index := 9#32
  let c2048_405 : Index := 2048#32
  ![v1192.toNat, 9, 2048]
def k0_off193 (v121 : BitVec 32) : Fin 3 → Nat :=
  let c1_i32_44 : BitVec 32 := 1#32
  let v123 : BitVec 32 := Scalar.andi v121 c1_i32_44
  let v1198 : Index := Scalar.indexCast v123
  let c10_406 : Index := 10#32
  let c2048_407 : Index := 2048#32
  ![v1198.toNat, 10, 2048]
def k0_off194 (v121 : BitVec 32) : Fin 3 → Nat :=
  let c1_i32_44 : BitVec 32 := 1#32
  let v123 : BitVec 32 := Scalar.andi v121 c1_i32_44
  let v1204 : Index := Scalar.indexCast v123
  let c11_408 : Index := 11#32
  let c2048_409 : Index := 2048#32
  ![v1204.toNat, 11, 2048]
def k0_off195 (v121 : BitVec 32) : Fin 3 → Nat :=
  let c1_i32_44 : BitVec 32 := 1#32
  let v123 : BitVec 32 := Scalar.andi v121 c1_i32_44
  let v1210 : Index := Scalar.indexCast v123
  let c12_410 : Index := 12#32
  let c2048_411 : Index := 2048#32
  ![v1210.toNat, 12, 2048]
def k0_off196 (v121 : BitVec 32) : Fin 3 → Nat :=
  let c1_i32_44 : BitVec 32 := 1#32
  let v123 : BitVec 32 := Scalar.andi v121 c1_i32_44
  let v1216 : Index := Scalar.indexCast v123
  let c13_412 : Index := 13#32
  let c2048_413 : Index := 2048#32
  ![v1216.toNat, 13, 2048]
def k0_off197 (v121 : BitVec 32) : Fin 3 → Nat :=
  let c1_i32_44 : BitVec 32 := 1#32
  let v123 : BitVec 32 := Scalar.andi v121 c1_i32_44
  let v1222 : Index := Scalar.indexCast v123
  let c14_414 : Index := 14#32
  let c2048_415 : Index := 2048#32
  ![v1222.toNat, 14, 2048]
def k0_off198 (v121 : BitVec 32) : Fin 3 → Nat :=
  let c1_i32_44 : BitVec 32 := 1#32
  let v123 : BitVec 32 := Scalar.andi v121 c1_i32_44
  let v1228 : Index := Scalar.indexCast v123
  let c15_416 : Index := 15#32
  let c2048_417 : Index := 2048#32
  ![v1228.toNat, 15, 2048]
def k0_off199 (v121 : BitVec 32) : Fin 3 → Nat :=
  let c1_i32_44 : BitVec 32 := 1#32
  let v123 : BitVec 32 := Scalar.andi v121 c1_i32_44
  let v1239 : Index := Scalar.indexCast v123
  let c0_421 : Index := 0#32
  let c2304 : Index := 2304#32
  ![v1239.toNat, 0, 2304]
def k0_off200 (v121 : BitVec 32) : Fin 3 → Nat :=
  let c1_i32_44 : BitVec 32 := 1#32
  let v123 : BitVec 32 := Scalar.andi v121 c1_i32_44
  let v1260 : Index := Scalar.indexCast v123
  let c0_427 : Index := 0#32
  let c2304_428 : Index := 2304#32
  ![v1260.toNat, 0, 2304]
def k0_off201 (v121 : BitVec 32) : Fin 3 → Nat :=
  let c1_i32_44 : BitVec 32 := 1#32
  let v123 : BitVec 32 := Scalar.andi v121 c1_i32_44
  let v1266 : Index := Scalar.indexCast v123
  let c1_429 : Index := 1#32
  let c2304_430 : Index := 2304#32
  ![v1266.toNat, 1, 2304]
def k0_off202 (v121 : BitVec 32) : Fin 3 → Nat :=
  let c1_i32_44 : BitVec 32 := 1#32
  let v123 : BitVec 32 := Scalar.andi v121 c1_i32_44
  let v1272 : Index := Scalar.indexCast v123
  let c2_431 : Index := 2#32
  let c2304_432 : Index := 2304#32
  ![v1272.toNat, 2, 2304]
def k0_off203 (v121 : BitVec 32) : Fin 3 → Nat :=
  let c1_i32_44 : BitVec 32 := 1#32
  let v123 : BitVec 32 := Scalar.andi v121 c1_i32_44
  let v1278 : Index := Scalar.indexCast v123
  let c3_433 : Index := 3#32
  let c2304_434 : Index := 2304#32
  ![v1278.toNat, 3, 2304]
def k0_off204 (v121 : BitVec 32) : Fin 3 → Nat :=
  let c1_i32_44 : BitVec 32 := 1#32
  let v123 : BitVec 32 := Scalar.andi v121 c1_i32_44
  let v1284 : Index := Scalar.indexCast v123
  let c4_435 : Index := 4#32
  let c2304_436 : Index := 2304#32
  ![v1284.toNat, 4, 2304]
def k0_off205 (v121 : BitVec 32) : Fin 3 → Nat :=
  let c1_i32_44 : BitVec 32 := 1#32
  let v123 : BitVec 32 := Scalar.andi v121 c1_i32_44
  let v1290 : Index := Scalar.indexCast v123
  let c5_437 : Index := 5#32
  let c2304_438 : Index := 2304#32
  ![v1290.toNat, 5, 2304]
def k0_off206 (v121 : BitVec 32) : Fin 3 → Nat :=
  let c1_i32_44 : BitVec 32 := 1#32
  let v123 : BitVec 32 := Scalar.andi v121 c1_i32_44
  let v1296 : Index := Scalar.indexCast v123
  let c6_439 : Index := 6#32
  let c2304_440 : Index := 2304#32
  ![v1296.toNat, 6, 2304]
def k0_off207 (v121 : BitVec 32) : Fin 3 → Nat :=
  let c1_i32_44 : BitVec 32 := 1#32
  let v123 : BitVec 32 := Scalar.andi v121 c1_i32_44
  let v1302 : Index := Scalar.indexCast v123
  let c7_441 : Index := 7#32
  let c2304_442 : Index := 2304#32
  ![v1302.toNat, 7, 2304]
def k0_off208 (v121 : BitVec 32) : Fin 3 → Nat :=
  let c1_i32_44 : BitVec 32 := 1#32
  let v123 : BitVec 32 := Scalar.andi v121 c1_i32_44
  let v1308 : Index := Scalar.indexCast v123
  let c8_443 : Index := 8#32
  let c2304_444 : Index := 2304#32
  ![v1308.toNat, 8, 2304]
def k0_off209 (v121 : BitVec 32) : Fin 3 → Nat :=
  let c1_i32_44 : BitVec 32 := 1#32
  let v123 : BitVec 32 := Scalar.andi v121 c1_i32_44
  let v1314 : Index := Scalar.indexCast v123
  let c9_445 : Index := 9#32
  let c2304_446 : Index := 2304#32
  ![v1314.toNat, 9, 2304]
def k0_off210 (v121 : BitVec 32) : Fin 3 → Nat :=
  let c1_i32_44 : BitVec 32 := 1#32
  let v123 : BitVec 32 := Scalar.andi v121 c1_i32_44
  let v1320 : Index := Scalar.indexCast v123
  let c10_447 : Index := 10#32
  let c2304_448 : Index := 2304#32
  ![v1320.toNat, 10, 2304]
def k0_off211 (v121 : BitVec 32) : Fin 3 → Nat :=
  let c1_i32_44 : BitVec 32 := 1#32
  let v123 : BitVec 32 := Scalar.andi v121 c1_i32_44
  let v1326 : Index := Scalar.indexCast v123
  let c11_449 : Index := 11#32
  let c2304_450 : Index := 2304#32
  ![v1326.toNat, 11, 2304]
def k0_off212 (v121 : BitVec 32) : Fin 3 → Nat :=
  let c1_i32_44 : BitVec 32 := 1#32
  let v123 : BitVec 32 := Scalar.andi v121 c1_i32_44
  let v1332 : Index := Scalar.indexCast v123
  let c12_451 : Index := 12#32
  let c2304_452 : Index := 2304#32
  ![v1332.toNat, 12, 2304]
def k0_off213 (v121 : BitVec 32) : Fin 3 → Nat :=
  let c1_i32_44 : BitVec 32 := 1#32
  let v123 : BitVec 32 := Scalar.andi v121 c1_i32_44
  let v1338 : Index := Scalar.indexCast v123
  let c13_453 : Index := 13#32
  let c2304_454 : Index := 2304#32
  ![v1338.toNat, 13, 2304]
def k0_off214 (v121 : BitVec 32) : Fin 3 → Nat :=
  let c1_i32_44 : BitVec 32 := 1#32
  let v123 : BitVec 32 := Scalar.andi v121 c1_i32_44
  let v1344 : Index := Scalar.indexCast v123
  let c14_455 : Index := 14#32
  let c2304_456 : Index := 2304#32
  ![v1344.toNat, 14, 2304]
def k0_off215 (v121 : BitVec 32) : Fin 3 → Nat :=
  let c1_i32_44 : BitVec 32 := 1#32
  let v123 : BitVec 32 := Scalar.andi v121 c1_i32_44
  let v1350 : Index := Scalar.indexCast v123
  let c15_457 : Index := 15#32
  let c2304_458 : Index := 2304#32
  ![v1350.toNat, 15, 2304]
def k0_off216 (v121 : BitVec 32) : Fin 3 → Nat :=
  let c1_i32_44 : BitVec 32 := 1#32
  let v123 : BitVec 32 := Scalar.andi v121 c1_i32_44
  let v1361 : Index := Scalar.indexCast v123
  let c0_462 : Index := 0#32
  let c2560 : Index := 2560#32
  ![v1361.toNat, 0, 2560]
def k0_off217 (v121 : BitVec 32) : Fin 3 → Nat :=
  let c1_i32_44 : BitVec 32 := 1#32
  let v123 : BitVec 32 := Scalar.andi v121 c1_i32_44
  let v1382 : Index := Scalar.indexCast v123
  let c0_468 : Index := 0#32
  let c2560_469 : Index := 2560#32
  ![v1382.toNat, 0, 2560]
def k0_off218 (v121 : BitVec 32) : Fin 3 → Nat :=
  let c1_i32_44 : BitVec 32 := 1#32
  let v123 : BitVec 32 := Scalar.andi v121 c1_i32_44
  let v1388 : Index := Scalar.indexCast v123
  let c1_470 : Index := 1#32
  let c2560_471 : Index := 2560#32
  ![v1388.toNat, 1, 2560]
def k0_off219 (v121 : BitVec 32) : Fin 3 → Nat :=
  let c1_i32_44 : BitVec 32 := 1#32
  let v123 : BitVec 32 := Scalar.andi v121 c1_i32_44
  let v1394 : Index := Scalar.indexCast v123
  let c2_472 : Index := 2#32
  let c2560_473 : Index := 2560#32
  ![v1394.toNat, 2, 2560]
def k0_off220 (v121 : BitVec 32) : Fin 3 → Nat :=
  let c1_i32_44 : BitVec 32 := 1#32
  let v123 : BitVec 32 := Scalar.andi v121 c1_i32_44
  let v1400 : Index := Scalar.indexCast v123
  let c3_474 : Index := 3#32
  let c2560_475 : Index := 2560#32
  ![v1400.toNat, 3, 2560]
def k0_off221 (v121 : BitVec 32) : Fin 3 → Nat :=
  let c1_i32_44 : BitVec 32 := 1#32
  let v123 : BitVec 32 := Scalar.andi v121 c1_i32_44
  let v1406 : Index := Scalar.indexCast v123
  let c4_476 : Index := 4#32
  let c2560_477 : Index := 2560#32
  ![v1406.toNat, 4, 2560]
def k0_off222 (v121 : BitVec 32) : Fin 3 → Nat :=
  let c1_i32_44 : BitVec 32 := 1#32
  let v123 : BitVec 32 := Scalar.andi v121 c1_i32_44
  let v1412 : Index := Scalar.indexCast v123
  let c5_478 : Index := 5#32
  let c2560_479 : Index := 2560#32
  ![v1412.toNat, 5, 2560]
def k0_off223 (v121 : BitVec 32) : Fin 3 → Nat :=
  let c1_i32_44 : BitVec 32 := 1#32
  let v123 : BitVec 32 := Scalar.andi v121 c1_i32_44
  let v1418 : Index := Scalar.indexCast v123
  let c6_480 : Index := 6#32
  let c2560_481 : Index := 2560#32
  ![v1418.toNat, 6, 2560]
def k0_off224 (v121 : BitVec 32) : Fin 3 → Nat :=
  let c1_i32_44 : BitVec 32 := 1#32
  let v123 : BitVec 32 := Scalar.andi v121 c1_i32_44
  let v1424 : Index := Scalar.indexCast v123
  let c7_482 : Index := 7#32
  let c2560_483 : Index := 2560#32
  ![v1424.toNat, 7, 2560]
def k0_off225 (v121 : BitVec 32) : Fin 3 → Nat :=
  let c1_i32_44 : BitVec 32 := 1#32
  let v123 : BitVec 32 := Scalar.andi v121 c1_i32_44
  let v1430 : Index := Scalar.indexCast v123
  let c8_484 : Index := 8#32
  let c2560_485 : Index := 2560#32
  ![v1430.toNat, 8, 2560]
def k0_off226 (v121 : BitVec 32) : Fin 3 → Nat :=
  let c1_i32_44 : BitVec 32 := 1#32
  let v123 : BitVec 32 := Scalar.andi v121 c1_i32_44
  let v1436 : Index := Scalar.indexCast v123
  let c9_486 : Index := 9#32
  let c2560_487 : Index := 2560#32
  ![v1436.toNat, 9, 2560]
def k0_off227 (v121 : BitVec 32) : Fin 3 → Nat :=
  let c1_i32_44 : BitVec 32 := 1#32
  let v123 : BitVec 32 := Scalar.andi v121 c1_i32_44
  let v1442 : Index := Scalar.indexCast v123
  let c10_488 : Index := 10#32
  let c2560_489 : Index := 2560#32
  ![v1442.toNat, 10, 2560]
def k0_off228 (v121 : BitVec 32) : Fin 3 → Nat :=
  let c1_i32_44 : BitVec 32 := 1#32
  let v123 : BitVec 32 := Scalar.andi v121 c1_i32_44
  let v1448 : Index := Scalar.indexCast v123
  let c11_490 : Index := 11#32
  let c2560_491 : Index := 2560#32
  ![v1448.toNat, 11, 2560]
def k0_off229 (v121 : BitVec 32) : Fin 3 → Nat :=
  let c1_i32_44 : BitVec 32 := 1#32
  let v123 : BitVec 32 := Scalar.andi v121 c1_i32_44
  let v1454 : Index := Scalar.indexCast v123
  let c12_492 : Index := 12#32
  let c2560_493 : Index := 2560#32
  ![v1454.toNat, 12, 2560]
def k0_off230 (v121 : BitVec 32) : Fin 3 → Nat :=
  let c1_i32_44 : BitVec 32 := 1#32
  let v123 : BitVec 32 := Scalar.andi v121 c1_i32_44
  let v1460 : Index := Scalar.indexCast v123
  let c13_494 : Index := 13#32
  let c2560_495 : Index := 2560#32
  ![v1460.toNat, 13, 2560]
def k0_off231 (v121 : BitVec 32) : Fin 3 → Nat :=
  let c1_i32_44 : BitVec 32 := 1#32
  let v123 : BitVec 32 := Scalar.andi v121 c1_i32_44
  let v1466 : Index := Scalar.indexCast v123
  let c14_496 : Index := 14#32
  let c2560_497 : Index := 2560#32
  ![v1466.toNat, 14, 2560]
def k0_off232 (v121 : BitVec 32) : Fin 3 → Nat :=
  let c1_i32_44 : BitVec 32 := 1#32
  let v123 : BitVec 32 := Scalar.andi v121 c1_i32_44
  let v1472 : Index := Scalar.indexCast v123
  let c15_498 : Index := 15#32
  let c2560_499 : Index := 2560#32
  ![v1472.toNat, 15, 2560]
def k0_off233 (v115 : BitVec 32) : Fin 2 → Nat :=
  let v122 : BitVec 32 := v115
  let v1634 : Index := Scalar.indexCast v122
  let c0_586 : Index := 0#32
  ![v1634.toNat, 0]
def k0_off234 (v121 : BitVec 32) : Fin 3 → Nat :=
  let c1_i32_44 : BitVec 32 := 1#32
  let v123 : BitVec 32 := Scalar.andi v121 c1_i32_44
  let v1637 : Index := Scalar.indexCast v123
  let c0_589 : Index := 0#32
  let c0_590 : Index := 0#32
  ![v1637.toNat, 0, 0]
def k0_off235 (v121 : BitVec 32) : Fin 3 → Nat :=
  let c1_i32_44 : BitVec 32 := 1#32
  let v123 : BitVec 32 := Scalar.andi v121 c1_i32_44
  let v1658 : Index := Scalar.indexCast v123
  let c0_596 : Index := 0#32
  let c0_597 : Index := 0#32
  ![v1658.toNat, 0, 0]
def k0_off236 (v121 : BitVec 32) : Fin 3 → Nat :=
  let c1_i32_44 : BitVec 32 := 1#32
  let v123 : BitVec 32 := Scalar.andi v121 c1_i32_44
  let v1664 : Index := Scalar.indexCast v123
  let c1_598 : Index := 1#32
  let c0_599 : Index := 0#32
  ![v1664.toNat, 1, 0]
def k0_off237 (v121 : BitVec 32) : Fin 3 → Nat :=
  let c1_i32_44 : BitVec 32 := 1#32
  let v123 : BitVec 32 := Scalar.andi v121 c1_i32_44
  let v1670 : Index := Scalar.indexCast v123
  let c2_600 : Index := 2#32
  let c0_601 : Index := 0#32
  ![v1670.toNat, 2, 0]
def k0_off238 (v121 : BitVec 32) : Fin 3 → Nat :=
  let c1_i32_44 : BitVec 32 := 1#32
  let v123 : BitVec 32 := Scalar.andi v121 c1_i32_44
  let v1676 : Index := Scalar.indexCast v123
  let c3_602 : Index := 3#32
  let c0_603 : Index := 0#32
  ![v1676.toNat, 3, 0]
def k0_off239 (v121 : BitVec 32) : Fin 3 → Nat :=
  let c1_i32_44 : BitVec 32 := 1#32
  let v123 : BitVec 32 := Scalar.andi v121 c1_i32_44
  let v1682 : Index := Scalar.indexCast v123
  let c4_604 : Index := 4#32
  let c0_605 : Index := 0#32
  ![v1682.toNat, 4, 0]
def k0_off240 (v121 : BitVec 32) : Fin 3 → Nat :=
  let c1_i32_44 : BitVec 32 := 1#32
  let v123 : BitVec 32 := Scalar.andi v121 c1_i32_44
  let v1688 : Index := Scalar.indexCast v123
  let c5_606 : Index := 5#32
  let c0_607 : Index := 0#32
  ![v1688.toNat, 5, 0]
def k0_off241 (v121 : BitVec 32) : Fin 3 → Nat :=
  let c1_i32_44 : BitVec 32 := 1#32
  let v123 : BitVec 32 := Scalar.andi v121 c1_i32_44
  let v1694 : Index := Scalar.indexCast v123
  let c6_608 : Index := 6#32
  let c0_609 : Index := 0#32
  ![v1694.toNat, 6, 0]
def k0_off242 (v121 : BitVec 32) : Fin 3 → Nat :=
  let c1_i32_44 : BitVec 32 := 1#32
  let v123 : BitVec 32 := Scalar.andi v121 c1_i32_44
  let v1700 : Index := Scalar.indexCast v123
  let c7_610 : Index := 7#32
  let c0_611 : Index := 0#32
  ![v1700.toNat, 7, 0]
def k0_off243 (v121 : BitVec 32) : Fin 3 → Nat :=
  let c1_i32_44 : BitVec 32 := 1#32
  let v123 : BitVec 32 := Scalar.andi v121 c1_i32_44
  let v1706 : Index := Scalar.indexCast v123
  let c8_612 : Index := 8#32
  let c0_613 : Index := 0#32
  ![v1706.toNat, 8, 0]
def k0_off244 (v121 : BitVec 32) : Fin 3 → Nat :=
  let c1_i32_44 : BitVec 32 := 1#32
  let v123 : BitVec 32 := Scalar.andi v121 c1_i32_44
  let v1712 : Index := Scalar.indexCast v123
  let c9_614 : Index := 9#32
  let c0_615 : Index := 0#32
  ![v1712.toNat, 9, 0]
def k0_off245 (v121 : BitVec 32) : Fin 3 → Nat :=
  let c1_i32_44 : BitVec 32 := 1#32
  let v123 : BitVec 32 := Scalar.andi v121 c1_i32_44
  let v1718 : Index := Scalar.indexCast v123
  let c10_616 : Index := 10#32
  let c0_617 : Index := 0#32
  ![v1718.toNat, 10, 0]
def k0_off246 (v115 : BitVec 32) : Fin 2 → Nat :=
  let v122 : BitVec 32 := v115
  let v1726 : Index := Scalar.indexCast v122
  let c0_619 : Index := 0#32
  ![v1726.toNat, 0]
def k0_off247 (v115 : BitVec 32) : Fin 2 → Nat :=
  let v122 : BitVec 32 := v115
  let v1736 : Index := Scalar.indexCast v122
  let c128_621 : Index := 128#32
  ![v1736.toNat, 128]
def k0_off248 (v121 : BitVec 32) : Fin 3 → Nat :=
  let c1_i32_44 : BitVec 32 := 1#32
  let v123 : BitVec 32 := Scalar.andi v121 c1_i32_44
  let v1746 : Index := Scalar.indexCast v123
  let c0_623 : Index := 0#32
  let c256_624 : Index := 256#32
  ![v1746.toNat, 0, 256]
def k0_off249 (v121 : BitVec 32) : Fin 3 → Nat :=
  let c1_i32_44 : BitVec 32 := 1#32
  let v123 : BitVec 32 := Scalar.andi v121 c1_i32_44
  let v1767 : Index := Scalar.indexCast v123
  let c0_630 : Index := 0#32
  let c256_631 : Index := 256#32
  ![v1767.toNat, 0, 256]
def k0_off250 (v121 : BitVec 32) : Fin 3 → Nat :=
  let c1_i32_44 : BitVec 32 := 1#32
  let v123 : BitVec 32 := Scalar.andi v121 c1_i32_44
  let v1773 : Index := Scalar.indexCast v123
  let c1_632 : Index := 1#32
  let c256_633 : Index := 256#32
  ![v1773.toNat, 1, 256]
def k0_off251 (v121 : BitVec 32) : Fin 3 → Nat :=
  let c1_i32_44 : BitVec 32 := 1#32
  let v123 : BitVec 32 := Scalar.andi v121 c1_i32_44
  let v1779 : Index := Scalar.indexCast v123
  let c2_634 : Index := 2#32
  let c256_635 : Index := 256#32
  ![v1779.toNat, 2, 256]
def k0_off252 (v121 : BitVec 32) : Fin 3 → Nat :=
  let c1_i32_44 : BitVec 32 := 1#32
  let v123 : BitVec 32 := Scalar.andi v121 c1_i32_44
  let v1785 : Index := Scalar.indexCast v123
  let c3_636 : Index := 3#32
  let c256_637 : Index := 256#32
  ![v1785.toNat, 3, 256]
def k0_off253 (v121 : BitVec 32) : Fin 3 → Nat :=
  let c1_i32_44 : BitVec 32 := 1#32
  let v123 : BitVec 32 := Scalar.andi v121 c1_i32_44
  let v1791 : Index := Scalar.indexCast v123
  let c4_638 : Index := 4#32
  let c256_639 : Index := 256#32
  ![v1791.toNat, 4, 256]
def k0_off254 (v121 : BitVec 32) : Fin 3 → Nat :=
  let c1_i32_44 : BitVec 32 := 1#32
  let v123 : BitVec 32 := Scalar.andi v121 c1_i32_44
  let v1797 : Index := Scalar.indexCast v123
  let c5_640 : Index := 5#32
  let c256_641 : Index := 256#32
  ![v1797.toNat, 5, 256]
def k0_off255 (v121 : BitVec 32) : Fin 3 → Nat :=
  let c1_i32_44 : BitVec 32 := 1#32
  let v123 : BitVec 32 := Scalar.andi v121 c1_i32_44
  let v1803 : Index := Scalar.indexCast v123
  let c6_642 : Index := 6#32
  let c256_643 : Index := 256#32
  ![v1803.toNat, 6, 256]
def k0_off256 (v121 : BitVec 32) : Fin 3 → Nat :=
  let c1_i32_44 : BitVec 32 := 1#32
  let v123 : BitVec 32 := Scalar.andi v121 c1_i32_44
  let v1809 : Index := Scalar.indexCast v123
  let c7_644 : Index := 7#32
  let c256_645 : Index := 256#32
  ![v1809.toNat, 7, 256]
def k0_off257 (v121 : BitVec 32) : Fin 3 → Nat :=
  let c1_i32_44 : BitVec 32 := 1#32
  let v123 : BitVec 32 := Scalar.andi v121 c1_i32_44
  let v1815 : Index := Scalar.indexCast v123
  let c8_646 : Index := 8#32
  let c256_647 : Index := 256#32
  ![v1815.toNat, 8, 256]
def k0_off258 (v121 : BitVec 32) : Fin 3 → Nat :=
  let c1_i32_44 : BitVec 32 := 1#32
  let v123 : BitVec 32 := Scalar.andi v121 c1_i32_44
  let v1821 : Index := Scalar.indexCast v123
  let c9_648 : Index := 9#32
  let c256_649 : Index := 256#32
  ![v1821.toNat, 9, 256]
def k0_off259 (v121 : BitVec 32) : Fin 3 → Nat :=
  let c1_i32_44 : BitVec 32 := 1#32
  let v123 : BitVec 32 := Scalar.andi v121 c1_i32_44
  let v1827 : Index := Scalar.indexCast v123
  let c10_650 : Index := 10#32
  let c256_651 : Index := 256#32
  ![v1827.toNat, 10, 256]
def k0_off260 (v115 : BitVec 32) : Fin 2 → Nat :=
  let v122 : BitVec 32 := v115
  let v1835 : Index := Scalar.indexCast v122
  let c256_653 : Index := 256#32
  ![v1835.toNat, 256]
def k0_off261 (v115 : BitVec 32) : Fin 2 → Nat :=
  let v122 : BitVec 32 := v115
  let v1845 : Index := Scalar.indexCast v122
  let c384_655 : Index := 384#32
  ![v1845.toNat, 384]
def k0_off262 (v121 : BitVec 32) : Fin 3 → Nat :=
  let c1_i32_44 : BitVec 32 := 1#32
  let v123 : BitVec 32 := Scalar.andi v121 c1_i32_44
  let v1855 : Index := Scalar.indexCast v123
  let c0_657 : Index := 0#32
  let c512_658 : Index := 512#32
  ![v1855.toNat, 0, 512]
def k0_off263 (v121 : BitVec 32) : Fin 3 → Nat :=
  let c1_i32_44 : BitVec 32 := 1#32
  let v123 : BitVec 32 := Scalar.andi v121 c1_i32_44
  let v1876 : Index := Scalar.indexCast v123
  let c0_664 : Index := 0#32
  let c512_665 : Index := 512#32
  ![v1876.toNat, 0, 512]
def k0_off264 (v121 : BitVec 32) : Fin 3 → Nat :=
  let c1_i32_44 : BitVec 32 := 1#32
  let v123 : BitVec 32 := Scalar.andi v121 c1_i32_44
  let v1882 : Index := Scalar.indexCast v123
  let c1_666 : Index := 1#32
  let c512_667 : Index := 512#32
  ![v1882.toNat, 1, 512]
def k0_off265 (v121 : BitVec 32) : Fin 3 → Nat :=
  let c1_i32_44 : BitVec 32 := 1#32
  let v123 : BitVec 32 := Scalar.andi v121 c1_i32_44
  let v1888 : Index := Scalar.indexCast v123
  let c2_668 : Index := 2#32
  let c512_669 : Index := 512#32
  ![v1888.toNat, 2, 512]
def k0_off266 (v121 : BitVec 32) : Fin 3 → Nat :=
  let c1_i32_44 : BitVec 32 := 1#32
  let v123 : BitVec 32 := Scalar.andi v121 c1_i32_44
  let v1894 : Index := Scalar.indexCast v123
  let c3_670 : Index := 3#32
  let c512_671 : Index := 512#32
  ![v1894.toNat, 3, 512]
def k0_off267 (v121 : BitVec 32) : Fin 3 → Nat :=
  let c1_i32_44 : BitVec 32 := 1#32
  let v123 : BitVec 32 := Scalar.andi v121 c1_i32_44
  let v1900 : Index := Scalar.indexCast v123
  let c4_672 : Index := 4#32
  let c512_673 : Index := 512#32
  ![v1900.toNat, 4, 512]
def k0_off268 (v121 : BitVec 32) : Fin 3 → Nat :=
  let c1_i32_44 : BitVec 32 := 1#32
  let v123 : BitVec 32 := Scalar.andi v121 c1_i32_44
  let v1906 : Index := Scalar.indexCast v123
  let c5_674 : Index := 5#32
  let c512_675 : Index := 512#32
  ![v1906.toNat, 5, 512]
def k0_off269 (v121 : BitVec 32) : Fin 3 → Nat :=
  let c1_i32_44 : BitVec 32 := 1#32
  let v123 : BitVec 32 := Scalar.andi v121 c1_i32_44
  let v1912 : Index := Scalar.indexCast v123
  let c6_676 : Index := 6#32
  let c512_677 : Index := 512#32
  ![v1912.toNat, 6, 512]
def k0_off270 (v121 : BitVec 32) : Fin 3 → Nat :=
  let c1_i32_44 : BitVec 32 := 1#32
  let v123 : BitVec 32 := Scalar.andi v121 c1_i32_44
  let v1918 : Index := Scalar.indexCast v123
  let c7_678 : Index := 7#32
  let c512_679 : Index := 512#32
  ![v1918.toNat, 7, 512]
def k0_off271 (v121 : BitVec 32) : Fin 3 → Nat :=
  let c1_i32_44 : BitVec 32 := 1#32
  let v123 : BitVec 32 := Scalar.andi v121 c1_i32_44
  let v1924 : Index := Scalar.indexCast v123
  let c8_680 : Index := 8#32
  let c512_681 : Index := 512#32
  ![v1924.toNat, 8, 512]
def k0_off272 (v121 : BitVec 32) : Fin 3 → Nat :=
  let c1_i32_44 : BitVec 32 := 1#32
  let v123 : BitVec 32 := Scalar.andi v121 c1_i32_44
  let v1930 : Index := Scalar.indexCast v123
  let c9_682 : Index := 9#32
  let c512_683 : Index := 512#32
  ![v1930.toNat, 9, 512]
def k0_off273 (v121 : BitVec 32) : Fin 3 → Nat :=
  let c1_i32_44 : BitVec 32 := 1#32
  let v123 : BitVec 32 := Scalar.andi v121 c1_i32_44
  let v1936 : Index := Scalar.indexCast v123
  let c10_684 : Index := 10#32
  let c512_685 : Index := 512#32
  ![v1936.toNat, 10, 512]
def k0_off274 (v115 : BitVec 32) : Fin 2 → Nat :=
  let v122 : BitVec 32 := v115
  let v1944 : Index := Scalar.indexCast v122
  let c512_687 : Index := 512#32
  ![v1944.toNat, 512]
def k0_off275 (v115 : BitVec 32) : Fin 2 → Nat :=
  let v122 : BitVec 32 := v115
  let v1954 : Index := Scalar.indexCast v122
  let c640_689 : Index := 640#32
  ![v1954.toNat, 640]
def k0_off276 (v121 : BitVec 32) : Fin 3 → Nat :=
  let c1_i32_44 : BitVec 32 := 1#32
  let v123 : BitVec 32 := Scalar.andi v121 c1_i32_44
  let v1964 : Index := Scalar.indexCast v123
  let c0_691 : Index := 0#32
  let c768_692 : Index := 768#32
  ![v1964.toNat, 0, 768]
def k0_off277 (v121 : BitVec 32) : Fin 3 → Nat :=
  let c1_i32_44 : BitVec 32 := 1#32
  let v123 : BitVec 32 := Scalar.andi v121 c1_i32_44
  let v1985 : Index := Scalar.indexCast v123
  let c0_698 : Index := 0#32
  let c768_699 : Index := 768#32
  ![v1985.toNat, 0, 768]
def k0_off278 (v121 : BitVec 32) : Fin 3 → Nat :=
  let c1_i32_44 : BitVec 32 := 1#32
  let v123 : BitVec 32 := Scalar.andi v121 c1_i32_44
  let v1991 : Index := Scalar.indexCast v123
  let c1_700 : Index := 1#32
  let c768_701 : Index := 768#32
  ![v1991.toNat, 1, 768]
def k0_off279 (v121 : BitVec 32) : Fin 3 → Nat :=
  let c1_i32_44 : BitVec 32 := 1#32
  let v123 : BitVec 32 := Scalar.andi v121 c1_i32_44
  let v1997 : Index := Scalar.indexCast v123
  let c2_702 : Index := 2#32
  let c768_703 : Index := 768#32
  ![v1997.toNat, 2, 768]
def k0_off280 (v121 : BitVec 32) : Fin 3 → Nat :=
  let c1_i32_44 : BitVec 32 := 1#32
  let v123 : BitVec 32 := Scalar.andi v121 c1_i32_44
  let v2003 : Index := Scalar.indexCast v123
  let c3_704 : Index := 3#32
  let c768_705 : Index := 768#32
  ![v2003.toNat, 3, 768]
def k0_off281 (v121 : BitVec 32) : Fin 3 → Nat :=
  let c1_i32_44 : BitVec 32 := 1#32
  let v123 : BitVec 32 := Scalar.andi v121 c1_i32_44
  let v2009 : Index := Scalar.indexCast v123
  let c4_706 : Index := 4#32
  let c768_707 : Index := 768#32
  ![v2009.toNat, 4, 768]
def k0_off282 (v121 : BitVec 32) : Fin 3 → Nat :=
  let c1_i32_44 : BitVec 32 := 1#32
  let v123 : BitVec 32 := Scalar.andi v121 c1_i32_44
  let v2015 : Index := Scalar.indexCast v123
  let c5_708 : Index := 5#32
  let c768_709 : Index := 768#32
  ![v2015.toNat, 5, 768]
def k0_off283 (v121 : BitVec 32) : Fin 3 → Nat :=
  let c1_i32_44 : BitVec 32 := 1#32
  let v123 : BitVec 32 := Scalar.andi v121 c1_i32_44
  let v2021 : Index := Scalar.indexCast v123
  let c6_710 : Index := 6#32
  let c768_711 : Index := 768#32
  ![v2021.toNat, 6, 768]
def k0_off284 (v121 : BitVec 32) : Fin 3 → Nat :=
  let c1_i32_44 : BitVec 32 := 1#32
  let v123 : BitVec 32 := Scalar.andi v121 c1_i32_44
  let v2027 : Index := Scalar.indexCast v123
  let c7_712 : Index := 7#32
  let c768_713 : Index := 768#32
  ![v2027.toNat, 7, 768]
def k0_off285 (v121 : BitVec 32) : Fin 3 → Nat :=
  let c1_i32_44 : BitVec 32 := 1#32
  let v123 : BitVec 32 := Scalar.andi v121 c1_i32_44
  let v2033 : Index := Scalar.indexCast v123
  let c8_714 : Index := 8#32
  let c768_715 : Index := 768#32
  ![v2033.toNat, 8, 768]
def k0_off286 (v121 : BitVec 32) : Fin 3 → Nat :=
  let c1_i32_44 : BitVec 32 := 1#32
  let v123 : BitVec 32 := Scalar.andi v121 c1_i32_44
  let v2039 : Index := Scalar.indexCast v123
  let c9_716 : Index := 9#32
  let c768_717 : Index := 768#32
  ![v2039.toNat, 9, 768]
def k0_off287 (v121 : BitVec 32) : Fin 3 → Nat :=
  let c1_i32_44 : BitVec 32 := 1#32
  let v123 : BitVec 32 := Scalar.andi v121 c1_i32_44
  let v2045 : Index := Scalar.indexCast v123
  let c10_718 : Index := 10#32
  let c768_719 : Index := 768#32
  ![v2045.toNat, 10, 768]
def k0_off288 (v115 : BitVec 32) : Fin 2 → Nat :=
  let v122 : BitVec 32 := v115
  let v2053 : Index := Scalar.indexCast v122
  let c768_721 : Index := 768#32
  ![v2053.toNat, 768]
def k0_off289 (v115 : BitVec 32) : Fin 2 → Nat :=
  let v122 : BitVec 32 := v115
  let v2063 : Index := Scalar.indexCast v122
  let c896_723 : Index := 896#32
  ![v2063.toNat, 896]
def k0_off290 (v121 : BitVec 32) : Fin 3 → Nat :=
  let c1_i32_44 : BitVec 32 := 1#32
  let v123 : BitVec 32 := Scalar.andi v121 c1_i32_44
  let v2073 : Index := Scalar.indexCast v123
  let c0_725 : Index := 0#32
  let c1024_726 : Index := 1024#32
  ![v2073.toNat, 0, 1024]
def k0_off291 (v121 : BitVec 32) : Fin 3 → Nat :=
  let c1_i32_44 : BitVec 32 := 1#32
  let v123 : BitVec 32 := Scalar.andi v121 c1_i32_44
  let v2094 : Index := Scalar.indexCast v123
  let c0_732 : Index := 0#32
  let c1024_733 : Index := 1024#32
  ![v2094.toNat, 0, 1024]
def k0_off292 (v121 : BitVec 32) : Fin 3 → Nat :=
  let c1_i32_44 : BitVec 32 := 1#32
  let v123 : BitVec 32 := Scalar.andi v121 c1_i32_44
  let v2100 : Index := Scalar.indexCast v123
  let c1_734 : Index := 1#32
  let c1024_735 : Index := 1024#32
  ![v2100.toNat, 1, 1024]
def k0_off293 (v121 : BitVec 32) : Fin 3 → Nat :=
  let c1_i32_44 : BitVec 32 := 1#32
  let v123 : BitVec 32 := Scalar.andi v121 c1_i32_44
  let v2106 : Index := Scalar.indexCast v123
  let c2_736 : Index := 2#32
  let c1024_737 : Index := 1024#32
  ![v2106.toNat, 2, 1024]
def k0_off294 (v121 : BitVec 32) : Fin 3 → Nat :=
  let c1_i32_44 : BitVec 32 := 1#32
  let v123 : BitVec 32 := Scalar.andi v121 c1_i32_44
  let v2112 : Index := Scalar.indexCast v123
  let c3_738 : Index := 3#32
  let c1024_739 : Index := 1024#32
  ![v2112.toNat, 3, 1024]
def k0_off295 (v121 : BitVec 32) : Fin 3 → Nat :=
  let c1_i32_44 : BitVec 32 := 1#32
  let v123 : BitVec 32 := Scalar.andi v121 c1_i32_44
  let v2118 : Index := Scalar.indexCast v123
  let c4_740 : Index := 4#32
  let c1024_741 : Index := 1024#32
  ![v2118.toNat, 4, 1024]
def k0_off296 (v121 : BitVec 32) : Fin 3 → Nat :=
  let c1_i32_44 : BitVec 32 := 1#32
  let v123 : BitVec 32 := Scalar.andi v121 c1_i32_44
  let v2124 : Index := Scalar.indexCast v123
  let c5_742 : Index := 5#32
  let c1024_743 : Index := 1024#32
  ![v2124.toNat, 5, 1024]
def k0_off297 (v121 : BitVec 32) : Fin 3 → Nat :=
  let c1_i32_44 : BitVec 32 := 1#32
  let v123 : BitVec 32 := Scalar.andi v121 c1_i32_44
  let v2130 : Index := Scalar.indexCast v123
  let c6_744 : Index := 6#32
  let c1024_745 : Index := 1024#32
  ![v2130.toNat, 6, 1024]
def k0_off298 (v121 : BitVec 32) : Fin 3 → Nat :=
  let c1_i32_44 : BitVec 32 := 1#32
  let v123 : BitVec 32 := Scalar.andi v121 c1_i32_44
  let v2136 : Index := Scalar.indexCast v123
  let c7_746 : Index := 7#32
  let c1024_747 : Index := 1024#32
  ![v2136.toNat, 7, 1024]
def k0_off299 (v121 : BitVec 32) : Fin 3 → Nat :=
  let c1_i32_44 : BitVec 32 := 1#32
  let v123 : BitVec 32 := Scalar.andi v121 c1_i32_44
  let v2142 : Index := Scalar.indexCast v123
  let c8_748 : Index := 8#32
  let c1024_749 : Index := 1024#32
  ![v2142.toNat, 8, 1024]
def k0_off300 (v121 : BitVec 32) : Fin 3 → Nat :=
  let c1_i32_44 : BitVec 32 := 1#32
  let v123 : BitVec 32 := Scalar.andi v121 c1_i32_44
  let v2148 : Index := Scalar.indexCast v123
  let c9_750 : Index := 9#32
  let c1024_751 : Index := 1024#32
  ![v2148.toNat, 9, 1024]
def k0_off301 (v121 : BitVec 32) : Fin 3 → Nat :=
  let c1_i32_44 : BitVec 32 := 1#32
  let v123 : BitVec 32 := Scalar.andi v121 c1_i32_44
  let v2154 : Index := Scalar.indexCast v123
  let c10_752 : Index := 10#32
  let c1024_753 : Index := 1024#32
  ![v2154.toNat, 10, 1024]
def k0_off302 (v115 : BitVec 32) : Fin 2 → Nat :=
  let v122 : BitVec 32 := v115
  let v2162 : Index := Scalar.indexCast v122
  let c1024_755 : Index := 1024#32
  ![v2162.toNat, 1024]
def k0_off303 (v115 : BitVec 32) : Fin 2 → Nat :=
  let v122 : BitVec 32 := v115
  let v2172 : Index := Scalar.indexCast v122
  let c1152_757 : Index := 1152#32
  ![v2172.toNat, 1152]
def k0_off304 (v121 : BitVec 32) : Fin 3 → Nat :=
  let c1_i32_44 : BitVec 32 := 1#32
  let v123 : BitVec 32 := Scalar.andi v121 c1_i32_44
  let v2182 : Index := Scalar.indexCast v123
  let c0_759 : Index := 0#32
  let c1280_760 : Index := 1280#32
  ![v2182.toNat, 0, 1280]
def k0_off305 (v121 : BitVec 32) : Fin 3 → Nat :=
  let c1_i32_44 : BitVec 32 := 1#32
  let v123 : BitVec 32 := Scalar.andi v121 c1_i32_44
  let v2203 : Index := Scalar.indexCast v123
  let c0_766 : Index := 0#32
  let c1280_767 : Index := 1280#32
  ![v2203.toNat, 0, 1280]
def k0_off306 (v121 : BitVec 32) : Fin 3 → Nat :=
  let c1_i32_44 : BitVec 32 := 1#32
  let v123 : BitVec 32 := Scalar.andi v121 c1_i32_44
  let v2209 : Index := Scalar.indexCast v123
  let c1_768 : Index := 1#32
  let c1280_769 : Index := 1280#32
  ![v2209.toNat, 1, 1280]
def k0_off307 (v121 : BitVec 32) : Fin 3 → Nat :=
  let c1_i32_44 : BitVec 32 := 1#32
  let v123 : BitVec 32 := Scalar.andi v121 c1_i32_44
  let v2215 : Index := Scalar.indexCast v123
  let c2_770 : Index := 2#32
  let c1280_771 : Index := 1280#32
  ![v2215.toNat, 2, 1280]
def k0_off308 (v121 : BitVec 32) : Fin 3 → Nat :=
  let c1_i32_44 : BitVec 32 := 1#32
  let v123 : BitVec 32 := Scalar.andi v121 c1_i32_44
  let v2221 : Index := Scalar.indexCast v123
  let c3_772 : Index := 3#32
  let c1280_773 : Index := 1280#32
  ![v2221.toNat, 3, 1280]
def k0_off309 (v121 : BitVec 32) : Fin 3 → Nat :=
  let c1_i32_44 : BitVec 32 := 1#32
  let v123 : BitVec 32 := Scalar.andi v121 c1_i32_44
  let v2227 : Index := Scalar.indexCast v123
  let c4_774 : Index := 4#32
  let c1280_775 : Index := 1280#32
  ![v2227.toNat, 4, 1280]
def k0_off310 (v121 : BitVec 32) : Fin 3 → Nat :=
  let c1_i32_44 : BitVec 32 := 1#32
  let v123 : BitVec 32 := Scalar.andi v121 c1_i32_44
  let v2233 : Index := Scalar.indexCast v123
  let c5_776 : Index := 5#32
  let c1280_777 : Index := 1280#32
  ![v2233.toNat, 5, 1280]
def k0_off311 (v121 : BitVec 32) : Fin 3 → Nat :=
  let c1_i32_44 : BitVec 32 := 1#32
  let v123 : BitVec 32 := Scalar.andi v121 c1_i32_44
  let v2239 : Index := Scalar.indexCast v123
  let c6_778 : Index := 6#32
  let c1280_779 : Index := 1280#32
  ![v2239.toNat, 6, 1280]
def k0_off312 (v121 : BitVec 32) : Fin 3 → Nat :=
  let c1_i32_44 : BitVec 32 := 1#32
  let v123 : BitVec 32 := Scalar.andi v121 c1_i32_44
  let v2245 : Index := Scalar.indexCast v123
  let c7_780 : Index := 7#32
  let c1280_781 : Index := 1280#32
  ![v2245.toNat, 7, 1280]
def k0_off313 (v121 : BitVec 32) : Fin 3 → Nat :=
  let c1_i32_44 : BitVec 32 := 1#32
  let v123 : BitVec 32 := Scalar.andi v121 c1_i32_44
  let v2251 : Index := Scalar.indexCast v123
  let c8_782 : Index := 8#32
  let c1280_783 : Index := 1280#32
  ![v2251.toNat, 8, 1280]
def k0_off314 (v121 : BitVec 32) : Fin 3 → Nat :=
  let c1_i32_44 : BitVec 32 := 1#32
  let v123 : BitVec 32 := Scalar.andi v121 c1_i32_44
  let v2257 : Index := Scalar.indexCast v123
  let c9_784 : Index := 9#32
  let c1280_785 : Index := 1280#32
  ![v2257.toNat, 9, 1280]
def k0_off315 (v121 : BitVec 32) : Fin 3 → Nat :=
  let c1_i32_44 : BitVec 32 := 1#32
  let v123 : BitVec 32 := Scalar.andi v121 c1_i32_44
  let v2263 : Index := Scalar.indexCast v123
  let c10_786 : Index := 10#32
  let c1280_787 : Index := 1280#32
  ![v2263.toNat, 10, 1280]
def k0_off316 (v115 : BitVec 32) : Fin 2 → Nat :=
  let v122 : BitVec 32 := v115
  let v2271 : Index := Scalar.indexCast v122
  let c1280_789 : Index := 1280#32
  ![v2271.toNat, 1280]
def k0_off317 (v115 : BitVec 32) : Fin 2 → Nat :=
  let v122 : BitVec 32 := v115
  let v2281 : Index := Scalar.indexCast v122
  let c1408_791 : Index := 1408#32
  ![v2281.toNat, 1408]
def k0_off318 (v121 : BitVec 32) : Fin 3 → Nat :=
  let c1_i32_44 : BitVec 32 := 1#32
  let v123 : BitVec 32 := Scalar.andi v121 c1_i32_44
  let v2291 : Index := Scalar.indexCast v123
  let c0_793 : Index := 0#32
  let c1536_794 : Index := 1536#32
  ![v2291.toNat, 0, 1536]
def k0_off319 (v121 : BitVec 32) : Fin 3 → Nat :=
  let c1_i32_44 : BitVec 32 := 1#32
  let v123 : BitVec 32 := Scalar.andi v121 c1_i32_44
  let v2312 : Index := Scalar.indexCast v123
  let c0_800 : Index := 0#32
  let c1536_801 : Index := 1536#32
  ![v2312.toNat, 0, 1536]
def k0_off320 (v121 : BitVec 32) : Fin 3 → Nat :=
  let c1_i32_44 : BitVec 32 := 1#32
  let v123 : BitVec 32 := Scalar.andi v121 c1_i32_44
  let v2318 : Index := Scalar.indexCast v123
  let c1_802 : Index := 1#32
  let c1536_803 : Index := 1536#32
  ![v2318.toNat, 1, 1536]
def k0_off321 (v121 : BitVec 32) : Fin 3 → Nat :=
  let c1_i32_44 : BitVec 32 := 1#32
  let v123 : BitVec 32 := Scalar.andi v121 c1_i32_44
  let v2324 : Index := Scalar.indexCast v123
  let c2_804 : Index := 2#32
  let c1536_805 : Index := 1536#32
  ![v2324.toNat, 2, 1536]
def k0_off322 (v121 : BitVec 32) : Fin 3 → Nat :=
  let c1_i32_44 : BitVec 32 := 1#32
  let v123 : BitVec 32 := Scalar.andi v121 c1_i32_44
  let v2330 : Index := Scalar.indexCast v123
  let c3_806 : Index := 3#32
  let c1536_807 : Index := 1536#32
  ![v2330.toNat, 3, 1536]
def k0_off323 (v121 : BitVec 32) : Fin 3 → Nat :=
  let c1_i32_44 : BitVec 32 := 1#32
  let v123 : BitVec 32 := Scalar.andi v121 c1_i32_44
  let v2336 : Index := Scalar.indexCast v123
  let c4_808 : Index := 4#32
  let c1536_809 : Index := 1536#32
  ![v2336.toNat, 4, 1536]
def k0_off324 (v121 : BitVec 32) : Fin 3 → Nat :=
  let c1_i32_44 : BitVec 32 := 1#32
  let v123 : BitVec 32 := Scalar.andi v121 c1_i32_44
  let v2342 : Index := Scalar.indexCast v123
  let c5_810 : Index := 5#32
  let c1536_811 : Index := 1536#32
  ![v2342.toNat, 5, 1536]
def k0_off325 (v121 : BitVec 32) : Fin 3 → Nat :=
  let c1_i32_44 : BitVec 32 := 1#32
  let v123 : BitVec 32 := Scalar.andi v121 c1_i32_44
  let v2348 : Index := Scalar.indexCast v123
  let c6_812 : Index := 6#32
  let c1536_813 : Index := 1536#32
  ![v2348.toNat, 6, 1536]
def k0_off326 (v121 : BitVec 32) : Fin 3 → Nat :=
  let c1_i32_44 : BitVec 32 := 1#32
  let v123 : BitVec 32 := Scalar.andi v121 c1_i32_44
  let v2354 : Index := Scalar.indexCast v123
  let c7_814 : Index := 7#32
  let c1536_815 : Index := 1536#32
  ![v2354.toNat, 7, 1536]
def k0_off327 (v121 : BitVec 32) : Fin 3 → Nat :=
  let c1_i32_44 : BitVec 32 := 1#32
  let v123 : BitVec 32 := Scalar.andi v121 c1_i32_44
  let v2360 : Index := Scalar.indexCast v123
  let c8_816 : Index := 8#32
  let c1536_817 : Index := 1536#32
  ![v2360.toNat, 8, 1536]
def k0_off328 (v121 : BitVec 32) : Fin 3 → Nat :=
  let c1_i32_44 : BitVec 32 := 1#32
  let v123 : BitVec 32 := Scalar.andi v121 c1_i32_44
  let v2366 : Index := Scalar.indexCast v123
  let c9_818 : Index := 9#32
  let c1536_819 : Index := 1536#32
  ![v2366.toNat, 9, 1536]
def k0_off329 (v121 : BitVec 32) : Fin 3 → Nat :=
  let c1_i32_44 : BitVec 32 := 1#32
  let v123 : BitVec 32 := Scalar.andi v121 c1_i32_44
  let v2372 : Index := Scalar.indexCast v123
  let c10_820 : Index := 10#32
  let c1536_821 : Index := 1536#32
  ![v2372.toNat, 10, 1536]
def k0_off330 (v115 : BitVec 32) : Fin 2 → Nat :=
  let v122 : BitVec 32 := v115
  let v2380 : Index := Scalar.indexCast v122
  let c1536_823 : Index := 1536#32
  ![v2380.toNat, 1536]
def k0_off331 (v115 : BitVec 32) : Fin 2 → Nat :=
  let v122 : BitVec 32 := v115
  let v2390 : Index := Scalar.indexCast v122
  let c1664_825 : Index := 1664#32
  ![v2390.toNat, 1664]
def k0_off332 (v121 : BitVec 32) : Fin 3 → Nat :=
  let c1_i32_44 : BitVec 32 := 1#32
  let v123 : BitVec 32 := Scalar.andi v121 c1_i32_44
  let v2400 : Index := Scalar.indexCast v123
  let c0_827 : Index := 0#32
  let c1792_828 : Index := 1792#32
  ![v2400.toNat, 0, 1792]
def k0_off333 (v121 : BitVec 32) : Fin 3 → Nat :=
  let c1_i32_44 : BitVec 32 := 1#32
  let v123 : BitVec 32 := Scalar.andi v121 c1_i32_44
  let v2421 : Index := Scalar.indexCast v123
  let c0_834 : Index := 0#32
  let c1792_835 : Index := 1792#32
  ![v2421.toNat, 0, 1792]
def k0_off334 (v121 : BitVec 32) : Fin 3 → Nat :=
  let c1_i32_44 : BitVec 32 := 1#32
  let v123 : BitVec 32 := Scalar.andi v121 c1_i32_44
  let v2427 : Index := Scalar.indexCast v123
  let c1_836 : Index := 1#32
  let c1792_837 : Index := 1792#32
  ![v2427.toNat, 1, 1792]
def k0_off335 (v121 : BitVec 32) : Fin 3 → Nat :=
  let c1_i32_44 : BitVec 32 := 1#32
  let v123 : BitVec 32 := Scalar.andi v121 c1_i32_44
  let v2433 : Index := Scalar.indexCast v123
  let c2_838 : Index := 2#32
  let c1792_839 : Index := 1792#32
  ![v2433.toNat, 2, 1792]
def k0_off336 (v121 : BitVec 32) : Fin 3 → Nat :=
  let c1_i32_44 : BitVec 32 := 1#32
  let v123 : BitVec 32 := Scalar.andi v121 c1_i32_44
  let v2439 : Index := Scalar.indexCast v123
  let c3_840 : Index := 3#32
  let c1792_841 : Index := 1792#32
  ![v2439.toNat, 3, 1792]
def k0_off337 (v121 : BitVec 32) : Fin 3 → Nat :=
  let c1_i32_44 : BitVec 32 := 1#32
  let v123 : BitVec 32 := Scalar.andi v121 c1_i32_44
  let v2445 : Index := Scalar.indexCast v123
  let c4_842 : Index := 4#32
  let c1792_843 : Index := 1792#32
  ![v2445.toNat, 4, 1792]
def k0_off338 (v121 : BitVec 32) : Fin 3 → Nat :=
  let c1_i32_44 : BitVec 32 := 1#32
  let v123 : BitVec 32 := Scalar.andi v121 c1_i32_44
  let v2451 : Index := Scalar.indexCast v123
  let c5_844 : Index := 5#32
  let c1792_845 : Index := 1792#32
  ![v2451.toNat, 5, 1792]
def k0_off339 (v121 : BitVec 32) : Fin 3 → Nat :=
  let c1_i32_44 : BitVec 32 := 1#32
  let v123 : BitVec 32 := Scalar.andi v121 c1_i32_44
  let v2457 : Index := Scalar.indexCast v123
  let c6_846 : Index := 6#32
  let c1792_847 : Index := 1792#32
  ![v2457.toNat, 6, 1792]
def k0_off340 (v121 : BitVec 32) : Fin 3 → Nat :=
  let c1_i32_44 : BitVec 32 := 1#32
  let v123 : BitVec 32 := Scalar.andi v121 c1_i32_44
  let v2463 : Index := Scalar.indexCast v123
  let c7_848 : Index := 7#32
  let c1792_849 : Index := 1792#32
  ![v2463.toNat, 7, 1792]
def k0_off341 (v121 : BitVec 32) : Fin 3 → Nat :=
  let c1_i32_44 : BitVec 32 := 1#32
  let v123 : BitVec 32 := Scalar.andi v121 c1_i32_44
  let v2469 : Index := Scalar.indexCast v123
  let c8_850 : Index := 8#32
  let c1792_851 : Index := 1792#32
  ![v2469.toNat, 8, 1792]
def k0_off342 (v121 : BitVec 32) : Fin 3 → Nat :=
  let c1_i32_44 : BitVec 32 := 1#32
  let v123 : BitVec 32 := Scalar.andi v121 c1_i32_44
  let v2475 : Index := Scalar.indexCast v123
  let c9_852 : Index := 9#32
  let c1792_853 : Index := 1792#32
  ![v2475.toNat, 9, 1792]
def k0_off343 (v121 : BitVec 32) : Fin 3 → Nat :=
  let c1_i32_44 : BitVec 32 := 1#32
  let v123 : BitVec 32 := Scalar.andi v121 c1_i32_44
  let v2481 : Index := Scalar.indexCast v123
  let c10_854 : Index := 10#32
  let c1792_855 : Index := 1792#32
  ![v2481.toNat, 10, 1792]

def k0_chk9_0 (v121 : BitVec 32) : Prop :=
  (∀ a, (k0_off46 v121) a + S1x1024x256.size a ≤ S2x1024x2816.size a) ∧
  (∀ a, (k0_off47 v121) a + S1x1x256.size a ≤ S2x16x2816.size a) ∧
  (∀ a, (k0_off48 v121) a + S1x1x256.size a ≤ S2x16x2816.size a) ∧
  (∀ a, (k0_off49 v121) a + S1x1x256.size a ≤ S2x16x2816.size a) ∧
  (∀ a, (k0_off50 v121) a + S1x1x256.size a ≤ S2x16x2816.size a) ∧
  (∀ a, (k0_off51 v121) a + S1x1x256.size a ≤ S2x16x2816.size a) ∧
  (∀ a, (k0_off52 v121) a + S1x1x256.size a ≤ S2x16x2816.size a) ∧
  (∀ a, (k0_off53 v121) a + S1x1x256.size a ≤ S2x16x2816.size a) ∧
  (∀ a, (k0_off54 v121) a + S1x1x256.size a ≤ S2x16x2816.size a) ∧
  (∀ a, (k0_off55 v121) a + S1x1x256.size a ≤ S2x16x2816.size a) ∧
  (∀ a, (k0_off56 v121) a + S1x1x256.size a ≤ S2x16x2816.size a) ∧
  (∀ a, (k0_off57 v121) a + S1x1x256.size a ≤ S2x16x2816.size a) ∧
  (∀ a, (k0_off58 v121) a + S1x1x256.size a ≤ S2x16x2816.size a) ∧
  (∀ a, (k0_off59 v121) a + S1x1x256.size a ≤ S2x16x2816.size a) ∧
  (∀ a, (k0_off60 v121) a + S1x1x256.size a ≤ S2x16x2816.size a) ∧
  (∀ a, (k0_off61 v121) a + S1x1x256.size a ≤ S2x16x2816.size a) ∧
  (∀ a, (k0_off62 v121) a + S1x1x256.size a ≤ S2x16x2816.size a) ∧
  (∀ a, (k0_off63 v121) a + S1x1024x256.size a ≤ S2x1024x2816.size a) ∧
  (∀ a, (k0_off64 v121) a + S1x1x256.size a ≤ S2x16x2816.size a) ∧
  (∀ a, (k0_off65 v121) a + S1x1x256.size a ≤ S2x16x2816.size a) ∧
  (∀ a, (k0_off66 v121) a + S1x1x256.size a ≤ S2x16x2816.size a) ∧
  (∀ a, (k0_off67 v121) a + S1x1x256.size a ≤ S2x16x2816.size a) ∧
  (∀ a, (k0_off68 v121) a + S1x1x256.size a ≤ S2x16x2816.size a) ∧
  (∀ a, (k0_off69 v121) a + S1x1x256.size a ≤ S2x16x2816.size a) ∧
  (∀ a, (k0_off70 v121) a + S1x1x256.size a ≤ S2x16x2816.size a) ∧
  (∀ a, (k0_off71 v121) a + S1x1x256.size a ≤ S2x16x2816.size a) ∧
  (∀ a, (k0_off72 v121) a + S1x1x256.size a ≤ S2x16x2816.size a) ∧
  (∀ a, (k0_off73 v121) a + S1x1x256.size a ≤ S2x16x2816.size a) ∧
  (∀ a, (k0_off74 v121) a + S1x1x256.size a ≤ S2x16x2816.size a) ∧
  (∀ a, (k0_off75 v121) a + S1x1x256.size a ≤ S2x16x2816.size a) ∧
  (∀ a, (k0_off76 v121) a + S1x1x256.size a ≤ S2x16x2816.size a) ∧
  (∀ a, (k0_off77 v121) a + S1x1x256.size a ≤ S2x16x2816.size a)
def k0_chk9_1 (v121 : BitVec 32) : Prop :=
  (∀ a, (k0_off78 v121) a + S1x1x256.size a ≤ S2x16x2816.size a) ∧
  (∀ a, (k0_off79 v121) a + S1x1x256.size a ≤ S2x16x2816.size a) ∧
  (∀ a, (k0_off80 v121) a + S1x1024x256.size a ≤ S2x1024x2816.size a) ∧
  (∀ a, (k0_off81 v121) a + S1x1x256.size a ≤ S2x16x2816.size a) ∧
  (∀ a, (k0_off82 v121) a + S1x1x256.size a ≤ S2x16x2816.size a) ∧
  (∀ a, (k0_off83 v121) a + S1x1x256.size a ≤ S2x16x2816.size a) ∧
  (∀ a, (k0_off84 v121) a + S1x1x256.size a ≤ S2x16x2816.size a) ∧
  (∀ a, (k0_off85 v121) a + S1x1x256.size a ≤ S2x16x2816.size a) ∧
  (∀ a, (k0_off86 v121) a + S1x1x256.size a ≤ S2x16x2816.size a) ∧
  (∀ a, (k0_off87 v121) a + S1x1x256.size a ≤ S2x16x2816.size a) ∧
  (∀ a, (k0_off88 v121) a + S1x1x256.size a ≤ S2x16x2816.size a) ∧
  (∀ a, (k0_off89 v121) a + S1x1x256.size a ≤ S2x16x2816.size a) ∧
  (∀ a, (k0_off90 v121) a + S1x1x256.size a ≤ S2x16x2816.size a) ∧
  (∀ a, (k0_off91 v121) a + S1x1x256.size a ≤ S2x16x2816.size a) ∧
  (∀ a, (k0_off92 v121) a + S1x1x256.size a ≤ S2x16x2816.size a) ∧
  (∀ a, (k0_off93 v121) a + S1x1x256.size a ≤ S2x16x2816.size a) ∧
  (∀ a, (k0_off94 v121) a + S1x1x256.size a ≤ S2x16x2816.size a) ∧
  (∀ a, (k0_off95 v121) a + S1x1x256.size a ≤ S2x16x2816.size a) ∧
  (∀ a, (k0_off96 v121) a + S1x1x256.size a ≤ S2x16x2816.size a) ∧
  (∀ a, (k0_off97 v121) a + S1x1024x256.size a ≤ S2x1024x2816.size a) ∧
  (∀ a, (k0_off98 v121) a + S1x1x256.size a ≤ S2x16x2816.size a) ∧
  (∀ a, (k0_off99 v121) a + S1x1x256.size a ≤ S2x16x2816.size a) ∧
  (∀ a, (k0_off100 v121) a + S1x1x256.size a ≤ S2x16x2816.size a) ∧
  (∀ a, (k0_off101 v121) a + S1x1x256.size a ≤ S2x16x2816.size a) ∧
  (∀ a, (k0_off102 v121) a + S1x1x256.size a ≤ S2x16x2816.size a) ∧
  (∀ a, (k0_off103 v121) a + S1x1x256.size a ≤ S2x16x2816.size a) ∧
  (∀ a, (k0_off104 v121) a + S1x1x256.size a ≤ S2x16x2816.size a) ∧
  (∀ a, (k0_off105 v121) a + S1x1x256.size a ≤ S2x16x2816.size a) ∧
  (∀ a, (k0_off106 v121) a + S1x1x256.size a ≤ S2x16x2816.size a) ∧
  (∀ a, (k0_off107 v121) a + S1x1x256.size a ≤ S2x16x2816.size a) ∧
  (∀ a, (k0_off108 v121) a + S1x1x256.size a ≤ S2x16x2816.size a) ∧
  (∀ a, (k0_off109 v121) a + S1x1x256.size a ≤ S2x16x2816.size a)
def k0_chk9_2 (v121 : BitVec 32) : Prop :=
  (∀ a, (k0_off110 v121) a + S1x1x256.size a ≤ S2x16x2816.size a) ∧
  (∀ a, (k0_off111 v121) a + S1x1x256.size a ≤ S2x16x2816.size a) ∧
  (∀ a, (k0_off112 v121) a + S1x1x256.size a ≤ S2x16x2816.size a) ∧
  (∀ a, (k0_off113 v121) a + S1x1x256.size a ≤ S2x16x2816.size a) ∧
  (∀ a, (k0_off114 v121) a + S1x1024x256.size a ≤ S2x1024x2816.size a) ∧
  (∀ a, (k0_off115 v121) a + S1x1x256.size a ≤ S2x16x2816.size a) ∧
  (∀ a, (k0_off116 v121) a + S1x1x256.size a ≤ S2x16x2816.size a) ∧
  (∀ a, (k0_off117 v121) a + S1x1x256.size a ≤ S2x16x2816.size a) ∧
  (∀ a, (k0_off118 v121) a + S1x1x256.size a ≤ S2x16x2816.size a) ∧
  (∀ a, (k0_off119 v121) a + S1x1x256.size a ≤ S2x16x2816.size a) ∧
  (∀ a, (k0_off120 v121) a + S1x1x256.size a ≤ S2x16x2816.size a) ∧
  (∀ a, (k0_off121 v121) a + S1x1x256.size a ≤ S2x16x2816.size a) ∧
  (∀ a, (k0_off122 v121) a + S1x1x256.size a ≤ S2x16x2816.size a) ∧
  (∀ a, (k0_off123 v121) a + S1x1x256.size a ≤ S2x16x2816.size a) ∧
  (∀ a, (k0_off124 v121) a + S1x1x256.size a ≤ S2x16x2816.size a) ∧
  (∀ a, (k0_off125 v121) a + S1x1x256.size a ≤ S2x16x2816.size a) ∧
  (∀ a, (k0_off126 v121) a + S1x1x256.size a ≤ S2x16x2816.size a) ∧
  (∀ a, (k0_off127 v121) a + S1x1x256.size a ≤ S2x16x2816.size a) ∧
  (∀ a, (k0_off128 v121) a + S1x1x256.size a ≤ S2x16x2816.size a) ∧
  (∀ a, (k0_off129 v121) a + S1x1x256.size a ≤ S2x16x2816.size a) ∧
  (∀ a, (k0_off130 v121) a + S1x1x256.size a ≤ S2x16x2816.size a) ∧
  (∀ a, (k0_off131 v121) a + S1x1024x256.size a ≤ S2x1024x2816.size a) ∧
  (∀ a, (k0_off132 v121) a + S1x1x256.size a ≤ S2x16x2816.size a) ∧
  (∀ a, (k0_off133 v121) a + S1x1x256.size a ≤ S2x16x2816.size a) ∧
  (∀ a, (k0_off134 v121) a + S1x1x256.size a ≤ S2x16x2816.size a) ∧
  (∀ a, (k0_off135 v121) a + S1x1x256.size a ≤ S2x16x2816.size a) ∧
  (∀ a, (k0_off136 v121) a + S1x1x256.size a ≤ S2x16x2816.size a) ∧
  (∀ a, (k0_off137 v121) a + S1x1x256.size a ≤ S2x16x2816.size a) ∧
  (∀ a, (k0_off138 v121) a + S1x1x256.size a ≤ S2x16x2816.size a) ∧
  (∀ a, (k0_off139 v121) a + S1x1x256.size a ≤ S2x16x2816.size a) ∧
  (∀ a, (k0_off140 v121) a + S1x1x256.size a ≤ S2x16x2816.size a) ∧
  (∀ a, (k0_off141 v121) a + S1x1x256.size a ≤ S2x16x2816.size a)
def k0_chk9_3 (v121 : BitVec 32) : Prop :=
  (∀ a, (k0_off142 v121) a + S1x1x256.size a ≤ S2x16x2816.size a) ∧
  (∀ a, (k0_off143 v121) a + S1x1x256.size a ≤ S2x16x2816.size a) ∧
  (∀ a, (k0_off144 v121) a + S1x1x256.size a ≤ S2x16x2816.size a) ∧
  (∀ a, (k0_off145 v121) a + S1x1x256.size a ≤ S2x16x2816.size a) ∧
  (∀ a, (k0_off146 v121) a + S1x1x256.size a ≤ S2x16x2816.size a) ∧
  (∀ a, (k0_off147 v121) a + S1x1x256.size a ≤ S2x16x2816.size a) ∧
  (∀ a, (k0_off148 v121) a + S1x1024x256.size a ≤ S2x1024x2816.size a) ∧
  (∀ a, (k0_off149 v121) a + S1x1x256.size a ≤ S2x16x2816.size a) ∧
  (∀ a, (k0_off150 v121) a + S1x1x256.size a ≤ S2x16x2816.size a) ∧
  (∀ a, (k0_off151 v121) a + S1x1x256.size a ≤ S2x16x2816.size a) ∧
  (∀ a, (k0_off152 v121) a + S1x1x256.size a ≤ S2x16x2816.size a) ∧
  (∀ a, (k0_off153 v121) a + S1x1x256.size a ≤ S2x16x2816.size a) ∧
  (∀ a, (k0_off154 v121) a + S1x1x256.size a ≤ S2x16x2816.size a) ∧
  (∀ a, (k0_off155 v121) a + S1x1x256.size a ≤ S2x16x2816.size a) ∧
  (∀ a, (k0_off156 v121) a + S1x1x256.size a ≤ S2x16x2816.size a) ∧
  (∀ a, (k0_off157 v121) a + S1x1x256.size a ≤ S2x16x2816.size a) ∧
  (∀ a, (k0_off158 v121) a + S1x1x256.size a ≤ S2x16x2816.size a) ∧
  (∀ a, (k0_off159 v121) a + S1x1x256.size a ≤ S2x16x2816.size a) ∧
  (∀ a, (k0_off160 v121) a + S1x1x256.size a ≤ S2x16x2816.size a) ∧
  (∀ a, (k0_off161 v121) a + S1x1x256.size a ≤ S2x16x2816.size a) ∧
  (∀ a, (k0_off162 v121) a + S1x1x256.size a ≤ S2x16x2816.size a) ∧
  (∀ a, (k0_off163 v121) a + S1x1x256.size a ≤ S2x16x2816.size a) ∧
  (∀ a, (k0_off164 v121) a + S1x1x256.size a ≤ S2x16x2816.size a) ∧
  (∀ a, (k0_off165 v121) a + S1x1024x256.size a ≤ S2x1024x2816.size a) ∧
  (∀ a, (k0_off166 v121) a + S1x1x256.size a ≤ S2x16x2816.size a) ∧
  (∀ a, (k0_off167 v121) a + S1x1x256.size a ≤ S2x16x2816.size a) ∧
  (∀ a, (k0_off168 v121) a + S1x1x256.size a ≤ S2x16x2816.size a) ∧
  (∀ a, (k0_off169 v121) a + S1x1x256.size a ≤ S2x16x2816.size a) ∧
  (∀ a, (k0_off170 v121) a + S1x1x256.size a ≤ S2x16x2816.size a) ∧
  (∀ a, (k0_off171 v121) a + S1x1x256.size a ≤ S2x16x2816.size a) ∧
  (∀ a, (k0_off172 v121) a + S1x1x256.size a ≤ S2x16x2816.size a) ∧
  (∀ a, (k0_off173 v121) a + S1x1x256.size a ≤ S2x16x2816.size a)
def k0_chk9_4 (v121 : BitVec 32) : Prop :=
  (∀ a, (k0_off174 v121) a + S1x1x256.size a ≤ S2x16x2816.size a) ∧
  (∀ a, (k0_off175 v121) a + S1x1x256.size a ≤ S2x16x2816.size a) ∧
  (∀ a, (k0_off176 v121) a + S1x1x256.size a ≤ S2x16x2816.size a) ∧
  (∀ a, (k0_off177 v121) a + S1x1x256.size a ≤ S2x16x2816.size a) ∧
  (∀ a, (k0_off178 v121) a + S1x1x256.size a ≤ S2x16x2816.size a) ∧
  (∀ a, (k0_off179 v121) a + S1x1x256.size a ≤ S2x16x2816.size a) ∧
  (∀ a, (k0_off180 v121) a + S1x1x256.size a ≤ S2x16x2816.size a) ∧
  (∀ a, (k0_off181 v121) a + S1x1x256.size a ≤ S2x16x2816.size a) ∧
  (∀ a, (k0_off182 v121) a + S1x1024x256.size a ≤ S2x1024x2816.size a) ∧
  (∀ a, (k0_off183 v121) a + S1x1x256.size a ≤ S2x16x2816.size a) ∧
  (∀ a, (k0_off184 v121) a + S1x1x256.size a ≤ S2x16x2816.size a) ∧
  (∀ a, (k0_off185 v121) a + S1x1x256.size a ≤ S2x16x2816.size a) ∧
  (∀ a, (k0_off186 v121) a + S1x1x256.size a ≤ S2x16x2816.size a) ∧
  (∀ a, (k0_off187 v121) a + S1x1x256.size a ≤ S2x16x2816.size a) ∧
  (∀ a, (k0_off188 v121) a + S1x1x256.size a ≤ S2x16x2816.size a) ∧
  (∀ a, (k0_off189 v121) a + S1x1x256.size a ≤ S2x16x2816.size a) ∧
  (∀ a, (k0_off190 v121) a + S1x1x256.size a ≤ S2x16x2816.size a) ∧
  (∀ a, (k0_off191 v121) a + S1x1x256.size a ≤ S2x16x2816.size a) ∧
  (∀ a, (k0_off192 v121) a + S1x1x256.size a ≤ S2x16x2816.size a) ∧
  (∀ a, (k0_off193 v121) a + S1x1x256.size a ≤ S2x16x2816.size a) ∧
  (∀ a, (k0_off194 v121) a + S1x1x256.size a ≤ S2x16x2816.size a) ∧
  (∀ a, (k0_off195 v121) a + S1x1x256.size a ≤ S2x16x2816.size a) ∧
  (∀ a, (k0_off196 v121) a + S1x1x256.size a ≤ S2x16x2816.size a) ∧
  (∀ a, (k0_off197 v121) a + S1x1x256.size a ≤ S2x16x2816.size a) ∧
  (∀ a, (k0_off198 v121) a + S1x1x256.size a ≤ S2x16x2816.size a) ∧
  (∀ a, (k0_off199 v121) a + S1x1024x256.size a ≤ S2x1024x2816.size a) ∧
  (∀ a, (k0_off200 v121) a + S1x1x256.size a ≤ S2x16x2816.size a) ∧
  (∀ a, (k0_off201 v121) a + S1x1x256.size a ≤ S2x16x2816.size a) ∧
  (∀ a, (k0_off202 v121) a + S1x1x256.size a ≤ S2x16x2816.size a) ∧
  (∀ a, (k0_off203 v121) a + S1x1x256.size a ≤ S2x16x2816.size a) ∧
  (∀ a, (k0_off204 v121) a + S1x1x256.size a ≤ S2x16x2816.size a) ∧
  (∀ a, (k0_off205 v121) a + S1x1x256.size a ≤ S2x16x2816.size a)
def k0_chk9_5 (v121 : BitVec 32) : Prop :=
  (∀ a, (k0_off206 v121) a + S1x1x256.size a ≤ S2x16x2816.size a) ∧
  (∀ a, (k0_off207 v121) a + S1x1x256.size a ≤ S2x16x2816.size a) ∧
  (∀ a, (k0_off208 v121) a + S1x1x256.size a ≤ S2x16x2816.size a) ∧
  (∀ a, (k0_off209 v121) a + S1x1x256.size a ≤ S2x16x2816.size a) ∧
  (∀ a, (k0_off210 v121) a + S1x1x256.size a ≤ S2x16x2816.size a) ∧
  (∀ a, (k0_off211 v121) a + S1x1x256.size a ≤ S2x16x2816.size a) ∧
  (∀ a, (k0_off212 v121) a + S1x1x256.size a ≤ S2x16x2816.size a) ∧
  (∀ a, (k0_off213 v121) a + S1x1x256.size a ≤ S2x16x2816.size a) ∧
  (∀ a, (k0_off214 v121) a + S1x1x256.size a ≤ S2x16x2816.size a) ∧
  (∀ a, (k0_off215 v121) a + S1x1x256.size a ≤ S2x16x2816.size a) ∧
  (∀ a, (k0_off216 v121) a + S1x1024x256.size a ≤ S2x1024x2816.size a) ∧
  (∀ a, (k0_off217 v121) a + S1x1x256.size a ≤ S2x16x2816.size a) ∧
  (∀ a, (k0_off218 v121) a + S1x1x256.size a ≤ S2x16x2816.size a) ∧
  (∀ a, (k0_off219 v121) a + S1x1x256.size a ≤ S2x16x2816.size a) ∧
  (∀ a, (k0_off220 v121) a + S1x1x256.size a ≤ S2x16x2816.size a) ∧
  (∀ a, (k0_off221 v121) a + S1x1x256.size a ≤ S2x16x2816.size a) ∧
  (∀ a, (k0_off222 v121) a + S1x1x256.size a ≤ S2x16x2816.size a) ∧
  (∀ a, (k0_off223 v121) a + S1x1x256.size a ≤ S2x16x2816.size a) ∧
  (∀ a, (k0_off224 v121) a + S1x1x256.size a ≤ S2x16x2816.size a) ∧
  (∀ a, (k0_off225 v121) a + S1x1x256.size a ≤ S2x16x2816.size a) ∧
  (∀ a, (k0_off226 v121) a + S1x1x256.size a ≤ S2x16x2816.size a) ∧
  (∀ a, (k0_off227 v121) a + S1x1x256.size a ≤ S2x16x2816.size a) ∧
  (∀ a, (k0_off228 v121) a + S1x1x256.size a ≤ S2x16x2816.size a) ∧
  (∀ a, (k0_off229 v121) a + S1x1x256.size a ≤ S2x16x2816.size a) ∧
  (∀ a, (k0_off230 v121) a + S1x1x256.size a ≤ S2x16x2816.size a) ∧
  (∀ a, (k0_off231 v121) a + S1x1x256.size a ≤ S2x16x2816.size a) ∧
  (∀ a, (k0_off232 v121) a + S1x1x256.size a ≤ S2x16x2816.size a) ∧
  (∀ a, (k0_off234 v121) a + S1x704x256.size a ≤ S2x704x2048.size a) ∧
  (∀ a, (k0_off235 v121) a + S1x1x256.size a ≤ S2x11x2048.size a) ∧
  (∀ a, (k0_off236 v121) a + S1x1x256.size a ≤ S2x11x2048.size a) ∧
  (∀ a, (k0_off237 v121) a + S1x1x256.size a ≤ S2x11x2048.size a) ∧
  (∀ a, (k0_off238 v121) a + S1x1x256.size a ≤ S2x11x2048.size a)
def k0_chk9_6 (v121 : BitVec 32) : Prop :=
  (∀ a, (k0_off239 v121) a + S1x1x256.size a ≤ S2x11x2048.size a) ∧
  (∀ a, (k0_off240 v121) a + S1x1x256.size a ≤ S2x11x2048.size a) ∧
  (∀ a, (k0_off241 v121) a + S1x1x256.size a ≤ S2x11x2048.size a) ∧
  (∀ a, (k0_off242 v121) a + S1x1x256.size a ≤ S2x11x2048.size a) ∧
  (∀ a, (k0_off243 v121) a + S1x1x256.size a ≤ S2x11x2048.size a) ∧
  (∀ a, (k0_off244 v121) a + S1x1x256.size a ≤ S2x11x2048.size a) ∧
  (∀ a, (k0_off245 v121) a + S1x1x256.size a ≤ S2x11x2048.size a) ∧
  (∀ a, (k0_off248 v121) a + S1x704x256.size a ≤ S2x704x2048.size a) ∧
  (∀ a, (k0_off249 v121) a + S1x1x256.size a ≤ S2x11x2048.size a) ∧
  (∀ a, (k0_off250 v121) a + S1x1x256.size a ≤ S2x11x2048.size a) ∧
  (∀ a, (k0_off251 v121) a + S1x1x256.size a ≤ S2x11x2048.size a) ∧
  (∀ a, (k0_off252 v121) a + S1x1x256.size a ≤ S2x11x2048.size a) ∧
  (∀ a, (k0_off253 v121) a + S1x1x256.size a ≤ S2x11x2048.size a) ∧
  (∀ a, (k0_off254 v121) a + S1x1x256.size a ≤ S2x11x2048.size a) ∧
  (∀ a, (k0_off255 v121) a + S1x1x256.size a ≤ S2x11x2048.size a) ∧
  (∀ a, (k0_off256 v121) a + S1x1x256.size a ≤ S2x11x2048.size a) ∧
  (∀ a, (k0_off257 v121) a + S1x1x256.size a ≤ S2x11x2048.size a) ∧
  (∀ a, (k0_off258 v121) a + S1x1x256.size a ≤ S2x11x2048.size a) ∧
  (∀ a, (k0_off259 v121) a + S1x1x256.size a ≤ S2x11x2048.size a) ∧
  (∀ a, (k0_off262 v121) a + S1x704x256.size a ≤ S2x704x2048.size a) ∧
  (∀ a, (k0_off263 v121) a + S1x1x256.size a ≤ S2x11x2048.size a) ∧
  (∀ a, (k0_off264 v121) a + S1x1x256.size a ≤ S2x11x2048.size a) ∧
  (∀ a, (k0_off265 v121) a + S1x1x256.size a ≤ S2x11x2048.size a) ∧
  (∀ a, (k0_off266 v121) a + S1x1x256.size a ≤ S2x11x2048.size a) ∧
  (∀ a, (k0_off267 v121) a + S1x1x256.size a ≤ S2x11x2048.size a) ∧
  (∀ a, (k0_off268 v121) a + S1x1x256.size a ≤ S2x11x2048.size a) ∧
  (∀ a, (k0_off269 v121) a + S1x1x256.size a ≤ S2x11x2048.size a) ∧
  (∀ a, (k0_off270 v121) a + S1x1x256.size a ≤ S2x11x2048.size a) ∧
  (∀ a, (k0_off271 v121) a + S1x1x256.size a ≤ S2x11x2048.size a) ∧
  (∀ a, (k0_off272 v121) a + S1x1x256.size a ≤ S2x11x2048.size a) ∧
  (∀ a, (k0_off273 v121) a + S1x1x256.size a ≤ S2x11x2048.size a) ∧
  (∀ a, (k0_off276 v121) a + S1x704x256.size a ≤ S2x704x2048.size a)
def k0_chk9_7 (v121 : BitVec 32) : Prop :=
  (∀ a, (k0_off277 v121) a + S1x1x256.size a ≤ S2x11x2048.size a) ∧
  (∀ a, (k0_off278 v121) a + S1x1x256.size a ≤ S2x11x2048.size a) ∧
  (∀ a, (k0_off279 v121) a + S1x1x256.size a ≤ S2x11x2048.size a) ∧
  (∀ a, (k0_off280 v121) a + S1x1x256.size a ≤ S2x11x2048.size a) ∧
  (∀ a, (k0_off281 v121) a + S1x1x256.size a ≤ S2x11x2048.size a) ∧
  (∀ a, (k0_off282 v121) a + S1x1x256.size a ≤ S2x11x2048.size a) ∧
  (∀ a, (k0_off283 v121) a + S1x1x256.size a ≤ S2x11x2048.size a) ∧
  (∀ a, (k0_off284 v121) a + S1x1x256.size a ≤ S2x11x2048.size a) ∧
  (∀ a, (k0_off285 v121) a + S1x1x256.size a ≤ S2x11x2048.size a) ∧
  (∀ a, (k0_off286 v121) a + S1x1x256.size a ≤ S2x11x2048.size a) ∧
  (∀ a, (k0_off287 v121) a + S1x1x256.size a ≤ S2x11x2048.size a) ∧
  (∀ a, (k0_off290 v121) a + S1x704x256.size a ≤ S2x704x2048.size a) ∧
  (∀ a, (k0_off291 v121) a + S1x1x256.size a ≤ S2x11x2048.size a) ∧
  (∀ a, (k0_off292 v121) a + S1x1x256.size a ≤ S2x11x2048.size a) ∧
  (∀ a, (k0_off293 v121) a + S1x1x256.size a ≤ S2x11x2048.size a) ∧
  (∀ a, (k0_off294 v121) a + S1x1x256.size a ≤ S2x11x2048.size a) ∧
  (∀ a, (k0_off295 v121) a + S1x1x256.size a ≤ S2x11x2048.size a) ∧
  (∀ a, (k0_off296 v121) a + S1x1x256.size a ≤ S2x11x2048.size a) ∧
  (∀ a, (k0_off297 v121) a + S1x1x256.size a ≤ S2x11x2048.size a) ∧
  (∀ a, (k0_off298 v121) a + S1x1x256.size a ≤ S2x11x2048.size a) ∧
  (∀ a, (k0_off299 v121) a + S1x1x256.size a ≤ S2x11x2048.size a) ∧
  (∀ a, (k0_off300 v121) a + S1x1x256.size a ≤ S2x11x2048.size a) ∧
  (∀ a, (k0_off301 v121) a + S1x1x256.size a ≤ S2x11x2048.size a) ∧
  (∀ a, (k0_off304 v121) a + S1x704x256.size a ≤ S2x704x2048.size a) ∧
  (∀ a, (k0_off305 v121) a + S1x1x256.size a ≤ S2x11x2048.size a) ∧
  (∀ a, (k0_off306 v121) a + S1x1x256.size a ≤ S2x11x2048.size a) ∧
  (∀ a, (k0_off307 v121) a + S1x1x256.size a ≤ S2x11x2048.size a) ∧
  (∀ a, (k0_off308 v121) a + S1x1x256.size a ≤ S2x11x2048.size a) ∧
  (∀ a, (k0_off309 v121) a + S1x1x256.size a ≤ S2x11x2048.size a) ∧
  (∀ a, (k0_off310 v121) a + S1x1x256.size a ≤ S2x11x2048.size a) ∧
  (∀ a, (k0_off311 v121) a + S1x1x256.size a ≤ S2x11x2048.size a) ∧
  (∀ a, (k0_off312 v121) a + S1x1x256.size a ≤ S2x11x2048.size a)
def k0_chk9_8 (v121 : BitVec 32) : Prop :=
  (∀ a, (k0_off313 v121) a + S1x1x256.size a ≤ S2x11x2048.size a) ∧
  (∀ a, (k0_off314 v121) a + S1x1x256.size a ≤ S2x11x2048.size a) ∧
  (∀ a, (k0_off315 v121) a + S1x1x256.size a ≤ S2x11x2048.size a) ∧
  (∀ a, (k0_off318 v121) a + S1x704x256.size a ≤ S2x704x2048.size a) ∧
  (∀ a, (k0_off319 v121) a + S1x1x256.size a ≤ S2x11x2048.size a) ∧
  (∀ a, (k0_off320 v121) a + S1x1x256.size a ≤ S2x11x2048.size a) ∧
  (∀ a, (k0_off321 v121) a + S1x1x256.size a ≤ S2x11x2048.size a) ∧
  (∀ a, (k0_off322 v121) a + S1x1x256.size a ≤ S2x11x2048.size a) ∧
  (∀ a, (k0_off323 v121) a + S1x1x256.size a ≤ S2x11x2048.size a) ∧
  (∀ a, (k0_off324 v121) a + S1x1x256.size a ≤ S2x11x2048.size a) ∧
  (∀ a, (k0_off325 v121) a + S1x1x256.size a ≤ S2x11x2048.size a) ∧
  (∀ a, (k0_off326 v121) a + S1x1x256.size a ≤ S2x11x2048.size a) ∧
  (∀ a, (k0_off327 v121) a + S1x1x256.size a ≤ S2x11x2048.size a) ∧
  (∀ a, (k0_off328 v121) a + S1x1x256.size a ≤ S2x11x2048.size a) ∧
  (∀ a, (k0_off329 v121) a + S1x1x256.size a ≤ S2x11x2048.size a) ∧
  (∀ a, (k0_off332 v121) a + S1x704x256.size a ≤ S2x704x2048.size a) ∧
  (∀ a, (k0_off333 v121) a + S1x1x256.size a ≤ S2x11x2048.size a) ∧
  (∀ a, (k0_off334 v121) a + S1x1x256.size a ≤ S2x11x2048.size a) ∧
  (∀ a, (k0_off335 v121) a + S1x1x256.size a ≤ S2x11x2048.size a) ∧
  (∀ a, (k0_off336 v121) a + S1x1x256.size a ≤ S2x11x2048.size a) ∧
  (∀ a, (k0_off337 v121) a + S1x1x256.size a ≤ S2x11x2048.size a) ∧
  (∀ a, (k0_off338 v121) a + S1x1x256.size a ≤ S2x11x2048.size a) ∧
  (∀ a, (k0_off339 v121) a + S1x1x256.size a ≤ S2x11x2048.size a) ∧
  (∀ a, (k0_off340 v121) a + S1x1x256.size a ≤ S2x11x2048.size a) ∧
  (∀ a, (k0_off341 v121) a + S1x1x256.size a ≤ S2x11x2048.size a) ∧
  (∀ a, (k0_off342 v121) a + S1x1x256.size a ≤ S2x11x2048.size a) ∧
  (∀ a, (k0_off343 v121) a + S1x1x256.size a ≤ S2x11x2048.size a)
def k0_chk9 (v121 : BitVec 32) : Prop :=
  k0_chk9_0 v121 ∧
  k0_chk9_1 v121 ∧
  k0_chk9_2 v121 ∧
  k0_chk9_3 v121 ∧
  k0_chk9_4 v121 ∧
  k0_chk9_5 v121 ∧
  k0_chk9_6 v121 ∧
  k0_chk9_7 v121 ∧
  k0_chk9_8 v121
theorem k0_off46_inb : ∀ (v121 : BitVec 32) (k0_hw9 : k0_chk9 v121), ∀ a, (k0_off46 v121) a + S1x1024x256.size a ≤ S2x1024x2816.size a := fun v121 k0_hw9 => k0_hw9.1.1
theorem k0_off47_inb : ∀ (v121 : BitVec 32) (k0_hw9 : k0_chk9 v121), ∀ a, (k0_off47 v121) a + S1x1x256.size a ≤ S2x16x2816.size a := fun v121 k0_hw9 => k0_hw9.1.2.1
theorem k0_off48_inb : ∀ (v121 : BitVec 32) (k0_hw9 : k0_chk9 v121), ∀ a, (k0_off48 v121) a + S1x1x256.size a ≤ S2x16x2816.size a := fun v121 k0_hw9 => k0_hw9.1.2.2.1
theorem k0_off49_inb : ∀ (v121 : BitVec 32) (k0_hw9 : k0_chk9 v121), ∀ a, (k0_off49 v121) a + S1x1x256.size a ≤ S2x16x2816.size a := fun v121 k0_hw9 => k0_hw9.1.2.2.2.1
theorem k0_off50_inb : ∀ (v121 : BitVec 32) (k0_hw9 : k0_chk9 v121), ∀ a, (k0_off50 v121) a + S1x1x256.size a ≤ S2x16x2816.size a := fun v121 k0_hw9 => k0_hw9.1.2.2.2.2.1
theorem k0_off51_inb : ∀ (v121 : BitVec 32) (k0_hw9 : k0_chk9 v121), ∀ a, (k0_off51 v121) a + S1x1x256.size a ≤ S2x16x2816.size a := fun v121 k0_hw9 => k0_hw9.1.2.2.2.2.2.1
theorem k0_off52_inb : ∀ (v121 : BitVec 32) (k0_hw9 : k0_chk9 v121), ∀ a, (k0_off52 v121) a + S1x1x256.size a ≤ S2x16x2816.size a := fun v121 k0_hw9 => k0_hw9.1.2.2.2.2.2.2.1
theorem k0_off53_inb : ∀ (v121 : BitVec 32) (k0_hw9 : k0_chk9 v121), ∀ a, (k0_off53 v121) a + S1x1x256.size a ≤ S2x16x2816.size a := fun v121 k0_hw9 => k0_hw9.1.2.2.2.2.2.2.2.1
theorem k0_off54_inb : ∀ (v121 : BitVec 32) (k0_hw9 : k0_chk9 v121), ∀ a, (k0_off54 v121) a + S1x1x256.size a ≤ S2x16x2816.size a := fun v121 k0_hw9 => k0_hw9.1.2.2.2.2.2.2.2.2.1
theorem k0_off55_inb : ∀ (v121 : BitVec 32) (k0_hw9 : k0_chk9 v121), ∀ a, (k0_off55 v121) a + S1x1x256.size a ≤ S2x16x2816.size a := fun v121 k0_hw9 => k0_hw9.1.2.2.2.2.2.2.2.2.2.1
theorem k0_off56_inb : ∀ (v121 : BitVec 32) (k0_hw9 : k0_chk9 v121), ∀ a, (k0_off56 v121) a + S1x1x256.size a ≤ S2x16x2816.size a := fun v121 k0_hw9 => k0_hw9.1.2.2.2.2.2.2.2.2.2.2.1
theorem k0_off57_inb : ∀ (v121 : BitVec 32) (k0_hw9 : k0_chk9 v121), ∀ a, (k0_off57 v121) a + S1x1x256.size a ≤ S2x16x2816.size a := fun v121 k0_hw9 => k0_hw9.1.2.2.2.2.2.2.2.2.2.2.2.1
theorem k0_off58_inb : ∀ (v121 : BitVec 32) (k0_hw9 : k0_chk9 v121), ∀ a, (k0_off58 v121) a + S1x1x256.size a ≤ S2x16x2816.size a := fun v121 k0_hw9 => k0_hw9.1.2.2.2.2.2.2.2.2.2.2.2.2.1
theorem k0_off59_inb : ∀ (v121 : BitVec 32) (k0_hw9 : k0_chk9 v121), ∀ a, (k0_off59 v121) a + S1x1x256.size a ≤ S2x16x2816.size a := fun v121 k0_hw9 => k0_hw9.1.2.2.2.2.2.2.2.2.2.2.2.2.2.1
theorem k0_off60_inb : ∀ (v121 : BitVec 32) (k0_hw9 : k0_chk9 v121), ∀ a, (k0_off60 v121) a + S1x1x256.size a ≤ S2x16x2816.size a := fun v121 k0_hw9 => k0_hw9.1.2.2.2.2.2.2.2.2.2.2.2.2.2.2.1
theorem k0_off61_inb : ∀ (v121 : BitVec 32) (k0_hw9 : k0_chk9 v121), ∀ a, (k0_off61 v121) a + S1x1x256.size a ≤ S2x16x2816.size a := fun v121 k0_hw9 => k0_hw9.1.2.2.2.2.2.2.2.2.2.2.2.2.2.2.2.1
theorem k0_off62_inb : ∀ (v121 : BitVec 32) (k0_hw9 : k0_chk9 v121), ∀ a, (k0_off62 v121) a + S1x1x256.size a ≤ S2x16x2816.size a := fun v121 k0_hw9 => k0_hw9.1.2.2.2.2.2.2.2.2.2.2.2.2.2.2.2.2.1
theorem k0_off63_inb : ∀ (v121 : BitVec 32) (k0_hw9 : k0_chk9 v121), ∀ a, (k0_off63 v121) a + S1x1024x256.size a ≤ S2x1024x2816.size a := fun v121 k0_hw9 => k0_hw9.1.2.2.2.2.2.2.2.2.2.2.2.2.2.2.2.2.2.1
theorem k0_off64_inb : ∀ (v121 : BitVec 32) (k0_hw9 : k0_chk9 v121), ∀ a, (k0_off64 v121) a + S1x1x256.size a ≤ S2x16x2816.size a := fun v121 k0_hw9 => k0_hw9.1.2.2.2.2.2.2.2.2.2.2.2.2.2.2.2.2.2.2.1
theorem k0_off65_inb : ∀ (v121 : BitVec 32) (k0_hw9 : k0_chk9 v121), ∀ a, (k0_off65 v121) a + S1x1x256.size a ≤ S2x16x2816.size a := fun v121 k0_hw9 => k0_hw9.1.2.2.2.2.2.2.2.2.2.2.2.2.2.2.2.2.2.2.2.1
theorem k0_off66_inb : ∀ (v121 : BitVec 32) (k0_hw9 : k0_chk9 v121), ∀ a, (k0_off66 v121) a + S1x1x256.size a ≤ S2x16x2816.size a := fun v121 k0_hw9 => k0_hw9.1.2.2.2.2.2.2.2.2.2.2.2.2.2.2.2.2.2.2.2.2.1
theorem k0_off67_inb : ∀ (v121 : BitVec 32) (k0_hw9 : k0_chk9 v121), ∀ a, (k0_off67 v121) a + S1x1x256.size a ≤ S2x16x2816.size a := fun v121 k0_hw9 => k0_hw9.1.2.2.2.2.2.2.2.2.2.2.2.2.2.2.2.2.2.2.2.2.2.1
theorem k0_off68_inb : ∀ (v121 : BitVec 32) (k0_hw9 : k0_chk9 v121), ∀ a, (k0_off68 v121) a + S1x1x256.size a ≤ S2x16x2816.size a := fun v121 k0_hw9 => k0_hw9.1.2.2.2.2.2.2.2.2.2.2.2.2.2.2.2.2.2.2.2.2.2.2.1
theorem k0_off69_inb : ∀ (v121 : BitVec 32) (k0_hw9 : k0_chk9 v121), ∀ a, (k0_off69 v121) a + S1x1x256.size a ≤ S2x16x2816.size a := fun v121 k0_hw9 => k0_hw9.1.2.2.2.2.2.2.2.2.2.2.2.2.2.2.2.2.2.2.2.2.2.2.2.1
theorem k0_off70_inb : ∀ (v121 : BitVec 32) (k0_hw9 : k0_chk9 v121), ∀ a, (k0_off70 v121) a + S1x1x256.size a ≤ S2x16x2816.size a := fun v121 k0_hw9 => k0_hw9.1.2.2.2.2.2.2.2.2.2.2.2.2.2.2.2.2.2.2.2.2.2.2.2.2.1
theorem k0_off71_inb : ∀ (v121 : BitVec 32) (k0_hw9 : k0_chk9 v121), ∀ a, (k0_off71 v121) a + S1x1x256.size a ≤ S2x16x2816.size a := fun v121 k0_hw9 => k0_hw9.1.2.2.2.2.2.2.2.2.2.2.2.2.2.2.2.2.2.2.2.2.2.2.2.2.2.1
theorem k0_off72_inb : ∀ (v121 : BitVec 32) (k0_hw9 : k0_chk9 v121), ∀ a, (k0_off72 v121) a + S1x1x256.size a ≤ S2x16x2816.size a := fun v121 k0_hw9 => k0_hw9.1.2.2.2.2.2.2.2.2.2.2.2.2.2.2.2.2.2.2.2.2.2.2.2.2.2.2.1
theorem k0_off73_inb : ∀ (v121 : BitVec 32) (k0_hw9 : k0_chk9 v121), ∀ a, (k0_off73 v121) a + S1x1x256.size a ≤ S2x16x2816.size a := fun v121 k0_hw9 => k0_hw9.1.2.2.2.2.2.2.2.2.2.2.2.2.2.2.2.2.2.2.2.2.2.2.2.2.2.2.2.1
theorem k0_off74_inb : ∀ (v121 : BitVec 32) (k0_hw9 : k0_chk9 v121), ∀ a, (k0_off74 v121) a + S1x1x256.size a ≤ S2x16x2816.size a := fun v121 k0_hw9 => k0_hw9.1.2.2.2.2.2.2.2.2.2.2.2.2.2.2.2.2.2.2.2.2.2.2.2.2.2.2.2.2.1
theorem k0_off75_inb : ∀ (v121 : BitVec 32) (k0_hw9 : k0_chk9 v121), ∀ a, (k0_off75 v121) a + S1x1x256.size a ≤ S2x16x2816.size a := fun v121 k0_hw9 => k0_hw9.1.2.2.2.2.2.2.2.2.2.2.2.2.2.2.2.2.2.2.2.2.2.2.2.2.2.2.2.2.2.1
theorem k0_off76_inb : ∀ (v121 : BitVec 32) (k0_hw9 : k0_chk9 v121), ∀ a, (k0_off76 v121) a + S1x1x256.size a ≤ S2x16x2816.size a := fun v121 k0_hw9 => k0_hw9.1.2.2.2.2.2.2.2.2.2.2.2.2.2.2.2.2.2.2.2.2.2.2.2.2.2.2.2.2.2.2.1
theorem k0_off77_inb : ∀ (v121 : BitVec 32) (k0_hw9 : k0_chk9 v121), ∀ a, (k0_off77 v121) a + S1x1x256.size a ≤ S2x16x2816.size a := fun v121 k0_hw9 => k0_hw9.1.2.2.2.2.2.2.2.2.2.2.2.2.2.2.2.2.2.2.2.2.2.2.2.2.2.2.2.2.2.2.2
theorem k0_off78_inb : ∀ (v121 : BitVec 32) (k0_hw9 : k0_chk9 v121), ∀ a, (k0_off78 v121) a + S1x1x256.size a ≤ S2x16x2816.size a := fun v121 k0_hw9 => k0_hw9.2.1.1
theorem k0_off79_inb : ∀ (v121 : BitVec 32) (k0_hw9 : k0_chk9 v121), ∀ a, (k0_off79 v121) a + S1x1x256.size a ≤ S2x16x2816.size a := fun v121 k0_hw9 => k0_hw9.2.1.2.1
theorem k0_off80_inb : ∀ (v121 : BitVec 32) (k0_hw9 : k0_chk9 v121), ∀ a, (k0_off80 v121) a + S1x1024x256.size a ≤ S2x1024x2816.size a := fun v121 k0_hw9 => k0_hw9.2.1.2.2.1
theorem k0_off81_inb : ∀ (v121 : BitVec 32) (k0_hw9 : k0_chk9 v121), ∀ a, (k0_off81 v121) a + S1x1x256.size a ≤ S2x16x2816.size a := fun v121 k0_hw9 => k0_hw9.2.1.2.2.2.1
theorem k0_off82_inb : ∀ (v121 : BitVec 32) (k0_hw9 : k0_chk9 v121), ∀ a, (k0_off82 v121) a + S1x1x256.size a ≤ S2x16x2816.size a := fun v121 k0_hw9 => k0_hw9.2.1.2.2.2.2.1
theorem k0_off83_inb : ∀ (v121 : BitVec 32) (k0_hw9 : k0_chk9 v121), ∀ a, (k0_off83 v121) a + S1x1x256.size a ≤ S2x16x2816.size a := fun v121 k0_hw9 => k0_hw9.2.1.2.2.2.2.2.1
theorem k0_off84_inb : ∀ (v121 : BitVec 32) (k0_hw9 : k0_chk9 v121), ∀ a, (k0_off84 v121) a + S1x1x256.size a ≤ S2x16x2816.size a := fun v121 k0_hw9 => k0_hw9.2.1.2.2.2.2.2.2.1
theorem k0_off85_inb : ∀ (v121 : BitVec 32) (k0_hw9 : k0_chk9 v121), ∀ a, (k0_off85 v121) a + S1x1x256.size a ≤ S2x16x2816.size a := fun v121 k0_hw9 => k0_hw9.2.1.2.2.2.2.2.2.2.1
theorem k0_off86_inb : ∀ (v121 : BitVec 32) (k0_hw9 : k0_chk9 v121), ∀ a, (k0_off86 v121) a + S1x1x256.size a ≤ S2x16x2816.size a := fun v121 k0_hw9 => k0_hw9.2.1.2.2.2.2.2.2.2.2.1
theorem k0_off87_inb : ∀ (v121 : BitVec 32) (k0_hw9 : k0_chk9 v121), ∀ a, (k0_off87 v121) a + S1x1x256.size a ≤ S2x16x2816.size a := fun v121 k0_hw9 => k0_hw9.2.1.2.2.2.2.2.2.2.2.2.1
theorem k0_off88_inb : ∀ (v121 : BitVec 32) (k0_hw9 : k0_chk9 v121), ∀ a, (k0_off88 v121) a + S1x1x256.size a ≤ S2x16x2816.size a := fun v121 k0_hw9 => k0_hw9.2.1.2.2.2.2.2.2.2.2.2.2.1
theorem k0_off89_inb : ∀ (v121 : BitVec 32) (k0_hw9 : k0_chk9 v121), ∀ a, (k0_off89 v121) a + S1x1x256.size a ≤ S2x16x2816.size a := fun v121 k0_hw9 => k0_hw9.2.1.2.2.2.2.2.2.2.2.2.2.2.1
theorem k0_off90_inb : ∀ (v121 : BitVec 32) (k0_hw9 : k0_chk9 v121), ∀ a, (k0_off90 v121) a + S1x1x256.size a ≤ S2x16x2816.size a := fun v121 k0_hw9 => k0_hw9.2.1.2.2.2.2.2.2.2.2.2.2.2.2.1
theorem k0_off91_inb : ∀ (v121 : BitVec 32) (k0_hw9 : k0_chk9 v121), ∀ a, (k0_off91 v121) a + S1x1x256.size a ≤ S2x16x2816.size a := fun v121 k0_hw9 => k0_hw9.2.1.2.2.2.2.2.2.2.2.2.2.2.2.2.1
theorem k0_off92_inb : ∀ (v121 : BitVec 32) (k0_hw9 : k0_chk9 v121), ∀ a, (k0_off92 v121) a + S1x1x256.size a ≤ S2x16x2816.size a := fun v121 k0_hw9 => k0_hw9.2.1.2.2.2.2.2.2.2.2.2.2.2.2.2.2.1
theorem k0_off93_inb : ∀ (v121 : BitVec 32) (k0_hw9 : k0_chk9 v121), ∀ a, (k0_off93 v121) a + S1x1x256.size a ≤ S2x16x2816.size a := fun v121 k0_hw9 => k0_hw9.2.1.2.2.2.2.2.2.2.2.2.2.2.2.2.2.2.1
theorem k0_off94_inb : ∀ (v121 : BitVec 32) (k0_hw9 : k0_chk9 v121), ∀ a, (k0_off94 v121) a + S1x1x256.size a ≤ S2x16x2816.size a := fun v121 k0_hw9 => k0_hw9.2.1.2.2.2.2.2.2.2.2.2.2.2.2.2.2.2.2.1
theorem k0_off95_inb : ∀ (v121 : BitVec 32) (k0_hw9 : k0_chk9 v121), ∀ a, (k0_off95 v121) a + S1x1x256.size a ≤ S2x16x2816.size a := fun v121 k0_hw9 => k0_hw9.2.1.2.2.2.2.2.2.2.2.2.2.2.2.2.2.2.2.2.1
theorem k0_off96_inb : ∀ (v121 : BitVec 32) (k0_hw9 : k0_chk9 v121), ∀ a, (k0_off96 v121) a + S1x1x256.size a ≤ S2x16x2816.size a := fun v121 k0_hw9 => k0_hw9.2.1.2.2.2.2.2.2.2.2.2.2.2.2.2.2.2.2.2.2.1
theorem k0_off97_inb : ∀ (v121 : BitVec 32) (k0_hw9 : k0_chk9 v121), ∀ a, (k0_off97 v121) a + S1x1024x256.size a ≤ S2x1024x2816.size a := fun v121 k0_hw9 => k0_hw9.2.1.2.2.2.2.2.2.2.2.2.2.2.2.2.2.2.2.2.2.2.1
theorem k0_off98_inb : ∀ (v121 : BitVec 32) (k0_hw9 : k0_chk9 v121), ∀ a, (k0_off98 v121) a + S1x1x256.size a ≤ S2x16x2816.size a := fun v121 k0_hw9 => k0_hw9.2.1.2.2.2.2.2.2.2.2.2.2.2.2.2.2.2.2.2.2.2.2.1
theorem k0_off99_inb : ∀ (v121 : BitVec 32) (k0_hw9 : k0_chk9 v121), ∀ a, (k0_off99 v121) a + S1x1x256.size a ≤ S2x16x2816.size a := fun v121 k0_hw9 => k0_hw9.2.1.2.2.2.2.2.2.2.2.2.2.2.2.2.2.2.2.2.2.2.2.2.1
theorem k0_off100_inb : ∀ (v121 : BitVec 32) (k0_hw9 : k0_chk9 v121), ∀ a, (k0_off100 v121) a + S1x1x256.size a ≤ S2x16x2816.size a := fun v121 k0_hw9 => k0_hw9.2.1.2.2.2.2.2.2.2.2.2.2.2.2.2.2.2.2.2.2.2.2.2.2.1
theorem k0_off101_inb : ∀ (v121 : BitVec 32) (k0_hw9 : k0_chk9 v121), ∀ a, (k0_off101 v121) a + S1x1x256.size a ≤ S2x16x2816.size a := fun v121 k0_hw9 => k0_hw9.2.1.2.2.2.2.2.2.2.2.2.2.2.2.2.2.2.2.2.2.2.2.2.2.2.1
theorem k0_off102_inb : ∀ (v121 : BitVec 32) (k0_hw9 : k0_chk9 v121), ∀ a, (k0_off102 v121) a + S1x1x256.size a ≤ S2x16x2816.size a := fun v121 k0_hw9 => k0_hw9.2.1.2.2.2.2.2.2.2.2.2.2.2.2.2.2.2.2.2.2.2.2.2.2.2.2.1
theorem k0_off103_inb : ∀ (v121 : BitVec 32) (k0_hw9 : k0_chk9 v121), ∀ a, (k0_off103 v121) a + S1x1x256.size a ≤ S2x16x2816.size a := fun v121 k0_hw9 => k0_hw9.2.1.2.2.2.2.2.2.2.2.2.2.2.2.2.2.2.2.2.2.2.2.2.2.2.2.2.1
theorem k0_off104_inb : ∀ (v121 : BitVec 32) (k0_hw9 : k0_chk9 v121), ∀ a, (k0_off104 v121) a + S1x1x256.size a ≤ S2x16x2816.size a := fun v121 k0_hw9 => k0_hw9.2.1.2.2.2.2.2.2.2.2.2.2.2.2.2.2.2.2.2.2.2.2.2.2.2.2.2.2.1
theorem k0_off105_inb : ∀ (v121 : BitVec 32) (k0_hw9 : k0_chk9 v121), ∀ a, (k0_off105 v121) a + S1x1x256.size a ≤ S2x16x2816.size a := fun v121 k0_hw9 => k0_hw9.2.1.2.2.2.2.2.2.2.2.2.2.2.2.2.2.2.2.2.2.2.2.2.2.2.2.2.2.2.1
theorem k0_off106_inb : ∀ (v121 : BitVec 32) (k0_hw9 : k0_chk9 v121), ∀ a, (k0_off106 v121) a + S1x1x256.size a ≤ S2x16x2816.size a := fun v121 k0_hw9 => k0_hw9.2.1.2.2.2.2.2.2.2.2.2.2.2.2.2.2.2.2.2.2.2.2.2.2.2.2.2.2.2.2.1
theorem k0_off107_inb : ∀ (v121 : BitVec 32) (k0_hw9 : k0_chk9 v121), ∀ a, (k0_off107 v121) a + S1x1x256.size a ≤ S2x16x2816.size a := fun v121 k0_hw9 => k0_hw9.2.1.2.2.2.2.2.2.2.2.2.2.2.2.2.2.2.2.2.2.2.2.2.2.2.2.2.2.2.2.2.1
theorem k0_off108_inb : ∀ (v121 : BitVec 32) (k0_hw9 : k0_chk9 v121), ∀ a, (k0_off108 v121) a + S1x1x256.size a ≤ S2x16x2816.size a := fun v121 k0_hw9 => k0_hw9.2.1.2.2.2.2.2.2.2.2.2.2.2.2.2.2.2.2.2.2.2.2.2.2.2.2.2.2.2.2.2.2.1
theorem k0_off109_inb : ∀ (v121 : BitVec 32) (k0_hw9 : k0_chk9 v121), ∀ a, (k0_off109 v121) a + S1x1x256.size a ≤ S2x16x2816.size a := fun v121 k0_hw9 => k0_hw9.2.1.2.2.2.2.2.2.2.2.2.2.2.2.2.2.2.2.2.2.2.2.2.2.2.2.2.2.2.2.2.2.2
theorem k0_off110_inb : ∀ (v121 : BitVec 32) (k0_hw9 : k0_chk9 v121), ∀ a, (k0_off110 v121) a + S1x1x256.size a ≤ S2x16x2816.size a := fun v121 k0_hw9 => k0_hw9.2.2.1.1
theorem k0_off111_inb : ∀ (v121 : BitVec 32) (k0_hw9 : k0_chk9 v121), ∀ a, (k0_off111 v121) a + S1x1x256.size a ≤ S2x16x2816.size a := fun v121 k0_hw9 => k0_hw9.2.2.1.2.1
theorem k0_off112_inb : ∀ (v121 : BitVec 32) (k0_hw9 : k0_chk9 v121), ∀ a, (k0_off112 v121) a + S1x1x256.size a ≤ S2x16x2816.size a := fun v121 k0_hw9 => k0_hw9.2.2.1.2.2.1
theorem k0_off113_inb : ∀ (v121 : BitVec 32) (k0_hw9 : k0_chk9 v121), ∀ a, (k0_off113 v121) a + S1x1x256.size a ≤ S2x16x2816.size a := fun v121 k0_hw9 => k0_hw9.2.2.1.2.2.2.1
theorem k0_off114_inb : ∀ (v121 : BitVec 32) (k0_hw9 : k0_chk9 v121), ∀ a, (k0_off114 v121) a + S1x1024x256.size a ≤ S2x1024x2816.size a := fun v121 k0_hw9 => k0_hw9.2.2.1.2.2.2.2.1
theorem k0_off115_inb : ∀ (v121 : BitVec 32) (k0_hw9 : k0_chk9 v121), ∀ a, (k0_off115 v121) a + S1x1x256.size a ≤ S2x16x2816.size a := fun v121 k0_hw9 => k0_hw9.2.2.1.2.2.2.2.2.1
theorem k0_off116_inb : ∀ (v121 : BitVec 32) (k0_hw9 : k0_chk9 v121), ∀ a, (k0_off116 v121) a + S1x1x256.size a ≤ S2x16x2816.size a := fun v121 k0_hw9 => k0_hw9.2.2.1.2.2.2.2.2.2.1
theorem k0_off117_inb : ∀ (v121 : BitVec 32) (k0_hw9 : k0_chk9 v121), ∀ a, (k0_off117 v121) a + S1x1x256.size a ≤ S2x16x2816.size a := fun v121 k0_hw9 => k0_hw9.2.2.1.2.2.2.2.2.2.2.1
theorem k0_off118_inb : ∀ (v121 : BitVec 32) (k0_hw9 : k0_chk9 v121), ∀ a, (k0_off118 v121) a + S1x1x256.size a ≤ S2x16x2816.size a := fun v121 k0_hw9 => k0_hw9.2.2.1.2.2.2.2.2.2.2.2.1
theorem k0_off119_inb : ∀ (v121 : BitVec 32) (k0_hw9 : k0_chk9 v121), ∀ a, (k0_off119 v121) a + S1x1x256.size a ≤ S2x16x2816.size a := fun v121 k0_hw9 => k0_hw9.2.2.1.2.2.2.2.2.2.2.2.2.1
theorem k0_off120_inb : ∀ (v121 : BitVec 32) (k0_hw9 : k0_chk9 v121), ∀ a, (k0_off120 v121) a + S1x1x256.size a ≤ S2x16x2816.size a := fun v121 k0_hw9 => k0_hw9.2.2.1.2.2.2.2.2.2.2.2.2.2.1
theorem k0_off121_inb : ∀ (v121 : BitVec 32) (k0_hw9 : k0_chk9 v121), ∀ a, (k0_off121 v121) a + S1x1x256.size a ≤ S2x16x2816.size a := fun v121 k0_hw9 => k0_hw9.2.2.1.2.2.2.2.2.2.2.2.2.2.2.1
theorem k0_off122_inb : ∀ (v121 : BitVec 32) (k0_hw9 : k0_chk9 v121), ∀ a, (k0_off122 v121) a + S1x1x256.size a ≤ S2x16x2816.size a := fun v121 k0_hw9 => k0_hw9.2.2.1.2.2.2.2.2.2.2.2.2.2.2.2.1
theorem k0_off123_inb : ∀ (v121 : BitVec 32) (k0_hw9 : k0_chk9 v121), ∀ a, (k0_off123 v121) a + S1x1x256.size a ≤ S2x16x2816.size a := fun v121 k0_hw9 => k0_hw9.2.2.1.2.2.2.2.2.2.2.2.2.2.2.2.2.1
theorem k0_off124_inb : ∀ (v121 : BitVec 32) (k0_hw9 : k0_chk9 v121), ∀ a, (k0_off124 v121) a + S1x1x256.size a ≤ S2x16x2816.size a := fun v121 k0_hw9 => k0_hw9.2.2.1.2.2.2.2.2.2.2.2.2.2.2.2.2.2.1
theorem k0_off125_inb : ∀ (v121 : BitVec 32) (k0_hw9 : k0_chk9 v121), ∀ a, (k0_off125 v121) a + S1x1x256.size a ≤ S2x16x2816.size a := fun v121 k0_hw9 => k0_hw9.2.2.1.2.2.2.2.2.2.2.2.2.2.2.2.2.2.2.1
theorem k0_off126_inb : ∀ (v121 : BitVec 32) (k0_hw9 : k0_chk9 v121), ∀ a, (k0_off126 v121) a + S1x1x256.size a ≤ S2x16x2816.size a := fun v121 k0_hw9 => k0_hw9.2.2.1.2.2.2.2.2.2.2.2.2.2.2.2.2.2.2.2.1
theorem k0_off127_inb : ∀ (v121 : BitVec 32) (k0_hw9 : k0_chk9 v121), ∀ a, (k0_off127 v121) a + S1x1x256.size a ≤ S2x16x2816.size a := fun v121 k0_hw9 => k0_hw9.2.2.1.2.2.2.2.2.2.2.2.2.2.2.2.2.2.2.2.2.1
theorem k0_off128_inb : ∀ (v121 : BitVec 32) (k0_hw9 : k0_chk9 v121), ∀ a, (k0_off128 v121) a + S1x1x256.size a ≤ S2x16x2816.size a := fun v121 k0_hw9 => k0_hw9.2.2.1.2.2.2.2.2.2.2.2.2.2.2.2.2.2.2.2.2.2.1
theorem k0_off129_inb : ∀ (v121 : BitVec 32) (k0_hw9 : k0_chk9 v121), ∀ a, (k0_off129 v121) a + S1x1x256.size a ≤ S2x16x2816.size a := fun v121 k0_hw9 => k0_hw9.2.2.1.2.2.2.2.2.2.2.2.2.2.2.2.2.2.2.2.2.2.2.1
theorem k0_off130_inb : ∀ (v121 : BitVec 32) (k0_hw9 : k0_chk9 v121), ∀ a, (k0_off130 v121) a + S1x1x256.size a ≤ S2x16x2816.size a := fun v121 k0_hw9 => k0_hw9.2.2.1.2.2.2.2.2.2.2.2.2.2.2.2.2.2.2.2.2.2.2.2.1
theorem k0_off131_inb : ∀ (v121 : BitVec 32) (k0_hw9 : k0_chk9 v121), ∀ a, (k0_off131 v121) a + S1x1024x256.size a ≤ S2x1024x2816.size a := fun v121 k0_hw9 => k0_hw9.2.2.1.2.2.2.2.2.2.2.2.2.2.2.2.2.2.2.2.2.2.2.2.2.1
theorem k0_off132_inb : ∀ (v121 : BitVec 32) (k0_hw9 : k0_chk9 v121), ∀ a, (k0_off132 v121) a + S1x1x256.size a ≤ S2x16x2816.size a := fun v121 k0_hw9 => k0_hw9.2.2.1.2.2.2.2.2.2.2.2.2.2.2.2.2.2.2.2.2.2.2.2.2.2.1
theorem k0_off133_inb : ∀ (v121 : BitVec 32) (k0_hw9 : k0_chk9 v121), ∀ a, (k0_off133 v121) a + S1x1x256.size a ≤ S2x16x2816.size a := fun v121 k0_hw9 => k0_hw9.2.2.1.2.2.2.2.2.2.2.2.2.2.2.2.2.2.2.2.2.2.2.2.2.2.2.1
theorem k0_off134_inb : ∀ (v121 : BitVec 32) (k0_hw9 : k0_chk9 v121), ∀ a, (k0_off134 v121) a + S1x1x256.size a ≤ S2x16x2816.size a := fun v121 k0_hw9 => k0_hw9.2.2.1.2.2.2.2.2.2.2.2.2.2.2.2.2.2.2.2.2.2.2.2.2.2.2.2.1
theorem k0_off135_inb : ∀ (v121 : BitVec 32) (k0_hw9 : k0_chk9 v121), ∀ a, (k0_off135 v121) a + S1x1x256.size a ≤ S2x16x2816.size a := fun v121 k0_hw9 => k0_hw9.2.2.1.2.2.2.2.2.2.2.2.2.2.2.2.2.2.2.2.2.2.2.2.2.2.2.2.2.1
theorem k0_off136_inb : ∀ (v121 : BitVec 32) (k0_hw9 : k0_chk9 v121), ∀ a, (k0_off136 v121) a + S1x1x256.size a ≤ S2x16x2816.size a := fun v121 k0_hw9 => k0_hw9.2.2.1.2.2.2.2.2.2.2.2.2.2.2.2.2.2.2.2.2.2.2.2.2.2.2.2.2.2.1
theorem k0_off137_inb : ∀ (v121 : BitVec 32) (k0_hw9 : k0_chk9 v121), ∀ a, (k0_off137 v121) a + S1x1x256.size a ≤ S2x16x2816.size a := fun v121 k0_hw9 => k0_hw9.2.2.1.2.2.2.2.2.2.2.2.2.2.2.2.2.2.2.2.2.2.2.2.2.2.2.2.2.2.2.1
theorem k0_off138_inb : ∀ (v121 : BitVec 32) (k0_hw9 : k0_chk9 v121), ∀ a, (k0_off138 v121) a + S1x1x256.size a ≤ S2x16x2816.size a := fun v121 k0_hw9 => k0_hw9.2.2.1.2.2.2.2.2.2.2.2.2.2.2.2.2.2.2.2.2.2.2.2.2.2.2.2.2.2.2.2.1
theorem k0_off139_inb : ∀ (v121 : BitVec 32) (k0_hw9 : k0_chk9 v121), ∀ a, (k0_off139 v121) a + S1x1x256.size a ≤ S2x16x2816.size a := fun v121 k0_hw9 => k0_hw9.2.2.1.2.2.2.2.2.2.2.2.2.2.2.2.2.2.2.2.2.2.2.2.2.2.2.2.2.2.2.2.2.1
theorem k0_off140_inb : ∀ (v121 : BitVec 32) (k0_hw9 : k0_chk9 v121), ∀ a, (k0_off140 v121) a + S1x1x256.size a ≤ S2x16x2816.size a := fun v121 k0_hw9 => k0_hw9.2.2.1.2.2.2.2.2.2.2.2.2.2.2.2.2.2.2.2.2.2.2.2.2.2.2.2.2.2.2.2.2.2.1
theorem k0_off141_inb : ∀ (v121 : BitVec 32) (k0_hw9 : k0_chk9 v121), ∀ a, (k0_off141 v121) a + S1x1x256.size a ≤ S2x16x2816.size a := fun v121 k0_hw9 => k0_hw9.2.2.1.2.2.2.2.2.2.2.2.2.2.2.2.2.2.2.2.2.2.2.2.2.2.2.2.2.2.2.2.2.2.2
theorem k0_off142_inb : ∀ (v121 : BitVec 32) (k0_hw9 : k0_chk9 v121), ∀ a, (k0_off142 v121) a + S1x1x256.size a ≤ S2x16x2816.size a := fun v121 k0_hw9 => k0_hw9.2.2.2.1.1
theorem k0_off143_inb : ∀ (v121 : BitVec 32) (k0_hw9 : k0_chk9 v121), ∀ a, (k0_off143 v121) a + S1x1x256.size a ≤ S2x16x2816.size a := fun v121 k0_hw9 => k0_hw9.2.2.2.1.2.1
theorem k0_off144_inb : ∀ (v121 : BitVec 32) (k0_hw9 : k0_chk9 v121), ∀ a, (k0_off144 v121) a + S1x1x256.size a ≤ S2x16x2816.size a := fun v121 k0_hw9 => k0_hw9.2.2.2.1.2.2.1
theorem k0_off145_inb : ∀ (v121 : BitVec 32) (k0_hw9 : k0_chk9 v121), ∀ a, (k0_off145 v121) a + S1x1x256.size a ≤ S2x16x2816.size a := fun v121 k0_hw9 => k0_hw9.2.2.2.1.2.2.2.1
theorem k0_off146_inb : ∀ (v121 : BitVec 32) (k0_hw9 : k0_chk9 v121), ∀ a, (k0_off146 v121) a + S1x1x256.size a ≤ S2x16x2816.size a := fun v121 k0_hw9 => k0_hw9.2.2.2.1.2.2.2.2.1
theorem k0_off147_inb : ∀ (v121 : BitVec 32) (k0_hw9 : k0_chk9 v121), ∀ a, (k0_off147 v121) a + S1x1x256.size a ≤ S2x16x2816.size a := fun v121 k0_hw9 => k0_hw9.2.2.2.1.2.2.2.2.2.1
theorem k0_off148_inb : ∀ (v121 : BitVec 32) (k0_hw9 : k0_chk9 v121), ∀ a, (k0_off148 v121) a + S1x1024x256.size a ≤ S2x1024x2816.size a := fun v121 k0_hw9 => k0_hw9.2.2.2.1.2.2.2.2.2.2.1
theorem k0_off149_inb : ∀ (v121 : BitVec 32) (k0_hw9 : k0_chk9 v121), ∀ a, (k0_off149 v121) a + S1x1x256.size a ≤ S2x16x2816.size a := fun v121 k0_hw9 => k0_hw9.2.2.2.1.2.2.2.2.2.2.2.1
theorem k0_off150_inb : ∀ (v121 : BitVec 32) (k0_hw9 : k0_chk9 v121), ∀ a, (k0_off150 v121) a + S1x1x256.size a ≤ S2x16x2816.size a := fun v121 k0_hw9 => k0_hw9.2.2.2.1.2.2.2.2.2.2.2.2.1
theorem k0_off151_inb : ∀ (v121 : BitVec 32) (k0_hw9 : k0_chk9 v121), ∀ a, (k0_off151 v121) a + S1x1x256.size a ≤ S2x16x2816.size a := fun v121 k0_hw9 => k0_hw9.2.2.2.1.2.2.2.2.2.2.2.2.2.1
theorem k0_off152_inb : ∀ (v121 : BitVec 32) (k0_hw9 : k0_chk9 v121), ∀ a, (k0_off152 v121) a + S1x1x256.size a ≤ S2x16x2816.size a := fun v121 k0_hw9 => k0_hw9.2.2.2.1.2.2.2.2.2.2.2.2.2.2.1
theorem k0_off153_inb : ∀ (v121 : BitVec 32) (k0_hw9 : k0_chk9 v121), ∀ a, (k0_off153 v121) a + S1x1x256.size a ≤ S2x16x2816.size a := fun v121 k0_hw9 => k0_hw9.2.2.2.1.2.2.2.2.2.2.2.2.2.2.2.1
theorem k0_off154_inb : ∀ (v121 : BitVec 32) (k0_hw9 : k0_chk9 v121), ∀ a, (k0_off154 v121) a + S1x1x256.size a ≤ S2x16x2816.size a := fun v121 k0_hw9 => k0_hw9.2.2.2.1.2.2.2.2.2.2.2.2.2.2.2.2.1
theorem k0_off155_inb : ∀ (v121 : BitVec 32) (k0_hw9 : k0_chk9 v121), ∀ a, (k0_off155 v121) a + S1x1x256.size a ≤ S2x16x2816.size a := fun v121 k0_hw9 => k0_hw9.2.2.2.1.2.2.2.2.2.2.2.2.2.2.2.2.2.1
theorem k0_off156_inb : ∀ (v121 : BitVec 32) (k0_hw9 : k0_chk9 v121), ∀ a, (k0_off156 v121) a + S1x1x256.size a ≤ S2x16x2816.size a := fun v121 k0_hw9 => k0_hw9.2.2.2.1.2.2.2.2.2.2.2.2.2.2.2.2.2.2.1
theorem k0_off157_inb : ∀ (v121 : BitVec 32) (k0_hw9 : k0_chk9 v121), ∀ a, (k0_off157 v121) a + S1x1x256.size a ≤ S2x16x2816.size a := fun v121 k0_hw9 => k0_hw9.2.2.2.1.2.2.2.2.2.2.2.2.2.2.2.2.2.2.2.1
theorem k0_off158_inb : ∀ (v121 : BitVec 32) (k0_hw9 : k0_chk9 v121), ∀ a, (k0_off158 v121) a + S1x1x256.size a ≤ S2x16x2816.size a := fun v121 k0_hw9 => k0_hw9.2.2.2.1.2.2.2.2.2.2.2.2.2.2.2.2.2.2.2.2.1
theorem k0_off159_inb : ∀ (v121 : BitVec 32) (k0_hw9 : k0_chk9 v121), ∀ a, (k0_off159 v121) a + S1x1x256.size a ≤ S2x16x2816.size a := fun v121 k0_hw9 => k0_hw9.2.2.2.1.2.2.2.2.2.2.2.2.2.2.2.2.2.2.2.2.2.1
theorem k0_off160_inb : ∀ (v121 : BitVec 32) (k0_hw9 : k0_chk9 v121), ∀ a, (k0_off160 v121) a + S1x1x256.size a ≤ S2x16x2816.size a := fun v121 k0_hw9 => k0_hw9.2.2.2.1.2.2.2.2.2.2.2.2.2.2.2.2.2.2.2.2.2.2.1
theorem k0_off161_inb : ∀ (v121 : BitVec 32) (k0_hw9 : k0_chk9 v121), ∀ a, (k0_off161 v121) a + S1x1x256.size a ≤ S2x16x2816.size a := fun v121 k0_hw9 => k0_hw9.2.2.2.1.2.2.2.2.2.2.2.2.2.2.2.2.2.2.2.2.2.2.2.1
theorem k0_off162_inb : ∀ (v121 : BitVec 32) (k0_hw9 : k0_chk9 v121), ∀ a, (k0_off162 v121) a + S1x1x256.size a ≤ S2x16x2816.size a := fun v121 k0_hw9 => k0_hw9.2.2.2.1.2.2.2.2.2.2.2.2.2.2.2.2.2.2.2.2.2.2.2.2.1
theorem k0_off163_inb : ∀ (v121 : BitVec 32) (k0_hw9 : k0_chk9 v121), ∀ a, (k0_off163 v121) a + S1x1x256.size a ≤ S2x16x2816.size a := fun v121 k0_hw9 => k0_hw9.2.2.2.1.2.2.2.2.2.2.2.2.2.2.2.2.2.2.2.2.2.2.2.2.2.1
theorem k0_off164_inb : ∀ (v121 : BitVec 32) (k0_hw9 : k0_chk9 v121), ∀ a, (k0_off164 v121) a + S1x1x256.size a ≤ S2x16x2816.size a := fun v121 k0_hw9 => k0_hw9.2.2.2.1.2.2.2.2.2.2.2.2.2.2.2.2.2.2.2.2.2.2.2.2.2.2.1
theorem k0_off165_inb : ∀ (v121 : BitVec 32) (k0_hw9 : k0_chk9 v121), ∀ a, (k0_off165 v121) a + S1x1024x256.size a ≤ S2x1024x2816.size a := fun v121 k0_hw9 => k0_hw9.2.2.2.1.2.2.2.2.2.2.2.2.2.2.2.2.2.2.2.2.2.2.2.2.2.2.2.1
theorem k0_off166_inb : ∀ (v121 : BitVec 32) (k0_hw9 : k0_chk9 v121), ∀ a, (k0_off166 v121) a + S1x1x256.size a ≤ S2x16x2816.size a := fun v121 k0_hw9 => k0_hw9.2.2.2.1.2.2.2.2.2.2.2.2.2.2.2.2.2.2.2.2.2.2.2.2.2.2.2.2.1
theorem k0_off167_inb : ∀ (v121 : BitVec 32) (k0_hw9 : k0_chk9 v121), ∀ a, (k0_off167 v121) a + S1x1x256.size a ≤ S2x16x2816.size a := fun v121 k0_hw9 => k0_hw9.2.2.2.1.2.2.2.2.2.2.2.2.2.2.2.2.2.2.2.2.2.2.2.2.2.2.2.2.2.1
theorem k0_off168_inb : ∀ (v121 : BitVec 32) (k0_hw9 : k0_chk9 v121), ∀ a, (k0_off168 v121) a + S1x1x256.size a ≤ S2x16x2816.size a := fun v121 k0_hw9 => k0_hw9.2.2.2.1.2.2.2.2.2.2.2.2.2.2.2.2.2.2.2.2.2.2.2.2.2.2.2.2.2.2.1
theorem k0_off169_inb : ∀ (v121 : BitVec 32) (k0_hw9 : k0_chk9 v121), ∀ a, (k0_off169 v121) a + S1x1x256.size a ≤ S2x16x2816.size a := fun v121 k0_hw9 => k0_hw9.2.2.2.1.2.2.2.2.2.2.2.2.2.2.2.2.2.2.2.2.2.2.2.2.2.2.2.2.2.2.2.1
theorem k0_off170_inb : ∀ (v121 : BitVec 32) (k0_hw9 : k0_chk9 v121), ∀ a, (k0_off170 v121) a + S1x1x256.size a ≤ S2x16x2816.size a := fun v121 k0_hw9 => k0_hw9.2.2.2.1.2.2.2.2.2.2.2.2.2.2.2.2.2.2.2.2.2.2.2.2.2.2.2.2.2.2.2.2.1
theorem k0_off171_inb : ∀ (v121 : BitVec 32) (k0_hw9 : k0_chk9 v121), ∀ a, (k0_off171 v121) a + S1x1x256.size a ≤ S2x16x2816.size a := fun v121 k0_hw9 => k0_hw9.2.2.2.1.2.2.2.2.2.2.2.2.2.2.2.2.2.2.2.2.2.2.2.2.2.2.2.2.2.2.2.2.2.1
theorem k0_off172_inb : ∀ (v121 : BitVec 32) (k0_hw9 : k0_chk9 v121), ∀ a, (k0_off172 v121) a + S1x1x256.size a ≤ S2x16x2816.size a := fun v121 k0_hw9 => k0_hw9.2.2.2.1.2.2.2.2.2.2.2.2.2.2.2.2.2.2.2.2.2.2.2.2.2.2.2.2.2.2.2.2.2.2.1
theorem k0_off173_inb : ∀ (v121 : BitVec 32) (k0_hw9 : k0_chk9 v121), ∀ a, (k0_off173 v121) a + S1x1x256.size a ≤ S2x16x2816.size a := fun v121 k0_hw9 => k0_hw9.2.2.2.1.2.2.2.2.2.2.2.2.2.2.2.2.2.2.2.2.2.2.2.2.2.2.2.2.2.2.2.2.2.2.2
theorem k0_off174_inb : ∀ (v121 : BitVec 32) (k0_hw9 : k0_chk9 v121), ∀ a, (k0_off174 v121) a + S1x1x256.size a ≤ S2x16x2816.size a := fun v121 k0_hw9 => k0_hw9.2.2.2.2.1.1
theorem k0_off175_inb : ∀ (v121 : BitVec 32) (k0_hw9 : k0_chk9 v121), ∀ a, (k0_off175 v121) a + S1x1x256.size a ≤ S2x16x2816.size a := fun v121 k0_hw9 => k0_hw9.2.2.2.2.1.2.1
theorem k0_off176_inb : ∀ (v121 : BitVec 32) (k0_hw9 : k0_chk9 v121), ∀ a, (k0_off176 v121) a + S1x1x256.size a ≤ S2x16x2816.size a := fun v121 k0_hw9 => k0_hw9.2.2.2.2.1.2.2.1
theorem k0_off177_inb : ∀ (v121 : BitVec 32) (k0_hw9 : k0_chk9 v121), ∀ a, (k0_off177 v121) a + S1x1x256.size a ≤ S2x16x2816.size a := fun v121 k0_hw9 => k0_hw9.2.2.2.2.1.2.2.2.1
theorem k0_off178_inb : ∀ (v121 : BitVec 32) (k0_hw9 : k0_chk9 v121), ∀ a, (k0_off178 v121) a + S1x1x256.size a ≤ S2x16x2816.size a := fun v121 k0_hw9 => k0_hw9.2.2.2.2.1.2.2.2.2.1
theorem k0_off179_inb : ∀ (v121 : BitVec 32) (k0_hw9 : k0_chk9 v121), ∀ a, (k0_off179 v121) a + S1x1x256.size a ≤ S2x16x2816.size a := fun v121 k0_hw9 => k0_hw9.2.2.2.2.1.2.2.2.2.2.1
theorem k0_off180_inb : ∀ (v121 : BitVec 32) (k0_hw9 : k0_chk9 v121), ∀ a, (k0_off180 v121) a + S1x1x256.size a ≤ S2x16x2816.size a := fun v121 k0_hw9 => k0_hw9.2.2.2.2.1.2.2.2.2.2.2.1
theorem k0_off181_inb : ∀ (v121 : BitVec 32) (k0_hw9 : k0_chk9 v121), ∀ a, (k0_off181 v121) a + S1x1x256.size a ≤ S2x16x2816.size a := fun v121 k0_hw9 => k0_hw9.2.2.2.2.1.2.2.2.2.2.2.2.1
theorem k0_off182_inb : ∀ (v121 : BitVec 32) (k0_hw9 : k0_chk9 v121), ∀ a, (k0_off182 v121) a + S1x1024x256.size a ≤ S2x1024x2816.size a := fun v121 k0_hw9 => k0_hw9.2.2.2.2.1.2.2.2.2.2.2.2.2.1
theorem k0_off183_inb : ∀ (v121 : BitVec 32) (k0_hw9 : k0_chk9 v121), ∀ a, (k0_off183 v121) a + S1x1x256.size a ≤ S2x16x2816.size a := fun v121 k0_hw9 => k0_hw9.2.2.2.2.1.2.2.2.2.2.2.2.2.2.1
theorem k0_off184_inb : ∀ (v121 : BitVec 32) (k0_hw9 : k0_chk9 v121), ∀ a, (k0_off184 v121) a + S1x1x256.size a ≤ S2x16x2816.size a := fun v121 k0_hw9 => k0_hw9.2.2.2.2.1.2.2.2.2.2.2.2.2.2.2.1
theorem k0_off185_inb : ∀ (v121 : BitVec 32) (k0_hw9 : k0_chk9 v121), ∀ a, (k0_off185 v121) a + S1x1x256.size a ≤ S2x16x2816.size a := fun v121 k0_hw9 => k0_hw9.2.2.2.2.1.2.2.2.2.2.2.2.2.2.2.2.1
theorem k0_off186_inb : ∀ (v121 : BitVec 32) (k0_hw9 : k0_chk9 v121), ∀ a, (k0_off186 v121) a + S1x1x256.size a ≤ S2x16x2816.size a := fun v121 k0_hw9 => k0_hw9.2.2.2.2.1.2.2.2.2.2.2.2.2.2.2.2.2.1
theorem k0_off187_inb : ∀ (v121 : BitVec 32) (k0_hw9 : k0_chk9 v121), ∀ a, (k0_off187 v121) a + S1x1x256.size a ≤ S2x16x2816.size a := fun v121 k0_hw9 => k0_hw9.2.2.2.2.1.2.2.2.2.2.2.2.2.2.2.2.2.2.1
theorem k0_off188_inb : ∀ (v121 : BitVec 32) (k0_hw9 : k0_chk9 v121), ∀ a, (k0_off188 v121) a + S1x1x256.size a ≤ S2x16x2816.size a := fun v121 k0_hw9 => k0_hw9.2.2.2.2.1.2.2.2.2.2.2.2.2.2.2.2.2.2.2.1
theorem k0_off189_inb : ∀ (v121 : BitVec 32) (k0_hw9 : k0_chk9 v121), ∀ a, (k0_off189 v121) a + S1x1x256.size a ≤ S2x16x2816.size a := fun v121 k0_hw9 => k0_hw9.2.2.2.2.1.2.2.2.2.2.2.2.2.2.2.2.2.2.2.2.1
theorem k0_off190_inb : ∀ (v121 : BitVec 32) (k0_hw9 : k0_chk9 v121), ∀ a, (k0_off190 v121) a + S1x1x256.size a ≤ S2x16x2816.size a := fun v121 k0_hw9 => k0_hw9.2.2.2.2.1.2.2.2.2.2.2.2.2.2.2.2.2.2.2.2.2.1
theorem k0_off191_inb : ∀ (v121 : BitVec 32) (k0_hw9 : k0_chk9 v121), ∀ a, (k0_off191 v121) a + S1x1x256.size a ≤ S2x16x2816.size a := fun v121 k0_hw9 => k0_hw9.2.2.2.2.1.2.2.2.2.2.2.2.2.2.2.2.2.2.2.2.2.2.1
theorem k0_off192_inb : ∀ (v121 : BitVec 32) (k0_hw9 : k0_chk9 v121), ∀ a, (k0_off192 v121) a + S1x1x256.size a ≤ S2x16x2816.size a := fun v121 k0_hw9 => k0_hw9.2.2.2.2.1.2.2.2.2.2.2.2.2.2.2.2.2.2.2.2.2.2.2.1
theorem k0_off193_inb : ∀ (v121 : BitVec 32) (k0_hw9 : k0_chk9 v121), ∀ a, (k0_off193 v121) a + S1x1x256.size a ≤ S2x16x2816.size a := fun v121 k0_hw9 => k0_hw9.2.2.2.2.1.2.2.2.2.2.2.2.2.2.2.2.2.2.2.2.2.2.2.2.1
theorem k0_off194_inb : ∀ (v121 : BitVec 32) (k0_hw9 : k0_chk9 v121), ∀ a, (k0_off194 v121) a + S1x1x256.size a ≤ S2x16x2816.size a := fun v121 k0_hw9 => k0_hw9.2.2.2.2.1.2.2.2.2.2.2.2.2.2.2.2.2.2.2.2.2.2.2.2.2.1
theorem k0_off195_inb : ∀ (v121 : BitVec 32) (k0_hw9 : k0_chk9 v121), ∀ a, (k0_off195 v121) a + S1x1x256.size a ≤ S2x16x2816.size a := fun v121 k0_hw9 => k0_hw9.2.2.2.2.1.2.2.2.2.2.2.2.2.2.2.2.2.2.2.2.2.2.2.2.2.2.1
theorem k0_off196_inb : ∀ (v121 : BitVec 32) (k0_hw9 : k0_chk9 v121), ∀ a, (k0_off196 v121) a + S1x1x256.size a ≤ S2x16x2816.size a := fun v121 k0_hw9 => k0_hw9.2.2.2.2.1.2.2.2.2.2.2.2.2.2.2.2.2.2.2.2.2.2.2.2.2.2.2.1
theorem k0_off197_inb : ∀ (v121 : BitVec 32) (k0_hw9 : k0_chk9 v121), ∀ a, (k0_off197 v121) a + S1x1x256.size a ≤ S2x16x2816.size a := fun v121 k0_hw9 => k0_hw9.2.2.2.2.1.2.2.2.2.2.2.2.2.2.2.2.2.2.2.2.2.2.2.2.2.2.2.2.1
theorem k0_off198_inb : ∀ (v121 : BitVec 32) (k0_hw9 : k0_chk9 v121), ∀ a, (k0_off198 v121) a + S1x1x256.size a ≤ S2x16x2816.size a := fun v121 k0_hw9 => k0_hw9.2.2.2.2.1.2.2.2.2.2.2.2.2.2.2.2.2.2.2.2.2.2.2.2.2.2.2.2.2.1
theorem k0_off199_inb : ∀ (v121 : BitVec 32) (k0_hw9 : k0_chk9 v121), ∀ a, (k0_off199 v121) a + S1x1024x256.size a ≤ S2x1024x2816.size a := fun v121 k0_hw9 => k0_hw9.2.2.2.2.1.2.2.2.2.2.2.2.2.2.2.2.2.2.2.2.2.2.2.2.2.2.2.2.2.2.1
theorem k0_off200_inb : ∀ (v121 : BitVec 32) (k0_hw9 : k0_chk9 v121), ∀ a, (k0_off200 v121) a + S1x1x256.size a ≤ S2x16x2816.size a := fun v121 k0_hw9 => k0_hw9.2.2.2.2.1.2.2.2.2.2.2.2.2.2.2.2.2.2.2.2.2.2.2.2.2.2.2.2.2.2.2.1
theorem k0_off201_inb : ∀ (v121 : BitVec 32) (k0_hw9 : k0_chk9 v121), ∀ a, (k0_off201 v121) a + S1x1x256.size a ≤ S2x16x2816.size a := fun v121 k0_hw9 => k0_hw9.2.2.2.2.1.2.2.2.2.2.2.2.2.2.2.2.2.2.2.2.2.2.2.2.2.2.2.2.2.2.2.2.1
theorem k0_off202_inb : ∀ (v121 : BitVec 32) (k0_hw9 : k0_chk9 v121), ∀ a, (k0_off202 v121) a + S1x1x256.size a ≤ S2x16x2816.size a := fun v121 k0_hw9 => k0_hw9.2.2.2.2.1.2.2.2.2.2.2.2.2.2.2.2.2.2.2.2.2.2.2.2.2.2.2.2.2.2.2.2.2.1
theorem k0_off203_inb : ∀ (v121 : BitVec 32) (k0_hw9 : k0_chk9 v121), ∀ a, (k0_off203 v121) a + S1x1x256.size a ≤ S2x16x2816.size a := fun v121 k0_hw9 => k0_hw9.2.2.2.2.1.2.2.2.2.2.2.2.2.2.2.2.2.2.2.2.2.2.2.2.2.2.2.2.2.2.2.2.2.2.1
theorem k0_off204_inb : ∀ (v121 : BitVec 32) (k0_hw9 : k0_chk9 v121), ∀ a, (k0_off204 v121) a + S1x1x256.size a ≤ S2x16x2816.size a := fun v121 k0_hw9 => k0_hw9.2.2.2.2.1.2.2.2.2.2.2.2.2.2.2.2.2.2.2.2.2.2.2.2.2.2.2.2.2.2.2.2.2.2.2.1
theorem k0_off205_inb : ∀ (v121 : BitVec 32) (k0_hw9 : k0_chk9 v121), ∀ a, (k0_off205 v121) a + S1x1x256.size a ≤ S2x16x2816.size a := fun v121 k0_hw9 => k0_hw9.2.2.2.2.1.2.2.2.2.2.2.2.2.2.2.2.2.2.2.2.2.2.2.2.2.2.2.2.2.2.2.2.2.2.2.2
theorem k0_off206_inb : ∀ (v121 : BitVec 32) (k0_hw9 : k0_chk9 v121), ∀ a, (k0_off206 v121) a + S1x1x256.size a ≤ S2x16x2816.size a := fun v121 k0_hw9 => k0_hw9.2.2.2.2.2.1.1
theorem k0_off207_inb : ∀ (v121 : BitVec 32) (k0_hw9 : k0_chk9 v121), ∀ a, (k0_off207 v121) a + S1x1x256.size a ≤ S2x16x2816.size a := fun v121 k0_hw9 => k0_hw9.2.2.2.2.2.1.2.1
theorem k0_off208_inb : ∀ (v121 : BitVec 32) (k0_hw9 : k0_chk9 v121), ∀ a, (k0_off208 v121) a + S1x1x256.size a ≤ S2x16x2816.size a := fun v121 k0_hw9 => k0_hw9.2.2.2.2.2.1.2.2.1
theorem k0_off209_inb : ∀ (v121 : BitVec 32) (k0_hw9 : k0_chk9 v121), ∀ a, (k0_off209 v121) a + S1x1x256.size a ≤ S2x16x2816.size a := fun v121 k0_hw9 => k0_hw9.2.2.2.2.2.1.2.2.2.1
theorem k0_off210_inb : ∀ (v121 : BitVec 32) (k0_hw9 : k0_chk9 v121), ∀ a, (k0_off210 v121) a + S1x1x256.size a ≤ S2x16x2816.size a := fun v121 k0_hw9 => k0_hw9.2.2.2.2.2.1.2.2.2.2.1
theorem k0_off211_inb : ∀ (v121 : BitVec 32) (k0_hw9 : k0_chk9 v121), ∀ a, (k0_off211 v121) a + S1x1x256.size a ≤ S2x16x2816.size a := fun v121 k0_hw9 => k0_hw9.2.2.2.2.2.1.2.2.2.2.2.1
theorem k0_off212_inb : ∀ (v121 : BitVec 32) (k0_hw9 : k0_chk9 v121), ∀ a, (k0_off212 v121) a + S1x1x256.size a ≤ S2x16x2816.size a := fun v121 k0_hw9 => k0_hw9.2.2.2.2.2.1.2.2.2.2.2.2.1
theorem k0_off213_inb : ∀ (v121 : BitVec 32) (k0_hw9 : k0_chk9 v121), ∀ a, (k0_off213 v121) a + S1x1x256.size a ≤ S2x16x2816.size a := fun v121 k0_hw9 => k0_hw9.2.2.2.2.2.1.2.2.2.2.2.2.2.1
theorem k0_off214_inb : ∀ (v121 : BitVec 32) (k0_hw9 : k0_chk9 v121), ∀ a, (k0_off214 v121) a + S1x1x256.size a ≤ S2x16x2816.size a := fun v121 k0_hw9 => k0_hw9.2.2.2.2.2.1.2.2.2.2.2.2.2.2.1
theorem k0_off215_inb : ∀ (v121 : BitVec 32) (k0_hw9 : k0_chk9 v121), ∀ a, (k0_off215 v121) a + S1x1x256.size a ≤ S2x16x2816.size a := fun v121 k0_hw9 => k0_hw9.2.2.2.2.2.1.2.2.2.2.2.2.2.2.2.1
theorem k0_off216_inb : ∀ (v121 : BitVec 32) (k0_hw9 : k0_chk9 v121), ∀ a, (k0_off216 v121) a + S1x1024x256.size a ≤ S2x1024x2816.size a := fun v121 k0_hw9 => k0_hw9.2.2.2.2.2.1.2.2.2.2.2.2.2.2.2.2.1
theorem k0_off217_inb : ∀ (v121 : BitVec 32) (k0_hw9 : k0_chk9 v121), ∀ a, (k0_off217 v121) a + S1x1x256.size a ≤ S2x16x2816.size a := fun v121 k0_hw9 => k0_hw9.2.2.2.2.2.1.2.2.2.2.2.2.2.2.2.2.2.1
theorem k0_off218_inb : ∀ (v121 : BitVec 32) (k0_hw9 : k0_chk9 v121), ∀ a, (k0_off218 v121) a + S1x1x256.size a ≤ S2x16x2816.size a := fun v121 k0_hw9 => k0_hw9.2.2.2.2.2.1.2.2.2.2.2.2.2.2.2.2.2.2.1
theorem k0_off219_inb : ∀ (v121 : BitVec 32) (k0_hw9 : k0_chk9 v121), ∀ a, (k0_off219 v121) a + S1x1x256.size a ≤ S2x16x2816.size a := fun v121 k0_hw9 => k0_hw9.2.2.2.2.2.1.2.2.2.2.2.2.2.2.2.2.2.2.2.1
theorem k0_off220_inb : ∀ (v121 : BitVec 32) (k0_hw9 : k0_chk9 v121), ∀ a, (k0_off220 v121) a + S1x1x256.size a ≤ S2x16x2816.size a := fun v121 k0_hw9 => k0_hw9.2.2.2.2.2.1.2.2.2.2.2.2.2.2.2.2.2.2.2.2.1
theorem k0_off221_inb : ∀ (v121 : BitVec 32) (k0_hw9 : k0_chk9 v121), ∀ a, (k0_off221 v121) a + S1x1x256.size a ≤ S2x16x2816.size a := fun v121 k0_hw9 => k0_hw9.2.2.2.2.2.1.2.2.2.2.2.2.2.2.2.2.2.2.2.2.2.1
theorem k0_off222_inb : ∀ (v121 : BitVec 32) (k0_hw9 : k0_chk9 v121), ∀ a, (k0_off222 v121) a + S1x1x256.size a ≤ S2x16x2816.size a := fun v121 k0_hw9 => k0_hw9.2.2.2.2.2.1.2.2.2.2.2.2.2.2.2.2.2.2.2.2.2.2.1
theorem k0_off223_inb : ∀ (v121 : BitVec 32) (k0_hw9 : k0_chk9 v121), ∀ a, (k0_off223 v121) a + S1x1x256.size a ≤ S2x16x2816.size a := fun v121 k0_hw9 => k0_hw9.2.2.2.2.2.1.2.2.2.2.2.2.2.2.2.2.2.2.2.2.2.2.2.1
theorem k0_off224_inb : ∀ (v121 : BitVec 32) (k0_hw9 : k0_chk9 v121), ∀ a, (k0_off224 v121) a + S1x1x256.size a ≤ S2x16x2816.size a := fun v121 k0_hw9 => k0_hw9.2.2.2.2.2.1.2.2.2.2.2.2.2.2.2.2.2.2.2.2.2.2.2.2.1
theorem k0_off225_inb : ∀ (v121 : BitVec 32) (k0_hw9 : k0_chk9 v121), ∀ a, (k0_off225 v121) a + S1x1x256.size a ≤ S2x16x2816.size a := fun v121 k0_hw9 => k0_hw9.2.2.2.2.2.1.2.2.2.2.2.2.2.2.2.2.2.2.2.2.2.2.2.2.2.1
theorem k0_off226_inb : ∀ (v121 : BitVec 32) (k0_hw9 : k0_chk9 v121), ∀ a, (k0_off226 v121) a + S1x1x256.size a ≤ S2x16x2816.size a := fun v121 k0_hw9 => k0_hw9.2.2.2.2.2.1.2.2.2.2.2.2.2.2.2.2.2.2.2.2.2.2.2.2.2.2.1
theorem k0_off227_inb : ∀ (v121 : BitVec 32) (k0_hw9 : k0_chk9 v121), ∀ a, (k0_off227 v121) a + S1x1x256.size a ≤ S2x16x2816.size a := fun v121 k0_hw9 => k0_hw9.2.2.2.2.2.1.2.2.2.2.2.2.2.2.2.2.2.2.2.2.2.2.2.2.2.2.2.1
theorem k0_off228_inb : ∀ (v121 : BitVec 32) (k0_hw9 : k0_chk9 v121), ∀ a, (k0_off228 v121) a + S1x1x256.size a ≤ S2x16x2816.size a := fun v121 k0_hw9 => k0_hw9.2.2.2.2.2.1.2.2.2.2.2.2.2.2.2.2.2.2.2.2.2.2.2.2.2.2.2.2.1
theorem k0_off229_inb : ∀ (v121 : BitVec 32) (k0_hw9 : k0_chk9 v121), ∀ a, (k0_off229 v121) a + S1x1x256.size a ≤ S2x16x2816.size a := fun v121 k0_hw9 => k0_hw9.2.2.2.2.2.1.2.2.2.2.2.2.2.2.2.2.2.2.2.2.2.2.2.2.2.2.2.2.2.1
theorem k0_off230_inb : ∀ (v121 : BitVec 32) (k0_hw9 : k0_chk9 v121), ∀ a, (k0_off230 v121) a + S1x1x256.size a ≤ S2x16x2816.size a := fun v121 k0_hw9 => k0_hw9.2.2.2.2.2.1.2.2.2.2.2.2.2.2.2.2.2.2.2.2.2.2.2.2.2.2.2.2.2.2.1
theorem k0_off231_inb : ∀ (v121 : BitVec 32) (k0_hw9 : k0_chk9 v121), ∀ a, (k0_off231 v121) a + S1x1x256.size a ≤ S2x16x2816.size a := fun v121 k0_hw9 => k0_hw9.2.2.2.2.2.1.2.2.2.2.2.2.2.2.2.2.2.2.2.2.2.2.2.2.2.2.2.2.2.2.2.1
theorem k0_off232_inb : ∀ (v121 : BitVec 32) (k0_hw9 : k0_chk9 v121), ∀ a, (k0_off232 v121) a + S1x1x256.size a ≤ S2x16x2816.size a := fun v121 k0_hw9 => k0_hw9.2.2.2.2.2.1.2.2.2.2.2.2.2.2.2.2.2.2.2.2.2.2.2.2.2.2.2.2.2.2.2.2.1
theorem k0_off234_inb : ∀ (v121 : BitVec 32) (k0_hw9 : k0_chk9 v121), ∀ a, (k0_off234 v121) a + S1x704x256.size a ≤ S2x704x2048.size a := fun v121 k0_hw9 => k0_hw9.2.2.2.2.2.1.2.2.2.2.2.2.2.2.2.2.2.2.2.2.2.2.2.2.2.2.2.2.2.2.2.2.2.1
theorem k0_off235_inb : ∀ (v121 : BitVec 32) (k0_hw9 : k0_chk9 v121), ∀ a, (k0_off235 v121) a + S1x1x256.size a ≤ S2x11x2048.size a := fun v121 k0_hw9 => k0_hw9.2.2.2.2.2.1.2.2.2.2.2.2.2.2.2.2.2.2.2.2.2.2.2.2.2.2.2.2.2.2.2.2.2.2.1
theorem k0_off236_inb : ∀ (v121 : BitVec 32) (k0_hw9 : k0_chk9 v121), ∀ a, (k0_off236 v121) a + S1x1x256.size a ≤ S2x11x2048.size a := fun v121 k0_hw9 => k0_hw9.2.2.2.2.2.1.2.2.2.2.2.2.2.2.2.2.2.2.2.2.2.2.2.2.2.2.2.2.2.2.2.2.2.2.2.1
theorem k0_off237_inb : ∀ (v121 : BitVec 32) (k0_hw9 : k0_chk9 v121), ∀ a, (k0_off237 v121) a + S1x1x256.size a ≤ S2x11x2048.size a := fun v121 k0_hw9 => k0_hw9.2.2.2.2.2.1.2.2.2.2.2.2.2.2.2.2.2.2.2.2.2.2.2.2.2.2.2.2.2.2.2.2.2.2.2.2.1
theorem k0_off238_inb : ∀ (v121 : BitVec 32) (k0_hw9 : k0_chk9 v121), ∀ a, (k0_off238 v121) a + S1x1x256.size a ≤ S2x11x2048.size a := fun v121 k0_hw9 => k0_hw9.2.2.2.2.2.1.2.2.2.2.2.2.2.2.2.2.2.2.2.2.2.2.2.2.2.2.2.2.2.2.2.2.2.2.2.2.2
theorem k0_off239_inb : ∀ (v121 : BitVec 32) (k0_hw9 : k0_chk9 v121), ∀ a, (k0_off239 v121) a + S1x1x256.size a ≤ S2x11x2048.size a := fun v121 k0_hw9 => k0_hw9.2.2.2.2.2.2.1.1
theorem k0_off240_inb : ∀ (v121 : BitVec 32) (k0_hw9 : k0_chk9 v121), ∀ a, (k0_off240 v121) a + S1x1x256.size a ≤ S2x11x2048.size a := fun v121 k0_hw9 => k0_hw9.2.2.2.2.2.2.1.2.1
theorem k0_off241_inb : ∀ (v121 : BitVec 32) (k0_hw9 : k0_chk9 v121), ∀ a, (k0_off241 v121) a + S1x1x256.size a ≤ S2x11x2048.size a := fun v121 k0_hw9 => k0_hw9.2.2.2.2.2.2.1.2.2.1
theorem k0_off242_inb : ∀ (v121 : BitVec 32) (k0_hw9 : k0_chk9 v121), ∀ a, (k0_off242 v121) a + S1x1x256.size a ≤ S2x11x2048.size a := fun v121 k0_hw9 => k0_hw9.2.2.2.2.2.2.1.2.2.2.1
theorem k0_off243_inb : ∀ (v121 : BitVec 32) (k0_hw9 : k0_chk9 v121), ∀ a, (k0_off243 v121) a + S1x1x256.size a ≤ S2x11x2048.size a := fun v121 k0_hw9 => k0_hw9.2.2.2.2.2.2.1.2.2.2.2.1
theorem k0_off244_inb : ∀ (v121 : BitVec 32) (k0_hw9 : k0_chk9 v121), ∀ a, (k0_off244 v121) a + S1x1x256.size a ≤ S2x11x2048.size a := fun v121 k0_hw9 => k0_hw9.2.2.2.2.2.2.1.2.2.2.2.2.1
theorem k0_off245_inb : ∀ (v121 : BitVec 32) (k0_hw9 : k0_chk9 v121), ∀ a, (k0_off245 v121) a + S1x1x256.size a ≤ S2x11x2048.size a := fun v121 k0_hw9 => k0_hw9.2.2.2.2.2.2.1.2.2.2.2.2.2.1
theorem k0_off248_inb : ∀ (v121 : BitVec 32) (k0_hw9 : k0_chk9 v121), ∀ a, (k0_off248 v121) a + S1x704x256.size a ≤ S2x704x2048.size a := fun v121 k0_hw9 => k0_hw9.2.2.2.2.2.2.1.2.2.2.2.2.2.2.1
theorem k0_off249_inb : ∀ (v121 : BitVec 32) (k0_hw9 : k0_chk9 v121), ∀ a, (k0_off249 v121) a + S1x1x256.size a ≤ S2x11x2048.size a := fun v121 k0_hw9 => k0_hw9.2.2.2.2.2.2.1.2.2.2.2.2.2.2.2.1
theorem k0_off250_inb : ∀ (v121 : BitVec 32) (k0_hw9 : k0_chk9 v121), ∀ a, (k0_off250 v121) a + S1x1x256.size a ≤ S2x11x2048.size a := fun v121 k0_hw9 => k0_hw9.2.2.2.2.2.2.1.2.2.2.2.2.2.2.2.2.1
theorem k0_off251_inb : ∀ (v121 : BitVec 32) (k0_hw9 : k0_chk9 v121), ∀ a, (k0_off251 v121) a + S1x1x256.size a ≤ S2x11x2048.size a := fun v121 k0_hw9 => k0_hw9.2.2.2.2.2.2.1.2.2.2.2.2.2.2.2.2.2.1
theorem k0_off252_inb : ∀ (v121 : BitVec 32) (k0_hw9 : k0_chk9 v121), ∀ a, (k0_off252 v121) a + S1x1x256.size a ≤ S2x11x2048.size a := fun v121 k0_hw9 => k0_hw9.2.2.2.2.2.2.1.2.2.2.2.2.2.2.2.2.2.2.1
theorem k0_off253_inb : ∀ (v121 : BitVec 32) (k0_hw9 : k0_chk9 v121), ∀ a, (k0_off253 v121) a + S1x1x256.size a ≤ S2x11x2048.size a := fun v121 k0_hw9 => k0_hw9.2.2.2.2.2.2.1.2.2.2.2.2.2.2.2.2.2.2.2.1
theorem k0_off254_inb : ∀ (v121 : BitVec 32) (k0_hw9 : k0_chk9 v121), ∀ a, (k0_off254 v121) a + S1x1x256.size a ≤ S2x11x2048.size a := fun v121 k0_hw9 => k0_hw9.2.2.2.2.2.2.1.2.2.2.2.2.2.2.2.2.2.2.2.2.1
theorem k0_off255_inb : ∀ (v121 : BitVec 32) (k0_hw9 : k0_chk9 v121), ∀ a, (k0_off255 v121) a + S1x1x256.size a ≤ S2x11x2048.size a := fun v121 k0_hw9 => k0_hw9.2.2.2.2.2.2.1.2.2.2.2.2.2.2.2.2.2.2.2.2.2.1
theorem k0_off256_inb : ∀ (v121 : BitVec 32) (k0_hw9 : k0_chk9 v121), ∀ a, (k0_off256 v121) a + S1x1x256.size a ≤ S2x11x2048.size a := fun v121 k0_hw9 => k0_hw9.2.2.2.2.2.2.1.2.2.2.2.2.2.2.2.2.2.2.2.2.2.2.1
theorem k0_off257_inb : ∀ (v121 : BitVec 32) (k0_hw9 : k0_chk9 v121), ∀ a, (k0_off257 v121) a + S1x1x256.size a ≤ S2x11x2048.size a := fun v121 k0_hw9 => k0_hw9.2.2.2.2.2.2.1.2.2.2.2.2.2.2.2.2.2.2.2.2.2.2.2.1
theorem k0_off258_inb : ∀ (v121 : BitVec 32) (k0_hw9 : k0_chk9 v121), ∀ a, (k0_off258 v121) a + S1x1x256.size a ≤ S2x11x2048.size a := fun v121 k0_hw9 => k0_hw9.2.2.2.2.2.2.1.2.2.2.2.2.2.2.2.2.2.2.2.2.2.2.2.2.1
theorem k0_off259_inb : ∀ (v121 : BitVec 32) (k0_hw9 : k0_chk9 v121), ∀ a, (k0_off259 v121) a + S1x1x256.size a ≤ S2x11x2048.size a := fun v121 k0_hw9 => k0_hw9.2.2.2.2.2.2.1.2.2.2.2.2.2.2.2.2.2.2.2.2.2.2.2.2.2.1
theorem k0_off262_inb : ∀ (v121 : BitVec 32) (k0_hw9 : k0_chk9 v121), ∀ a, (k0_off262 v121) a + S1x704x256.size a ≤ S2x704x2048.size a := fun v121 k0_hw9 => k0_hw9.2.2.2.2.2.2.1.2.2.2.2.2.2.2.2.2.2.2.2.2.2.2.2.2.2.2.1
theorem k0_off263_inb : ∀ (v121 : BitVec 32) (k0_hw9 : k0_chk9 v121), ∀ a, (k0_off263 v121) a + S1x1x256.size a ≤ S2x11x2048.size a := fun v121 k0_hw9 => k0_hw9.2.2.2.2.2.2.1.2.2.2.2.2.2.2.2.2.2.2.2.2.2.2.2.2.2.2.2.1
theorem k0_off264_inb : ∀ (v121 : BitVec 32) (k0_hw9 : k0_chk9 v121), ∀ a, (k0_off264 v121) a + S1x1x256.size a ≤ S2x11x2048.size a := fun v121 k0_hw9 => k0_hw9.2.2.2.2.2.2.1.2.2.2.2.2.2.2.2.2.2.2.2.2.2.2.2.2.2.2.2.2.1
theorem k0_off265_inb : ∀ (v121 : BitVec 32) (k0_hw9 : k0_chk9 v121), ∀ a, (k0_off265 v121) a + S1x1x256.size a ≤ S2x11x2048.size a := fun v121 k0_hw9 => k0_hw9.2.2.2.2.2.2.1.2.2.2.2.2.2.2.2.2.2.2.2.2.2.2.2.2.2.2.2.2.2.1
theorem k0_off266_inb : ∀ (v121 : BitVec 32) (k0_hw9 : k0_chk9 v121), ∀ a, (k0_off266 v121) a + S1x1x256.size a ≤ S2x11x2048.size a := fun v121 k0_hw9 => k0_hw9.2.2.2.2.2.2.1.2.2.2.2.2.2.2.2.2.2.2.2.2.2.2.2.2.2.2.2.2.2.2.1
theorem k0_off267_inb : ∀ (v121 : BitVec 32) (k0_hw9 : k0_chk9 v121), ∀ a, (k0_off267 v121) a + S1x1x256.size a ≤ S2x11x2048.size a := fun v121 k0_hw9 => k0_hw9.2.2.2.2.2.2.1.2.2.2.2.2.2.2.2.2.2.2.2.2.2.2.2.2.2.2.2.2.2.2.2.1
theorem k0_off268_inb : ∀ (v121 : BitVec 32) (k0_hw9 : k0_chk9 v121), ∀ a, (k0_off268 v121) a + S1x1x256.size a ≤ S2x11x2048.size a := fun v121 k0_hw9 => k0_hw9.2.2.2.2.2.2.1.2.2.2.2.2.2.2.2.2.2.2.2.2.2.2.2.2.2.2.2.2.2.2.2.2.1
theorem k0_off269_inb : ∀ (v121 : BitVec 32) (k0_hw9 : k0_chk9 v121), ∀ a, (k0_off269 v121) a + S1x1x256.size a ≤ S2x11x2048.size a := fun v121 k0_hw9 => k0_hw9.2.2.2.2.2.2.1.2.2.2.2.2.2.2.2.2.2.2.2.2.2.2.2.2.2.2.2.2.2.2.2.2.2.1
theorem k0_off270_inb : ∀ (v121 : BitVec 32) (k0_hw9 : k0_chk9 v121), ∀ a, (k0_off270 v121) a + S1x1x256.size a ≤ S2x11x2048.size a := fun v121 k0_hw9 => k0_hw9.2.2.2.2.2.2.1.2.2.2.2.2.2.2.2.2.2.2.2.2.2.2.2.2.2.2.2.2.2.2.2.2.2.2.1
theorem k0_off271_inb : ∀ (v121 : BitVec 32) (k0_hw9 : k0_chk9 v121), ∀ a, (k0_off271 v121) a + S1x1x256.size a ≤ S2x11x2048.size a := fun v121 k0_hw9 => k0_hw9.2.2.2.2.2.2.1.2.2.2.2.2.2.2.2.2.2.2.2.2.2.2.2.2.2.2.2.2.2.2.2.2.2.2.2.1
theorem k0_off272_inb : ∀ (v121 : BitVec 32) (k0_hw9 : k0_chk9 v121), ∀ a, (k0_off272 v121) a + S1x1x256.size a ≤ S2x11x2048.size a := fun v121 k0_hw9 => k0_hw9.2.2.2.2.2.2.1.2.2.2.2.2.2.2.2.2.2.2.2.2.2.2.2.2.2.2.2.2.2.2.2.2.2.2.2.2.1
theorem k0_off273_inb : ∀ (v121 : BitVec 32) (k0_hw9 : k0_chk9 v121), ∀ a, (k0_off273 v121) a + S1x1x256.size a ≤ S2x11x2048.size a := fun v121 k0_hw9 => k0_hw9.2.2.2.2.2.2.1.2.2.2.2.2.2.2.2.2.2.2.2.2.2.2.2.2.2.2.2.2.2.2.2.2.2.2.2.2.2.1
theorem k0_off276_inb : ∀ (v121 : BitVec 32) (k0_hw9 : k0_chk9 v121), ∀ a, (k0_off276 v121) a + S1x704x256.size a ≤ S2x704x2048.size a := fun v121 k0_hw9 => k0_hw9.2.2.2.2.2.2.1.2.2.2.2.2.2.2.2.2.2.2.2.2.2.2.2.2.2.2.2.2.2.2.2.2.2.2.2.2.2.2
theorem k0_off277_inb : ∀ (v121 : BitVec 32) (k0_hw9 : k0_chk9 v121), ∀ a, (k0_off277 v121) a + S1x1x256.size a ≤ S2x11x2048.size a := fun v121 k0_hw9 => k0_hw9.2.2.2.2.2.2.2.1.1
theorem k0_off278_inb : ∀ (v121 : BitVec 32) (k0_hw9 : k0_chk9 v121), ∀ a, (k0_off278 v121) a + S1x1x256.size a ≤ S2x11x2048.size a := fun v121 k0_hw9 => k0_hw9.2.2.2.2.2.2.2.1.2.1
theorem k0_off279_inb : ∀ (v121 : BitVec 32) (k0_hw9 : k0_chk9 v121), ∀ a, (k0_off279 v121) a + S1x1x256.size a ≤ S2x11x2048.size a := fun v121 k0_hw9 => k0_hw9.2.2.2.2.2.2.2.1.2.2.1
theorem k0_off280_inb : ∀ (v121 : BitVec 32) (k0_hw9 : k0_chk9 v121), ∀ a, (k0_off280 v121) a + S1x1x256.size a ≤ S2x11x2048.size a := fun v121 k0_hw9 => k0_hw9.2.2.2.2.2.2.2.1.2.2.2.1
theorem k0_off281_inb : ∀ (v121 : BitVec 32) (k0_hw9 : k0_chk9 v121), ∀ a, (k0_off281 v121) a + S1x1x256.size a ≤ S2x11x2048.size a := fun v121 k0_hw9 => k0_hw9.2.2.2.2.2.2.2.1.2.2.2.2.1
theorem k0_off282_inb : ∀ (v121 : BitVec 32) (k0_hw9 : k0_chk9 v121), ∀ a, (k0_off282 v121) a + S1x1x256.size a ≤ S2x11x2048.size a := fun v121 k0_hw9 => k0_hw9.2.2.2.2.2.2.2.1.2.2.2.2.2.1
theorem k0_off283_inb : ∀ (v121 : BitVec 32) (k0_hw9 : k0_chk9 v121), ∀ a, (k0_off283 v121) a + S1x1x256.size a ≤ S2x11x2048.size a := fun v121 k0_hw9 => k0_hw9.2.2.2.2.2.2.2.1.2.2.2.2.2.2.1
theorem k0_off284_inb : ∀ (v121 : BitVec 32) (k0_hw9 : k0_chk9 v121), ∀ a, (k0_off284 v121) a + S1x1x256.size a ≤ S2x11x2048.size a := fun v121 k0_hw9 => k0_hw9.2.2.2.2.2.2.2.1.2.2.2.2.2.2.2.1
theorem k0_off285_inb : ∀ (v121 : BitVec 32) (k0_hw9 : k0_chk9 v121), ∀ a, (k0_off285 v121) a + S1x1x256.size a ≤ S2x11x2048.size a := fun v121 k0_hw9 => k0_hw9.2.2.2.2.2.2.2.1.2.2.2.2.2.2.2.2.1
theorem k0_off286_inb : ∀ (v121 : BitVec 32) (k0_hw9 : k0_chk9 v121), ∀ a, (k0_off286 v121) a + S1x1x256.size a ≤ S2x11x2048.size a := fun v121 k0_hw9 => k0_hw9.2.2.2.2.2.2.2.1.2.2.2.2.2.2.2.2.2.1
theorem k0_off287_inb : ∀ (v121 : BitVec 32) (k0_hw9 : k0_chk9 v121), ∀ a, (k0_off287 v121) a + S1x1x256.size a ≤ S2x11x2048.size a := fun v121 k0_hw9 => k0_hw9.2.2.2.2.2.2.2.1.2.2.2.2.2.2.2.2.2.2.1
theorem k0_off290_inb : ∀ (v121 : BitVec 32) (k0_hw9 : k0_chk9 v121), ∀ a, (k0_off290 v121) a + S1x704x256.size a ≤ S2x704x2048.size a := fun v121 k0_hw9 => k0_hw9.2.2.2.2.2.2.2.1.2.2.2.2.2.2.2.2.2.2.2.1
theorem k0_off291_inb : ∀ (v121 : BitVec 32) (k0_hw9 : k0_chk9 v121), ∀ a, (k0_off291 v121) a + S1x1x256.size a ≤ S2x11x2048.size a := fun v121 k0_hw9 => k0_hw9.2.2.2.2.2.2.2.1.2.2.2.2.2.2.2.2.2.2.2.2.1
theorem k0_off292_inb : ∀ (v121 : BitVec 32) (k0_hw9 : k0_chk9 v121), ∀ a, (k0_off292 v121) a + S1x1x256.size a ≤ S2x11x2048.size a := fun v121 k0_hw9 => k0_hw9.2.2.2.2.2.2.2.1.2.2.2.2.2.2.2.2.2.2.2.2.2.1
theorem k0_off293_inb : ∀ (v121 : BitVec 32) (k0_hw9 : k0_chk9 v121), ∀ a, (k0_off293 v121) a + S1x1x256.size a ≤ S2x11x2048.size a := fun v121 k0_hw9 => k0_hw9.2.2.2.2.2.2.2.1.2.2.2.2.2.2.2.2.2.2.2.2.2.2.1
theorem k0_off294_inb : ∀ (v121 : BitVec 32) (k0_hw9 : k0_chk9 v121), ∀ a, (k0_off294 v121) a + S1x1x256.size a ≤ S2x11x2048.size a := fun v121 k0_hw9 => k0_hw9.2.2.2.2.2.2.2.1.2.2.2.2.2.2.2.2.2.2.2.2.2.2.2.1
theorem k0_off295_inb : ∀ (v121 : BitVec 32) (k0_hw9 : k0_chk9 v121), ∀ a, (k0_off295 v121) a + S1x1x256.size a ≤ S2x11x2048.size a := fun v121 k0_hw9 => k0_hw9.2.2.2.2.2.2.2.1.2.2.2.2.2.2.2.2.2.2.2.2.2.2.2.2.1
theorem k0_off296_inb : ∀ (v121 : BitVec 32) (k0_hw9 : k0_chk9 v121), ∀ a, (k0_off296 v121) a + S1x1x256.size a ≤ S2x11x2048.size a := fun v121 k0_hw9 => k0_hw9.2.2.2.2.2.2.2.1.2.2.2.2.2.2.2.2.2.2.2.2.2.2.2.2.2.1
theorem k0_off297_inb : ∀ (v121 : BitVec 32) (k0_hw9 : k0_chk9 v121), ∀ a, (k0_off297 v121) a + S1x1x256.size a ≤ S2x11x2048.size a := fun v121 k0_hw9 => k0_hw9.2.2.2.2.2.2.2.1.2.2.2.2.2.2.2.2.2.2.2.2.2.2.2.2.2.2.1
theorem k0_off298_inb : ∀ (v121 : BitVec 32) (k0_hw9 : k0_chk9 v121), ∀ a, (k0_off298 v121) a + S1x1x256.size a ≤ S2x11x2048.size a := fun v121 k0_hw9 => k0_hw9.2.2.2.2.2.2.2.1.2.2.2.2.2.2.2.2.2.2.2.2.2.2.2.2.2.2.2.1
theorem k0_off299_inb : ∀ (v121 : BitVec 32) (k0_hw9 : k0_chk9 v121), ∀ a, (k0_off299 v121) a + S1x1x256.size a ≤ S2x11x2048.size a := fun v121 k0_hw9 => k0_hw9.2.2.2.2.2.2.2.1.2.2.2.2.2.2.2.2.2.2.2.2.2.2.2.2.2.2.2.2.1
theorem k0_off300_inb : ∀ (v121 : BitVec 32) (k0_hw9 : k0_chk9 v121), ∀ a, (k0_off300 v121) a + S1x1x256.size a ≤ S2x11x2048.size a := fun v121 k0_hw9 => k0_hw9.2.2.2.2.2.2.2.1.2.2.2.2.2.2.2.2.2.2.2.2.2.2.2.2.2.2.2.2.2.1
theorem k0_off301_inb : ∀ (v121 : BitVec 32) (k0_hw9 : k0_chk9 v121), ∀ a, (k0_off301 v121) a + S1x1x256.size a ≤ S2x11x2048.size a := fun v121 k0_hw9 => k0_hw9.2.2.2.2.2.2.2.1.2.2.2.2.2.2.2.2.2.2.2.2.2.2.2.2.2.2.2.2.2.2.1
theorem k0_off304_inb : ∀ (v121 : BitVec 32) (k0_hw9 : k0_chk9 v121), ∀ a, (k0_off304 v121) a + S1x704x256.size a ≤ S2x704x2048.size a := fun v121 k0_hw9 => k0_hw9.2.2.2.2.2.2.2.1.2.2.2.2.2.2.2.2.2.2.2.2.2.2.2.2.2.2.2.2.2.2.2.1
theorem k0_off305_inb : ∀ (v121 : BitVec 32) (k0_hw9 : k0_chk9 v121), ∀ a, (k0_off305 v121) a + S1x1x256.size a ≤ S2x11x2048.size a := fun v121 k0_hw9 => k0_hw9.2.2.2.2.2.2.2.1.2.2.2.2.2.2.2.2.2.2.2.2.2.2.2.2.2.2.2.2.2.2.2.2.1
theorem k0_off306_inb : ∀ (v121 : BitVec 32) (k0_hw9 : k0_chk9 v121), ∀ a, (k0_off306 v121) a + S1x1x256.size a ≤ S2x11x2048.size a := fun v121 k0_hw9 => k0_hw9.2.2.2.2.2.2.2.1.2.2.2.2.2.2.2.2.2.2.2.2.2.2.2.2.2.2.2.2.2.2.2.2.2.1
theorem k0_off307_inb : ∀ (v121 : BitVec 32) (k0_hw9 : k0_chk9 v121), ∀ a, (k0_off307 v121) a + S1x1x256.size a ≤ S2x11x2048.size a := fun v121 k0_hw9 => k0_hw9.2.2.2.2.2.2.2.1.2.2.2.2.2.2.2.2.2.2.2.2.2.2.2.2.2.2.2.2.2.2.2.2.2.2.1
theorem k0_off308_inb : ∀ (v121 : BitVec 32) (k0_hw9 : k0_chk9 v121), ∀ a, (k0_off308 v121) a + S1x1x256.size a ≤ S2x11x2048.size a := fun v121 k0_hw9 => k0_hw9.2.2.2.2.2.2.2.1.2.2.2.2.2.2.2.2.2.2.2.2.2.2.2.2.2.2.2.2.2.2.2.2.2.2.2.1
theorem k0_off309_inb : ∀ (v121 : BitVec 32) (k0_hw9 : k0_chk9 v121), ∀ a, (k0_off309 v121) a + S1x1x256.size a ≤ S2x11x2048.size a := fun v121 k0_hw9 => k0_hw9.2.2.2.2.2.2.2.1.2.2.2.2.2.2.2.2.2.2.2.2.2.2.2.2.2.2.2.2.2.2.2.2.2.2.2.2.1
theorem k0_off310_inb : ∀ (v121 : BitVec 32) (k0_hw9 : k0_chk9 v121), ∀ a, (k0_off310 v121) a + S1x1x256.size a ≤ S2x11x2048.size a := fun v121 k0_hw9 => k0_hw9.2.2.2.2.2.2.2.1.2.2.2.2.2.2.2.2.2.2.2.2.2.2.2.2.2.2.2.2.2.2.2.2.2.2.2.2.2.1
theorem k0_off311_inb : ∀ (v121 : BitVec 32) (k0_hw9 : k0_chk9 v121), ∀ a, (k0_off311 v121) a + S1x1x256.size a ≤ S2x11x2048.size a := fun v121 k0_hw9 => k0_hw9.2.2.2.2.2.2.2.1.2.2.2.2.2.2.2.2.2.2.2.2.2.2.2.2.2.2.2.2.2.2.2.2.2.2.2.2.2.2.1
theorem k0_off312_inb : ∀ (v121 : BitVec 32) (k0_hw9 : k0_chk9 v121), ∀ a, (k0_off312 v121) a + S1x1x256.size a ≤ S2x11x2048.size a := fun v121 k0_hw9 => k0_hw9.2.2.2.2.2.2.2.1.2.2.2.2.2.2.2.2.2.2.2.2.2.2.2.2.2.2.2.2.2.2.2.2.2.2.2.2.2.2.2
theorem k0_off313_inb : ∀ (v121 : BitVec 32) (k0_hw9 : k0_chk9 v121), ∀ a, (k0_off313 v121) a + S1x1x256.size a ≤ S2x11x2048.size a := fun v121 k0_hw9 => k0_hw9.2.2.2.2.2.2.2.2.1
theorem k0_off314_inb : ∀ (v121 : BitVec 32) (k0_hw9 : k0_chk9 v121), ∀ a, (k0_off314 v121) a + S1x1x256.size a ≤ S2x11x2048.size a := fun v121 k0_hw9 => k0_hw9.2.2.2.2.2.2.2.2.2.1
theorem k0_off315_inb : ∀ (v121 : BitVec 32) (k0_hw9 : k0_chk9 v121), ∀ a, (k0_off315 v121) a + S1x1x256.size a ≤ S2x11x2048.size a := fun v121 k0_hw9 => k0_hw9.2.2.2.2.2.2.2.2.2.2.1
theorem k0_off318_inb : ∀ (v121 : BitVec 32) (k0_hw9 : k0_chk9 v121), ∀ a, (k0_off318 v121) a + S1x704x256.size a ≤ S2x704x2048.size a := fun v121 k0_hw9 => k0_hw9.2.2.2.2.2.2.2.2.2.2.2.1
theorem k0_off319_inb : ∀ (v121 : BitVec 32) (k0_hw9 : k0_chk9 v121), ∀ a, (k0_off319 v121) a + S1x1x256.size a ≤ S2x11x2048.size a := fun v121 k0_hw9 => k0_hw9.2.2.2.2.2.2.2.2.2.2.2.2.1
theorem k0_off320_inb : ∀ (v121 : BitVec 32) (k0_hw9 : k0_chk9 v121), ∀ a, (k0_off320 v121) a + S1x1x256.size a ≤ S2x11x2048.size a := fun v121 k0_hw9 => k0_hw9.2.2.2.2.2.2.2.2.2.2.2.2.2.1
theorem k0_off321_inb : ∀ (v121 : BitVec 32) (k0_hw9 : k0_chk9 v121), ∀ a, (k0_off321 v121) a + S1x1x256.size a ≤ S2x11x2048.size a := fun v121 k0_hw9 => k0_hw9.2.2.2.2.2.2.2.2.2.2.2.2.2.2.1
theorem k0_off322_inb : ∀ (v121 : BitVec 32) (k0_hw9 : k0_chk9 v121), ∀ a, (k0_off322 v121) a + S1x1x256.size a ≤ S2x11x2048.size a := fun v121 k0_hw9 => k0_hw9.2.2.2.2.2.2.2.2.2.2.2.2.2.2.2.1
theorem k0_off323_inb : ∀ (v121 : BitVec 32) (k0_hw9 : k0_chk9 v121), ∀ a, (k0_off323 v121) a + S1x1x256.size a ≤ S2x11x2048.size a := fun v121 k0_hw9 => k0_hw9.2.2.2.2.2.2.2.2.2.2.2.2.2.2.2.2.1
theorem k0_off324_inb : ∀ (v121 : BitVec 32) (k0_hw9 : k0_chk9 v121), ∀ a, (k0_off324 v121) a + S1x1x256.size a ≤ S2x11x2048.size a := fun v121 k0_hw9 => k0_hw9.2.2.2.2.2.2.2.2.2.2.2.2.2.2.2.2.2.1
theorem k0_off325_inb : ∀ (v121 : BitVec 32) (k0_hw9 : k0_chk9 v121), ∀ a, (k0_off325 v121) a + S1x1x256.size a ≤ S2x11x2048.size a := fun v121 k0_hw9 => k0_hw9.2.2.2.2.2.2.2.2.2.2.2.2.2.2.2.2.2.2.1
theorem k0_off326_inb : ∀ (v121 : BitVec 32) (k0_hw9 : k0_chk9 v121), ∀ a, (k0_off326 v121) a + S1x1x256.size a ≤ S2x11x2048.size a := fun v121 k0_hw9 => k0_hw9.2.2.2.2.2.2.2.2.2.2.2.2.2.2.2.2.2.2.2.1
theorem k0_off327_inb : ∀ (v121 : BitVec 32) (k0_hw9 : k0_chk9 v121), ∀ a, (k0_off327 v121) a + S1x1x256.size a ≤ S2x11x2048.size a := fun v121 k0_hw9 => k0_hw9.2.2.2.2.2.2.2.2.2.2.2.2.2.2.2.2.2.2.2.2.1
theorem k0_off328_inb : ∀ (v121 : BitVec 32) (k0_hw9 : k0_chk9 v121), ∀ a, (k0_off328 v121) a + S1x1x256.size a ≤ S2x11x2048.size a := fun v121 k0_hw9 => k0_hw9.2.2.2.2.2.2.2.2.2.2.2.2.2.2.2.2.2.2.2.2.2.1
theorem k0_off329_inb : ∀ (v121 : BitVec 32) (k0_hw9 : k0_chk9 v121), ∀ a, (k0_off329 v121) a + S1x1x256.size a ≤ S2x11x2048.size a := fun v121 k0_hw9 => k0_hw9.2.2.2.2.2.2.2.2.2.2.2.2.2.2.2.2.2.2.2.2.2.2.1
theorem k0_off332_inb : ∀ (v121 : BitVec 32) (k0_hw9 : k0_chk9 v121), ∀ a, (k0_off332 v121) a + S1x704x256.size a ≤ S2x704x2048.size a := fun v121 k0_hw9 => k0_hw9.2.2.2.2.2.2.2.2.2.2.2.2.2.2.2.2.2.2.2.2.2.2.2.1
theorem k0_off333_inb : ∀ (v121 : BitVec 32) (k0_hw9 : k0_chk9 v121), ∀ a, (k0_off333 v121) a + S1x1x256.size a ≤ S2x11x2048.size a := fun v121 k0_hw9 => k0_hw9.2.2.2.2.2.2.2.2.2.2.2.2.2.2.2.2.2.2.2.2.2.2.2.2.1
theorem k0_off334_inb : ∀ (v121 : BitVec 32) (k0_hw9 : k0_chk9 v121), ∀ a, (k0_off334 v121) a + S1x1x256.size a ≤ S2x11x2048.size a := fun v121 k0_hw9 => k0_hw9.2.2.2.2.2.2.2.2.2.2.2.2.2.2.2.2.2.2.2.2.2.2.2.2.2.1
theorem k0_off335_inb : ∀ (v121 : BitVec 32) (k0_hw9 : k0_chk9 v121), ∀ a, (k0_off335 v121) a + S1x1x256.size a ≤ S2x11x2048.size a := fun v121 k0_hw9 => k0_hw9.2.2.2.2.2.2.2.2.2.2.2.2.2.2.2.2.2.2.2.2.2.2.2.2.2.2.1
theorem k0_off336_inb : ∀ (v121 : BitVec 32) (k0_hw9 : k0_chk9 v121), ∀ a, (k0_off336 v121) a + S1x1x256.size a ≤ S2x11x2048.size a := fun v121 k0_hw9 => k0_hw9.2.2.2.2.2.2.2.2.2.2.2.2.2.2.2.2.2.2.2.2.2.2.2.2.2.2.2.1
theorem k0_off337_inb : ∀ (v121 : BitVec 32) (k0_hw9 : k0_chk9 v121), ∀ a, (k0_off337 v121) a + S1x1x256.size a ≤ S2x11x2048.size a := fun v121 k0_hw9 => k0_hw9.2.2.2.2.2.2.2.2.2.2.2.2.2.2.2.2.2.2.2.2.2.2.2.2.2.2.2.2.1
theorem k0_off338_inb : ∀ (v121 : BitVec 32) (k0_hw9 : k0_chk9 v121), ∀ a, (k0_off338 v121) a + S1x1x256.size a ≤ S2x11x2048.size a := fun v121 k0_hw9 => k0_hw9.2.2.2.2.2.2.2.2.2.2.2.2.2.2.2.2.2.2.2.2.2.2.2.2.2.2.2.2.2.1
theorem k0_off339_inb : ∀ (v121 : BitVec 32) (k0_hw9 : k0_chk9 v121), ∀ a, (k0_off339 v121) a + S1x1x256.size a ≤ S2x11x2048.size a := fun v121 k0_hw9 => k0_hw9.2.2.2.2.2.2.2.2.2.2.2.2.2.2.2.2.2.2.2.2.2.2.2.2.2.2.2.2.2.2.1
theorem k0_off340_inb : ∀ (v121 : BitVec 32) (k0_hw9 : k0_chk9 v121), ∀ a, (k0_off340 v121) a + S1x1x256.size a ≤ S2x11x2048.size a := fun v121 k0_hw9 => k0_hw9.2.2.2.2.2.2.2.2.2.2.2.2.2.2.2.2.2.2.2.2.2.2.2.2.2.2.2.2.2.2.2.1
theorem k0_off341_inb : ∀ (v121 : BitVec 32) (k0_hw9 : k0_chk9 v121), ∀ a, (k0_off341 v121) a + S1x1x256.size a ≤ S2x11x2048.size a := fun v121 k0_hw9 => k0_hw9.2.2.2.2.2.2.2.2.2.2.2.2.2.2.2.2.2.2.2.2.2.2.2.2.2.2.2.2.2.2.2.2.1
theorem k0_off342_inb : ∀ (v121 : BitVec 32) (k0_hw9 : k0_chk9 v121), ∀ a, (k0_off342 v121) a + S1x1x256.size a ≤ S2x11x2048.size a := fun v121 k0_hw9 => k0_hw9.2.2.2.2.2.2.2.2.2.2.2.2.2.2.2.2.2.2.2.2.2.2.2.2.2.2.2.2.2.2.2.2.2.1
theorem k0_off343_inb : ∀ (v121 : BitVec 32) (k0_hw9 : k0_chk9 v121), ∀ a, (k0_off343 v121) a + S1x1x256.size a ≤ S2x11x2048.size a := fun v121 k0_hw9 => k0_hw9.2.2.2.2.2.2.2.2.2.2.2.2.2.2.2.2.2.2.2.2.2.2.2.2.2.2.2.2.2.2.2.2.2.2

def k0_off344 (v115 : BitVec 32) : Fin 2 → Nat :=
  let v122 : BitVec 32 := v115
  let v2489 : Index := Scalar.indexCast v122
  let c1792_857 : Index := 1792#32
  ![v2489.toNat, 1792]
def k0_off345 (v115 : BitVec 32) : Fin 2 → Nat :=
  let v122 : BitVec 32 := v115
  let v2499 : Index := Scalar.indexCast v122
  let c1920_859 : Index := 1920#32
  ![v2499.toNat, 1920]

def k0_chk4_0 (v115 : BitVec 32) : Prop :=
  (16 ∣ (k0_mult1 v115).toNat) ∧
  (∀ a, (k0_off45 v115) a + S128x2048.size a ≤ S1536x2048.size a) ∧
  (∀ a, (k0_off233 v115) a + S128x128.size a ≤ S1536x128.size a) ∧
  (∀ a, (k0_off246 v115) a + S128x128.size a ≤ S1536x2048.size a) ∧
  (∀ (hinb : ∀ a, (k0_off246 v115) a + S128x128.size a ≤ S1536x2048.size a), (Rect.unit (s := S1536x2048) (k0_off246 v115) S128x128.size hinb).PackedRows (EltTy.packing .bf16)) ∧
  (∀ a, (k0_off247 v115) a + S128x128.size a ≤ S1536x2048.size a) ∧
  (∀ (hinb : ∀ a, (k0_off247 v115) a + S128x128.size a ≤ S1536x2048.size a), (Rect.unit (s := S1536x2048) (k0_off247 v115) S128x128.size hinb).PackedRows (EltTy.packing .bf16)) ∧
  (∀ a, (k0_off260 v115) a + S128x128.size a ≤ S1536x2048.size a) ∧
  (∀ (hinb : ∀ a, (k0_off260 v115) a + S128x128.size a ≤ S1536x2048.size a), (Rect.unit (s := S1536x2048) (k0_off260 v115) S128x128.size hinb).PackedRows (EltTy.packing .bf16)) ∧
  (∀ a, (k0_off261 v115) a + S128x128.size a ≤ S1536x2048.size a) ∧
  (∀ (hinb : ∀ a, (k0_off261 v115) a + S128x128.size a ≤ S1536x2048.size a), (Rect.unit (s := S1536x2048) (k0_off261 v115) S128x128.size hinb).PackedRows (EltTy.packing .bf16)) ∧
  (∀ a, (k0_off274 v115) a + S128x128.size a ≤ S1536x2048.size a) ∧
  (∀ (hinb : ∀ a, (k0_off274 v115) a + S128x128.size a ≤ S1536x2048.size a), (Rect.unit (s := S1536x2048) (k0_off274 v115) S128x128.size hinb).PackedRows (EltTy.packing .bf16)) ∧
  (∀ a, (k0_off275 v115) a + S128x128.size a ≤ S1536x2048.size a) ∧
  (∀ (hinb : ∀ a, (k0_off275 v115) a + S128x128.size a ≤ S1536x2048.size a), (Rect.unit (s := S1536x2048) (k0_off275 v115) S128x128.size hinb).PackedRows (EltTy.packing .bf16)) ∧
  (∀ a, (k0_off288 v115) a + S128x128.size a ≤ S1536x2048.size a) ∧
  (∀ (hinb : ∀ a, (k0_off288 v115) a + S128x128.size a ≤ S1536x2048.size a), (Rect.unit (s := S1536x2048) (k0_off288 v115) S128x128.size hinb).PackedRows (EltTy.packing .bf16)) ∧
  (∀ a, (k0_off289 v115) a + S128x128.size a ≤ S1536x2048.size a) ∧
  (∀ (hinb : ∀ a, (k0_off289 v115) a + S128x128.size a ≤ S1536x2048.size a), (Rect.unit (s := S1536x2048) (k0_off289 v115) S128x128.size hinb).PackedRows (EltTy.packing .bf16)) ∧
  (∀ a, (k0_off302 v115) a + S128x128.size a ≤ S1536x2048.size a) ∧
  (∀ (hinb : ∀ a, (k0_off302 v115) a + S128x128.size a ≤ S1536x2048.size a), (Rect.unit (s := S1536x2048) (k0_off302 v115) S128x128.size hinb).PackedRows (EltTy.packing .bf16)) ∧
  (∀ a, (k0_off303 v115) a + S128x128.size a ≤ S1536x2048.size a) ∧
  (∀ (hinb : ∀ a, (k0_off303 v115) a + S128x128.size a ≤ S1536x2048.size a), (Rect.unit (s := S1536x2048) (k0_off303 v115) S128x128.size hinb).PackedRows (EltTy.packing .bf16)) ∧
  (∀ a, (k0_off316 v115) a + S128x128.size a ≤ S1536x2048.size a) ∧
  (∀ (hinb : ∀ a, (k0_off316 v115) a + S128x128.size a ≤ S1536x2048.size a), (Rect.unit (s := S1536x2048) (k0_off316 v115) S128x128.size hinb).PackedRows (EltTy.packing .bf16)) ∧
  (∀ a, (k0_off317 v115) a + S128x128.size a ≤ S1536x2048.size a) ∧
  (∀ (hinb : ∀ a, (k0_off317 v115) a + S128x128.size a ≤ S1536x2048.size a), (Rect.unit (s := S1536x2048) (k0_off317 v115) S128x128.size hinb).PackedRows (EltTy.packing .bf16)) ∧
  (∀ a, (k0_off330 v115) a + S128x128.size a ≤ S1536x2048.size a) ∧
  (∀ (hinb : ∀ a, (k0_off330 v115) a + S128x128.size a ≤ S1536x2048.size a), (Rect.unit (s := S1536x2048) (k0_off330 v115) S128x128.size hinb).PackedRows (EltTy.packing .bf16)) ∧
  (∀ a, (k0_off331 v115) a + S128x128.size a ≤ S1536x2048.size a) ∧
  (∀ (hinb : ∀ a, (k0_off331 v115) a + S128x128.size a ≤ S1536x2048.size a), (Rect.unit (s := S1536x2048) (k0_off331 v115) S128x128.size hinb).PackedRows (EltTy.packing .bf16)) ∧
  (∀ a, (k0_off344 v115) a + S128x128.size a ≤ S1536x2048.size a)
def k0_chk4_1 (v115 : BitVec 32) : Prop :=
  (∀ (hinb : ∀ a, (k0_off344 v115) a + S128x128.size a ≤ S1536x2048.size a), (Rect.unit (s := S1536x2048) (k0_off344 v115) S128x128.size hinb).PackedRows (EltTy.packing .bf16)) ∧
  (∀ a, (k0_off345 v115) a + S128x128.size a ≤ S1536x2048.size a) ∧
  (∀ (hinb : ∀ a, (k0_off345 v115) a + S128x128.size a ≤ S1536x2048.size a), (Rect.unit (s := S1536x2048) (k0_off345 v115) S128x128.size hinb).PackedRows (EltTy.packing .bf16))
def k0_chk4 (v115 : BitVec 32) : Prop :=
  k0_chk4_0 v115 ∧
  k0_chk4_1 v115
theorem k0_mult1_dvd : ∀ (v115 : BitVec 32) (k0_hw4 : k0_chk4 v115), 16 ∣ (k0_mult1 v115).toNat := fun v115 k0_hw4 => k0_hw4.1.1
theorem k0_off45_inb : ∀ (v115 : BitVec 32) (k0_hw4 : k0_chk4 v115), ∀ a, (k0_off45 v115) a + S128x2048.size a ≤ S1536x2048.size a := fun v115 k0_hw4 => k0_hw4.1.2.1
theorem k0_off233_inb : ∀ (v115 : BitVec 32) (k0_hw4 : k0_chk4 v115), ∀ a, (k0_off233 v115) a + S128x128.size a ≤ S1536x128.size a := fun v115 k0_hw4 => k0_hw4.1.2.2.1
theorem k0_off246_inb : ∀ (v115 : BitVec 32) (k0_hw4 : k0_chk4 v115), ∀ a, (k0_off246 v115) a + S128x128.size a ≤ S1536x2048.size a := fun v115 k0_hw4 => k0_hw4.1.2.2.2.1
theorem k0_off246_packedbf16 : ∀ (v115 : BitVec 32) (k0_hw4 : k0_chk4 v115), (Rect.unit (s := S1536x2048) (k0_off246 v115) S128x128.size (k0_off246_inb v115 k0_hw4)).PackedRows (EltTy.packing .bf16) := fun v115 k0_hw4 => k0_hw4.1.2.2.2.2.1 (k0_off246_inb v115 k0_hw4)
theorem k0_off247_inb : ∀ (v115 : BitVec 32) (k0_hw4 : k0_chk4 v115), ∀ a, (k0_off247 v115) a + S128x128.size a ≤ S1536x2048.size a := fun v115 k0_hw4 => k0_hw4.1.2.2.2.2.2.1
theorem k0_off247_packedbf16 : ∀ (v115 : BitVec 32) (k0_hw4 : k0_chk4 v115), (Rect.unit (s := S1536x2048) (k0_off247 v115) S128x128.size (k0_off247_inb v115 k0_hw4)).PackedRows (EltTy.packing .bf16) := fun v115 k0_hw4 => k0_hw4.1.2.2.2.2.2.2.1 (k0_off247_inb v115 k0_hw4)
theorem k0_off260_inb : ∀ (v115 : BitVec 32) (k0_hw4 : k0_chk4 v115), ∀ a, (k0_off260 v115) a + S128x128.size a ≤ S1536x2048.size a := fun v115 k0_hw4 => k0_hw4.1.2.2.2.2.2.2.2.1
theorem k0_off260_packedbf16 : ∀ (v115 : BitVec 32) (k0_hw4 : k0_chk4 v115), (Rect.unit (s := S1536x2048) (k0_off260 v115) S128x128.size (k0_off260_inb v115 k0_hw4)).PackedRows (EltTy.packing .bf16) := fun v115 k0_hw4 => k0_hw4.1.2.2.2.2.2.2.2.2.1 (k0_off260_inb v115 k0_hw4)
theorem k0_off261_inb : ∀ (v115 : BitVec 32) (k0_hw4 : k0_chk4 v115), ∀ a, (k0_off261 v115) a + S128x128.size a ≤ S1536x2048.size a := fun v115 k0_hw4 => k0_hw4.1.2.2.2.2.2.2.2.2.2.1
theorem k0_off261_packedbf16 : ∀ (v115 : BitVec 32) (k0_hw4 : k0_chk4 v115), (Rect.unit (s := S1536x2048) (k0_off261 v115) S128x128.size (k0_off261_inb v115 k0_hw4)).PackedRows (EltTy.packing .bf16) := fun v115 k0_hw4 => k0_hw4.1.2.2.2.2.2.2.2.2.2.2.1 (k0_off261_inb v115 k0_hw4)
theorem k0_off274_inb : ∀ (v115 : BitVec 32) (k0_hw4 : k0_chk4 v115), ∀ a, (k0_off274 v115) a + S128x128.size a ≤ S1536x2048.size a := fun v115 k0_hw4 => k0_hw4.1.2.2.2.2.2.2.2.2.2.2.2.1
theorem k0_off274_packedbf16 : ∀ (v115 : BitVec 32) (k0_hw4 : k0_chk4 v115), (Rect.unit (s := S1536x2048) (k0_off274 v115) S128x128.size (k0_off274_inb v115 k0_hw4)).PackedRows (EltTy.packing .bf16) := fun v115 k0_hw4 => k0_hw4.1.2.2.2.2.2.2.2.2.2.2.2.2.1 (k0_off274_inb v115 k0_hw4)
theorem k0_off275_inb : ∀ (v115 : BitVec 32) (k0_hw4 : k0_chk4 v115), ∀ a, (k0_off275 v115) a + S128x128.size a ≤ S1536x2048.size a := fun v115 k0_hw4 => k0_hw4.1.2.2.2.2.2.2.2.2.2.2.2.2.2.1
theorem k0_off275_packedbf16 : ∀ (v115 : BitVec 32) (k0_hw4 : k0_chk4 v115), (Rect.unit (s := S1536x2048) (k0_off275 v115) S128x128.size (k0_off275_inb v115 k0_hw4)).PackedRows (EltTy.packing .bf16) := fun v115 k0_hw4 => k0_hw4.1.2.2.2.2.2.2.2.2.2.2.2.2.2.2.1 (k0_off275_inb v115 k0_hw4)
theorem k0_off288_inb : ∀ (v115 : BitVec 32) (k0_hw4 : k0_chk4 v115), ∀ a, (k0_off288 v115) a + S128x128.size a ≤ S1536x2048.size a := fun v115 k0_hw4 => k0_hw4.1.2.2.2.2.2.2.2.2.2.2.2.2.2.2.2.1
theorem k0_off288_packedbf16 : ∀ (v115 : BitVec 32) (k0_hw4 : k0_chk4 v115), (Rect.unit (s := S1536x2048) (k0_off288 v115) S128x128.size (k0_off288_inb v115 k0_hw4)).PackedRows (EltTy.packing .bf16) := fun v115 k0_hw4 => k0_hw4.1.2.2.2.2.2.2.2.2.2.2.2.2.2.2.2.2.1 (k0_off288_inb v115 k0_hw4)
theorem k0_off289_inb : ∀ (v115 : BitVec 32) (k0_hw4 : k0_chk4 v115), ∀ a, (k0_off289 v115) a + S128x128.size a ≤ S1536x2048.size a := fun v115 k0_hw4 => k0_hw4.1.2.2.2.2.2.2.2.2.2.2.2.2.2.2.2.2.2.1
theorem k0_off289_packedbf16 : ∀ (v115 : BitVec 32) (k0_hw4 : k0_chk4 v115), (Rect.unit (s := S1536x2048) (k0_off289 v115) S128x128.size (k0_off289_inb v115 k0_hw4)).PackedRows (EltTy.packing .bf16) := fun v115 k0_hw4 => k0_hw4.1.2.2.2.2.2.2.2.2.2.2.2.2.2.2.2.2.2.2.1 (k0_off289_inb v115 k0_hw4)
theorem k0_off302_inb : ∀ (v115 : BitVec 32) (k0_hw4 : k0_chk4 v115), ∀ a, (k0_off302 v115) a + S128x128.size a ≤ S1536x2048.size a := fun v115 k0_hw4 => k0_hw4.1.2.2.2.2.2.2.2.2.2.2.2.2.2.2.2.2.2.2.2.1
theorem k0_off302_packedbf16 : ∀ (v115 : BitVec 32) (k0_hw4 : k0_chk4 v115), (Rect.unit (s := S1536x2048) (k0_off302 v115) S128x128.size (k0_off302_inb v115 k0_hw4)).PackedRows (EltTy.packing .bf16) := fun v115 k0_hw4 => k0_hw4.1.2.2.2.2.2.2.2.2.2.2.2.2.2.2.2.2.2.2.2.2.1 (k0_off302_inb v115 k0_hw4)
theorem k0_off303_inb : ∀ (v115 : BitVec 32) (k0_hw4 : k0_chk4 v115), ∀ a, (k0_off303 v115) a + S128x128.size a ≤ S1536x2048.size a := fun v115 k0_hw4 => k0_hw4.1.2.2.2.2.2.2.2.2.2.2.2.2.2.2.2.2.2.2.2.2.2.1
theorem k0_off303_packedbf16 : ∀ (v115 : BitVec 32) (k0_hw4 : k0_chk4 v115), (Rect.unit (s := S1536x2048) (k0_off303 v115) S128x128.size (k0_off303_inb v115 k0_hw4)).PackedRows (EltTy.packing .bf16) := fun v115 k0_hw4 => k0_hw4.1.2.2.2.2.2.2.2.2.2.2.2.2.2.2.2.2.2.2.2.2.2.2.1 (k0_off303_inb v115 k0_hw4)
theorem k0_off316_inb : ∀ (v115 : BitVec 32) (k0_hw4 : k0_chk4 v115), ∀ a, (k0_off316 v115) a + S128x128.size a ≤ S1536x2048.size a := fun v115 k0_hw4 => k0_hw4.1.2.2.2.2.2.2.2.2.2.2.2.2.2.2.2.2.2.2.2.2.2.2.2.1
theorem k0_off316_packedbf16 : ∀ (v115 : BitVec 32) (k0_hw4 : k0_chk4 v115), (Rect.unit (s := S1536x2048) (k0_off316 v115) S128x128.size (k0_off316_inb v115 k0_hw4)).PackedRows (EltTy.packing .bf16) := fun v115 k0_hw4 => k0_hw4.1.2.2.2.2.2.2.2.2.2.2.2.2.2.2.2.2.2.2.2.2.2.2.2.2.1 (k0_off316_inb v115 k0_hw4)
theorem k0_off317_inb : ∀ (v115 : BitVec 32) (k0_hw4 : k0_chk4 v115), ∀ a, (k0_off317 v115) a + S128x128.size a ≤ S1536x2048.size a := fun v115 k0_hw4 => k0_hw4.1.2.2.2.2.2.2.2.2.2.2.2.2.2.2.2.2.2.2.2.2.2.2.2.2.2.1
theorem k0_off317_packedbf16 : ∀ (v115 : BitVec 32) (k0_hw4 : k0_chk4 v115), (Rect.unit (s := S1536x2048) (k0_off317 v115) S128x128.size (k0_off317_inb v115 k0_hw4)).PackedRows (EltTy.packing .bf16) := fun v115 k0_hw4 => k0_hw4.1.2.2.2.2.2.2.2.2.2.2.2.2.2.2.2.2.2.2.2.2.2.2.2.2.2.2.1 (k0_off317_inb v115 k0_hw4)
theorem k0_off330_inb : ∀ (v115 : BitVec 32) (k0_hw4 : k0_chk4 v115), ∀ a, (k0_off330 v115) a + S128x128.size a ≤ S1536x2048.size a := fun v115 k0_hw4 => k0_hw4.1.2.2.2.2.2.2.2.2.2.2.2.2.2.2.2.2.2.2.2.2.2.2.2.2.2.2.2.1
theorem k0_off330_packedbf16 : ∀ (v115 : BitVec 32) (k0_hw4 : k0_chk4 v115), (Rect.unit (s := S1536x2048) (k0_off330 v115) S128x128.size (k0_off330_inb v115 k0_hw4)).PackedRows (EltTy.packing .bf16) := fun v115 k0_hw4 => k0_hw4.1.2.2.2.2.2.2.2.2.2.2.2.2.2.2.2.2.2.2.2.2.2.2.2.2.2.2.2.2.1 (k0_off330_inb v115 k0_hw4)
theorem k0_off331_inb : ∀ (v115 : BitVec 32) (k0_hw4 : k0_chk4 v115), ∀ a, (k0_off331 v115) a + S128x128.size a ≤ S1536x2048.size a := fun v115 k0_hw4 => k0_hw4.1.2.2.2.2.2.2.2.2.2.2.2.2.2.2.2.2.2.2.2.2.2.2.2.2.2.2.2.2.2.1
theorem k0_off331_packedbf16 : ∀ (v115 : BitVec 32) (k0_hw4 : k0_chk4 v115), (Rect.unit (s := S1536x2048) (k0_off331 v115) S128x128.size (k0_off331_inb v115 k0_hw4)).PackedRows (EltTy.packing .bf16) := fun v115 k0_hw4 => k0_hw4.1.2.2.2.2.2.2.2.2.2.2.2.2.2.2.2.2.2.2.2.2.2.2.2.2.2.2.2.2.2.2.1 (k0_off331_inb v115 k0_hw4)
theorem k0_off344_inb : ∀ (v115 : BitVec 32) (k0_hw4 : k0_chk4 v115), ∀ a, (k0_off344 v115) a + S128x128.size a ≤ S1536x2048.size a := fun v115 k0_hw4 => k0_hw4.1.2.2.2.2.2.2.2.2.2.2.2.2.2.2.2.2.2.2.2.2.2.2.2.2.2.2.2.2.2.2.2
theorem k0_off344_packedbf16 : ∀ (v115 : BitVec 32) (k0_hw4 : k0_chk4 v115), (Rect.unit (s := S1536x2048) (k0_off344 v115) S128x128.size (k0_off344_inb v115 k0_hw4)).PackedRows (EltTy.packing .bf16) := fun v115 k0_hw4 => k0_hw4.2.1 (k0_off344_inb v115 k0_hw4)
theorem k0_off345_inb : ∀ (v115 : BitVec 32) (k0_hw4 : k0_chk4 v115), ∀ a, (k0_off345 v115) a + S128x128.size a ≤ S1536x2048.size a := fun v115 k0_hw4 => k0_hw4.2.2.1
theorem k0_off345_packedbf16 : ∀ (v115 : BitVec 32) (k0_hw4 : k0_chk4 v115), (Rect.unit (s := S1536x2048) (k0_off345 v115) S128x128.size (k0_off345_inb v115 k0_hw4)).PackedRows (EltTy.packing .bf16) := fun v115 k0_hw4 => k0_hw4.2.2.2 (k0_off345_inb v115 k0_hw4)

@[reducible] def k0_t3_loop (v1_0 : BitVec 32) : Scf.Loop 32 :=
  let c0_i32_34 : BitVec 32 := 0#32
  let v105 : BitVec 32 := Scalar.subi v1_0 c0_i32_34
  let c1_i32_36 : BitVec 32 := 1#32
  let v107 : BitVec 32 := Scalar.divsi v105 c1_i32_36
  let v108 : BitVec 32 := Scalar.muli v107 c1_i32_36
  let v109 : BitVec 32 := Scalar.addi c0_i32_34 v108
  let v106 : BitVec 32 := Scalar.addi c0_i32_34 v105
  let c1_i32_38 : BitVec 32 := 1#32
  ⟨v109, v106, c1_i32_38⟩
def k0_off346 (v1_0 : BitVec 32) (k0_t3 : Fin (k0_t3_loop v1_0).trips) : Fin 2 → Nat :=
  let c0_39 : Index := 0#32
  let c0_i32_34 : BitVec 32 := 0#32
  let v105 : BitVec 32 := Scalar.subi v1_0 c0_i32_34
  let c1_i32_36 : BitVec 32 := 1#32
  let v107 : BitVec 32 := Scalar.divsi v105 c1_i32_36
  let v108 : BitVec 32 := Scalar.muli v107 c1_i32_36
  let v109 : BitVec 32 := Scalar.addi c0_i32_34 v108
  let c1_i32_38 : BitVec 32 := 1#32
  let arg17 : BitVec 32 := Scf.iv v109 c1_i32_38 k0_t3
  let v112 : Index := Scalar.indexCast arg17
  ![0, v112.toNat]
def k0_off347 (v1_0 : BitVec 32) (k0_t3 : Fin (k0_t3_loop v1_0).trips) : Fin 2 → Nat :=
  let c1_40 : Index := 1#32
  let c0_i32_34 : BitVec 32 := 0#32
  let v105 : BitVec 32 := Scalar.subi v1_0 c0_i32_34
  let c1_i32_36 : BitVec 32 := 1#32
  let v107 : BitVec 32 := Scalar.divsi v105 c1_i32_36
  let v108 : BitVec 32 := Scalar.muli v107 c1_i32_36
  let v109 : BitVec 32 := Scalar.addi c0_i32_34 v108
  let c1_i32_38 : BitVec 32 := 1#32
  let arg17 : BitVec 32 := Scf.iv v109 c1_i32_38 k0_t3
  let v114 : Index := Scalar.indexCast arg17
  ![1, v114.toNat]
def k0_off348 (v1_0 : BitVec 32) (k0_t3 : Fin (k0_t3_loop v1_0).trips) : Fin 2 → Nat :=
  let c2_41 : Index := 2#32
  let c0_i32_34 : BitVec 32 := 0#32
  let v105 : BitVec 32 := Scalar.subi v1_0 c0_i32_34
  let c1_i32_36 : BitVec 32 := 1#32
  let v107 : BitVec 32 := Scalar.divsi v105 c1_i32_36
  let v108 : BitVec 32 := Scalar.muli v107 c1_i32_36
  let v109 : BitVec 32 := Scalar.addi c0_i32_34 v108
  let c1_i32_38 : BitVec 32 := 1#32
  let arg17 : BitVec 32 := Scf.iv v109 c1_i32_38 k0_t3
  let v116 : Index := Scalar.indexCast arg17
  ![2, v116.toNat]
def k0_off349 (v1_0 : BitVec 32) (k0_t3 : Fin (k0_t3_loop v1_0).trips) : Fin 2 → Nat :=
  let c3_42 : Index := 3#32
  let c0_i32_34 : BitVec 32 := 0#32
  let v105 : BitVec 32 := Scalar.subi v1_0 c0_i32_34
  let c1_i32_36 : BitVec 32 := 1#32
  let v107 : BitVec 32 := Scalar.divsi v105 c1_i32_36
  let v108 : BitVec 32 := Scalar.muli v107 c1_i32_36
  let v109 : BitVec 32 := Scalar.addi c0_i32_34 v108
  let c1_i32_38 : BitVec 32 := 1#32
  let arg17 : BitVec 32 := Scf.iv v109 c1_i32_38 k0_t3
  let v118 : Index := Scalar.indexCast arg17
  ![3, v118.toNat]
def k0_off350 (v1_0 : BitVec 32) (k0_t3 : Fin (k0_t3_loop v1_0).trips) : Fin 2 → Nat :=
  let c4_43 : Index := 4#32
  let c0_i32_34 : BitVec 32 := 0#32
  let v105 : BitVec 32 := Scalar.subi v1_0 c0_i32_34
  let c1_i32_36 : BitVec 32 := 1#32
  let v107 : BitVec 32 := Scalar.divsi v105 c1_i32_36
  let v108 : BitVec 32 := Scalar.muli v107 c1_i32_36
  let v109 : BitVec 32 := Scalar.addi c0_i32_34 v108
  let c1_i32_38 : BitVec 32 := 1#32
  let arg17 : BitVec 32 := Scf.iv v109 c1_i32_38 k0_t3
  let v120 : Index := Scalar.indexCast arg17
  ![4, v120.toNat]
def k0_mult2 (v115 : BitVec 32) : BitVec 32 :=
  v115

def k0_off351 (v1_0 : BitVec 32) (k0_t3 : Fin (k0_t3_loop v1_0).trips) : Fin 2 → Nat :=
  let c4_48 : Index := 4#32
  let c0_i32_34 : BitVec 32 := 0#32
  let v105 : BitVec 32 := Scalar.subi v1_0 c0_i32_34
  let c1_i32_36 : BitVec 32 := 1#32
  let v107 : BitVec 32 := Scalar.divsi v105 c1_i32_36
  let v108 : BitVec 32 := Scalar.muli v107 c1_i32_36
  let v109 : BitVec 32 := Scalar.addi c0_i32_34 v108
  let c1_i32_38 : BitVec 32 := 1#32
  let arg17 : BitVec 32 := Scf.iv v109 c1_i32_38 k0_t3
  let c1_i32_46 : BitVec 32 := 1#32
  let v125 : BitVec 32 := Scalar.subi arg17 c1_i32_46
  let c0_i32_47 : BitVec 32 := 0#32
  let v126 : BitVec 32 := Scalar.maxsi v125 c0_i32_47
  let v127 : Index := Scalar.indexCast v126
  ![4, v127.toNat]
def k0_off352 (v121 : BitVec 32) : Fin 2 → Nat :=
  let c1_i32_44 : BitVec 32 := 1#32
  let v123 : BitVec 32 := Scalar.andi v121 c1_i32_44
  let c0_i32_862 : BitVec 32 := 0#32
  ![v123.toNat, 0]
def k0_cond4 (v1_0 : BitVec 32) (k0_t3 : Fin (k0_t3_loop v1_0).trips) (v121 : BitVec 32) (v128 : BitVec 32) : BitVec 1 :=
  let c0_i32_34 : BitVec 32 := 0#32
  let v105 : BitVec 32 := Scalar.subi v1_0 c0_i32_34
  let c1_i32_36 : BitVec 32 := 1#32
  let v107 : BitVec 32 := Scalar.divsi v105 c1_i32_36
  let v108 : BitVec 32 := Scalar.muli v107 c1_i32_36
  let v109 : BitVec 32 := Scalar.addi c0_i32_34 v108
  let c1_i32_38 : BitVec 32 := 1#32
  let arg17 : BitVec 32 := Scf.iv v109 c1_i32_38 k0_t3
  let c0_i32_45 : BitVec 32 := 0#32
  let v124 : BitVec 1 := Scalar.cmpi .eq arg17 c0_i32_45
  let v129 : BitVec 1 := Scalar.cmpi .ne v128 v121
  let v130 : BitVec 1 := Scalar.ori v124 v129
  let v131 : BitVec 32 := Scalar.extui v130
  let c0_i32_49 : BitVec 32 := 0#32
  let v132 : BitVec 1 := Scalar.cmpi .ne v131 c0_i32_49
  v132

def k0_off353 (v121 : BitVec 32) : Fin 3 → Nat :=
  let c1_i32_44 : BitVec 32 := 1#32
  let v123 : BitVec 32 := Scalar.andi v121 c1_i32_44
  let c0_i32_863 : BitVec 32 := 0#32
  let c0_i32_864 : BitVec 32 := 0#32
  ![v123.toNat, 0, 0]
def k0_off354 (v113 : BitVec 32) : Fin 3 → Nat :=
  let c0_i32_865 : BitVec 32 := 0#32
  let c0_i32_866 : BitVec 32 := 0#32
  ![v113.toNat, 0, 0]
def k0_off355 (v121 : BitVec 32) : Fin 2 → Nat :=
  let c1_i32_44 : BitVec 32 := 1#32
  let v123 : BitVec 32 := Scalar.andi v121 c1_i32_44
  let c1_i32_867 : BitVec 32 := 1#32
  ![v123.toNat, 1]
def k0_off356 (v121 : BitVec 32) : Fin 3 → Nat :=
  let c1_i32_44 : BitVec 32 := 1#32
  let v123 : BitVec 32 := Scalar.andi v121 c1_i32_44
  let c0_i32_868 : BitVec 32 := 0#32
  let c0_i32_869 : BitVec 32 := 0#32
  ![v123.toNat, 0, 0]
def k0_off357 (v113 : BitVec 32) : Fin 3 → Nat :=
  let c0_i32_870 : BitVec 32 := 0#32
  let c0_i32_871 : BitVec 32 := 0#32
  ![v113.toNat, 0, 0]
def k0_off358 (v121 : BitVec 32) : Fin 2 → Nat :=
  let c1_i32_44 : BitVec 32 := 1#32
  let v123 : BitVec 32 := Scalar.andi v121 c1_i32_44
  let c2_i32 : BitVec 32 := 2#32
  ![v123.toNat, 2]
def k0_off359 (v121 : BitVec 32) : Fin 3 → Nat :=
  let c1_i32_44 : BitVec 32 := 1#32
  let v123 : BitVec 32 := Scalar.andi v121 c1_i32_44
  let c0_i32_872 : BitVec 32 := 0#32
  let c0_i32_873 : BitVec 32 := 0#32
  ![v123.toNat, 0, 0]
def k0_off360 (v113 : BitVec 32) : Fin 3 → Nat :=
  let c0_i32_874 : BitVec 32 := 0#32
  let c0_i32_875 : BitVec 32 := 0#32
  ![v113.toNat, 0, 0]
def k0_off361 (v121 : BitVec 32) : Fin 2 → Nat :=
  let c1_i32_44 : BitVec 32 := 1#32
  let v123 : BitVec 32 := Scalar.andi v121 c1_i32_44
  let c3_i32 : BitVec 32 := 3#32
  ![v123.toNat, 3]
def k0_off362 (v121 : BitVec 32) : Fin 3 → Nat :=
  let c1_i32_44 : BitVec 32 := 1#32
  let v123 : BitVec 32 := Scalar.andi v121 c1_i32_44
  let c0_i32_876 : BitVec 32 := 0#32
  let c0_i32_877 : BitVec 32 := 0#32
  ![v123.toNat, 0, 0]
def k0_off363 (v113 : BitVec 32) : Fin 3 → Nat :=
  let c0_i32_878 : BitVec 32 := 0#32
  let c0_i32_879 : BitVec 32 := 0#32
  ![v113.toNat, 0, 0]

def k0_chk11 (v1_0 : BitVec 32) (k0_t3 : Fin (k0_t3_loop v1_0).trips) (v113 : BitVec 32) (v121 : BitVec 32) (v128 : BitVec 32) : Prop :=
  (∀ (k0_h4 : k0_cond4 v1_0 k0_t3 v121 v128 = 1#1), ∀ a, (k0_off352 v121) a + S1x1.size a ≤ S2x4.size a) ∧
  (∀ (k0_h4 : k0_cond4 v1_0 k0_t3 v121 v128 = 1#1), ∀ a, (k0_off353 v121) a + S1x1024x2816.size a ≤ S2x1024x2816.size a) ∧
  (∀ (k0_h4 : k0_cond4 v1_0 k0_t3 v121 v128 = 1#1), ∀ a, (k0_off354 v113) a + S1x1024x2816.size a ≤ S60x1024x2816.size a) ∧
  (∀ (k0_h4 : k0_cond4 v1_0 k0_t3 v121 v128 = 1#1), ∀ (hinb : ∀ a, (k0_off354 v113) a + S1x1024x2816.size a ≤ S60x1024x2816.size a), (Rect.unit (s := S60x1024x2816) (k0_off354 v113) S1x1024x2816.size hinb).WholeWords (EltTy.packing .i8)) ∧
  (∀ (k0_h4 : k0_cond4 v1_0 k0_t3 v121 v128 = 1#1), ∀ (hinb : ∀ a, (k0_off353 v121) a + S1x1024x2816.size a ≤ S2x1024x2816.size a), (Rect.unit (s := S2x1024x2816) (k0_off353 v121) S1x1024x2816.size hinb).WholeWords (EltTy.packing .i8)) ∧
  (∀ (k0_h4 : k0_cond4 v1_0 k0_t3 v121 v128 = 1#1), ∀ a, (k0_off355 v121) a + S1x1.size a ≤ S2x4.size a) ∧
  (∀ (k0_h4 : k0_cond4 v1_0 k0_t3 v121 v128 = 1#1), ∀ a, (k0_off356 v121) a + S1x16x2816.size a ≤ S2x16x2816.size a) ∧
  (∀ (k0_h4 : k0_cond4 v1_0 k0_t3 v121 v128 = 1#1), ∀ a, (k0_off357 v113) a + S1x16x2816.size a ≤ S60x16x2816.size a) ∧
  (∀ (k0_h4 : k0_cond4 v1_0 k0_t3 v121 v128 = 1#1), ∀ (hinb : ∀ a, (k0_off357 v113) a + S1x16x2816.size a ≤ S60x16x2816.size a), (Rect.unit (s := S60x16x2816) (k0_off357 v113) S1x16x2816.size hinb).WholeWords (EltTy.packing .bf16)) ∧
  (∀ (k0_h4 : k0_cond4 v1_0 k0_t3 v121 v128 = 1#1), ∀ (hinb : ∀ a, (k0_off356 v121) a + S1x16x2816.size a ≤ S2x16x2816.size a), (Rect.unit (s := S2x16x2816) (k0_off356 v121) S1x16x2816.size hinb).WholeWords (EltTy.packing .bf16)) ∧
  (∀ (k0_h4 : k0_cond4 v1_0 k0_t3 v121 v128 = 1#1), ∀ a, (k0_off358 v121) a + S1x1.size a ≤ S2x4.size a) ∧
  (∀ (k0_h4 : k0_cond4 v1_0 k0_t3 v121 v128 = 1#1), ∀ a, (k0_off359 v121) a + S1x704x2048.size a ≤ S2x704x2048.size a) ∧
  (∀ (k0_h4 : k0_cond4 v1_0 k0_t3 v121 v128 = 1#1), ∀ a, (k0_off360 v113) a + S1x704x2048.size a ≤ S60x704x2048.size a) ∧
  (∀ (k0_h4 : k0_cond4 v1_0 k0_t3 v121 v128 = 1#1), ∀ (hinb : ∀ a, (k0_off360 v113) a + S1x704x2048.size a ≤ S60x704x2048.size a), (Rect.unit (s := S60x704x2048) (k0_off360 v113) S1x704x2048.size hinb).WholeWords (EltTy.packing .i8)) ∧
  (∀ (k0_h4 : k0_cond4 v1_0 k0_t3 v121 v128 = 1#1), ∀ (hinb : ∀ a, (k0_off359 v121) a + S1x704x2048.size a ≤ S2x704x2048.size a), (Rect.unit (s := S2x704x2048) (k0_off359 v121) S1x704x2048.size hinb).WholeWords (EltTy.packing .i8)) ∧
  (∀ (k0_h4 : k0_cond4 v1_0 k0_t3 v121 v128 = 1#1), ∀ a, (k0_off361 v121) a + S1x1.size a ≤ S2x4.size a) ∧
  (∀ (k0_h4 : k0_cond4 v1_0 k0_t3 v121 v128 = 1#1), ∀ a, (k0_off362 v121) a + S1x11x2048.size a ≤ S2x11x2048.size a) ∧
  (∀ (k0_h4 : k0_cond4 v1_0 k0_t3 v121 v128 = 1#1), ∀ a, (k0_off363 v113) a + S1x11x2048.size a ≤ S60x11x2048.size a) ∧
  (∀ (k0_h4 : k0_cond4 v1_0 k0_t3 v121 v128 = 1#1), ∀ (hinb : ∀ a, (k0_off363 v113) a + S1x11x2048.size a ≤ S60x11x2048.size a), (Rect.unit (s := S60x11x2048) (k0_off363 v113) S1x11x2048.size hinb).WholeWords (EltTy.packing .bf16)) ∧
  (∀ (k0_h4 : k0_cond4 v1_0 k0_t3 v121 v128 = 1#1), ∀ (hinb : ∀ a, (k0_off362 v121) a + S1x11x2048.size a ≤ S2x11x2048.size a), (Rect.unit (s := S2x11x2048) (k0_off362 v121) S1x11x2048.size hinb).WholeWords (EltTy.packing .bf16))
theorem k0_off352_inb : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), ∀ a, (k0_off352 v121) a + S1x1.size a ≤ S2x4.size a := fun v1_0 k0_t3 v113 v121 v128 k0_hw11 k0_h4 => k0_hw11.1 k0_h4
theorem k0_off353_inb : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), ∀ a, (k0_off353 v121) a + S1x1024x2816.size a ≤ S2x1024x2816.size a := fun v1_0 k0_t3 v113 v121 v128 k0_hw11 k0_h4 => k0_hw11.2.1 k0_h4
theorem k0_off354_inb : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), ∀ a, (k0_off354 v113) a + S1x1024x2816.size a ≤ S60x1024x2816.size a := fun v1_0 k0_t3 v113 v121 v128 k0_hw11 k0_h4 => k0_hw11.2.2.1 k0_h4
theorem k0_off354_wordsi8 : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), (Rect.unit (s := S60x1024x2816) (k0_off354 v113) S1x1024x2816.size (k0_off354_inb v1_0 k0_t3 v113 v121 v128 k0_hw11 k0_h4)).WholeWords (EltTy.packing .i8) := fun v1_0 k0_t3 v113 v121 v128 k0_hw11 k0_h4 => k0_hw11.2.2.2.1 k0_h4 (k0_off354_inb v1_0 k0_t3 v113 v121 v128 k0_hw11 k0_h4)
theorem k0_off353_wordsi8 : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), (Rect.unit (s := S2x1024x2816) (k0_off353 v121) S1x1024x2816.size (k0_off353_inb v1_0 k0_t3 v113 v121 v128 k0_hw11 k0_h4)).WholeWords (EltTy.packing .i8) := fun v1_0 k0_t3 v113 v121 v128 k0_hw11 k0_h4 => k0_hw11.2.2.2.2.1 k0_h4 (k0_off353_inb v1_0 k0_t3 v113 v121 v128 k0_hw11 k0_h4)
theorem k0_off355_inb : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), ∀ a, (k0_off355 v121) a + S1x1.size a ≤ S2x4.size a := fun v1_0 k0_t3 v113 v121 v128 k0_hw11 k0_h4 => k0_hw11.2.2.2.2.2.1 k0_h4
theorem k0_off356_inb : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), ∀ a, (k0_off356 v121) a + S1x16x2816.size a ≤ S2x16x2816.size a := fun v1_0 k0_t3 v113 v121 v128 k0_hw11 k0_h4 => k0_hw11.2.2.2.2.2.2.1 k0_h4
theorem k0_off357_inb : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), ∀ a, (k0_off357 v113) a + S1x16x2816.size a ≤ S60x16x2816.size a := fun v1_0 k0_t3 v113 v121 v128 k0_hw11 k0_h4 => k0_hw11.2.2.2.2.2.2.2.1 k0_h4
theorem k0_off357_wordsbf16 : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), (Rect.unit (s := S60x16x2816) (k0_off357 v113) S1x16x2816.size (k0_off357_inb v1_0 k0_t3 v113 v121 v128 k0_hw11 k0_h4)).WholeWords (EltTy.packing .bf16) := fun v1_0 k0_t3 v113 v121 v128 k0_hw11 k0_h4 => k0_hw11.2.2.2.2.2.2.2.2.1 k0_h4 (k0_off357_inb v1_0 k0_t3 v113 v121 v128 k0_hw11 k0_h4)
theorem k0_off356_wordsbf16 : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), (Rect.unit (s := S2x16x2816) (k0_off356 v121) S1x16x2816.size (k0_off356_inb v1_0 k0_t3 v113 v121 v128 k0_hw11 k0_h4)).WholeWords (EltTy.packing .bf16) := fun v1_0 k0_t3 v113 v121 v128 k0_hw11 k0_h4 => k0_hw11.2.2.2.2.2.2.2.2.2.1 k0_h4 (k0_off356_inb v1_0 k0_t3 v113 v121 v128 k0_hw11 k0_h4)
theorem k0_off358_inb : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), ∀ a, (k0_off358 v121) a + S1x1.size a ≤ S2x4.size a := fun v1_0 k0_t3 v113 v121 v128 k0_hw11 k0_h4 => k0_hw11.2.2.2.2.2.2.2.2.2.2.1 k0_h4
theorem k0_off359_inb : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), ∀ a, (k0_off359 v121) a + S1x704x2048.size a ≤ S2x704x2048.size a := fun v1_0 k0_t3 v113 v121 v128 k0_hw11 k0_h4 => k0_hw11.2.2.2.2.2.2.2.2.2.2.2.1 k0_h4
theorem k0_off360_inb : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), ∀ a, (k0_off360 v113) a + S1x704x2048.size a ≤ S60x704x2048.size a := fun v1_0 k0_t3 v113 v121 v128 k0_hw11 k0_h4 => k0_hw11.2.2.2.2.2.2.2.2.2.2.2.2.1 k0_h4
theorem k0_off360_wordsi8 : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), (Rect.unit (s := S60x704x2048) (k0_off360 v113) S1x704x2048.size (k0_off360_inb v1_0 k0_t3 v113 v121 v128 k0_hw11 k0_h4)).WholeWords (EltTy.packing .i8) := fun v1_0 k0_t3 v113 v121 v128 k0_hw11 k0_h4 => k0_hw11.2.2.2.2.2.2.2.2.2.2.2.2.2.1 k0_h4 (k0_off360_inb v1_0 k0_t3 v113 v121 v128 k0_hw11 k0_h4)
theorem k0_off359_wordsi8 : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), (Rect.unit (s := S2x704x2048) (k0_off359 v121) S1x704x2048.size (k0_off359_inb v1_0 k0_t3 v113 v121 v128 k0_hw11 k0_h4)).WholeWords (EltTy.packing .i8) := fun v1_0 k0_t3 v113 v121 v128 k0_hw11 k0_h4 => k0_hw11.2.2.2.2.2.2.2.2.2.2.2.2.2.2.1 k0_h4 (k0_off359_inb v1_0 k0_t3 v113 v121 v128 k0_hw11 k0_h4)
theorem k0_off361_inb : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), ∀ a, (k0_off361 v121) a + S1x1.size a ≤ S2x4.size a := fun v1_0 k0_t3 v113 v121 v128 k0_hw11 k0_h4 => k0_hw11.2.2.2.2.2.2.2.2.2.2.2.2.2.2.2.1 k0_h4
theorem k0_off362_inb : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), ∀ a, (k0_off362 v121) a + S1x11x2048.size a ≤ S2x11x2048.size a := fun v1_0 k0_t3 v113 v121 v128 k0_hw11 k0_h4 => k0_hw11.2.2.2.2.2.2.2.2.2.2.2.2.2.2.2.2.1 k0_h4
theorem k0_off363_inb : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), ∀ a, (k0_off363 v113) a + S1x11x2048.size a ≤ S60x11x2048.size a := fun v1_0 k0_t3 v113 v121 v128 k0_hw11 k0_h4 => k0_hw11.2.2.2.2.2.2.2.2.2.2.2.2.2.2.2.2.2.1 k0_h4
theorem k0_off363_wordsbf16 : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), (Rect.unit (s := S60x11x2048) (k0_off363 v113) S1x11x2048.size (k0_off363_inb v1_0 k0_t3 v113 v121 v128 k0_hw11 k0_h4)).WholeWords (EltTy.packing .bf16) := fun v1_0 k0_t3 v113 v121 v128 k0_hw11 k0_h4 => k0_hw11.2.2.2.2.2.2.2.2.2.2.2.2.2.2.2.2.2.2.1 k0_h4 (k0_off363_inb v1_0 k0_t3 v113 v121 v128 k0_hw11 k0_h4)
theorem k0_off362_wordsbf16 : ∀ (v1_0 : BitVec 32) (k0_t3 : Fin (k0_t3_loop v1_0).trips) (v113 : BitVec 32) (v121 : BitVec 32) (v128 : BitVec 32) (k0_hw11 : k0_chk11 v1_0 k0_t3 v113 v121 v128), ∀ (k0_h4 : k0_cond4 v1_0 k0_t3 v121 v128 = 1#1), (Rect.unit (s := S2x11x2048) (k0_off362 v121) S1x11x2048.size (k0_off362_inb v1_0 k0_t3 v113 v121 v128 k0_hw11 k0_h4)).WholeWords (EltTy.packing .bf16) := fun v1_0 k0_t3 v113 v121 v128 k0_hw11 k0_h4 => k0_hw11.2.2.2.2.2.2.2.2.2.2.2.2.2.2.2.2.2.2.2 k0_h4 (k0_off362_inb v1_0 k0_t3 v113 v121 v128 k0_hw11 k0_h4)

def k0_off364 (arg19 : BitVec 32) : Fin 2 → Nat :=
  let c4_862 : Index := 4#32
  let v2509 : Index := Scalar.indexCast arg19
  ![4, v2509.toNat]

def k0_chk12 (arg19 : BitVec 32) : Prop :=
  (∀ a, (k0_off364 arg19) a + S1x1.size a ≤ S5x128.size a)
theorem k0_off364_inb : ∀ (arg19 : BitVec 32) (k0_hw12 : k0_chk12 arg19), ∀ a, (k0_off364 arg19) a + S1x1.size a ≤ S5x128.size a := fun arg19 k0_hw12 => k0_hw12

def k0_off365 (v1_0 : BitVec 32) (k0_t3 : Fin (k0_t3_loop v1_0).trips) : Fin 2 → Nat :=
  let c4_863 : Index := 4#32
  let c0_i32_34 : BitVec 32 := 0#32
  let v105 : BitVec 32 := Scalar.subi v1_0 c0_i32_34
  let c1_i32_36 : BitVec 32 := 1#32
  let v107 : BitVec 32 := Scalar.divsi v105 c1_i32_36
  let v108 : BitVec 32 := Scalar.muli v107 c1_i32_36
  let v109 : BitVec 32 := Scalar.addi c0_i32_34 v108
  let c1_i32_38 : BitVec 32 := 1#32
  let arg17 : BitVec 32 := Scf.iv v109 c1_i32_38 k0_t3
  let v2511 : Index := Scalar.indexCast arg17
  ![4, v2511.toNat]

def k0_chk2 (v1_0 : BitVec 32) : Prop :=
  (∀ a, (k0_off7 v1_0) a + S1x1.size a ≤ S5x128.size a) ∧
  ((k0_t2_loop v1_0).OK) ∧
  (∀ k0_t2 : Fin (k0_t2_loop v1_0).trips, ∀ a, (k0_off12 v1_0 k0_t2) a + S1x1.size a ≤ S5x128.size a) ∧
  (∀ k0_t2 : Fin (k0_t2_loop v1_0).trips, ∀ a, (k0_off13 v1_0 k0_t2) a + S1x1.size a ≤ S5x128.size a) ∧
  (∀ k0_t2 : Fin (k0_t2_loop v1_0).trips, ∀ a, (k0_off14 v1_0 k0_t2) a + S1x1.size a ≤ S5x128.size a) ∧
  (∀ k0_t2 : Fin (k0_t2_loop v1_0).trips, ∀ a, (k0_off15 v1_0 k0_t2) a + S1x1.size a ≤ S5x128.size a) ∧
  (∀ k0_t2 : Fin (k0_t2_loop v1_0).trips, ∀ a, (k0_off16 v1_0 k0_t2) a + S1x1.size a ≤ S5x128.size a) ∧
  (∀ k0_t2 : Fin (k0_t2_loop v1_0).trips, ∀ a, (k0_off17 v1_0 k0_t2) a + S1x1.size a ≤ S5x128.size a) ∧
  (∀ k0_t2 : Fin (k0_t2_loop v1_0).trips, ∀ a, (k0_off31 v1_0 k0_t2) a + S1x1.size a ≤ S5x128.size a) ∧
  ((k0_t3_loop v1_0).OK) ∧
  (∀ k0_t3 : Fin (k0_t3_loop v1_0).trips, ∀ a, (k0_off346 v1_0 k0_t3) a + S1x1.size a ≤ S5x128.size a) ∧
  (∀ k0_t3 : Fin (k0_t3_loop v1_0).trips, ∀ a, (k0_off347 v1_0 k0_t3) a + S1x1.size a ≤ S5x128.size a) ∧
  (∀ k0_t3 : Fin (k0_t3_loop v1_0).trips, ∀ a, (k0_off348 v1_0 k0_t3) a + S1x1.size a ≤ S5x128.size a) ∧
  (∀ k0_t3 : Fin (k0_t3_loop v1_0).trips, ∀ a, (k0_off349 v1_0 k0_t3) a + S1x1.size a ≤ S5x128.size a) ∧
  (∀ k0_t3 : Fin (k0_t3_loop v1_0).trips, ∀ a, (k0_off350 v1_0 k0_t3) a + S1x1.size a ≤ S5x128.size a) ∧
  (∀ k0_t3 : Fin (k0_t3_loop v1_0).trips, ∀ a, (k0_off351 v1_0 k0_t3) a + S1x1.size a ≤ S5x128.size a) ∧
  (∀ k0_t3 : Fin (k0_t3_loop v1_0).trips, ∀ a, (k0_off365 v1_0 k0_t3) a + S1x1.size a ≤ S5x128.size a)
theorem k0_off7_inb : ∀ (v1_0 : BitVec 32) (k0_hw2 : k0_chk2 v1_0), ∀ a, (k0_off7 v1_0) a + S1x1.size a ≤ S5x128.size a := fun v1_0 k0_hw2 => k0_hw2.1
theorem k0_t2_ok : ∀ (v1_0 : BitVec 32) (k0_hw2 : k0_chk2 v1_0), (k0_t2_loop v1_0).OK := fun v1_0 k0_hw2 => k0_hw2.2.1
theorem k0_off12_inb : ∀ (v1_0 : BitVec 32) (k0_hw2 : k0_chk2 v1_0) (k0_t2 : Fin (k0_t2_loop v1_0).trips), ∀ a, (k0_off12 v1_0 k0_t2) a + S1x1.size a ≤ S5x128.size a := fun v1_0 k0_hw2 k0_t2 => k0_hw2.2.2.1 k0_t2
theorem k0_off13_inb : ∀ (v1_0 : BitVec 32) (k0_hw2 : k0_chk2 v1_0) (k0_t2 : Fin (k0_t2_loop v1_0).trips), ∀ a, (k0_off13 v1_0 k0_t2) a + S1x1.size a ≤ S5x128.size a := fun v1_0 k0_hw2 k0_t2 => k0_hw2.2.2.2.1 k0_t2
theorem k0_off14_inb : ∀ (v1_0 : BitVec 32) (k0_hw2 : k0_chk2 v1_0) (k0_t2 : Fin (k0_t2_loop v1_0).trips), ∀ a, (k0_off14 v1_0 k0_t2) a + S1x1.size a ≤ S5x128.size a := fun v1_0 k0_hw2 k0_t2 => k0_hw2.2.2.2.2.1 k0_t2
theorem k0_off15_inb : ∀ (v1_0 : BitVec 32) (k0_hw2 : k0_chk2 v1_0) (k0_t2 : Fin (k0_t2_loop v1_0).trips), ∀ a, (k0_off15 v1_0 k0_t2) a + S1x1.size a ≤ S5x128.size a := fun v1_0 k0_hw2 k0_t2 => k0_hw2.2.2.2.2.2.1 k0_t2
theorem k0_off16_inb : ∀ (v1_0 : BitVec 32) (k0_hw2 : k0_chk2 v1_0) (k0_t2 : Fin (k0_t2_loop v1_0).trips), ∀ a, (k0_off16 v1_0 k0_t2) a + S1x1.size a ≤ S5x128.size a := fun v1_0 k0_hw2 k0_t2 => k0_hw2.2.2.2.2.2.2.1 k0_t2
theorem k0_off17_inb : ∀ (v1_0 : BitVec 32) (k0_hw2 : k0_chk2 v1_0) (k0_t2 : Fin (k0_t2_loop v1_0).trips), ∀ a, (k0_off17 v1_0 k0_t2) a + S1x1.size a ≤ S5x128.size a := fun v1_0 k0_hw2 k0_t2 => k0_hw2.2.2.2.2.2.2.2.1 k0_t2
theorem k0_off31_inb : ∀ (v1_0 : BitVec 32) (k0_hw2 : k0_chk2 v1_0) (k0_t2 : Fin (k0_t2_loop v1_0).trips), ∀ a, (k0_off31 v1_0 k0_t2) a + S1x1.size a ≤ S5x128.size a := fun v1_0 k0_hw2 k0_t2 => k0_hw2.2.2.2.2.2.2.2.2.1 k0_t2
theorem k0_t3_ok : ∀ (v1_0 : BitVec 32) (k0_hw2 : k0_chk2 v1_0), (k0_t3_loop v1_0).OK := fun v1_0 k0_hw2 => k0_hw2.2.2.2.2.2.2.2.2.2.1
theorem k0_off346_inb : ∀ (v1_0 : BitVec 32) (k0_hw2 : k0_chk2 v1_0) (k0_t3 : Fin (k0_t3_loop v1_0).trips), ∀ a, (k0_off346 v1_0 k0_t3) a + S1x1.size a ≤ S5x128.size a := fun v1_0 k0_hw2 k0_t3 => k0_hw2.2.2.2.2.2.2.2.2.2.2.1 k0_t3
theorem k0_off347_inb : ∀ (v1_0 : BitVec 32) (k0_hw2 : k0_chk2 v1_0) (k0_t3 : Fin (k0_t3_loop v1_0).trips), ∀ a, (k0_off347 v1_0 k0_t3) a + S1x1.size a ≤ S5x128.size a := fun v1_0 k0_hw2 k0_t3 => k0_hw2.2.2.2.2.2.2.2.2.2.2.2.1 k0_t3
theorem k0_off348_inb : ∀ (v1_0 : BitVec 32) (k0_hw2 : k0_chk2 v1_0) (k0_t3 : Fin (k0_t3_loop v1_0).trips), ∀ a, (k0_off348 v1_0 k0_t3) a + S1x1.size a ≤ S5x128.size a := fun v1_0 k0_hw2 k0_t3 => k0_hw2.2.2.2.2.2.2.2.2.2.2.2.2.1 k0_t3
theorem k0_off349_inb : ∀ (v1_0 : BitVec 32) (k0_hw2 : k0_chk2 v1_0) (k0_t3 : Fin (k0_t3_loop v1_0).trips), ∀ a, (k0_off349 v1_0 k0_t3) a + S1x1.size a ≤ S5x128.size a := fun v1_0 k0_hw2 k0_t3 => k0_hw2.2.2.2.2.2.2.2.2.2.2.2.2.2.1 k0_t3
theorem k0_off350_inb : ∀ (v1_0 : BitVec 32) (k0_hw2 : k0_chk2 v1_0) (k0_t3 : Fin (k0_t3_loop v1_0).trips), ∀ a, (k0_off350 v1_0 k0_t3) a + S1x1.size a ≤ S5x128.size a := fun v1_0 k0_hw2 k0_t3 => k0_hw2.2.2.2.2.2.2.2.2.2.2.2.2.2.2.1 k0_t3
theorem k0_off351_inb : ∀ (v1_0 : BitVec 32) (k0_hw2 : k0_chk2 v1_0) (k0_t3 : Fin (k0_t3_loop v1_0).trips), ∀ a, (k0_off351 v1_0 k0_t3) a + S1x1.size a ≤ S5x128.size a := fun v1_0 k0_hw2 k0_t3 => k0_hw2.2.2.2.2.2.2.2.2.2.2.2.2.2.2.2.1 k0_t3
theorem k0_off365_inb : ∀ (v1_0 : BitVec 32) (k0_hw2 : k0_chk2 v1_0) (k0_t3 : Fin (k0_t3_loop v1_0).trips), ∀ a, (k0_off365 v1_0 k0_t3) a + S1x1.size a ≤ S5x128.size a := fun v1_0 k0_hw2 k0_t3 => k0_hw2.2.2.2.2.2.2.2.2.2.2.2.2.2.2.2.2 k0_t3

def k0_off366 (v134 : BitVec 32) : Fin 2 → Nat :=
  let c0_862 : Index := 0#32
  let v2509 : Index := Scalar.indexCast v134
  ![0, v2509.toNat]
def k0_cond5 (v1_0 : BitVec 32) (k0_t3 : Fin (k0_t3_loop v1_0).trips) (v121 : BitVec 32) (v128 : BitVec 32) (v134 : BitVec 32) : BitVec 1 :=
  let c0_i32_34 : BitVec 32 := 0#32
  let v105 : BitVec 32 := Scalar.subi v1_0 c0_i32_34
  let c1_i32_36 : BitVec 32 := 1#32
  let v107 : BitVec 32 := Scalar.divsi v105 c1_i32_36
  let v108 : BitVec 32 := Scalar.muli v107 c1_i32_36
  let v109 : BitVec 32 := Scalar.addi c0_i32_34 v108
  let c1_i32_38 : BitVec 32 := 1#32
  let arg17 : BitVec 32 := Scf.iv v109 c1_i32_38 k0_t3
  let c0_i32_45 : BitVec 32 := 0#32
  let v124 : BitVec 1 := Scalar.cmpi .eq arg17 c0_i32_45
  let v129 : BitVec 1 := Scalar.cmpi .ne v128 v121
  let v130 : BitVec 1 := Scalar.ori v124 v129
  let v135 : BitVec 1 := Scalar.cmpi .slt v134 v1_0
  let v136 : BitVec 1 := Scalar.andi v130 v135
  let v137 : BitVec 32 := Scalar.extui v136
  let c0_i32_51 : BitVec 32 := 0#32
  let v138 : BitVec 1 := Scalar.cmpi .ne v137 c0_i32_51
  v138

def k0_off367 (v121 : BitVec 32) : Fin 2 → Nat :=
  let c1_i32_863 : BitVec 32 := 1#32
  let c1_i32_44 : BitVec 32 := 1#32
  let v123 : BitVec 32 := Scalar.andi v121 c1_i32_44
  let v2511 : BitVec 32 := Scalar.subi c1_i32_863 v123
  let c0_i32_864 : BitVec 32 := 0#32
  ![v2511.toNat, 0]
def k0_off368 (v121 : BitVec 32) : Fin 3 → Nat :=
  let c1_i32_863 : BitVec 32 := 1#32
  let c1_i32_44 : BitVec 32 := 1#32
  let v123 : BitVec 32 := Scalar.andi v121 c1_i32_44
  let v2511 : BitVec 32 := Scalar.subi c1_i32_863 v123
  let c0_i32_865 : BitVec 32 := 0#32
  let c0_i32_866 : BitVec 32 := 0#32
  ![v2511.toNat, 0, 0]
def k0_off369 (v2510 : BitVec 32) : Fin 3 → Nat :=
  let c0_i32_867 : BitVec 32 := 0#32
  let c0_i32_868 : BitVec 32 := 0#32
  ![v2510.toNat, 0, 0]

def k0_off370 (v121 : BitVec 32) : Fin 2 → Nat :=
  let c1_i32_863 : BitVec 32 := 1#32
  let c1_i32_44 : BitVec 32 := 1#32
  let v123 : BitVec 32 := Scalar.andi v121 c1_i32_44
  let v2511 : BitVec 32 := Scalar.subi c1_i32_863 v123
  let c1_i32_869 : BitVec 32 := 1#32
  ![v2511.toNat, 1]
def k0_off371 (v121 : BitVec 32) : Fin 3 → Nat :=
  let c1_i32_863 : BitVec 32 := 1#32
  let c1_i32_44 : BitVec 32 := 1#32
  let v123 : BitVec 32 := Scalar.andi v121 c1_i32_44
  let v2511 : BitVec 32 := Scalar.subi c1_i32_863 v123
  let c0_i32_870 : BitVec 32 := 0#32
  let c0_i32_871 : BitVec 32 := 0#32
  ![v2511.toNat, 0, 0]
def k0_off372 (v2510 : BitVec 32) : Fin 3 → Nat :=
  let c0_i32_872 : BitVec 32 := 0#32
  let c0_i32_873 : BitVec 32 := 0#32
  ![v2510.toNat, 0, 0]
def k0_off373 (v121 : BitVec 32) : Fin 2 → Nat :=
  let c1_i32_863 : BitVec 32 := 1#32
  let c1_i32_44 : BitVec 32 := 1#32
  let v123 : BitVec 32 := Scalar.andi v121 c1_i32_44
  let v2511 : BitVec 32 := Scalar.subi c1_i32_863 v123
  let c2_i32 : BitVec 32 := 2#32
  ![v2511.toNat, 2]
def k0_off374 (v121 : BitVec 32) : Fin 3 → Nat :=
  let c1_i32_863 : BitVec 32 := 1#32
  let c1_i32_44 : BitVec 32 := 1#32
  let v123 : BitVec 32 := Scalar.andi v121 c1_i32_44
  let v2511 : BitVec 32 := Scalar.subi c1_i32_863 v123
  let c0_i32_874 : BitVec 32 := 0#32
  let c0_i32_875 : BitVec 32 := 0#32
  ![v2511.toNat, 0, 0]
def k0_off375 (v2510 : BitVec 32) : Fin 3 → Nat :=
  let c0_i32_876 : BitVec 32 := 0#32
  let c0_i32_877 : BitVec 32 := 0#32
  ![v2510.toNat, 0, 0]
def k0_off376 (v121 : BitVec 32) : Fin 2 → Nat :=
  let c1_i32_863 : BitVec 32 := 1#32
  let c1_i32_44 : BitVec 32 := 1#32
  let v123 : BitVec 32 := Scalar.andi v121 c1_i32_44
  let v2511 : BitVec 32 := Scalar.subi c1_i32_863 v123
  let c3_i32 : BitVec 32 := 3#32
  ![v2511.toNat, 3]
def k0_off377 (v121 : BitVec 32) : Fin 3 → Nat :=
  let c1_i32_863 : BitVec 32 := 1#32
  let c1_i32_44 : BitVec 32 := 1#32
  let v123 : BitVec 32 := Scalar.andi v121 c1_i32_44
  let v2511 : BitVec 32 := Scalar.subi c1_i32_863 v123
  let c0_i32_878 : BitVec 32 := 0#32
  let c0_i32_879 : BitVec 32 := 0#32
  ![v2511.toNat, 0, 0]
def k0_off378 (v2510 : BitVec 32) : Fin 3 → Nat :=
  let c0_i32_880 : BitVec 32 := 0#32
  let c0_i32_881 : BitVec 32 := 0#32
  ![v2510.toNat, 0, 0]

def k0_chk14 (v1_0 : BitVec 32) (k0_t3 : Fin (k0_t3_loop v1_0).trips) (v121 : BitVec 32) (v128 : BitVec 32) (v134 : BitVec 32) (v2510 : BitVec 32) : Prop :=
  (∀ (k0_h5 : k0_cond5 v1_0 k0_t3 v121 v128 v134 = 1#1), ∀ a, (k0_off369 v2510) a + S1x1024x2816.size a ≤ S60x1024x2816.size a) ∧
  (∀ (k0_h5 : k0_cond5 v1_0 k0_t3 v121 v128 v134 = 1#1), ∀ (hinb : ∀ a, (k0_off369 v2510) a + S1x1024x2816.size a ≤ S60x1024x2816.size a), (Rect.unit (s := S60x1024x2816) (k0_off369 v2510) S1x1024x2816.size hinb).WholeWords (EltTy.packing .i8)) ∧
  (∀ (k0_h5 : k0_cond5 v1_0 k0_t3 v121 v128 v134 = 1#1), ∀ a, (k0_off372 v2510) a + S1x16x2816.size a ≤ S60x16x2816.size a) ∧
  (∀ (k0_h5 : k0_cond5 v1_0 k0_t3 v121 v128 v134 = 1#1), ∀ (hinb : ∀ a, (k0_off372 v2510) a + S1x16x2816.size a ≤ S60x16x2816.size a), (Rect.unit (s := S60x16x2816) (k0_off372 v2510) S1x16x2816.size hinb).WholeWords (EltTy.packing .bf16)) ∧
  (∀ (k0_h5 : k0_cond5 v1_0 k0_t3 v121 v128 v134 = 1#1), ∀ a, (k0_off375 v2510) a + S1x704x2048.size a ≤ S60x704x2048.size a) ∧
  (∀ (k0_h5 : k0_cond5 v1_0 k0_t3 v121 v128 v134 = 1#1), ∀ (hinb : ∀ a, (k0_off375 v2510) a + S1x704x2048.size a ≤ S60x704x2048.size a), (Rect.unit (s := S60x704x2048) (k0_off375 v2510) S1x704x2048.size hinb).WholeWords (EltTy.packing .i8)) ∧
  (∀ (k0_h5 : k0_cond5 v1_0 k0_t3 v121 v128 v134 = 1#1), ∀ a, (k0_off378 v2510) a + S1x11x2048.size a ≤ S60x11x2048.size a) ∧
  (∀ (k0_h5 : k0_cond5 v1_0 k0_t3 v121 v128 v134 = 1#1), ∀ (hinb : ∀ a, (k0_off378 v2510) a + S1x11x2048.size a ≤ S60x11x2048.size a), (Rect.unit (s := S60x11x2048) (k0_off378 v2510) S1x11x2048.size hinb).WholeWords (EltTy.packing .bf16))
theorem k0_off369_inb : ∀ (v1_0 : BitVec 32) (k0_t3 : Fin (k0_t3_loop v1_0).trips) (v121 : BitVec 32) (v128 : BitVec 32) (v134 : BitVec 32) (v2510 : BitVec 32) (k0_hw14 : k0_chk14 v1_0 k0_t3 v121 v128 v134 v2510), ∀ (k0_h5 : k0_cond5 v1_0 k0_t3 v121 v128 v134 = 1#1), ∀ a, (k0_off369 v2510) a + S1x1024x2816.size a ≤ S60x1024x2816.size a := fun v1_0 k0_t3 v121 v128 v134 v2510 k0_hw14 k0_h5 => k0_hw14.1 k0_h5
theorem k0_off369_wordsi8 : ∀ (v1_0 : BitVec 32) (k0_t3 : Fin (k0_t3_loop v1_0).trips) (v121 : BitVec 32) (v128 : BitVec 32) (v134 : BitVec 32) (v2510 : BitVec 32) (k0_hw14 : k0_chk14 v1_0 k0_t3 v121 v128 v134 v2510), ∀ (k0_h5 : k0_cond5 v1_0 k0_t3 v121 v128 v134 = 1#1), (Rect.unit (s := S60x1024x2816) (k0_off369 v2510) S1x1024x2816.size (k0_off369_inb v1_0 k0_t3 v121 v128 v134 v2510 k0_hw14 k0_h5)).WholeWords (EltTy.packing .i8) := fun v1_0 k0_t3 v121 v128 v134 v2510 k0_hw14 k0_h5 => k0_hw14.2.1 k0_h5 (k0_off369_inb v1_0 k0_t3 v121 v128 v134 v2510 k0_hw14 k0_h5)
theorem k0_off372_inb : ∀ (v1_0 : BitVec 32) (k0_t3 : Fin (k0_t3_loop v1_0).trips) (v121 : BitVec 32) (v128 : BitVec 32) (v134 : BitVec 32) (v2510 : BitVec 32) (k0_hw14 : k0_chk14 v1_0 k0_t3 v121 v128 v134 v2510), ∀ (k0_h5 : k0_cond5 v1_0 k0_t3 v121 v128 v134 = 1#1), ∀ a, (k0_off372 v2510) a + S1x16x2816.size a ≤ S60x16x2816.size a := fun v1_0 k0_t3 v121 v128 v134 v2510 k0_hw14 k0_h5 => k0_hw14.2.2.1 k0_h5
theorem k0_off372_wordsbf16 : ∀ (v1_0 : BitVec 32) (k0_t3 : Fin (k0_t3_loop v1_0).trips) (v121 : BitVec 32) (v128 : BitVec 32) (v134 : BitVec 32) (v2510 : BitVec 32) (k0_hw14 : k0_chk14 v1_0 k0_t3 v121 v128 v134 v2510), ∀ (k0_h5 : k0_cond5 v1_0 k0_t3 v121 v128 v134 = 1#1), (Rect.unit (s := S60x16x2816) (k0_off372 v2510) S1x16x2816.size (k0_off372_inb v1_0 k0_t3 v121 v128 v134 v2510 k0_hw14 k0_h5)).WholeWords (EltTy.packing .bf16) := fun v1_0 k0_t3 v121 v128 v134 v2510 k0_hw14 k0_h5 => k0_hw14.2.2.2.1 k0_h5 (k0_off372_inb v1_0 k0_t3 v121 v128 v134 v2510 k0_hw14 k0_h5)
theorem k0_off375_inb : ∀ (v1_0 : BitVec 32) (k0_t3 : Fin (k0_t3_loop v1_0).trips) (v121 : BitVec 32) (v128 : BitVec 32) (v134 : BitVec 32) (v2510 : BitVec 32) (k0_hw14 : k0_chk14 v1_0 k0_t3 v121 v128 v134 v2510), ∀ (k0_h5 : k0_cond5 v1_0 k0_t3 v121 v128 v134 = 1#1), ∀ a, (k0_off375 v2510) a + S1x704x2048.size a ≤ S60x704x2048.size a := fun v1_0 k0_t3 v121 v128 v134 v2510 k0_hw14 k0_h5 => k0_hw14.2.2.2.2.1 k0_h5
theorem k0_off375_wordsi8 : ∀ (v1_0 : BitVec 32) (k0_t3 : Fin (k0_t3_loop v1_0).trips) (v121 : BitVec 32) (v128 : BitVec 32) (v134 : BitVec 32) (v2510 : BitVec 32) (k0_hw14 : k0_chk14 v1_0 k0_t3 v121 v128 v134 v2510), ∀ (k0_h5 : k0_cond5 v1_0 k0_t3 v121 v128 v134 = 1#1), (Rect.unit (s := S60x704x2048) (k0_off375 v2510) S1x704x2048.size (k0_off375_inb v1_0 k0_t3 v121 v128 v134 v2510 k0_hw14 k0_h5)).WholeWords (EltTy.packing .i8) := fun v1_0 k0_t3 v121 v128 v134 v2510 k0_hw14 k0_h5 => k0_hw14.2.2.2.2.2.1 k0_h5 (k0_off375_inb v1_0 k0_t3 v121 v128 v134 v2510 k0_hw14 k0_h5)
theorem k0_off378_inb : ∀ (v1_0 : BitVec 32) (k0_t3 : Fin (k0_t3_loop v1_0).trips) (v121 : BitVec 32) (v128 : BitVec 32) (v134 : BitVec 32) (v2510 : BitVec 32) (k0_hw14 : k0_chk14 v1_0 k0_t3 v121 v128 v134 v2510), ∀ (k0_h5 : k0_cond5 v1_0 k0_t3 v121 v128 v134 = 1#1), ∀ a, (k0_off378 v2510) a + S1x11x2048.size a ≤ S60x11x2048.size a := fun v1_0 k0_t3 v121 v128 v134 v2510 k0_hw14 k0_h5 => k0_hw14.2.2.2.2.2.2.1 k0_h5
theorem k0_off378_wordsbf16 : ∀ (v1_0 : BitVec 32) (k0_t3 : Fin (k0_t3_loop v1_0).trips) (v121 : BitVec 32) (v128 : BitVec 32) (v134 : BitVec 32) (v2510 : BitVec 32) (k0_hw14 : k0_chk14 v1_0 k0_t3 v121 v128 v134 v2510), ∀ (k0_h5 : k0_cond5 v1_0 k0_t3 v121 v128 v134 = 1#1), (Rect.unit (s := S60x11x2048) (k0_off378 v2510) S1x11x2048.size (k0_off378_inb v1_0 k0_t3 v121 v128 v134 v2510 k0_hw14 k0_h5)).WholeWords (EltTy.packing .bf16) := fun v1_0 k0_t3 v121 v128 v134 v2510 k0_hw14 k0_h5 => k0_hw14.2.2.2.2.2.2.2 k0_h5 (k0_off378_inb v1_0 k0_t3 v121 v128 v134 v2510 k0_hw14 k0_h5)

def k0_chk13 (v1_0 : BitVec 32) (k0_t3 : Fin (k0_t3_loop v1_0).trips) (v121 : BitVec 32) (v128 : BitVec 32) (v134 : BitVec 32) : Prop :=
  (∀ (k0_h5 : k0_cond5 v1_0 k0_t3 v121 v128 v134 = 1#1), ∀ a, (k0_off366 v134) a + S1x1.size a ≤ S5x128.size a) ∧
  (∀ (k0_h5 : k0_cond5 v1_0 k0_t3 v121 v128 v134 = 1#1), ∀ a, (k0_off367 v121) a + S1x1.size a ≤ S2x4.size a) ∧
  (∀ (k0_h5 : k0_cond5 v1_0 k0_t3 v121 v128 v134 = 1#1), ∀ a, (k0_off368 v121) a + S1x1024x2816.size a ≤ S2x1024x2816.size a) ∧
  (∀ (k0_h5 : k0_cond5 v1_0 k0_t3 v121 v128 v134 = 1#1), ∀ (hinb : ∀ a, (k0_off368 v121) a + S1x1024x2816.size a ≤ S2x1024x2816.size a), (Rect.unit (s := S2x1024x2816) (k0_off368 v121) S1x1024x2816.size hinb).WholeWords (EltTy.packing .i8)) ∧
  (∀ (k0_h5 : k0_cond5 v1_0 k0_t3 v121 v128 v134 = 1#1), ∀ a, (k0_off370 v121) a + S1x1.size a ≤ S2x4.size a) ∧
  (∀ (k0_h5 : k0_cond5 v1_0 k0_t3 v121 v128 v134 = 1#1), ∀ a, (k0_off371 v121) a + S1x16x2816.size a ≤ S2x16x2816.size a) ∧
  (∀ (k0_h5 : k0_cond5 v1_0 k0_t3 v121 v128 v134 = 1#1), ∀ (hinb : ∀ a, (k0_off371 v121) a + S1x16x2816.size a ≤ S2x16x2816.size a), (Rect.unit (s := S2x16x2816) (k0_off371 v121) S1x16x2816.size hinb).WholeWords (EltTy.packing .bf16)) ∧
  (∀ (k0_h5 : k0_cond5 v1_0 k0_t3 v121 v128 v134 = 1#1), ∀ a, (k0_off373 v121) a + S1x1.size a ≤ S2x4.size a) ∧
  (∀ (k0_h5 : k0_cond5 v1_0 k0_t3 v121 v128 v134 = 1#1), ∀ a, (k0_off374 v121) a + S1x704x2048.size a ≤ S2x704x2048.size a) ∧
  (∀ (k0_h5 : k0_cond5 v1_0 k0_t3 v121 v128 v134 = 1#1), ∀ (hinb : ∀ a, (k0_off374 v121) a + S1x704x2048.size a ≤ S2x704x2048.size a), (Rect.unit (s := S2x704x2048) (k0_off374 v121) S1x704x2048.size hinb).WholeWords (EltTy.packing .i8)) ∧
  (∀ (k0_h5 : k0_cond5 v1_0 k0_t3 v121 v128 v134 = 1#1), ∀ a, (k0_off376 v121) a + S1x1.size a ≤ S2x4.size a) ∧
  (∀ (k0_h5 : k0_cond5 v1_0 k0_t3 v121 v128 v134 = 1#1), ∀ a, (k0_off377 v121) a + S1x11x2048.size a ≤ S2x11x2048.size a) ∧
  (∀ (k0_h5 : k0_cond5 v1_0 k0_t3 v121 v128 v134 = 1#1), ∀ (hinb : ∀ a, (k0_off377 v121) a + S1x11x2048.size a ≤ S2x11x2048.size a), (Rect.unit (s := S2x11x2048) (k0_off377 v121) S1x11x2048.size hinb).WholeWords (EltTy.packing .bf16))
theorem k0_off366_inb : ∀ (v1_0 : BitVec 32) (k0_t3 : Fin (k0_t3_loop v1_0).trips) (v121 : BitVec 32) (v128 : BitVec 32) (v134 : BitVec 32) (k0_hw13 : k0_chk13 v1_0 k0_t3 v121 v128 v134), ∀ (k0_h5 : k0_cond5 v1_0 k0_t3 v121 v128 v134 = 1#1), ∀ a, (k0_off366 v134) a + S1x1.size a ≤ S5x128.size a := fun v1_0 k0_t3 v121 v128 v134 k0_hw13 k0_h5 => k0_hw13.1 k0_h5
theorem k0_off367_inb : ∀ (v1_0 : BitVec 32) (k0_t3 : Fin (k0_t3_loop v1_0).trips) (v121 : BitVec 32) (v128 : BitVec 32) (v134 : BitVec 32) (k0_hw13 : k0_chk13 v1_0 k0_t3 v121 v128 v134), ∀ (k0_h5 : k0_cond5 v1_0 k0_t3 v121 v128 v134 = 1#1), ∀ a, (k0_off367 v121) a + S1x1.size a ≤ S2x4.size a := fun v1_0 k0_t3 v121 v128 v134 k0_hw13 k0_h5 => k0_hw13.2.1 k0_h5
theorem k0_off368_inb : ∀ (v1_0 : BitVec 32) (k0_t3 : Fin (k0_t3_loop v1_0).trips) (v121 : BitVec 32) (v128 : BitVec 32) (v134 : BitVec 32) (k0_hw13 : k0_chk13 v1_0 k0_t3 v121 v128 v134), ∀ (k0_h5 : k0_cond5 v1_0 k0_t3 v121 v128 v134 = 1#1), ∀ a, (k0_off368 v121) a + S1x1024x2816.size a ≤ S2x1024x2816.size a := fun v1_0 k0_t3 v121 v128 v134 k0_hw13 k0_h5 => k0_hw13.2.2.1 k0_h5
theorem k0_off368_wordsi8 : ∀ (v1_0 : BitVec 32) (k0_t3 : Fin (k0_t3_loop v1_0).trips) (v121 : BitVec 32) (v128 : BitVec 32) (v134 : BitVec 32) (k0_hw13 : k0_chk13 v1_0 k0_t3 v121 v128 v134), ∀ (k0_h5 : k0_cond5 v1_0 k0_t3 v121 v128 v134 = 1#1), (Rect.unit (s := S2x1024x2816) (k0_off368 v121) S1x1024x2816.size (k0_off368_inb v1_0 k0_t3 v121 v128 v134 k0_hw13 k0_h5)).WholeWords (EltTy.packing .i8) := fun v1_0 k0_t3 v121 v128 v134 k0_hw13 k0_h5 => k0_hw13.2.2.2.1 k0_h5 (k0_off368_inb v1_0 k0_t3 v121 v128 v134 k0_hw13 k0_h5)
theorem k0_off370_inb : ∀ (v1_0 : BitVec 32) (k0_t3 : Fin (k0_t3_loop v1_0).trips) (v121 : BitVec 32) (v128 : BitVec 32) (v134 : BitVec 32) (k0_hw13 : k0_chk13 v1_0 k0_t3 v121 v128 v134), ∀ (k0_h5 : k0_cond5 v1_0 k0_t3 v121 v128 v134 = 1#1), ∀ a, (k0_off370 v121) a + S1x1.size a ≤ S2x4.size a := fun v1_0 k0_t3 v121 v128 v134 k0_hw13 k0_h5 => k0_hw13.2.2.2.2.1 k0_h5
theorem k0_off371_inb : ∀ (v1_0 : BitVec 32) (k0_t3 : Fin (k0_t3_loop v1_0).trips) (v121 : BitVec 32) (v128 : BitVec 32) (v134 : BitVec 32) (k0_hw13 : k0_chk13 v1_0 k0_t3 v121 v128 v134), ∀ (k0_h5 : k0_cond5 v1_0 k0_t3 v121 v128 v134 = 1#1), ∀ a, (k0_off371 v121) a + S1x16x2816.size a ≤ S2x16x2816.size a := fun v1_0 k0_t3 v121 v128 v134 k0_hw13 k0_h5 => k0_hw13.2.2.2.2.2.1 k0_h5
theorem k0_off371_wordsbf16 : ∀ (v1_0 : BitVec 32) (k0_t3 : Fin (k0_t3_loop v1_0).trips) (v121 : BitVec 32) (v128 : BitVec 32) (v134 : BitVec 32) (k0_hw13 : k0_chk13 v1_0 k0_t3 v121 v128 v134), ∀ (k0_h5 : k0_cond5 v1_0 k0_t3 v121 v128 v134 = 1#1), (Rect.unit (s := S2x16x2816) (k0_off371 v121) S1x16x2816.size (k0_off371_inb v1_0 k0_t3 v121 v128 v134 k0_hw13 k0_h5)).WholeWords (EltTy.packing .bf16) := fun v1_0 k0_t3 v121 v128 v134 k0_hw13 k0_h5 => k0_hw13.2.2.2.2.2.2.1 k0_h5 (k0_off371_inb v1_0 k0_t3 v121 v128 v134 k0_hw13 k0_h5)
theorem k0_off373_inb : ∀ (v1_0 : BitVec 32) (k0_t3 : Fin (k0_t3_loop v1_0).trips) (v121 : BitVec 32) (v128 : BitVec 32) (v134 : BitVec 32) (k0_hw13 : k0_chk13 v1_0 k0_t3 v121 v128 v134), ∀ (k0_h5 : k0_cond5 v1_0 k0_t3 v121 v128 v134 = 1#1), ∀ a, (k0_off373 v121) a + S1x1.size a ≤ S2x4.size a := fun v1_0 k0_t3 v121 v128 v134 k0_hw13 k0_h5 => k0_hw13.2.2.2.2.2.2.2.1 k0_h5
theorem k0_off374_inb : ∀ (v1_0 : BitVec 32) (k0_t3 : Fin (k0_t3_loop v1_0).trips) (v121 : BitVec 32) (v128 : BitVec 32) (v134 : BitVec 32) (k0_hw13 : k0_chk13 v1_0 k0_t3 v121 v128 v134), ∀ (k0_h5 : k0_cond5 v1_0 k0_t3 v121 v128 v134 = 1#1), ∀ a, (k0_off374 v121) a + S1x704x2048.size a ≤ S2x704x2048.size a := fun v1_0 k0_t3 v121 v128 v134 k0_hw13 k0_h5 => k0_hw13.2.2.2.2.2.2.2.2.1 k0_h5
theorem k0_off374_wordsi8 : ∀ (v1_0 : BitVec 32) (k0_t3 : Fin (k0_t3_loop v1_0).trips) (v121 : BitVec 32) (v128 : BitVec 32) (v134 : BitVec 32) (k0_hw13 : k0_chk13 v1_0 k0_t3 v121 v128 v134), ∀ (k0_h5 : k0_cond5 v1_0 k0_t3 v121 v128 v134 = 1#1), (Rect.unit (s := S2x704x2048) (k0_off374 v121) S1x704x2048.size (k0_off374_inb v1_0 k0_t3 v121 v128 v134 k0_hw13 k0_h5)).WholeWords (EltTy.packing .i8) := fun v1_0 k0_t3 v121 v128 v134 k0_hw13 k0_h5 => k0_hw13.2.2.2.2.2.2.2.2.2.1 k0_h5 (k0_off374_inb v1_0 k0_t3 v121 v128 v134 k0_hw13 k0_h5)
theorem k0_off376_inb : ∀ (v1_0 : BitVec 32) (k0_t3 : Fin (k0_t3_loop v1_0).trips) (v121 : BitVec 32) (v128 : BitVec 32) (v134 : BitVec 32) (k0_hw13 : k0_chk13 v1_0 k0_t3 v121 v128 v134), ∀ (k0_h5 : k0_cond5 v1_0 k0_t3 v121 v128 v134 = 1#1), ∀ a, (k0_off376 v121) a + S1x1.size a ≤ S2x4.size a := fun v1_0 k0_t3 v121 v128 v134 k0_hw13 k0_h5 => k0_hw13.2.2.2.2.2.2.2.2.2.2.1 k0_h5
theorem k0_off377_inb : ∀ (v1_0 : BitVec 32) (k0_t3 : Fin (k0_t3_loop v1_0).trips) (v121 : BitVec 32) (v128 : BitVec 32) (v134 : BitVec 32) (k0_hw13 : k0_chk13 v1_0 k0_t3 v121 v128 v134), ∀ (k0_h5 : k0_cond5 v1_0 k0_t3 v121 v128 v134 = 1#1), ∀ a, (k0_off377 v121) a + S1x11x2048.size a ≤ S2x11x2048.size a := fun v1_0 k0_t3 v121 v128 v134 k0_hw13 k0_h5 => k0_hw13.2.2.2.2.2.2.2.2.2.2.2.1 k0_h5
theorem k0_off377_wordsbf16 : ∀ (v1_0 : BitVec 32) (k0_t3 : Fin (k0_t3_loop v1_0).trips) (v121 : BitVec 32) (v128 : BitVec 32) (v134 : BitVec 32) (k0_hw13 : k0_chk13 v1_0 k0_t3 v121 v128 v134), ∀ (k0_h5 : k0_cond5 v1_0 k0_t3 v121 v128 v134 = 1#1), (Rect.unit (s := S2x11x2048) (k0_off377 v121) S1x11x2048.size (k0_off377_inb v1_0 k0_t3 v121 v128 v134 k0_hw13 k0_h5)).WholeWords (EltTy.packing .bf16) := fun v1_0 k0_t3 v121 v128 v134 k0_hw13 k0_h5 => k0_hw13.2.2.2.2.2.2.2.2.2.2.2.2 k0_h5 (k0_off377_inb v1_0 k0_t3 v121 v128 v134 k0_hw13 k0_h5)

def k0_off379 (v115 : BitVec 32) : Fin 2 → Nat :=
  let v122 : BitVec 32 := v115
  let v139 : Index := Scalar.indexCast v122
  let c0_52 : Index := 0#32
  ![v139.toNat, 0]
def k0_off380 (v121 : BitVec 32) : Fin 3 → Nat :=
  let c1_i32_44 : BitVec 32 := 1#32
  let v123 : BitVec 32 := Scalar.andi v121 c1_i32_44
  let v141 : Index := Scalar.indexCast v123
  let c0_53 : Index := 0#32
  let c0_54 : Index := 0#32
  ![v141.toNat, 0, 0]

def k0_off381 (v121 : BitVec 32) : Fin 3 → Nat :=
  let c1_i32_44 : BitVec 32 := 1#32
  let v123 : BitVec 32 := Scalar.andi v121 c1_i32_44
  let v162 : Index := Scalar.indexCast v123
  let c0_57 : Index := 0#32
  let c0_58 : Index := 0#32
  ![v162.toNat, 0, 0]
def k0_off382 (v121 : BitVec 32) : Fin 3 → Nat :=
  let c1_i32_44 : BitVec 32 := 1#32
  let v123 : BitVec 32 := Scalar.andi v121 c1_i32_44
  let v168 : Index := Scalar.indexCast v123
  let c1_59 : Index := 1#32
  let c0_60 : Index := 0#32
  ![v168.toNat, 1, 0]
def k0_off383 (v121 : BitVec 32) : Fin 3 → Nat :=
  let c1_i32_44 : BitVec 32 := 1#32
  let v123 : BitVec 32 := Scalar.andi v121 c1_i32_44
  let v174 : Index := Scalar.indexCast v123
  let c2_61 : Index := 2#32
  let c0_62 : Index := 0#32
  ![v174.toNat, 2, 0]
def k0_off384 (v121 : BitVec 32) : Fin 3 → Nat :=
  let c1_i32_44 : BitVec 32 := 1#32
  let v123 : BitVec 32 := Scalar.andi v121 c1_i32_44
  let v180 : Index := Scalar.indexCast v123
  let c3_63 : Index := 3#32
  let c0_64 : Index := 0#32
  ![v180.toNat, 3, 0]
def k0_off385 (v121 : BitVec 32) : Fin 3 → Nat :=
  let c1_i32_44 : BitVec 32 := 1#32
  let v123 : BitVec 32 := Scalar.andi v121 c1_i32_44
  let v186 : Index := Scalar.indexCast v123
  let c4_65 : Index := 4#32
  let c0_66 : Index := 0#32
  ![v186.toNat, 4, 0]
def k0_off386 (v121 : BitVec 32) : Fin 3 → Nat :=
  let c1_i32_44 : BitVec 32 := 1#32
  let v123 : BitVec 32 := Scalar.andi v121 c1_i32_44
  let v192 : Index := Scalar.indexCast v123
  let c5_67 : Index := 5#32
  let c0_68 : Index := 0#32
  ![v192.toNat, 5, 0]
def k0_off387 (v121 : BitVec 32) : Fin 3 → Nat :=
  let c1_i32_44 : BitVec 32 := 1#32
  let v123 : BitVec 32 := Scalar.andi v121 c1_i32_44
  let v198 : Index := Scalar.indexCast v123
  let c6_69 : Index := 6#32
  let c0_70 : Index := 0#32
  ![v198.toNat, 6, 0]
def k0_off388 (v121 : BitVec 32) : Fin 3 → Nat :=
  let c1_i32_44 : BitVec 32 := 1#32
  let v123 : BitVec 32 := Scalar.andi v121 c1_i32_44
  let v204 : Index := Scalar.indexCast v123
  let c7_71 : Index := 7#32
  let c0_72 : Index := 0#32
  ![v204.toNat, 7, 0]
def k0_off389 (v121 : BitVec 32) : Fin 3 → Nat :=
  let c1_i32_44 : BitVec 32 := 1#32
  let v123 : BitVec 32 := Scalar.andi v121 c1_i32_44
  let v210 : Index := Scalar.indexCast v123
  let c8_73 : Index := 8#32
  let c0_74 : Index := 0#32
  ![v210.toNat, 8, 0]
def k0_off390 (v121 : BitVec 32) : Fin 3 → Nat :=
  let c1_i32_44 : BitVec 32 := 1#32
  let v123 : BitVec 32 := Scalar.andi v121 c1_i32_44
  let v216 : Index := Scalar.indexCast v123
  let c9_75 : Index := 9#32
  let c0_76 : Index := 0#32
  ![v216.toNat, 9, 0]
def k0_off391 (v121 : BitVec 32) : Fin 3 → Nat :=
  let c1_i32_44 : BitVec 32 := 1#32
  let v123 : BitVec 32 := Scalar.andi v121 c1_i32_44
  let v222 : Index := Scalar.indexCast v123
  let c10_77 : Index := 10#32
  let c0_78 : Index := 0#32
  ![v222.toNat, 10, 0]
def k0_off392 (v121 : BitVec 32) : Fin 3 → Nat :=
  let c1_i32_44 : BitVec 32 := 1#32
  let v123 : BitVec 32 := Scalar.andi v121 c1_i32_44
  let v228 : Index := Scalar.indexCast v123
  let c11_79 : Index := 11#32
  let c0_80 : Index := 0#32
  ![v228.toNat, 11, 0]
def k0_off393 (v121 : BitVec 32) : Fin 3 → Nat :=
  let c1_i32_44 : BitVec 32 := 1#32
  let v123 : BitVec 32 := Scalar.andi v121 c1_i32_44
  let v234 : Index := Scalar.indexCast v123
  let c12 : Index := 12#32
  let c0_81 : Index := 0#32
  ![v234.toNat, 12, 0]
def k0_off394 (v121 : BitVec 32) : Fin 3 → Nat :=
  let c1_i32_44 : BitVec 32 := 1#32
  let v123 : BitVec 32 := Scalar.andi v121 c1_i32_44
  let v240 : Index := Scalar.indexCast v123
  let c13 : Index := 13#32
  let c0_82 : Index := 0#32
  ![v240.toNat, 13, 0]
def k0_off395 (v121 : BitVec 32) : Fin 3 → Nat :=
  let c1_i32_44 : BitVec 32 := 1#32
  let v123 : BitVec 32 := Scalar.andi v121 c1_i32_44
  let v246 : Index := Scalar.indexCast v123
  let c14 : Index := 14#32
  let c0_83 : Index := 0#32
  ![v246.toNat, 14, 0]
def k0_off396 (v121 : BitVec 32) : Fin 3 → Nat :=
  let c1_i32_44 : BitVec 32 := 1#32
  let v123 : BitVec 32 := Scalar.andi v121 c1_i32_44
  let v252 : Index := Scalar.indexCast v123
  let c15 : Index := 15#32
  let c0_84 : Index := 0#32
  ![v252.toNat, 15, 0]
def k0_off397 (v121 : BitVec 32) : Fin 3 → Nat :=
  let c1_i32_44 : BitVec 32 := 1#32
  let v123 : BitVec 32 := Scalar.andi v121 c1_i32_44
  let v263 : Index := Scalar.indexCast v123
  let c0_88 : Index := 0#32
  let c256_89 : Index := 256#32
  ![v263.toNat, 0, 256]
def k0_off398 (v121 : BitVec 32) : Fin 3 → Nat :=
  let c1_i32_44 : BitVec 32 := 1#32
  let v123 : BitVec 32 := Scalar.andi v121 c1_i32_44
  let v284 : Index := Scalar.indexCast v123
  let c0_95 : Index := 0#32
  let c256_96 : Index := 256#32
  ![v284.toNat, 0, 256]
def k0_off399 (v121 : BitVec 32) : Fin 3 → Nat :=
  let c1_i32_44 : BitVec 32 := 1#32
  let v123 : BitVec 32 := Scalar.andi v121 c1_i32_44
  let v290 : Index := Scalar.indexCast v123
  let c1_97 : Index := 1#32
  let c256_98 : Index := 256#32
  ![v290.toNat, 1, 256]
def k0_off400 (v121 : BitVec 32) : Fin 3 → Nat :=
  let c1_i32_44 : BitVec 32 := 1#32
  let v123 : BitVec 32 := Scalar.andi v121 c1_i32_44
  let v296 : Index := Scalar.indexCast v123
  let c2_99 : Index := 2#32
  let c256_100 : Index := 256#32
  ![v296.toNat, 2, 256]
def k0_off401 (v121 : BitVec 32) : Fin 3 → Nat :=
  let c1_i32_44 : BitVec 32 := 1#32
  let v123 : BitVec 32 := Scalar.andi v121 c1_i32_44
  let v302 : Index := Scalar.indexCast v123
  let c3_101 : Index := 3#32
  let c256_102 : Index := 256#32
  ![v302.toNat, 3, 256]
def k0_off402 (v121 : BitVec 32) : Fin 3 → Nat :=
  let c1_i32_44 : BitVec 32 := 1#32
  let v123 : BitVec 32 := Scalar.andi v121 c1_i32_44
  let v308 : Index := Scalar.indexCast v123
  let c4_103 : Index := 4#32
  let c256_104 : Index := 256#32
  ![v308.toNat, 4, 256]
def k0_off403 (v121 : BitVec 32) : Fin 3 → Nat :=
  let c1_i32_44 : BitVec 32 := 1#32
  let v123 : BitVec 32 := Scalar.andi v121 c1_i32_44
  let v314 : Index := Scalar.indexCast v123
  let c5_105 : Index := 5#32
  let c256_106 : Index := 256#32
  ![v314.toNat, 5, 256]
def k0_off404 (v121 : BitVec 32) : Fin 3 → Nat :=
  let c1_i32_44 : BitVec 32 := 1#32
  let v123 : BitVec 32 := Scalar.andi v121 c1_i32_44
  let v320 : Index := Scalar.indexCast v123
  let c6_107 : Index := 6#32
  let c256_108 : Index := 256#32
  ![v320.toNat, 6, 256]
def k0_off405 (v121 : BitVec 32) : Fin 3 → Nat :=
  let c1_i32_44 : BitVec 32 := 1#32
  let v123 : BitVec 32 := Scalar.andi v121 c1_i32_44
  let v326 : Index := Scalar.indexCast v123
  let c7_109 : Index := 7#32
  let c256_110 : Index := 256#32
  ![v326.toNat, 7, 256]
def k0_off406 (v121 : BitVec 32) : Fin 3 → Nat :=
  let c1_i32_44 : BitVec 32 := 1#32
  let v123 : BitVec 32 := Scalar.andi v121 c1_i32_44
  let v332 : Index := Scalar.indexCast v123
  let c8_111 : Index := 8#32
  let c256_112 : Index := 256#32
  ![v332.toNat, 8, 256]
def k0_off407 (v121 : BitVec 32) : Fin 3 → Nat :=
  let c1_i32_44 : BitVec 32 := 1#32
  let v123 : BitVec 32 := Scalar.andi v121 c1_i32_44
  let v338 : Index := Scalar.indexCast v123
  let c9_113 : Index := 9#32
  let c256_114 : Index := 256#32
  ![v338.toNat, 9, 256]
def k0_off408 (v121 : BitVec 32) : Fin 3 → Nat :=
  let c1_i32_44 : BitVec 32 := 1#32
  let v123 : BitVec 32 := Scalar.andi v121 c1_i32_44
  let v344 : Index := Scalar.indexCast v123
  let c10_115 : Index := 10#32
  let c256_116 : Index := 256#32
  ![v344.toNat, 10, 256]
def k0_off409 (v121 : BitVec 32) : Fin 3 → Nat :=
  let c1_i32_44 : BitVec 32 := 1#32
  let v123 : BitVec 32 := Scalar.andi v121 c1_i32_44
  let v350 : Index := Scalar.indexCast v123
  let c11_117 : Index := 11#32
  let c256_118 : Index := 256#32
  ![v350.toNat, 11, 256]
def k0_off410 (v121 : BitVec 32) : Fin 3 → Nat :=
  let c1_i32_44 : BitVec 32 := 1#32
  let v123 : BitVec 32 := Scalar.andi v121 c1_i32_44
  let v356 : Index := Scalar.indexCast v123
  let c12_119 : Index := 12#32
  let c256_120 : Index := 256#32
  ![v356.toNat, 12, 256]
def k0_off411 (v121 : BitVec 32) : Fin 3 → Nat :=
  let c1_i32_44 : BitVec 32 := 1#32
  let v123 : BitVec 32 := Scalar.andi v121 c1_i32_44
  let v362 : Index := Scalar.indexCast v123
  let c13_121 : Index := 13#32
  let c256_122 : Index := 256#32
  ![v362.toNat, 13, 256]
def k0_off412 (v121 : BitVec 32) : Fin 3 → Nat :=
  let c1_i32_44 : BitVec 32 := 1#32
  let v123 : BitVec 32 := Scalar.andi v121 c1_i32_44
  let v368 : Index := Scalar.indexCast v123
  let c14_123 : Index := 14#32
  let c256_124 : Index := 256#32
  ![v368.toNat, 14, 256]
def k0_off413 (v121 : BitVec 32) : Fin 3 → Nat :=
  let c1_i32_44 : BitVec 32 := 1#32
  let v123 : BitVec 32 := Scalar.andi v121 c1_i32_44
  let v374 : Index := Scalar.indexCast v123
  let c15_125 : Index := 15#32
  let c256_126 : Index := 256#32
  ![v374.toNat, 15, 256]
def k0_off414 (v121 : BitVec 32) : Fin 3 → Nat :=
  let c1_i32_44 : BitVec 32 := 1#32
  let v123 : BitVec 32 := Scalar.andi v121 c1_i32_44
  let v385 : Index := Scalar.indexCast v123
  let c0_130 : Index := 0#32
  let c512_131 : Index := 512#32
  ![v385.toNat, 0, 512]
def k0_off415 (v121 : BitVec 32) : Fin 3 → Nat :=
  let c1_i32_44 : BitVec 32 := 1#32
  let v123 : BitVec 32 := Scalar.andi v121 c1_i32_44
  let v406 : Index := Scalar.indexCast v123
  let c0_137 : Index := 0#32
  let c512_138 : Index := 512#32
  ![v406.toNat, 0, 512]
def k0_off416 (v121 : BitVec 32) : Fin 3 → Nat :=
  let c1_i32_44 : BitVec 32 := 1#32
  let v123 : BitVec 32 := Scalar.andi v121 c1_i32_44
  let v412 : Index := Scalar.indexCast v123
  let c1_139 : Index := 1#32
  let c512_140 : Index := 512#32
  ![v412.toNat, 1, 512]
def k0_off417 (v121 : BitVec 32) : Fin 3 → Nat :=
  let c1_i32_44 : BitVec 32 := 1#32
  let v123 : BitVec 32 := Scalar.andi v121 c1_i32_44
  let v418 : Index := Scalar.indexCast v123
  let c2_141 : Index := 2#32
  let c512_142 : Index := 512#32
  ![v418.toNat, 2, 512]
def k0_off418 (v121 : BitVec 32) : Fin 3 → Nat :=
  let c1_i32_44 : BitVec 32 := 1#32
  let v123 : BitVec 32 := Scalar.andi v121 c1_i32_44
  let v424 : Index := Scalar.indexCast v123
  let c3_143 : Index := 3#32
  let c512_144 : Index := 512#32
  ![v424.toNat, 3, 512]
def k0_off419 (v121 : BitVec 32) : Fin 3 → Nat :=
  let c1_i32_44 : BitVec 32 := 1#32
  let v123 : BitVec 32 := Scalar.andi v121 c1_i32_44
  let v430 : Index := Scalar.indexCast v123
  let c4_145 : Index := 4#32
  let c512_146 : Index := 512#32
  ![v430.toNat, 4, 512]
def k0_off420 (v121 : BitVec 32) : Fin 3 → Nat :=
  let c1_i32_44 : BitVec 32 := 1#32
  let v123 : BitVec 32 := Scalar.andi v121 c1_i32_44
  let v436 : Index := Scalar.indexCast v123
  let c5_147 : Index := 5#32
  let c512_148 : Index := 512#32
  ![v436.toNat, 5, 512]
def k0_off421 (v121 : BitVec 32) : Fin 3 → Nat :=
  let c1_i32_44 : BitVec 32 := 1#32
  let v123 : BitVec 32 := Scalar.andi v121 c1_i32_44
  let v442 : Index := Scalar.indexCast v123
  let c6_149 : Index := 6#32
  let c512_150 : Index := 512#32
  ![v442.toNat, 6, 512]
def k0_off422 (v121 : BitVec 32) : Fin 3 → Nat :=
  let c1_i32_44 : BitVec 32 := 1#32
  let v123 : BitVec 32 := Scalar.andi v121 c1_i32_44
  let v448 : Index := Scalar.indexCast v123
  let c7_151 : Index := 7#32
  let c512_152 : Index := 512#32
  ![v448.toNat, 7, 512]
def k0_off423 (v121 : BitVec 32) : Fin 3 → Nat :=
  let c1_i32_44 : BitVec 32 := 1#32
  let v123 : BitVec 32 := Scalar.andi v121 c1_i32_44
  let v454 : Index := Scalar.indexCast v123
  let c8_153 : Index := 8#32
  let c512_154 : Index := 512#32
  ![v454.toNat, 8, 512]
def k0_off424 (v121 : BitVec 32) : Fin 3 → Nat :=
  let c1_i32_44 : BitVec 32 := 1#32
  let v123 : BitVec 32 := Scalar.andi v121 c1_i32_44
  let v460 : Index := Scalar.indexCast v123
  let c9_155 : Index := 9#32
  let c512_156 : Index := 512#32
  ![v460.toNat, 9, 512]
def k0_off425 (v121 : BitVec 32) : Fin 3 → Nat :=
  let c1_i32_44 : BitVec 32 := 1#32
  let v123 : BitVec 32 := Scalar.andi v121 c1_i32_44
  let v466 : Index := Scalar.indexCast v123
  let c10_157 : Index := 10#32
  let c512_158 : Index := 512#32
  ![v466.toNat, 10, 512]
def k0_off426 (v121 : BitVec 32) : Fin 3 → Nat :=
  let c1_i32_44 : BitVec 32 := 1#32
  let v123 : BitVec 32 := Scalar.andi v121 c1_i32_44
  let v472 : Index := Scalar.indexCast v123
  let c11_159 : Index := 11#32
  let c512_160 : Index := 512#32
  ![v472.toNat, 11, 512]
def k0_off427 (v121 : BitVec 32) : Fin 3 → Nat :=
  let c1_i32_44 : BitVec 32 := 1#32
  let v123 : BitVec 32 := Scalar.andi v121 c1_i32_44
  let v478 : Index := Scalar.indexCast v123
  let c12_161 : Index := 12#32
  let c512_162 : Index := 512#32
  ![v478.toNat, 12, 512]
def k0_off428 (v121 : BitVec 32) : Fin 3 → Nat :=
  let c1_i32_44 : BitVec 32 := 1#32
  let v123 : BitVec 32 := Scalar.andi v121 c1_i32_44
  let v484 : Index := Scalar.indexCast v123
  let c13_163 : Index := 13#32
  let c512_164 : Index := 512#32
  ![v484.toNat, 13, 512]
def k0_off429 (v121 : BitVec 32) : Fin 3 → Nat :=
  let c1_i32_44 : BitVec 32 := 1#32
  let v123 : BitVec 32 := Scalar.andi v121 c1_i32_44
  let v490 : Index := Scalar.indexCast v123
  let c14_165 : Index := 14#32
  let c512_166 : Index := 512#32
  ![v490.toNat, 14, 512]
def k0_off430 (v121 : BitVec 32) : Fin 3 → Nat :=
  let c1_i32_44 : BitVec 32 := 1#32
  let v123 : BitVec 32 := Scalar.andi v121 c1_i32_44
  let v496 : Index := Scalar.indexCast v123
  let c15_167 : Index := 15#32
  let c512_168 : Index := 512#32
  ![v496.toNat, 15, 512]
def k0_off431 (v121 : BitVec 32) : Fin 3 → Nat :=
  let c1_i32_44 : BitVec 32 := 1#32
  let v123 : BitVec 32 := Scalar.andi v121 c1_i32_44
  let v507 : Index := Scalar.indexCast v123
  let c0_172 : Index := 0#32
  let c768_173 : Index := 768#32
  ![v507.toNat, 0, 768]
def k0_off432 (v121 : BitVec 32) : Fin 3 → Nat :=
  let c1_i32_44 : BitVec 32 := 1#32
  let v123 : BitVec 32 := Scalar.andi v121 c1_i32_44
  let v528 : Index := Scalar.indexCast v123
  let c0_179 : Index := 0#32
  let c768_180 : Index := 768#32
  ![v528.toNat, 0, 768]
def k0_off433 (v121 : BitVec 32) : Fin 3 → Nat :=
  let c1_i32_44 : BitVec 32 := 1#32
  let v123 : BitVec 32 := Scalar.andi v121 c1_i32_44
  let v534 : Index := Scalar.indexCast v123
  let c1_181 : Index := 1#32
  let c768_182 : Index := 768#32
  ![v534.toNat, 1, 768]
def k0_off434 (v121 : BitVec 32) : Fin 3 → Nat :=
  let c1_i32_44 : BitVec 32 := 1#32
  let v123 : BitVec 32 := Scalar.andi v121 c1_i32_44
  let v540 : Index := Scalar.indexCast v123
  let c2_183 : Index := 2#32
  let c768_184 : Index := 768#32
  ![v540.toNat, 2, 768]
def k0_off435 (v121 : BitVec 32) : Fin 3 → Nat :=
  let c1_i32_44 : BitVec 32 := 1#32
  let v123 : BitVec 32 := Scalar.andi v121 c1_i32_44
  let v546 : Index := Scalar.indexCast v123
  let c3_185 : Index := 3#32
  let c768_186 : Index := 768#32
  ![v546.toNat, 3, 768]
def k0_off436 (v121 : BitVec 32) : Fin 3 → Nat :=
  let c1_i32_44 : BitVec 32 := 1#32
  let v123 : BitVec 32 := Scalar.andi v121 c1_i32_44
  let v552 : Index := Scalar.indexCast v123
  let c4_187 : Index := 4#32
  let c768_188 : Index := 768#32
  ![v552.toNat, 4, 768]
def k0_off437 (v121 : BitVec 32) : Fin 3 → Nat :=
  let c1_i32_44 : BitVec 32 := 1#32
  let v123 : BitVec 32 := Scalar.andi v121 c1_i32_44
  let v558 : Index := Scalar.indexCast v123
  let c5_189 : Index := 5#32
  let c768_190 : Index := 768#32
  ![v558.toNat, 5, 768]
def k0_off438 (v121 : BitVec 32) : Fin 3 → Nat :=
  let c1_i32_44 : BitVec 32 := 1#32
  let v123 : BitVec 32 := Scalar.andi v121 c1_i32_44
  let v564 : Index := Scalar.indexCast v123
  let c6_191 : Index := 6#32
  let c768_192 : Index := 768#32
  ![v564.toNat, 6, 768]
def k0_off439 (v121 : BitVec 32) : Fin 3 → Nat :=
  let c1_i32_44 : BitVec 32 := 1#32
  let v123 : BitVec 32 := Scalar.andi v121 c1_i32_44
  let v570 : Index := Scalar.indexCast v123
  let c7_193 : Index := 7#32
  let c768_194 : Index := 768#32
  ![v570.toNat, 7, 768]
def k0_off440 (v121 : BitVec 32) : Fin 3 → Nat :=
  let c1_i32_44 : BitVec 32 := 1#32
  let v123 : BitVec 32 := Scalar.andi v121 c1_i32_44
  let v576 : Index := Scalar.indexCast v123
  let c8_195 : Index := 8#32
  let c768_196 : Index := 768#32
  ![v576.toNat, 8, 768]
def k0_off441 (v121 : BitVec 32) : Fin 3 → Nat :=
  let c1_i32_44 : BitVec 32 := 1#32
  let v123 : BitVec 32 := Scalar.andi v121 c1_i32_44
  let v582 : Index := Scalar.indexCast v123
  let c9_197 : Index := 9#32
  let c768_198 : Index := 768#32
  ![v582.toNat, 9, 768]
def k0_off442 (v121 : BitVec 32) : Fin 3 → Nat :=
  let c1_i32_44 : BitVec 32 := 1#32
  let v123 : BitVec 32 := Scalar.andi v121 c1_i32_44
  let v588 : Index := Scalar.indexCast v123
  let c10_199 : Index := 10#32
  let c768_200 : Index := 768#32
  ![v588.toNat, 10, 768]
def k0_off443 (v121 : BitVec 32) : Fin 3 → Nat :=
  let c1_i32_44 : BitVec 32 := 1#32
  let v123 : BitVec 32 := Scalar.andi v121 c1_i32_44
  let v594 : Index := Scalar.indexCast v123
  let c11_201 : Index := 11#32
  let c768_202 : Index := 768#32
  ![v594.toNat, 11, 768]
def k0_off444 (v121 : BitVec 32) : Fin 3 → Nat :=
  let c1_i32_44 : BitVec 32 := 1#32
  let v123 : BitVec 32 := Scalar.andi v121 c1_i32_44
  let v600 : Index := Scalar.indexCast v123
  let c12_203 : Index := 12#32
  let c768_204 : Index := 768#32
  ![v600.toNat, 12, 768]
def k0_off445 (v121 : BitVec 32) : Fin 3 → Nat :=
  let c1_i32_44 : BitVec 32 := 1#32
  let v123 : BitVec 32 := Scalar.andi v121 c1_i32_44
  let v606 : Index := Scalar.indexCast v123
  let c13_205 : Index := 13#32
  let c768_206 : Index := 768#32
  ![v606.toNat, 13, 768]
def k0_off446 (v121 : BitVec 32) : Fin 3 → Nat :=
  let c1_i32_44 : BitVec 32 := 1#32
  let v123 : BitVec 32 := Scalar.andi v121 c1_i32_44
  let v612 : Index := Scalar.indexCast v123
  let c14_207 : Index := 14#32
  let c768_208 : Index := 768#32
  ![v612.toNat, 14, 768]
def k0_off447 (v121 : BitVec 32) : Fin 3 → Nat :=
  let c1_i32_44 : BitVec 32 := 1#32
  let v123 : BitVec 32 := Scalar.andi v121 c1_i32_44
  let v618 : Index := Scalar.indexCast v123
  let c15_209 : Index := 15#32
  let c768_210 : Index := 768#32
  ![v618.toNat, 15, 768]
def k0_off448 (v121 : BitVec 32) : Fin 3 → Nat :=
  let c1_i32_44 : BitVec 32 := 1#32
  let v123 : BitVec 32 := Scalar.andi v121 c1_i32_44
  let v629 : Index := Scalar.indexCast v123
  let c0_214 : Index := 0#32
  let c1024_215 : Index := 1024#32
  ![v629.toNat, 0, 1024]
def k0_off449 (v121 : BitVec 32) : Fin 3 → Nat :=
  let c1_i32_44 : BitVec 32 := 1#32
  let v123 : BitVec 32 := Scalar.andi v121 c1_i32_44
  let v650 : Index := Scalar.indexCast v123
  let c0_221 : Index := 0#32
  let c1024_222 : Index := 1024#32
  ![v650.toNat, 0, 1024]
def k0_off450 (v121 : BitVec 32) : Fin 3 → Nat :=
  let c1_i32_44 : BitVec 32 := 1#32
  let v123 : BitVec 32 := Scalar.andi v121 c1_i32_44
  let v656 : Index := Scalar.indexCast v123
  let c1_223 : Index := 1#32
  let c1024_224 : Index := 1024#32
  ![v656.toNat, 1, 1024]
def k0_off451 (v121 : BitVec 32) : Fin 3 → Nat :=
  let c1_i32_44 : BitVec 32 := 1#32
  let v123 : BitVec 32 := Scalar.andi v121 c1_i32_44
  let v662 : Index := Scalar.indexCast v123
  let c2_225 : Index := 2#32
  let c1024_226 : Index := 1024#32
  ![v662.toNat, 2, 1024]
def k0_off452 (v121 : BitVec 32) : Fin 3 → Nat :=
  let c1_i32_44 : BitVec 32 := 1#32
  let v123 : BitVec 32 := Scalar.andi v121 c1_i32_44
  let v668 : Index := Scalar.indexCast v123
  let c3_227 : Index := 3#32
  let c1024_228 : Index := 1024#32
  ![v668.toNat, 3, 1024]
def k0_off453 (v121 : BitVec 32) : Fin 3 → Nat :=
  let c1_i32_44 : BitVec 32 := 1#32
  let v123 : BitVec 32 := Scalar.andi v121 c1_i32_44
  let v674 : Index := Scalar.indexCast v123
  let c4_229 : Index := 4#32
  let c1024_230 : Index := 1024#32
  ![v674.toNat, 4, 1024]
def k0_off454 (v121 : BitVec 32) : Fin 3 → Nat :=
  let c1_i32_44 : BitVec 32 := 1#32
  let v123 : BitVec 32 := Scalar.andi v121 c1_i32_44
  let v680 : Index := Scalar.indexCast v123
  let c5_231 : Index := 5#32
  let c1024_232 : Index := 1024#32
  ![v680.toNat, 5, 1024]
def k0_off455 (v121 : BitVec 32) : Fin 3 → Nat :=
  let c1_i32_44 : BitVec 32 := 1#32
  let v123 : BitVec 32 := Scalar.andi v121 c1_i32_44
  let v686 : Index := Scalar.indexCast v123
  let c6_233 : Index := 6#32
  let c1024_234 : Index := 1024#32
  ![v686.toNat, 6, 1024]
def k0_off456 (v121 : BitVec 32) : Fin 3 → Nat :=
  let c1_i32_44 : BitVec 32 := 1#32
  let v123 : BitVec 32 := Scalar.andi v121 c1_i32_44
  let v692 : Index := Scalar.indexCast v123
  let c7_235 : Index := 7#32
  let c1024_236 : Index := 1024#32
  ![v692.toNat, 7, 1024]
def k0_off457 (v121 : BitVec 32) : Fin 3 → Nat :=
  let c1_i32_44 : BitVec 32 := 1#32
  let v123 : BitVec 32 := Scalar.andi v121 c1_i32_44
  let v698 : Index := Scalar.indexCast v123
  let c8_237 : Index := 8#32
  let c1024_238 : Index := 1024#32
  ![v698.toNat, 8, 1024]
def k0_off458 (v121 : BitVec 32) : Fin 3 → Nat :=
  let c1_i32_44 : BitVec 32 := 1#32
  let v123 : BitVec 32 := Scalar.andi v121 c1_i32_44
  let v704 : Index := Scalar.indexCast v123
  let c9_239 : Index := 9#32
  let c1024_240 : Index := 1024#32
  ![v704.toNat, 9, 1024]
def k0_off459 (v121 : BitVec 32) : Fin 3 → Nat :=
  let c1_i32_44 : BitVec 32 := 1#32
  let v123 : BitVec 32 := Scalar.andi v121 c1_i32_44
  let v710 : Index := Scalar.indexCast v123
  let c10_241 : Index := 10#32
  let c1024_242 : Index := 1024#32
  ![v710.toNat, 10, 1024]
def k0_off460 (v121 : BitVec 32) : Fin 3 → Nat :=
  let c1_i32_44 : BitVec 32 := 1#32
  let v123 : BitVec 32 := Scalar.andi v121 c1_i32_44
  let v716 : Index := Scalar.indexCast v123
  let c11_243 : Index := 11#32
  let c1024_244 : Index := 1024#32
  ![v716.toNat, 11, 1024]
def k0_off461 (v121 : BitVec 32) : Fin 3 → Nat :=
  let c1_i32_44 : BitVec 32 := 1#32
  let v123 : BitVec 32 := Scalar.andi v121 c1_i32_44
  let v722 : Index := Scalar.indexCast v123
  let c12_245 : Index := 12#32
  let c1024_246 : Index := 1024#32
  ![v722.toNat, 12, 1024]
def k0_off462 (v121 : BitVec 32) : Fin 3 → Nat :=
  let c1_i32_44 : BitVec 32 := 1#32
  let v123 : BitVec 32 := Scalar.andi v121 c1_i32_44
  let v728 : Index := Scalar.indexCast v123
  let c13_247 : Index := 13#32
  let c1024_248 : Index := 1024#32
  ![v728.toNat, 13, 1024]
def k0_off463 (v121 : BitVec 32) : Fin 3 → Nat :=
  let c1_i32_44 : BitVec 32 := 1#32
  let v123 : BitVec 32 := Scalar.andi v121 c1_i32_44
  let v734 : Index := Scalar.indexCast v123
  let c14_249 : Index := 14#32
  let c1024_250 : Index := 1024#32
  ![v734.toNat, 14, 1024]
def k0_off464 (v121 : BitVec 32) : Fin 3 → Nat :=
  let c1_i32_44 : BitVec 32 := 1#32
  let v123 : BitVec 32 := Scalar.andi v121 c1_i32_44
  let v740 : Index := Scalar.indexCast v123
  let c15_251 : Index := 15#32
  let c1024_252 : Index := 1024#32
  ![v740.toNat, 15, 1024]
def k0_off465 (v121 : BitVec 32) : Fin 3 → Nat :=
  let c1_i32_44 : BitVec 32 := 1#32
  let v123 : BitVec 32 := Scalar.andi v121 c1_i32_44
  let v751 : Index := Scalar.indexCast v123
  let c0_256 : Index := 0#32
  let c1280_257 : Index := 1280#32
  ![v751.toNat, 0, 1280]
def k0_off466 (v121 : BitVec 32) : Fin 3 → Nat :=
  let c1_i32_44 : BitVec 32 := 1#32
  let v123 : BitVec 32 := Scalar.andi v121 c1_i32_44
  let v772 : Index := Scalar.indexCast v123
  let c0_263 : Index := 0#32
  let c1280_264 : Index := 1280#32
  ![v772.toNat, 0, 1280]
def k0_off467 (v121 : BitVec 32) : Fin 3 → Nat :=
  let c1_i32_44 : BitVec 32 := 1#32
  let v123 : BitVec 32 := Scalar.andi v121 c1_i32_44
  let v778 : Index := Scalar.indexCast v123
  let c1_265 : Index := 1#32
  let c1280_266 : Index := 1280#32
  ![v778.toNat, 1, 1280]
def k0_off468 (v121 : BitVec 32) : Fin 3 → Nat :=
  let c1_i32_44 : BitVec 32 := 1#32
  let v123 : BitVec 32 := Scalar.andi v121 c1_i32_44
  let v784 : Index := Scalar.indexCast v123
  let c2_267 : Index := 2#32
  let c1280_268 : Index := 1280#32
  ![v784.toNat, 2, 1280]
def k0_off469 (v121 : BitVec 32) : Fin 3 → Nat :=
  let c1_i32_44 : BitVec 32 := 1#32
  let v123 : BitVec 32 := Scalar.andi v121 c1_i32_44
  let v790 : Index := Scalar.indexCast v123
  let c3_269 : Index := 3#32
  let c1280_270 : Index := 1280#32
  ![v790.toNat, 3, 1280]
def k0_off470 (v121 : BitVec 32) : Fin 3 → Nat :=
  let c1_i32_44 : BitVec 32 := 1#32
  let v123 : BitVec 32 := Scalar.andi v121 c1_i32_44
  let v796 : Index := Scalar.indexCast v123
  let c4_271 : Index := 4#32
  let c1280_272 : Index := 1280#32
  ![v796.toNat, 4, 1280]
def k0_off471 (v121 : BitVec 32) : Fin 3 → Nat :=
  let c1_i32_44 : BitVec 32 := 1#32
  let v123 : BitVec 32 := Scalar.andi v121 c1_i32_44
  let v802 : Index := Scalar.indexCast v123
  let c5_273 : Index := 5#32
  let c1280_274 : Index := 1280#32
  ![v802.toNat, 5, 1280]
def k0_off472 (v121 : BitVec 32) : Fin 3 → Nat :=
  let c1_i32_44 : BitVec 32 := 1#32
  let v123 : BitVec 32 := Scalar.andi v121 c1_i32_44
  let v808 : Index := Scalar.indexCast v123
  let c6_275 : Index := 6#32
  let c1280_276 : Index := 1280#32
  ![v808.toNat, 6, 1280]
def k0_off473 (v121 : BitVec 32) : Fin 3 → Nat :=
  let c1_i32_44 : BitVec 32 := 1#32
  let v123 : BitVec 32 := Scalar.andi v121 c1_i32_44
  let v814 : Index := Scalar.indexCast v123
  let c7_277 : Index := 7#32
  let c1280_278 : Index := 1280#32
  ![v814.toNat, 7, 1280]
def k0_off474 (v121 : BitVec 32) : Fin 3 → Nat :=
  let c1_i32_44 : BitVec 32 := 1#32
  let v123 : BitVec 32 := Scalar.andi v121 c1_i32_44
  let v820 : Index := Scalar.indexCast v123
  let c8_279 : Index := 8#32
  let c1280_280 : Index := 1280#32
  ![v820.toNat, 8, 1280]
def k0_off475 (v121 : BitVec 32) : Fin 3 → Nat :=
  let c1_i32_44 : BitVec 32 := 1#32
  let v123 : BitVec 32 := Scalar.andi v121 c1_i32_44
  let v826 : Index := Scalar.indexCast v123
  let c9_281 : Index := 9#32
  let c1280_282 : Index := 1280#32
  ![v826.toNat, 9, 1280]
def k0_off476 (v121 : BitVec 32) : Fin 3 → Nat :=
  let c1_i32_44 : BitVec 32 := 1#32
  let v123 : BitVec 32 := Scalar.andi v121 c1_i32_44
  let v832 : Index := Scalar.indexCast v123
  let c10_283 : Index := 10#32
  let c1280_284 : Index := 1280#32
  ![v832.toNat, 10, 1280]
def k0_off477 (v121 : BitVec 32) : Fin 3 → Nat :=
  let c1_i32_44 : BitVec 32 := 1#32
  let v123 : BitVec 32 := Scalar.andi v121 c1_i32_44
  let v838 : Index := Scalar.indexCast v123
  let c11_285 : Index := 11#32
  let c1280_286 : Index := 1280#32
  ![v838.toNat, 11, 1280]
def k0_off478 (v121 : BitVec 32) : Fin 3 → Nat :=
  let c1_i32_44 : BitVec 32 := 1#32
  let v123 : BitVec 32 := Scalar.andi v121 c1_i32_44
  let v844 : Index := Scalar.indexCast v123
  let c12_287 : Index := 12#32
  let c1280_288 : Index := 1280#32
  ![v844.toNat, 12, 1280]
def k0_off479 (v121 : BitVec 32) : Fin 3 → Nat :=
  let c1_i32_44 : BitVec 32 := 1#32
  let v123 : BitVec 32 := Scalar.andi v121 c1_i32_44
  let v850 : Index := Scalar.indexCast v123
  let c13_289 : Index := 13#32
  let c1280_290 : Index := 1280#32
  ![v850.toNat, 13, 1280]
def k0_off480 (v121 : BitVec 32) : Fin 3 → Nat :=
  let c1_i32_44 : BitVec 32 := 1#32
  let v123 : BitVec 32 := Scalar.andi v121 c1_i32_44
  let v856 : Index := Scalar.indexCast v123
  let c14_291 : Index := 14#32
  let c1280_292 : Index := 1280#32
  ![v856.toNat, 14, 1280]
def k0_off481 (v121 : BitVec 32) : Fin 3 → Nat :=
  let c1_i32_44 : BitVec 32 := 1#32
  let v123 : BitVec 32 := Scalar.andi v121 c1_i32_44
  let v862 : Index := Scalar.indexCast v123
  let c15_293 : Index := 15#32
  let c1280_294 : Index := 1280#32
  ![v862.toNat, 15, 1280]
def k0_off482 (v121 : BitVec 32) : Fin 3 → Nat :=
  let c1_i32_44 : BitVec 32 := 1#32
  let v123 : BitVec 32 := Scalar.andi v121 c1_i32_44
  let v873 : Index := Scalar.indexCast v123
  let c0_298 : Index := 0#32
  let c1536 : Index := 1536#32
  ![v873.toNat, 0, 1536]
def k0_off483 (v121 : BitVec 32) : Fin 3 → Nat :=
  let c1_i32_44 : BitVec 32 := 1#32
  let v123 : BitVec 32 := Scalar.andi v121 c1_i32_44
  let v894 : Index := Scalar.indexCast v123
  let c0_304 : Index := 0#32
  let c1536_305 : Index := 1536#32
  ![v894.toNat, 0, 1536]
def k0_off484 (v121 : BitVec 32) : Fin 3 → Nat :=
  let c1_i32_44 : BitVec 32 := 1#32
  let v123 : BitVec 32 := Scalar.andi v121 c1_i32_44
  let v900 : Index := Scalar.indexCast v123
  let c1_306 : Index := 1#32
  let c1536_307 : Index := 1536#32
  ![v900.toNat, 1, 1536]
def k0_off485 (v121 : BitVec 32) : Fin 3 → Nat :=
  let c1_i32_44 : BitVec 32 := 1#32
  let v123 : BitVec 32 := Scalar.andi v121 c1_i32_44
  let v906 : Index := Scalar.indexCast v123
  let c2_308 : Index := 2#32
  let c1536_309 : Index := 1536#32
  ![v906.toNat, 2, 1536]
def k0_off486 (v121 : BitVec 32) : Fin 3 → Nat :=
  let c1_i32_44 : BitVec 32 := 1#32
  let v123 : BitVec 32 := Scalar.andi v121 c1_i32_44
  let v912 : Index := Scalar.indexCast v123
  let c3_310 : Index := 3#32
  let c1536_311 : Index := 1536#32
  ![v912.toNat, 3, 1536]
def k0_off487 (v121 : BitVec 32) : Fin 3 → Nat :=
  let c1_i32_44 : BitVec 32 := 1#32
  let v123 : BitVec 32 := Scalar.andi v121 c1_i32_44
  let v918 : Index := Scalar.indexCast v123
  let c4_312 : Index := 4#32
  let c1536_313 : Index := 1536#32
  ![v918.toNat, 4, 1536]
def k0_off488 (v121 : BitVec 32) : Fin 3 → Nat :=
  let c1_i32_44 : BitVec 32 := 1#32
  let v123 : BitVec 32 := Scalar.andi v121 c1_i32_44
  let v924 : Index := Scalar.indexCast v123
  let c5_314 : Index := 5#32
  let c1536_315 : Index := 1536#32
  ![v924.toNat, 5, 1536]
def k0_off489 (v121 : BitVec 32) : Fin 3 → Nat :=
  let c1_i32_44 : BitVec 32 := 1#32
  let v123 : BitVec 32 := Scalar.andi v121 c1_i32_44
  let v930 : Index := Scalar.indexCast v123
  let c6_316 : Index := 6#32
  let c1536_317 : Index := 1536#32
  ![v930.toNat, 6, 1536]
def k0_off490 (v121 : BitVec 32) : Fin 3 → Nat :=
  let c1_i32_44 : BitVec 32 := 1#32
  let v123 : BitVec 32 := Scalar.andi v121 c1_i32_44
  let v936 : Index := Scalar.indexCast v123
  let c7_318 : Index := 7#32
  let c1536_319 : Index := 1536#32
  ![v936.toNat, 7, 1536]
def k0_off491 (v121 : BitVec 32) : Fin 3 → Nat :=
  let c1_i32_44 : BitVec 32 := 1#32
  let v123 : BitVec 32 := Scalar.andi v121 c1_i32_44
  let v942 : Index := Scalar.indexCast v123
  let c8_320 : Index := 8#32
  let c1536_321 : Index := 1536#32
  ![v942.toNat, 8, 1536]
def k0_off492 (v121 : BitVec 32) : Fin 3 → Nat :=
  let c1_i32_44 : BitVec 32 := 1#32
  let v123 : BitVec 32 := Scalar.andi v121 c1_i32_44
  let v948 : Index := Scalar.indexCast v123
  let c9_322 : Index := 9#32
  let c1536_323 : Index := 1536#32
  ![v948.toNat, 9, 1536]
def k0_off493 (v121 : BitVec 32) : Fin 3 → Nat :=
  let c1_i32_44 : BitVec 32 := 1#32
  let v123 : BitVec 32 := Scalar.andi v121 c1_i32_44
  let v954 : Index := Scalar.indexCast v123
  let c10_324 : Index := 10#32
  let c1536_325 : Index := 1536#32
  ![v954.toNat, 10, 1536]
def k0_off494 (v121 : BitVec 32) : Fin 3 → Nat :=
  let c1_i32_44 : BitVec 32 := 1#32
  let v123 : BitVec 32 := Scalar.andi v121 c1_i32_44
  let v960 : Index := Scalar.indexCast v123
  let c11_326 : Index := 11#32
  let c1536_327 : Index := 1536#32
  ![v960.toNat, 11, 1536]
def k0_off495 (v121 : BitVec 32) : Fin 3 → Nat :=
  let c1_i32_44 : BitVec 32 := 1#32
  let v123 : BitVec 32 := Scalar.andi v121 c1_i32_44
  let v966 : Index := Scalar.indexCast v123
  let c12_328 : Index := 12#32
  let c1536_329 : Index := 1536#32
  ![v966.toNat, 12, 1536]
def k0_off496 (v121 : BitVec 32) : Fin 3 → Nat :=
  let c1_i32_44 : BitVec 32 := 1#32
  let v123 : BitVec 32 := Scalar.andi v121 c1_i32_44
  let v972 : Index := Scalar.indexCast v123
  let c13_330 : Index := 13#32
  let c1536_331 : Index := 1536#32
  ![v972.toNat, 13, 1536]
def k0_off497 (v121 : BitVec 32) : Fin 3 → Nat :=
  let c1_i32_44 : BitVec 32 := 1#32
  let v123 : BitVec 32 := Scalar.andi v121 c1_i32_44
  let v978 : Index := Scalar.indexCast v123
  let c14_332 : Index := 14#32
  let c1536_333 : Index := 1536#32
  ![v978.toNat, 14, 1536]
def k0_off498 (v121 : BitVec 32) : Fin 3 → Nat :=
  let c1_i32_44 : BitVec 32 := 1#32
  let v123 : BitVec 32 := Scalar.andi v121 c1_i32_44
  let v984 : Index := Scalar.indexCast v123
  let c15_334 : Index := 15#32
  let c1536_335 : Index := 1536#32
  ![v984.toNat, 15, 1536]
def k0_off499 (v121 : BitVec 32) : Fin 3 → Nat :=
  let c1_i32_44 : BitVec 32 := 1#32
  let v123 : BitVec 32 := Scalar.andi v121 c1_i32_44
  let v995 : Index := Scalar.indexCast v123
  let c0_339 : Index := 0#32
  let c1792 : Index := 1792#32
  ![v995.toNat, 0, 1792]
def k0_off500 (v121 : BitVec 32) : Fin 3 → Nat :=
  let c1_i32_44 : BitVec 32 := 1#32
  let v123 : BitVec 32 := Scalar.andi v121 c1_i32_44
  let v1016 : Index := Scalar.indexCast v123
  let c0_345 : Index := 0#32
  let c1792_346 : Index := 1792#32
  ![v1016.toNat, 0, 1792]
def k0_off501 (v121 : BitVec 32) : Fin 3 → Nat :=
  let c1_i32_44 : BitVec 32 := 1#32
  let v123 : BitVec 32 := Scalar.andi v121 c1_i32_44
  let v1022 : Index := Scalar.indexCast v123
  let c1_347 : Index := 1#32
  let c1792_348 : Index := 1792#32
  ![v1022.toNat, 1, 1792]
def k0_off502 (v121 : BitVec 32) : Fin 3 → Nat :=
  let c1_i32_44 : BitVec 32 := 1#32
  let v123 : BitVec 32 := Scalar.andi v121 c1_i32_44
  let v1028 : Index := Scalar.indexCast v123
  let c2_349 : Index := 2#32
  let c1792_350 : Index := 1792#32
  ![v1028.toNat, 2, 1792]
def k0_off503 (v121 : BitVec 32) : Fin 3 → Nat :=
  let c1_i32_44 : BitVec 32 := 1#32
  let v123 : BitVec 32 := Scalar.andi v121 c1_i32_44
  let v1034 : Index := Scalar.indexCast v123
  let c3_351 : Index := 3#32
  let c1792_352 : Index := 1792#32
  ![v1034.toNat, 3, 1792]
def k0_off504 (v121 : BitVec 32) : Fin 3 → Nat :=
  let c1_i32_44 : BitVec 32 := 1#32
  let v123 : BitVec 32 := Scalar.andi v121 c1_i32_44
  let v1040 : Index := Scalar.indexCast v123
  let c4_353 : Index := 4#32
  let c1792_354 : Index := 1792#32
  ![v1040.toNat, 4, 1792]
def k0_off505 (v121 : BitVec 32) : Fin 3 → Nat :=
  let c1_i32_44 : BitVec 32 := 1#32
  let v123 : BitVec 32 := Scalar.andi v121 c1_i32_44
  let v1046 : Index := Scalar.indexCast v123
  let c5_355 : Index := 5#32
  let c1792_356 : Index := 1792#32
  ![v1046.toNat, 5, 1792]
def k0_off506 (v121 : BitVec 32) : Fin 3 → Nat :=
  let c1_i32_44 : BitVec 32 := 1#32
  let v123 : BitVec 32 := Scalar.andi v121 c1_i32_44
  let v1052 : Index := Scalar.indexCast v123
  let c6_357 : Index := 6#32
  let c1792_358 : Index := 1792#32
  ![v1052.toNat, 6, 1792]
def k0_off507 (v121 : BitVec 32) : Fin 3 → Nat :=
  let c1_i32_44 : BitVec 32 := 1#32
  let v123 : BitVec 32 := Scalar.andi v121 c1_i32_44
  let v1058 : Index := Scalar.indexCast v123
  let c7_359 : Index := 7#32
  let c1792_360 : Index := 1792#32
  ![v1058.toNat, 7, 1792]
def k0_off508 (v121 : BitVec 32) : Fin 3 → Nat :=
  let c1_i32_44 : BitVec 32 := 1#32
  let v123 : BitVec 32 := Scalar.andi v121 c1_i32_44
  let v1064 : Index := Scalar.indexCast v123
  let c8_361 : Index := 8#32
  let c1792_362 : Index := 1792#32
  ![v1064.toNat, 8, 1792]
def k0_off509 (v121 : BitVec 32) : Fin 3 → Nat :=
  let c1_i32_44 : BitVec 32 := 1#32
  let v123 : BitVec 32 := Scalar.andi v121 c1_i32_44
  let v1070 : Index := Scalar.indexCast v123
  let c9_363 : Index := 9#32
  let c1792_364 : Index := 1792#32
  ![v1070.toNat, 9, 1792]
def k0_off510 (v121 : BitVec 32) : Fin 3 → Nat :=
  let c1_i32_44 : BitVec 32 := 1#32
  let v123 : BitVec 32 := Scalar.andi v121 c1_i32_44
  let v1076 : Index := Scalar.indexCast v123
  let c10_365 : Index := 10#32
  let c1792_366 : Index := 1792#32
  ![v1076.toNat, 10, 1792]
def k0_off511 (v121 : BitVec 32) : Fin 3 → Nat :=
  let c1_i32_44 : BitVec 32 := 1#32
  let v123 : BitVec 32 := Scalar.andi v121 c1_i32_44
  let v1082 : Index := Scalar.indexCast v123
  let c11_367 : Index := 11#32
  let c1792_368 : Index := 1792#32
  ![v1082.toNat, 11, 1792]
def k0_off512 (v121 : BitVec 32) : Fin 3 → Nat :=
  let c1_i32_44 : BitVec 32 := 1#32
  let v123 : BitVec 32 := Scalar.andi v121 c1_i32_44
  let v1088 : Index := Scalar.indexCast v123
  let c12_369 : Index := 12#32
  let c1792_370 : Index := 1792#32
  ![v1088.toNat, 12, 1792]
def k0_off513 (v121 : BitVec 32) : Fin 3 → Nat :=
  let c1_i32_44 : BitVec 32 := 1#32
  let v123 : BitVec 32 := Scalar.andi v121 c1_i32_44
  let v1094 : Index := Scalar.indexCast v123
  let c13_371 : Index := 13#32
  let c1792_372 : Index := 1792#32
  ![v1094.toNat, 13, 1792]
def k0_off514 (v121 : BitVec 32) : Fin 3 → Nat :=
  let c1_i32_44 : BitVec 32 := 1#32
  let v123 : BitVec 32 := Scalar.andi v121 c1_i32_44
  let v1100 : Index := Scalar.indexCast v123
  let c14_373 : Index := 14#32
  let c1792_374 : Index := 1792#32
  ![v1100.toNat, 14, 1792]
def k0_off515 (v121 : BitVec 32) : Fin 3 → Nat :=
  let c1_i32_44 : BitVec 32 := 1#32
  let v123 : BitVec 32 := Scalar.andi v121 c1_i32_44
  let v1106 : Index := Scalar.indexCast v123
  let c15_375 : Index := 15#32
  let c1792_376 : Index := 1792#32
  ![v1106.toNat, 15, 1792]
def k0_off516 (v121 : BitVec 32) : Fin 3 → Nat :=
  let c1_i32_44 : BitVec 32 := 1#32
  let v123 : BitVec 32 := Scalar.andi v121 c1_i32_44
  let v1117 : Index := Scalar.indexCast v123
  let c0_380 : Index := 0#32
  let c2048 : Index := 2048#32
  ![v1117.toNat, 0, 2048]
def k0_off517 (v121 : BitVec 32) : Fin 3 → Nat :=
  let c1_i32_44 : BitVec 32 := 1#32
  let v123 : BitVec 32 := Scalar.andi v121 c1_i32_44
  let v1138 : Index := Scalar.indexCast v123
  let c0_386 : Index := 0#32
  let c2048_387 : Index := 2048#32
  ![v1138.toNat, 0, 2048]
def k0_off518 (v121 : BitVec 32) : Fin 3 → Nat :=
  let c1_i32_44 : BitVec 32 := 1#32
  let v123 : BitVec 32 := Scalar.andi v121 c1_i32_44
  let v1144 : Index := Scalar.indexCast v123
  let c1_388 : Index := 1#32
  let c2048_389 : Index := 2048#32
  ![v1144.toNat, 1, 2048]
def k0_off519 (v121 : BitVec 32) : Fin 3 → Nat :=
  let c1_i32_44 : BitVec 32 := 1#32
  let v123 : BitVec 32 := Scalar.andi v121 c1_i32_44
  let v1150 : Index := Scalar.indexCast v123
  let c2_390 : Index := 2#32
  let c2048_391 : Index := 2048#32
  ![v1150.toNat, 2, 2048]
def k0_off520 (v121 : BitVec 32) : Fin 3 → Nat :=
  let c1_i32_44 : BitVec 32 := 1#32
  let v123 : BitVec 32 := Scalar.andi v121 c1_i32_44
  let v1156 : Index := Scalar.indexCast v123
  let c3_392 : Index := 3#32
  let c2048_393 : Index := 2048#32
  ![v1156.toNat, 3, 2048]
def k0_off521 (v121 : BitVec 32) : Fin 3 → Nat :=
  let c1_i32_44 : BitVec 32 := 1#32
  let v123 : BitVec 32 := Scalar.andi v121 c1_i32_44
  let v1162 : Index := Scalar.indexCast v123
  let c4_394 : Index := 4#32
  let c2048_395 : Index := 2048#32
  ![v1162.toNat, 4, 2048]
def k0_off522 (v121 : BitVec 32) : Fin 3 → Nat :=
  let c1_i32_44 : BitVec 32 := 1#32
  let v123 : BitVec 32 := Scalar.andi v121 c1_i32_44
  let v1168 : Index := Scalar.indexCast v123
  let c5_396 : Index := 5#32
  let c2048_397 : Index := 2048#32
  ![v1168.toNat, 5, 2048]
def k0_off523 (v121 : BitVec 32) : Fin 3 → Nat :=
  let c1_i32_44 : BitVec 32 := 1#32
  let v123 : BitVec 32 := Scalar.andi v121 c1_i32_44
  let v1174 : Index := Scalar.indexCast v123
  let c6_398 : Index := 6#32
  let c2048_399 : Index := 2048#32
  ![v1174.toNat, 6, 2048]
def k0_off524 (v121 : BitVec 32) : Fin 3 → Nat :=
  let c1_i32_44 : BitVec 32 := 1#32
  let v123 : BitVec 32 := Scalar.andi v121 c1_i32_44
  let v1180 : Index := Scalar.indexCast v123
  let c7_400 : Index := 7#32
  let c2048_401 : Index := 2048#32
  ![v1180.toNat, 7, 2048]
def k0_off525 (v121 : BitVec 32) : Fin 3 → Nat :=
  let c1_i32_44 : BitVec 32 := 1#32
  let v123 : BitVec 32 := Scalar.andi v121 c1_i32_44
  let v1186 : Index := Scalar.indexCast v123
  let c8_402 : Index := 8#32
  let c2048_403 : Index := 2048#32
  ![v1186.toNat, 8, 2048]
def k0_off526 (v121 : BitVec 32) : Fin 3 → Nat :=
  let c1_i32_44 : BitVec 32 := 1#32
  let v123 : BitVec 32 := Scalar.andi v121 c1_i32_44
  let v1192 : Index := Scalar.indexCast v123
  let c9_404 : Index := 9#32
  let c2048_405 : Index := 2048#32
  ![v1192.toNat, 9, 2048]
def k0_off527 (v121 : BitVec 32) : Fin 3 → Nat :=
  let c1_i32_44 : BitVec 32 := 1#32
  let v123 : BitVec 32 := Scalar.andi v121 c1_i32_44
  let v1198 : Index := Scalar.indexCast v123
  let c10_406 : Index := 10#32
  let c2048_407 : Index := 2048#32
  ![v1198.toNat, 10, 2048]
def k0_off528 (v121 : BitVec 32) : Fin 3 → Nat :=
  let c1_i32_44 : BitVec 32 := 1#32
  let v123 : BitVec 32 := Scalar.andi v121 c1_i32_44
  let v1204 : Index := Scalar.indexCast v123
  let c11_408 : Index := 11#32
  let c2048_409 : Index := 2048#32
  ![v1204.toNat, 11, 2048]
def k0_off529 (v121 : BitVec 32) : Fin 3 → Nat :=
  let c1_i32_44 : BitVec 32 := 1#32
  let v123 : BitVec 32 := Scalar.andi v121 c1_i32_44
  let v1210 : Index := Scalar.indexCast v123
  let c12_410 : Index := 12#32
  let c2048_411 : Index := 2048#32
  ![v1210.toNat, 12, 2048]
def k0_off530 (v121 : BitVec 32) : Fin 3 → Nat :=
  let c1_i32_44 : BitVec 32 := 1#32
  let v123 : BitVec 32 := Scalar.andi v121 c1_i32_44
  let v1216 : Index := Scalar.indexCast v123
  let c13_412 : Index := 13#32
  let c2048_413 : Index := 2048#32
  ![v1216.toNat, 13, 2048]
def k0_off531 (v121 : BitVec 32) : Fin 3 → Nat :=
  let c1_i32_44 : BitVec 32 := 1#32
  let v123 : BitVec 32 := Scalar.andi v121 c1_i32_44
  let v1222 : Index := Scalar.indexCast v123
  let c14_414 : Index := 14#32
  let c2048_415 : Index := 2048#32
  ![v1222.toNat, 14, 2048]
def k0_off532 (v121 : BitVec 32) : Fin 3 → Nat :=
  let c1_i32_44 : BitVec 32 := 1#32
  let v123 : BitVec 32 := Scalar.andi v121 c1_i32_44
  let v1228 : Index := Scalar.indexCast v123
  let c15_416 : Index := 15#32
  let c2048_417 : Index := 2048#32
  ![v1228.toNat, 15, 2048]
def k0_off533 (v121 : BitVec 32) : Fin 3 → Nat :=
  let c1_i32_44 : BitVec 32 := 1#32
  let v123 : BitVec 32 := Scalar.andi v121 c1_i32_44
  let v1239 : Index := Scalar.indexCast v123
  let c0_421 : Index := 0#32
  let c2304 : Index := 2304#32
  ![v1239.toNat, 0, 2304]
def k0_off534 (v121 : BitVec 32) : Fin 3 → Nat :=
  let c1_i32_44 : BitVec 32 := 1#32
  let v123 : BitVec 32 := Scalar.andi v121 c1_i32_44
  let v1260 : Index := Scalar.indexCast v123
  let c0_427 : Index := 0#32
  let c2304_428 : Index := 2304#32
  ![v1260.toNat, 0, 2304]
def k0_off535 (v121 : BitVec 32) : Fin 3 → Nat :=
  let c1_i32_44 : BitVec 32 := 1#32
  let v123 : BitVec 32 := Scalar.andi v121 c1_i32_44
  let v1266 : Index := Scalar.indexCast v123
  let c1_429 : Index := 1#32
  let c2304_430 : Index := 2304#32
  ![v1266.toNat, 1, 2304]
def k0_off536 (v121 : BitVec 32) : Fin 3 → Nat :=
  let c1_i32_44 : BitVec 32 := 1#32
  let v123 : BitVec 32 := Scalar.andi v121 c1_i32_44
  let v1272 : Index := Scalar.indexCast v123
  let c2_431 : Index := 2#32
  let c2304_432 : Index := 2304#32
  ![v1272.toNat, 2, 2304]
def k0_off537 (v121 : BitVec 32) : Fin 3 → Nat :=
  let c1_i32_44 : BitVec 32 := 1#32
  let v123 : BitVec 32 := Scalar.andi v121 c1_i32_44
  let v1278 : Index := Scalar.indexCast v123
  let c3_433 : Index := 3#32
  let c2304_434 : Index := 2304#32
  ![v1278.toNat, 3, 2304]
def k0_off538 (v121 : BitVec 32) : Fin 3 → Nat :=
  let c1_i32_44 : BitVec 32 := 1#32
  let v123 : BitVec 32 := Scalar.andi v121 c1_i32_44
  let v1284 : Index := Scalar.indexCast v123
  let c4_435 : Index := 4#32
  let c2304_436 : Index := 2304#32
  ![v1284.toNat, 4, 2304]
def k0_off539 (v121 : BitVec 32) : Fin 3 → Nat :=
  let c1_i32_44 : BitVec 32 := 1#32
  let v123 : BitVec 32 := Scalar.andi v121 c1_i32_44
  let v1290 : Index := Scalar.indexCast v123
  let c5_437 : Index := 5#32
  let c2304_438 : Index := 2304#32
  ![v1290.toNat, 5, 2304]
def k0_off540 (v121 : BitVec 32) : Fin 3 → Nat :=
  let c1_i32_44 : BitVec 32 := 1#32
  let v123 : BitVec 32 := Scalar.andi v121 c1_i32_44
  let v1296 : Index := Scalar.indexCast v123
  let c6_439 : Index := 6#32
  let c2304_440 : Index := 2304#32
  ![v1296.toNat, 6, 2304]
def k0_off541 (v121 : BitVec 32) : Fin 3 → Nat :=
  let c1_i32_44 : BitVec 32 := 1#32
  let v123 : BitVec 32 := Scalar.andi v121 c1_i32_44
  let v1302 : Index := Scalar.indexCast v123
  let c7_441 : Index := 7#32
  let c2304_442 : Index := 2304#32
  ![v1302.toNat, 7, 2304]
def k0_off542 (v121 : BitVec 32) : Fin 3 → Nat :=
  let c1_i32_44 : BitVec 32 := 1#32
  let v123 : BitVec 32 := Scalar.andi v121 c1_i32_44
  let v1308 : Index := Scalar.indexCast v123
  let c8_443 : Index := 8#32
  let c2304_444 : Index := 2304#32
  ![v1308.toNat, 8, 2304]
def k0_off543 (v121 : BitVec 32) : Fin 3 → Nat :=
  let c1_i32_44 : BitVec 32 := 1#32
  let v123 : BitVec 32 := Scalar.andi v121 c1_i32_44
  let v1314 : Index := Scalar.indexCast v123
  let c9_445 : Index := 9#32
  let c2304_446 : Index := 2304#32
  ![v1314.toNat, 9, 2304]
def k0_off544 (v121 : BitVec 32) : Fin 3 → Nat :=
  let c1_i32_44 : BitVec 32 := 1#32
  let v123 : BitVec 32 := Scalar.andi v121 c1_i32_44
  let v1320 : Index := Scalar.indexCast v123
  let c10_447 : Index := 10#32
  let c2304_448 : Index := 2304#32
  ![v1320.toNat, 10, 2304]
def k0_off545 (v121 : BitVec 32) : Fin 3 → Nat :=
  let c1_i32_44 : BitVec 32 := 1#32
  let v123 : BitVec 32 := Scalar.andi v121 c1_i32_44
  let v1326 : Index := Scalar.indexCast v123
  let c11_449 : Index := 11#32
  let c2304_450 : Index := 2304#32
  ![v1326.toNat, 11, 2304]
def k0_off546 (v121 : BitVec 32) : Fin 3 → Nat :=
  let c1_i32_44 : BitVec 32 := 1#32
  let v123 : BitVec 32 := Scalar.andi v121 c1_i32_44
  let v1332 : Index := Scalar.indexCast v123
  let c12_451 : Index := 12#32
  let c2304_452 : Index := 2304#32
  ![v1332.toNat, 12, 2304]
def k0_off547 (v121 : BitVec 32) : Fin 3 → Nat :=
  let c1_i32_44 : BitVec 32 := 1#32
  let v123 : BitVec 32 := Scalar.andi v121 c1_i32_44
  let v1338 : Index := Scalar.indexCast v123
  let c13_453 : Index := 13#32
  let c2304_454 : Index := 2304#32
  ![v1338.toNat, 13, 2304]
def k0_off548 (v121 : BitVec 32) : Fin 3 → Nat :=
  let c1_i32_44 : BitVec 32 := 1#32
  let v123 : BitVec 32 := Scalar.andi v121 c1_i32_44
  let v1344 : Index := Scalar.indexCast v123
  let c14_455 : Index := 14#32
  let c2304_456 : Index := 2304#32
  ![v1344.toNat, 14, 2304]
def k0_off549 (v121 : BitVec 32) : Fin 3 → Nat :=
  let c1_i32_44 : BitVec 32 := 1#32
  let v123 : BitVec 32 := Scalar.andi v121 c1_i32_44
  let v1350 : Index := Scalar.indexCast v123
  let c15_457 : Index := 15#32
  let c2304_458 : Index := 2304#32
  ![v1350.toNat, 15, 2304]
def k0_off550 (v121 : BitVec 32) : Fin 3 → Nat :=
  let c1_i32_44 : BitVec 32 := 1#32
  let v123 : BitVec 32 := Scalar.andi v121 c1_i32_44
  let v1361 : Index := Scalar.indexCast v123
  let c0_462 : Index := 0#32
  let c2560 : Index := 2560#32
  ![v1361.toNat, 0, 2560]
def k0_off551 (v121 : BitVec 32) : Fin 3 → Nat :=
  let c1_i32_44 : BitVec 32 := 1#32
  let v123 : BitVec 32 := Scalar.andi v121 c1_i32_44
  let v1382 : Index := Scalar.indexCast v123
  let c0_468 : Index := 0#32
  let c2560_469 : Index := 2560#32
  ![v1382.toNat, 0, 2560]
def k0_off552 (v121 : BitVec 32) : Fin 3 → Nat :=
  let c1_i32_44 : BitVec 32 := 1#32
  let v123 : BitVec 32 := Scalar.andi v121 c1_i32_44
  let v1388 : Index := Scalar.indexCast v123
  let c1_470 : Index := 1#32
  let c2560_471 : Index := 2560#32
  ![v1388.toNat, 1, 2560]
def k0_off553 (v121 : BitVec 32) : Fin 3 → Nat :=
  let c1_i32_44 : BitVec 32 := 1#32
  let v123 : BitVec 32 := Scalar.andi v121 c1_i32_44
  let v1394 : Index := Scalar.indexCast v123
  let c2_472 : Index := 2#32
  let c2560_473 : Index := 2560#32
  ![v1394.toNat, 2, 2560]
def k0_off554 (v121 : BitVec 32) : Fin 3 → Nat :=
  let c1_i32_44 : BitVec 32 := 1#32
  let v123 : BitVec 32 := Scalar.andi v121 c1_i32_44
  let v1400 : Index := Scalar.indexCast v123
  let c3_474 : Index := 3#32
  let c2560_475 : Index := 2560#32
  ![v1400.toNat, 3, 2560]
def k0_off555 (v121 : BitVec 32) : Fin 3 → Nat :=
  let c1_i32_44 : BitVec 32 := 1#32
  let v123 : BitVec 32 := Scalar.andi v121 c1_i32_44
  let v1406 : Index := Scalar.indexCast v123
  let c4_476 : Index := 4#32
  let c2560_477 : Index := 2560#32
  ![v1406.toNat, 4, 2560]
def k0_off556 (v121 : BitVec 32) : Fin 3 → Nat :=
  let c1_i32_44 : BitVec 32 := 1#32
  let v123 : BitVec 32 := Scalar.andi v121 c1_i32_44
  let v1412 : Index := Scalar.indexCast v123
  let c5_478 : Index := 5#32
  let c2560_479 : Index := 2560#32
  ![v1412.toNat, 5, 2560]
def k0_off557 (v121 : BitVec 32) : Fin 3 → Nat :=
  let c1_i32_44 : BitVec 32 := 1#32
  let v123 : BitVec 32 := Scalar.andi v121 c1_i32_44
  let v1418 : Index := Scalar.indexCast v123
  let c6_480 : Index := 6#32
  let c2560_481 : Index := 2560#32
  ![v1418.toNat, 6, 2560]
def k0_off558 (v121 : BitVec 32) : Fin 3 → Nat :=
  let c1_i32_44 : BitVec 32 := 1#32
  let v123 : BitVec 32 := Scalar.andi v121 c1_i32_44
  let v1424 : Index := Scalar.indexCast v123
  let c7_482 : Index := 7#32
  let c2560_483 : Index := 2560#32
  ![v1424.toNat, 7, 2560]
def k0_off559 (v121 : BitVec 32) : Fin 3 → Nat :=
  let c1_i32_44 : BitVec 32 := 1#32
  let v123 : BitVec 32 := Scalar.andi v121 c1_i32_44
  let v1430 : Index := Scalar.indexCast v123
  let c8_484 : Index := 8#32
  let c2560_485 : Index := 2560#32
  ![v1430.toNat, 8, 2560]
def k0_off560 (v121 : BitVec 32) : Fin 3 → Nat :=
  let c1_i32_44 : BitVec 32 := 1#32
  let v123 : BitVec 32 := Scalar.andi v121 c1_i32_44
  let v1436 : Index := Scalar.indexCast v123
  let c9_486 : Index := 9#32
  let c2560_487 : Index := 2560#32
  ![v1436.toNat, 9, 2560]
def k0_off561 (v121 : BitVec 32) : Fin 3 → Nat :=
  let c1_i32_44 : BitVec 32 := 1#32
  let v123 : BitVec 32 := Scalar.andi v121 c1_i32_44
  let v1442 : Index := Scalar.indexCast v123
  let c10_488 : Index := 10#32
  let c2560_489 : Index := 2560#32
  ![v1442.toNat, 10, 2560]
def k0_off562 (v121 : BitVec 32) : Fin 3 → Nat :=
  let c1_i32_44 : BitVec 32 := 1#32
  let v123 : BitVec 32 := Scalar.andi v121 c1_i32_44
  let v1448 : Index := Scalar.indexCast v123
  let c11_490 : Index := 11#32
  let c2560_491 : Index := 2560#32
  ![v1448.toNat, 11, 2560]
def k0_off563 (v121 : BitVec 32) : Fin 3 → Nat :=
  let c1_i32_44 : BitVec 32 := 1#32
  let v123 : BitVec 32 := Scalar.andi v121 c1_i32_44
  let v1454 : Index := Scalar.indexCast v123
  let c12_492 : Index := 12#32
  let c2560_493 : Index := 2560#32
  ![v1454.toNat, 12, 2560]
def k0_off564 (v121 : BitVec 32) : Fin 3 → Nat :=
  let c1_i32_44 : BitVec 32 := 1#32
  let v123 : BitVec 32 := Scalar.andi v121 c1_i32_44
  let v1460 : Index := Scalar.indexCast v123
  let c13_494 : Index := 13#32
  let c2560_495 : Index := 2560#32
  ![v1460.toNat, 13, 2560]
def k0_off565 (v121 : BitVec 32) : Fin 3 → Nat :=
  let c1_i32_44 : BitVec 32 := 1#32
  let v123 : BitVec 32 := Scalar.andi v121 c1_i32_44
  let v1466 : Index := Scalar.indexCast v123
  let c14_496 : Index := 14#32
  let c2560_497 : Index := 2560#32
  ![v1466.toNat, 14, 2560]
def k0_off566 (v121 : BitVec 32) : Fin 3 → Nat :=
  let c1_i32_44 : BitVec 32 := 1#32
  let v123 : BitVec 32 := Scalar.andi v121 c1_i32_44
  let v1472 : Index := Scalar.indexCast v123
  let c15_498 : Index := 15#32
  let c2560_499 : Index := 2560#32
  ![v1472.toNat, 15, 2560]
def k0_off567 (v115 : BitVec 32) : Fin 2 → Nat :=
  let v122 : BitVec 32 := v115
  let v1634 : Index := Scalar.indexCast v122
  let c0_586 : Index := 0#32
  ![v1634.toNat, 0]
def k0_off568 (v121 : BitVec 32) : Fin 3 → Nat :=
  let c1_i32_44 : BitVec 32 := 1#32
  let v123 : BitVec 32 := Scalar.andi v121 c1_i32_44
  let v1637 : Index := Scalar.indexCast v123
  let c0_589 : Index := 0#32
  let c0_590 : Index := 0#32
  ![v1637.toNat, 0, 0]
def k0_off569 (v121 : BitVec 32) : Fin 3 → Nat :=
  let c1_i32_44 : BitVec 32 := 1#32
  let v123 : BitVec 32 := Scalar.andi v121 c1_i32_44
  let v1658 : Index := Scalar.indexCast v123
  let c0_596 : Index := 0#32
  let c0_597 : Index := 0#32
  ![v1658.toNat, 0, 0]
def k0_off570 (v121 : BitVec 32) : Fin 3 → Nat :=
  let c1_i32_44 : BitVec 32 := 1#32
  let v123 : BitVec 32 := Scalar.andi v121 c1_i32_44
  let v1664 : Index := Scalar.indexCast v123
  let c1_598 : Index := 1#32
  let c0_599 : Index := 0#32
  ![v1664.toNat, 1, 0]
def k0_off571 (v121 : BitVec 32) : Fin 3 → Nat :=
  let c1_i32_44 : BitVec 32 := 1#32
  let v123 : BitVec 32 := Scalar.andi v121 c1_i32_44
  let v1670 : Index := Scalar.indexCast v123
  let c2_600 : Index := 2#32
  let c0_601 : Index := 0#32
  ![v1670.toNat, 2, 0]
def k0_off572 (v121 : BitVec 32) : Fin 3 → Nat :=
  let c1_i32_44 : BitVec 32 := 1#32
  let v123 : BitVec 32 := Scalar.andi v121 c1_i32_44
  let v1676 : Index := Scalar.indexCast v123
  let c3_602 : Index := 3#32
  let c0_603 : Index := 0#32
  ![v1676.toNat, 3, 0]
def k0_off573 (v121 : BitVec 32) : Fin 3 → Nat :=
  let c1_i32_44 : BitVec 32 := 1#32
  let v123 : BitVec 32 := Scalar.andi v121 c1_i32_44
  let v1682 : Index := Scalar.indexCast v123
  let c4_604 : Index := 4#32
  let c0_605 : Index := 0#32
  ![v1682.toNat, 4, 0]
def k0_off574 (v121 : BitVec 32) : Fin 3 → Nat :=
  let c1_i32_44 : BitVec 32 := 1#32
  let v123 : BitVec 32 := Scalar.andi v121 c1_i32_44
  let v1688 : Index := Scalar.indexCast v123
  let c5_606 : Index := 5#32
  let c0_607 : Index := 0#32
  ![v1688.toNat, 5, 0]
def k0_off575 (v121 : BitVec 32) : Fin 3 → Nat :=
  let c1_i32_44 : BitVec 32 := 1#32
  let v123 : BitVec 32 := Scalar.andi v121 c1_i32_44
  let v1694 : Index := Scalar.indexCast v123
  let c6_608 : Index := 6#32
  let c0_609 : Index := 0#32
  ![v1694.toNat, 6, 0]
def k0_off576 (v121 : BitVec 32) : Fin 3 → Nat :=
  let c1_i32_44 : BitVec 32 := 1#32
  let v123 : BitVec 32 := Scalar.andi v121 c1_i32_44
  let v1700 : Index := Scalar.indexCast v123
  let c7_610 : Index := 7#32
  let c0_611 : Index := 0#32
  ![v1700.toNat, 7, 0]
def k0_off577 (v121 : BitVec 32) : Fin 3 → Nat :=
  let c1_i32_44 : BitVec 32 := 1#32
  let v123 : BitVec 32 := Scalar.andi v121 c1_i32_44
  let v1706 : Index := Scalar.indexCast v123
  let c8_612 : Index := 8#32
  let c0_613 : Index := 0#32
  ![v1706.toNat, 8, 0]
def k0_off578 (v121 : BitVec 32) : Fin 3 → Nat :=
  let c1_i32_44 : BitVec 32 := 1#32
  let v123 : BitVec 32 := Scalar.andi v121 c1_i32_44
  let v1712 : Index := Scalar.indexCast v123
  let c9_614 : Index := 9#32
  let c0_615 : Index := 0#32
  ![v1712.toNat, 9, 0]
def k0_off579 (v121 : BitVec 32) : Fin 3 → Nat :=
  let c1_i32_44 : BitVec 32 := 1#32
  let v123 : BitVec 32 := Scalar.andi v121 c1_i32_44
  let v1718 : Index := Scalar.indexCast v123
  let c10_616 : Index := 10#32
  let c0_617 : Index := 0#32
  ![v1718.toNat, 10, 0]
def k0_off580 (v115 : BitVec 32) : Fin 2 → Nat :=
  let v122 : BitVec 32 := v115
  let v1726 : Index := Scalar.indexCast v122
  let c0_619 : Index := 0#32
  ![v1726.toNat, 0]
def k0_off581 (v115 : BitVec 32) : Fin 2 → Nat :=
  let v122 : BitVec 32 := v115
  let v1736 : Index := Scalar.indexCast v122
  let c128_621 : Index := 128#32
  ![v1736.toNat, 128]
def k0_off582 (v121 : BitVec 32) : Fin 3 → Nat :=
  let c1_i32_44 : BitVec 32 := 1#32
  let v123 : BitVec 32 := Scalar.andi v121 c1_i32_44
  let v1746 : Index := Scalar.indexCast v123
  let c0_623 : Index := 0#32
  let c256_624 : Index := 256#32
  ![v1746.toNat, 0, 256]
def k0_off583 (v121 : BitVec 32) : Fin 3 → Nat :=
  let c1_i32_44 : BitVec 32 := 1#32
  let v123 : BitVec 32 := Scalar.andi v121 c1_i32_44
  let v1767 : Index := Scalar.indexCast v123
  let c0_630 : Index := 0#32
  let c256_631 : Index := 256#32
  ![v1767.toNat, 0, 256]
def k0_off584 (v121 : BitVec 32) : Fin 3 → Nat :=
  let c1_i32_44 : BitVec 32 := 1#32
  let v123 : BitVec 32 := Scalar.andi v121 c1_i32_44
  let v1773 : Index := Scalar.indexCast v123
  let c1_632 : Index := 1#32
  let c256_633 : Index := 256#32
  ![v1773.toNat, 1, 256]
def k0_off585 (v121 : BitVec 32) : Fin 3 → Nat :=
  let c1_i32_44 : BitVec 32 := 1#32
  let v123 : BitVec 32 := Scalar.andi v121 c1_i32_44
  let v1779 : Index := Scalar.indexCast v123
  let c2_634 : Index := 2#32
  let c256_635 : Index := 256#32
  ![v1779.toNat, 2, 256]
def k0_off586 (v121 : BitVec 32) : Fin 3 → Nat :=
  let c1_i32_44 : BitVec 32 := 1#32
  let v123 : BitVec 32 := Scalar.andi v121 c1_i32_44
  let v1785 : Index := Scalar.indexCast v123
  let c3_636 : Index := 3#32
  let c256_637 : Index := 256#32
  ![v1785.toNat, 3, 256]
def k0_off587 (v121 : BitVec 32) : Fin 3 → Nat :=
  let c1_i32_44 : BitVec 32 := 1#32
  let v123 : BitVec 32 := Scalar.andi v121 c1_i32_44
  let v1791 : Index := Scalar.indexCast v123
  let c4_638 : Index := 4#32
  let c256_639 : Index := 256#32
  ![v1791.toNat, 4, 256]
def k0_off588 (v121 : BitVec 32) : Fin 3 → Nat :=
  let c1_i32_44 : BitVec 32 := 1#32
  let v123 : BitVec 32 := Scalar.andi v121 c1_i32_44
  let v1797 : Index := Scalar.indexCast v123
  let c5_640 : Index := 5#32
  let c256_641 : Index := 256#32
  ![v1797.toNat, 5, 256]
def k0_off589 (v121 : BitVec 32) : Fin 3 → Nat :=
  let c1_i32_44 : BitVec 32 := 1#32
  let v123 : BitVec 32 := Scalar.andi v121 c1_i32_44
  let v1803 : Index := Scalar.indexCast v123
  let c6_642 : Index := 6#32
  let c256_643 : Index := 256#32
  ![v1803.toNat, 6, 256]
def k0_off590 (v121 : BitVec 32) : Fin 3 → Nat :=
  let c1_i32_44 : BitVec 32 := 1#32
  let v123 : BitVec 32 := Scalar.andi v121 c1_i32_44
  let v1809 : Index := Scalar.indexCast v123
  let c7_644 : Index := 7#32
  let c256_645 : Index := 256#32
  ![v1809.toNat, 7, 256]
def k0_off591 (v121 : BitVec 32) : Fin 3 → Nat :=
  let c1_i32_44 : BitVec 32 := 1#32
  let v123 : BitVec 32 := Scalar.andi v121 c1_i32_44
  let v1815 : Index := Scalar.indexCast v123
  let c8_646 : Index := 8#32
  let c256_647 : Index := 256#32
  ![v1815.toNat, 8, 256]
def k0_off592 (v121 : BitVec 32) : Fin 3 → Nat :=
  let c1_i32_44 : BitVec 32 := 1#32
  let v123 : BitVec 32 := Scalar.andi v121 c1_i32_44
  let v1821 : Index := Scalar.indexCast v123
  let c9_648 : Index := 9#32
  let c256_649 : Index := 256#32
  ![v1821.toNat, 9, 256]
def k0_off593 (v121 : BitVec 32) : Fin 3 → Nat :=
  let c1_i32_44 : BitVec 32 := 1#32
  let v123 : BitVec 32 := Scalar.andi v121 c1_i32_44
  let v1827 : Index := Scalar.indexCast v123
  let c10_650 : Index := 10#32
  let c256_651 : Index := 256#32
  ![v1827.toNat, 10, 256]
def k0_off594 (v115 : BitVec 32) : Fin 2 → Nat :=
  let v122 : BitVec 32 := v115
  let v1835 : Index := Scalar.indexCast v122
  let c256_653 : Index := 256#32
  ![v1835.toNat, 256]
def k0_off595 (v115 : BitVec 32) : Fin 2 → Nat :=
  let v122 : BitVec 32 := v115
  let v1845 : Index := Scalar.indexCast v122
  let c384_655 : Index := 384#32
  ![v1845.toNat, 384]
def k0_off596 (v121 : BitVec 32) : Fin 3 → Nat :=
  let c1_i32_44 : BitVec 32 := 1#32
  let v123 : BitVec 32 := Scalar.andi v121 c1_i32_44
  let v1855 : Index := Scalar.indexCast v123
  let c0_657 : Index := 0#32
  let c512_658 : Index := 512#32
  ![v1855.toNat, 0, 512]
def k0_off597 (v121 : BitVec 32) : Fin 3 → Nat :=
  let c1_i32_44 : BitVec 32 := 1#32
  let v123 : BitVec 32 := Scalar.andi v121 c1_i32_44
  let v1876 : Index := Scalar.indexCast v123
  let c0_664 : Index := 0#32
  let c512_665 : Index := 512#32
  ![v1876.toNat, 0, 512]
def k0_off598 (v121 : BitVec 32) : Fin 3 → Nat :=
  let c1_i32_44 : BitVec 32 := 1#32
  let v123 : BitVec 32 := Scalar.andi v121 c1_i32_44
  let v1882 : Index := Scalar.indexCast v123
  let c1_666 : Index := 1#32
  let c512_667 : Index := 512#32
  ![v1882.toNat, 1, 512]
def k0_off599 (v121 : BitVec 32) : Fin 3 → Nat :=
  let c1_i32_44 : BitVec 32 := 1#32
  let v123 : BitVec 32 := Scalar.andi v121 c1_i32_44
  let v1888 : Index := Scalar.indexCast v123
  let c2_668 : Index := 2#32
  let c512_669 : Index := 512#32
  ![v1888.toNat, 2, 512]
def k0_off600 (v121 : BitVec 32) : Fin 3 → Nat :=
  let c1_i32_44 : BitVec 32 := 1#32
  let v123 : BitVec 32 := Scalar.andi v121 c1_i32_44
  let v1894 : Index := Scalar.indexCast v123
  let c3_670 : Index := 3#32
  let c512_671 : Index := 512#32
  ![v1894.toNat, 3, 512]
def k0_off601 (v121 : BitVec 32) : Fin 3 → Nat :=
  let c1_i32_44 : BitVec 32 := 1#32
  let v123 : BitVec 32 := Scalar.andi v121 c1_i32_44
  let v1900 : Index := Scalar.indexCast v123
  let c4_672 : Index := 4#32
  let c512_673 : Index := 512#32
  ![v1900.toNat, 4, 512]
def k0_off602 (v121 : BitVec 32) : Fin 3 → Nat :=
  let c1_i32_44 : BitVec 32 := 1#32
  let v123 : BitVec 32 := Scalar.andi v121 c1_i32_44
  let v1906 : Index := Scalar.indexCast v123
  let c5_674 : Index := 5#32
  let c512_675 : Index := 512#32
  ![v1906.toNat, 5, 512]
def k0_off603 (v121 : BitVec 32) : Fin 3 → Nat :=
  let c1_i32_44 : BitVec 32 := 1#32
  let v123 : BitVec 32 := Scalar.andi v121 c1_i32_44
  let v1912 : Index := Scalar.indexCast v123
  let c6_676 : Index := 6#32
  let c512_677 : Index := 512#32
  ![v1912.toNat, 6, 512]
def k0_off604 (v121 : BitVec 32) : Fin 3 → Nat :=
  let c1_i32_44 : BitVec 32 := 1#32
  let v123 : BitVec 32 := Scalar.andi v121 c1_i32_44
  let v1918 : Index := Scalar.indexCast v123
  let c7_678 : Index := 7#32
  let c512_679 : Index := 512#32
  ![v1918.toNat, 7, 512]
def k0_off605 (v121 : BitVec 32) : Fin 3 → Nat :=
  let c1_i32_44 : BitVec 32 := 1#32
  let v123 : BitVec 32 := Scalar.andi v121 c1_i32_44
  let v1924 : Index := Scalar.indexCast v123
  let c8_680 : Index := 8#32
  let c512_681 : Index := 512#32
  ![v1924.toNat, 8, 512]
def k0_off606 (v121 : BitVec 32) : Fin 3 → Nat :=
  let c1_i32_44 : BitVec 32 := 1#32
  let v123 : BitVec 32 := Scalar.andi v121 c1_i32_44
  let v1930 : Index := Scalar.indexCast v123
  let c9_682 : Index := 9#32
  let c512_683 : Index := 512#32
  ![v1930.toNat, 9, 512]
def k0_off607 (v121 : BitVec 32) : Fin 3 → Nat :=
  let c1_i32_44 : BitVec 32 := 1#32
  let v123 : BitVec 32 := Scalar.andi v121 c1_i32_44
  let v1936 : Index := Scalar.indexCast v123
  let c10_684 : Index := 10#32
  let c512_685 : Index := 512#32
  ![v1936.toNat, 10, 512]
def k0_off608 (v115 : BitVec 32) : Fin 2 → Nat :=
  let v122 : BitVec 32 := v115
  let v1944 : Index := Scalar.indexCast v122
  let c512_687 : Index := 512#32
  ![v1944.toNat, 512]
def k0_off609 (v115 : BitVec 32) : Fin 2 → Nat :=
  let v122 : BitVec 32 := v115
  let v1954 : Index := Scalar.indexCast v122
  let c640_689 : Index := 640#32
  ![v1954.toNat, 640]
def k0_off610 (v121 : BitVec 32) : Fin 3 → Nat :=
  let c1_i32_44 : BitVec 32 := 1#32
  let v123 : BitVec 32 := Scalar.andi v121 c1_i32_44
  let v1964 : Index := Scalar.indexCast v123
  let c0_691 : Index := 0#32
  let c768_692 : Index := 768#32
  ![v1964.toNat, 0, 768]
def k0_off611 (v121 : BitVec 32) : Fin 3 → Nat :=
  let c1_i32_44 : BitVec 32 := 1#32
  let v123 : BitVec 32 := Scalar.andi v121 c1_i32_44
  let v1985 : Index := Scalar.indexCast v123
  let c0_698 : Index := 0#32
  let c768_699 : Index := 768#32
  ![v1985.toNat, 0, 768]
def k0_off612 (v121 : BitVec 32) : Fin 3 → Nat :=
  let c1_i32_44 : BitVec 32 := 1#32
  let v123 : BitVec 32 := Scalar.andi v121 c1_i32_44
  let v1991 : Index := Scalar.indexCast v123
  let c1_700 : Index := 1#32
  let c768_701 : Index := 768#32
  ![v1991.toNat, 1, 768]
def k0_off613 (v121 : BitVec 32) : Fin 3 → Nat :=
  let c1_i32_44 : BitVec 32 := 1#32
  let v123 : BitVec 32 := Scalar.andi v121 c1_i32_44
  let v1997 : Index := Scalar.indexCast v123
  let c2_702 : Index := 2#32
  let c768_703 : Index := 768#32
  ![v1997.toNat, 2, 768]
def k0_off614 (v121 : BitVec 32) : Fin 3 → Nat :=
  let c1_i32_44 : BitVec 32 := 1#32
  let v123 : BitVec 32 := Scalar.andi v121 c1_i32_44
  let v2003 : Index := Scalar.indexCast v123
  let c3_704 : Index := 3#32
  let c768_705 : Index := 768#32
  ![v2003.toNat, 3, 768]
def k0_off615 (v121 : BitVec 32) : Fin 3 → Nat :=
  let c1_i32_44 : BitVec 32 := 1#32
  let v123 : BitVec 32 := Scalar.andi v121 c1_i32_44
  let v2009 : Index := Scalar.indexCast v123
  let c4_706 : Index := 4#32
  let c768_707 : Index := 768#32
  ![v2009.toNat, 4, 768]
def k0_off616 (v121 : BitVec 32) : Fin 3 → Nat :=
  let c1_i32_44 : BitVec 32 := 1#32
  let v123 : BitVec 32 := Scalar.andi v121 c1_i32_44
  let v2015 : Index := Scalar.indexCast v123
  let c5_708 : Index := 5#32
  let c768_709 : Index := 768#32
  ![v2015.toNat, 5, 768]
def k0_off617 (v121 : BitVec 32) : Fin 3 → Nat :=
  let c1_i32_44 : BitVec 32 := 1#32
  let v123 : BitVec 32 := Scalar.andi v121 c1_i32_44
  let v2021 : Index := Scalar.indexCast v123
  let c6_710 : Index := 6#32
  let c768_711 : Index := 768#32
  ![v2021.toNat, 6, 768]
def k0_off618 (v121 : BitVec 32) : Fin 3 → Nat :=
  let c1_i32_44 : BitVec 32 := 1#32
  let v123 : BitVec 32 := Scalar.andi v121 c1_i32_44
  let v2027 : Index := Scalar.indexCast v123
  let c7_712 : Index := 7#32
  let c768_713 : Index := 768#32
  ![v2027.toNat, 7, 768]
def k0_off619 (v121 : BitVec 32) : Fin 3 → Nat :=
  let c1_i32_44 : BitVec 32 := 1#32
  let v123 : BitVec 32 := Scalar.andi v121 c1_i32_44
  let v2033 : Index := Scalar.indexCast v123
  let c8_714 : Index := 8#32
  let c768_715 : Index := 768#32
  ![v2033.toNat, 8, 768]
def k0_off620 (v121 : BitVec 32) : Fin 3 → Nat :=
  let c1_i32_44 : BitVec 32 := 1#32
  let v123 : BitVec 32 := Scalar.andi v121 c1_i32_44
  let v2039 : Index := Scalar.indexCast v123
  let c9_716 : Index := 9#32
  let c768_717 : Index := 768#32
  ![v2039.toNat, 9, 768]
def k0_off621 (v121 : BitVec 32) : Fin 3 → Nat :=
  let c1_i32_44 : BitVec 32 := 1#32
  let v123 : BitVec 32 := Scalar.andi v121 c1_i32_44
  let v2045 : Index := Scalar.indexCast v123
  let c10_718 : Index := 10#32
  let c768_719 : Index := 768#32
  ![v2045.toNat, 10, 768]
def k0_off622 (v115 : BitVec 32) : Fin 2 → Nat :=
  let v122 : BitVec 32 := v115
  let v2053 : Index := Scalar.indexCast v122
  let c768_721 : Index := 768#32
  ![v2053.toNat, 768]
def k0_off623 (v115 : BitVec 32) : Fin 2 → Nat :=
  let v122 : BitVec 32 := v115
  let v2063 : Index := Scalar.indexCast v122
  let c896_723 : Index := 896#32
  ![v2063.toNat, 896]
def k0_off624 (v121 : BitVec 32) : Fin 3 → Nat :=
  let c1_i32_44 : BitVec 32 := 1#32
  let v123 : BitVec 32 := Scalar.andi v121 c1_i32_44
  let v2073 : Index := Scalar.indexCast v123
  let c0_725 : Index := 0#32
  let c1024_726 : Index := 1024#32
  ![v2073.toNat, 0, 1024]
def k0_off625 (v121 : BitVec 32) : Fin 3 → Nat :=
  let c1_i32_44 : BitVec 32 := 1#32
  let v123 : BitVec 32 := Scalar.andi v121 c1_i32_44
  let v2094 : Index := Scalar.indexCast v123
  let c0_732 : Index := 0#32
  let c1024_733 : Index := 1024#32
  ![v2094.toNat, 0, 1024]
def k0_off626 (v121 : BitVec 32) : Fin 3 → Nat :=
  let c1_i32_44 : BitVec 32 := 1#32
  let v123 : BitVec 32 := Scalar.andi v121 c1_i32_44
  let v2100 : Index := Scalar.indexCast v123
  let c1_734 : Index := 1#32
  let c1024_735 : Index := 1024#32
  ![v2100.toNat, 1, 1024]
def k0_off627 (v121 : BitVec 32) : Fin 3 → Nat :=
  let c1_i32_44 : BitVec 32 := 1#32
  let v123 : BitVec 32 := Scalar.andi v121 c1_i32_44
  let v2106 : Index := Scalar.indexCast v123
  let c2_736 : Index := 2#32
  let c1024_737 : Index := 1024#32
  ![v2106.toNat, 2, 1024]
def k0_off628 (v121 : BitVec 32) : Fin 3 → Nat :=
  let c1_i32_44 : BitVec 32 := 1#32
  let v123 : BitVec 32 := Scalar.andi v121 c1_i32_44
  let v2112 : Index := Scalar.indexCast v123
  let c3_738 : Index := 3#32
  let c1024_739 : Index := 1024#32
  ![v2112.toNat, 3, 1024]
def k0_off629 (v121 : BitVec 32) : Fin 3 → Nat :=
  let c1_i32_44 : BitVec 32 := 1#32
  let v123 : BitVec 32 := Scalar.andi v121 c1_i32_44
  let v2118 : Index := Scalar.indexCast v123
  let c4_740 : Index := 4#32
  let c1024_741 : Index := 1024#32
  ![v2118.toNat, 4, 1024]
def k0_off630 (v121 : BitVec 32) : Fin 3 → Nat :=
  let c1_i32_44 : BitVec 32 := 1#32
  let v123 : BitVec 32 := Scalar.andi v121 c1_i32_44
  let v2124 : Index := Scalar.indexCast v123
  let c5_742 : Index := 5#32
  let c1024_743 : Index := 1024#32
  ![v2124.toNat, 5, 1024]
def k0_off631 (v121 : BitVec 32) : Fin 3 → Nat :=
  let c1_i32_44 : BitVec 32 := 1#32
  let v123 : BitVec 32 := Scalar.andi v121 c1_i32_44
  let v2130 : Index := Scalar.indexCast v123
  let c6_744 : Index := 6#32
  let c1024_745 : Index := 1024#32
  ![v2130.toNat, 6, 1024]
def k0_off632 (v121 : BitVec 32) : Fin 3 → Nat :=
  let c1_i32_44 : BitVec 32 := 1#32
  let v123 : BitVec 32 := Scalar.andi v121 c1_i32_44
  let v2136 : Index := Scalar.indexCast v123
  let c7_746 : Index := 7#32
  let c1024_747 : Index := 1024#32
  ![v2136.toNat, 7, 1024]
def k0_off633 (v121 : BitVec 32) : Fin 3 → Nat :=
  let c1_i32_44 : BitVec 32 := 1#32
  let v123 : BitVec 32 := Scalar.andi v121 c1_i32_44
  let v2142 : Index := Scalar.indexCast v123
  let c8_748 : Index := 8#32
  let c1024_749 : Index := 1024#32
  ![v2142.toNat, 8, 1024]
def k0_off634 (v121 : BitVec 32) : Fin 3 → Nat :=
  let c1_i32_44 : BitVec 32 := 1#32
  let v123 : BitVec 32 := Scalar.andi v121 c1_i32_44
  let v2148 : Index := Scalar.indexCast v123
  let c9_750 : Index := 9#32
  let c1024_751 : Index := 1024#32
  ![v2148.toNat, 9, 1024]
def k0_off635 (v121 : BitVec 32) : Fin 3 → Nat :=
  let c1_i32_44 : BitVec 32 := 1#32
  let v123 : BitVec 32 := Scalar.andi v121 c1_i32_44
  let v2154 : Index := Scalar.indexCast v123
  let c10_752 : Index := 10#32
  let c1024_753 : Index := 1024#32
  ![v2154.toNat, 10, 1024]
def k0_off636 (v115 : BitVec 32) : Fin 2 → Nat :=
  let v122 : BitVec 32 := v115
  let v2162 : Index := Scalar.indexCast v122
  let c1024_755 : Index := 1024#32
  ![v2162.toNat, 1024]
def k0_off637 (v115 : BitVec 32) : Fin 2 → Nat :=
  let v122 : BitVec 32 := v115
  let v2172 : Index := Scalar.indexCast v122
  let c1152_757 : Index := 1152#32
  ![v2172.toNat, 1152]
def k0_off638 (v121 : BitVec 32) : Fin 3 → Nat :=
  let c1_i32_44 : BitVec 32 := 1#32
  let v123 : BitVec 32 := Scalar.andi v121 c1_i32_44
  let v2182 : Index := Scalar.indexCast v123
  let c0_759 : Index := 0#32
  let c1280_760 : Index := 1280#32
  ![v2182.toNat, 0, 1280]
def k0_off639 (v121 : BitVec 32) : Fin 3 → Nat :=
  let c1_i32_44 : BitVec 32 := 1#32
  let v123 : BitVec 32 := Scalar.andi v121 c1_i32_44
  let v2203 : Index := Scalar.indexCast v123
  let c0_766 : Index := 0#32
  let c1280_767 : Index := 1280#32
  ![v2203.toNat, 0, 1280]
def k0_off640 (v121 : BitVec 32) : Fin 3 → Nat :=
  let c1_i32_44 : BitVec 32 := 1#32
  let v123 : BitVec 32 := Scalar.andi v121 c1_i32_44
  let v2209 : Index := Scalar.indexCast v123
  let c1_768 : Index := 1#32
  let c1280_769 : Index := 1280#32
  ![v2209.toNat, 1, 1280]
def k0_off641 (v121 : BitVec 32) : Fin 3 → Nat :=
  let c1_i32_44 : BitVec 32 := 1#32
  let v123 : BitVec 32 := Scalar.andi v121 c1_i32_44
  let v2215 : Index := Scalar.indexCast v123
  let c2_770 : Index := 2#32
  let c1280_771 : Index := 1280#32
  ![v2215.toNat, 2, 1280]
def k0_off642 (v121 : BitVec 32) : Fin 3 → Nat :=
  let c1_i32_44 : BitVec 32 := 1#32
  let v123 : BitVec 32 := Scalar.andi v121 c1_i32_44
  let v2221 : Index := Scalar.indexCast v123
  let c3_772 : Index := 3#32
  let c1280_773 : Index := 1280#32
  ![v2221.toNat, 3, 1280]
def k0_off643 (v121 : BitVec 32) : Fin 3 → Nat :=
  let c1_i32_44 : BitVec 32 := 1#32
  let v123 : BitVec 32 := Scalar.andi v121 c1_i32_44
  let v2227 : Index := Scalar.indexCast v123
  let c4_774 : Index := 4#32
  let c1280_775 : Index := 1280#32
  ![v2227.toNat, 4, 1280]
def k0_off644 (v121 : BitVec 32) : Fin 3 → Nat :=
  let c1_i32_44 : BitVec 32 := 1#32
  let v123 : BitVec 32 := Scalar.andi v121 c1_i32_44
  let v2233 : Index := Scalar.indexCast v123
  let c5_776 : Index := 5#32
  let c1280_777 : Index := 1280#32
  ![v2233.toNat, 5, 1280]
def k0_off645 (v121 : BitVec 32) : Fin 3 → Nat :=
  let c1_i32_44 : BitVec 32 := 1#32
  let v123 : BitVec 32 := Scalar.andi v121 c1_i32_44
  let v2239 : Index := Scalar.indexCast v123
  let c6_778 : Index := 6#32
  let c1280_779 : Index := 1280#32
  ![v2239.toNat, 6, 1280]
def k0_off646 (v121 : BitVec 32) : Fin 3 → Nat :=
  let c1_i32_44 : BitVec 32 := 1#32
  let v123 : BitVec 32 := Scalar.andi v121 c1_i32_44
  let v2245 : Index := Scalar.indexCast v123
  let c7_780 : Index := 7#32
  let c1280_781 : Index := 1280#32
  ![v2245.toNat, 7, 1280]
def k0_off647 (v121 : BitVec 32) : Fin 3 → Nat :=
  let c1_i32_44 : BitVec 32 := 1#32
  let v123 : BitVec 32 := Scalar.andi v121 c1_i32_44
  let v2251 : Index := Scalar.indexCast v123
  let c8_782 : Index := 8#32
  let c1280_783 : Index := 1280#32
  ![v2251.toNat, 8, 1280]
def k0_off648 (v121 : BitVec 32) : Fin 3 → Nat :=
  let c1_i32_44 : BitVec 32 := 1#32
  let v123 : BitVec 32 := Scalar.andi v121 c1_i32_44
  let v2257 : Index := Scalar.indexCast v123
  let c9_784 : Index := 9#32
  let c1280_785 : Index := 1280#32
  ![v2257.toNat, 9, 1280]
def k0_off649 (v121 : BitVec 32) : Fin 3 → Nat :=
  let c1_i32_44 : BitVec 32 := 1#32
  let v123 : BitVec 32 := Scalar.andi v121 c1_i32_44
  let v2263 : Index := Scalar.indexCast v123
  let c10_786 : Index := 10#32
  let c1280_787 : Index := 1280#32
  ![v2263.toNat, 10, 1280]
def k0_off650 (v115 : BitVec 32) : Fin 2 → Nat :=
  let v122 : BitVec 32 := v115
  let v2271 : Index := Scalar.indexCast v122
  let c1280_789 : Index := 1280#32
  ![v2271.toNat, 1280]
def k0_off651 (v115 : BitVec 32) : Fin 2 → Nat :=
  let v122 : BitVec 32 := v115
  let v2281 : Index := Scalar.indexCast v122
  let c1408_791 : Index := 1408#32
  ![v2281.toNat, 1408]
def k0_off652 (v121 : BitVec 32) : Fin 3 → Nat :=
  let c1_i32_44 : BitVec 32 := 1#32
  let v123 : BitVec 32 := Scalar.andi v121 c1_i32_44
  let v2291 : Index := Scalar.indexCast v123
  let c0_793 : Index := 0#32
  let c1536_794 : Index := 1536#32
  ![v2291.toNat, 0, 1536]
def k0_off653 (v121 : BitVec 32) : Fin 3 → Nat :=
  let c1_i32_44 : BitVec 32 := 1#32
  let v123 : BitVec 32 := Scalar.andi v121 c1_i32_44
  let v2312 : Index := Scalar.indexCast v123
  let c0_800 : Index := 0#32
  let c1536_801 : Index := 1536#32
  ![v2312.toNat, 0, 1536]
def k0_off654 (v121 : BitVec 32) : Fin 3 → Nat :=
  let c1_i32_44 : BitVec 32 := 1#32
  let v123 : BitVec 32 := Scalar.andi v121 c1_i32_44
  let v2318 : Index := Scalar.indexCast v123
  let c1_802 : Index := 1#32
  let c1536_803 : Index := 1536#32
  ![v2318.toNat, 1, 1536]
def k0_off655 (v121 : BitVec 32) : Fin 3 → Nat :=
  let c1_i32_44 : BitVec 32 := 1#32
  let v123 : BitVec 32 := Scalar.andi v121 c1_i32_44
  let v2324 : Index := Scalar.indexCast v123
  let c2_804 : Index := 2#32
  let c1536_805 : Index := 1536#32
  ![v2324.toNat, 2, 1536]
def k0_off656 (v121 : BitVec 32) : Fin 3 → Nat :=
  let c1_i32_44 : BitVec 32 := 1#32
  let v123 : BitVec 32 := Scalar.andi v121 c1_i32_44
  let v2330 : Index := Scalar.indexCast v123
  let c3_806 : Index := 3#32
  let c1536_807 : Index := 1536#32
  ![v2330.toNat, 3, 1536]
def k0_off657 (v121 : BitVec 32) : Fin 3 → Nat :=
  let c1_i32_44 : BitVec 32 := 1#32
  let v123 : BitVec 32 := Scalar.andi v121 c1_i32_44
  let v2336 : Index := Scalar.indexCast v123
  let c4_808 : Index := 4#32
  let c1536_809 : Index := 1536#32
  ![v2336.toNat, 4, 1536]
def k0_off658 (v121 : BitVec 32) : Fin 3 → Nat :=
  let c1_i32_44 : BitVec 32 := 1#32
  let v123 : BitVec 32 := Scalar.andi v121 c1_i32_44
  let v2342 : Index := Scalar.indexCast v123
  let c5_810 : Index := 5#32
  let c1536_811 : Index := 1536#32
  ![v2342.toNat, 5, 1536]
def k0_off659 (v121 : BitVec 32) : Fin 3 → Nat :=
  let c1_i32_44 : BitVec 32 := 1#32
  let v123 : BitVec 32 := Scalar.andi v121 c1_i32_44
  let v2348 : Index := Scalar.indexCast v123
  let c6_812 : Index := 6#32
  let c1536_813 : Index := 1536#32
  ![v2348.toNat, 6, 1536]
def k0_off660 (v121 : BitVec 32) : Fin 3 → Nat :=
  let c1_i32_44 : BitVec 32 := 1#32
  let v123 : BitVec 32 := Scalar.andi v121 c1_i32_44
  let v2354 : Index := Scalar.indexCast v123
  let c7_814 : Index := 7#32
  let c1536_815 : Index := 1536#32
  ![v2354.toNat, 7, 1536]
def k0_off661 (v121 : BitVec 32) : Fin 3 → Nat :=
  let c1_i32_44 : BitVec 32 := 1#32
  let v123 : BitVec 32 := Scalar.andi v121 c1_i32_44
  let v2360 : Index := Scalar.indexCast v123
  let c8_816 : Index := 8#32
  let c1536_817 : Index := 1536#32
  ![v2360.toNat, 8, 1536]
def k0_off662 (v121 : BitVec 32) : Fin 3 → Nat :=
  let c1_i32_44 : BitVec 32 := 1#32
  let v123 : BitVec 32 := Scalar.andi v121 c1_i32_44
  let v2366 : Index := Scalar.indexCast v123
  let c9_818 : Index := 9#32
  let c1536_819 : Index := 1536#32
  ![v2366.toNat, 9, 1536]
def k0_off663 (v121 : BitVec 32) : Fin 3 → Nat :=
  let c1_i32_44 : BitVec 32 := 1#32
  let v123 : BitVec 32 := Scalar.andi v121 c1_i32_44
  let v2372 : Index := Scalar.indexCast v123
  let c10_820 : Index := 10#32
  let c1536_821 : Index := 1536#32
  ![v2372.toNat, 10, 1536]
def k0_off664 (v115 : BitVec 32) : Fin 2 → Nat :=
  let v122 : BitVec 32 := v115
  let v2380 : Index := Scalar.indexCast v122
  let c1536_823 : Index := 1536#32
  ![v2380.toNat, 1536]
def k0_off665 (v115 : BitVec 32) : Fin 2 → Nat :=
  let v122 : BitVec 32 := v115
  let v2390 : Index := Scalar.indexCast v122
  let c1664_825 : Index := 1664#32
  ![v2390.toNat, 1664]
def k0_off666 (v121 : BitVec 32) : Fin 3 → Nat :=
  let c1_i32_44 : BitVec 32 := 1#32
  let v123 : BitVec 32 := Scalar.andi v121 c1_i32_44
  let v2400 : Index := Scalar.indexCast v123
  let c0_827 : Index := 0#32
  let c1792_828 : Index := 1792#32
  ![v2400.toNat, 0, 1792]
def k0_off667 (v121 : BitVec 32) : Fin 3 → Nat :=
  let c1_i32_44 : BitVec 32 := 1#32
  let v123 : BitVec 32 := Scalar.andi v121 c1_i32_44
  let v2421 : Index := Scalar.indexCast v123
  let c0_834 : Index := 0#32
  let c1792_835 : Index := 1792#32
  ![v2421.toNat, 0, 1792]
def k0_off668 (v121 : BitVec 32) : Fin 3 → Nat :=
  let c1_i32_44 : BitVec 32 := 1#32
  let v123 : BitVec 32 := Scalar.andi v121 c1_i32_44
  let v2427 : Index := Scalar.indexCast v123
  let c1_836 : Index := 1#32
  let c1792_837 : Index := 1792#32
  ![v2427.toNat, 1, 1792]
def k0_off669 (v121 : BitVec 32) : Fin 3 → Nat :=
  let c1_i32_44 : BitVec 32 := 1#32
  let v123 : BitVec 32 := Scalar.andi v121 c1_i32_44
  let v2433 : Index := Scalar.indexCast v123
  let c2_838 : Index := 2#32
  let c1792_839 : Index := 1792#32
  ![v2433.toNat, 2, 1792]
def k0_off670 (v121 : BitVec 32) : Fin 3 → Nat :=
  let c1_i32_44 : BitVec 32 := 1#32
  let v123 : BitVec 32 := Scalar.andi v121 c1_i32_44
  let v2439 : Index := Scalar.indexCast v123
  let c3_840 : Index := 3#32
  let c1792_841 : Index := 1792#32
  ![v2439.toNat, 3, 1792]
def k0_off671 (v121 : BitVec 32) : Fin 3 → Nat :=
  let c1_i32_44 : BitVec 32 := 1#32
  let v123 : BitVec 32 := Scalar.andi v121 c1_i32_44
  let v2445 : Index := Scalar.indexCast v123
  let c4_842 : Index := 4#32
  let c1792_843 : Index := 1792#32
  ![v2445.toNat, 4, 1792]
def k0_off672 (v121 : BitVec 32) : Fin 3 → Nat :=
  let c1_i32_44 : BitVec 32 := 1#32
  let v123 : BitVec 32 := Scalar.andi v121 c1_i32_44
  let v2451 : Index := Scalar.indexCast v123
  let c5_844 : Index := 5#32
  let c1792_845 : Index := 1792#32
  ![v2451.toNat, 5, 1792]
def k0_off673 (v121 : BitVec 32) : Fin 3 → Nat :=
  let c1_i32_44 : BitVec 32 := 1#32
  let v123 : BitVec 32 := Scalar.andi v121 c1_i32_44
  let v2457 : Index := Scalar.indexCast v123
  let c6_846 : Index := 6#32
  let c1792_847 : Index := 1792#32
  ![v2457.toNat, 6, 1792]
def k0_off674 (v121 : BitVec 32) : Fin 3 → Nat :=
  let c1_i32_44 : BitVec 32 := 1#32
  let v123 : BitVec 32 := Scalar.andi v121 c1_i32_44
  let v2463 : Index := Scalar.indexCast v123
  let c7_848 : Index := 7#32
  let c1792_849 : Index := 1792#32
  ![v2463.toNat, 7, 1792]
def k0_off675 (v121 : BitVec 32) : Fin 3 → Nat :=
  let c1_i32_44 : BitVec 32 := 1#32
  let v123 : BitVec 32 := Scalar.andi v121 c1_i32_44
  let v2469 : Index := Scalar.indexCast v123
  let c8_850 : Index := 8#32
  let c1792_851 : Index := 1792#32
  ![v2469.toNat, 8, 1792]
def k0_off676 (v121 : BitVec 32) : Fin 3 → Nat :=
  let c1_i32_44 : BitVec 32 := 1#32
  let v123 : BitVec 32 := Scalar.andi v121 c1_i32_44
  let v2475 : Index := Scalar.indexCast v123
  let c9_852 : Index := 9#32
  let c1792_853 : Index := 1792#32
  ![v2475.toNat, 9, 1792]
def k0_off677 (v121 : BitVec 32) : Fin 3 → Nat :=
  let c1_i32_44 : BitVec 32 := 1#32
  let v123 : BitVec 32 := Scalar.andi v121 c1_i32_44
  let v2481 : Index := Scalar.indexCast v123
  let c10_854 : Index := 10#32
  let c1792_855 : Index := 1792#32
  ![v2481.toNat, 10, 1792]

def k0_chk15_0 (v121 : BitVec 32) : Prop :=
  (∀ a, (k0_off380 v121) a + S1x1024x256.size a ≤ S2x1024x2816.size a) ∧
  (∀ a, (k0_off381 v121) a + S1x1x256.size a ≤ S2x16x2816.size a) ∧
  (∀ a, (k0_off382 v121) a + S1x1x256.size a ≤ S2x16x2816.size a) ∧
  (∀ a, (k0_off383 v121) a + S1x1x256.size a ≤ S2x16x2816.size a) ∧
  (∀ a, (k0_off384 v121) a + S1x1x256.size a ≤ S2x16x2816.size a) ∧
  (∀ a, (k0_off385 v121) a + S1x1x256.size a ≤ S2x16x2816.size a) ∧
  (∀ a, (k0_off386 v121) a + S1x1x256.size a ≤ S2x16x2816.size a) ∧
  (∀ a, (k0_off387 v121) a + S1x1x256.size a ≤ S2x16x2816.size a) ∧
  (∀ a, (k0_off388 v121) a + S1x1x256.size a ≤ S2x16x2816.size a) ∧
  (∀ a, (k0_off389 v121) a + S1x1x256.size a ≤ S2x16x2816.size a) ∧
  (∀ a, (k0_off390 v121) a + S1x1x256.size a ≤ S2x16x2816.size a) ∧
  (∀ a, (k0_off391 v121) a + S1x1x256.size a ≤ S2x16x2816.size a) ∧
  (∀ a, (k0_off392 v121) a + S1x1x256.size a ≤ S2x16x2816.size a) ∧
  (∀ a, (k0_off393 v121) a + S1x1x256.size a ≤ S2x16x2816.size a) ∧
  (∀ a, (k0_off394 v121) a + S1x1x256.size a ≤ S2x16x2816.size a) ∧
  (∀ a, (k0_off395 v121) a + S1x1x256.size a ≤ S2x16x2816.size a) ∧
  (∀ a, (k0_off396 v121) a + S1x1x256.size a ≤ S2x16x2816.size a) ∧
  (∀ a, (k0_off397 v121) a + S1x1024x256.size a ≤ S2x1024x2816.size a) ∧
  (∀ a, (k0_off398 v121) a + S1x1x256.size a ≤ S2x16x2816.size a) ∧
  (∀ a, (k0_off399 v121) a + S1x1x256.size a ≤ S2x16x2816.size a) ∧
  (∀ a, (k0_off400 v121) a + S1x1x256.size a ≤ S2x16x2816.size a) ∧
  (∀ a, (k0_off401 v121) a + S1x1x256.size a ≤ S2x16x2816.size a) ∧
  (∀ a, (k0_off402 v121) a + S1x1x256.size a ≤ S2x16x2816.size a) ∧
  (∀ a, (k0_off403 v121) a + S1x1x256.size a ≤ S2x16x2816.size a) ∧
  (∀ a, (k0_off404 v121) a + S1x1x256.size a ≤ S2x16x2816.size a) ∧
  (∀ a, (k0_off405 v121) a + S1x1x256.size a ≤ S2x16x2816.size a) ∧
  (∀ a, (k0_off406 v121) a + S1x1x256.size a ≤ S2x16x2816.size a) ∧
  (∀ a, (k0_off407 v121) a + S1x1x256.size a ≤ S2x16x2816.size a) ∧
  (∀ a, (k0_off408 v121) a + S1x1x256.size a ≤ S2x16x2816.size a) ∧
  (∀ a, (k0_off409 v121) a + S1x1x256.size a ≤ S2x16x2816.size a) ∧
  (∀ a, (k0_off410 v121) a + S1x1x256.size a ≤ S2x16x2816.size a) ∧
  (∀ a, (k0_off411 v121) a + S1x1x256.size a ≤ S2x16x2816.size a)
def k0_chk15_1 (v121 : BitVec 32) : Prop :=
  (∀ a, (k0_off412 v121) a + S1x1x256.size a ≤ S2x16x2816.size a) ∧
  (∀ a, (k0_off413 v121) a + S1x1x256.size a ≤ S2x16x2816.size a) ∧
  (∀ a, (k0_off414 v121) a + S1x1024x256.size a ≤ S2x1024x2816.size a) ∧
  (∀ a, (k0_off415 v121) a + S1x1x256.size a ≤ S2x16x2816.size a) ∧
  (∀ a, (k0_off416 v121) a + S1x1x256.size a ≤ S2x16x2816.size a) ∧
  (∀ a, (k0_off417 v121) a + S1x1x256.size a ≤ S2x16x2816.size a) ∧
  (∀ a, (k0_off418 v121) a + S1x1x256.size a ≤ S2x16x2816.size a) ∧
  (∀ a, (k0_off419 v121) a + S1x1x256.size a ≤ S2x16x2816.size a) ∧
  (∀ a, (k0_off420 v121) a + S1x1x256.size a ≤ S2x16x2816.size a) ∧
  (∀ a, (k0_off421 v121) a + S1x1x256.size a ≤ S2x16x2816.size a) ∧
  (∀ a, (k0_off422 v121) a + S1x1x256.size a ≤ S2x16x2816.size a) ∧
  (∀ a, (k0_off423 v121) a + S1x1x256.size a ≤ S2x16x2816.size a) ∧
  (∀ a, (k0_off424 v121) a + S1x1x256.size a ≤ S2x16x2816.size a) ∧
  (∀ a, (k0_off425 v121) a + S1x1x256.size a ≤ S2x16x2816.size a) ∧
  (∀ a, (k0_off426 v121) a + S1x1x256.size a ≤ S2x16x2816.size a) ∧
  (∀ a, (k0_off427 v121) a + S1x1x256.size a ≤ S2x16x2816.size a) ∧
  (∀ a, (k0_off428 v121) a + S1x1x256.size a ≤ S2x16x2816.size a) ∧
  (∀ a, (k0_off429 v121) a + S1x1x256.size a ≤ S2x16x2816.size a) ∧
  (∀ a, (k0_off430 v121) a + S1x1x256.size a ≤ S2x16x2816.size a) ∧
  (∀ a, (k0_off431 v121) a + S1x1024x256.size a ≤ S2x1024x2816.size a) ∧
  (∀ a, (k0_off432 v121) a + S1x1x256.size a ≤ S2x16x2816.size a) ∧
  (∀ a, (k0_off433 v121) a + S1x1x256.size a ≤ S2x16x2816.size a) ∧
  (∀ a, (k0_off434 v121) a + S1x1x256.size a ≤ S2x16x2816.size a) ∧
  (∀ a, (k0_off435 v121) a + S1x1x256.size a ≤ S2x16x2816.size a) ∧
  (∀ a, (k0_off436 v121) a + S1x1x256.size a ≤ S2x16x2816.size a) ∧
  (∀ a, (k0_off437 v121) a + S1x1x256.size a ≤ S2x16x2816.size a) ∧
  (∀ a, (k0_off438 v121) a + S1x1x256.size a ≤ S2x16x2816.size a) ∧
  (∀ a, (k0_off439 v121) a + S1x1x256.size a ≤ S2x16x2816.size a) ∧
  (∀ a, (k0_off440 v121) a + S1x1x256.size a ≤ S2x16x2816.size a) ∧
  (∀ a, (k0_off441 v121) a + S1x1x256.size a ≤ S2x16x2816.size a) ∧
  (∀ a, (k0_off442 v121) a + S1x1x256.size a ≤ S2x16x2816.size a) ∧
  (∀ a, (k0_off443 v121) a + S1x1x256.size a ≤ S2x16x2816.size a)
def k0_chk15_2 (v121 : BitVec 32) : Prop :=
  (∀ a, (k0_off444 v121) a + S1x1x256.size a ≤ S2x16x2816.size a) ∧
  (∀ a, (k0_off445 v121) a + S1x1x256.size a ≤ S2x16x2816.size a) ∧
  (∀ a, (k0_off446 v121) a + S1x1x256.size a ≤ S2x16x2816.size a) ∧
  (∀ a, (k0_off447 v121) a + S1x1x256.size a ≤ S2x16x2816.size a) ∧
  (∀ a, (k0_off448 v121) a + S1x1024x256.size a ≤ S2x1024x2816.size a) ∧
  (∀ a, (k0_off449 v121) a + S1x1x256.size a ≤ S2x16x2816.size a) ∧
  (∀ a, (k0_off450 v121) a + S1x1x256.size a ≤ S2x16x2816.size a) ∧
  (∀ a, (k0_off451 v121) a + S1x1x256.size a ≤ S2x16x2816.size a) ∧
  (∀ a, (k0_off452 v121) a + S1x1x256.size a ≤ S2x16x2816.size a) ∧
  (∀ a, (k0_off453 v121) a + S1x1x256.size a ≤ S2x16x2816.size a) ∧
  (∀ a, (k0_off454 v121) a + S1x1x256.size a ≤ S2x16x2816.size a) ∧
  (∀ a, (k0_off455 v121) a + S1x1x256.size a ≤ S2x16x2816.size a) ∧
  (∀ a, (k0_off456 v121) a + S1x1x256.size a ≤ S2x16x2816.size a) ∧
  (∀ a, (k0_off457 v121) a + S1x1x256.size a ≤ S2x16x2816.size a) ∧
  (∀ a, (k0_off458 v121) a + S1x1x256.size a ≤ S2x16x2816.size a) ∧
  (∀ a, (k0_off459 v121) a + S1x1x256.size a ≤ S2x16x2816.size a) ∧
  (∀ a, (k0_off460 v121) a + S1x1x256.size a ≤ S2x16x2816.size a) ∧
  (∀ a, (k0_off461 v121) a + S1x1x256.size a ≤ S2x16x2816.size a) ∧
  (∀ a, (k0_off462 v121) a + S1x1x256.size a ≤ S2x16x2816.size a) ∧
  (∀ a, (k0_off463 v121) a + S1x1x256.size a ≤ S2x16x2816.size a) ∧
  (∀ a, (k0_off464 v121) a + S1x1x256.size a ≤ S2x16x2816.size a) ∧
  (∀ a, (k0_off465 v121) a + S1x1024x256.size a ≤ S2x1024x2816.size a) ∧
  (∀ a, (k0_off466 v121) a + S1x1x256.size a ≤ S2x16x2816.size a) ∧
  (∀ a, (k0_off467 v121) a + S1x1x256.size a ≤ S2x16x2816.size a) ∧
  (∀ a, (k0_off468 v121) a + S1x1x256.size a ≤ S2x16x2816.size a) ∧
  (∀ a, (k0_off469 v121) a + S1x1x256.size a ≤ S2x16x2816.size a) ∧
  (∀ a, (k0_off470 v121) a + S1x1x256.size a ≤ S2x16x2816.size a) ∧
  (∀ a, (k0_off471 v121) a + S1x1x256.size a ≤ S2x16x2816.size a) ∧
  (∀ a, (k0_off472 v121) a + S1x1x256.size a ≤ S2x16x2816.size a) ∧
  (∀ a, (k0_off473 v121) a + S1x1x256.size a ≤ S2x16x2816.size a) ∧
  (∀ a, (k0_off474 v121) a + S1x1x256.size a ≤ S2x16x2816.size a) ∧
  (∀ a, (k0_off475 v121) a + S1x1x256.size a ≤ S2x16x2816.size a)
def k0_chk15_3 (v121 : BitVec 32) : Prop :=
  (∀ a, (k0_off476 v121) a + S1x1x256.size a ≤ S2x16x2816.size a) ∧
  (∀ a, (k0_off477 v121) a + S1x1x256.size a ≤ S2x16x2816.size a) ∧
  (∀ a, (k0_off478 v121) a + S1x1x256.size a ≤ S2x16x2816.size a) ∧
  (∀ a, (k0_off479 v121) a + S1x1x256.size a ≤ S2x16x2816.size a) ∧
  (∀ a, (k0_off480 v121) a + S1x1x256.size a ≤ S2x16x2816.size a) ∧
  (∀ a, (k0_off481 v121) a + S1x1x256.size a ≤ S2x16x2816.size a) ∧
  (∀ a, (k0_off482 v121) a + S1x1024x256.size a ≤ S2x1024x2816.size a) ∧
  (∀ a, (k0_off483 v121) a + S1x1x256.size a ≤ S2x16x2816.size a) ∧
  (∀ a, (k0_off484 v121) a + S1x1x256.size a ≤ S2x16x2816.size a) ∧
  (∀ a, (k0_off485 v121) a + S1x1x256.size a ≤ S2x16x2816.size a) ∧
  (∀ a, (k0_off486 v121) a + S1x1x256.size a ≤ S2x16x2816.size a) ∧
  (∀ a, (k0_off487 v121) a + S1x1x256.size a ≤ S2x16x2816.size a) ∧
  (∀ a, (k0_off488 v121) a + S1x1x256.size a ≤ S2x16x2816.size a) ∧
  (∀ a, (k0_off489 v121) a + S1x1x256.size a ≤ S2x16x2816.size a) ∧
  (∀ a, (k0_off490 v121) a + S1x1x256.size a ≤ S2x16x2816.size a) ∧
  (∀ a, (k0_off491 v121) a + S1x1x256.size a ≤ S2x16x2816.size a) ∧
  (∀ a, (k0_off492 v121) a + S1x1x256.size a ≤ S2x16x2816.size a) ∧
  (∀ a, (k0_off493 v121) a + S1x1x256.size a ≤ S2x16x2816.size a) ∧
  (∀ a, (k0_off494 v121) a + S1x1x256.size a ≤ S2x16x2816.size a) ∧
  (∀ a, (k0_off495 v121) a + S1x1x256.size a ≤ S2x16x2816.size a) ∧
  (∀ a, (k0_off496 v121) a + S1x1x256.size a ≤ S2x16x2816.size a) ∧
  (∀ a, (k0_off497 v121) a + S1x1x256.size a ≤ S2x16x2816.size a) ∧
  (∀ a, (k0_off498 v121) a + S1x1x256.size a ≤ S2x16x2816.size a) ∧
  (∀ a, (k0_off499 v121) a + S1x1024x256.size a ≤ S2x1024x2816.size a) ∧
  (∀ a, (k0_off500 v121) a + S1x1x256.size a ≤ S2x16x2816.size a) ∧
  (∀ a, (k0_off501 v121) a + S1x1x256.size a ≤ S2x16x2816.size a) ∧
  (∀ a, (k0_off502 v121) a + S1x1x256.size a ≤ S2x16x2816.size a) ∧
  (∀ a, (k0_off503 v121) a + S1x1x256.size a ≤ S2x16x2816.size a) ∧
  (∀ a, (k0_off504 v121) a + S1x1x256.size a ≤ S2x16x2816.size a) ∧
  (∀ a, (k0_off505 v121) a + S1x1x256.size a ≤ S2x16x2816.size a) ∧
  (∀ a, (k0_off506 v121) a + S1x1x256.size a ≤ S2x16x2816.size a) ∧
  (∀ a, (k0_off507 v121) a + S1x1x256.size a ≤ S2x16x2816.size a)
def k0_chk15_4 (v121 : BitVec 32) : Prop :=
  (∀ a, (k0_off508 v121) a + S1x1x256.size a ≤ S2x16x2816.size a) ∧
  (∀ a, (k0_off509 v121) a + S1x1x256.size a ≤ S2x16x2816.size a) ∧
  (∀ a, (k0_off510 v121) a + S1x1x256.size a ≤ S2x16x2816.size a) ∧
  (∀ a, (k0_off511 v121) a + S1x1x256.size a ≤ S2x16x2816.size a) ∧
  (∀ a, (k0_off512 v121) a + S1x1x256.size a ≤ S2x16x2816.size a) ∧
  (∀ a, (k0_off513 v121) a + S1x1x256.size a ≤ S2x16x2816.size a) ∧
  (∀ a, (k0_off514 v121) a + S1x1x256.size a ≤ S2x16x2816.size a) ∧
  (∀ a, (k0_off515 v121) a + S1x1x256.size a ≤ S2x16x2816.size a) ∧
  (∀ a, (k0_off516 v121) a + S1x1024x256.size a ≤ S2x1024x2816.size a) ∧
  (∀ a, (k0_off517 v121) a + S1x1x256.size a ≤ S2x16x2816.size a) ∧
  (∀ a, (k0_off518 v121) a + S1x1x256.size a ≤ S2x16x2816.size a) ∧
  (∀ a, (k0_off519 v121) a + S1x1x256.size a ≤ S2x16x2816.size a) ∧
  (∀ a, (k0_off520 v121) a + S1x1x256.size a ≤ S2x16x2816.size a) ∧
  (∀ a, (k0_off521 v121) a + S1x1x256.size a ≤ S2x16x2816.size a) ∧
  (∀ a, (k0_off522 v121) a + S1x1x256.size a ≤ S2x16x2816.size a) ∧
  (∀ a, (k0_off523 v121) a + S1x1x256.size a ≤ S2x16x2816.size a) ∧
  (∀ a, (k0_off524 v121) a + S1x1x256.size a ≤ S2x16x2816.size a) ∧
  (∀ a, (k0_off525 v121) a + S1x1x256.size a ≤ S2x16x2816.size a) ∧
  (∀ a, (k0_off526 v121) a + S1x1x256.size a ≤ S2x16x2816.size a) ∧
  (∀ a, (k0_off527 v121) a + S1x1x256.size a ≤ S2x16x2816.size a) ∧
  (∀ a, (k0_off528 v121) a + S1x1x256.size a ≤ S2x16x2816.size a) ∧
  (∀ a, (k0_off529 v121) a + S1x1x256.size a ≤ S2x16x2816.size a) ∧
  (∀ a, (k0_off530 v121) a + S1x1x256.size a ≤ S2x16x2816.size a) ∧
  (∀ a, (k0_off531 v121) a + S1x1x256.size a ≤ S2x16x2816.size a) ∧
  (∀ a, (k0_off532 v121) a + S1x1x256.size a ≤ S2x16x2816.size a) ∧
  (∀ a, (k0_off533 v121) a + S1x1024x256.size a ≤ S2x1024x2816.size a) ∧
  (∀ a, (k0_off534 v121) a + S1x1x256.size a ≤ S2x16x2816.size a) ∧
  (∀ a, (k0_off535 v121) a + S1x1x256.size a ≤ S2x16x2816.size a) ∧
  (∀ a, (k0_off536 v121) a + S1x1x256.size a ≤ S2x16x2816.size a) ∧
  (∀ a, (k0_off537 v121) a + S1x1x256.size a ≤ S2x16x2816.size a) ∧
  (∀ a, (k0_off538 v121) a + S1x1x256.size a ≤ S2x16x2816.size a) ∧
  (∀ a, (k0_off539 v121) a + S1x1x256.size a ≤ S2x16x2816.size a)
def k0_chk15_5 (v121 : BitVec 32) : Prop :=
  (∀ a, (k0_off540 v121) a + S1x1x256.size a ≤ S2x16x2816.size a) ∧
  (∀ a, (k0_off541 v121) a + S1x1x256.size a ≤ S2x16x2816.size a) ∧
  (∀ a, (k0_off542 v121) a + S1x1x256.size a ≤ S2x16x2816.size a) ∧
  (∀ a, (k0_off543 v121) a + S1x1x256.size a ≤ S2x16x2816.size a) ∧
  (∀ a, (k0_off544 v121) a + S1x1x256.size a ≤ S2x16x2816.size a) ∧
  (∀ a, (k0_off545 v121) a + S1x1x256.size a ≤ S2x16x2816.size a) ∧
  (∀ a, (k0_off546 v121) a + S1x1x256.size a ≤ S2x16x2816.size a) ∧
  (∀ a, (k0_off547 v121) a + S1x1x256.size a ≤ S2x16x2816.size a) ∧
  (∀ a, (k0_off548 v121) a + S1x1x256.size a ≤ S2x16x2816.size a) ∧
  (∀ a, (k0_off549 v121) a + S1x1x256.size a ≤ S2x16x2816.size a) ∧
  (∀ a, (k0_off550 v121) a + S1x1024x256.size a ≤ S2x1024x2816.size a) ∧
  (∀ a, (k0_off551 v121) a + S1x1x256.size a ≤ S2x16x2816.size a) ∧
  (∀ a, (k0_off552 v121) a + S1x1x256.size a ≤ S2x16x2816.size a) ∧
  (∀ a, (k0_off553 v121) a + S1x1x256.size a ≤ S2x16x2816.size a) ∧
  (∀ a, (k0_off554 v121) a + S1x1x256.size a ≤ S2x16x2816.size a) ∧
  (∀ a, (k0_off555 v121) a + S1x1x256.size a ≤ S2x16x2816.size a) ∧
  (∀ a, (k0_off556 v121) a + S1x1x256.size a ≤ S2x16x2816.size a) ∧
  (∀ a, (k0_off557 v121) a + S1x1x256.size a ≤ S2x16x2816.size a) ∧
  (∀ a, (k0_off558 v121) a + S1x1x256.size a ≤ S2x16x2816.size a) ∧
  (∀ a, (k0_off559 v121) a + S1x1x256.size a ≤ S2x16x2816.size a) ∧
  (∀ a, (k0_off560 v121) a + S1x1x256.size a ≤ S2x16x2816.size a) ∧
  (∀ a, (k0_off561 v121) a + S1x1x256.size a ≤ S2x16x2816.size a) ∧
  (∀ a, (k0_off562 v121) a + S1x1x256.size a ≤ S2x16x2816.size a) ∧
  (∀ a, (k0_off563 v121) a + S1x1x256.size a ≤ S2x16x2816.size a) ∧
  (∀ a, (k0_off564 v121) a + S1x1x256.size a ≤ S2x16x2816.size a) ∧
  (∀ a, (k0_off565 v121) a + S1x1x256.size a ≤ S2x16x2816.size a) ∧
  (∀ a, (k0_off566 v121) a + S1x1x256.size a ≤ S2x16x2816.size a) ∧
  (∀ a, (k0_off568 v121) a + S1x704x256.size a ≤ S2x704x2048.size a) ∧
  (∀ a, (k0_off569 v121) a + S1x1x256.size a ≤ S2x11x2048.size a) ∧
  (∀ a, (k0_off570 v121) a + S1x1x256.size a ≤ S2x11x2048.size a) ∧
  (∀ a, (k0_off571 v121) a + S1x1x256.size a ≤ S2x11x2048.size a) ∧
  (∀ a, (k0_off572 v121) a + S1x1x256.size a ≤ S2x11x2048.size a)
def k0_chk15_6 (v121 : BitVec 32) : Prop :=
  (∀ a, (k0_off573 v121) a + S1x1x256.size a ≤ S2x11x2048.size a) ∧
  (∀ a, (k0_off574 v121) a + S1x1x256.size a ≤ S2x11x2048.size a) ∧
  (∀ a, (k0_off575 v121) a + S1x1x256.size a ≤ S2x11x2048.size a) ∧
  (∀ a, (k0_off576 v121) a + S1x1x256.size a ≤ S2x11x2048.size a) ∧
  (∀ a, (k0_off577 v121) a + S1x1x256.size a ≤ S2x11x2048.size a) ∧
  (∀ a, (k0_off578 v121) a + S1x1x256.size a ≤ S2x11x2048.size a) ∧
  (∀ a, (k0_off579 v121) a + S1x1x256.size a ≤ S2x11x2048.size a) ∧
  (∀ a, (k0_off582 v121) a + S1x704x256.size a ≤ S2x704x2048.size a) ∧
  (∀ a, (k0_off583 v121) a + S1x1x256.size a ≤ S2x11x2048.size a) ∧
  (∀ a, (k0_off584 v121) a + S1x1x256.size a ≤ S2x11x2048.size a) ∧
  (∀ a, (k0_off585 v121) a + S1x1x256.size a ≤ S2x11x2048.size a) ∧
  (∀ a, (k0_off586 v121) a + S1x1x256.size a ≤ S2x11x2048.size a) ∧
  (∀ a, (k0_off587 v121) a + S1x1x256.size a ≤ S2x11x2048.size a) ∧
  (∀ a, (k0_off588 v121) a + S1x1x256.size a ≤ S2x11x2048.size a) ∧
  (∀ a, (k0_off589 v121) a + S1x1x256.size a ≤ S2x11x2048.size a) ∧
  (∀ a, (k0_off590 v121) a + S1x1x256.size a ≤ S2x11x2048.size a) ∧
  (∀ a, (k0_off591 v121) a + S1x1x256.size a ≤ S2x11x2048.size a) ∧
  (∀ a, (k0_off592 v121) a + S1x1x256.size a ≤ S2x11x2048.size a) ∧
  (∀ a, (k0_off593 v121) a + S1x1x256.size a ≤ S2x11x2048.size a) ∧
  (∀ a, (k0_off596 v121) a + S1x704x256.size a ≤ S2x704x2048.size a) ∧
  (∀ a, (k0_off597 v121) a + S1x1x256.size a ≤ S2x11x2048.size a) ∧
  (∀ a, (k0_off598 v121) a + S1x1x256.size a ≤ S2x11x2048.size a) ∧
  (∀ a, (k0_off599 v121) a + S1x1x256.size a ≤ S2x11x2048.size a) ∧
  (∀ a, (k0_off600 v121) a + S1x1x256.size a ≤ S2x11x2048.size a) ∧
  (∀ a, (k0_off601 v121) a + S1x1x256.size a ≤ S2x11x2048.size a) ∧
  (∀ a, (k0_off602 v121) a + S1x1x256.size a ≤ S2x11x2048.size a) ∧
  (∀ a, (k0_off603 v121) a + S1x1x256.size a ≤ S2x11x2048.size a) ∧
  (∀ a, (k0_off604 v121) a + S1x1x256.size a ≤ S2x11x2048.size a) ∧
  (∀ a, (k0_off605 v121) a + S1x1x256.size a ≤ S2x11x2048.size a) ∧
  (∀ a, (k0_off606 v121) a + S1x1x256.size a ≤ S2x11x2048.size a) ∧
  (∀ a, (k0_off607 v121) a + S1x1x256.size a ≤ S2x11x2048.size a) ∧
  (∀ a, (k0_off610 v121) a + S1x704x256.size a ≤ S2x704x2048.size a)
def k0_chk15_7 (v121 : BitVec 32) : Prop :=
  (∀ a, (k0_off611 v121) a + S1x1x256.size a ≤ S2x11x2048.size a) ∧
  (∀ a, (k0_off612 v121) a + S1x1x256.size a ≤ S2x11x2048.size a) ∧
  (∀ a, (k0_off613 v121) a + S1x1x256.size a ≤ S2x11x2048.size a) ∧
  (∀ a, (k0_off614 v121) a + S1x1x256.size a ≤ S2x11x2048.size a) ∧
  (∀ a, (k0_off615 v121) a + S1x1x256.size a ≤ S2x11x2048.size a) ∧
  (∀ a, (k0_off616 v121) a + S1x1x256.size a ≤ S2x11x2048.size a) ∧
  (∀ a, (k0_off617 v121) a + S1x1x256.size a ≤ S2x11x2048.size a) ∧
  (∀ a, (k0_off618 v121) a + S1x1x256.size a ≤ S2x11x2048.size a) ∧
  (∀ a, (k0_off619 v121) a + S1x1x256.size a ≤ S2x11x2048.size a) ∧
  (∀ a, (k0_off620 v121) a + S1x1x256.size a ≤ S2x11x2048.size a) ∧
  (∀ a, (k0_off621 v121) a + S1x1x256.size a ≤ S2x11x2048.size a) ∧
  (∀ a, (k0_off624 v121) a + S1x704x256.size a ≤ S2x704x2048.size a) ∧
  (∀ a, (k0_off625 v121) a + S1x1x256.size a ≤ S2x11x2048.size a) ∧
  (∀ a, (k0_off626 v121) a + S1x1x256.size a ≤ S2x11x2048.size a) ∧
  (∀ a, (k0_off627 v121) a + S1x1x256.size a ≤ S2x11x2048.size a) ∧
  (∀ a, (k0_off628 v121) a + S1x1x256.size a ≤ S2x11x2048.size a) ∧
  (∀ a, (k0_off629 v121) a + S1x1x256.size a ≤ S2x11x2048.size a) ∧
  (∀ a, (k0_off630 v121) a + S1x1x256.size a ≤ S2x11x2048.size a) ∧
  (∀ a, (k0_off631 v121) a + S1x1x256.size a ≤ S2x11x2048.size a) ∧
  (∀ a, (k0_off632 v121) a + S1x1x256.size a ≤ S2x11x2048.size a) ∧
  (∀ a, (k0_off633 v121) a + S1x1x256.size a ≤ S2x11x2048.size a) ∧
  (∀ a, (k0_off634 v121) a + S1x1x256.size a ≤ S2x11x2048.size a) ∧
  (∀ a, (k0_off635 v121) a + S1x1x256.size a ≤ S2x11x2048.size a) ∧
  (∀ a, (k0_off638 v121) a + S1x704x256.size a ≤ S2x704x2048.size a) ∧
  (∀ a, (k0_off639 v121) a + S1x1x256.size a ≤ S2x11x2048.size a) ∧
  (∀ a, (k0_off640 v121) a + S1x1x256.size a ≤ S2x11x2048.size a) ∧
  (∀ a, (k0_off641 v121) a + S1x1x256.size a ≤ S2x11x2048.size a) ∧
  (∀ a, (k0_off642 v121) a + S1x1x256.size a ≤ S2x11x2048.size a) ∧
  (∀ a, (k0_off643 v121) a + S1x1x256.size a ≤ S2x11x2048.size a) ∧
  (∀ a, (k0_off644 v121) a + S1x1x256.size a ≤ S2x11x2048.size a) ∧
  (∀ a, (k0_off645 v121) a + S1x1x256.size a ≤ S2x11x2048.size a) ∧
  (∀ a, (k0_off646 v121) a + S1x1x256.size a ≤ S2x11x2048.size a)
def k0_chk15_8 (v121 : BitVec 32) : Prop :=
  (∀ a, (k0_off647 v121) a + S1x1x256.size a ≤ S2x11x2048.size a) ∧
  (∀ a, (k0_off648 v121) a + S1x1x256.size a ≤ S2x11x2048.size a) ∧
  (∀ a, (k0_off649 v121) a + S1x1x256.size a ≤ S2x11x2048.size a) ∧
  (∀ a, (k0_off652 v121) a + S1x704x256.size a ≤ S2x704x2048.size a) ∧
  (∀ a, (k0_off653 v121) a + S1x1x256.size a ≤ S2x11x2048.size a) ∧
  (∀ a, (k0_off654 v121) a + S1x1x256.size a ≤ S2x11x2048.size a) ∧
  (∀ a, (k0_off655 v121) a + S1x1x256.size a ≤ S2x11x2048.size a) ∧
  (∀ a, (k0_off656 v121) a + S1x1x256.size a ≤ S2x11x2048.size a) ∧
  (∀ a, (k0_off657 v121) a + S1x1x256.size a ≤ S2x11x2048.size a) ∧
  (∀ a, (k0_off658 v121) a + S1x1x256.size a ≤ S2x11x2048.size a) ∧
  (∀ a, (k0_off659 v121) a + S1x1x256.size a ≤ S2x11x2048.size a) ∧
  (∀ a, (k0_off660 v121) a + S1x1x256.size a ≤ S2x11x2048.size a) ∧
  (∀ a, (k0_off661 v121) a + S1x1x256.size a ≤ S2x11x2048.size a) ∧
  (∀ a, (k0_off662 v121) a + S1x1x256.size a ≤ S2x11x2048.size a) ∧
  (∀ a, (k0_off663 v121) a + S1x1x256.size a ≤ S2x11x2048.size a) ∧
  (∀ a, (k0_off666 v121) a + S1x704x256.size a ≤ S2x704x2048.size a) ∧
  (∀ a, (k0_off667 v121) a + S1x1x256.size a ≤ S2x11x2048.size a) ∧
  (∀ a, (k0_off668 v121) a + S1x1x256.size a ≤ S2x11x2048.size a) ∧
  (∀ a, (k0_off669 v121) a + S1x1x256.size a ≤ S2x11x2048.size a) ∧
  (∀ a, (k0_off670 v121) a + S1x1x256.size a ≤ S2x11x2048.size a) ∧
  (∀ a, (k0_off671 v121) a + S1x1x256.size a ≤ S2x11x2048.size a) ∧
  (∀ a, (k0_off672 v121) a + S1x1x256.size a ≤ S2x11x2048.size a) ∧
  (∀ a, (k0_off673 v121) a + S1x1x256.size a ≤ S2x11x2048.size a) ∧
  (∀ a, (k0_off674 v121) a + S1x1x256.size a ≤ S2x11x2048.size a) ∧
  (∀ a, (k0_off675 v121) a + S1x1x256.size a ≤ S2x11x2048.size a) ∧
  (∀ a, (k0_off676 v121) a + S1x1x256.size a ≤ S2x11x2048.size a) ∧
  (∀ a, (k0_off677 v121) a + S1x1x256.size a ≤ S2x11x2048.size a)
def k0_chk15 (v121 : BitVec 32) : Prop :=
  k0_chk15_0 v121 ∧
  k0_chk15_1 v121 ∧
  k0_chk15_2 v121 ∧
  k0_chk15_3 v121 ∧
  k0_chk15_4 v121 ∧
  k0_chk15_5 v121 ∧
  k0_chk15_6 v121 ∧
  k0_chk15_7 v121 ∧
  k0_chk15_8 v121
theorem k0_off380_inb : ∀ (v121 : BitVec 32) (k0_hw15 : k0_chk15 v121), ∀ a, (k0_off380 v121) a + S1x1024x256.size a ≤ S2x1024x2816.size a := fun v121 k0_hw15 => k0_hw15.1.1
theorem k0_off381_inb : ∀ (v121 : BitVec 32) (k0_hw15 : k0_chk15 v121), ∀ a, (k0_off381 v121) a + S1x1x256.size a ≤ S2x16x2816.size a := fun v121 k0_hw15 => k0_hw15.1.2.1
theorem k0_off382_inb : ∀ (v121 : BitVec 32) (k0_hw15 : k0_chk15 v121), ∀ a, (k0_off382 v121) a + S1x1x256.size a ≤ S2x16x2816.size a := fun v121 k0_hw15 => k0_hw15.1.2.2.1
theorem k0_off383_inb : ∀ (v121 : BitVec 32) (k0_hw15 : k0_chk15 v121), ∀ a, (k0_off383 v121) a + S1x1x256.size a ≤ S2x16x2816.size a := fun v121 k0_hw15 => k0_hw15.1.2.2.2.1
theorem k0_off384_inb : ∀ (v121 : BitVec 32) (k0_hw15 : k0_chk15 v121), ∀ a, (k0_off384 v121) a + S1x1x256.size a ≤ S2x16x2816.size a := fun v121 k0_hw15 => k0_hw15.1.2.2.2.2.1
theorem k0_off385_inb : ∀ (v121 : BitVec 32) (k0_hw15 : k0_chk15 v121), ∀ a, (k0_off385 v121) a + S1x1x256.size a ≤ S2x16x2816.size a := fun v121 k0_hw15 => k0_hw15.1.2.2.2.2.2.1
theorem k0_off386_inb : ∀ (v121 : BitVec 32) (k0_hw15 : k0_chk15 v121), ∀ a, (k0_off386 v121) a + S1x1x256.size a ≤ S2x16x2816.size a := fun v121 k0_hw15 => k0_hw15.1.2.2.2.2.2.2.1
theorem k0_off387_inb : ∀ (v121 : BitVec 32) (k0_hw15 : k0_chk15 v121), ∀ a, (k0_off387 v121) a + S1x1x256.size a ≤ S2x16x2816.size a := fun v121 k0_hw15 => k0_hw15.1.2.2.2.2.2.2.2.1
theorem k0_off388_inb : ∀ (v121 : BitVec 32) (k0_hw15 : k0_chk15 v121), ∀ a, (k0_off388 v121) a + S1x1x256.size a ≤ S2x16x2816.size a := fun v121 k0_hw15 => k0_hw15.1.2.2.2.2.2.2.2.2.1
theorem k0_off389_inb : ∀ (v121 : BitVec 32) (k0_hw15 : k0_chk15 v121), ∀ a, (k0_off389 v121) a + S1x1x256.size a ≤ S2x16x2816.size a := fun v121 k0_hw15 => k0_hw15.1.2.2.2.2.2.2.2.2.2.1
theorem k0_off390_inb : ∀ (v121 : BitVec 32) (k0_hw15 : k0_chk15 v121), ∀ a, (k0_off390 v121) a + S1x1x256.size a ≤ S2x16x2816.size a := fun v121 k0_hw15 => k0_hw15.1.2.2.2.2.2.2.2.2.2.2.1
theorem k0_off391_inb : ∀ (v121 : BitVec 32) (k0_hw15 : k0_chk15 v121), ∀ a, (k0_off391 v121) a + S1x1x256.size a ≤ S2x16x2816.size a := fun v121 k0_hw15 => k0_hw15.1.2.2.2.2.2.2.2.2.2.2.2.1
theorem k0_off392_inb : ∀ (v121 : BitVec 32) (k0_hw15 : k0_chk15 v121), ∀ a, (k0_off392 v121) a + S1x1x256.size a ≤ S2x16x2816.size a := fun v121 k0_hw15 => k0_hw15.1.2.2.2.2.2.2.2.2.2.2.2.2.1
theorem k0_off393_inb : ∀ (v121 : BitVec 32) (k0_hw15 : k0_chk15 v121), ∀ a, (k0_off393 v121) a + S1x1x256.size a ≤ S2x16x2816.size a := fun v121 k0_hw15 => k0_hw15.1.2.2.2.2.2.2.2.2.2.2.2.2.2.1
theorem k0_off394_inb : ∀ (v121 : BitVec 32) (k0_hw15 : k0_chk15 v121), ∀ a, (k0_off394 v121) a + S1x1x256.size a ≤ S2x16x2816.size a := fun v121 k0_hw15 => k0_hw15.1.2.2.2.2.2.2.2.2.2.2.2.2.2.2.1
theorem k0_off395_inb : ∀ (v121 : BitVec 32) (k0_hw15 : k0_chk15 v121), ∀ a, (k0_off395 v121) a + S1x1x256.size a ≤ S2x16x2816.size a := fun v121 k0_hw15 => k0_hw15.1.2.2.2.2.2.2.2.2.2.2.2.2.2.2.2.1
theorem k0_off396_inb : ∀ (v121 : BitVec 32) (k0_hw15 : k0_chk15 v121), ∀ a, (k0_off396 v121) a + S1x1x256.size a ≤ S2x16x2816.size a := fun v121 k0_hw15 => k0_hw15.1.2.2.2.2.2.2.2.2.2.2.2.2.2.2.2.2.1
theorem k0_off397_inb : ∀ (v121 : BitVec 32) (k0_hw15 : k0_chk15 v121), ∀ a, (k0_off397 v121) a + S1x1024x256.size a ≤ S2x1024x2816.size a := fun v121 k0_hw15 => k0_hw15.1.2.2.2.2.2.2.2.2.2.2.2.2.2.2.2.2.2.1
theorem k0_off398_inb : ∀ (v121 : BitVec 32) (k0_hw15 : k0_chk15 v121), ∀ a, (k0_off398 v121) a + S1x1x256.size a ≤ S2x16x2816.size a := fun v121 k0_hw15 => k0_hw15.1.2.2.2.2.2.2.2.2.2.2.2.2.2.2.2.2.2.2.1
theorem k0_off399_inb : ∀ (v121 : BitVec 32) (k0_hw15 : k0_chk15 v121), ∀ a, (k0_off399 v121) a + S1x1x256.size a ≤ S2x16x2816.size a := fun v121 k0_hw15 => k0_hw15.1.2.2.2.2.2.2.2.2.2.2.2.2.2.2.2.2.2.2.2.1
theorem k0_off400_inb : ∀ (v121 : BitVec 32) (k0_hw15 : k0_chk15 v121), ∀ a, (k0_off400 v121) a + S1x1x256.size a ≤ S2x16x2816.size a := fun v121 k0_hw15 => k0_hw15.1.2.2.2.2.2.2.2.2.2.2.2.2.2.2.2.2.2.2.2.2.1
theorem k0_off401_inb : ∀ (v121 : BitVec 32) (k0_hw15 : k0_chk15 v121), ∀ a, (k0_off401 v121) a + S1x1x256.size a ≤ S2x16x2816.size a := fun v121 k0_hw15 => k0_hw15.1.2.2.2.2.2.2.2.2.2.2.2.2.2.2.2.2.2.2.2.2.2.1
theorem k0_off402_inb : ∀ (v121 : BitVec 32) (k0_hw15 : k0_chk15 v121), ∀ a, (k0_off402 v121) a + S1x1x256.size a ≤ S2x16x2816.size a := fun v121 k0_hw15 => k0_hw15.1.2.2.2.2.2.2.2.2.2.2.2.2.2.2.2.2.2.2.2.2.2.2.1
theorem k0_off403_inb : ∀ (v121 : BitVec 32) (k0_hw15 : k0_chk15 v121), ∀ a, (k0_off403 v121) a + S1x1x256.size a ≤ S2x16x2816.size a := fun v121 k0_hw15 => k0_hw15.1.2.2.2.2.2.2.2.2.2.2.2.2.2.2.2.2.2.2.2.2.2.2.2.1
theorem k0_off404_inb : ∀ (v121 : BitVec 32) (k0_hw15 : k0_chk15 v121), ∀ a, (k0_off404 v121) a + S1x1x256.size a ≤ S2x16x2816.size a := fun v121 k0_hw15 => k0_hw15.1.2.2.2.2.2.2.2.2.2.2.2.2.2.2.2.2.2.2.2.2.2.2.2.2.1
theorem k0_off405_inb : ∀ (v121 : BitVec 32) (k0_hw15 : k0_chk15 v121), ∀ a, (k0_off405 v121) a + S1x1x256.size a ≤ S2x16x2816.size a := fun v121 k0_hw15 => k0_hw15.1.2.2.2.2.2.2.2.2.2.2.2.2.2.2.2.2.2.2.2.2.2.2.2.2.2.1
theorem k0_off406_inb : ∀ (v121 : BitVec 32) (k0_hw15 : k0_chk15 v121), ∀ a, (k0_off406 v121) a + S1x1x256.size a ≤ S2x16x2816.size a := fun v121 k0_hw15 => k0_hw15.1.2.2.2.2.2.2.2.2.2.2.2.2.2.2.2.2.2.2.2.2.2.2.2.2.2.2.1
theorem k0_off407_inb : ∀ (v121 : BitVec 32) (k0_hw15 : k0_chk15 v121), ∀ a, (k0_off407 v121) a + S1x1x256.size a ≤ S2x16x2816.size a := fun v121 k0_hw15 => k0_hw15.1.2.2.2.2.2.2.2.2.2.2.2.2.2.2.2.2.2.2.2.2.2.2.2.2.2.2.2.1
theorem k0_off408_inb : ∀ (v121 : BitVec 32) (k0_hw15 : k0_chk15 v121), ∀ a, (k0_off408 v121) a + S1x1x256.size a ≤ S2x16x2816.size a := fun v121 k0_hw15 => k0_hw15.1.2.2.2.2.2.2.2.2.2.2.2.2.2.2.2.2.2.2.2.2.2.2.2.2.2.2.2.2.1
theorem k0_off409_inb : ∀ (v121 : BitVec 32) (k0_hw15 : k0_chk15 v121), ∀ a, (k0_off409 v121) a + S1x1x256.size a ≤ S2x16x2816.size a := fun v121 k0_hw15 => k0_hw15.1.2.2.2.2.2.2.2.2.2.2.2.2.2.2.2.2.2.2.2.2.2.2.2.2.2.2.2.2.2.1
theorem k0_off410_inb : ∀ (v121 : BitVec 32) (k0_hw15 : k0_chk15 v121), ∀ a, (k0_off410 v121) a + S1x1x256.size a ≤ S2x16x2816.size a := fun v121 k0_hw15 => k0_hw15.1.2.2.2.2.2.2.2.2.2.2.2.2.2.2.2.2.2.2.2.2.2.2.2.2.2.2.2.2.2.2.1
theorem k0_off411_inb : ∀ (v121 : BitVec 32) (k0_hw15 : k0_chk15 v121), ∀ a, (k0_off411 v121) a + S1x1x256.size a ≤ S2x16x2816.size a := fun v121 k0_hw15 => k0_hw15.1.2.2.2.2.2.2.2.2.2.2.2.2.2.2.2.2.2.2.2.2.2.2.2.2.2.2.2.2.2.2.2
theorem k0_off412_inb : ∀ (v121 : BitVec 32) (k0_hw15 : k0_chk15 v121), ∀ a, (k0_off412 v121) a + S1x1x256.size a ≤ S2x16x2816.size a := fun v121 k0_hw15 => k0_hw15.2.1.1
theorem k0_off413_inb : ∀ (v121 : BitVec 32) (k0_hw15 : k0_chk15 v121), ∀ a, (k0_off413 v121) a + S1x1x256.size a ≤ S2x16x2816.size a := fun v121 k0_hw15 => k0_hw15.2.1.2.1
theorem k0_off414_inb : ∀ (v121 : BitVec 32) (k0_hw15 : k0_chk15 v121), ∀ a, (k0_off414 v121) a + S1x1024x256.size a ≤ S2x1024x2816.size a := fun v121 k0_hw15 => k0_hw15.2.1.2.2.1
theorem k0_off415_inb : ∀ (v121 : BitVec 32) (k0_hw15 : k0_chk15 v121), ∀ a, (k0_off415 v121) a + S1x1x256.size a ≤ S2x16x2816.size a := fun v121 k0_hw15 => k0_hw15.2.1.2.2.2.1
theorem k0_off416_inb : ∀ (v121 : BitVec 32) (k0_hw15 : k0_chk15 v121), ∀ a, (k0_off416 v121) a + S1x1x256.size a ≤ S2x16x2816.size a := fun v121 k0_hw15 => k0_hw15.2.1.2.2.2.2.1
theorem k0_off417_inb : ∀ (v121 : BitVec 32) (k0_hw15 : k0_chk15 v121), ∀ a, (k0_off417 v121) a + S1x1x256.size a ≤ S2x16x2816.size a := fun v121 k0_hw15 => k0_hw15.2.1.2.2.2.2.2.1
theorem k0_off418_inb : ∀ (v121 : BitVec 32) (k0_hw15 : k0_chk15 v121), ∀ a, (k0_off418 v121) a + S1x1x256.size a ≤ S2x16x2816.size a := fun v121 k0_hw15 => k0_hw15.2.1.2.2.2.2.2.2.1
theorem k0_off419_inb : ∀ (v121 : BitVec 32) (k0_hw15 : k0_chk15 v121), ∀ a, (k0_off419 v121) a + S1x1x256.size a ≤ S2x16x2816.size a := fun v121 k0_hw15 => k0_hw15.2.1.2.2.2.2.2.2.2.1
theorem k0_off420_inb : ∀ (v121 : BitVec 32) (k0_hw15 : k0_chk15 v121), ∀ a, (k0_off420 v121) a + S1x1x256.size a ≤ S2x16x2816.size a := fun v121 k0_hw15 => k0_hw15.2.1.2.2.2.2.2.2.2.2.1
theorem k0_off421_inb : ∀ (v121 : BitVec 32) (k0_hw15 : k0_chk15 v121), ∀ a, (k0_off421 v121) a + S1x1x256.size a ≤ S2x16x2816.size a := fun v121 k0_hw15 => k0_hw15.2.1.2.2.2.2.2.2.2.2.2.1
theorem k0_off422_inb : ∀ (v121 : BitVec 32) (k0_hw15 : k0_chk15 v121), ∀ a, (k0_off422 v121) a + S1x1x256.size a ≤ S2x16x2816.size a := fun v121 k0_hw15 => k0_hw15.2.1.2.2.2.2.2.2.2.2.2.2.1
theorem k0_off423_inb : ∀ (v121 : BitVec 32) (k0_hw15 : k0_chk15 v121), ∀ a, (k0_off423 v121) a + S1x1x256.size a ≤ S2x16x2816.size a := fun v121 k0_hw15 => k0_hw15.2.1.2.2.2.2.2.2.2.2.2.2.2.1
theorem k0_off424_inb : ∀ (v121 : BitVec 32) (k0_hw15 : k0_chk15 v121), ∀ a, (k0_off424 v121) a + S1x1x256.size a ≤ S2x16x2816.size a := fun v121 k0_hw15 => k0_hw15.2.1.2.2.2.2.2.2.2.2.2.2.2.2.1
theorem k0_off425_inb : ∀ (v121 : BitVec 32) (k0_hw15 : k0_chk15 v121), ∀ a, (k0_off425 v121) a + S1x1x256.size a ≤ S2x16x2816.size a := fun v121 k0_hw15 => k0_hw15.2.1.2.2.2.2.2.2.2.2.2.2.2.2.2.1
theorem k0_off426_inb : ∀ (v121 : BitVec 32) (k0_hw15 : k0_chk15 v121), ∀ a, (k0_off426 v121) a + S1x1x256.size a ≤ S2x16x2816.size a := fun v121 k0_hw15 => k0_hw15.2.1.2.2.2.2.2.2.2.2.2.2.2.2.2.2.1
theorem k0_off427_inb : ∀ (v121 : BitVec 32) (k0_hw15 : k0_chk15 v121), ∀ a, (k0_off427 v121) a + S1x1x256.size a ≤ S2x16x2816.size a := fun v121 k0_hw15 => k0_hw15.2.1.2.2.2.2.2.2.2.2.2.2.2.2.2.2.2.1
theorem k0_off428_inb : ∀ (v121 : BitVec 32) (k0_hw15 : k0_chk15 v121), ∀ a, (k0_off428 v121) a + S1x1x256.size a ≤ S2x16x2816.size a := fun v121 k0_hw15 => k0_hw15.2.1.2.2.2.2.2.2.2.2.2.2.2.2.2.2.2.2.1
theorem k0_off429_inb : ∀ (v121 : BitVec 32) (k0_hw15 : k0_chk15 v121), ∀ a, (k0_off429 v121) a + S1x1x256.size a ≤ S2x16x2816.size a := fun v121 k0_hw15 => k0_hw15.2.1.2.2.2.2.2.2.2.2.2.2.2.2.2.2.2.2.2.1
theorem k0_off430_inb : ∀ (v121 : BitVec 32) (k0_hw15 : k0_chk15 v121), ∀ a, (k0_off430 v121) a + S1x1x256.size a ≤ S2x16x2816.size a := fun v121 k0_hw15 => k0_hw15.2.1.2.2.2.2.2.2.2.2.2.2.2.2.2.2.2.2.2.2.1
theorem k0_off431_inb : ∀ (v121 : BitVec 32) (k0_hw15 : k0_chk15 v121), ∀ a, (k0_off431 v121) a + S1x1024x256.size a ≤ S2x1024x2816.size a := fun v121 k0_hw15 => k0_hw15.2.1.2.2.2.2.2.2.2.2.2.2.2.2.2.2.2.2.2.2.2.1
theorem k0_off432_inb : ∀ (v121 : BitVec 32) (k0_hw15 : k0_chk15 v121), ∀ a, (k0_off432 v121) a + S1x1x256.size a ≤ S2x16x2816.size a := fun v121 k0_hw15 => k0_hw15.2.1.2.2.2.2.2.2.2.2.2.2.2.2.2.2.2.2.2.2.2.2.1
theorem k0_off433_inb : ∀ (v121 : BitVec 32) (k0_hw15 : k0_chk15 v121), ∀ a, (k0_off433 v121) a + S1x1x256.size a ≤ S2x16x2816.size a := fun v121 k0_hw15 => k0_hw15.2.1.2.2.2.2.2.2.2.2.2.2.2.2.2.2.2.2.2.2.2.2.2.1
theorem k0_off434_inb : ∀ (v121 : BitVec 32) (k0_hw15 : k0_chk15 v121), ∀ a, (k0_off434 v121) a + S1x1x256.size a ≤ S2x16x2816.size a := fun v121 k0_hw15 => k0_hw15.2.1.2.2.2.2.2.2.2.2.2.2.2.2.2.2.2.2.2.2.2.2.2.2.1
theorem k0_off435_inb : ∀ (v121 : BitVec 32) (k0_hw15 : k0_chk15 v121), ∀ a, (k0_off435 v121) a + S1x1x256.size a ≤ S2x16x2816.size a := fun v121 k0_hw15 => k0_hw15.2.1.2.2.2.2.2.2.2.2.2.2.2.2.2.2.2.2.2.2.2.2.2.2.2.1
theorem k0_off436_inb : ∀ (v121 : BitVec 32) (k0_hw15 : k0_chk15 v121), ∀ a, (k0_off436 v121) a + S1x1x256.size a ≤ S2x16x2816.size a := fun v121 k0_hw15 => k0_hw15.2.1.2.2.2.2.2.2.2.2.2.2.2.2.2.2.2.2.2.2.2.2.2.2.2.2.1
theorem k0_off437_inb : ∀ (v121 : BitVec 32) (k0_hw15 : k0_chk15 v121), ∀ a, (k0_off437 v121) a + S1x1x256.size a ≤ S2x16x2816.size a := fun v121 k0_hw15 => k0_hw15.2.1.2.2.2.2.2.2.2.2.2.2.2.2.2.2.2.2.2.2.2.2.2.2.2.2.2.1
theorem k0_off438_inb : ∀ (v121 : BitVec 32) (k0_hw15 : k0_chk15 v121), ∀ a, (k0_off438 v121) a + S1x1x256.size a ≤ S2x16x2816.size a := fun v121 k0_hw15 => k0_hw15.2.1.2.2.2.2.2.2.2.2.2.2.2.2.2.2.2.2.2.2.2.2.2.2.2.2.2.2.1
theorem k0_off439_inb : ∀ (v121 : BitVec 32) (k0_hw15 : k0_chk15 v121), ∀ a, (k0_off439 v121) a + S1x1x256.size a ≤ S2x16x2816.size a := fun v121 k0_hw15 => k0_hw15.2.1.2.2.2.2.2.2.2.2.2.2.2.2.2.2.2.2.2.2.2.2.2.2.2.2.2.2.2.1
theorem k0_off440_inb : ∀ (v121 : BitVec 32) (k0_hw15 : k0_chk15 v121), ∀ a, (k0_off440 v121) a + S1x1x256.size a ≤ S2x16x2816.size a := fun v121 k0_hw15 => k0_hw15.2.1.2.2.2.2.2.2.2.2.2.2.2.2.2.2.2.2.2.2.2.2.2.2.2.2.2.2.2.2.1
theorem k0_off441_inb : ∀ (v121 : BitVec 32) (k0_hw15 : k0_chk15 v121), ∀ a, (k0_off441 v121) a + S1x1x256.size a ≤ S2x16x2816.size a := fun v121 k0_hw15 => k0_hw15.2.1.2.2.2.2.2.2.2.2.2.2.2.2.2.2.2.2.2.2.2.2.2.2.2.2.2.2.2.2.2.1
theorem k0_off442_inb : ∀ (v121 : BitVec 32) (k0_hw15 : k0_chk15 v121), ∀ a, (k0_off442 v121) a + S1x1x256.size a ≤ S2x16x2816.size a := fun v121 k0_hw15 => k0_hw15.2.1.2.2.2.2.2.2.2.2.2.2.2.2.2.2.2.2.2.2.2.2.2.2.2.2.2.2.2.2.2.2.1
theorem k0_off443_inb : ∀ (v121 : BitVec 32) (k0_hw15 : k0_chk15 v121), ∀ a, (k0_off443 v121) a + S1x1x256.size a ≤ S2x16x2816.size a := fun v121 k0_hw15 => k0_hw15.2.1.2.2.2.2.2.2.2.2.2.2.2.2.2.2.2.2.2.2.2.2.2.2.2.2.2.2.2.2.2.2.2
theorem k0_off444_inb : ∀ (v121 : BitVec 32) (k0_hw15 : k0_chk15 v121), ∀ a, (k0_off444 v121) a + S1x1x256.size a ≤ S2x16x2816.size a := fun v121 k0_hw15 => k0_hw15.2.2.1.1
theorem k0_off445_inb : ∀ (v121 : BitVec 32) (k0_hw15 : k0_chk15 v121), ∀ a, (k0_off445 v121) a + S1x1x256.size a ≤ S2x16x2816.size a := fun v121 k0_hw15 => k0_hw15.2.2.1.2.1
theorem k0_off446_inb : ∀ (v121 : BitVec 32) (k0_hw15 : k0_chk15 v121), ∀ a, (k0_off446 v121) a + S1x1x256.size a ≤ S2x16x2816.size a := fun v121 k0_hw15 => k0_hw15.2.2.1.2.2.1
theorem k0_off447_inb : ∀ (v121 : BitVec 32) (k0_hw15 : k0_chk15 v121), ∀ a, (k0_off447 v121) a + S1x1x256.size a ≤ S2x16x2816.size a := fun v121 k0_hw15 => k0_hw15.2.2.1.2.2.2.1
theorem k0_off448_inb : ∀ (v121 : BitVec 32) (k0_hw15 : k0_chk15 v121), ∀ a, (k0_off448 v121) a + S1x1024x256.size a ≤ S2x1024x2816.size a := fun v121 k0_hw15 => k0_hw15.2.2.1.2.2.2.2.1
theorem k0_off449_inb : ∀ (v121 : BitVec 32) (k0_hw15 : k0_chk15 v121), ∀ a, (k0_off449 v121) a + S1x1x256.size a ≤ S2x16x2816.size a := fun v121 k0_hw15 => k0_hw15.2.2.1.2.2.2.2.2.1
theorem k0_off450_inb : ∀ (v121 : BitVec 32) (k0_hw15 : k0_chk15 v121), ∀ a, (k0_off450 v121) a + S1x1x256.size a ≤ S2x16x2816.size a := fun v121 k0_hw15 => k0_hw15.2.2.1.2.2.2.2.2.2.1
theorem k0_off451_inb : ∀ (v121 : BitVec 32) (k0_hw15 : k0_chk15 v121), ∀ a, (k0_off451 v121) a + S1x1x256.size a ≤ S2x16x2816.size a := fun v121 k0_hw15 => k0_hw15.2.2.1.2.2.2.2.2.2.2.1
theorem k0_off452_inb : ∀ (v121 : BitVec 32) (k0_hw15 : k0_chk15 v121), ∀ a, (k0_off452 v121) a + S1x1x256.size a ≤ S2x16x2816.size a := fun v121 k0_hw15 => k0_hw15.2.2.1.2.2.2.2.2.2.2.2.1
theorem k0_off453_inb : ∀ (v121 : BitVec 32) (k0_hw15 : k0_chk15 v121), ∀ a, (k0_off453 v121) a + S1x1x256.size a ≤ S2x16x2816.size a := fun v121 k0_hw15 => k0_hw15.2.2.1.2.2.2.2.2.2.2.2.2.1
theorem k0_off454_inb : ∀ (v121 : BitVec 32) (k0_hw15 : k0_chk15 v121), ∀ a, (k0_off454 v121) a + S1x1x256.size a ≤ S2x16x2816.size a := fun v121 k0_hw15 => k0_hw15.2.2.1.2.2.2.2.2.2.2.2.2.2.1
theorem k0_off455_inb : ∀ (v121 : BitVec 32) (k0_hw15 : k0_chk15 v121), ∀ a, (k0_off455 v121) a + S1x1x256.size a ≤ S2x16x2816.size a := fun v121 k0_hw15 => k0_hw15.2.2.1.2.2.2.2.2.2.2.2.2.2.2.1
theorem k0_off456_inb : ∀ (v121 : BitVec 32) (k0_hw15 : k0_chk15 v121), ∀ a, (k0_off456 v121) a + S1x1x256.size a ≤ S2x16x2816.size a := fun v121 k0_hw15 => k0_hw15.2.2.1.2.2.2.2.2.2.2.2.2.2.2.2.1
theorem k0_off457_inb : ∀ (v121 : BitVec 32) (k0_hw15 : k0_chk15 v121), ∀ a, (k0_off457 v121) a + S1x1x256.size a ≤ S2x16x2816.size a := fun v121 k0_hw15 => k0_hw15.2.2.1.2.2.2.2.2.2.2.2.2.2.2.2.2.1
theorem k0_off458_inb : ∀ (v121 : BitVec 32) (k0_hw15 : k0_chk15 v121), ∀ a, (k0_off458 v121) a + S1x1x256.size a ≤ S2x16x2816.size a := fun v121 k0_hw15 => k0_hw15.2.2.1.2.2.2.2.2.2.2.2.2.2.2.2.2.2.1
theorem k0_off459_inb : ∀ (v121 : BitVec 32) (k0_hw15 : k0_chk15 v121), ∀ a, (k0_off459 v121) a + S1x1x256.size a ≤ S2x16x2816.size a := fun v121 k0_hw15 => k0_hw15.2.2.1.2.2.2.2.2.2.2.2.2.2.2.2.2.2.2.1
theorem k0_off460_inb : ∀ (v121 : BitVec 32) (k0_hw15 : k0_chk15 v121), ∀ a, (k0_off460 v121) a + S1x1x256.size a ≤ S2x16x2816.size a := fun v121 k0_hw15 => k0_hw15.2.2.1.2.2.2.2.2.2.2.2.2.2.2.2.2.2.2.2.1
theorem k0_off461_inb : ∀ (v121 : BitVec 32) (k0_hw15 : k0_chk15 v121), ∀ a, (k0_off461 v121) a + S1x1x256.size a ≤ S2x16x2816.size a := fun v121 k0_hw15 => k0_hw15.2.2.1.2.2.2.2.2.2.2.2.2.2.2.2.2.2.2.2.2.1
theorem k0_off462_inb : ∀ (v121 : BitVec 32) (k0_hw15 : k0_chk15 v121), ∀ a, (k0_off462 v121) a + S1x1x256.size a ≤ S2x16x2816.size a := fun v121 k0_hw15 => k0_hw15.2.2.1.2.2.2.2.2.2.2.2.2.2.2.2.2.2.2.2.2.2.1
theorem k0_off463_inb : ∀ (v121 : BitVec 32) (k0_hw15 : k0_chk15 v121), ∀ a, (k0_off463 v121) a + S1x1x256.size a ≤ S2x16x2816.size a := fun v121 k0_hw15 => k0_hw15.2.2.1.2.2.2.2.2.2.2.2.2.2.2.2.2.2.2.2.2.2.2.1
theorem k0_off464_inb : ∀ (v121 : BitVec 32) (k0_hw15 : k0_chk15 v121), ∀ a, (k0_off464 v121) a + S1x1x256.size a ≤ S2x16x2816.size a := fun v121 k0_hw15 => k0_hw15.2.2.1.2.2.2.2.2.2.2.2.2.2.2.2.2.2.2.2.2.2.2.2.1
theorem k0_off465_inb : ∀ (v121 : BitVec 32) (k0_hw15 : k0_chk15 v121), ∀ a, (k0_off465 v121) a + S1x1024x256.size a ≤ S2x1024x2816.size a := fun v121 k0_hw15 => k0_hw15.2.2.1.2.2.2.2.2.2.2.2.2.2.2.2.2.2.2.2.2.2.2.2.2.1
theorem k0_off466_inb : ∀ (v121 : BitVec 32) (k0_hw15 : k0_chk15 v121), ∀ a, (k0_off466 v121) a + S1x1x256.size a ≤ S2x16x2816.size a := fun v121 k0_hw15 => k0_hw15.2.2.1.2.2.2.2.2.2.2.2.2.2.2.2.2.2.2.2.2.2.2.2.2.2.1
theorem k0_off467_inb : ∀ (v121 : BitVec 32) (k0_hw15 : k0_chk15 v121), ∀ a, (k0_off467 v121) a + S1x1x256.size a ≤ S2x16x2816.size a := fun v121 k0_hw15 => k0_hw15.2.2.1.2.2.2.2.2.2.2.2.2.2.2.2.2.2.2.2.2.2.2.2.2.2.2.1
theorem k0_off468_inb : ∀ (v121 : BitVec 32) (k0_hw15 : k0_chk15 v121), ∀ a, (k0_off468 v121) a + S1x1x256.size a ≤ S2x16x2816.size a := fun v121 k0_hw15 => k0_hw15.2.2.1.2.2.2.2.2.2.2.2.2.2.2.2.2.2.2.2.2.2.2.2.2.2.2.2.1
theorem k0_off469_inb : ∀ (v121 : BitVec 32) (k0_hw15 : k0_chk15 v121), ∀ a, (k0_off469 v121) a + S1x1x256.size a ≤ S2x16x2816.size a := fun v121 k0_hw15 => k0_hw15.2.2.1.2.2.2.2.2.2.2.2.2.2.2.2.2.2.2.2.2.2.2.2.2.2.2.2.2.1
theorem k0_off470_inb : ∀ (v121 : BitVec 32) (k0_hw15 : k0_chk15 v121), ∀ a, (k0_off470 v121) a + S1x1x256.size a ≤ S2x16x2816.size a := fun v121 k0_hw15 => k0_hw15.2.2.1.2.2.2.2.2.2.2.2.2.2.2.2.2.2.2.2.2.2.2.2.2.2.2.2.2.2.1
theorem k0_off471_inb : ∀ (v121 : BitVec 32) (k0_hw15 : k0_chk15 v121), ∀ a, (k0_off471 v121) a + S1x1x256.size a ≤ S2x16x2816.size a := fun v121 k0_hw15 => k0_hw15.2.2.1.2.2.2.2.2.2.2.2.2.2.2.2.2.2.2.2.2.2.2.2.2.2.2.2.2.2.2.1
theorem k0_off472_inb : ∀ (v121 : BitVec 32) (k0_hw15 : k0_chk15 v121), ∀ a, (k0_off472 v121) a + S1x1x256.size a ≤ S2x16x2816.size a := fun v121 k0_hw15 => k0_hw15.2.2.1.2.2.2.2.2.2.2.2.2.2.2.2.2.2.2.2.2.2.2.2.2.2.2.2.2.2.2.2.1
theorem k0_off473_inb : ∀ (v121 : BitVec 32) (k0_hw15 : k0_chk15 v121), ∀ a, (k0_off473 v121) a + S1x1x256.size a ≤ S2x16x2816.size a := fun v121 k0_hw15 => k0_hw15.2.2.1.2.2.2.2.2.2.2.2.2.2.2.2.2.2.2.2.2.2.2.2.2.2.2.2.2.2.2.2.2.1
theorem k0_off474_inb : ∀ (v121 : BitVec 32) (k0_hw15 : k0_chk15 v121), ∀ a, (k0_off474 v121) a + S1x1x256.size a ≤ S2x16x2816.size a := fun v121 k0_hw15 => k0_hw15.2.2.1.2.2.2.2.2.2.2.2.2.2.2.2.2.2.2.2.2.2.2.2.2.2.2.2.2.2.2.2.2.2.1
theorem k0_off475_inb : ∀ (v121 : BitVec 32) (k0_hw15 : k0_chk15 v121), ∀ a, (k0_off475 v121) a + S1x1x256.size a ≤ S2x16x2816.size a := fun v121 k0_hw15 => k0_hw15.2.2.1.2.2.2.2.2.2.2.2.2.2.2.2.2.2.2.2.2.2.2.2.2.2.2.2.2.2.2.2.2.2.2
theorem k0_off476_inb : ∀ (v121 : BitVec 32) (k0_hw15 : k0_chk15 v121), ∀ a, (k0_off476 v121) a + S1x1x256.size a ≤ S2x16x2816.size a := fun v121 k0_hw15 => k0_hw15.2.2.2.1.1
theorem k0_off477_inb : ∀ (v121 : BitVec 32) (k0_hw15 : k0_chk15 v121), ∀ a, (k0_off477 v121) a + S1x1x256.size a ≤ S2x16x2816.size a := fun v121 k0_hw15 => k0_hw15.2.2.2.1.2.1
theorem k0_off478_inb : ∀ (v121 : BitVec 32) (k0_hw15 : k0_chk15 v121), ∀ a, (k0_off478 v121) a + S1x1x256.size a ≤ S2x16x2816.size a := fun v121 k0_hw15 => k0_hw15.2.2.2.1.2.2.1
theorem k0_off479_inb : ∀ (v121 : BitVec 32) (k0_hw15 : k0_chk15 v121), ∀ a, (k0_off479 v121) a + S1x1x256.size a ≤ S2x16x2816.size a := fun v121 k0_hw15 => k0_hw15.2.2.2.1.2.2.2.1
theorem k0_off480_inb : ∀ (v121 : BitVec 32) (k0_hw15 : k0_chk15 v121), ∀ a, (k0_off480 v121) a + S1x1x256.size a ≤ S2x16x2816.size a := fun v121 k0_hw15 => k0_hw15.2.2.2.1.2.2.2.2.1
theorem k0_off481_inb : ∀ (v121 : BitVec 32) (k0_hw15 : k0_chk15 v121), ∀ a, (k0_off481 v121) a + S1x1x256.size a ≤ S2x16x2816.size a := fun v121 k0_hw15 => k0_hw15.2.2.2.1.2.2.2.2.2.1
theorem k0_off482_inb : ∀ (v121 : BitVec 32) (k0_hw15 : k0_chk15 v121), ∀ a, (k0_off482 v121) a + S1x1024x256.size a ≤ S2x1024x2816.size a := fun v121 k0_hw15 => k0_hw15.2.2.2.1.2.2.2.2.2.2.1
theorem k0_off483_inb : ∀ (v121 : BitVec 32) (k0_hw15 : k0_chk15 v121), ∀ a, (k0_off483 v121) a + S1x1x256.size a ≤ S2x16x2816.size a := fun v121 k0_hw15 => k0_hw15.2.2.2.1.2.2.2.2.2.2.2.1
theorem k0_off484_inb : ∀ (v121 : BitVec 32) (k0_hw15 : k0_chk15 v121), ∀ a, (k0_off484 v121) a + S1x1x256.size a ≤ S2x16x2816.size a := fun v121 k0_hw15 => k0_hw15.2.2.2.1.2.2.2.2.2.2.2.2.1
theorem k0_off485_inb : ∀ (v121 : BitVec 32) (k0_hw15 : k0_chk15 v121), ∀ a, (k0_off485 v121) a + S1x1x256.size a ≤ S2x16x2816.size a := fun v121 k0_hw15 => k0_hw15.2.2.2.1.2.2.2.2.2.2.2.2.2.1
theorem k0_off486_inb : ∀ (v121 : BitVec 32) (k0_hw15 : k0_chk15 v121), ∀ a, (k0_off486 v121) a + S1x1x256.size a ≤ S2x16x2816.size a := fun v121 k0_hw15 => k0_hw15.2.2.2.1.2.2.2.2.2.2.2.2.2.2.1
theorem k0_off487_inb : ∀ (v121 : BitVec 32) (k0_hw15 : k0_chk15 v121), ∀ a, (k0_off487 v121) a + S1x1x256.size a ≤ S2x16x2816.size a := fun v121 k0_hw15 => k0_hw15.2.2.2.1.2.2.2.2.2.2.2.2.2.2.2.1
theorem k0_off488_inb : ∀ (v121 : BitVec 32) (k0_hw15 : k0_chk15 v121), ∀ a, (k0_off488 v121) a + S1x1x256.size a ≤ S2x16x2816.size a := fun v121 k0_hw15 => k0_hw15.2.2.2.1.2.2.2.2.2.2.2.2.2.2.2.2.1
theorem k0_off489_inb : ∀ (v121 : BitVec 32) (k0_hw15 : k0_chk15 v121), ∀ a, (k0_off489 v121) a + S1x1x256.size a ≤ S2x16x2816.size a := fun v121 k0_hw15 => k0_hw15.2.2.2.1.2.2.2.2.2.2.2.2.2.2.2.2.2.1
theorem k0_off490_inb : ∀ (v121 : BitVec 32) (k0_hw15 : k0_chk15 v121), ∀ a, (k0_off490 v121) a + S1x1x256.size a ≤ S2x16x2816.size a := fun v121 k0_hw15 => k0_hw15.2.2.2.1.2.2.2.2.2.2.2.2.2.2.2.2.2.2.1
theorem k0_off491_inb : ∀ (v121 : BitVec 32) (k0_hw15 : k0_chk15 v121), ∀ a, (k0_off491 v121) a + S1x1x256.size a ≤ S2x16x2816.size a := fun v121 k0_hw15 => k0_hw15.2.2.2.1.2.2.2.2.2.2.2.2.2.2.2.2.2.2.2.1
theorem k0_off492_inb : ∀ (v121 : BitVec 32) (k0_hw15 : k0_chk15 v121), ∀ a, (k0_off492 v121) a + S1x1x256.size a ≤ S2x16x2816.size a := fun v121 k0_hw15 => k0_hw15.2.2.2.1.2.2.2.2.2.2.2.2.2.2.2.2.2.2.2.2.1
theorem k0_off493_inb : ∀ (v121 : BitVec 32) (k0_hw15 : k0_chk15 v121), ∀ a, (k0_off493 v121) a + S1x1x256.size a ≤ S2x16x2816.size a := fun v121 k0_hw15 => k0_hw15.2.2.2.1.2.2.2.2.2.2.2.2.2.2.2.2.2.2.2.2.2.1
theorem k0_off494_inb : ∀ (v121 : BitVec 32) (k0_hw15 : k0_chk15 v121), ∀ a, (k0_off494 v121) a + S1x1x256.size a ≤ S2x16x2816.size a := fun v121 k0_hw15 => k0_hw15.2.2.2.1.2.2.2.2.2.2.2.2.2.2.2.2.2.2.2.2.2.2.1
theorem k0_off495_inb : ∀ (v121 : BitVec 32) (k0_hw15 : k0_chk15 v121), ∀ a, (k0_off495 v121) a + S1x1x256.size a ≤ S2x16x2816.size a := fun v121 k0_hw15 => k0_hw15.2.2.2.1.2.2.2.2.2.2.2.2.2.2.2.2.2.2.2.2.2.2.2.1
theorem k0_off496_inb : ∀ (v121 : BitVec 32) (k0_hw15 : k0_chk15 v121), ∀ a, (k0_off496 v121) a + S1x1x256.size a ≤ S2x16x2816.size a := fun v121 k0_hw15 => k0_hw15.2.2.2.1.2.2.2.2.2.2.2.2.2.2.2.2.2.2.2.2.2.2.2.2.1
theorem k0_off497_inb : ∀ (v121 : BitVec 32) (k0_hw15 : k0_chk15 v121), ∀ a, (k0_off497 v121) a + S1x1x256.size a ≤ S2x16x2816.size a := fun v121 k0_hw15 => k0_hw15.2.2.2.1.2.2.2.2.2.2.2.2.2.2.2.2.2.2.2.2.2.2.2.2.2.1
theorem k0_off498_inb : ∀ (v121 : BitVec 32) (k0_hw15 : k0_chk15 v121), ∀ a, (k0_off498 v121) a + S1x1x256.size a ≤ S2x16x2816.size a := fun v121 k0_hw15 => k0_hw15.2.2.2.1.2.2.2.2.2.2.2.2.2.2.2.2.2.2.2.2.2.2.2.2.2.2.1
theorem k0_off499_inb : ∀ (v121 : BitVec 32) (k0_hw15 : k0_chk15 v121), ∀ a, (k0_off499 v121) a + S1x1024x256.size a ≤ S2x1024x2816.size a := fun v121 k0_hw15 => k0_hw15.2.2.2.1.2.2.2.2.2.2.2.2.2.2.2.2.2.2.2.2.2.2.2.2.2.2.2.1
theorem k0_off500_inb : ∀ (v121 : BitVec 32) (k0_hw15 : k0_chk15 v121), ∀ a, (k0_off500 v121) a + S1x1x256.size a ≤ S2x16x2816.size a := fun v121 k0_hw15 => k0_hw15.2.2.2.1.2.2.2.2.2.2.2.2.2.2.2.2.2.2.2.2.2.2.2.2.2.2.2.2.1
theorem k0_off501_inb : ∀ (v121 : BitVec 32) (k0_hw15 : k0_chk15 v121), ∀ a, (k0_off501 v121) a + S1x1x256.size a ≤ S2x16x2816.size a := fun v121 k0_hw15 => k0_hw15.2.2.2.1.2.2.2.2.2.2.2.2.2.2.2.2.2.2.2.2.2.2.2.2.2.2.2.2.2.1
theorem k0_off502_inb : ∀ (v121 : BitVec 32) (k0_hw15 : k0_chk15 v121), ∀ a, (k0_off502 v121) a + S1x1x256.size a ≤ S2x16x2816.size a := fun v121 k0_hw15 => k0_hw15.2.2.2.1.2.2.2.2.2.2.2.2.2.2.2.2.2.2.2.2.2.2.2.2.2.2.2.2.2.2.1
theorem k0_off503_inb : ∀ (v121 : BitVec 32) (k0_hw15 : k0_chk15 v121), ∀ a, (k0_off503 v121) a + S1x1x256.size a ≤ S2x16x2816.size a := fun v121 k0_hw15 => k0_hw15.2.2.2.1.2.2.2.2.2.2.2.2.2.2.2.2.2.2.2.2.2.2.2.2.2.2.2.2.2.2.2.1
theorem k0_off504_inb : ∀ (v121 : BitVec 32) (k0_hw15 : k0_chk15 v121), ∀ a, (k0_off504 v121) a + S1x1x256.size a ≤ S2x16x2816.size a := fun v121 k0_hw15 => k0_hw15.2.2.2.1.2.2.2.2.2.2.2.2.2.2.2.2.2.2.2.2.2.2.2.2.2.2.2.2.2.2.2.2.1
theorem k0_off505_inb : ∀ (v121 : BitVec 32) (k0_hw15 : k0_chk15 v121), ∀ a, (k0_off505 v121) a + S1x1x256.size a ≤ S2x16x2816.size a := fun v121 k0_hw15 => k0_hw15.2.2.2.1.2.2.2.2.2.2.2.2.2.2.2.2.2.2.2.2.2.2.2.2.2.2.2.2.2.2.2.2.2.1
theorem k0_off506_inb : ∀ (v121 : BitVec 32) (k0_hw15 : k0_chk15 v121), ∀ a, (k0_off506 v121) a + S1x1x256.size a ≤ S2x16x2816.size a := fun v121 k0_hw15 => k0_hw15.2.2.2.1.2.2.2.2.2.2.2.2.2.2.2.2.2.2.2.2.2.2.2.2.2.2.2.2.2.2.2.2.2.2.1
theorem k0_off507_inb : ∀ (v121 : BitVec 32) (k0_hw15 : k0_chk15 v121), ∀ a, (k0_off507 v121) a + S1x1x256.size a ≤ S2x16x2816.size a := fun v121 k0_hw15 => k0_hw15.2.2.2.1.2.2.2.2.2.2.2.2.2.2.2.2.2.2.2.2.2.2.2.2.2.2.2.2.2.2.2.2.2.2.2
theorem k0_off508_inb : ∀ (v121 : BitVec 32) (k0_hw15 : k0_chk15 v121), ∀ a, (k0_off508 v121) a + S1x1x256.size a ≤ S2x16x2816.size a := fun v121 k0_hw15 => k0_hw15.2.2.2.2.1.1
theorem k0_off509_inb : ∀ (v121 : BitVec 32) (k0_hw15 : k0_chk15 v121), ∀ a, (k0_off509 v121) a + S1x1x256.size a ≤ S2x16x2816.size a := fun v121 k0_hw15 => k0_hw15.2.2.2.2.1.2.1
theorem k0_off510_inb : ∀ (v121 : BitVec 32) (k0_hw15 : k0_chk15 v121), ∀ a, (k0_off510 v121) a + S1x1x256.size a ≤ S2x16x2816.size a := fun v121 k0_hw15 => k0_hw15.2.2.2.2.1.2.2.1
theorem k0_off511_inb : ∀ (v121 : BitVec 32) (k0_hw15 : k0_chk15 v121), ∀ a, (k0_off511 v121) a + S1x1x256.size a ≤ S2x16x2816.size a := fun v121 k0_hw15 => k0_hw15.2.2.2.2.1.2.2.2.1
theorem k0_off512_inb : ∀ (v121 : BitVec 32) (k0_hw15 : k0_chk15 v121), ∀ a, (k0_off512 v121) a + S1x1x256.size a ≤ S2x16x2816.size a := fun v121 k0_hw15 => k0_hw15.2.2.2.2.1.2.2.2.2.1
theorem k0_off513_inb : ∀ (v121 : BitVec 32) (k0_hw15 : k0_chk15 v121), ∀ a, (k0_off513 v121) a + S1x1x256.size a ≤ S2x16x2816.size a := fun v121 k0_hw15 => k0_hw15.2.2.2.2.1.2.2.2.2.2.1
theorem k0_off514_inb : ∀ (v121 : BitVec 32) (k0_hw15 : k0_chk15 v121), ∀ a, (k0_off514 v121) a + S1x1x256.size a ≤ S2x16x2816.size a := fun v121 k0_hw15 => k0_hw15.2.2.2.2.1.2.2.2.2.2.2.1
theorem k0_off515_inb : ∀ (v121 : BitVec 32) (k0_hw15 : k0_chk15 v121), ∀ a, (k0_off515 v121) a + S1x1x256.size a ≤ S2x16x2816.size a := fun v121 k0_hw15 => k0_hw15.2.2.2.2.1.2.2.2.2.2.2.2.1
theorem k0_off516_inb : ∀ (v121 : BitVec 32) (k0_hw15 : k0_chk15 v121), ∀ a, (k0_off516 v121) a + S1x1024x256.size a ≤ S2x1024x2816.size a := fun v121 k0_hw15 => k0_hw15.2.2.2.2.1.2.2.2.2.2.2.2.2.1
theorem k0_off517_inb : ∀ (v121 : BitVec 32) (k0_hw15 : k0_chk15 v121), ∀ a, (k0_off517 v121) a + S1x1x256.size a ≤ S2x16x2816.size a := fun v121 k0_hw15 => k0_hw15.2.2.2.2.1.2.2.2.2.2.2.2.2.2.1
theorem k0_off518_inb : ∀ (v121 : BitVec 32) (k0_hw15 : k0_chk15 v121), ∀ a, (k0_off518 v121) a + S1x1x256.size a ≤ S2x16x2816.size a := fun v121 k0_hw15 => k0_hw15.2.2.2.2.1.2.2.2.2.2.2.2.2.2.2.1
theorem k0_off519_inb : ∀ (v121 : BitVec 32) (k0_hw15 : k0_chk15 v121), ∀ a, (k0_off519 v121) a + S1x1x256.size a ≤ S2x16x2816.size a := fun v121 k0_hw15 => k0_hw15.2.2.2.2.1.2.2.2.2.2.2.2.2.2.2.2.1
theorem k0_off520_inb : ∀ (v121 : BitVec 32) (k0_hw15 : k0_chk15 v121), ∀ a, (k0_off520 v121) a + S1x1x256.size a ≤ S2x16x2816.size a := fun v121 k0_hw15 => k0_hw15.2.2.2.2.1.2.2.2.2.2.2.2.2.2.2.2.2.1
theorem k0_off521_inb : ∀ (v121 : BitVec 32) (k0_hw15 : k0_chk15 v121), ∀ a, (k0_off521 v121) a + S1x1x256.size a ≤ S2x16x2816.size a := fun v121 k0_hw15 => k0_hw15.2.2.2.2.1.2.2.2.2.2.2.2.2.2.2.2.2.2.1
theorem k0_off522_inb : ∀ (v121 : BitVec 32) (k0_hw15 : k0_chk15 v121), ∀ a, (k0_off522 v121) a + S1x1x256.size a ≤ S2x16x2816.size a := fun v121 k0_hw15 => k0_hw15.2.2.2.2.1.2.2.2.2.2.2.2.2.2.2.2.2.2.2.1
theorem k0_off523_inb : ∀ (v121 : BitVec 32) (k0_hw15 : k0_chk15 v121), ∀ a, (k0_off523 v121) a + S1x1x256.size a ≤ S2x16x2816.size a := fun v121 k0_hw15 => k0_hw15.2.2.2.2.1.2.2.2.2.2.2.2.2.2.2.2.2.2.2.2.1
theorem k0_off524_inb : ∀ (v121 : BitVec 32) (k0_hw15 : k0_chk15 v121), ∀ a, (k0_off524 v121) a + S1x1x256.size a ≤ S2x16x2816.size a := fun v121 k0_hw15 => k0_hw15.2.2.2.2.1.2.2.2.2.2.2.2.2.2.2.2.2.2.2.2.2.1
theorem k0_off525_inb : ∀ (v121 : BitVec 32) (k0_hw15 : k0_chk15 v121), ∀ a, (k0_off525 v121) a + S1x1x256.size a ≤ S2x16x2816.size a := fun v121 k0_hw15 => k0_hw15.2.2.2.2.1.2.2.2.2.2.2.2.2.2.2.2.2.2.2.2.2.2.1
theorem k0_off526_inb : ∀ (v121 : BitVec 32) (k0_hw15 : k0_chk15 v121), ∀ a, (k0_off526 v121) a + S1x1x256.size a ≤ S2x16x2816.size a := fun v121 k0_hw15 => k0_hw15.2.2.2.2.1.2.2.2.2.2.2.2.2.2.2.2.2.2.2.2.2.2.2.1
theorem k0_off527_inb : ∀ (v121 : BitVec 32) (k0_hw15 : k0_chk15 v121), ∀ a, (k0_off527 v121) a + S1x1x256.size a ≤ S2x16x2816.size a := fun v121 k0_hw15 => k0_hw15.2.2.2.2.1.2.2.2.2.2.2.2.2.2.2.2.2.2.2.2.2.2.2.2.1
theorem k0_off528_inb : ∀ (v121 : BitVec 32) (k0_hw15 : k0_chk15 v121), ∀ a, (k0_off528 v121) a + S1x1x256.size a ≤ S2x16x2816.size a := fun v121 k0_hw15 => k0_hw15.2.2.2.2.1.2.2.2.2.2.2.2.2.2.2.2.2.2.2.2.2.2.2.2.2.1
theorem k0_off529_inb : ∀ (v121 : BitVec 32) (k0_hw15 : k0_chk15 v121), ∀ a, (k0_off529 v121) a + S1x1x256.size a ≤ S2x16x2816.size a := fun v121 k0_hw15 => k0_hw15.2.2.2.2.1.2.2.2.2.2.2.2.2.2.2.2.2.2.2.2.2.2.2.2.2.2.1
theorem k0_off530_inb : ∀ (v121 : BitVec 32) (k0_hw15 : k0_chk15 v121), ∀ a, (k0_off530 v121) a + S1x1x256.size a ≤ S2x16x2816.size a := fun v121 k0_hw15 => k0_hw15.2.2.2.2.1.2.2.2.2.2.2.2.2.2.2.2.2.2.2.2.2.2.2.2.2.2.2.1
theorem k0_off531_inb : ∀ (v121 : BitVec 32) (k0_hw15 : k0_chk15 v121), ∀ a, (k0_off531 v121) a + S1x1x256.size a ≤ S2x16x2816.size a := fun v121 k0_hw15 => k0_hw15.2.2.2.2.1.2.2.2.2.2.2.2.2.2.2.2.2.2.2.2.2.2.2.2.2.2.2.2.1
theorem k0_off532_inb : ∀ (v121 : BitVec 32) (k0_hw15 : k0_chk15 v121), ∀ a, (k0_off532 v121) a + S1x1x256.size a ≤ S2x16x2816.size a := fun v121 k0_hw15 => k0_hw15.2.2.2.2.1.2.2.2.2.2.2.2.2.2.2.2.2.2.2.2.2.2.2.2.2.2.2.2.2.1
theorem k0_off533_inb : ∀ (v121 : BitVec 32) (k0_hw15 : k0_chk15 v121), ∀ a, (k0_off533 v121) a + S1x1024x256.size a ≤ S2x1024x2816.size a := fun v121 k0_hw15 => k0_hw15.2.2.2.2.1.2.2.2.2.2.2.2.2.2.2.2.2.2.2.2.2.2.2.2.2.2.2.2.2.2.1
theorem k0_off534_inb : ∀ (v121 : BitVec 32) (k0_hw15 : k0_chk15 v121), ∀ a, (k0_off534 v121) a + S1x1x256.size a ≤ S2x16x2816.size a := fun v121 k0_hw15 => k0_hw15.2.2.2.2.1.2.2.2.2.2.2.2.2.2.2.2.2.2.2.2.2.2.2.2.2.2.2.2.2.2.2.1
theorem k0_off535_inb : ∀ (v121 : BitVec 32) (k0_hw15 : k0_chk15 v121), ∀ a, (k0_off535 v121) a + S1x1x256.size a ≤ S2x16x2816.size a := fun v121 k0_hw15 => k0_hw15.2.2.2.2.1.2.2.2.2.2.2.2.2.2.2.2.2.2.2.2.2.2.2.2.2.2.2.2.2.2.2.2.1
theorem k0_off536_inb : ∀ (v121 : BitVec 32) (k0_hw15 : k0_chk15 v121), ∀ a, (k0_off536 v121) a + S1x1x256.size a ≤ S2x16x2816.size a := fun v121 k0_hw15 => k0_hw15.2.2.2.2.1.2.2.2.2.2.2.2.2.2.2.2.2.2.2.2.2.2.2.2.2.2.2.2.2.2.2.2.2.1
theorem k0_off537_inb : ∀ (v121 : BitVec 32) (k0_hw15 : k0_chk15 v121), ∀ a, (k0_off537 v121) a + S1x1x256.size a ≤ S2x16x2816.size a := fun v121 k0_hw15 => k0_hw15.2.2.2.2.1.2.2.2.2.2.2.2.2.2.2.2.2.2.2.2.2.2.2.2.2.2.2.2.2.2.2.2.2.2.1
theorem k0_off538_inb : ∀ (v121 : BitVec 32) (k0_hw15 : k0_chk15 v121), ∀ a, (k0_off538 v121) a + S1x1x256.size a ≤ S2x16x2816.size a := fun v121 k0_hw15 => k0_hw15.2.2.2.2.1.2.2.2.2.2.2.2.2.2.2.2.2.2.2.2.2.2.2.2.2.2.2.2.2.2.2.2.2.2.2.1
theorem k0_off539_inb : ∀ (v121 : BitVec 32) (k0_hw15 : k0_chk15 v121), ∀ a, (k0_off539 v121) a + S1x1x256.size a ≤ S2x16x2816.size a := fun v121 k0_hw15 => k0_hw15.2.2.2.2.1.2.2.2.2.2.2.2.2.2.2.2.2.2.2.2.2.2.2.2.2.2.2.2.2.2.2.2.2.2.2.2
theorem k0_off540_inb : ∀ (v121 : BitVec 32) (k0_hw15 : k0_chk15 v121), ∀ a, (k0_off540 v121) a + S1x1x256.size a ≤ S2x16x2816.size a := fun v121 k0_hw15 => k0_hw15.2.2.2.2.2.1.1
theorem k0_off541_inb : ∀ (v121 : BitVec 32) (k0_hw15 : k0_chk15 v121), ∀ a, (k0_off541 v121) a + S1x1x256.size a ≤ S2x16x2816.size a := fun v121 k0_hw15 => k0_hw15.2.2.2.2.2.1.2.1
theorem k0_off542_inb : ∀ (v121 : BitVec 32) (k0_hw15 : k0_chk15 v121), ∀ a, (k0_off542 v121) a + S1x1x256.size a ≤ S2x16x2816.size a := fun v121 k0_hw15 => k0_hw15.2.2.2.2.2.1.2.2.1
theorem k0_off543_inb : ∀ (v121 : BitVec 32) (k0_hw15 : k0_chk15 v121), ∀ a, (k0_off543 v121) a + S1x1x256.size a ≤ S2x16x2816.size a := fun v121 k0_hw15 => k0_hw15.2.2.2.2.2.1.2.2.2.1
theorem k0_off544_inb : ∀ (v121 : BitVec 32) (k0_hw15 : k0_chk15 v121), ∀ a, (k0_off544 v121) a + S1x1x256.size a ≤ S2x16x2816.size a := fun v121 k0_hw15 => k0_hw15.2.2.2.2.2.1.2.2.2.2.1
theorem k0_off545_inb : ∀ (v121 : BitVec 32) (k0_hw15 : k0_chk15 v121), ∀ a, (k0_off545 v121) a + S1x1x256.size a ≤ S2x16x2816.size a := fun v121 k0_hw15 => k0_hw15.2.2.2.2.2.1.2.2.2.2.2.1
theorem k0_off546_inb : ∀ (v121 : BitVec 32) (k0_hw15 : k0_chk15 v121), ∀ a, (k0_off546 v121) a + S1x1x256.size a ≤ S2x16x2816.size a := fun v121 k0_hw15 => k0_hw15.2.2.2.2.2.1.2.2.2.2.2.2.1
theorem k0_off547_inb : ∀ (v121 : BitVec 32) (k0_hw15 : k0_chk15 v121), ∀ a, (k0_off547 v121) a + S1x1x256.size a ≤ S2x16x2816.size a := fun v121 k0_hw15 => k0_hw15.2.2.2.2.2.1.2.2.2.2.2.2.2.1
theorem k0_off548_inb : ∀ (v121 : BitVec 32) (k0_hw15 : k0_chk15 v121), ∀ a, (k0_off548 v121) a + S1x1x256.size a ≤ S2x16x2816.size a := fun v121 k0_hw15 => k0_hw15.2.2.2.2.2.1.2.2.2.2.2.2.2.2.1
theorem k0_off549_inb : ∀ (v121 : BitVec 32) (k0_hw15 : k0_chk15 v121), ∀ a, (k0_off549 v121) a + S1x1x256.size a ≤ S2x16x2816.size a := fun v121 k0_hw15 => k0_hw15.2.2.2.2.2.1.2.2.2.2.2.2.2.2.2.1
theorem k0_off550_inb : ∀ (v121 : BitVec 32) (k0_hw15 : k0_chk15 v121), ∀ a, (k0_off550 v121) a + S1x1024x256.size a ≤ S2x1024x2816.size a := fun v121 k0_hw15 => k0_hw15.2.2.2.2.2.1.2.2.2.2.2.2.2.2.2.2.1
theorem k0_off551_inb : ∀ (v121 : BitVec 32) (k0_hw15 : k0_chk15 v121), ∀ a, (k0_off551 v121) a + S1x1x256.size a ≤ S2x16x2816.size a := fun v121 k0_hw15 => k0_hw15.2.2.2.2.2.1.2.2.2.2.2.2.2.2.2.2.2.1
theorem k0_off552_inb : ∀ (v121 : BitVec 32) (k0_hw15 : k0_chk15 v121), ∀ a, (k0_off552 v121) a + S1x1x256.size a ≤ S2x16x2816.size a := fun v121 k0_hw15 => k0_hw15.2.2.2.2.2.1.2.2.2.2.2.2.2.2.2.2.2.2.1
theorem k0_off553_inb : ∀ (v121 : BitVec 32) (k0_hw15 : k0_chk15 v121), ∀ a, (k0_off553 v121) a + S1x1x256.size a ≤ S2x16x2816.size a := fun v121 k0_hw15 => k0_hw15.2.2.2.2.2.1.2.2.2.2.2.2.2.2.2.2.2.2.2.1
theorem k0_off554_inb : ∀ (v121 : BitVec 32) (k0_hw15 : k0_chk15 v121), ∀ a, (k0_off554 v121) a + S1x1x256.size a ≤ S2x16x2816.size a := fun v121 k0_hw15 => k0_hw15.2.2.2.2.2.1.2.2.2.2.2.2.2.2.2.2.2.2.2.2.1
theorem k0_off555_inb : ∀ (v121 : BitVec 32) (k0_hw15 : k0_chk15 v121), ∀ a, (k0_off555 v121) a + S1x1x256.size a ≤ S2x16x2816.size a := fun v121 k0_hw15 => k0_hw15.2.2.2.2.2.1.2.2.2.2.2.2.2.2.2.2.2.2.2.2.2.1
theorem k0_off556_inb : ∀ (v121 : BitVec 32) (k0_hw15 : k0_chk15 v121), ∀ a, (k0_off556 v121) a + S1x1x256.size a ≤ S2x16x2816.size a := fun v121 k0_hw15 => k0_hw15.2.2.2.2.2.1.2.2.2.2.2.2.2.2.2.2.2.2.2.2.2.2.1
theorem k0_off557_inb : ∀ (v121 : BitVec 32) (k0_hw15 : k0_chk15 v121), ∀ a, (k0_off557 v121) a + S1x1x256.size a ≤ S2x16x2816.size a := fun v121 k0_hw15 => k0_hw15.2.2.2.2.2.1.2.2.2.2.2.2.2.2.2.2.2.2.2.2.2.2.2.1
theorem k0_off558_inb : ∀ (v121 : BitVec 32) (k0_hw15 : k0_chk15 v121), ∀ a, (k0_off558 v121) a + S1x1x256.size a ≤ S2x16x2816.size a := fun v121 k0_hw15 => k0_hw15.2.2.2.2.2.1.2.2.2.2.2.2.2.2.2.2.2.2.2.2.2.2.2.2.1
theorem k0_off559_inb : ∀ (v121 : BitVec 32) (k0_hw15 : k0_chk15 v121), ∀ a, (k0_off559 v121) a + S1x1x256.size a ≤ S2x16x2816.size a := fun v121 k0_hw15 => k0_hw15.2.2.2.2.2.1.2.2.2.2.2.2.2.2.2.2.2.2.2.2.2.2.2.2.2.1
theorem k0_off560_inb : ∀ (v121 : BitVec 32) (k0_hw15 : k0_chk15 v121), ∀ a, (k0_off560 v121) a + S1x1x256.size a ≤ S2x16x2816.size a := fun v121 k0_hw15 => k0_hw15.2.2.2.2.2.1.2.2.2.2.2.2.2.2.2.2.2.2.2.2.2.2.2.2.2.2.1
theorem k0_off561_inb : ∀ (v121 : BitVec 32) (k0_hw15 : k0_chk15 v121), ∀ a, (k0_off561 v121) a + S1x1x256.size a ≤ S2x16x2816.size a := fun v121 k0_hw15 => k0_hw15.2.2.2.2.2.1.2.2.2.2.2.2.2.2.2.2.2.2.2.2.2.2.2.2.2.2.2.1
theorem k0_off562_inb : ∀ (v121 : BitVec 32) (k0_hw15 : k0_chk15 v121), ∀ a, (k0_off562 v121) a + S1x1x256.size a ≤ S2x16x2816.size a := fun v121 k0_hw15 => k0_hw15.2.2.2.2.2.1.2.2.2.2.2.2.2.2.2.2.2.2.2.2.2.2.2.2.2.2.2.2.1
theorem k0_off563_inb : ∀ (v121 : BitVec 32) (k0_hw15 : k0_chk15 v121), ∀ a, (k0_off563 v121) a + S1x1x256.size a ≤ S2x16x2816.size a := fun v121 k0_hw15 => k0_hw15.2.2.2.2.2.1.2.2.2.2.2.2.2.2.2.2.2.2.2.2.2.2.2.2.2.2.2.2.2.1
theorem k0_off564_inb : ∀ (v121 : BitVec 32) (k0_hw15 : k0_chk15 v121), ∀ a, (k0_off564 v121) a + S1x1x256.size a ≤ S2x16x2816.size a := fun v121 k0_hw15 => k0_hw15.2.2.2.2.2.1.2.2.2.2.2.2.2.2.2.2.2.2.2.2.2.2.2.2.2.2.2.2.2.2.1
theorem k0_off565_inb : ∀ (v121 : BitVec 32) (k0_hw15 : k0_chk15 v121), ∀ a, (k0_off565 v121) a + S1x1x256.size a ≤ S2x16x2816.size a := fun v121 k0_hw15 => k0_hw15.2.2.2.2.2.1.2.2.2.2.2.2.2.2.2.2.2.2.2.2.2.2.2.2.2.2.2.2.2.2.2.1
theorem k0_off566_inb : ∀ (v121 : BitVec 32) (k0_hw15 : k0_chk15 v121), ∀ a, (k0_off566 v121) a + S1x1x256.size a ≤ S2x16x2816.size a := fun v121 k0_hw15 => k0_hw15.2.2.2.2.2.1.2.2.2.2.2.2.2.2.2.2.2.2.2.2.2.2.2.2.2.2.2.2.2.2.2.2.1
theorem k0_off568_inb : ∀ (v121 : BitVec 32) (k0_hw15 : k0_chk15 v121), ∀ a, (k0_off568 v121) a + S1x704x256.size a ≤ S2x704x2048.size a := fun v121 k0_hw15 => k0_hw15.2.2.2.2.2.1.2.2.2.2.2.2.2.2.2.2.2.2.2.2.2.2.2.2.2.2.2.2.2.2.2.2.2.1
theorem k0_off569_inb : ∀ (v121 : BitVec 32) (k0_hw15 : k0_chk15 v121), ∀ a, (k0_off569 v121) a + S1x1x256.size a ≤ S2x11x2048.size a := fun v121 k0_hw15 => k0_hw15.2.2.2.2.2.1.2.2.2.2.2.2.2.2.2.2.2.2.2.2.2.2.2.2.2.2.2.2.2.2.2.2.2.2.1
theorem k0_off570_inb : ∀ (v121 : BitVec 32) (k0_hw15 : k0_chk15 v121), ∀ a, (k0_off570 v121) a + S1x1x256.size a ≤ S2x11x2048.size a := fun v121 k0_hw15 => k0_hw15.2.2.2.2.2.1.2.2.2.2.2.2.2.2.2.2.2.2.2.2.2.2.2.2.2.2.2.2.2.2.2.2.2.2.2.1
theorem k0_off571_inb : ∀ (v121 : BitVec 32) (k0_hw15 : k0_chk15 v121), ∀ a, (k0_off571 v121) a + S1x1x256.size a ≤ S2x11x2048.size a := fun v121 k0_hw15 => k0_hw15.2.2.2.2.2.1.2.2.2.2.2.2.2.2.2.2.2.2.2.2.2.2.2.2.2.2.2.2.2.2.2.2.2.2.2.2.1
theorem k0_off572_inb : ∀ (v121 : BitVec 32) (k0_hw15 : k0_chk15 v121), ∀ a, (k0_off572 v121) a + S1x1x256.size a ≤ S2x11x2048.size a := fun v121 k0_hw15 => k0_hw15.2.2.2.2.2.1.2.2.2.2.2.2.2.2.2.2.2.2.2.2.2.2.2.2.2.2.2.2.2.2.2.2.2.2.2.2.2
theorem k0_off573_inb : ∀ (v121 : BitVec 32) (k0_hw15 : k0_chk15 v121), ∀ a, (k0_off573 v121) a + S1x1x256.size a ≤ S2x11x2048.size a := fun v121 k0_hw15 => k0_hw15.2.2.2.2.2.2.1.1
theorem k0_off574_inb : ∀ (v121 : BitVec 32) (k0_hw15 : k0_chk15 v121), ∀ a, (k0_off574 v121) a + S1x1x256.size a ≤ S2x11x2048.size a := fun v121 k0_hw15 => k0_hw15.2.2.2.2.2.2.1.2.1
theorem k0_off575_inb : ∀ (v121 : BitVec 32) (k0_hw15 : k0_chk15 v121), ∀ a, (k0_off575 v121) a + S1x1x256.size a ≤ S2x11x2048.size a := fun v121 k0_hw15 => k0_hw15.2.2.2.2.2.2.1.2.2.1
theorem k0_off576_inb : ∀ (v121 : BitVec 32) (k0_hw15 : k0_chk15 v121), ∀ a, (k0_off576 v121) a + S1x1x256.size a ≤ S2x11x2048.size a := fun v121 k0_hw15 => k0_hw15.2.2.2.2.2.2.1.2.2.2.1
theorem k0_off577_inb : ∀ (v121 : BitVec 32) (k0_hw15 : k0_chk15 v121), ∀ a, (k0_off577 v121) a + S1x1x256.size a ≤ S2x11x2048.size a := fun v121 k0_hw15 => k0_hw15.2.2.2.2.2.2.1.2.2.2.2.1
theorem k0_off578_inb : ∀ (v121 : BitVec 32) (k0_hw15 : k0_chk15 v121), ∀ a, (k0_off578 v121) a + S1x1x256.size a ≤ S2x11x2048.size a := fun v121 k0_hw15 => k0_hw15.2.2.2.2.2.2.1.2.2.2.2.2.1
theorem k0_off579_inb : ∀ (v121 : BitVec 32) (k0_hw15 : k0_chk15 v121), ∀ a, (k0_off579 v121) a + S1x1x256.size a ≤ S2x11x2048.size a := fun v121 k0_hw15 => k0_hw15.2.2.2.2.2.2.1.2.2.2.2.2.2.1
theorem k0_off582_inb : ∀ (v121 : BitVec 32) (k0_hw15 : k0_chk15 v121), ∀ a, (k0_off582 v121) a + S1x704x256.size a ≤ S2x704x2048.size a := fun v121 k0_hw15 => k0_hw15.2.2.2.2.2.2.1.2.2.2.2.2.2.2.1
theorem k0_off583_inb : ∀ (v121 : BitVec 32) (k0_hw15 : k0_chk15 v121), ∀ a, (k0_off583 v121) a + S1x1x256.size a ≤ S2x11x2048.size a := fun v121 k0_hw15 => k0_hw15.2.2.2.2.2.2.1.2.2.2.2.2.2.2.2.1
theorem k0_off584_inb : ∀ (v121 : BitVec 32) (k0_hw15 : k0_chk15 v121), ∀ a, (k0_off584 v121) a + S1x1x256.size a ≤ S2x11x2048.size a := fun v121 k0_hw15 => k0_hw15.2.2.2.2.2.2.1.2.2.2.2.2.2.2.2.2.1
theorem k0_off585_inb : ∀ (v121 : BitVec 32) (k0_hw15 : k0_chk15 v121), ∀ a, (k0_off585 v121) a + S1x1x256.size a ≤ S2x11x2048.size a := fun v121 k0_hw15 => k0_hw15.2.2.2.2.2.2.1.2.2.2.2.2.2.2.2.2.2.1
theorem k0_off586_inb : ∀ (v121 : BitVec 32) (k0_hw15 : k0_chk15 v121), ∀ a, (k0_off586 v121) a + S1x1x256.size a ≤ S2x11x2048.size a := fun v121 k0_hw15 => k0_hw15.2.2.2.2.2.2.1.2.2.2.2.2.2.2.2.2.2.2.1
theorem k0_off587_inb : ∀ (v121 : BitVec 32) (k0_hw15 : k0_chk15 v121), ∀ a, (k0_off587 v121) a + S1x1x256.size a ≤ S2x11x2048.size a := fun v121 k0_hw15 => k0_hw15.2.2.2.2.2.2.1.2.2.2.2.2.2.2.2.2.2.2.2.1
theorem k0_off588_inb : ∀ (v121 : BitVec 32) (k0_hw15 : k0_chk15 v121), ∀ a, (k0_off588 v121) a + S1x1x256.size a ≤ S2x11x2048.size a := fun v121 k0_hw15 => k0_hw15.2.2.2.2.2.2.1.2.2.2.2.2.2.2.2.2.2.2.2.2.1
theorem k0_off589_inb : ∀ (v121 : BitVec 32) (k0_hw15 : k0_chk15 v121), ∀ a, (k0_off589 v121) a + S1x1x256.size a ≤ S2x11x2048.size a := fun v121 k0_hw15 => k0_hw15.2.2.2.2.2.2.1.2.2.2.2.2.2.2.2.2.2.2.2.2.2.1
theorem k0_off590_inb : ∀ (v121 : BitVec 32) (k0_hw15 : k0_chk15 v121), ∀ a, (k0_off590 v121) a + S1x1x256.size a ≤ S2x11x2048.size a := fun v121 k0_hw15 => k0_hw15.2.2.2.2.2.2.1.2.2.2.2.2.2.2.2.2.2.2.2.2.2.2.1
theorem k0_off591_inb : ∀ (v121 : BitVec 32) (k0_hw15 : k0_chk15 v121), ∀ a, (k0_off591 v121) a + S1x1x256.size a ≤ S2x11x2048.size a := fun v121 k0_hw15 => k0_hw15.2.2.2.2.2.2.1.2.2.2.2.2.2.2.2.2.2.2.2.2.2.2.2.1
theorem k0_off592_inb : ∀ (v121 : BitVec 32) (k0_hw15 : k0_chk15 v121), ∀ a, (k0_off592 v121) a + S1x1x256.size a ≤ S2x11x2048.size a := fun v121 k0_hw15 => k0_hw15.2.2.2.2.2.2.1.2.2.2.2.2.2.2.2.2.2.2.2.2.2.2.2.2.1
theorem k0_off593_inb : ∀ (v121 : BitVec 32) (k0_hw15 : k0_chk15 v121), ∀ a, (k0_off593 v121) a + S1x1x256.size a ≤ S2x11x2048.size a := fun v121 k0_hw15 => k0_hw15.2.2.2.2.2.2.1.2.2.2.2.2.2.2.2.2.2.2.2.2.2.2.2.2.2.1
theorem k0_off596_inb : ∀ (v121 : BitVec 32) (k0_hw15 : k0_chk15 v121), ∀ a, (k0_off596 v121) a + S1x704x256.size a ≤ S2x704x2048.size a := fun v121 k0_hw15 => k0_hw15.2.2.2.2.2.2.1.2.2.2.2.2.2.2.2.2.2.2.2.2.2.2.2.2.2.2.1
theorem k0_off597_inb : ∀ (v121 : BitVec 32) (k0_hw15 : k0_chk15 v121), ∀ a, (k0_off597 v121) a + S1x1x256.size a ≤ S2x11x2048.size a := fun v121 k0_hw15 => k0_hw15.2.2.2.2.2.2.1.2.2.2.2.2.2.2.2.2.2.2.2.2.2.2.2.2.2.2.2.1
theorem k0_off598_inb : ∀ (v121 : BitVec 32) (k0_hw15 : k0_chk15 v121), ∀ a, (k0_off598 v121) a + S1x1x256.size a ≤ S2x11x2048.size a := fun v121 k0_hw15 => k0_hw15.2.2.2.2.2.2.1.2.2.2.2.2.2.2.2.2.2.2.2.2.2.2.2.2.2.2.2.2.1
theorem k0_off599_inb : ∀ (v121 : BitVec 32) (k0_hw15 : k0_chk15 v121), ∀ a, (k0_off599 v121) a + S1x1x256.size a ≤ S2x11x2048.size a := fun v121 k0_hw15 => k0_hw15.2.2.2.2.2.2.1.2.2.2.2.2.2.2.2.2.2.2.2.2.2.2.2.2.2.2.2.2.2.1
theorem k0_off600_inb : ∀ (v121 : BitVec 32) (k0_hw15 : k0_chk15 v121), ∀ a, (k0_off600 v121) a + S1x1x256.size a ≤ S2x11x2048.size a := fun v121 k0_hw15 => k0_hw15.2.2.2.2.2.2.1.2.2.2.2.2.2.2.2.2.2.2.2.2.2.2.2.2.2.2.2.2.2.2.1
theorem k0_off601_inb : ∀ (v121 : BitVec 32) (k0_hw15 : k0_chk15 v121), ∀ a, (k0_off601 v121) a + S1x1x256.size a ≤ S2x11x2048.size a := fun v121 k0_hw15 => k0_hw15.2.2.2.2.2.2.1.2.2.2.2.2.2.2.2.2.2.2.2.2.2.2.2.2.2.2.2.2.2.2.2.1
theorem k0_off602_inb : ∀ (v121 : BitVec 32) (k0_hw15 : k0_chk15 v121), ∀ a, (k0_off602 v121) a + S1x1x256.size a ≤ S2x11x2048.size a := fun v121 k0_hw15 => k0_hw15.2.2.2.2.2.2.1.2.2.2.2.2.2.2.2.2.2.2.2.2.2.2.2.2.2.2.2.2.2.2.2.2.1
theorem k0_off603_inb : ∀ (v121 : BitVec 32) (k0_hw15 : k0_chk15 v121), ∀ a, (k0_off603 v121) a + S1x1x256.size a ≤ S2x11x2048.size a := fun v121 k0_hw15 => k0_hw15.2.2.2.2.2.2.1.2.2.2.2.2.2.2.2.2.2.2.2.2.2.2.2.2.2.2.2.2.2.2.2.2.2.1
theorem k0_off604_inb : ∀ (v121 : BitVec 32) (k0_hw15 : k0_chk15 v121), ∀ a, (k0_off604 v121) a + S1x1x256.size a ≤ S2x11x2048.size a := fun v121 k0_hw15 => k0_hw15.2.2.2.2.2.2.1.2.2.2.2.2.2.2.2.2.2.2.2.2.2.2.2.2.2.2.2.2.2.2.2.2.2.2.1
theorem k0_off605_inb : ∀ (v121 : BitVec 32) (k0_hw15 : k0_chk15 v121), ∀ a, (k0_off605 v121) a + S1x1x256.size a ≤ S2x11x2048.size a := fun v121 k0_hw15 => k0_hw15.2.2.2.2.2.2.1.2.2.2.2.2.2.2.2.2.2.2.2.2.2.2.2.2.2.2.2.2.2.2.2.2.2.2.2.1
theorem k0_off606_inb : ∀ (v121 : BitVec 32) (k0_hw15 : k0_chk15 v121), ∀ a, (k0_off606 v121) a + S1x1x256.size a ≤ S2x11x2048.size a := fun v121 k0_hw15 => k0_hw15.2.2.2.2.2.2.1.2.2.2.2.2.2.2.2.2.2.2.2.2.2.2.2.2.2.2.2.2.2.2.2.2.2.2.2.2.1
theorem k0_off607_inb : ∀ (v121 : BitVec 32) (k0_hw15 : k0_chk15 v121), ∀ a, (k0_off607 v121) a + S1x1x256.size a ≤ S2x11x2048.size a := fun v121 k0_hw15 => k0_hw15.2.2.2.2.2.2.1.2.2.2.2.2.2.2.2.2.2.2.2.2.2.2.2.2.2.2.2.2.2.2.2.2.2.2.2.2.2.1
theorem k0_off610_inb : ∀ (v121 : BitVec 32) (k0_hw15 : k0_chk15 v121), ∀ a, (k0_off610 v121) a + S1x704x256.size a ≤ S2x704x2048.size a := fun v121 k0_hw15 => k0_hw15.2.2.2.2.2.2.1.2.2.2.2.2.2.2.2.2.2.2.2.2.2.2.2.2.2.2.2.2.2.2.2.2.2.2.2.2.2.2
theorem k0_off611_inb : ∀ (v121 : BitVec 32) (k0_hw15 : k0_chk15 v121), ∀ a, (k0_off611 v121) a + S1x1x256.size a ≤ S2x11x2048.size a := fun v121 k0_hw15 => k0_hw15.2.2.2.2.2.2.2.1.1
theorem k0_off612_inb : ∀ (v121 : BitVec 32) (k0_hw15 : k0_chk15 v121), ∀ a, (k0_off612 v121) a + S1x1x256.size a ≤ S2x11x2048.size a := fun v121 k0_hw15 => k0_hw15.2.2.2.2.2.2.2.1.2.1
theorem k0_off613_inb : ∀ (v121 : BitVec 32) (k0_hw15 : k0_chk15 v121), ∀ a, (k0_off613 v121) a + S1x1x256.size a ≤ S2x11x2048.size a := fun v121 k0_hw15 => k0_hw15.2.2.2.2.2.2.2.1.2.2.1
theorem k0_off614_inb : ∀ (v121 : BitVec 32) (k0_hw15 : k0_chk15 v121), ∀ a, (k0_off614 v121) a + S1x1x256.size a ≤ S2x11x2048.size a := fun v121 k0_hw15 => k0_hw15.2.2.2.2.2.2.2.1.2.2.2.1
theorem k0_off615_inb : ∀ (v121 : BitVec 32) (k0_hw15 : k0_chk15 v121), ∀ a, (k0_off615 v121) a + S1x1x256.size a ≤ S2x11x2048.size a := fun v121 k0_hw15 => k0_hw15.2.2.2.2.2.2.2.1.2.2.2.2.1
theorem k0_off616_inb : ∀ (v121 : BitVec 32) (k0_hw15 : k0_chk15 v121), ∀ a, (k0_off616 v121) a + S1x1x256.size a ≤ S2x11x2048.size a := fun v121 k0_hw15 => k0_hw15.2.2.2.2.2.2.2.1.2.2.2.2.2.1
theorem k0_off617_inb : ∀ (v121 : BitVec 32) (k0_hw15 : k0_chk15 v121), ∀ a, (k0_off617 v121) a + S1x1x256.size a ≤ S2x11x2048.size a := fun v121 k0_hw15 => k0_hw15.2.2.2.2.2.2.2.1.2.2.2.2.2.2.1
theorem k0_off618_inb : ∀ (v121 : BitVec 32) (k0_hw15 : k0_chk15 v121), ∀ a, (k0_off618 v121) a + S1x1x256.size a ≤ S2x11x2048.size a := fun v121 k0_hw15 => k0_hw15.2.2.2.2.2.2.2.1.2.2.2.2.2.2.2.1
theorem k0_off619_inb : ∀ (v121 : BitVec 32) (k0_hw15 : k0_chk15 v121), ∀ a, (k0_off619 v121) a + S1x1x256.size a ≤ S2x11x2048.size a := fun v121 k0_hw15 => k0_hw15.2.2.2.2.2.2.2.1.2.2.2.2.2.2.2.2.1
theorem k0_off620_inb : ∀ (v121 : BitVec 32) (k0_hw15 : k0_chk15 v121), ∀ a, (k0_off620 v121) a + S1x1x256.size a ≤ S2x11x2048.size a := fun v121 k0_hw15 => k0_hw15.2.2.2.2.2.2.2.1.2.2.2.2.2.2.2.2.2.1
theorem k0_off621_inb : ∀ (v121 : BitVec 32) (k0_hw15 : k0_chk15 v121), ∀ a, (k0_off621 v121) a + S1x1x256.size a ≤ S2x11x2048.size a := fun v121 k0_hw15 => k0_hw15.2.2.2.2.2.2.2.1.2.2.2.2.2.2.2.2.2.2.1
theorem k0_off624_inb : ∀ (v121 : BitVec 32) (k0_hw15 : k0_chk15 v121), ∀ a, (k0_off624 v121) a + S1x704x256.size a ≤ S2x704x2048.size a := fun v121 k0_hw15 => k0_hw15.2.2.2.2.2.2.2.1.2.2.2.2.2.2.2.2.2.2.2.1
theorem k0_off625_inb : ∀ (v121 : BitVec 32) (k0_hw15 : k0_chk15 v121), ∀ a, (k0_off625 v121) a + S1x1x256.size a ≤ S2x11x2048.size a := fun v121 k0_hw15 => k0_hw15.2.2.2.2.2.2.2.1.2.2.2.2.2.2.2.2.2.2.2.2.1
theorem k0_off626_inb : ∀ (v121 : BitVec 32) (k0_hw15 : k0_chk15 v121), ∀ a, (k0_off626 v121) a + S1x1x256.size a ≤ S2x11x2048.size a := fun v121 k0_hw15 => k0_hw15.2.2.2.2.2.2.2.1.2.2.2.2.2.2.2.2.2.2.2.2.2.1
theorem k0_off627_inb : ∀ (v121 : BitVec 32) (k0_hw15 : k0_chk15 v121), ∀ a, (k0_off627 v121) a + S1x1x256.size a ≤ S2x11x2048.size a := fun v121 k0_hw15 => k0_hw15.2.2.2.2.2.2.2.1.2.2.2.2.2.2.2.2.2.2.2.2.2.2.1
theorem k0_off628_inb : ∀ (v121 : BitVec 32) (k0_hw15 : k0_chk15 v121), ∀ a, (k0_off628 v121) a + S1x1x256.size a ≤ S2x11x2048.size a := fun v121 k0_hw15 => k0_hw15.2.2.2.2.2.2.2.1.2.2.2.2.2.2.2.2.2.2.2.2.2.2.2.1
theorem k0_off629_inb : ∀ (v121 : BitVec 32) (k0_hw15 : k0_chk15 v121), ∀ a, (k0_off629 v121) a + S1x1x256.size a ≤ S2x11x2048.size a := fun v121 k0_hw15 => k0_hw15.2.2.2.2.2.2.2.1.2.2.2.2.2.2.2.2.2.2.2.2.2.2.2.2.1
theorem k0_off630_inb : ∀ (v121 : BitVec 32) (k0_hw15 : k0_chk15 v121), ∀ a, (k0_off630 v121) a + S1x1x256.size a ≤ S2x11x2048.size a := fun v121 k0_hw15 => k0_hw15.2.2.2.2.2.2.2.1.2.2.2.2.2.2.2.2.2.2.2.2.2.2.2.2.2.1
theorem k0_off631_inb : ∀ (v121 : BitVec 32) (k0_hw15 : k0_chk15 v121), ∀ a, (k0_off631 v121) a + S1x1x256.size a ≤ S2x11x2048.size a := fun v121 k0_hw15 => k0_hw15.2.2.2.2.2.2.2.1.2.2.2.2.2.2.2.2.2.2.2.2.2.2.2.2.2.2.1
theorem k0_off632_inb : ∀ (v121 : BitVec 32) (k0_hw15 : k0_chk15 v121), ∀ a, (k0_off632 v121) a + S1x1x256.size a ≤ S2x11x2048.size a := fun v121 k0_hw15 => k0_hw15.2.2.2.2.2.2.2.1.2.2.2.2.2.2.2.2.2.2.2.2.2.2.2.2.2.2.2.1
theorem k0_off633_inb : ∀ (v121 : BitVec 32) (k0_hw15 : k0_chk15 v121), ∀ a, (k0_off633 v121) a + S1x1x256.size a ≤ S2x11x2048.size a := fun v121 k0_hw15 => k0_hw15.2.2.2.2.2.2.2.1.2.2.2.2.2.2.2.2.2.2.2.2.2.2.2.2.2.2.2.2.1
theorem k0_off634_inb : ∀ (v121 : BitVec 32) (k0_hw15 : k0_chk15 v121), ∀ a, (k0_off634 v121) a + S1x1x256.size a ≤ S2x11x2048.size a := fun v121 k0_hw15 => k0_hw15.2.2.2.2.2.2.2.1.2.2.2.2.2.2.2.2.2.2.2.2.2.2.2.2.2.2.2.2.2.1
theorem k0_off635_inb : ∀ (v121 : BitVec 32) (k0_hw15 : k0_chk15 v121), ∀ a, (k0_off635 v121) a + S1x1x256.size a ≤ S2x11x2048.size a := fun v121 k0_hw15 => k0_hw15.2.2.2.2.2.2.2.1.2.2.2.2.2.2.2.2.2.2.2.2.2.2.2.2.2.2.2.2.2.2.1
theorem k0_off638_inb : ∀ (v121 : BitVec 32) (k0_hw15 : k0_chk15 v121), ∀ a, (k0_off638 v121) a + S1x704x256.size a ≤ S2x704x2048.size a := fun v121 k0_hw15 => k0_hw15.2.2.2.2.2.2.2.1.2.2.2.2.2.2.2.2.2.2.2.2.2.2.2.2.2.2.2.2.2.2.2.1
theorem k0_off639_inb : ∀ (v121 : BitVec 32) (k0_hw15 : k0_chk15 v121), ∀ a, (k0_off639 v121) a + S1x1x256.size a ≤ S2x11x2048.size a := fun v121 k0_hw15 => k0_hw15.2.2.2.2.2.2.2.1.2.2.2.2.2.2.2.2.2.2.2.2.2.2.2.2.2.2.2.2.2.2.2.2.1
theorem k0_off640_inb : ∀ (v121 : BitVec 32) (k0_hw15 : k0_chk15 v121), ∀ a, (k0_off640 v121) a + S1x1x256.size a ≤ S2x11x2048.size a := fun v121 k0_hw15 => k0_hw15.2.2.2.2.2.2.2.1.2.2.2.2.2.2.2.2.2.2.2.2.2.2.2.2.2.2.2.2.2.2.2.2.2.1
theorem k0_off641_inb : ∀ (v121 : BitVec 32) (k0_hw15 : k0_chk15 v121), ∀ a, (k0_off641 v121) a + S1x1x256.size a ≤ S2x11x2048.size a := fun v121 k0_hw15 => k0_hw15.2.2.2.2.2.2.2.1.2.2.2.2.2.2.2.2.2.2.2.2.2.2.2.2.2.2.2.2.2.2.2.2.2.2.1
theorem k0_off642_inb : ∀ (v121 : BitVec 32) (k0_hw15 : k0_chk15 v121), ∀ a, (k0_off642 v121) a + S1x1x256.size a ≤ S2x11x2048.size a := fun v121 k0_hw15 => k0_hw15.2.2.2.2.2.2.2.1.2.2.2.2.2.2.2.2.2.2.2.2.2.2.2.2.2.2.2.2.2.2.2.2.2.2.2.1
theorem k0_off643_inb : ∀ (v121 : BitVec 32) (k0_hw15 : k0_chk15 v121), ∀ a, (k0_off643 v121) a + S1x1x256.size a ≤ S2x11x2048.size a := fun v121 k0_hw15 => k0_hw15.2.2.2.2.2.2.2.1.2.2.2.2.2.2.2.2.2.2.2.2.2.2.2.2.2.2.2.2.2.2.2.2.2.2.2.2.1
theorem k0_off644_inb : ∀ (v121 : BitVec 32) (k0_hw15 : k0_chk15 v121), ∀ a, (k0_off644 v121) a + S1x1x256.size a ≤ S2x11x2048.size a := fun v121 k0_hw15 => k0_hw15.2.2.2.2.2.2.2.1.2.2.2.2.2.2.2.2.2.2.2.2.2.2.2.2.2.2.2.2.2.2.2.2.2.2.2.2.2.1
theorem k0_off645_inb : ∀ (v121 : BitVec 32) (k0_hw15 : k0_chk15 v121), ∀ a, (k0_off645 v121) a + S1x1x256.size a ≤ S2x11x2048.size a := fun v121 k0_hw15 => k0_hw15.2.2.2.2.2.2.2.1.2.2.2.2.2.2.2.2.2.2.2.2.2.2.2.2.2.2.2.2.2.2.2.2.2.2.2.2.2.2.1
theorem k0_off646_inb : ∀ (v121 : BitVec 32) (k0_hw15 : k0_chk15 v121), ∀ a, (k0_off646 v121) a + S1x1x256.size a ≤ S2x11x2048.size a := fun v121 k0_hw15 => k0_hw15.2.2.2.2.2.2.2.1.2.2.2.2.2.2.2.2.2.2.2.2.2.2.2.2.2.2.2.2.2.2.2.2.2.2.2.2.2.2.2
theorem k0_off647_inb : ∀ (v121 : BitVec 32) (k0_hw15 : k0_chk15 v121), ∀ a, (k0_off647 v121) a + S1x1x256.size a ≤ S2x11x2048.size a := fun v121 k0_hw15 => k0_hw15.2.2.2.2.2.2.2.2.1
theorem k0_off648_inb : ∀ (v121 : BitVec 32) (k0_hw15 : k0_chk15 v121), ∀ a, (k0_off648 v121) a + S1x1x256.size a ≤ S2x11x2048.size a := fun v121 k0_hw15 => k0_hw15.2.2.2.2.2.2.2.2.2.1
theorem k0_off649_inb : ∀ (v121 : BitVec 32) (k0_hw15 : k0_chk15 v121), ∀ a, (k0_off649 v121) a + S1x1x256.size a ≤ S2x11x2048.size a := fun v121 k0_hw15 => k0_hw15.2.2.2.2.2.2.2.2.2.2.1
theorem k0_off652_inb : ∀ (v121 : BitVec 32) (k0_hw15 : k0_chk15 v121), ∀ a, (k0_off652 v121) a + S1x704x256.size a ≤ S2x704x2048.size a := fun v121 k0_hw15 => k0_hw15.2.2.2.2.2.2.2.2.2.2.2.1
theorem k0_off653_inb : ∀ (v121 : BitVec 32) (k0_hw15 : k0_chk15 v121), ∀ a, (k0_off653 v121) a + S1x1x256.size a ≤ S2x11x2048.size a := fun v121 k0_hw15 => k0_hw15.2.2.2.2.2.2.2.2.2.2.2.2.1
theorem k0_off654_inb : ∀ (v121 : BitVec 32) (k0_hw15 : k0_chk15 v121), ∀ a, (k0_off654 v121) a + S1x1x256.size a ≤ S2x11x2048.size a := fun v121 k0_hw15 => k0_hw15.2.2.2.2.2.2.2.2.2.2.2.2.2.1
theorem k0_off655_inb : ∀ (v121 : BitVec 32) (k0_hw15 : k0_chk15 v121), ∀ a, (k0_off655 v121) a + S1x1x256.size a ≤ S2x11x2048.size a := fun v121 k0_hw15 => k0_hw15.2.2.2.2.2.2.2.2.2.2.2.2.2.2.1
theorem k0_off656_inb : ∀ (v121 : BitVec 32) (k0_hw15 : k0_chk15 v121), ∀ a, (k0_off656 v121) a + S1x1x256.size a ≤ S2x11x2048.size a := fun v121 k0_hw15 => k0_hw15.2.2.2.2.2.2.2.2.2.2.2.2.2.2.2.1
theorem k0_off657_inb : ∀ (v121 : BitVec 32) (k0_hw15 : k0_chk15 v121), ∀ a, (k0_off657 v121) a + S1x1x256.size a ≤ S2x11x2048.size a := fun v121 k0_hw15 => k0_hw15.2.2.2.2.2.2.2.2.2.2.2.2.2.2.2.2.1
theorem k0_off658_inb : ∀ (v121 : BitVec 32) (k0_hw15 : k0_chk15 v121), ∀ a, (k0_off658 v121) a + S1x1x256.size a ≤ S2x11x2048.size a := fun v121 k0_hw15 => k0_hw15.2.2.2.2.2.2.2.2.2.2.2.2.2.2.2.2.2.1
theorem k0_off659_inb : ∀ (v121 : BitVec 32) (k0_hw15 : k0_chk15 v121), ∀ a, (k0_off659 v121) a + S1x1x256.size a ≤ S2x11x2048.size a := fun v121 k0_hw15 => k0_hw15.2.2.2.2.2.2.2.2.2.2.2.2.2.2.2.2.2.2.1
theorem k0_off660_inb : ∀ (v121 : BitVec 32) (k0_hw15 : k0_chk15 v121), ∀ a, (k0_off660 v121) a + S1x1x256.size a ≤ S2x11x2048.size a := fun v121 k0_hw15 => k0_hw15.2.2.2.2.2.2.2.2.2.2.2.2.2.2.2.2.2.2.2.1
theorem k0_off661_inb : ∀ (v121 : BitVec 32) (k0_hw15 : k0_chk15 v121), ∀ a, (k0_off661 v121) a + S1x1x256.size a ≤ S2x11x2048.size a := fun v121 k0_hw15 => k0_hw15.2.2.2.2.2.2.2.2.2.2.2.2.2.2.2.2.2.2.2.2.1
theorem k0_off662_inb : ∀ (v121 : BitVec 32) (k0_hw15 : k0_chk15 v121), ∀ a, (k0_off662 v121) a + S1x1x256.size a ≤ S2x11x2048.size a := fun v121 k0_hw15 => k0_hw15.2.2.2.2.2.2.2.2.2.2.2.2.2.2.2.2.2.2.2.2.2.1
theorem k0_off663_inb : ∀ (v121 : BitVec 32) (k0_hw15 : k0_chk15 v121), ∀ a, (k0_off663 v121) a + S1x1x256.size a ≤ S2x11x2048.size a := fun v121 k0_hw15 => k0_hw15.2.2.2.2.2.2.2.2.2.2.2.2.2.2.2.2.2.2.2.2.2.2.1
theorem k0_off666_inb : ∀ (v121 : BitVec 32) (k0_hw15 : k0_chk15 v121), ∀ a, (k0_off666 v121) a + S1x704x256.size a ≤ S2x704x2048.size a := fun v121 k0_hw15 => k0_hw15.2.2.2.2.2.2.2.2.2.2.2.2.2.2.2.2.2.2.2.2.2.2.2.1
theorem k0_off667_inb : ∀ (v121 : BitVec 32) (k0_hw15 : k0_chk15 v121), ∀ a, (k0_off667 v121) a + S1x1x256.size a ≤ S2x11x2048.size a := fun v121 k0_hw15 => k0_hw15.2.2.2.2.2.2.2.2.2.2.2.2.2.2.2.2.2.2.2.2.2.2.2.2.1
theorem k0_off668_inb : ∀ (v121 : BitVec 32) (k0_hw15 : k0_chk15 v121), ∀ a, (k0_off668 v121) a + S1x1x256.size a ≤ S2x11x2048.size a := fun v121 k0_hw15 => k0_hw15.2.2.2.2.2.2.2.2.2.2.2.2.2.2.2.2.2.2.2.2.2.2.2.2.2.1
theorem k0_off669_inb : ∀ (v121 : BitVec 32) (k0_hw15 : k0_chk15 v121), ∀ a, (k0_off669 v121) a + S1x1x256.size a ≤ S2x11x2048.size a := fun v121 k0_hw15 => k0_hw15.2.2.2.2.2.2.2.2.2.2.2.2.2.2.2.2.2.2.2.2.2.2.2.2.2.2.1
theorem k0_off670_inb : ∀ (v121 : BitVec 32) (k0_hw15 : k0_chk15 v121), ∀ a, (k0_off670 v121) a + S1x1x256.size a ≤ S2x11x2048.size a := fun v121 k0_hw15 => k0_hw15.2.2.2.2.2.2.2.2.2.2.2.2.2.2.2.2.2.2.2.2.2.2.2.2.2.2.2.1
theorem k0_off671_inb : ∀ (v121 : BitVec 32) (k0_hw15 : k0_chk15 v121), ∀ a, (k0_off671 v121) a + S1x1x256.size a ≤ S2x11x2048.size a := fun v121 k0_hw15 => k0_hw15.2.2.2.2.2.2.2.2.2.2.2.2.2.2.2.2.2.2.2.2.2.2.2.2.2.2.2.2.1
theorem k0_off672_inb : ∀ (v121 : BitVec 32) (k0_hw15 : k0_chk15 v121), ∀ a, (k0_off672 v121) a + S1x1x256.size a ≤ S2x11x2048.size a := fun v121 k0_hw15 => k0_hw15.2.2.2.2.2.2.2.2.2.2.2.2.2.2.2.2.2.2.2.2.2.2.2.2.2.2.2.2.2.1
theorem k0_off673_inb : ∀ (v121 : BitVec 32) (k0_hw15 : k0_chk15 v121), ∀ a, (k0_off673 v121) a + S1x1x256.size a ≤ S2x11x2048.size a := fun v121 k0_hw15 => k0_hw15.2.2.2.2.2.2.2.2.2.2.2.2.2.2.2.2.2.2.2.2.2.2.2.2.2.2.2.2.2.2.1
theorem k0_off674_inb : ∀ (v121 : BitVec 32) (k0_hw15 : k0_chk15 v121), ∀ a, (k0_off674 v121) a + S1x1x256.size a ≤ S2x11x2048.size a := fun v121 k0_hw15 => k0_hw15.2.2.2.2.2.2.2.2.2.2.2.2.2.2.2.2.2.2.2.2.2.2.2.2.2.2.2.2.2.2.2.1
theorem k0_off675_inb : ∀ (v121 : BitVec 32) (k0_hw15 : k0_chk15 v121), ∀ a, (k0_off675 v121) a + S1x1x256.size a ≤ S2x11x2048.size a := fun v121 k0_hw15 => k0_hw15.2.2.2.2.2.2.2.2.2.2.2.2.2.2.2.2.2.2.2.2.2.2.2.2.2.2.2.2.2.2.2.2.1
theorem k0_off676_inb : ∀ (v121 : BitVec 32) (k0_hw15 : k0_chk15 v121), ∀ a, (k0_off676 v121) a + S1x1x256.size a ≤ S2x11x2048.size a := fun v121 k0_hw15 => k0_hw15.2.2.2.2.2.2.2.2.2.2.2.2.2.2.2.2.2.2.2.2.2.2.2.2.2.2.2.2.2.2.2.2.2.1
theorem k0_off677_inb : ∀ (v121 : BitVec 32) (k0_hw15 : k0_chk15 v121), ∀ a, (k0_off677 v121) a + S1x1x256.size a ≤ S2x11x2048.size a := fun v121 k0_hw15 => k0_hw15.2.2.2.2.2.2.2.2.2.2.2.2.2.2.2.2.2.2.2.2.2.2.2.2.2.2.2.2.2.2.2.2.2.2

def k0_off678 (v115 : BitVec 32) : Fin 2 → Nat :=
  let v122 : BitVec 32 := v115
  let v2489 : Index := Scalar.indexCast v122
  let c1792_857 : Index := 1792#32
  ![v2489.toNat, 1792]
def k0_off679 (v115 : BitVec 32) : Fin 2 → Nat :=
  let v122 : BitVec 32 := v115
  let v2499 : Index := Scalar.indexCast v122
  let c1920_859 : Index := 1920#32
  ![v2499.toNat, 1920]

def k0_chk10_0 (v115 : BitVec 32) : Prop :=
  (16 ∣ (k0_mult2 v115).toNat) ∧
  (∀ a, (k0_off379 v115) a + S128x2048.size a ≤ S1536x2048.size a) ∧
  (∀ a, (k0_off567 v115) a + S128x128.size a ≤ S1536x128.size a) ∧
  (∀ a, (k0_off580 v115) a + S128x128.size a ≤ S1536x2048.size a) ∧
  (∀ (hinb : ∀ a, (k0_off580 v115) a + S128x128.size a ≤ S1536x2048.size a), (Rect.unit (s := S1536x2048) (k0_off580 v115) S128x128.size hinb).PackedRows (EltTy.packing .bf16)) ∧
  (∀ a, (k0_off581 v115) a + S128x128.size a ≤ S1536x2048.size a) ∧
  (∀ (hinb : ∀ a, (k0_off581 v115) a + S128x128.size a ≤ S1536x2048.size a), (Rect.unit (s := S1536x2048) (k0_off581 v115) S128x128.size hinb).PackedRows (EltTy.packing .bf16)) ∧
  (∀ a, (k0_off594 v115) a + S128x128.size a ≤ S1536x2048.size a) ∧
  (∀ (hinb : ∀ a, (k0_off594 v115) a + S128x128.size a ≤ S1536x2048.size a), (Rect.unit (s := S1536x2048) (k0_off594 v115) S128x128.size hinb).PackedRows (EltTy.packing .bf16)) ∧
  (∀ a, (k0_off595 v115) a + S128x128.size a ≤ S1536x2048.size a) ∧
  (∀ (hinb : ∀ a, (k0_off595 v115) a + S128x128.size a ≤ S1536x2048.size a), (Rect.unit (s := S1536x2048) (k0_off595 v115) S128x128.size hinb).PackedRows (EltTy.packing .bf16)) ∧
  (∀ a, (k0_off608 v115) a + S128x128.size a ≤ S1536x2048.size a) ∧
  (∀ (hinb : ∀ a, (k0_off608 v115) a + S128x128.size a ≤ S1536x2048.size a), (Rect.unit (s := S1536x2048) (k0_off608 v115) S128x128.size hinb).PackedRows (EltTy.packing .bf16)) ∧
  (∀ a, (k0_off609 v115) a + S128x128.size a ≤ S1536x2048.size a) ∧
  (∀ (hinb : ∀ a, (k0_off609 v115) a + S128x128.size a ≤ S1536x2048.size a), (Rect.unit (s := S1536x2048) (k0_off609 v115) S128x128.size hinb).PackedRows (EltTy.packing .bf16)) ∧
  (∀ a, (k0_off622 v115) a + S128x128.size a ≤ S1536x2048.size a) ∧
  (∀ (hinb : ∀ a, (k0_off622 v115) a + S128x128.size a ≤ S1536x2048.size a), (Rect.unit (s := S1536x2048) (k0_off622 v115) S128x128.size hinb).PackedRows (EltTy.packing .bf16)) ∧
  (∀ a, (k0_off623 v115) a + S128x128.size a ≤ S1536x2048.size a) ∧
  (∀ (hinb : ∀ a, (k0_off623 v115) a + S128x128.size a ≤ S1536x2048.size a), (Rect.unit (s := S1536x2048) (k0_off623 v115) S128x128.size hinb).PackedRows (EltTy.packing .bf16)) ∧
  (∀ a, (k0_off636 v115) a + S128x128.size a ≤ S1536x2048.size a) ∧
  (∀ (hinb : ∀ a, (k0_off636 v115) a + S128x128.size a ≤ S1536x2048.size a), (Rect.unit (s := S1536x2048) (k0_off636 v115) S128x128.size hinb).PackedRows (EltTy.packing .bf16)) ∧
  (∀ a, (k0_off637 v115) a + S128x128.size a ≤ S1536x2048.size a) ∧
  (∀ (hinb : ∀ a, (k0_off637 v115) a + S128x128.size a ≤ S1536x2048.size a), (Rect.unit (s := S1536x2048) (k0_off637 v115) S128x128.size hinb).PackedRows (EltTy.packing .bf16)) ∧
  (∀ a, (k0_off650 v115) a + S128x128.size a ≤ S1536x2048.size a) ∧
  (∀ (hinb : ∀ a, (k0_off650 v115) a + S128x128.size a ≤ S1536x2048.size a), (Rect.unit (s := S1536x2048) (k0_off650 v115) S128x128.size hinb).PackedRows (EltTy.packing .bf16)) ∧
  (∀ a, (k0_off651 v115) a + S128x128.size a ≤ S1536x2048.size a) ∧
  (∀ (hinb : ∀ a, (k0_off651 v115) a + S128x128.size a ≤ S1536x2048.size a), (Rect.unit (s := S1536x2048) (k0_off651 v115) S128x128.size hinb).PackedRows (EltTy.packing .bf16)) ∧
  (∀ a, (k0_off664 v115) a + S128x128.size a ≤ S1536x2048.size a) ∧
  (∀ (hinb : ∀ a, (k0_off664 v115) a + S128x128.size a ≤ S1536x2048.size a), (Rect.unit (s := S1536x2048) (k0_off664 v115) S128x128.size hinb).PackedRows (EltTy.packing .bf16)) ∧
  (∀ a, (k0_off665 v115) a + S128x128.size a ≤ S1536x2048.size a) ∧
  (∀ (hinb : ∀ a, (k0_off665 v115) a + S128x128.size a ≤ S1536x2048.size a), (Rect.unit (s := S1536x2048) (k0_off665 v115) S128x128.size hinb).PackedRows (EltTy.packing .bf16)) ∧
  (∀ a, (k0_off678 v115) a + S128x128.size a ≤ S1536x2048.size a)
def k0_chk10_1 (v115 : BitVec 32) : Prop :=
  (∀ (hinb : ∀ a, (k0_off678 v115) a + S128x128.size a ≤ S1536x2048.size a), (Rect.unit (s := S1536x2048) (k0_off678 v115) S128x128.size hinb).PackedRows (EltTy.packing .bf16)) ∧
  (∀ a, (k0_off679 v115) a + S128x128.size a ≤ S1536x2048.size a) ∧
  (∀ (hinb : ∀ a, (k0_off679 v115) a + S128x128.size a ≤ S1536x2048.size a), (Rect.unit (s := S1536x2048) (k0_off679 v115) S128x128.size hinb).PackedRows (EltTy.packing .bf16))
def k0_chk10 (v115 : BitVec 32) : Prop :=
  k0_chk10_0 v115 ∧
  k0_chk10_1 v115
theorem k0_mult2_dvd : ∀ (v115 : BitVec 32) (k0_hw10 : k0_chk10 v115), 16 ∣ (k0_mult2 v115).toNat := fun v115 k0_hw10 => k0_hw10.1.1
theorem k0_off379_inb : ∀ (v115 : BitVec 32) (k0_hw10 : k0_chk10 v115), ∀ a, (k0_off379 v115) a + S128x2048.size a ≤ S1536x2048.size a := fun v115 k0_hw10 => k0_hw10.1.2.1
theorem k0_off567_inb : ∀ (v115 : BitVec 32) (k0_hw10 : k0_chk10 v115), ∀ a, (k0_off567 v115) a + S128x128.size a ≤ S1536x128.size a := fun v115 k0_hw10 => k0_hw10.1.2.2.1
theorem k0_off580_inb : ∀ (v115 : BitVec 32) (k0_hw10 : k0_chk10 v115), ∀ a, (k0_off580 v115) a + S128x128.size a ≤ S1536x2048.size a := fun v115 k0_hw10 => k0_hw10.1.2.2.2.1
theorem k0_off580_packedbf16 : ∀ (v115 : BitVec 32) (k0_hw10 : k0_chk10 v115), (Rect.unit (s := S1536x2048) (k0_off580 v115) S128x128.size (k0_off580_inb v115 k0_hw10)).PackedRows (EltTy.packing .bf16) := fun v115 k0_hw10 => k0_hw10.1.2.2.2.2.1 (k0_off580_inb v115 k0_hw10)
theorem k0_off581_inb : ∀ (v115 : BitVec 32) (k0_hw10 : k0_chk10 v115), ∀ a, (k0_off581 v115) a + S128x128.size a ≤ S1536x2048.size a := fun v115 k0_hw10 => k0_hw10.1.2.2.2.2.2.1
theorem k0_off581_packedbf16 : ∀ (v115 : BitVec 32) (k0_hw10 : k0_chk10 v115), (Rect.unit (s := S1536x2048) (k0_off581 v115) S128x128.size (k0_off581_inb v115 k0_hw10)).PackedRows (EltTy.packing .bf16) := fun v115 k0_hw10 => k0_hw10.1.2.2.2.2.2.2.1 (k0_off581_inb v115 k0_hw10)
theorem k0_off594_inb : ∀ (v115 : BitVec 32) (k0_hw10 : k0_chk10 v115), ∀ a, (k0_off594 v115) a + S128x128.size a ≤ S1536x2048.size a := fun v115 k0_hw10 => k0_hw10.1.2.2.2.2.2.2.2.1
theorem k0_off594_packedbf16 : ∀ (v115 : BitVec 32) (k0_hw10 : k0_chk10 v115), (Rect.unit (s := S1536x2048) (k0_off594 v115) S128x128.size (k0_off594_inb v115 k0_hw10)).PackedRows (EltTy.packing .bf16) := fun v115 k0_hw10 => k0_hw10.1.2.2.2.2.2.2.2.2.1 (k0_off594_inb v115 k0_hw10)
theorem k0_off595_inb : ∀ (v115 : BitVec 32) (k0_hw10 : k0_chk10 v115), ∀ a, (k0_off595 v115) a + S128x128.size a ≤ S1536x2048.size a := fun v115 k0_hw10 => k0_hw10.1.2.2.2.2.2.2.2.2.2.1
theorem k0_off595_packedbf16 : ∀ (v115 : BitVec 32) (k0_hw10 : k0_chk10 v115), (Rect.unit (s := S1536x2048) (k0_off595 v115) S128x128.size (k0_off595_inb v115 k0_hw10)).PackedRows (EltTy.packing .bf16) := fun v115 k0_hw10 => k0_hw10.1.2.2.2.2.2.2.2.2.2.2.1 (k0_off595_inb v115 k0_hw10)
theorem k0_off608_inb : ∀ (v115 : BitVec 32) (k0_hw10 : k0_chk10 v115), ∀ a, (k0_off608 v115) a + S128x128.size a ≤ S1536x2048.size a := fun v115 k0_hw10 => k0_hw10.1.2.2.2.2.2.2.2.2.2.2.2.1
theorem k0_off608_packedbf16 : ∀ (v115 : BitVec 32) (k0_hw10 : k0_chk10 v115), (Rect.unit (s := S1536x2048) (k0_off608 v115) S128x128.size (k0_off608_inb v115 k0_hw10)).PackedRows (EltTy.packing .bf16) := fun v115 k0_hw10 => k0_hw10.1.2.2.2.2.2.2.2.2.2.2.2.2.1 (k0_off608_inb v115 k0_hw10)
theorem k0_off609_inb : ∀ (v115 : BitVec 32) (k0_hw10 : k0_chk10 v115), ∀ a, (k0_off609 v115) a + S128x128.size a ≤ S1536x2048.size a := fun v115 k0_hw10 => k0_hw10.1.2.2.2.2.2.2.2.2.2.2.2.2.2.1
theorem k0_off609_packedbf16 : ∀ (v115 : BitVec 32) (k0_hw10 : k0_chk10 v115), (Rect.unit (s := S1536x2048) (k0_off609 v115) S128x128.size (k0_off609_inb v115 k0_hw10)).PackedRows (EltTy.packing .bf16) := fun v115 k0_hw10 => k0_hw10.1.2.2.2.2.2.2.2.2.2.2.2.2.2.2.1 (k0_off609_inb v115 k0_hw10)
theorem k0_off622_inb : ∀ (v115 : BitVec 32) (k0_hw10 : k0_chk10 v115), ∀ a, (k0_off622 v115) a + S128x128.size a ≤ S1536x2048.size a := fun v115 k0_hw10 => k0_hw10.1.2.2.2.2.2.2.2.2.2.2.2.2.2.2.2.1
theorem k0_off622_packedbf16 : ∀ (v115 : BitVec 32) (k0_hw10 : k0_chk10 v115), (Rect.unit (s := S1536x2048) (k0_off622 v115) S128x128.size (k0_off622_inb v115 k0_hw10)).PackedRows (EltTy.packing .bf16) := fun v115 k0_hw10 => k0_hw10.1.2.2.2.2.2.2.2.2.2.2.2.2.2.2.2.2.1 (k0_off622_inb v115 k0_hw10)
theorem k0_off623_inb : ∀ (v115 : BitVec 32) (k0_hw10 : k0_chk10 v115), ∀ a, (k0_off623 v115) a + S128x128.size a ≤ S1536x2048.size a := fun v115 k0_hw10 => k0_hw10.1.2.2.2.2.2.2.2.2.2.2.2.2.2.2.2.2.2.1
theorem k0_off623_packedbf16 : ∀ (v115 : BitVec 32) (k0_hw10 : k0_chk10 v115), (Rect.unit (s := S1536x2048) (k0_off623 v115) S128x128.size (k0_off623_inb v115 k0_hw10)).PackedRows (EltTy.packing .bf16) := fun v115 k0_hw10 => k0_hw10.1.2.2.2.2.2.2.2.2.2.2.2.2.2.2.2.2.2.2.1 (k0_off623_inb v115 k0_hw10)
theorem k0_off636_inb : ∀ (v115 : BitVec 32) (k0_hw10 : k0_chk10 v115), ∀ a, (k0_off636 v115) a + S128x128.size a ≤ S1536x2048.size a := fun v115 k0_hw10 => k0_hw10.1.2.2.2.2.2.2.2.2.2.2.2.2.2.2.2.2.2.2.2.1
theorem k0_off636_packedbf16 : ∀ (v115 : BitVec 32) (k0_hw10 : k0_chk10 v115), (Rect.unit (s := S1536x2048) (k0_off636 v115) S128x128.size (k0_off636_inb v115 k0_hw10)).PackedRows (EltTy.packing .bf16) := fun v115 k0_hw10 => k0_hw10.1.2.2.2.2.2.2.2.2.2.2.2.2.2.2.2.2.2.2.2.2.1 (k0_off636_inb v115 k0_hw10)
theorem k0_off637_inb : ∀ (v115 : BitVec 32) (k0_hw10 : k0_chk10 v115), ∀ a, (k0_off637 v115) a + S128x128.size a ≤ S1536x2048.size a := fun v115 k0_hw10 => k0_hw10.1.2.2.2.2.2.2.2.2.2.2.2.2.2.2.2.2.2.2.2.2.2.1
theorem k0_off637_packedbf16 : ∀ (v115 : BitVec 32) (k0_hw10 : k0_chk10 v115), (Rect.unit (s := S1536x2048) (k0_off637 v115) S128x128.size (k0_off637_inb v115 k0_hw10)).PackedRows (EltTy.packing .bf16) := fun v115 k0_hw10 => k0_hw10.1.2.2.2.2.2.2.2.2.2.2.2.2.2.2.2.2.2.2.2.2.2.2.1 (k0_off637_inb v115 k0_hw10)
theorem k0_off650_inb : ∀ (v115 : BitVec 32) (k0_hw10 : k0_chk10 v115), ∀ a, (k0_off650 v115) a + S128x128.size a ≤ S1536x2048.size a := fun v115 k0_hw10 => k0_hw10.1.2.2.2.2.2.2.2.2.2.2.2.2.2.2.2.2.2.2.2.2.2.2.2.1
theorem k0_off650_packedbf16 : ∀ (v115 : BitVec 32) (k0_hw10 : k0_chk10 v115), (Rect.unit (s := S1536x2048) (k0_off650 v115) S128x128.size (k0_off650_inb v115 k0_hw10)).PackedRows (EltTy.packing .bf16) := fun v115 k0_hw10 => k0_hw10.1.2.2.2.2.2.2.2.2.2.2.2.2.2.2.2.2.2.2.2.2.2.2.2.2.1 (k0_off650_inb v115 k0_hw10)
theorem k0_off651_inb : ∀ (v115 : BitVec 32) (k0_hw10 : k0_chk10 v115), ∀ a, (k0_off651 v115) a + S128x128.size a ≤ S1536x2048.size a := fun v115 k0_hw10 => k0_hw10.1.2.2.2.2.2.2.2.2.2.2.2.2.2.2.2.2.2.2.2.2.2.2.2.2.2.1
theorem k0_off651_packedbf16 : ∀ (v115 : BitVec 32) (k0_hw10 : k0_chk10 v115), (Rect.unit (s := S1536x2048) (k0_off651 v115) S128x128.size (k0_off651_inb v115 k0_hw10)).PackedRows (EltTy.packing .bf16) := fun v115 k0_hw10 => k0_hw10.1.2.2.2.2.2.2.2.2.2.2.2.2.2.2.2.2.2.2.2.2.2.2.2.2.2.2.1 (k0_off651_inb v115 k0_hw10)
theorem k0_off664_inb : ∀ (v115 : BitVec 32) (k0_hw10 : k0_chk10 v115), ∀ a, (k0_off664 v115) a + S128x128.size a ≤ S1536x2048.size a := fun v115 k0_hw10 => k0_hw10.1.2.2.2.2.2.2.2.2.2.2.2.2.2.2.2.2.2.2.2.2.2.2.2.2.2.2.2.1
theorem k0_off664_packedbf16 : ∀ (v115 : BitVec 32) (k0_hw10 : k0_chk10 v115), (Rect.unit (s := S1536x2048) (k0_off664 v115) S128x128.size (k0_off664_inb v115 k0_hw10)).PackedRows (EltTy.packing .bf16) := fun v115 k0_hw10 => k0_hw10.1.2.2.2.2.2.2.2.2.2.2.2.2.2.2.2.2.2.2.2.2.2.2.2.2.2.2.2.2.1 (k0_off664_inb v115 k0_hw10)
theorem k0_off665_inb : ∀ (v115 : BitVec 32) (k0_hw10 : k0_chk10 v115), ∀ a, (k0_off665 v115) a + S128x128.size a ≤ S1536x2048.size a := fun v115 k0_hw10 => k0_hw10.1.2.2.2.2.2.2.2.2.2.2.2.2.2.2.2.2.2.2.2.2.2.2.2.2.2.2.2.2.2.1
theorem k0_off665_packedbf16 : ∀ (v115 : BitVec 32) (k0_hw10 : k0_chk10 v115), (Rect.unit (s := S1536x2048) (k0_off665 v115) S128x128.size (k0_off665_inb v115 k0_hw10)).PackedRows (EltTy.packing .bf16) := fun v115 k0_hw10 => k0_hw10.1.2.2.2.2.2.2.2.2.2.2.2.2.2.2.2.2.2.2.2.2.2.2.2.2.2.2.2.2.2.2.1 (k0_off665_inb v115 k0_hw10)
theorem k0_off678_inb : ∀ (v115 : BitVec 32) (k0_hw10 : k0_chk10 v115), ∀ a, (k0_off678 v115) a + S128x128.size a ≤ S1536x2048.size a := fun v115 k0_hw10 => k0_hw10.1.2.2.2.2.2.2.2.2.2.2.2.2.2.2.2.2.2.2.2.2.2.2.2.2.2.2.2.2.2.2.2
theorem k0_off678_packedbf16 : ∀ (v115 : BitVec 32) (k0_hw10 : k0_chk10 v115), (Rect.unit (s := S1536x2048) (k0_off678 v115) S128x128.size (k0_off678_inb v115 k0_hw10)).PackedRows (EltTy.packing .bf16) := fun v115 k0_hw10 => k0_hw10.2.1 (k0_off678_inb v115 k0_hw10)
theorem k0_off679_inb : ∀ (v115 : BitVec 32) (k0_hw10 : k0_chk10 v115), ∀ a, (k0_off679 v115) a + S128x128.size a ≤ S1536x2048.size a := fun v115 k0_hw10 => k0_hw10.2.2.1
theorem k0_off679_packedbf16 : ∀ (v115 : BitVec 32) (k0_hw10 : k0_chk10 v115), (Rect.unit (s := S1536x2048) (k0_off679 v115) S128x128.size (k0_off679_inb v115 k0_hw10)).PackedRows (EltTy.packing .bf16) := fun v115 k0_hw10 => k0_hw10.2.2.2 (k0_off679_inb v115 k0_hw10)

abbrev stage0_0 : Fin 1 → Memref sig .tc .smem S60 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1536x2048 : Shape := ⟨2, ![1536, 2048]⟩
abbrev S60 : Shape := ⟨1, ![60]⟩
abbrev S1536 : Shape := ⟨1, ![1536]⟩
abbrev S60x1024x2816 : Shape := ⟨3, ![60, 1024, 2816]⟩
abbrev S60x16x2816 : Shape := ⟨3, ![60, 16, 2816]⟩
abbrev S60x704x2048 : Shape := ⟨3, ![60, 704, 2048]⟩
abbrev S60x11x2048 : Shape := ⟨3, ![60, 11, 2048]⟩
abbrev S60x16x64x2816 : Shape := ⟨4, ![60, 16, 64, 2816]⟩
abbrev S_ : Shape := ⟨0, ![]⟩
abbrev S1536x1024 : Shape := ⟨2, ![1536, 1024]⟩
abbrev S60x1 : Shape := ⟨2, ![60, 1]⟩
abbrev S1x1536 : Shape := ⟨2, ![1, 1536]⟩
abbrev S60x1536 : Shape := ⟨2, ![60, 1536]⟩
abbrev S60x1536x1 : Shape := ⟨3, ![60, 1536, 1]⟩
abbrev S60x1536x1024 : Shape := ⟨3, ![60, 1536, 1024]⟩
abbrev S1536x2816 : Shape := ⟨2, ![1536, 2816]⟩
abbrev S1536x1408 : Shape := ⟨2, ![1536, 1408]⟩
abbrev S60x11x64x2048 : Shape := ⟨4, ![60, 11, 64, 2048]⟩
abbrev S1536x704 : Shape := ⟨2, ![1536, 704]⟩
abbrev S60x1536x704 : Shape := ⟨3, ![60, 1536, 704]⟩
abbrev S1536x1 : Shape := ⟨2, ![1536, 1]⟩

abbrev nBuf : Space → Nat
  | .hbm => 175
  | .vmem => 0
  | .smem => 0
  | _ => 0

abbrev hbmTy0_0 (i : Nat) : BufTy := match i % 128 with
  | 0 => ⟨S1536x2048, .bf16⟩
  | 1 => ⟨S60, .i32⟩
  | 2 => ⟨S1536, .f32⟩
  | 3 => ⟨S60x1024x2816, .i8⟩
  | 4 => ⟨S60x16x2816, .bf16⟩
  | 5 => ⟨S60x704x2048, .i8⟩
  | 6 => ⟨S60x11x2048, .bf16⟩
  | 7 => ⟨S60x16x64x2816, .bf16⟩
  | 8 => ⟨S60x1024x2816, .bf16⟩
  | 9 => ⟨S60x1024x2816, .i32⟩
  | 10 => ⟨S_, .i32⟩
  | 11 => ⟨S60x1024x2816, .i32⟩
  | 12 => ⟨S60x1024x2816, .i32⟩
  | 13 => ⟨S60x1024x2816, .bf16⟩
  | 14 => ⟨S_, .bf16⟩
  | 15 => ⟨S60x1024x2816, .bf16⟩
  | 16 => ⟨S60x1024x2816, .bf16⟩
  | 17 => ⟨S60x1024x2816, .bf16⟩
  | 18 => ⟨S_, .i32⟩
  | 19 => ⟨S60x1024x2816, .i32⟩
  | 20 => ⟨S60x1024x2816, .i32⟩
  | 21 => ⟨S60x1024x2816, .bf16⟩
  | 22 => ⟨S_, .bf16⟩
  | 23 => ⟨S60x1024x2816, .bf16⟩
  | 24 => ⟨S60x1024x2816, .bf16⟩
  | 25 => ⟨S60x1024x2816, .bf16⟩
  | 26 => ⟨S1536x1024, .bf16⟩
  | 27 => ⟨S_, .i32⟩
  | 28 => ⟨S_, .i32⟩
  | 29 => ⟨S60, .i32⟩
  | 30 => ⟨S60, .i32⟩
  | 31 => ⟨S1536, .i32⟩
  | 32 => ⟨S60x1, .i32⟩
  | 33 => ⟨S1x1536, .i32⟩
  | 34 => ⟨S60x1536, .i32⟩
  | 35 => ⟨S60x1536, .i32⟩
  | 36 => ⟨S60x1536, .i1⟩
  | 37 => ⟨S60x1, .i32⟩
  | 38 => ⟨S1x1536, .i32⟩
  | 39 => ⟨S60x1536, .i32⟩
  | 40 => ⟨S60x1536, .i32⟩
  | 41 => ⟨S60x1536, .i1⟩
  | 42 => ⟨S60x1536, .i1⟩
  | 43 => ⟨S60x1536x1, .i1⟩
  | 44 => ⟨S_, .i32⟩
  | 45 => ⟨S_, .bf16⟩
  | 46 => ⟨S60x1536x1024, .i1⟩
  | 47 => ⟨S60x1536x1024, .bf16⟩
  | 48 => ⟨S60x1536x1024, .bf16⟩
  | 49 => ⟨S60x1536x1024, .bf16⟩
  | 50 => ⟨S1536x2816, .f32⟩
  | 51 => ⟨S1536x1024, .bf16⟩
  | 52 => ⟨S_, .i32⟩
  | 53 => ⟨S_, .i32⟩
  | 54 => ⟨S60, .i32⟩
  | 55 => ⟨S60, .i32⟩
  | 56 => ⟨S1536, .i32⟩
  | 57 => ⟨S60x1, .i32⟩
  | 58 => ⟨S1x1536, .i32⟩
  | 59 => ⟨S60x1536, .i32⟩
  | 60 => ⟨S60x1536, .i32⟩
  | 61 => ⟨S60x1536, .i1⟩
  | 62 => ⟨S60x1, .i32⟩
  | 63 => ⟨S1x1536, .i32⟩
  | 64 => ⟨S60x1536, .i32⟩
  | 65 => ⟨S60x1536, .i32⟩
  | 66 => ⟨S60x1536, .i1⟩
  | 67 => ⟨S60x1536, .i1⟩
  | 68 => ⟨S60x1536x1, .i1⟩
  | 69 => ⟨S_, .i32⟩
  | 70 => ⟨S_, .bf16⟩
  | 71 => ⟨S60x1536x1024, .i1⟩
  | 72 => ⟨S60x1536x1024, .bf16⟩
  | 73 => ⟨S60x1536x1024, .bf16⟩
  | 74 => ⟨S60x1536x1024, .bf16⟩
  | 75 => ⟨S1536x2816, .f32⟩
  | 76 => ⟨S1536x2816, .f32⟩
  | 77 => ⟨S1536x1408, .f32⟩
  | 78 => ⟨S1536x1408, .f32⟩
  | 79 => ⟨S1536x1408, .f32⟩
  | 80 => ⟨S1536x1408, .f32⟩
  | 81 => ⟨S_, .f32⟩
  | 82 => ⟨S1536x1408, .f32⟩
  | 83 => ⟨S1536x1408, .f32⟩
  | 84 => ⟨S_, .f32⟩
  | 85 => ⟨S1536x1408, .f32⟩
  | 86 => ⟨S1536x1408, .f32⟩
  | 87 => ⟨S1536x1408, .f32⟩
  | 88 => ⟨S1536x1408, .f32⟩
  | 89 => ⟨S1536x1408, .bf16⟩
  | 90 => ⟨S60x11x64x2048, .bf16⟩
  | 91 => ⟨S60x704x2048, .bf16⟩
  | 92 => ⟨S60x704x2048, .i32⟩
  | 93 => ⟨S_, .i32⟩
  | 94 => ⟨S60x704x2048, .i32⟩
  | 95 => ⟨S60x704x2048, .i32⟩
  | 96 => ⟨S60x704x2048, .bf16⟩
  | 97 => ⟨S_, .bf16⟩
  | 98 => ⟨S60x704x2048, .bf16⟩
  | 99 => ⟨S60x704x2048, .bf16⟩
  | 100 => ⟨S60x704x2048, .bf16⟩
  | 101 => ⟨S_, .i32⟩
  | 102 => ⟨S60x704x2048, .i32⟩
  | 103 => ⟨S60x704x2048, .i32⟩
  | 104 => ⟨S60x704x2048, .bf16⟩
  | 105 => ⟨S_, .bf16⟩
  | 106 => ⟨S60x704x2048, .bf16⟩
  | 107 => ⟨S60x704x2048, .bf16⟩
  | 108 => ⟨S60x704x2048, .bf16⟩
  | 109 => ⟨S1536x704, .bf16⟩
  | 110 => ⟨S_, .i32⟩
  | 111 => ⟨S_, .i32⟩
  | 112 => ⟨S60, .i32⟩
  | 113 => ⟨S60, .i32⟩
  | 114 => ⟨S1536, .i32⟩
  | 115 => ⟨S60x1, .i32⟩
  | 116 => ⟨S1x1536, .i32⟩
  | 117 => ⟨S60x1536, .i32⟩
  | 118 => ⟨S60x1536, .i32⟩
  | 119 => ⟨S60x1536, .i1⟩
  | 120 => ⟨S60x1, .i32⟩
  | 121 => ⟨S1x1536, .i32⟩
  | 122 => ⟨S60x1536, .i32⟩
  | 123 => ⟨S60x1536, .i32⟩
  | 124 => ⟨S60x1536, .i1⟩
  | 125 => ⟨S60x1536, .i1⟩
  | 126 => ⟨S60x1536x1, .i1⟩
  | 127 => ⟨S_, .i32⟩
  | _ => ⟨S1536x2048, .bf16⟩

abbrev hbmTy0_1 (i : Nat) : BufTy := match i % 128 with
  | 0 => ⟨S_, .bf16⟩
  | 1 => ⟨S60x1536x704, .i1⟩
  | 2 => ⟨S60x1536x704, .bf16⟩
  | 3 => ⟨S60x1536x704, .bf16⟩
  | 4 => ⟨S60x1536x704, .bf16⟩
  | 5 => ⟨S1536x2048, .f32⟩
  | 6 => ⟨S1536x704, .bf16⟩
  | 7 => ⟨S_, .i32⟩
  | 8 => ⟨S_, .i32⟩
  | 9 => ⟨S60, .i32⟩
  | 10 => ⟨S60, .i32⟩
  | 11 => ⟨S1536, .i32⟩
  | 12 => ⟨S60x1, .i32⟩
  | 13 => ⟨S1x1536, .i32⟩
  | 14 => ⟨S60x1536, .i32⟩
  | 15 => ⟨S60x1536, .i32⟩
  | 16 => ⟨S60x1536, .i1⟩
  | 17 => ⟨S60x1, .i32⟩
  | 18 => ⟨S1x1536, .i32⟩
  | 19 => ⟨S60x1536, .i32⟩
  | 20 => ⟨S60x1536, .i32⟩
  | 21 => ⟨S60x1536, .i1⟩
  | 22 => ⟨S60x1536, .i1⟩
  | 23 => ⟨S60x1536x1, .i1⟩
  | 24 => ⟨S_, .i32⟩
  | 25 => ⟨S_, .bf16⟩
  | 26 => ⟨S60x1536x704, .i1⟩
  | 27 => ⟨S60x1536x704, .bf16⟩
  | 28 => ⟨S60x1536x704, .bf16⟩
  | 29 => ⟨S60x1536x704, .bf16⟩
  | 30 => ⟨S1536x2048, .f32⟩
  | 31 => ⟨S1536x2048, .f32⟩
  | 32 => ⟨S1536x1, .f32⟩
  | 33 => ⟨S1536x2048, .f32⟩
  | 34 => ⟨S1536x2048, .f32⟩
  | 35 => ⟨S1536, .i32⟩
  | 36 => ⟨S_, .i32⟩
  | 37 => ⟨S_, .i32⟩
  | 38 => ⟨S1536, .i32⟩
  | 39 => ⟨S1536, .i1⟩
  | 40 => ⟨S1536x1, .i1⟩
  | 41 => ⟨S_, .f32⟩
  | 42 => ⟨S_, .f32⟩
  | 43 => ⟨S1536x2048, .i1⟩
  | 44 => ⟨S1536x2048, .f32⟩
  | 45 => ⟨S1536x2048, .f32⟩
  | 46 => ⟨S1536x2048, .bf16⟩
  | _ => ⟨S1536x2048, .bf16⟩

abbrev hbmTy (i : Nat) : BufTy := match i / 128 with
  | 0 => hbmTy0_0 i
  | 1 => hbmTy0_1 i
  | _ => ⟨S1536x2048, .bf16⟩

abbrev bufTy : (tb : Table) → Fin (tcTables nBuf tb) → BufTy
  | .hbm, ⟨i, _⟩ => hbmTy i
  | _, _ => ⟨S1536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_call0_c : Ref sig .tc := ⟨.hbm, 27, rfl⟩
abbrev main_call0_call0_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call2_call0_c : Ref sig .tc := ⟨.hbm, 52, rfl⟩
abbrev main_call2_call0_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_3 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call4_v0 : Ref sig .tc := ⟨.hbm, 79, rfl⟩
abbrev main_call4_v1 : Ref sig .tc := ⟨.hbm, 80, rfl⟩
abbrev main_call4_cst : Ref sig .tc := ⟨.hbm, 81, rfl⟩
abbrev main_call4_v2 : Ref sig .tc := ⟨.hbm, 82, rfl⟩
abbrev main_call4_v3 : Ref sig .tc := ⟨.hbm, 83, rfl⟩
abbrev main_call4_cst_0 : Ref sig .tc := ⟨.hbm, 84, rfl⟩
abbrev main_call4_v4 : Ref sig .tc := ⟨.hbm, 85, rfl⟩
abbrev main_call4_v5 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_4 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_5 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_6 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_7 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_call5_call0_c : Ref sig .tc := ⟨.hbm, 110, rfl⟩
abbrev main_call5_call0_v0 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_8 : Ref sig .tc := ⟨.hbm, 127, rfl⟩
abbrev main_call6_v0 : Ref sig .tc := ⟨.hbm, 128, rfl⟩
abbrev main_call6_v1 : Ref sig .tc := ⟨.hbm, 129, rfl⟩
abbrev main_call6_v2 : Ref sig .tc := ⟨.hbm, 130, rfl⟩
abbrev main_call6_v3 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_call7_call0_c : Ref sig .tc := ⟨.hbm, 135, rfl⟩
abbrev main_call7_call0_v0 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_c_9 : Ref sig .tc := ⟨.hbm, 152, rfl⟩
abbrev main_call8_v0 : Ref sig .tc := ⟨.hbm, 153, rfl⟩
abbrev main_call8_v1 : Ref sig .tc := ⟨.hbm, 154, rfl⟩
abbrev main_call8_v2 : Ref sig .tc := ⟨.hbm, 155, rfl⟩
abbrev main_call8_v3 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_c_10 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_11 : Ref sig .tc := ⟨.hbm, 169, rfl⟩
abbrev main_call9_v0 : Ref sig .tc := ⟨.hbm, 170, rfl⟩
abbrev main_call9_v1 : Ref sig .tc := ⟨.hbm, 171, rfl⟩
abbrev main_call9_v2 : Ref sig .tc := ⟨.hbm, 172, rfl⟩
abbrev main_v117 : Ref sig .tc := ⟨.hbm, 173, rfl⟩
abbrev main_v118 : Ref sig .tc := ⟨.hbm, 174, rfl⟩

abbrev nD : Nat := 1
abbrev τ : Topo := Topo.v7x

variable {F : FTy → Type} [FloatOps F]
-- ==== Proof.Sizes.lean ====
/-
  What the precondition says of the group sizes: as natural numbers they add up to at most the number of rows.
-/
module

public import proofs.«01_k».proof.Pre_sizes_fit
public import Idealize.ShloMosaic.Lib.ReduceAll
public import Idealize.ShloMosaic.Lib.Routing.Ops
public import Idealize.ShloMosaic.Lib.ValueIdxCore
public import Idealize.ShloMosaic.Lib.WordCmp

@[expose] public section

noncomputable section

namespace Cert.Hand

open Idealize.ShloMosaic Idealize.ShloMosaic.ValueIdx

variable {F : FTy → Type} [FloatOps F] [Cert.Pre_sizes_fit.Facts]

theorem of_ofBool {b : Bool} (h : BitVec.ofBool b = 1#1) : b = true := by revert h; cases b <;> decide

theorem sizes_le (a0 : FVec F Cert.Pre_sizes_fit.S1536x2048 .bf16) (a1 : IVec Cert.Pre_sizes_fit.S60 32) (a2 : FVec F Cert.Pre_sizes_fit.S1536 .f32)
    (a3 : IVec Cert.Pre_sizes_fit.S60x1024x2816 8) (a4 : FVec F Cert.Pre_sizes_fit.S60x16x2816 .bf16) (a5 : IVec Cert.Pre_sizes_fit.S60x704x2048 8)
    (a6 : FVec F Cert.Pre_sizes_fit.S60x11x2048 .bf16) (h : Cert.Pre_sizes_fit.fn a0 a1 a2 a3 a4 a5 a6 = fun _ => 1#1) :
    (∑ i ∈ Finset.range 60, if h : i < 60 then BitVec.toNat (w := 32) (a1 (ix1 ⟨i, h⟩)) else 0) ≤ 1536 := by
  have h0 := congrFun h ix0
  obtain ⟨hl, hr⟩ := (IntOp.andi_eq_one).1 h0
  have hall := Host.reduce_andi_all _ _ _ _ _ hl
  have hz : ∀ i : Fin 60, BitVec.toNat (w := 32) (a1 (ix1 i)) ≤ 1536 := by
    intro i
    obtain ⟨ha, hb⟩ := (IntOp.andi_eq_one).1 (hall (ix1 i))
    have ha : IntOp.cmpi .sge (a1 (ix1 i)) 0#32 = 1#1 := ha
    have hb : IntOp.cmpi .sle (a1 (ix1 i)) 1536#32 = 1#1 := hb
    rw [Idealize.ShloMosaic.WordCmp.cmpi_sle_eq] at hb
    rw [Idealize.ShloMosaic.WordCmp.cmpi_sge_eq] at ha
    have ha := of_decide_eq_true (of_ofBool ha)
    have hb := of_decide_eq_true (of_ofBool hb)
    rw [show (0#32).toInt = 0 from rfl] at ha
    rw [show (1536#32).toInt = 1536 from rfl] at hb
    rw [BitVec.toInt_eq_toNat_cond] at ha hb
    split at ha <;> omega
  have hs := Routing.reduce_sum (N := 60) a1 (fun i => if h : i < 60 then BitVec.toNat (w := 32) (a1 (ix1 ⟨i, h⟩)) else 0)
    (fun i => by rw [dif_pos i.isLt]; exact BitVec.eq_of_toNat_eq (by rw [BitVec.toNat_ofNat, Nat.mod_eq_of_lt (BitVec.isLt _)])) Cert.Pre_sizes_fit.Facts.reducesTo_S60_S_d0 Cert.Pre_sizes_fit.Facts.h_S_
  have hc : IntOp.cmpi .sle (Host.reduce IntOp.addi a1 (constantI Cert.Pre_sizes_fit.S_ 32 0#32) Cert.Pre_sizes_fit.Facts.reducesTo_S60_S_d0 Cert.Pre_sizes_fit.Facts.h_S_ ix0)
    1536#32 = 1#1 := hr
  have he : ((List.range 60).map (fun i => if h : i < 60 then BitVec.toNat (w := 32) (a1 (ix1 ⟨i, h⟩)) else 0)).sum
      = ∑ i ∈ Finset.range 60, if h : i < 60 then BitVec.toNat (w := 32) (a1 (ix1 ⟨i, h⟩)) else 0 := rfl
  have hb : (∑ i ∈ Finset.range 60, if h : i < 60 then BitVec.toNat (w := 32) (a1 (ix1 ⟨i, h⟩)) else 0) ≤ 60 * 1536 := by
    have := Finset.sum_le_card_nsmul (Finset.range 60) (fun i => if h : i < 60 then BitVec.toNat (w := 32) (a1 (ix1 ⟨i, h⟩)) else 0) 1536
      (fun i hi => by
        show (if h : i < 60 then BitVec.toNat (w := 32) (a1 (ix1 ⟨i, h⟩)) else 0) ≤ 1536
        rw [dif_pos (Finset.mem_range.1 hi)]; exact hz _)
    simpa using this
  rw [hs, he] at hc
  rw [Idealize.ShloMosaic.WordCmp.cmpi_sle_eq] at hc
  have hc := of_decide_eq_true (of_ofBool hc)
  rw [show (1536#32).toInt = 1536 from rfl, BitVec.toInt_eq_toNat_cond, BitVec.toNat_ofNat, Nat.mod_eq_of_lt (by omega)] at hc
  rw [if_pos (by omega)] at hc
  omega

end Cert.Hand

end
-- ==== Proof.Kernel.Base.lean ====
/-
  The rules the kernel's body is stepped by. A buffer the kernel holds is held under its memref at
  contents named in the statement; a load continues at what is read, a store at the contents written.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Transfers
public import Idealize.ShloMosaic.Lib.Tactic
public import Idealize.ShloMosaic.Lib.ValueIdxCore

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- Programs of the kernel's thread. -/
abbrev Pg (F : FTy → Type) [FloatOps F] (α : Type) : Type 1 := Prog (TpuEff nD τ sig (Elt F) (Λ₀ F) .tc) α

/-- The weakest precondition of a program of core `c`, its calls bounded by `bd`. -/
abbrev WP {α : Type} (c : Dev nD) (bd : Option ℕ) (p : Pg F α) (Q : α → sProp 𝕄) : sProp 𝕄 :=
  wp frame (wpE (defs₀ (F := F)) Variants.nat (c : Thread nD τ) bd) Set.univ p Q

variable {α β : Type} (c : Dev nD) (bd : Option ℕ)

theorem bind_step {p : Pg F β} {k : β → Pg F α} {Q : α → sProp 𝕄} {P : sProp 𝕄}
    (h : P ⊢ WP c bd p (fun b => WP c bd (k b) Q)) : P ⊢ WP c bd (p >>= k) Q := by
  rw [WP, wp_bind]; exact h

theorem pure_step {a : α} {Q : α → sProp 𝕄} {P : sProp 𝕄} (h : P ⊢ Q a) : P ⊢ WP c bd (pure a) Q :=
  h.trans (le_wp_ret _ _ _ a Q)

/-- A program equal to another is stepped by it. -/
theorem eq_step {p p' : Pg F α} {Q : α → sProp 𝕄} {P : sProp 𝕄} (e : p = p') (h : P ⊢ WP c bd p' Q) : P ⊢ WP c bd p Q := e ▸ h

theorem assume_step {A : Prop} {d : Decidable A} {k : PLift A → Pg F α} {Q : α → sProp 𝕄} {P : sProp 𝕄}
    (hA : A) (h : P ⊢ WP c bd (k ⟨hA⟩) Q) : P ⊢ WP c bd (Prog.lift (TpuEff.assume A d) >>= k) Q :=
  h.trans (wp_assume Variants.nat (c : Thread nD τ) bd Set.univ (k := k) hA)

theorem load_step {cs : CoreSpace} {S : Shape} {e : EltTy} {M : Memref sig .tc cs S e} {r : LoadRect S} {hl : M.view.LoadsAt r}
    {k : (r.shape.Idx → Elt F e) → Pg F α} {Q : α → sProp 𝕄} {P : sProp 𝕄}
    {Sd : Finset (Idx (M.view.loc (c : Thread nD τ)))} {q : PosShare TreeShare} (f : Buf (Elt F) (M.view.loc (c : Thread nD τ)))
    (hP : P ⊢ iprop((M.view.loc (c : Thread nD τ) ↦[Sd]{q} f) ∗ ((M.view.loc (c : Thread nD τ) ↦[Sd]{q} f) -∗ P)))
    (hS : M.view.setOn r.set ⊆ Sd) (h : P ⊢ WP c bd (k (M.view.readAt (Elt F) r f)) Q) :
    P ⊢ WP c bd (Prog.lift (.load M r hl) >>= k) Q := by
  refine hP.trans ?_
  iintro ⟨Hm, Hr⟩
  iapply (wp_load Variants.nat (c : Thread nD τ) bd Set.univ hS) $$ Hm
  iintro Hm
  iapply h
  iapply Hr
  iexact Hm

theorem smemLoad_step {S : Shape} {M : Memref sig .tc .smem S .i32} {r : Rect S} {h1 : r.shape.numel = 1} {hp : EltTy.packing .i32 = 1}
    {k : Elt F .i32 → Pg F α} {Q : α → sProp 𝕄} {P : sProp 𝕄}
    {Sd : Finset (Idx (M.view.loc (c : Thread nD τ)))} {q : PosShare TreeShare} (f : Buf (Elt F) (M.view.loc (c : Thread nD τ)))
    (hP : P ⊢ iprop((M.view.loc (c : Thread nD τ) ↦[Sd]{q} f) ∗ ((M.view.loc (c : Thread nD τ) ↦[Sd]{q} f) -∗ P)))
    (hS : M.view.setOn r.set ⊆ Sd) (h : P ⊢ WP c bd (k (M.view.readAt (Elt F) r.toLoadRect f (Shape.Idx.first (h1.symm ▸ Nat.one_pos)))) Q) :
    P ⊢ WP c bd (smemLoad M r h1 hp >>= k) Q := by
  refine hP.trans ?_
  iintro ⟨Hm, Hr⟩
  iapply (wp_load Variants.nat (c : Thread nD τ) bd Set.univ hS) $$ Hm
  iintro Hm
  iapply h
  iapply Hr
  iexact Hm

theorem store_step {cs : CoreSpace} {S : Shape} {e : EltTy} {M : Memref sig .tc cs S e} {r : Rect S} {w : r.shape.Idx → Elt F e}
    {hx : (M.access r).Stores Finset.univ} {hm} {k : PUnit → Pg F α} {Q : α → sProp 𝕄} {P P' : sProp 𝕄}
    (f : Buf (Elt F) (M.view.loc (c : Thread nD τ)))
    (hP : P ⊢ iprop((M.view.loc (c : Thread nD τ) ↦{fullShare} f) ∗ ((M.view.loc (c : Thread nD τ) ↦{fullShare} ((M.access r).write (Elt F) f w Finset.univ)) -∗ P')))
    (h : P' ⊢ WP c bd (k ⟨⟩) Q) :
    P ⊢ WP c bd (Prog.lift (.store M r w Finset.univ hx hm) >>= k) Q := by
  refine hP.trans ?_
  iintro ⟨Hm, Hr⟩
  have hw : (M.view.loc (c : Thread nD τ) ↦{fullShare} f : sProp 𝕄)
      ⊢ iprop(((M.view.loc (c : Thread nD τ) ↦{fullShare} ((M.access r).write (Elt F) f w Finset.univ)) -∗ WP c bd (k ⟨⟩) Q)
        -∗ WP c bd (.op (.store M r w Finset.univ hx hm) k) Q) :=
    wp_store (m := M) (r := r) (f := f) (S := Finset.univ) (w := w) (hx := hx) (hm := hm) (k := k) Variants.nat (c : Thread nD τ) bd Set.univ (Finset.subset_univ _)
  iapply hw $$ Hm
  iintro Hm
  iapply h
  iapply Hr
  iexact Hm

theorem ite_step {A : Prop} {d : Decidable A} {p q : Pg F α} {Q : α → sProp 𝕄} {P : sProp 𝕄}
    (h1 : A → P ⊢ WP c bd p Q) (h2 : ¬A → P ⊢ WP c bd q Q) : P ⊢ WP c bd (if A then p else q) Q := by
  split
  · exact h1 ‹_›
  · exact h2 ‹_›

theorem dite_step {A : Prop} {d : Decidable A} {p : A → Pg F α} {q : ¬A → Pg F α} {Q : α → sProp 𝕄} {P : sProp 𝕄}
    (h1 : ∀ h : A, P ⊢ WP c bd (p h) Q) (h2 : ∀ h : ¬A, P ⊢ WP c bd (q h) Q) : P ⊢ WP c bd (if h : A then p h else q h) Q := by
  split
  · exact h1 ‹_›
  · exact h2 ‹_›

/-! ## What a whole buffer's rectangle reads and writes, by coordinates -/

variable {Val : EltTy → Type}

theorem readAt_whole_apply (b : Ref sig .tc) (r : Rect b.ty.shape) (f : b.ty.Contents Val) (x : r.shape.Idx) :
    (Memref.whole b : Memref sig .tc b.space b.ty.shape b.ty.elt).view.readAt Val r.toLoadRect f x = f (r.emb x) := rfl

theorem write_whole_in (b : Ref sig .tc) (r : Rect b.ty.shape) (f : b.ty.Contents Val) (w : r.shape.Idx → Val b.ty.elt)
    (x : r.shape.Idx) :
    ((Memref.whole b : Memref sig .tc b.space b.ty.shape b.ty.elt).access r).write Val f w Finset.univ (r.emb x) = w x :=
  View.write_emb_of_mem (v := (Memref.whole b : Memref sig .tc b.space b.ty.shape b.ty.elt).access r) f w (Finset.mem_univ x)

theorem write_whole_out (b : Ref sig .tc) (r : Rect b.ty.shape) (f : b.ty.Contents Val) (w : r.shape.Idx → Val b.ty.elt)
    {i : b.ty.Idx} (h : i ∉ r.set) :
    ((Memref.whole b : Memref sig .tc b.space b.ty.shape b.ty.elt).access r).write Val f w Finset.univ i = f i := by
  refine View.write_of_not_mem (v := (Memref.whole b : Memref sig .tc b.space b.ty.shape b.ty.elt).access r) f w Finset.univ ?_
  intro hm
  apply h
  have : ((Memref.whole b : Memref sig .tc b.space b.ty.shape b.ty.elt).access r).set = r.set := View.set_slice_whole b r
  rw [← this]; exact hm

/-! ## The operands -/

abbrev A0 : Memref sig .tc .smem S60 .i32 := Memref.whole cc0_stg0_0
abbrev A1 : Memref sig .tc .vmem S1536x2048 .bf16 := Memref.whole cc0_stg1_0
abbrev A2 : Memref sig .tc .vmem S12x128 .f32 := Memref.whole cc0_stg2_0
abbrev A3 : Memref sig .tc .hbm S60x1024x2816 .i8 := Memref.whole main_arg3
abbrev A4 : Memref sig .tc .hbm S60x16x2816 .bf16 := Memref.whole main_arg4
abbrev A5 : Memref sig .tc .hbm S60x704x2048 .i8 := Memref.whole main_arg5
abbrev A6 : Memref sig .tc .hbm S60x11x2048 .bf16 := Memref.whole main_arg6
abbrev A7 : Memref sig .tc .vmem S1536x2048 .bf16 := Memref.whole cc0_stg3_0
abbrev A8 : Memref sig .tc .vmem S2x1024x2816 .i8 := Memref.whole cc0_scratch0
abbrev A9 : Memref sig .tc .vmem S2x16x2816 .bf16 := Memref.whole cc0_scratch1
abbrev A10 : Memref sig .tc .vmem S2x704x2048 .i8 := Memref.whole cc0_scratch2
abbrev A11 : Memref sig .tc .vmem S2x11x2048 .bf16 := Memref.whole cc0_scratch3
abbrev A12 : Memref sig .tc .vmem S128x2816 .f32 := Memref.whole cc0_scratch4
abbrev A13 : Memref sig .tc .vmem S128x1408 .bf16 := Memref.whole cc0_scratch5
abbrev A14 : Memref sig .tc .vmem S1536x128 .f32 := Memref.whole cc0_scratch6
abbrev A15 : Memref sig .tc .smem S5x128 .i32 := Memref.whole cc0_scratch7

/-- The contents of the buffer behind a memref. -/
abbrev Bf (F : FTy → Type) [FloatOps F] {sp : Space} {S : Shape} {e : EltTy} (M : Memref sig .tc sp S e) (c : Dev nD) : Type :=
  Buf (Elt F) (M.view.loc (c : Thread nD τ))
/-- A memref's buffer held whole. -/
abbrev pt {sp : Space} {S : Shape} {e : EltTy} (M : Memref sig .tc sp S e) (c : Dev nD) (f : Bf F M c) : sProp 𝕄 :=
  M.view.loc (c : Thread nD τ) ↦{fullShare} f
/-- The elements of slot (or member) `s` of a stack of three axes. -/
def slotSet (n a b s : ℕ) : Finset (⟨3, ![n, a, b]⟩ : Shape).Idx := Finset.univ.filter fun i => (i 0).val = s
theorem mem_slotSet {n a b s : ℕ} {i : (⟨3, ![n, a, b]⟩ : Shape).Idx} : i ∈ slotSet n a b s ↔ (i 0).val = s := by
  simp [slotSet]
/-- A rectangle one thick at coordinate `s` lies in slot `s`. -/
theorem unit_sub_slotSet {n a b s : ℕ} {off sz : Fin 3 → ℕ} (inb : ∀ i, off i + sz i ≤ (⟨3, ![n, a, b]⟩ : Shape).size i)
    (h0 : off 0 = s) (hz : sz 0 = 1) : (Rect.unit (s := ⟨3, ![n, a, b]⟩) off sz inb).set ⊆ slotSet n a b s := by
  intro i hi
  have := (Rect.mem_set_unit.mp hi) 0
  rw [mem_slotSet]; omega

end Cert.Kernel.Hand

end
-- ==== Proof.Kernel.Ring.lean ====
/-
  One operand's transfers. A slot of the stack held in fast memory is either free, or receiving a member
  of the stack held outside, or filled with that member. The rules for starting a transfer and for waiting
  for it move between these.
-/
module

public import proofs.«01_k».proof.Proof.Kernel.Base

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Pair

variable {n a b : ℕ} {e : EltTy} (c : Dev nD)

/-- The window one thick at member `s`, without its leading axis. -/
abbrev member {sp : Space} (M : Memref sig .tc sp ⟨3, ![n, a, b]⟩ e) (o : Fin 3 → ℕ) (inb : ∀ i, o i + (![1, a, b] : Fin 3 → ℕ) i ≤ (⟨3, ![n, a, b]⟩ : Shape).size i)
    (hq : (⟨3, ![1, a, b]⟩ : Shape).Squeezes ⟨2, ![a, b]⟩) : Memref sig .tc sp ⟨2, ![a, b]⟩ e :=
  (M.slice (Rect.unit (s := ⟨3, ![n, a, b]⟩) o ![1, a, b] inb) (fun _ => rfl)).squeeze ⟨2, ![a, b]⟩ hq

/-- The index of the squeezed window under coordinates `x`, `y`. -/
def sqIx (hq : (⟨3, ![1, a, b]⟩ : Shape).Squeezes ⟨2, ![a, b]⟩) (x : Fin a) (y : Fin b) : (⟨2, ![a, b]⟩ : Shape).Idx :=
  (Shape.reshapeEquiv hq.numel_eq).symm (ix3 (0 : Fin 1) x y)

theorem member_emb {sp : Space} (M : Memref sig .tc sp ⟨3, ![n, a, b]⟩ e) {o : Fin 3 → ℕ} (inb : ∀ i, o i + (![1, a, b] : Fin 3 → ℕ) i ≤ (⟨3, ![n, a, b]⟩ : Shape).size i)
    (hq : (⟨3, ![1, a, b]⟩ : Shape).Squeezes ⟨2, ![a, b]⟩) (s : Fin n) (ho : o = ![s.val, 0, 0]) (x : Fin a) (y : Fin b) :
    (member M o inb hq).view.emb (sqIx hq x y) = M.view.emb (ix3 s x y) := by
  have : (member M o inb hq).view.emb (sqIx hq x y)
      = M.view.emb ((Rect.unit (s := ⟨3, ![n, a, b]⟩) o ![1, a, b] inb).emb (Shape.reshapeEquiv hq.numel_eq (sqIx hq x y))) := rfl
  rw [this, sqIx, Equiv.apply_symm_apply]
  refine congrArg M.view.emb ?_
  subst ho
  refine (eq_ix3 _).trans ?_
  have h0 : (Rect.unit (s := ⟨3, ![n, a, b]⟩) ![s.val, 0, 0] ![1, a, b] inb).emb (ix3 (0 : Fin 1) x y) 0 = s := Fin.ext (by show s.val + 1 * 0 = _; omega)
  have h1 : (Rect.unit (s := ⟨3, ![n, a, b]⟩) ![s.val, 0, 0] ![1, a, b] inb).emb (ix3 (0 : Fin 1) x y) 1 = x := Fin.ext (by show 0 + 1 * x.val = _; omega)
  have h2 : (Rect.unit (s := ⟨3, ![n, a, b]⟩) ![s.val, 0, 0] ![1, a, b] inb).emb (ix3 (0 : Fin 1) x y) 2 = y := Fin.ext (by show 0 + 1 * y.val = _; omega)
  exact congr (congr (congrArg ix3 h0) h1) h2

theorem member_read {sp : Space} (M : Memref sig .tc sp ⟨3, ![n, a, b]⟩ e) {o : Fin 3 → ℕ} (inb : ∀ i, o i + (![1, a, b] : Fin 3 → ℕ) i ≤ (⟨3, ![n, a, b]⟩ : Shape).size i)
    (hq : (⟨3, ![1, a, b]⟩ : Shape).Squeezes ⟨2, ![a, b]⟩) (s : Fin n) (ho : o = ![s.val, 0, 0]) (x : Fin a) (y : Fin b) (f : M.view.ty.Contents (Elt F)) :
    (member M o inb hq).view.read (Elt F) f (sqIx hq x y) = M.view.read (Elt F) f (ix3 s x y) :=
  congrArg (fun i => _root_.cast (congrArg (Elt F) M.view.elt_eq) (f i)) (member_emb M inb hq s ho x y)

theorem member_set {sp : Space} (M : Memref sig .tc sp ⟨3, ![n, a, b]⟩ e) {o : Fin 3 → ℕ} (inb : ∀ i, o i + (![1, a, b] : Fin 3 → ℕ) i ≤ (⟨3, ![n, a, b]⟩ : Shape).size i)
    (hq : (⟨3, ![1, a, b]⟩ : Shape).Squeezes ⟨2, ![a, b]⟩) (s : ℕ) (ho : o = ![s, 0, 0]) :
    (member M o inb hq).view.set ⊆ M.view.setOn (slotSet n a b s) := by
  subst ho
  intro i hi
  obtain ⟨j, -, rfl⟩ := Finset.mem_map.mp hi
  refine Finset.mem_map.mpr ⟨(Rect.unit (s := ⟨3, ![n, a, b]⟩) ![s, 0, 0] ![1, a, b] inb).emb (Shape.reshapeEquiv hq.numel_eq j), ?_, rfl⟩
  rw [mem_slotSet]
  have h : ((Shape.reshapeEquiv hq.numel_eq j) 0).val < 1 := ((Shape.reshapeEquiv hq.numel_eq j) 0).isLt
  show s + 1 * ((Shape.reshapeEquiv hq.numel_eq j) 0).val = s
  omega

variable (D : Memref sig .tc .vmem ⟨3, ![2, a, b]⟩ e) (S : Memref sig .tc .hbm ⟨3, ![60, a, b]⟩ e)

/-- Slot `s` held at contents `f`. -/
abbrev Slot (s : ℕ) (f : Bf F D c) : sProp 𝕄 := D.view.loc (c : Thread nD τ) ↦[D.view.setOn (slotSet 2 a b s)]{fullShare} f

/-- Slot `s` of `f` holds member `m` of `V`. -/
def Holds (s m : ℕ) (V : Bf F S c) (f : Bf F D c) : Prop :=
  ∀ (h : s < 2) (h' : m < 60) (x : Fin a) (y : Fin b), D.view.read (Elt F) f (ix3 ⟨s, h⟩ x y) = S.view.read (Elt F) V (ix3 ⟨m, h'⟩ x y)

/-- The bytes one member's transfer is counted by. -/
abbrev bytes : ℕ := D.view.ref.dmaCredit (⟨2, ![a, b]⟩ : Shape) e

/-- Slot `s` receives member `m`, outside stack and all. -/
def InFl (sm : SemLoc sig) (s m : ℕ) (V : Bf F S c) : sProp 𝕄 :=
  iprop(∃ P R : sProp 𝕄, Transfers.Flight (countersEmb (U := Pipeline.UD sig nD τ)) (c : Thread nD τ) sm () (bytes D) P ∗ R
    ∗ ⌜iprop(P ∗ R) ⊢ iprop((∃ f : Bf F D c, ⌜Holds c D S s m V f⌝ ∗ Slot c D s f) ∗ (S.view.loc (c : Thread nD τ) ↦{fullShare} V))⌝)

/-- What a transfer of member `m` leaves in slot `s`. -/
theorem landed {os od : Fin 3 → ℕ}
    {is : ∀ i, os i + (![1, a, b] : Fin 3 → ℕ) i ≤ (⟨3, ![60, a, b]⟩ : Shape).size i}
    {id' : ∀ i, od i + (![1, a, b] : Fin 3 → ℕ) i ≤ (⟨3, ![2, a, b]⟩ : Shape).size i}
    {hq : (⟨3, ![1, a, b]⟩ : Shape).Squeezes ⟨2, ![a, b]⟩} (s m : ℕ) (V : Bf F S c) (hos : os = ![m, 0, 0]) (hod : od = ![s, 0, 0])
    (fd : Bf F D c) :
    Holds c D S s m V ((member D od id' hq).view.write (Elt F) fd ((member S os is hq).view.read (Elt F) V) Finset.univ) := by
  intro hs hm x y
  rw [← member_read D id' hq ⟨s, hs⟩ hod x y, ← member_read S is hq ⟨m, hm⟩ hos x y]
  exact congrFun (View.read_write_univ (v := (member D od id' hq).view) (Val := Elt F) fd ((member S os is hq).view.read (Elt F) V)) (sqIx hq x y)

theorem start_step {α : Type} (bd : Option ℕ) {os od : Fin 3 → ℕ}
    {is : ∀ i, os i + (![1, a, b] : Fin 3 → ℕ) i ≤ (⟨3, ![60, a, b]⟩ : Shape).size i}
    {id' : ∀ i, od i + (![1, a, b] : Fin 3 → ℕ) i ≤ (⟨3, ![2, a, b]⟩ : Shape).size i}
    {hq : (⟨3, ![1, a, b]⟩ : Shape).Squeezes ⟨2, ![a, b]⟩}
    {sm : DmaSem sig} {hsrc : (member S os is hq).view.WordExact} {hdst : (member D od id' hq).view.WordExact}
    {hsem : DmaTarget.Typed .hbm (.dma sm) (DmaTarget.here (nD := nD) (τ := τ) (p := .tc) (member D od id' hq))} {k : PUnit → Pg F α} {Q : α → sProp 𝕄} {X : sProp 𝕄}
    (s m : ℕ) (V : Bf F S c) (hos : os = ![m, 0, 0]) (hod : od = ![s, 0, 0]) (hN : 0 < bytes D)
    (h : iprop(InFl c D S (.dma sm) s m V ∗ X) ⊢ WP c bd (k ⟨⟩) Q) :
    iprop(((∃ f : Bf F D c, Slot c D s f) ∗ semVal ((c : Thread nD τ), SemLoc.dma sm) 0 ∗ (S.view.loc (c : Thread nD τ) ↦{fullShare} V)) ∗ X)
      ⊢ WP c bd (Prog.lift (.enqueueDma (member S os is hq) (.here (member D od id' hq)) (.dma sm) hsrc hdst hsem) >>= k) Q := by
  have hsp : (S.view.loc (c : Thread nD τ) ↦{fullShare} V : sProp 𝕄) ⊢ iprop((S.view.loc (c : Thread nD τ) ↦[(member S os is hq).view.set]{fullShare} V)
      ∗ S.view.loc (c : Thread nD τ) ↦[Finset.univ \ (member S os is hq).view.set]{fullShare} V) := (pointsTo_split_subset (Finset.subset_univ _)).1
  have hA : (member D od id' hq).view.amount (.dma sm) = bytes D := rfl
  have hdma : ∀ fd : Bf F D c, iprop((S.view.loc (c : Thread nD τ) ↦[(member S os is hq).view.set]{fullShare} V) ∗ (Slot c D s fd)
      ∗ semVal ((c : Thread nD τ), SemLoc.dma sm) 0)
      ⊢ iprop((Transfers.Flight (countersEmb (U := Pipeline.UD sig nD τ)) (c : Thread nD τ) (.dma sm) () (bytes D)
          iprop((Slot c D s ((member D od id' hq).view.write (Elt F) fd ((member S os is hq).view.read (Elt F) V) Finset.univ))
            ∗ (S.view.loc (c : Thread nD τ) ↦[(member S os is hq).view.set]{fullShare} V))
          -∗ WP c bd (k ⟨⟩) Q) -∗ WP c bd (.op (.enqueueDma (member S os is hq) (.here (member D od id' hq)) (.dma sm) hsrc hdst hsem) k) Q) :=
    fun fd => Transfers.wp_dmaLocal (sp' := .vmem) (s₀ := ⟨2, ![a, b]⟩) (s := ⟨2, ![a, b]⟩) (e₀ := e) (e := e) (sm := .dma sm) (src := member S os is hq) (dst := member D od id' hq) (via := .same)
      (hsrc := hsrc) (hdst := hdst) (hsem := hsem) (k := k) (fs := V) (fd := fd) (q := fullShare) (Sd := D.view.setOn (slotSet 2 a b s))
      (countersEmb (U := Pipeline.UD sig nD τ)) Variants.nat (c : Thread nD τ) bd () (bytes D) hA hN (member_set D id' hq s hod)
  have hback : ∀ fd : Bf F D c, iprop(iprop((Slot c D s ((member D od id' hq).view.write (Elt F) fd ((member S os is hq).view.read (Elt F) V) Finset.univ))
        ∗ (S.view.loc (c : Thread nD τ) ↦[(member S os is hq).view.set]{fullShare} V))
      ∗ S.view.loc (c : Thread nD τ) ↦[Finset.univ \ (member S os is hq).view.set]{fullShare} V)
      ⊢ iprop((∃ f : Bf F D c, ⌜Holds c D S s m V f⌝ ∗ Slot c D s f) ∗ (S.view.loc (c : Thread nD τ) ↦{fullShare} V)) := by
    intro fd
    have hl := landed (is := is) (id' := id') (hq := hq) c D S s m V hos hod fd
    have hj : iprop((S.view.loc (c : Thread nD τ) ↦[(member S os is hq).view.set]{fullShare} V)
      ∗ S.view.loc (c : Thread nD τ) ↦[Finset.univ \ (member S os is hq).view.set]{fullShare} V)
      ⊢ (S.view.loc (c : Thread nD τ) ↦{fullShare} V : sProp 𝕄) := (pointsTo_split_subset (Finset.subset_univ _)).2
    iintro ⟨⟨HD, HS⟩, HR⟩
    isplitl [HD]
    · iexists _
      isplitr
      swap; · iexact HD
      ipureintro
      exact hl
    · iapply hj
      isplitl [HS]; · iexact HS
      iexact HR
  refine BIBase.Entails.trans (Q := iprop(∃ fd : Bf F D c, iprop((S.view.loc (c : Thread nD τ) ↦[(member S os is hq).view.set]{fullShare} V) ∗ (Slot c D s fd)
      ∗ semVal ((c : Thread nD τ), SemLoc.dma sm) 0) ∗ (S.view.loc (c : Thread nD τ) ↦[Finset.univ \ (member S os is hq).view.set]{fullShare} V) ∗ X)) ?_ ?_
  · iintro ⟨⟨⟨%fd, HD⟩, Hs, HS⟩, HX⟩
    ihave HS := hsp $$ HS
    icases HS with ⟨HS, HR⟩
    iexists fd
    isplitl [HS HD Hs]
    · isplitl [HS]; · iexact HS
      isplitl [HD]; · iexact HD
      iexact Hs
    isplitl [HR]; · iexact HR
    iexact HX
  iintro ⟨%fd, HA, HR, HX⟩
  iapply (hdma fd) $$ HA
  iintro HF
  iapply h
  isplitr [HX]
  · unfold InFl
    iexists _
    iexists _
    isplitl [HF]; · iexact HF
    isplitl [HR]; · iexact HR
    ipureintro
    exact hback fd
  · iexact HX

theorem wait_step {α : Type} (bd : Option ℕ) {os od : Fin 3 → ℕ}
    {is : ∀ i, os i + (![1, a, b] : Fin 3 → ℕ) i ≤ (⟨3, ![60, a, b]⟩ : Shape).size i}
    {id' : ∀ i, od i + (![1, a, b] : Fin 3 → ℕ) i ≤ (⟨3, ![2, a, b]⟩ : Shape).size i}
    {hq : (⟨3, ![1, a, b]⟩ : Shape).Squeezes ⟨2, ![a, b]⟩}
    {sm : DmaSem sig} {hsrc : (member S os is hq).view.WordExact} {hdst : (member D od id' hq).view.WordExact}
    {k : PUnit → Pg F α} {Q : α → sProp 𝕄} {X : sProp 𝕄}
    (s m : ℕ) (V : Bf F S c)
    (h : iprop(((∃ f : Bf F D c, ⌜Holds c D S s m V f⌝ ∗ Slot c D s f) ∗ semVal ((c : Thread nD τ), SemLoc.dma sm) 0 ∗ (S.view.loc (c : Thread nD τ) ↦{fullShare} V)
        ∗ ∃ W, owes (c : Thread nD τ) 0 W) ∗ X) ⊢ WP c bd (k ⟨⟩) Q) :
    iprop((InFl c D S (.dma sm) s m V ∗ ∃ W, owes (c : Thread nD τ) 0 W) ∗ X)
      ⊢ WP c bd (Prog.lift (.waitDma2 sm (member S os is hq) (member D od id' hq) hsrc hdst) >>= k) Q := by
  unfold InFl
  iintro ⟨⟨⟨%P, %R, HF, HR, %hP⟩, %W, HO⟩, HX⟩
  iapply (Transfers.wp_waitLocal (countersEmb (U := Pipeline.UD sig nD τ)) Variants.nat (c : Thread nD τ) bd () (N := bytes D) rfl) $$ [HF HO]
  · isplitl [HF]; · iexact HF
    iexact HO
  iintro ⟨HP, Hs, HO⟩
  iapply h
  ihave HL := hP $$ [HP HR]
  · isplitl [HP]; · iexact HP
    iexact HR
  icases HL with ⟨HL, HS⟩
  isplitr [HX]
  · isplitl [HL]; · iexact HL
    isplitl [Hs]; · iexact Hs
    isplitl [HS]; · iexact HS
    iexists _; iexact HO
  · iexact HX

end Pair

end Cert.Kernel.Hand

end
-- ==== Proof.Items.lean ====
/-
  The work list as the kernel builds it: a table of five rows of words, column `t` describing item `t` by
  its expert, the first row of its window, the first of its rows, the row after its last, and the number of
  experts with rows before its own. What the list satisfies after `n` items, kept up item by item.
-/
module

public import Idealize.ShloMosaic.Lib.ValueIdxCore
public import Idealize.ShloMosaic.Lib.WordCmp
public import Idealize.ShloMosaic.Lib.Scf

@[expose] public section

namespace Cert.Hand

open Idealize.ShloMosaic Idealize.ShloMosaic.ValueIdx

/-- The work list's contents. -/
abbrev Tbl : Type := (⟨2, ![5, 128]⟩ : Shape).Idx → BitVec 32

/-- Row `k` of item `u`, as a natural (zero past the table's end). -/
def it (f : Tbl) (k : Fin 5) (u : ℕ) : ℕ := if h : u < 128 then (f (ix2 k ⟨u, h⟩)).toNat else 0

/-- What the first `n` items satisfy, with rows below `r` covered: each lies within its expert's rows and its
    window, they follow one another without a gap, and the active-expert number steps by one with the expert. -/
structure Tab (of : ℕ → ℕ) (f : Tbl) (n r : ℕ) : Prop where
  item : ∀ t < n, it f 0 t < 60 ∧ of (it f 0 t) ≤ it f 2 t ∧ it f 3 t ≤ of (it f 0 t + 1) ∧ it f 1 t ≤ 1408
    ∧ 16 ∣ it f 1 t ∧ it f 1 t ≤ it f 2 t ∧ it f 2 t < it f 3 t ∧ it f 3 t ≤ it f 1 t + 128
  zero : 0 < n → it f 2 0 = 0 ∧ it f 4 0 = 0
  step : ∀ t, t + 1 < n → it f 2 (t + 1) = it f 3 t
    ∧ ((it f 4 (t + 1) = it f 4 t ∧ it f 0 (t + 1) = it f 0 t) ∨ it f 4 (t + 1) = it f 4 t + 1)
  first : n = 0 → r = 0
  last : ∀ t, t + 1 = n → it f 3 t = r

/-- An item's active-expert number is at most its own number. -/
theorem Tab.J_le {of : ℕ → ℕ} {f : Tbl} {n r : ℕ} (h : Tab of f n r) : ∀ t < n, it f 4 t ≤ t := by
  intro t
  induction t with
  | zero => intro ht; have := (h.zero ht).2; omega
  | succ t ih =>
    intro ht
    have := ih (by omega)
    rcases (h.step t ht).2 with h1 | h1 <;> omega

/-- Where the list stands while expert `e`'s rows are listed: rows below `r` covered by `n` items. -/
structure Cur (of : ℕ → ℕ) (f : Tbl) (e n r na : ℕ) : Prop where
  tab : Tab of f n r
  lo : of e ≤ r
  hi : r ≤ of (e + 1)
  cnt : 113 * n ≤ 113 * e + r ∨ (r = of (e + 1) ∧ 113 * n ≤ 113 * (e + 1) + r)
  nz : n = 0 → na = 0
  act : ∀ t, t + 1 = n → (r = of e ∧ it f 4 t + 1 = na) ∨ (of e < r ∧ it f 4 t = na ∧ it f 0 t = e)

/-- The number of active experts is at most the number of items. -/
theorem Cur.na_le {of : ℕ → ℕ} {f : Tbl} {e n r na : ℕ} (h : Cur of f e n r na) : na ≤ n := by
  cases n with
  | zero => have := h.nz rfl; omega
  | succ n =>
    have := h.tab.J_le n (by omega)
    rcases h.act n rfl with h1 | h1 <;> omega

theorem Cur.n_lt {of : ℕ → ℕ} {f : Tbl} {e n r na : ℕ} (h : Cur of f e n r na) (he : e < 60) (hr : r < of (e + 1))
    (ho : of (e + 1) ≤ 1536) : n < 100 := by
  rcases h.cnt with h1 | h1 <;> omega

/-- One item more. -/
theorem Cur.push {of : ℕ → ℕ} {f f' : Tbl} {e n r na w r' : ℕ} (h : Cur of f e n r na) (he : e < 60) (hr : r < of (e + 1))
    (ho : of (e + 1) ≤ 1536) (hw : w = min (r / 16 * 16) 1408) (hr' : r' = min (of (e + 1)) (w + 128))
    (h0 : it f' 0 n = e) (h1 : it f' 1 n = w) (h2 : it f' 2 n = r) (h3 : it f' 3 n = r') (h4 : it f' 4 n = na)
    (hoff : ∀ k u, u ≠ n → it f' k u = it f k u) : Cur of f' e (n + 1) r' na := by
  have hlo := h.lo
  refine ⟨⟨?_, ?_, ?_, by omega, ?_⟩, by omega, by omega, ?_, by omega, ?_⟩
  · intro t ht
    by_cases htn : t = n
    · subst htn
      rw [h0, h1, h2, h3]
      refine ⟨he, hlo, by omega, by omega, ?_, by omega, by omega, by omega⟩
      rw [hw]
      by_cases hc : r / 16 * 16 ≤ 1408
      · rw [min_eq_left hc]; exact ⟨r / 16, by omega⟩
      · rw [min_eq_right (by omega)]; decide
    · have := h.tab.item t (by omega)
      rw [hoff 0 t htn, hoff 1 t htn, hoff 2 t htn, hoff 3 t htn]; exact this
  · intro _
    by_cases hn : n = 0
    · subst hn; rw [h2, h4, h.nz rfl, h.tab.first rfl]; exact ⟨rfl, rfl⟩
    · rw [hoff 2 0 (by omega), hoff 4 0 (by omega)]; exact h.tab.zero (by omega)
  · intro t ht
    by_cases htn : t + 1 = n
    · subst htn
      rw [h2, h4, h0, hoff 3 t (by omega), hoff 4 t (by omega), hoff 0 t (by omega)]
      refine ⟨(h.tab.last t rfl).symm, ?_⟩
      rcases h.act t rfl with h5 | h5
      · right; omega
      · left; exact ⟨h5.2.1.symm, h5.2.2.symm⟩
    · have := h.tab.step t (by omega)
      rw [hoff 2 _ htn, hoff 4 _ htn, hoff 0 _ htn, hoff 3 t (by omega), hoff 4 t (by omega), hoff 0 t (by omega)]
      exact this
  · intro t ht
    have : t = n := by omega
    subst this; exact h3
  · rcases h.cnt with h5 | h5
    · by_cases hc : r' = of (e + 1)
      · right; omega
      · left; omega
    · omega
  · intro t ht
    have : t = n := by omega
    subst this
    right
    refine ⟨by omega, h4, h0⟩

/-- On to the next expert. -/
theorem Cur.next {of : ℕ → ℕ} {f : Tbl} {e n na : ℕ} (h : Cur of f e n (of (e + 1)) na) (hm : of (e + 1) ≤ of (e + 1 + 1)) :
    Cur of f (e + 1) n (of (e + 1)) (na + if of e < of (e + 1) then 1 else 0) := by
  have hlo := h.lo
  refine ⟨h.tab, le_refl _, hm, ?_, ?_, ?_⟩
  · rcases h.cnt with h1 | h1 <;> omega
  · intro hn
    have := h.tab.first hn
    rw [if_neg (by omega), h.nz hn]
  · intro t ht
    left
    refine ⟨rfl, ?_⟩
    rcases h.act t ht with h1 | h1
    · rw [if_neg (by omega)]; omega
    · rw [if_pos h1.1]; omega

/-- An empty list stands before expert 0. -/
theorem Cur.start {of : ℕ → ℕ} (f : Tbl) (h0 : of 0 = 0) : Cur of f 0 0 0 0 :=
  ⟨⟨by omega, by omega, by omega, fun _ => rfl, by omega⟩, by omega, by omega, .inl (by omega), fun _ => rfl, by omega⟩

/-- The finished list, its end marked. -/
structure Fin1 (of : ℕ → ℕ) (f : Tbl) (n : ℕ) : Prop where
  tab : Tab of f n (of 60)
  len : n ≤ 74
  mark : it f 4 n = 4294967295

theorem Cur.fin {of : ℕ → ℕ} {f f' : Tbl} {n na : ℕ} (h : Cur of f 60 n (of 60) na) (h60 : of 61 = of 60) (ho : of 60 ≤ 1536)
    (h4 : it f' 4 n = 4294967295) (hoff : ∀ k u, u ≠ n → it f' k u = it f k u) : Fin1 of f' n := by
  have hlen : n ≤ 74 := by rcases h.cnt with h1 | h1 <;> omega
  refine ⟨⟨?_, ?_, ?_, h.tab.first, ?_⟩, hlen, h4⟩
  · intro t ht
    rw [hoff 0 t (by omega), hoff 1 t (by omega), hoff 2 t (by omega), hoff 3 t (by omega)]; exact h.tab.item t ht
  · intro hn
    rw [hoff 2 0 (by omega), hoff 4 0 (by omega)]; exact h.tab.zero hn
  · intro t ht
    rw [hoff 2 _ (by omega), hoff 4 _ (by omega), hoff 0 _ (by omega), hoff 3 t (by omega), hoff 4 t (by omega), hoff 0 t (by omega)]
    exact h.tab.step t ht
  · intro t ht
    rw [hoff 3 t (by omega)]; exact h.tab.last t ht

/-! ## The words -/

theorem slt_of {x y : BitVec 32} (hx : x.toNat < 2 ^ 31) (hy : y.toNat < 2 ^ 31) : x.slt y = decide (x.toNat < y.toNat) := by
  rw [BitVec.slt, BitVec.toInt_eq_toNat_of_lt (by omega), BitVec.toInt_eq_toNat_of_lt (by omega)]
  simp

theorem minsi_nat {x y : BitVec 32} (hx : x.toNat < 2 ^ 31) (hy : y.toNat < 2 ^ 31) : (Scalar.minsi x y).toNat = min x.toNat y.toNat := by
  show (if x.slt y then x else y).toNat = _
  rw [slt_of hx hy]
  by_cases h : x.toNat < y.toNat <;> simp [h] <;> omega

theorem cmpi_slt_iff {x y : BitVec 32} (hx : x.toNat < 2 ^ 31) (hy : y.toNat < 2 ^ 31) :
    Scalar.cmpi .slt x y = 1#1 ↔ x.toNat < y.toNat := by
  show BitVec.ofBool (x.slt y) = 1#1 ↔ _
  rw [slt_of hx hy]
  by_cases h : x.toNat < y.toNat <;> simp [h]

theorem addi_nat {x y : BitVec 32} (h : x.toNat + y.toNat < 2 ^ 32) : (Scalar.addi x y).toNat = x.toNat + y.toNat := by
  show (x + y).toNat = _
  rw [BitVec.toNat_add, Nat.mod_eq_of_lt h]

theorem and16_nat : ∀ r < 1537, r &&& 4294967280 = r / 16 * 16 := by decide +kernel

theorem and16 {x : BitVec 32} (h : x.toNat ≤ 1536) : (Scalar.andi x 4294967280#32).toNat = x.toNat / 16 * 16 := by
  show (x &&& 4294967280#32).toNat = _
  rw [BitVec.toNat_and]; exact and16_nat _ (by omega)

theorem iv_nat (t : ℕ) (h : t < 2 ^ 31) : (Scf.iv 0#32 1#32 t).toNat = t := by
  simp only [Scf.iv, BitVec.zero_add, BitVec.mul_one, BitVec.toNat_ofNat]
  omega

theorem cmpi_eq_nat {x y : BitVec 32} : Scalar.cmpi .eq x y = 1#1 ↔ x.toNat = y.toNat := by
  show BitVec.ofBool (x == y) = 1#1 ↔ _
  rw [← BitVec.toNat_eq]
  by_cases h : x = y
  · simp [h]
  · rw [beq_eq_false_iff_ne.mpr h]; simp [h]

theorem cmpi_ne_nat {x y : BitVec 32} : Scalar.cmpi .ne x y = 1#1 ↔ x.toNat ≠ y.toNat := by
  show BitVec.ofBool (x != y) = 1#1 ↔ _
  rw [Ne, ← BitVec.toNat_eq, bne]
  by_cases h : x = y
  · simp [h]
  · rw [beq_eq_false_iff_ne.mpr h]; simp [h]

end Cert.Hand
-- ==== Proof.Kernel.List.lean ====
/-
  The kernel builds its work list: for every expert a loop of single entries, each stored by its five words.
-/
module

public import proofs.«01_k».proof.Proof.Kernel.Base
public import proofs.«01_k».proof.Proof.Items

@[expose] public section

noncomputable section

namespace Cert.Kernel.Hand

open Cert.Kernel Cert.Kernel.Gen Cert.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem ex_elim {β : Type} {Φ : β → sProp 𝕄} {Q : sProp 𝕄} (h : ∀ a, Φ a ⊢ Q) : iprop(∃ a, Φ a) ⊢ Q := by
  iintro ⟨%a, H⟩
  iapply (h a) $$ H

theorem pure_sep {φ : Prop} {X Q : sProp 𝕄} (h : φ → X ⊢ Q) : iprop(⌜φ⌝ ∗ X) ⊢ Q := by
  iintro ⟨%hφ, H⟩
  iapply (h hφ) $$ H

/-! ## One word of the table -/

theorem unit1_emb {n m : ℕ} {o : Fin 2 → ℕ} (h : ∀ a, o a + S1x1.size a ≤ (⟨2, ![n, m]⟩ : Shape).size a) (k u : ℕ) (ho : o = ![k, u])
    (hk : k < n) (hu : u < m) (x : (Rect.unit (s := ⟨2, ![n, m]⟩) o S1x1.size h).shape.Idx) :
    (Rect.unit (s := ⟨2, ![n, m]⟩) o S1x1.size h).emb x = ix2 ⟨k, hk⟩ ⟨u, hu⟩ := by
  subst ho
  refine (eq_ix2 _).trans (congrArg₂ ix2 ?_ ?_)
  · have h1 : (x 0).val < 1 := (x 0).isLt
    have : (Rect.unit (s := ⟨2, ![n, m]⟩) ![k, u] S1x1.size h).emb x 0 = k + 1 * (x 0).val := rfl
    refine Fin.ext ?_
    show _ = k
    rw [this]; omega
  · have h1 : (x 1).val < 1 := (x 1).isLt
    have : (Rect.unit (s := ⟨2, ![n, m]⟩) ![k, u] S1x1.size h).emb x 1 = u + 1 * (x 1).val := rfl
    refine Fin.ext ?_
    show _ = u
    rw [this]; omega

/-- What a load of one word of the table reads. -/
theorem it_read (c : Dev nD) (f : Bf F A15 c) {o : Fin 2 → ℕ} (h : ∀ a, o a + S1x1.size a ≤ S5x128.size a) (k : Fin 5) (u : ℕ)
    (ho : o = ![k.val, u]) (hu : u < 128) (x : (Rect.unit (s := S5x128) o S1x1.size h).shape.Idx) :
    BitVec.toNat (A15.view.readAt (Elt F) (Rect.unit (s := S5x128) o S1x1.size h).toLoadRect f x) = it f k u := by
  have : A15.view.readAt (Elt F) (Rect.unit (s := S5x128) o S1x1.size h).toLoadRect f x
      = f (ix2 k ⟨u, hu⟩) :=
    (readAt_whole_apply cc0_scratch7 _ f x).trans (congrArg f (unit1_emb h k.val u ho k.isLt hu x))
  rw [this, it, dif_pos hu]

/-- The table after one word is stored. -/
abbrev wrT (c : Dev nD) (f : Bf F A15 c) {o : Fin 2 → ℕ} (h : ∀ a, o a + S1x1.size a ≤ S5x128.size a) (v : BitVec 32) : Bf F A15 c :=
  (A15.access (Rect.unit (s := S5x128) o S1x1.size h)).write (Elt F) f (fun _ => v) Finset.univ

theorem it_wr (c : Dev nD) (f : Bf F A15 c) {o : Fin 2 → ℕ} (h : ∀ a, o a + S1x1.size a ≤ S5x128.size a) (v : BitVec 32) (k : Fin 5) (u : ℕ)
    (ho : o = ![k.val, u]) (hu : u < 128) (k' : Fin 5) (u' : ℕ) :
    it (wrT c f h v) k' u' = if k' = k ∧ u' = u then v.toNat else it f k' u' := by
  have hx : (0 : ℕ) < 1 := one_pos
  by_cases hc : k' = k ∧ u' = u
  · obtain ⟨rfl, rfl⟩ := hc
    rw [if_pos ⟨rfl, rfl⟩, it, dif_pos hu]
    have e := unit1_emb h k'.val u' ho k'.isLt hu (Shape.Idx.first (by show (0:ℕ) < _; exact one_pos))
    have := write_whole_in (Val := Elt F) cc0_scratch7 (Rect.unit (s := S5x128) o S1x1.size h) f (fun _ => v) (Shape.Idx.first (by show (0:ℕ) < _; exact one_pos))
    have e' : (ix2 k' ⟨u', hu⟩ : S5x128.Idx) = (Rect.unit (s := S5x128) o S1x1.size h).emb (Shape.Idx.first (by show (0:ℕ) < _; exact one_pos)) := e.symm
    exact congrArg BitVec.toNat ((congrArg (wrT c f h v) e').trans this)
  · rw [if_neg hc]
    unfold it
    split
    · rename_i hu'
      refine congrArg BitVec.toNat (write_whole_out (Val := Elt F) cc0_scratch7 (Rect.unit (s := S5x128) o S1x1.size h) f (fun _ => v) ?_)
      intro hm
      subst ho
      have h0 := (Rect.mem_set_unit.mp hm) 0
      have h1 := (Rect.mem_set_unit.mp hm) 1
      apply hc
      have a0 : k.val ≤ k'.val ∧ k'.val < k.val + 1 := h0
      have a1 : u ≤ u' ∧ u' < u + 1 := h1
      exact ⟨Fin.ext (by omega), by omega⟩
    · rfl

/-- A word's place is in the table. -/
theorem inb15 {o : Fin 2 → ℕ} (k u : ℕ) (ho : o = ![k, u]) (hk : k < 5) (hu : u < 128) : ∀ a, o a + S1x1.size a ≤ S5x128.size a := by
  subst ho
  intro a
  match a with
  | ⟨0, _⟩ => show k + 1 ≤ 5; omega
  | ⟨1, _⟩ => show u + 1 ≤ 128; omega

/-- The table after item `n`'s five words are stored. -/
def put5 (c : Dev nD) (f : Bf F A15 c) (n : ℕ) (hn : n < 128) (v0 v1 v2 v3 v4 : BitVec 32) : Bf F A15 c :=
  wrT c (wrT c (wrT c (wrT c (wrT c f (inb15 0 n rfl (by omega) hn) v0) (inb15 1 n rfl (by omega) hn) v1) (inb15 2 n rfl (by omega) hn) v2)
    (inb15 3 n rfl (by omega) hn) v3) (inb15 4 n rfl (by omega) hn) v4

theorem it_put5 (c : Dev nD) (f : Bf F A15 c) (n : ℕ) (hn : n < 128) (v0 v1 v2 v3 v4 : BitVec 32) (k : Fin 5) (u : ℕ) :
    it (put5 c f n hn v0 v1 v2 v3 v4) k u = if u = n then (![v0, v1, v2, v3, v4] k).toNat else it f k u := by
  have hw : ∀ (g : Bf F A15 c) (j : Fin 5) (v : BitVec 32), it (wrT c g (inb15 j.val n rfl (by omega) hn) v) k u
      = if k = j ∧ u = n then v.toNat else it g k u := fun g j v => it_wr c g _ v j n rfl hn k u
  have h := (hw (wrT c (wrT c (wrT c (wrT c f (inb15 0 n rfl (by omega) hn) v0) (inb15 1 n rfl (by omega) hn) v1) (inb15 2 n rfl (by omega) hn) v2)
    (inb15 3 n rfl (by omega) hn) v3) 4 v4)
  have h3 := hw (wrT c (wrT c (wrT c f (inb15 0 n rfl (by omega) hn) v0) (inb15 1 n rfl (by omega) hn) v1) (inb15 2 n rfl (by omega) hn) v2) 3 v3
  have h2 := hw (wrT c (wrT c f (inb15 0 n rfl (by omega) hn) v0) (inb15 1 n rfl (by omega) hn) v1) 2 v2
  have h1 := hw (wrT c f (inb15 0 n rfl (by omega) hn) v0) 1 v1
  have h0 := hw f 0 v0
  refine h.trans ?_
  rw [show it (wrT c (wrT c (wrT c (wrT c f (inb15 0 n rfl (by omega) hn) v0) (inb15 1 n rfl (by omega) hn) v1) (inb15 2 n rfl (by omega) hn) v2)
    (inb15 3 n rfl (by omega) hn) v3) k u = _ from h3,
    show it (wrT c (wrT c (wrT c f (inb15 0 n rfl (by omega) hn) v0) (inb15 1 n rfl (by omega) hn) v1) (inb15 2 n rfl (by omega) hn) v2) k u = _ from h2,
    show it (wrT c (wrT c f (inb15 0 n rfl (by omega) hn) v0) (inb15 1 n rfl (by omega) hn) v1) k u = _ from h1,
    show it (wrT c f (inb15 0 n rfl (by omega) hn) v0) k u = _ from h0]
  by_cases hu : u = n
  · fin_cases k <;> simp [hu]
  · simp [hu]

/-- The rows of every expert below `e`, added up. -/
def offs (c : Dev nD) (f0 : Bf F A0 c) (e : ℕ) : ℕ :=
  ∑ i ∈ Finset.range e, if h : i < 60 then BitVec.toNat (w := 32) (f0 (ix1 ⟨i, h⟩)) else 0

theorem offs_succ (c : Dev nD) (f0 : Bf F A0 c) (e : ℕ) (h : e < 60) :
    offs c f0 (e + 1) = offs c f0 e + BitVec.toNat (w := 32) (f0 (ix1 ⟨e, h⟩)) := by
  rw [offs, Finset.sum_range_succ, dif_pos h]; rfl

theorem offs_mono (c : Dev nD) (f0 : Bf F A0 c) {a b : ℕ} (h : a ≤ b) : offs c f0 a ≤ offs c f0 b :=
  Finset.sum_le_sum_of_subset (by intro x; simp only [Finset.mem_range]; omega)

/-! ## Steps on the table -/

section Steps

variable {α : Type} (c : Dev nD) (bd : Option ℕ)

theorem tld (f : Bf F A15 c) {X : sProp 𝕄} {o : Fin 2 → ℕ} {inb : ∀ a, o a + S1x1.size a ≤ S5x128.size a}
    {h1 : (Rect.unit (s := S5x128) o S1x1.size inb).shape.numel = 1} {hp : EltTy.packing .i32 = 1} {kk : Elt F .i32 → Pg F α} {Q : α → sProp 𝕄}
    (k : Fin 5) (u : ℕ) (ho : o = ![k.val, u]) (hu : u < 128)
    (h : ∀ w : BitVec 32, w.toNat = it f k u → iprop(pt A15 c f ∗ X) ⊢ WP c bd (kk w) Q) :
    iprop(pt A15 c f ∗ X) ⊢ WP c bd (smemLoad A15 (Rect.unit (s := S5x128) o S1x1.size inb) h1 hp >>= kk) Q := by
  refine smemLoad_step c bd f (Sd := Finset.univ) (q := fullShare) ?_ (Finset.subset_univ _) (h _ (it_read c f inb k u ho hu _))
  iintro ⟨H, HX⟩
  isplitl [H]; · iexact H
  iintro H
  isplitl [H]; · iexact H
  iexact HX

theorem tld0 (f : Bf F A0 c) {X : sProp 𝕄} {o : Fin 1 → ℕ} {inb : ∀ a, o a + S1.size a ≤ S60.size a}
    {h1 : (Rect.unit (s := S60) o S1.size inb).shape.numel = 1} {hp : EltTy.packing .i32 = 1} {kk : Elt F .i32 → Pg F α} {Q : α → sProp 𝕄}
    (u : ℕ) (ho : o = ![u]) (hu : u < 60)
    (h : iprop(pt A0 c f ∗ X) ⊢ WP c bd (kk (f (ix1 ⟨u, hu⟩))) Q) :
    iprop(pt A0 c f ∗ X) ⊢ WP c bd (smemLoad A0 (Rect.unit (s := S60) o S1.size inb) h1 hp >>= kk) Q := by
  refine smemLoad_step c bd f (Sd := Finset.univ) (q := fullShare) ?_ (Finset.subset_univ _) ?_
  · iintro ⟨H, HX⟩
    isplitl [H]; · iexact H
    iintro H
    isplitl [H]; · iexact H
    iexact HX
  · have e : ∀ x : (Rect.unit (s := S60) o S1.size inb).shape.Idx, A0.view.readAt (Elt F) (Rect.unit (s := S60) o S1.size inb).toLoadRect f x = f (ix1 ⟨u, hu⟩) := by
      intro x
      refine (readAt_whole_apply cc0_stg0_0 _ f x).trans (congrArg f ?_)
      subst ho
      funext a
      match a with
      | ⟨0, _⟩ =>
        have h1 : (x 0).val < 1 := (x 0).isLt
        refine Fin.ext ?_
        show u + 1 * (x 0).val = u
        omega
    rw [e]; exact h

theorem tst (f : Bf F A15 c) {X : sProp 𝕄} {o : Fin 2 → ℕ} {inb : ∀ a, o a + S1x1.size a ≤ S5x128.size a} {v : BitVec 32}
    {hx : (A15.access (Rect.unit (s := S5x128) o S1x1.size inb)).Stores Finset.univ} {hm} {kk : PUnit → Pg F α} {Q : α → sProp 𝕄}
    (h : iprop(pt A15 c (wrT c f inb v) ∗ X) ⊢ WP c bd (kk ⟨⟩) Q) :
    iprop(pt A15 c f ∗ X) ⊢ WP c bd (Prog.lift (.store A15 (Rect.unit (s := S5x128) o S1x1.size inb) (fun _ => v) Finset.univ hx hm) >>= kk) Q := by
  refine store_step c bd f ?_ h
  iintro ⟨H, HX⟩
  isplitl [H]; · iexact H
  iintro H
  isplitl [H]; · iexact H
  iexact HX

end Steps

/-! ## The inner loop: one expert's items -/

section While1

variable (c : Dev nD) (of : ℕ → ℕ)

/-- From a list standing inside an expert's rows, the loop ends with the expert's rows covered. -/
def spec1 (e na : ℕ) (f : Bf F A15 c) : sWPT 𝕄 (BitVec 32 × BitVec 32) := do
  sWPT.consume (pt A15 c f)
  let r ← sWPT.arbitrary
  let f' ← sWPT.arbitrary (X := Bf F A15 c)
  sWPT.assume (Cur of f' e r.1.toNat (of (e + 1)) na)
  sWPT.produce (pt A15 c f')
  pure r

theorem spec1_apply (e na : ℕ) (f : Bf F A15 c) (K : BitVec 32 × BitVec 32 → sProp 𝕄) :
    spec1 c of e na f K = iprop(pt A15 c f ∗ ∀ r : BitVec 32 × BitVec 32, ∀ f' : Bf F A15 c,
      ⌜Cur of f' e r.1.toNat (of (e + 1)) na⌝ -∗ (pt A15 c f' -∗ K r)) := rfl

theorem t1_trips : k0_t1_loop.trips = 60 := by decide

theorem while1_le (t : Fin k0_t1_loop.trips) (v114 a19 : BitVec 32) (hv : v114.toNat = of (t.val + 1)) (ho : of (t.val + 1) ≤ 1536) :
    ∀ (k : ℕ) (f : Bf F A15 c) (n r : BitVec 32), Cur of f t.val n.toNat r.toNat a19.toNat → of (t.val + 1) - r.toNat ≤ k →
    ∀ K, spec1 c of t.val a19.toNat f K ⊢ wp frame (wpE (defs₀ (F := F)) Variants.nat (c : Thread nD τ) (some k)) Set.univ
      (defs₀ (F := F) .tc 1 ⟨t, v114, A15, Memref.isWhole_whole _, a19, n, r⟩) K := by
  have ht : t.val < 60 := lt_of_lt_of_eq t.isLt t1_trips
  intro k
  induction k with
  | zero =>
    intro f n r hC hk K
    have hr := hC.hi
    have e : (defs₀ (F := F) .tc 1 ⟨t, v114, A15, Memref.isWhole_whole _, a19, n, r⟩ : Pg F _)
        = cc0_while1_skel t v114 A15 (Memref.isWhole_whole _) a19 n r := congrFun (congrFun (congrFun (congrFun (congrFun (congrFun (congrFun cc0_while1_eq_skeleton t) v114) A15) _) a19) n) r
    rw [spec1_apply, e, cc0_while1_skel]
    refine ite_step c _ ?_ fun _ => ?_
    · intro hc
      rw [cmpi_slt_iff (by omega) (by omega)] at hc
      omega
    · refine pure_step c _ ?_
      have hre : r.toNat = of (t.val + 1) := by omega
      iintro ⟨H, HK⟩
      rw [hre] at hC
      iapply HK
      · ipureintro; exact hC
      · iexact H
  | succ k ih =>
    intro f n r hC hk K
    have hr := hC.hi
    have e : (defs₀ (F := F) .tc 1 ⟨t, v114, A15, Memref.isWhole_whole _, a19, n, r⟩ : Pg F _)
        = cc0_while1_skel t v114 A15 (Memref.isWhole_whole _) a19 n r := congrFun (congrFun (congrFun (congrFun (congrFun (congrFun (congrFun cc0_while1_eq_skeleton t) v114) A15) _) a19) n) r
    rw [spec1_apply, e, cc0_while1_skel]
    refine ite_step c _ ?_ fun hc => ?_
    · intro hc
      rw [cmpi_slt_iff (by omega) (by omega), hv] at hc
      have hn : n.toNat < 100 := hC.n_lt ht hc ho
      have hw : (Scalar.minsi (Scalar.andi r 4294967280#32) 1408#32).toNat = min (r.toNat / 16 * 16) 1408 := by
        rw [minsi_nat (by rw [and16 (by omega)]; omega) (by decide), and16 (by omega)]; rfl
      have hw2 : (Scalar.addi (Scalar.minsi (Scalar.andi r 4294967280#32) 1408#32) 128#32).toNat = min (r.toNat / 16 * 16) 1408 + 128 := by
        rw [addi_nat (by rw [hw]; show _ + 128 < _; omega), hw]; rfl
      have hr' : (Scalar.minsi v114 (Scalar.addi (Scalar.minsi (Scalar.andi r 4294967280#32) 1408#32) 128#32)).toNat
          = min (of (t.val + 1)) (min (r.toNat / 16 * 16) 1408 + 128) := by
        rw [minsi_nat (by omega) (by rw [hw2]; omega), hw2, hv]
      have hn1 : (Scalar.addi n 1#32).toNat = n.toNat + 1 := by rw [addi_nat (by show _ + 1 < _; omega)]; rfl
      have htv : (Scf.iv 0#32 1#32 t.val).toNat = t.val := iv_nat _ (by omega)
      refine assume_step c _ ⟨inb15 0 n.toNat rfl (by omega) (by omega), inb15 1 n.toNat rfl (by omega) (by omega), inb15 2 n.toNat rfl (by omega) (by omega),
        inb15 3 n.toNat rfl (by omega) (by omega), inb15 4 n.toNat rfl (by omega) (by omega)⟩ ?_
      refine tld c _ f 0 n.toNat rfl (by omega) fun _ _ => ?_
      refine tst c _ f ?_
      refine tld c _ _ 1 n.toNat rfl (by omega) fun _ _ => ?_
      refine tst c _ _ ?_
      refine tld c _ _ 2 n.toNat rfl (by omega) fun _ _ => ?_
      refine tst c _ _ ?_
      refine tld c _ _ 3 n.toNat rfl (by omega) fun _ _ => ?_
      refine tst c _ _ ?_
      refine tld c _ _ 4 n.toNat rfl (by omega) fun _ _ => ?_
      refine tst c _ _ ?_
      have hC' : Cur of (put5 c f n.toNat (by omega) (Scf.iv 0#32 1#32 t.val) (Scalar.minsi (Scalar.andi r 4294967280#32) 1408#32) r
          (Scalar.minsi v114 (Scalar.addi (Scalar.minsi (Scalar.andi r 4294967280#32) 1408#32) 128#32)) a19) t.val (Scalar.addi n 1#32).toNat
          (Scalar.minsi v114 (Scalar.addi (Scalar.minsi (Scalar.andi r 4294967280#32) 1408#32) 128#32)).toNat a19.toNat := by
        rw [hn1]
        refine hC.push ht hc ho rfl hr' ?_ ?_ ?_ ?_ ?_ ?_
        · rw [it_put5, if_pos rfl]; exact htv
        · rw [it_put5, if_pos rfl]; exact hw
        · rw [it_put5, if_pos rfl]; rfl
        · rw [it_put5, if_pos rfl]; rfl
        · rw [it_put5, if_pos rfl]; rfl
        · intro j u hu
          rw [it_put5, if_neg hu]
      refine BIBase.Entails.trans ?_ (wp_call_spec Variants.nat (c : Thread nD τ) (some (k + 1)) Set.univ
        (spec1 c of t.val a19.toNat (put5 c f n.toNat (by omega) (Scf.iv 0#32 1#32 t.val) (Scalar.minsi (Scalar.andi r 4294967280#32) 1408#32) r
          (Scalar.minsi v114 (Scalar.addi (Scalar.minsi (Scalar.andi r 4294967280#32) 1408#32) 128#32)) a19)) k
        (fun u hu => by cases hu; exact Nat.lt_succ_self k)
        (ih _ (Scalar.addi n 1#32) _ hC' (by rw [hr']; omega)))
      rw [spec1_apply]
      iintro ⟨H, HK⟩
      isplitl [H]; · iexact H
      iintro %r %f' %hC'' H
      iapply (le_wp_ret _ _ _ _ _)
      iapply HK
      · ipureintro; exact hC''
      · iexact H
    · rw [cmpi_slt_iff (by omega) (by omega)] at hc
      refine pure_step c _ ?_
      have hre : r.toNat = of (t.val + 1) := by omega
      iintro ⟨H, HK⟩
      rw [hre] at hC
      iapply HK
      · ipureintro; exact hC
      · iexact H

end While1

/-! ## The outer loop: the experts in turn -/

section Outer

variable (c : Dev nD)

/-- The table while expert `e` is next, with the loop's three words. -/
def inv1 (f0 : Bf F A0 c) (e : ℕ) (acc : BitVec 32 × BitVec 32 × BitVec 32) : sProp 𝕄 :=
  iprop(∃ f15 : Bf F A15 c, ⌜Cur (offs c f0) f15 e acc.1.toNat (offs c f0 e) acc.2.1.toNat ∧ acc.2.2.toNat = offs c f0 e⌝
    ∗ pt A15 c f15 ∗ pt A0 c f0)

theorem one_bit (b : BitVec 1) : (Scalar.extui b : BitVec 32).toNat = if b = 1#1 then 1 else 0 := by
  revert b; decide

theorem t1_trip (f0 : Bf F A0 c) (ho : offs c f0 60 ≤ 1536) (t : Fin k0_t1_loop.trips) (acc : BitVec 32 × BitVec 32 × BitVec 32)
 :
    inv1 c f0 t.val acc ⊢ WP c none (k0_t1_body A0 (Memref.isWhole_whole _) A1 (Memref.isWhole_whole _) A2 (Memref.isWhole_whole _)
      A3 (Memref.isWhole_whole _) A4 (Memref.isWhole_whole _) A5 (Memref.isWhole_whole _) A6 (Memref.isWhole_whole _) A7 (Memref.isWhole_whole _)
      A8 (Memref.isWhole_whole _) A9 (Memref.isWhole_whole _) A10 (Memref.isWhole_whole _) A11 (Memref.isWhole_whole _) A12 (Memref.isWhole_whole _)
      A13 (Memref.isWhole_whole _) A14 (Memref.isWhole_whole _) A15 (Memref.isWhole_whole _) cc0_scratch8 t acc) (inv1 c f0 (t.val + 1)) := by
  have ht : t.val < 60 := lt_of_lt_of_eq t.isLt t1_trips
  obtain ⟨n, na, lo⟩ := acc
  have hm : offs c f0 (t.val + 1) ≤ offs c f0 60 := offs_mono c f0 (by omega)
  have hm0 : offs c f0 t.val ≤ offs c f0 (t.val + 1) := offs_mono c f0 (by omega)
  have hsz := offs_succ c f0 t.val ht
  unfold k0_t1_body
  dsimp only
  refine BIBase.Entails.trans (Q := iprop(∃ f15 : Bf F A15 c, pt A0 c f0 ∗ (⌜Cur (offs c f0) f15 t.val n.toNat (offs c f0 t.val) na.toNat ∧ lo.toNat = offs c f0 t.val⌝
    ∗ pt A15 c f15))) ?_ ?_
  · unfold inv1
    iintro ⟨%f15, %hC, H15, H0⟩
    iexists f15
    isplitl [H0]; · iexact H0
    isplitr; · ipureintro; exact hC
    iexact H15
  refine ex_elim fun f15 => ?_
  refine tld0 c none f0 t.val ?_ ht ?_
  · show ![(Scf.iv 0#32 1#32 t.val).toNat] = _
    rw [iv_nat _ (by omega)]
  refine BIBase.Entails.trans (Q := iprop(⌜Cur (offs c f0) f15 t.val n.toNat (offs c f0 t.val) na.toNat ∧ lo.toNat = offs c f0 t.val⌝
    ∗ (pt A15 c f15 ∗ pt A0 c f0))) ?_ ?_
  · iintro ⟨H0, %hC, H15⟩
    isplitr; · ipureintro; exact hC
    isplitl [H15]; · iexact H15
    iexact H0
  refine pure_sep fun hC => ?_
  obtain ⟨hC, hlo⟩ := hC
  have hv : (Scalar.addi lo (f0 (ix1 ⟨t.val, ht⟩)) : BitVec 32).toNat = offs c f0 (t.val + 1) := by
    rw [addi_nat (by omega), hsz, hlo]
  refine bind_step c none ?_
  refine BIBase.Entails.trans ?_ (wp_call_spec Variants.nat (c : Thread nD τ) none Set.univ
        (spec1 c (offs c f0) t.val na.toNat f15) 1536 (fun u hu => by cases hu)
        (while1_le c (offs c f0) t _ na hv (by omega) 1536 f15 n lo (by rw [hlo]; exact hC) (by omega)))
  rw [spec1_apply]
  iintro ⟨H, H0⟩
  isplitl [H]; · iexact H
  iintro %r %f' %hC' H
  iapply (le_wp_ret _ _ _ _ _)
  iapply (le_wp_ret _ _ _ _ _)
  unfold inv1
  iexists f'
  isplitr
  · ipureintro
    refine ⟨?_, hv⟩
    have hn := hC'.next (offs_mono c f0 (by omega))
    have hna := hC'.na_le
    have hlen : r.1.toNat ≤ 74 := by rcases hC'.cnt with h1 | h1 <;> omega
    have hb : (Scalar.extui (Scalar.cmpi .sgt (Scalar.addi lo (f0 (ix1 ⟨t.val, ht⟩))) lo) : BitVec 32).toNat
        = if offs c f0 t.val < offs c f0 (t.val + 1) then 1 else 0 := by
      rw [one_bit]
      have : (Scalar.cmpi .sgt (Scalar.addi lo (f0 (ix1 ⟨t.val, ht⟩))) lo = 1#1) ↔ offs c f0 t.val < offs c f0 (t.val + 1) := by
        refine (cmpi_slt_iff (x := lo) (y := Scalar.addi lo (f0 (ix1 ⟨t.val, ht⟩))) (by omega) (by rw [hv]; omega)).trans ?_
        rw [hv, hlo]
      simp only [this]
    have he : (Scalar.addi na (Scalar.extui (Scalar.cmpi .sgt (Scalar.addi lo (f0 (ix1 ⟨t.val, ht⟩))) lo)) : BitVec 32).toNat
        = na.toNat + if offs c f0 t.val < offs c f0 (t.val + 1) then 1 else 0 := by
      rw [addi_nat (by rw [hb]; split <;> omega), hb]
    show Cur _ _ _ r.1.toNat _ (Scalar.addi na (Scalar.extui (Scalar.cmpi .sgt (Scalar.addi lo (f0 (ix1 ⟨t.val, ht⟩))) lo)) : BitVec 32).toNat
    rw [he]; exact hn
  isplitl [H]; · iexact H
  iexact H0

end Outer

/-! ## The search for the next expert's first item -/

section While2

variable (c : Dev nD)

/-- Items from `t` up to `u` are of one expert. -/
def Same (f : Tbl) (t n u : ℕ) : Prop := t < u ∧ u ≤ n ∧ ∀ v, t ≤ v → v < u → it f 4 v = it f 4 t

/-- The search ends at the first entry of another number. -/
def spec2 (t n : ℕ) (f : Bf F A15 c) : sWPT 𝕄 (BitVec 32) := do
  sWPT.consume (pt A15 c f)
  let r ← sWPT.arbitrary
  sWPT.assume (Same f t n (BitVec.toNat (w := 32) r) ∧ it f 4 (BitVec.toNat (w := 32) r) ≠ it f 4 t)
  sWPT.produce (pt A15 c f)
  pure r

theorem spec2_apply (t n : ℕ) (f : Bf F A15 c) (K : BitVec 32 → sProp 𝕄) :
    spec2 c t n f K = iprop(pt A15 c f ∗ ∀ r : BitVec 32, ⌜Same f t n r.toNat ∧ it f 4 r.toNat ≠ it f 4 t⌝ -∗ (pt A15 c f -∗ K r)) := rfl

theorem while2_le {of : ℕ → ℕ} {n : ℕ} (f : Bf F A15 c) (hF : Fin1 of f n) (v1_0 : BitVec 32) (hw2 : k0_chk2 v1_0) (t : Fin (k0_t2_loop v1_0).trips)
    (v113 v115 : BitVec 32) (hw4 : k0_chk4 v115) (v121 v128 : BitVec 32) (hw5 : k0_chk5 v1_0 t v113 v121 v128) (ht : t.val < n) :
    ∀ (k : ℕ) (u : BitVec 32), Same f t.val n u.toNat → n - u.toNat ≤ k →
    ∀ K, spec2 c t.val n f K ⊢ wp frame (wpE (defs₀ (F := F)) Variants.nat (c : Thread nD τ) (some k)) Set.univ
      (defs₀ (F := F) .tc 2 ⟨v1_0, hw2, t, v113, v115, hw4, v121, v128, hw5, A15, Memref.isWhole_whole _, u⟩) K := by
  have hlen := hF.len
  have hJ := hF.tab.J_le t.val ht
  intro k
  induction k with
  | zero =>
    intro u hS hk K
    obtain ⟨h1, h2, h3⟩ := hS
    have hun : u.toNat = n := by omega
    have e : (defs₀ (F := F) .tc 2 ⟨v1_0, hw2, t, v113, v115, hw4, v121, v128, hw5, A15, Memref.isWhole_whole _, u⟩ : Pg F _)
        = cc0_while2_skel v1_0 hw2 t v113 v115 hw4 v121 v128 hw5 A15 (Memref.isWhole_whole _) u := rfl
    rw [spec2_apply, e, cc0_while2_skel]
    refine assume_step c _ (inb15 4 u.toNat rfl (by omega) (by omega)) ?_
    refine tld c _ f 4 u.toNat rfl (by omega) fun a ha => ?_
    refine tld c _ f 4 t.val ?_ (by omega) fun b hb => ?_
    · show ![4, (Scf.iv 0#32 1#32 t.val).toNat] = _
      rw [iv_nat _ (by omega)]; rfl
    have hne : it f 4 u.toNat ≠ it f 4 t.val := by rw [hun, hF.mark]; omega
    refine ite_step c _ ?_ fun _ => ?_
    · intro hc
      exact absurd (cmpi_eq_nat.mp hc) (by rw [ha, hb]; exact hne)
    · refine pure_step c _ ?_
      iintro ⟨H, HK⟩
      iapply HK
      · ipureintro; exact ⟨⟨h1, h2, h3⟩, hne⟩
      · iexact H
  | succ k ih =>
    intro u hS hk K
    obtain ⟨h1, h2, h3⟩ := hS
    have e : (defs₀ (F := F) .tc 2 ⟨v1_0, hw2, t, v113, v115, hw4, v121, v128, hw5, A15, Memref.isWhole_whole _, u⟩ : Pg F _)
        = cc0_while2_skel v1_0 hw2 t v113 v115 hw4 v121 v128 hw5 A15 (Memref.isWhole_whole _) u := rfl
    rw [spec2_apply, e, cc0_while2_skel]
    refine assume_step c _ (inb15 4 u.toNat rfl (by omega) (by omega)) ?_
    refine tld c _ f 4 u.toNat rfl (by omega) fun a ha => ?_
    refine tld c _ f 4 t.val ?_ (by omega) fun b hb => ?_
    · show ![4, (Scf.iv 0#32 1#32 t.val).toNat] = _
      rw [iv_nat _ (by omega)]; rfl
    refine ite_step c _ ?_ fun hc => ?_
    · intro hc
      have heq : it f 4 u.toNat = it f 4 t.val := by rw [← ha, ← hb]; exact cmpi_eq_nat.mp hc
      have hun : u.toNat ≠ n := by intro hun; rw [hun, hF.mark] at heq; omega
      have hu1 : (Scalar.addi u 1#32).toNat = u.toNat + 1 := by rw [addi_nat (by show _ + 1 < _; omega)]; rfl
      refine BIBase.Entails.trans ?_ (wp_call_spec Variants.nat (c : Thread nD τ) (some (k + 1)) Set.univ
        (spec2 c t.val n f) k (fun u hu => by cases hu; exact Nat.lt_succ_self k)
        (ih (Scalar.addi u 1#32) ?_ (by rw [hu1]; omega)))
      · rw [spec2_apply]
        iintro ⟨H, HK⟩
        isplitl [H]; · iexact H
        iintro %r %hr H
        iapply (le_wp_ret _ _ _ _ _)
        iapply HK
        · ipureintro; exact hr
        · iexact H
      · rw [hu1]
        refine ⟨by omega, by omega, fun v hv hv' => ?_⟩
        by_cases hvu : v = u.toNat
        · rw [hvu]; exact heq
        · exact h3 v hv (by omega)
    · refine pure_step c _ ?_
      iintro ⟨H, HK⟩
      iapply HK
      · ipureintro
        refine ⟨⟨h1, h2, h3⟩, fun heq => hc (cmpi_eq_nat.mpr ?_)⟩
        rw [ha, hb]; exact heq
      · iexact H

end While2

end Cert.Kernel.Hand

end
-- ==== Proof.Kernel.Tiles.lean ====
/-
  What one item's arithmetic leaves in each tile, written once for every tile: the nibbles of a block of
  packed rows, the block times its scales, the three products, the gate and the masked blend.
-/
module

public import proofs.«01_k».proof.Proof.Kernel.Base

@[expose] public section

noncomputable section

namespace Cert.Kernel.Hand

open Cert.Kernel Cert.Kernel.Gen
open Idealize.ShloMosaic Idealize.ShloMosaic.TcCoe Idealize.ShloMosaic.ValueIdx

variable {F : FTy → Type} [FloatOps F] (c : Dev nD)

/-! ## Slots and rectangles -/

/-- The slot an item's weights lie in. -/
def slotOf (j : BitVec 32) : ℕ := (Scalar.andi j 1#32).toNat
theorem slotOf_lt (j : BitVec 32) : slotOf j < 2 := by
  simp only [slotOf, Scalar.andi, BitVec.toNat_and]
  exact lt_of_le_of_lt Nat.and_le_right (by decide)

/-- The same, as an index. -/
def sf (j : BitVec 32) : Fin 2 := ⟨slotOf j, slotOf_lt j⟩

theorem inb8 {s n : ℕ} (hs : s < 2) (hn : n < 11) : ∀ a, (![s, 0, 256 * n] : Fin 3 → ℕ) a + S1x1024x256.size a ≤ S2x1024x2816.size a := by
  intro a; fin_cases a <;> simp [Shape.size] <;> omega
theorem inb9 {s n k : ℕ} (hs : s < 2) (hn : n < 11) (hk : k < 16) : ∀ a, (![s, k, 256 * n] : Fin 3 → ℕ) a + S1x1x256.size a ≤ S2x16x2816.size a := by
  intro a; fin_cases a <;> simp [Shape.size] <;> omega
theorem inb10 {s n : ℕ} (hs : s < 2) (hn : n < 8) : ∀ a, (![s, 0, 256 * n] : Fin 3 → ℕ) a + S1x704x256.size a ≤ S2x704x2048.size a := by
  intro a; fin_cases a <;> simp [Shape.size] <;> omega
theorem inb11 {s n k : ℕ} (hs : s < 2) (hn : n < 8) (hk : k < 11) : ∀ a, (![s, k, 256 * n] : Fin 3 → ℕ) a + S1x1x256.size a ≤ S2x11x2048.size a := by
  intro a; fin_cases a <;> simp [Shape.size] <;> omega
theorem inb12 {n : ℕ} (hn : n < 22) : ∀ a, (![0, 128 * n] : Fin 2 → ℕ) a + S128x128.size a ≤ S128x2816.size a := by
  intro a; fin_cases a <;> simp [Shape.size] <;> omega

/-- Block `n` of 256 columns of slot `s` of the first weights. -/
def rd8 (f : Bf F A8 c) (s : Fin 2) (n : Fin 11) : Vec F S1x1024x256 .i8 :=
  A8.view.readAt (Elt F) (Rect.unit (s := S2x1024x2816) ![s, 0, 256 * n] S1x1024x256.size (inb8 s.2 n.2)).toLoadRect f
/-- Row `k` of block `n` of the first scales. -/
def rd9 (f : Bf F A9 c) (s : Fin 2) (n : Fin 11) (k : Fin 16) : Vec F S1x1x256 .bf16 :=
  A9.view.readAt (Elt F) (Rect.unit (s := S2x16x2816) ![s, k, 256 * n] S1x1x256.size (inb9 s.2 n.2 k.2)).toLoadRect f
/-- Block `n` of the second weights. -/
def rd10 (f : Bf F A10 c) (s : Fin 2) (n : Fin 8) : Vec F S1x704x256 .i8 :=
  A10.view.readAt (Elt F) (Rect.unit (s := S2x704x2048) ![s, 0, 256 * n] S1x704x256.size (inb10 s.2 n.2)).toLoadRect f
/-- Row `k` of block `n` of the second scales. -/
def rd11 (f : Bf F A11 c) (s : Fin 2) (n : Fin 8) (k : Fin 11) : Vec F S1x1x256 .bf16 :=
  A11.view.readAt (Elt F) (Rect.unit (s := S2x11x2048) ![s, k, 256 * n] S1x1x256.size (inb11 s.2 n.2 k.2)).toLoadRect f
/-- Block `n` of 128 columns of the first product. -/
def rd12 (f : Bf F A12 c) (n : Fin 22) : Vec F S128x128 .f32 :=
  A12.view.readAt (Elt F) (Rect.unit (s := S128x2816) ![0, 128 * n] S128x128.size (inb12 n.2)).toLoadRect f
/-- The gated activations, whole. -/
def rd13 (f : Bf F A13 c) : Vec F S128x1408 .bf16 :=
  A13.view.readAt (Elt F) (Rect.unit (s := S128x1408) ![0, 0] S128x1408.size inb_S128x1408_S128x1408_0_0).toLoadRect f

/-! ## Dequantisation -/

/-- The signed nibbles of 1024 packed rows. -/
def nib (w : Vec F S1x1024x256 .i8) : FVec F S2048x256 .bf16 := k0_pay9 (F := F) (k0_pay8 (F := F) w)
/-- The signed nibbles of 704 packed rows. -/
def nib' (w : Vec F S1x704x256 .i8) : FVec F S1408x256 .bf16 := k0_pay194 (F := F) w

/-- 128 rows from `o` times their scale row. -/
def wsl (q : FVec F S2048x256 .bf16) (s : Vec F S1x1x256 .bf16) (o : Fin 2 → ℕ) (h : S2048x256.Slices o S128x256) : FVec F S128x256 .bf16 :=
  mulf (extractStridedSlice S128x256 o q h) (broadcastTo S128x256 (shapeCast S1x256 s shapeCasts_S1x1x256_S1x256) broadcasts_S1x256_S128x256)
def wsl' (q : FVec F S1408x256 .bf16) (s : Vec F S1x1x256 .bf16) (o : Fin 2 → ℕ) (h : S1408x256.Slices o S128x256) : FVec F S128x256 .bf16 :=
  mulf (extractStridedSlice S128x256 o q h) (broadcastTo S128x256 (shapeCast S1x256 s shapeCasts_S1x1x256_S1x256) broadcasts_S1x256_S128x256)

def deq (q : FVec F S2048x256 .bf16) (s : Fin 16 → Vec F S1x1x256 .bf16) : FVec F S2048x256 .bf16 :=
  concatenate S2048x256 0 [⟨S128x256, wsl q (s 0) ![0, 0] slices_S2048x256_o0_0_S128x256⟩,
      ⟨S128x256, wsl q (s 1) ![128, 0] slices_S2048x256_o128_0_S128x256⟩,
      ⟨S128x256, wsl q (s 2) ![256, 0] slices_S2048x256_o256_0_S128x256⟩,
      ⟨S128x256, wsl q (s 3) ![384, 0] slices_S2048x256_o384_0_S128x256⟩,
      ⟨S128x256, wsl q (s 4) ![512, 0] slices_S2048x256_o512_0_S128x256⟩,
      ⟨S128x256, wsl q (s 5) ![640, 0] slices_S2048x256_o640_0_S128x256⟩,
      ⟨S128x256, wsl q (s 6) ![768, 0] slices_S2048x256_o768_0_S128x256⟩,
      ⟨S128x256, wsl q (s 7) ![896, 0] slices_S2048x256_o896_0_S128x256⟩,
      ⟨S128x256, wsl q (s 8) ![1024, 0] slices_S2048x256_o1024_0_S128x256⟩,
      ⟨S128x256, wsl q (s 9) ![1152, 0] slices_S2048x256_o1152_0_S128x256⟩,
      ⟨S128x256, wsl q (s 10) ![1280, 0] slices_S2048x256_o1280_0_S128x256⟩,
      ⟨S128x256, wsl q (s 11) ![1408, 0] slices_S2048x256_o1408_0_S128x256⟩,
      ⟨S128x256, wsl q (s 12) ![1536, 0] slices_S2048x256_o1536_0_S128x256⟩,
      ⟨S128x256, wsl q (s 13) ![1664, 0] slices_S2048x256_o1664_0_S128x256⟩,
      ⟨S128x256, wsl q (s 14) ![1792, 0] slices_S2048x256_o1792_0_S128x256⟩,
      ⟨S128x256, wsl q (s 15) ![1920, 0] slices_S2048x256_o1920_0_S128x256⟩] concatenates_S128x256_S128x256_S128x256_S128x256_S128x256_S128x256_S128x256_S128x256_S128x256_S128x256_S128x256_S128x256_S128x256_S128x256_S128x256_S128x256_S2048x256_d0
def deq' (q : FVec F S1408x256 .bf16) (s : Fin 11 → Vec F S1x1x256 .bf16) : FVec F S1408x256 .bf16 :=
  concatenate S1408x256 0 [⟨S128x256, wsl' q (s 0) ![0, 0] slices_S1408x256_o0_0_S128x256⟩,
      ⟨S128x256, wsl' q (s 1) ![128, 0] slices_S1408x256_o128_0_S128x256⟩,
      ⟨S128x256, wsl' q (s 2) ![256, 0] slices_S1408x256_o256_0_S128x256⟩,
      ⟨S128x256, wsl' q (s 3) ![384, 0] slices_S1408x256_o384_0_S128x256⟩,
      ⟨S128x256, wsl' q (s 4) ![512, 0] slices_S1408x256_o512_0_S128x256⟩,
      ⟨S128x256, wsl' q (s 5) ![640, 0] slices_S1408x256_o640_0_S128x256⟩,
      ⟨S128x256, wsl' q (s 6) ![768, 0] slices_S1408x256_o768_0_S128x256⟩,
      ⟨S128x256, wsl' q (s 7) ![896, 0] slices_S1408x256_o896_0_S128x256⟩,
      ⟨S128x256, wsl' q (s 8) ![1024, 0] slices_S1408x256_o1024_0_S128x256⟩,
      ⟨S128x256, wsl' q (s 9) ![1152, 0] slices_S1408x256_o1152_0_S128x256⟩,
      ⟨S128x256, wsl' q (s 10) ![1280, 0] slices_S1408x256_o1280_0_S128x256⟩] concatenates_S128x256_S128x256_S128x256_S128x256_S128x256_S128x256_S128x256_S128x256_S128x256_S128x256_S128x256_S1408x256_d0

/-! ## The tiles -/

/-- Tile `n` of the first product. -/
def guT (x : Vec F S128x2048 .bf16) (f8 : Bf F A8 c) (f9 : Bf F A9 c) (s : Fin 2) (n : Fin 11) : FVec F S128x256 .f32 :=
  shapeCast S128x256 (matmul dot_S128x2048_S2048x256_S128x256_1_0_0_1_n_n none x (deq (nib (rd8 c f8 s n)) (rd9 c f9 s n))
    (constant S128x256 .f32 0x00000000#32)) shapeCasts_S128x256_S128x256
/-- A tile of the gated activations. -/
def hP (g v : Vec F S128x128 .f32) : FVec F S128x128 .bf16 := k0_pay180 g v
/-- Tile `n` of the gated activations, of the first product. -/
def hT (gu : Bf F A12 c) (n : Fin 11) : FVec F S128x128 .bf16 :=
  hP (rd12 c gu ⟨n, by omega⟩) (rd12 c gu ⟨11 + n, by omega⟩)
/-- Tile `n` of the second product. -/
def mmT (h : Vec F S128x1408 .bf16) (f10 : Bf F A10 c) (f11 : Bf F A11 c) (s : Fin 2) (n : Fin 8) : FVec F S128x256 .f32 :=
  matmul dot_S128x1408_S1408x256_S128x256_1_0_0_1_n_n none h (deq' (nib' (rd10 c f10 s n)) (rd11 c f11 s n))
    (constant S128x256 .f32 0x00000000#32)
/-- One half of a tile of 256 columns. -/
def half (v : FVec F S128x256 .f32) : Fin 2 → FVec F S128x128 .f32
  | 0 => extractStridedSlice S128x128 ![0, 0] v slices_S128x256_o0_0_S128x128
  | 1 => extractStridedSlice S128x128 ![0, 128] v slices_S128x256_o0_128_S128x128
/-- The blend: where the row is the item's the product times the row's weight, else what was there. -/
def blend (mk : IVec S128x128 1) (rw : Vec F S128x128 .f32) (v : FVec F S128x128 .f32) (old : Vec F S128x128 .bf16) : FVec F S128x128 .bf16 :=
  truncf .bf16 (select mk (mulf v rw) (extf .f32 (shapeCast S128x128 old shapeCasts_S128x128_S128x128) bitsLt_bf16_f32)) bitsLt_bf16_f32
/-- What is stored to block `2 n + i` of 128 columns. -/
def yT (mk : IVec S128x128 1) (rw : Vec F S128x128 .f32) (h : Vec F S128x1408 .bf16) (f10 : Bf F A10 c) (f11 : Bf F A11 c) (s : Fin 2)
    (n : Fin 8) (i : Fin 2) (old : Vec F S128x128 .bf16) : FVec F S128x128 .bf16 :=
  blend mk rw (half (mmT c h f10 f11 s n) i) old

end Cert.Kernel.Hand

end
-- ==== Proof.Kernel.Checks.lean ====
/-
  The kernel's own assertions about offsets, from what is known of an item's words.
-/
module

public import proofs.«01_k».proof.Proof.Kernel.List
public import proofs.«01_k».proof.Proof.Kernel.Tiles
public import Idealize.ShloMosaic.Lib.LoopRemainder

@[expose] public section

noncomputable section

namespace Cert.Kernel.Hand

open Cert.Kernel Cert.Kernel.Gen Cert.Hand
open Idealize.ShloMosaic Idealize.ShloMosaic.TcCoe Idealize.ShloMosaic.Tactic Idealize.ShloMosaic.ValueIdx

theorem inb3 {n a b a' b' : ℕ} {o : Fin 3 → ℕ} (m x y : ℕ) (hm : m < n) (ho : o = ![m, x, y]) (hx : x + a' ≤ a) (hy : y + b' ≤ b) :
    ∀ i, o i + (⟨3, ![1, a', b']⟩ : Shape).size i ≤ (⟨3, ![n, a, b]⟩ : Shape).size i := by
  subst ho
  intro i; fin_cases i
  · exact hm
  · exact hx
  · exact hy

theorem inb2 {n m a b : ℕ} {o : Fin 2 → ℕ} (x y : ℕ) (ho : o = ![x, y]) (hx : x + a ≤ n) (hy : y + b ≤ m) :
    ∀ i, o i + (⟨2, ![a, b]⟩ : Shape).size i ≤ (⟨2, ![n, m]⟩ : Shape).size i := by
  subst ho
  intro i; fin_cases i
  · exact hx
  · exact hy

theorem ww3 {n a b p : ℕ} {o : Fin 3 → ℕ} {inb : ∀ i, o i + (⟨3, ![1, a, b]⟩ : Shape).size i ≤ (⟨3, ![n, a, b]⟩ : Shape).size i} (m : ℕ)
    (ho : o = ![m, 0, 0]) : (Rect.unit (s := ⟨3, ![n, a, b]⟩) o (⟨3, ![1, a, b]⟩ : Shape).size inb).WholeWords p := by
  subst ho
  exact .inr ⟨(by decide : 2 ≤ 3), rfl, rfl, rfl⟩

theorem pk2 {n m a b p : ℕ} {o : Fin 2 → ℕ} {inb : ∀ i, o i + (⟨2, ![a, b]⟩ : Shape).size i ≤ (⟨2, ![n, m]⟩ : Shape).size i} (x y : ℕ)
    (ho : o = ![x, y]) (hx : p ∣ x) (ha : p ∣ a) : (Rect.unit (s := ⟨2, ![n, m]⟩) o (⟨2, ![a, b]⟩ : Shape).size inb).PackedRows p := by
  subst ho
  exact .inr ⟨le_refl 2, rfl, .inl ⟨hx, ha⟩⟩

/-- The other slot. -/
theorem other_lt (j : BitVec 32) : (Scalar.subi 1#32 (Scalar.andi j 1#32)).toNat = 1 - slotOf j := by
  have h := slotOf_lt j
  have hb : (Scalar.subi 1#32 (Scalar.andi j 1#32)).toNat = (2 ^ 32 - (Scalar.andi j 1#32).toNat + 1) % 2 ^ 32 := BitVec.toNat_sub _ _
  rw [hb]
  have : (Scalar.andi j 1#32).toNat = slotOf j := rfl
  rw [this]; omega

theorem chk3_of (n E : BitVec 32) (h : E.toNat < 60) : k0_chk3 n E :=
  ⟨fun _ => inb3 _ _ _ h rfl (by decide) (by decide), fun _ _ => ww3 _ rfl, fun _ => inb3 _ _ _ h rfl (by decide) (by decide), fun _ _ => ww3 _ rfl,
   fun _ => inb3 _ _ _ h rfl (by decide) (by decide), fun _ _ => ww3 _ rfl, fun _ => inb3 _ _ _ h rfl (by decide) (by decide), fun _ _ => ww3 _ rfl⟩

theorem chk4_of (W : BitVec 32) (h16 : 16 ∣ W.toNat) (h : W.toNat ≤ 1408) : k0_chk4 W := by
  have h2 : 2 ∣ W.toNat := by omega
  have hm : 16 ∣ (k0_mult1 W).toNat := h16
  have h128 : W.toNat + 128 ≤ 1536 := by omega
  unfold k0_chk4 k0_chk4_0 k0_chk4_1
  repeat' apply And.intro
  all_goals first
    | exact hm
    | exact inb2 W.toNat _ rfl h128 (by decide)
    | exact fun _ => pk2 W.toNat _ rfl h2 (by decide)

theorem chk5_of (n : BitVec 32) (t : Fin (k0_t2_loop n).trips) (E j v128 : BitVec 32) (h : E.toNat < 60) : k0_chk5 n t E j v128 := by
  have hs := slotOf_lt j
  unfold k0_chk5
  repeat' apply And.intro
  all_goals first
    | exact fun _ => inb3 _ _ _ h rfl (by decide) (by decide)
    | exact fun _ => inb3 (slotOf j) _ _ hs rfl (by decide) (by decide)
    | exact fun _ => inb2 (slotOf j) _ rfl hs (by decide)
    | exact fun _ _ => ww3 _ rfl

theorem chk7_of (n : BitVec 32) (t : Fin (k0_t2_loop n).trips) (j v128 u : BitVec 32) (h : u.toNat < 128) : k0_chk7 n t j v128 u := by
  have hs : (Scalar.subi 1#32 (Scalar.andi j 1#32)).toNat < 2 := by rw [other_lt]; omega
  unfold k0_chk7
  repeat' apply And.intro
  all_goals first
    | exact fun _ => inb2 0 u.toNat rfl (by decide) h
    | exact fun _ => inb3 (Scalar.subi 1#32 (Scalar.andi j 1#32)).toNat _ _ hs rfl (by decide) (by decide)
    | exact fun _ => inb2 (Scalar.subi 1#32 (Scalar.andi j 1#32)).toNat _ rfl hs (by decide)
    | exact fun _ _ => ww3 _ rfl

theorem chk8_of (n : BitVec 32) (t : Fin (k0_t2_loop n).trips) (j v128 u E : BitVec 32) (h : E.toNat < 60) : k0_chk8 n t j v128 u E := by
  unfold k0_chk8
  repeat' apply And.intro
  all_goals first
    | exact fun _ => inb3 _ _ _ h rfl (by decide) (by decide)
    | exact fun _ _ => ww3 _ rfl

set_option maxHeartbeats 0 in
theorem chk9_of (j : BitVec 32) : k0_chk9 j := by
  have hs := slotOf_lt j
  unfold k0_chk9 k0_chk9_0 k0_chk9_1 k0_chk9_2 k0_chk9_3 k0_chk9_4 k0_chk9_5 k0_chk9_6 k0_chk9_7 k0_chk9_8
  repeat' apply And.intro
  all_goals exact inb3 (slotOf j) _ _ hs rfl (by decide) (by decide)

/-! ## The two loops over the items -/

theorem sub0 (x : BitVec 32) : Scalar.subi x 0#32 = x := BitVec.sub_zero x
theorem add0 (x : BitVec 32) : Scalar.addi 0#32 x = x := BitVec.zero_add x

theorem t2_ub (n : BitVec 32) : (k0_t2_loop n).ub = n := by
  show Scalar.addi 0#32 (Scalar.muli (Scalar.divsi (Scalar.subi n 0#32) 1#32) 1#32) = n
  rw [Scalar.muli_divsi_one, sub0, add0]

theorem t2_trips (n : BitVec 32) (h : n.toNat ≤ 74) : (k0_t2_loop n).trips = n.toNat := by
  have hi : n.toInt = n.toNat := BitVec.toInt_eq_toNat_of_lt (by omega)
  show Scf.trips 0#32 (k0_t2_loop n).ub 1#32 = _
  rw [t2_ub]
  have h1 : (1#32 : BitVec 32).toInt = 1 := by decide
  have h0 : (0#32 : BitVec 32).toInt = 0 := by decide
  unfold Scf.trips
  rw [h1, h0, hi]; omega

theorem t2_ok (n : BitVec 32) (h : n.toNat ≤ 74) : (k0_t2_loop n).OK := by
  have h1 : (1#32 : BitVec 32).toInt = 1 := by decide
  have h0 : (0#32 : BitVec 32).toInt = 0 := by decide
  refine ⟨by show (0 : ℤ) < (1#32 : BitVec 32).toInt; rw [h1]; decide, ?_⟩
  have := t2_trips n h
  show (0#32 : BitVec 32).toInt + ((k0_t2_loop n).trips : ℤ) * (1#32 : BitVec 32).toInt < _
  rw [h1, h0, this]; omega

theorem t3_trips (n : BitVec 32) : (k0_t3_loop n).trips = 0 := Scf.rem_trips 0#32 (Scalar.subi n 0#32)

theorem t3_no (n : BitVec 32) {P : Prop} (k : Fin (k0_t3_loop n).trips) : P := (Scf.rem_no_trip 0#32 (Scalar.subi n 0#32) k).elim

theorem t2_iv (t : ℕ) (h : t < 74) : (Scf.iv 0#32 1#32 t).toNat = t := iv_nat t (by omega)

/-- The item before, for the first item itself. -/
theorem prev_nat (t : ℕ) (h : t < 74) : (Scalar.maxsi (Scalar.subi (Scf.iv 0#32 1#32 t) 1#32) 0#32).toNat = t - 1 := by
  have : ∀ t < 74, (Scalar.maxsi (Scalar.subi (Scf.iv 0#32 1#32 t) 1#32) 0#32).toNat = t - 1 := by decide +kernel
  exact this t h

theorem chk2_of (n : BitVec 32) (h : n.toNat ≤ 74) : k0_chk2 n := by
  have hlt : ∀ t : Fin (k0_t2_loop n).trips, t.val < 74 := fun t => by have h1 := t.isLt; have h2 := t2_trips n h; omega
  have hiv : ∀ t : Fin (k0_t2_loop n).trips, (Scf.iv 0#32 1#32 t.val).toNat + 1 ≤ 128 := fun t => by rw [t2_iv _ (hlt t)]; have := hlt t; omega
  have hpv : ∀ t : Fin (k0_t2_loop n).trips, (Scalar.maxsi (Scalar.subi (Scf.iv 0#32 1#32 t.val) 1#32) 0#32).toNat + 1 ≤ 128 := fun t => by
    rw [prev_nat _ (hlt t)]; have := hlt t; omega
  have hn : n.toNat + 1 ≤ 128 := by omega
  refine ⟨inb2 _ _ rfl (by decide) hn, t2_ok n h, fun t => inb2 _ _ rfl (by decide) (hiv t), fun t => inb2 _ _ rfl (by decide) (hiv t),
    fun t => inb2 _ _ rfl (by decide) (hiv t), fun t => inb2 _ _ rfl (by decide) (hiv t), fun t => inb2 _ _ rfl (by decide) (hiv t),
    fun t => inb2 _ _ rfl (by decide) (hpv t), fun t => inb2 _ _ rfl (by decide) (hiv t), Scf.rem_ok 0#32 (Scalar.subi n 0#32),
    fun k => t3_no n k, fun k => t3_no n k, fun k => t3_no n k, fun k => t3_no n k, fun k => t3_no n k, fun k => t3_no n k, fun k => t3_no n k⟩

end Cert.Kernel.Hand

end
-- ==== Proof.Kernel.Slots.lean ====
/-
  The four operands of one expert together: the two slots of all four stacks, and the rules for starting
  an expert's four transfers and for waiting for them.
-/
module

public import proofs.«01_k».proof.Proof.Kernel.Ring
public import proofs.«01_k».proof.Proof.Kernel.Checks

@[expose] public section

noncomputable section

namespace Cert.Kernel.Hand

open Cert.Kernel Cert.Kernel.Gen Cert.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The semaphore of operand `k` at slot `s`. -/
def cell (s : ℕ) (k : Fin 4) : DmaSem sig := cc0_scratch8.ix (ix2 ⟨s % 2, Nat.mod_lt _ (by decide)⟩ k)

theorem cell_eq {o : Fin 2 → ℕ} (inb : ∀ a, o a + S1x1.size a ≤ S2x4.size a) (s : ℕ) (k : Fin 4) (hs : s < 2) (ho : o = ![s, k.val]) :
    ((cc0_scratch8.slice (Rect.unit (s := S2x4) o S1x1.size inb)).squeeze S_ squeezes_S1x1_S_).sem = cell s k := by
  have : ((cc0_scratch8.slice (Rect.unit (s := S2x4) o S1x1.size inb)).squeeze S_ squeezes_S1x1_S_).sem
      = cc0_scratch8.ix ((Rect.unit (s := S2x4) o S1x1.size inb).emb (Shape.reshapeEquiv squeezes_S1x1_S_.numel_eq fun i => i.elim0)) := rfl
  rw [this, unit1_emb inb s k.val ho hs k.isLt]
  unfold cell
  refine congrArg _ (congrArg₂ ix2 (Fin.ext ?_) rfl)
  show s = s % 2
  omega

variable (c : Dev nD)

/-- The quantized weights and scales outside, at known contents. -/
structure Hb (F : FTy → Type) [FloatOps F] (c : Dev nD) where
  V3 : Bf F A3 c
  V4 : Bf F A4 c
  V5 : Bf F A5 c
  V6 : Bf F A6 c

variable (V : Hb F c)

/-- All four held whole. -/
def Hbm : sProp 𝕄 :=
  iprop((A3.view.loc (c : Thread nD τ) ↦{fullShare} V.V3) ∗ (A4.view.loc (c : Thread nD τ) ↦{fullShare} V.V4)
    ∗ (A5.view.loc (c : Thread nD τ) ↦{fullShare} V.V5) ∗ (A6.view.loc (c : Thread nD τ) ↦{fullShare} V.V6))

/-- The semaphores of slot `s` at zero. -/
def Sems (s : ℕ) : sProp 𝕄 :=
  iprop(semVal ((c : Thread nD τ), SemLoc.dma (cell s 0)) 0 ∗ semVal ((c : Thread nD τ), SemLoc.dma (cell s 1)) 0
    ∗ semVal ((c : Thread nD τ), SemLoc.dma (cell s 2)) 0 ∗ semVal ((c : Thread nD τ), SemLoc.dma (cell s 3)) 0)

/-- Slot `s` free. -/
def Idle (s : ℕ) : sProp 𝕄 :=
  iprop((∃ f : Bf F A8 c, Slot c A8 s f) ∗ (∃ f : Bf F A9 c, Slot c A9 s f) ∗ (∃ f : Bf F A10 c, Slot c A10 s f)
    ∗ (∃ f : Bf F A11 c, Slot c A11 s f) ∗ Sems c s)

/-- Slot `s` filled with expert `m`'s operands. -/
def Landed (s m : ℕ) : sProp 𝕄 :=
  iprop((∃ f : Bf F A8 c, ⌜Holds c A8 A3 s m V.V3 f⌝ ∗ Slot c A8 s f) ∗ (∃ f : Bf F A9 c, ⌜Holds c A9 A4 s m V.V4 f⌝ ∗ Slot c A9 s f)
    ∗ (∃ f : Bf F A10 c, ⌜Holds c A10 A5 s m V.V5 f⌝ ∗ Slot c A10 s f) ∗ (∃ f : Bf F A11 c, ⌜Holds c A11 A6 s m V.V6 f⌝ ∗ Slot c A11 s f) ∗ Sems c s)

/-- Slot `s` receiving expert `m`'s operands. -/
def Flying (s m : ℕ) : sProp 𝕄 :=
  iprop(InFl c A8 A3 (.dma (cell s 0)) s m V.V3 ∗ InFl c A9 A4 (.dma (cell s 1)) s m V.V4
    ∗ InFl c A10 A5 (.dma (cell s 2)) s m V.V5 ∗ InFl c A11 A6 (.dma (cell s 3)) s m V.V6)

theorem landed_idle (s m : ℕ) : Landed c V s m ⊢ Idle (F := F) c s := by
  unfold Landed Idle
  iintro ⟨⟨%a, -, Ha⟩, ⟨%b, -, Hb⟩, ⟨%d, -, Hd⟩, ⟨%e, -, He⟩, Hs⟩
  isplitl [Ha]; · iexists a; iexact Ha
  isplitl [Hb]; · iexists b; iexact Hb
  isplitl [Hd]; · iexists d; iexact Hd
  isplitl [He]; · iexists e; iexact He
  iexact Hs

section Steps

variable {n a b : ℕ} {e : EltTy} (D : Memref sig .tc .vmem ⟨3, ![2, a, b]⟩ e) (S : Memref sig .tc .hbm ⟨3, ![60, a, b]⟩ e)

/-- Starting a transfer, its semaphore named. -/
theorem start_at {α : Type} (bd : Option ℕ) {os od : Fin 3 → ℕ}
    {is : ∀ i, os i + (⟨3, ![1, a, b]⟩ : Shape).size i ≤ (⟨3, ![60, a, b]⟩ : Shape).size i}
    {id' : ∀ i, od i + (⟨3, ![1, a, b]⟩ : Shape).size i ≤ (⟨3, ![2, a, b]⟩ : Shape).size i}
    {hq : (⟨3, ![1, a, b]⟩ : Shape).Squeezes ⟨2, ![a, b]⟩}
    {sm : DmaSem sig} {hsrc : (member S os is hq).view.WordExact} {hdst : (member D od id' hq).view.WordExact}
    {hsem : DmaTarget.Typed .hbm (.dma sm) (DmaTarget.here (nD := nD) (τ := τ) (p := .tc) (member D od id' hq))} {k : PUnit → Pg F α} {Q : α → sProp 𝕄} {X Y : sProp 𝕄}
    (s m : ℕ) (W : Bf F S c) (sm' : DmaSem sig) (hsm : sm = sm') (hos : os = ![m, 0, 0]) (hod : od = ![s, 0, 0]) (hN : 0 < bytes D)
    (hY : Y ⊢ iprop(((∃ f : Bf F D c, Slot c D s f) ∗ semVal ((c : Thread nD τ), SemLoc.dma sm') 0 ∗ (S.view.loc (c : Thread nD τ) ↦{fullShare} W)) ∗ X))
    (h : iprop(InFl c D S (.dma sm') s m W ∗ X) ⊢ WP c bd (k ⟨⟩) Q) :
    Y ⊢ WP c bd (Prog.lift (.enqueueDma (member S os is hq) (.here (member D od id' hq)) (.dma sm) hsrc hdst hsem) >>= k) Q := by
  subst hsm
  exact BIBase.Entails.trans hY (start_step c D S bd s m W hos hod hN h)

/-- Waiting for a transfer, its semaphore named. -/
theorem wait_at {α : Type} (bd : Option ℕ) {os od : Fin 3 → ℕ}
    {is : ∀ i, os i + (⟨3, ![1, a, b]⟩ : Shape).size i ≤ (⟨3, ![60, a, b]⟩ : Shape).size i}
    {id' : ∀ i, od i + (⟨3, ![1, a, b]⟩ : Shape).size i ≤ (⟨3, ![2, a, b]⟩ : Shape).size i}
    {hq : (⟨3, ![1, a, b]⟩ : Shape).Squeezes ⟨2, ![a, b]⟩}
    {sm : DmaSem sig} {hsrc : (member S os is hq).view.WordExact} {hdst : (member D od id' hq).view.WordExact}
    {k : PUnit → Pg F α} {Q : α → sProp 𝕄} {X Y : sProp 𝕄}
    (s m : ℕ) (W : Bf F S c) (sm' : DmaSem sig) (hsm : sm = sm')
    (hY : Y ⊢ iprop((InFl c D S (.dma sm') s m W ∗ ∃ O, owes (c : Thread nD τ) 0 O) ∗ X))
    (h : iprop(((∃ f : Bf F D c, ⌜Holds c D S s m W f⌝ ∗ Slot c D s f) ∗ semVal ((c : Thread nD τ), SemLoc.dma sm') 0 ∗ (S.view.loc (c : Thread nD τ) ↦{fullShare} W)
        ∗ ∃ O, owes (c : Thread nD τ) 0 O) ∗ X) ⊢ WP c bd (k ⟨⟩) Q) :
    Y ⊢ WP c bd (Prog.lift (.waitDma2 sm (member S os is hq) (member D od id' hq) hsrc hdst) >>= k) Q := by
  subst hsm
  exact BIBase.Entails.trans hY (wait_step c D S bd s m W h)

end Steps

/-- What starting the four transfers into slot `s` takes, operand by operand. -/
def Go (s : ℕ) : sProp 𝕄 :=
  iprop(((∃ f : Bf F A8 c, Slot c A8 s f) ∗ semVal ((c : Thread nD τ), SemLoc.dma (cell s 0)) 0 ∗ (A3.view.loc (c : Thread nD τ) ↦{fullShare} V.V3))
      ∗ ((∃ f : Bf F A9 c, Slot c A9 s f) ∗ semVal ((c : Thread nD τ), SemLoc.dma (cell s 1)) 0 ∗ (A4.view.loc (c : Thread nD τ) ↦{fullShare} V.V4))
      ∗ ((∃ f : Bf F A10 c, Slot c A10 s f) ∗ semVal ((c : Thread nD τ), SemLoc.dma (cell s 2)) 0 ∗ (A5.view.loc (c : Thread nD τ) ↦{fullShare} V.V5))
      ∗ ((∃ f : Bf F A11 c, Slot c A11 s f) ∗ semVal ((c : Thread nD τ), SemLoc.dma (cell s 3)) 0 ∗ (A6.view.loc (c : Thread nD τ) ↦{fullShare} V.V6)))

theorem go_of_idle (s : ℕ) : iprop(Idle c s ∗ Hbm c V) ⊢ Go c V s := by
  unfold Idle Hbm Sems Go
  iintro ⟨⟨Ha, Hb, Hd, He, H0, H1, H2, H3⟩, G0, G1, G2, G3⟩
  isplitl [Ha H0 G0]
  · isplitl [Ha]; · iexact Ha
    isplitl [H0]; · iexact H0
    iexact G0
  isplitl [Hb H1 G1]
  · isplitl [Hb]; · iexact Hb
    isplitl [H1]; · iexact H1
    iexact G1
  isplitl [Hd H2 G2]
  · isplitl [Hd]; · iexact Hd
    isplitl [H2]; · iexact H2
    iexact G2
  isplitl [He]; · iexact He
  isplitl [H3]; · iexact H3
  iexact G3

theorem starts4 {α : Type} (bd : Option ℕ) {os3 os4 os5 os6 od8 od9 od10 od11 : Fin 3 → ℕ}
    {is3 : ∀ i, os3 i + S1x1024x2816.size i ≤ S60x1024x2816.size i} {is4 : ∀ i, os4 i + S1x16x2816.size i ≤ S60x16x2816.size i}
    {is5 : ∀ i, os5 i + S1x704x2048.size i ≤ S60x704x2048.size i} {is6 : ∀ i, os6 i + S1x11x2048.size i ≤ S60x11x2048.size i}
    {id8 : ∀ i, od8 i + S1x1024x2816.size i ≤ S2x1024x2816.size i} {id9 : ∀ i, od9 i + S1x16x2816.size i ≤ S2x16x2816.size i}
    {id10 : ∀ i, od10 i + S1x704x2048.size i ≤ S2x704x2048.size i} {id11 : ∀ i, od11 i + S1x11x2048.size i ≤ S2x11x2048.size i}
    {hq8 : S1x1024x2816.Squeezes S1024x2816} {hq9 : S1x16x2816.Squeezes S16x2816} {hq10 : S1x704x2048.Squeezes S704x2048} {hq11 : S1x11x2048.Squeezes S11x2048}
    {sm0 sm1 sm2 sm3 : DmaSem sig}
    {p0 p1 p2 p3 q0 q1 q2 q3 r0 r1 r2 r3} {k : PUnit → Pg F α} {Q : α → sProp 𝕄} {X : sProp 𝕄} (s m : ℕ)
    (h0 : sm0 = cell s 0) (h1 : sm1 = cell s 1) (h2 : sm2 = cell s 2) (h3 : sm3 = cell s 3)
    (ho3 : os3 = ![m, 0, 0]) (ho4 : os4 = ![m, 0, 0]) (ho5 : os5 = ![m, 0, 0]) (ho6 : os6 = ![m, 0, 0])
    (ho8 : od8 = ![s, 0, 0]) (ho9 : od9 = ![s, 0, 0]) (ho10 : od10 = ![s, 0, 0]) (ho11 : od11 = ![s, 0, 0])
    (h : iprop(Flying c V s m ∗ X) ⊢ WP c bd (k ⟨⟩) Q) :
    iprop((Idle c s ∗ Hbm c V) ∗ X) ⊢ WP c bd (do
      Prog.lift (.enqueueDma ((A3.slice (Rect.unit (s := S60x1024x2816) os3 S1x1024x2816.size is3) (fun _ => rfl)).squeeze S1024x2816 hq8)
        (.here ((A8.slice (Rect.unit (s := S2x1024x2816) od8 S1x1024x2816.size id8) (fun _ => rfl)).squeeze S1024x2816 hq8)) (.dma sm0) p0 q0 r0)
      Prog.lift (.enqueueDma ((A4.slice (Rect.unit (s := S60x16x2816) os4 S1x16x2816.size is4) (fun _ => rfl)).squeeze S16x2816 hq9)
        (.here ((A9.slice (Rect.unit (s := S2x16x2816) od9 S1x16x2816.size id9) (fun _ => rfl)).squeeze S16x2816 hq9)) (.dma sm1) p1 q1 r1)
      Prog.lift (.enqueueDma ((A5.slice (Rect.unit (s := S60x704x2048) os5 S1x704x2048.size is5) (fun _ => rfl)).squeeze S704x2048 hq10)
        (.here ((A10.slice (Rect.unit (s := S2x704x2048) od10 S1x704x2048.size id10) (fun _ => rfl)).squeeze S704x2048 hq10)) (.dma sm2) p2 q2 r2)
      let u ← Prog.lift (.enqueueDma ((A6.slice (Rect.unit (s := S60x11x2048) os6 S1x11x2048.size is6) (fun _ => rfl)).squeeze S11x2048 hq11)
        (.here ((A11.slice (Rect.unit (s := S2x11x2048) od11 S1x11x2048.size id11) (fun _ => rfl)).squeeze S11x2048 hq11)) (.dma sm3) p3 q3 r3)
      k u) Q := by
  have hgo := go_of_idle c V s
  unfold Go at hgo
  refine start_at (a := 1024) (b := 2816) (X := iprop(((∃ f : Bf F A9 c, Slot c A9 s f) ∗ semVal ((c : Thread nD τ), SemLoc.dma (cell s 1)) 0 ∗ (A4.view.loc (c : Thread nD τ) ↦{fullShare} V.V4))
      ∗ ((∃ f : Bf F A10 c, Slot c A10 s f) ∗ semVal ((c : Thread nD τ), SemLoc.dma (cell s 2)) 0 ∗ (A5.view.loc (c : Thread nD τ) ↦{fullShare} V.V5))
      ∗ ((∃ f : Bf F A11 c, Slot c A11 s f) ∗ semVal ((c : Thread nD τ), SemLoc.dma (cell s 3)) 0 ∗ (A6.view.loc (c : Thread nD τ) ↦{fullShare} V.V6)) ∗ X))
      c A8 A3 bd s m V.V3 (cell s 0) h0 ho3 ho8 (by decide) ?_ ?_
  · iintro ⟨HI, HX⟩
    ihave HG := hgo $$ HI
    icases HG with ⟨G0, G1, G2, G3⟩
    isplitl [G0]; · iexact G0
    isplitl [G1]; · iexact G1
    isplitl [G2]; · iexact G2
    isplitl [G3]; · iexact G3
    iexact HX
  refine start_at (a := 16) (b := 2816) (X := iprop(InFl c A8 A3 (.dma (cell s 0)) s m V.V3
      ∗ ((∃ f : Bf F A10 c, Slot c A10 s f) ∗ semVal ((c : Thread nD τ), SemLoc.dma (cell s 2)) 0 ∗ (A5.view.loc (c : Thread nD τ) ↦{fullShare} V.V5))
      ∗ ((∃ f : Bf F A11 c, Slot c A11 s f) ∗ semVal ((c : Thread nD τ), SemLoc.dma (cell s 3)) 0 ∗ (A6.view.loc (c : Thread nD τ) ↦{fullShare} V.V6)) ∗ X))
      c A9 A4 bd s m V.V4 (cell s 1) h1 ho4 ho9 (by decide) ?_ ?_
  · iintro ⟨G0, G1, G2, G3, HX⟩
    isplitl [G1]; · iexact G1
    isplitl [G0]; · iexact G0
    isplitl [G2]; · iexact G2
    isplitl [G3]; · iexact G3
    iexact HX
  refine start_at (a := 704) (b := 2048) (X := iprop(InFl c A8 A3 (.dma (cell s 0)) s m V.V3 ∗ InFl c A9 A4 (.dma (cell s 1)) s m V.V4
      ∗ ((∃ f : Bf F A11 c, Slot c A11 s f) ∗ semVal ((c : Thread nD τ), SemLoc.dma (cell s 3)) 0 ∗ (A6.view.loc (c : Thread nD τ) ↦{fullShare} V.V6)) ∗ X))
      c A10 A5 bd s m V.V5 (cell s 2) h2 ho5 ho10 (by decide) ?_ ?_
  · iintro ⟨G1, G0, G2, G3, HX⟩
    isplitl [G2]; · iexact G2
    isplitl [G0]; · iexact G0
    isplitl [G1]; · iexact G1
    isplitl [G3]; · iexact G3
    iexact HX
  refine start_at (a := 11) (b := 2048) (X := iprop(InFl c A8 A3 (.dma (cell s 0)) s m V.V3 ∗ InFl c A9 A4 (.dma (cell s 1)) s m V.V4
      ∗ InFl c A10 A5 (.dma (cell s 2)) s m V.V5 ∗ X))
      c A11 A6 bd s m V.V6 (cell s 3) h3 ho6 ho11 (by decide) ?_ ?_
  · iintro ⟨G2, G0, G1, G3, HX⟩
    isplitl [G3]; · iexact G3
    isplitl [G0]; · iexact G0
    isplitl [G1]; · iexact G1
    isplitl [G2]; · iexact G2
    iexact HX
  refine BIBase.Entails.trans ?_ h
  unfold Flying
  iintro ⟨G3, G0, G1, G2, HX⟩
  isplitr [HX]
  · isplitl [G0]; · iexact G0
    isplitl [G1]; · iexact G1
    isplitl [G2]; · iexact G2
    iexact G3
  · iexact HX

theorem waits4 {α : Type} (bd : Option ℕ) {os3 os4 os5 os6 od8 od9 od10 od11 : Fin 3 → ℕ}
    {is3 : ∀ i, os3 i + S1x1024x2816.size i ≤ S60x1024x2816.size i} {is4 : ∀ i, os4 i + S1x16x2816.size i ≤ S60x16x2816.size i}
    {is5 : ∀ i, os5 i + S1x704x2048.size i ≤ S60x704x2048.size i} {is6 : ∀ i, os6 i + S1x11x2048.size i ≤ S60x11x2048.size i}
    {id8 : ∀ i, od8 i + S1x1024x2816.size i ≤ S2x1024x2816.size i} {id9 : ∀ i, od9 i + S1x16x2816.size i ≤ S2x16x2816.size i}
    {id10 : ∀ i, od10 i + S1x704x2048.size i ≤ S2x704x2048.size i} {id11 : ∀ i, od11 i + S1x11x2048.size i ≤ S2x11x2048.size i}
    {hq8 : S1x1024x2816.Squeezes S1024x2816} {hq9 : S1x16x2816.Squeezes S16x2816} {hq10 : S1x704x2048.Squeezes S704x2048} {hq11 : S1x11x2048.Squeezes S11x2048}
    {sm0 sm1 sm2 sm3 : DmaSem sig}
    {p0 p1 p2 p3 q0 q1 q2 q3} {k : PUnit → Pg F α} {Q : α → sProp 𝕄} {X : sProp 𝕄} (s m : ℕ)
    (h0 : sm0 = cell s 0) (h1 : sm1 = cell s 1) (h2 : sm2 = cell s 2) (h3 : sm3 = cell s 3)
    (h : iprop((Landed c V s m ∗ Hbm c V ∗ ∃ O, owes (c : Thread nD τ) 0 O) ∗ X) ⊢ WP c bd (k ⟨⟩) Q) :
    iprop((Flying c V s m ∗ ∃ O, owes (c : Thread nD τ) 0 O) ∗ X) ⊢ WP c bd (do
      Prog.lift (.waitDma2 sm0 ((A3.slice (Rect.unit (s := S60x1024x2816) os3 S1x1024x2816.size is3) (fun _ => rfl)).squeeze S1024x2816 hq8)
        ((A8.slice (Rect.unit (s := S2x1024x2816) od8 S1x1024x2816.size id8) (fun _ => rfl)).squeeze S1024x2816 hq8) p0 q0)
      Prog.lift (.waitDma2 sm1 ((A4.slice (Rect.unit (s := S60x16x2816) os4 S1x16x2816.size is4) (fun _ => rfl)).squeeze S16x2816 hq9)
        ((A9.slice (Rect.unit (s := S2x16x2816) od9 S1x16x2816.size id9) (fun _ => rfl)).squeeze S16x2816 hq9) p1 q1)
      Prog.lift (.waitDma2 sm2 ((A5.slice (Rect.unit (s := S60x704x2048) os5 S1x704x2048.size is5) (fun _ => rfl)).squeeze S704x2048 hq10)
        ((A10.slice (Rect.unit (s := S2x704x2048) od10 S1x704x2048.size id10) (fun _ => rfl)).squeeze S704x2048 hq10) p2 q2)
      let u ← Prog.lift (.waitDma2 sm3 ((A6.slice (Rect.unit (s := S60x11x2048) os6 S1x11x2048.size is6) (fun _ => rfl)).squeeze S11x2048 hq11)
        ((A11.slice (Rect.unit (s := S2x11x2048) od11 S1x11x2048.size id11) (fun _ => rfl)).squeeze S11x2048 hq11) p3 q3)
      k u) Q := by
  refine wait_at (a := 1024) (b := 2816) (X := iprop(InFl c A9 A4 (.dma (cell s 1)) s m V.V4 ∗ InFl c A10 A5 (.dma (cell s 2)) s m V.V5
      ∗ InFl c A11 A6 (.dma (cell s 3)) s m V.V6 ∗ X)) c A8 A3 bd s m V.V3 (cell s 0) h0 ?_ ?_
  · unfold Flying
    iintro ⟨⟨⟨G0, G1, G2, G3⟩, HO⟩, HX⟩
    isplitl [G0 HO]
    · isplitl [G0]; · iexact G0
      iexact HO
    isplitl [G1]; · iexact G1
    isplitl [G2]; · iexact G2
    isplitl [G3]; · iexact G3
    iexact HX
  refine wait_at (a := 16) (b := 2816) (X := iprop(((∃ f : Bf F A8 c, ⌜Holds c A8 A3 s m V.V3 f⌝ ∗ Slot c A8 s f) ∗ semVal ((c : Thread nD τ), SemLoc.dma (cell s 0)) 0
        ∗ (A3.view.loc (c : Thread nD τ) ↦{fullShare} V.V3)) ∗ InFl c A10 A5 (.dma (cell s 2)) s m V.V5
      ∗ InFl c A11 A6 (.dma (cell s 3)) s m V.V6 ∗ X)) c A9 A4 bd s m V.V4 (cell s 1) h1 ?_ ?_
  · iintro ⟨⟨L0, L1, L2, HO⟩, G1, G2, G3, HX⟩
    isplitl [G1 HO]
    · isplitl [G1]; · iexact G1
      iexact HO
    isplitl [L0 L1 L2]
    · isplitl [L0]; · iexact L0
      isplitl [L1]; · iexact L1
      iexact L2
    isplitl [G2]; · iexact G2
    isplitl [G3]; · iexact G3
    iexact HX
  refine wait_at (a := 704) (b := 2048) (X := iprop(((∃ f : Bf F A8 c, ⌜Holds c A8 A3 s m V.V3 f⌝ ∗ Slot c A8 s f) ∗ semVal ((c : Thread nD τ), SemLoc.dma (cell s 0)) 0
        ∗ (A3.view.loc (c : Thread nD τ) ↦{fullShare} V.V3))
      ∗ ((∃ f : Bf F A9 c, ⌜Holds c A9 A4 s m V.V4 f⌝ ∗ Slot c A9 s f) ∗ semVal ((c : Thread nD τ), SemLoc.dma (cell s 1)) 0
        ∗ (A4.view.loc (c : Thread nD τ) ↦{fullShare} V.V4)) ∗ InFl c A11 A6 (.dma (cell s 3)) s m V.V6 ∗ X)) c A10 A5 bd s m V.V5 (cell s 2) h2 ?_ ?_
  · iintro ⟨⟨L0, L1, L2, HO⟩, G1, G2, G3, HX⟩
    isplitl [G2 HO]
    · isplitl [G2]; · iexact G2
      iexact HO
    isplitl [G1]; · iexact G1
    isplitl [L0 L1 L2]
    · isplitl [L0]; · iexact L0
      isplitl [L1]; · iexact L1
      iexact L2
    isplitl [G3]; · iexact G3
    iexact HX
  refine wait_at (a := 11) (b := 2048) (X := iprop(((∃ f : Bf F A8 c, ⌜Holds c A8 A3 s m V.V3 f⌝ ∗ Slot c A8 s f) ∗ semVal ((c : Thread nD τ), SemLoc.dma (cell s 0)) 0
        ∗ (A3.view.loc (c : Thread nD τ) ↦{fullShare} V.V3))
      ∗ ((∃ f : Bf F A9 c, ⌜Holds c A9 A4 s m V.V4 f⌝ ∗ Slot c A9 s f) ∗ semVal ((c : Thread nD τ), SemLoc.dma (cell s 1)) 0
        ∗ (A4.view.loc (c : Thread nD τ) ↦{fullShare} V.V4))
      ∗ ((∃ f : Bf F A10 c, ⌜Holds c A10 A5 s m V.V5 f⌝ ∗ Slot c A10 s f) ∗ semVal ((c : Thread nD τ), SemLoc.dma (cell s 2)) 0
        ∗ (A5.view.loc (c : Thread nD τ) ↦{fullShare} V.V5)) ∗ X)) c A11 A6 bd s m V.V6 (cell s 3) h3 ?_ ?_
  · iintro ⟨⟨L0, L1, L2, HO⟩, G1, G2, G3, HX⟩
    isplitl [G3 HO]
    · isplitl [G3]; · iexact G3
      iexact HO
    isplitl [G1]; · iexact G1
    isplitl [G2]; · iexact G2
    isplitl [L0 L1 L2]
    · isplitl [L0]; · iexact L0
      isplitl [L1]; · iexact L1
      iexact L2
    iexact HX
  refine BIBase.Entails.trans ?_ h
  unfold Landed Hbm Sems
  iintro ⟨⟨L3, S3, P3, HO⟩, ⟨L0, S0, P0⟩, ⟨L1, S1, P1⟩, ⟨L2, S2, P2⟩, HX⟩
  isplitr [HX]
  · isplitl [L0 L1 L2 L3 S0 S1 S2 S3]
    · isplitl [L0]; · iexact L0
      isplitl [L1]; · iexact L1
      isplitl [L2]; · iexact L2
      isplitl [L3]; · iexact L3
      isplitl [S0]; · iexact S0
      isplitl [S1]; · iexact S1
      isplitl [S2]; · iexact S2
      iexact S3
    isplitl [P0 P1 P2 P3]
    · isplitl [P0]; · iexact P0
      isplitl [P1]; · iexact P1
      isplitl [P2]; · iexact P2
      iexact P3
    iexact HO
  · iexact HX

end Cert.Kernel.Hand

end
-- ==== Proof.Kernel.Trip.lean ====
/-
  One item's arithmetic: from the weights of the item's slot, the row window and the row weights, the
  first product is filled tile by tile, then the gated activations, then the window of the result.
-/
module

public import proofs.«01_k».proof.Proof.Kernel.Tiles

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (bd : Option ℕ)

/-! ## What the tiles stored so far say of a buffer -/

/-- The first `n` tiles of 256 columns hold `T`. -/
def GuOK (T : Fin 11 → FVec F S128x256 .f32) (n : ℕ) (g : Bf F A12 c) : Prop :=
  ∀ i : S128x2816.Idx, (i 1).val < 256 * n →
    g i = T ⟨(i 1).val / 256, by have := (i 1).isLt; simp [Shape.size] at this; omega⟩ (ix2 (i 0) ⟨(i 1).val % 256, Nat.mod_lt _ (by decide)⟩)
/-- The first `n` tiles of 128 columns hold `T`. -/
def HOK (T : Fin 11 → FVec F S128x128 .bf16) (n : ℕ) (h : Bf F A13 c) : Prop :=
  ∀ i : S128x1408.Idx, (i 1).val < 128 * n →
    h i = T ⟨(i 1).val / 128, by have := (i 1).isLt; simp [Shape.size] at this; omega⟩ (ix2 (i 0) ⟨(i 1).val % 128, Nat.mod_lt _ (by decide)⟩)

theorem inb7 {w b : ℕ} (hw : w + 128 ≤ 1536) (hb : b < 16) : ∀ a, (![w, 128 * b] : Fin 2 → ℕ) a + S128x128.size a ≤ S1536x2048.size a := by
  intro a; fin_cases a <;> simp [Shape.size] <;> omega
theorem inb14 {w : ℕ} (hw : w + 128 ≤ 1536) : ∀ a, (![w, 0] : Fin 2 → ℕ) a + S128x128.size a ≤ S1536x128.size a := by
  intro a; fin_cases a <;> simp [Shape.size] <;> omega
theorem inb1 {w : ℕ} (hw : w + 128 ≤ 1536) : ∀ a, (![w, 0] : Fin 2 → ℕ) a + S128x2048.size a ≤ S1536x2048.size a := by
  intro a; fin_cases a <;> simp [Shape.size] <;> omega

/-- Block `b` of 128 columns of the window at row `w`. -/
def rd7 (y : Bf F A7 c) (w : ℕ) (hw : w + 128 ≤ 1536) (b : Fin 16) : Vec F S128x128 .bf16 :=
  A7.view.readAt (Elt F) (Rect.unit (s := S1536x2048) ![w, 128 * b] S128x128.size (inb7 hw b.2)).toLoadRect y
/-- The row weights of the window at row `w`. -/
def rd14 (f : Bf F A14 c) (w : ℕ) (hw : w + 128 ≤ 1536) : Vec F S128x128 .f32 :=
  A14.view.readAt (Elt F) (Rect.unit (s := S1536x128) ![w, 0] S128x128.size (inb14 hw)).toLoadRect f
/-- The rows of the window at row `w`. -/
def rd1 (f : Bf F A1 c) (w : ℕ) (hw : w + 128 ≤ 1536) : Vec F S128x2048 .bf16 :=
  A1.view.readAt (Elt F) (Rect.unit (s := S1536x2048) ![w, 0] S128x2048.size (inb1 hw)).toLoadRect f

/-- The first `n` blocks of the window at row `w` hold `T` of what they held; the rest is as it was. -/
def YOK (w : ℕ) (hw : w + 128 ≤ 1536) (y₀ : Bf F A7 c) (T : Fin 16 → Vec F S128x128 .bf16 → FVec F S128x128 .bf16) (n : ℕ) (y : Bf F A7 c) : Prop :=
  ∀ i : S1536x2048.Idx, y i =
    if h : (w ≤ (i 0).val ∧ (i 0).val < w + 128) ∧ (i 1).val < 128 * n then
      have hb : (i 1).val / 128 < 16 := by have := (i 1).isLt; simp [Shape.size] at this; omega
      T ⟨(i 1).val / 128, hb⟩ (rd7 c y₀ w hw ⟨(i 1).val / 128, hb⟩) (ix2 ⟨(i 0).val - w, by omega⟩ ⟨(i 1).val % 128, Nat.mod_lt _ (by decide)⟩)
    else y₀ i

theorem yok_zero (w : ℕ) (hw : w + 128 ≤ 1536) (y₀ : Bf F A7 c) (T : Fin 16 → Vec F S128x128 .bf16 → FVec F S128x128 .bf16) : YOK c w hw y₀ T 0 y₀ := by
  intro i
  rw [dif_neg]
  rintro ⟨-, h⟩
  exact absurd h (by simp)

/-- The blocks of the window, in the order they are stored. -/
def yB (mk : IVec S128x128 1) (rw : Vec F S128x128 .f32) (h : Vec F S128x1408 .bf16) (f10 : Bf F A10 c) (f11 : Bf F A11 c) (s : Fin 2)
    (b : Fin 16) : Vec F S128x128 .bf16 → FVec F S128x128 .bf16 :=
  yT c mk rw h f10 f11 s ⟨b / 2, by omega⟩ ⟨b % 2, by omega⟩

/-! ## The state an item's arithmetic runs over -/

/-- The slot `s` of the four weight buffers, the row weights, the two intermediate buffers, the result, and a rest untouched. -/
def St (R : sProp 𝕄) (s : ℕ) (f8 : Bf F A8 c) (f9 : Bf F A9 c) (f10 : Bf F A10 c) (f11 : Bf F A11 c) (rwb : Bf F A14 c)
    (g : Bf F A12 c) (h : Bf F A13 c) (y : Bf F A7 c) : sProp 𝕄 :=
  iprop((A8.view.loc (c : Thread nD τ) ↦[slotSet 2 1024 2816 s]{fullShare} f8) ∗ (A9.view.loc (c : Thread nD τ) ↦[slotSet 2 16 2816 s]{fullShare} f9) ∗
    (A10.view.loc (c : Thread nD τ) ↦[slotSet 2 704 2048 s]{fullShare} f10) ∗ (A11.view.loc (c : Thread nD τ) ↦[slotSet 2 11 2048 s]{fullShare} f11) ∗
    pt A14 c rwb ∗ pt A12 c g ∗ pt A13 c h ∗ pt A7 c y ∗ R)

variable {c bd}
variable {α : Type} {R : sProp (MT nD τ sig Unit (Elt F) ℕ (Pipeline.UD sig nD τ) ℕ)} {s : ℕ} {f8 : Bf F A8 c} {f9 : Bf F A9 c} {f10 : Bf F A10 c} {f11 : Bf F A11 c} {rwb : Bf F A14 c}
  {g : Bf F A12 c} {h : Bf F A13 c} {y : Bf F A7 c} {Q : α → sProp (MT nD τ sig Unit (Elt F) ℕ (Pipeline.UD sig nD τ) ℕ)}

theorem ld8 {r : Rect S2x1024x2816} {hl : A8.view.LoadsAt r.toLoadRect} {k : (r.shape.Idx → Elt F _) → Pg F α} (hr : r.set ⊆ slotSet 2 1024 2816 s)
    (hk : St c R s f8 f9 f10 f11 rwb g h y ⊢ WP c bd (k (A8.view.readAt (Elt F) r.toLoadRect f8)) Q) :
    St c R s f8 f9 f10 f11 rwb g h y ⊢ WP c bd (Prog.lift (.load A8 r.toLoadRect hl) >>= k) Q := by
  refine load_step c bd (Sd := slotSet 2 1024 2816 s) (q := fullShare) f8 ?_ ?_ hk
  · unfold St; iintro ⟨H8, H9, H10, H11, H14, H12, H13, H7, HR⟩
    isplitl [H8]
    · iexact H8
    iintro H8
    iframe
  · intro i hi; obtain ⟨j, hj, rfl⟩ := Finset.mem_map.mp hi; exact hr hj

theorem ld9 {r : Rect S2x16x2816} {hl : A9.view.LoadsAt r.toLoadRect} {k : (r.shape.Idx → Elt F _) → Pg F α} (hr : r.set ⊆ slotSet 2 16 2816 s)
    (hk : St c R s f8 f9 f10 f11 rwb g h y ⊢ WP c bd (k (A9.view.readAt (Elt F) r.toLoadRect f9)) Q) :
    St c R s f8 f9 f10 f11 rwb g h y ⊢ WP c bd (Prog.lift (.load A9 r.toLoadRect hl) >>= k) Q := by
  refine load_step c bd (Sd := slotSet 2 16 2816 s) (q := fullShare) f9 ?_ ?_ hk
  · unfold St; iintro ⟨H8, H9, H10, H11, H14, H12, H13, H7, HR⟩
    isplitl [H9]
    · iexact H9
    iintro H9
    iframe
  · intro i hi; obtain ⟨j, hj, rfl⟩ := Finset.mem_map.mp hi; exact hr hj

theorem ld10 {r : Rect S2x704x2048} {hl : A10.view.LoadsAt r.toLoadRect} {k : (r.shape.Idx → Elt F _) → Pg F α} (hr : r.set ⊆ slotSet 2 704 2048 s)
    (hk : St c R s f8 f9 f10 f11 rwb g h y ⊢ WP c bd (k (A10.view.readAt (Elt F) r.toLoadRect f10)) Q) :
    St c R s f8 f9 f10 f11 rwb g h y ⊢ WP c bd (Prog.lift (.load A10 r.toLoadRect hl) >>= k) Q := by
  refine load_step c bd (Sd := slotSet 2 704 2048 s) (q := fullShare) f10 ?_ ?_ hk
  · unfold St; iintro ⟨H8, H9, H10, H11, H14, H12, H13, H7, HR⟩
    isplitl [H10]
    · iexact H10
    iintro H10
    iframe
  · intro i hi; obtain ⟨j, hj, rfl⟩ := Finset.mem_map.mp hi; exact hr hj

theorem ld11 {r : Rect S2x11x2048} {hl : A11.view.LoadsAt r.toLoadRect} {k : (r.shape.Idx → Elt F _) → Pg F α} (hr : r.set ⊆ slotSet 2 11 2048 s)
    (hk : St c R s f8 f9 f10 f11 rwb g h y ⊢ WP c bd (k (A11.view.readAt (Elt F) r.toLoadRect f11)) Q) :
    St c R s f8 f9 f10 f11 rwb g h y ⊢ WP c bd (Prog.lift (.load A11 r.toLoadRect hl) >>= k) Q := by
  refine load_step c bd (Sd := slotSet 2 11 2048 s) (q := fullShare) f11 ?_ ?_ hk
  · unfold St; iintro ⟨H8, H9, H10, H11, H14, H12, H13, H7, HR⟩
    isplitl [H11]
    · iexact H11
    iintro H11
    iframe
  · intro i hi; obtain ⟨j, hj, rfl⟩ := Finset.mem_map.mp hi; exact hr hj

theorem ld12 {r : Rect S128x2816} {hl : A12.view.LoadsAt r.toLoadRect} {k : (r.shape.Idx → Elt F _) → Pg F α}
    (hk : St c R s f8 f9 f10 f11 rwb g h y ⊢ WP c bd (k (A12.view.readAt (Elt F) r.toLoadRect g)) Q) :
    St c R s f8 f9 f10 f11 rwb g h y ⊢ WP c bd (Prog.lift (.load A12 r.toLoadRect hl) >>= k) Q := by
  refine load_step c bd (Sd := Finset.univ) (q := fullShare) g ?_ (Finset.subset_univ _) hk
  unfold St pt; iintro ⟨H8, H9, H10, H11, H14, H12, H13, H7, HR⟩
  isplitl [H12]
  · iexact H12
  iintro H12
  iframe

theorem ld13 {r : Rect S128x1408} {hl : A13.view.LoadsAt r.toLoadRect} {k : (r.shape.Idx → Elt F _) → Pg F α}
    (hk : St c R s f8 f9 f10 f11 rwb g h y ⊢ WP c bd (k (A13.view.readAt (Elt F) r.toLoadRect h)) Q) :
    St c R s f8 f9 f10 f11 rwb g h y ⊢ WP c bd (Prog.lift (.load A13 r.toLoadRect hl) >>= k) Q := by
  refine load_step c bd (Sd := Finset.univ) (q := fullShare) h ?_ (Finset.subset_univ _) hk
  unfold St pt; iintro ⟨H8, H9, H10, H11, H14, H12, H13, H7, HR⟩
  isplitl [H13]
  · iexact H13
  iintro H13
  iframe

theorem ld14 {r : Rect S1536x128} {hl : A14.view.LoadsAt r.toLoadRect} {k : (r.shape.Idx → Elt F _) → Pg F α}
    (hk : St c R s f8 f9 f10 f11 rwb g h y ⊢ WP c bd (k (A14.view.readAt (Elt F) r.toLoadRect rwb)) Q) :
    St c R s f8 f9 f10 f11 rwb g h y ⊢ WP c bd (Prog.lift (.load A14 r.toLoadRect hl) >>= k) Q := by
  refine load_step c bd (Sd := Finset.univ) (q := fullShare) rwb ?_ (Finset.subset_univ _) hk
  unfold St pt; iintro ⟨H8, H9, H10, H11, H14, H12, H13, H7, HR⟩
  isplitl [H14]
  · iexact H14
  iintro H14
  iframe

theorem ld7 {r : Rect S1536x2048} {hl : A7.view.LoadsAt r.toLoadRect} {k : (r.shape.Idx → Elt F _) → Pg F α}
    (hk : St c R s f8 f9 f10 f11 rwb g h y ⊢ WP c bd (k (A7.view.readAt (Elt F) r.toLoadRect y)) Q) :
    St c R s f8 f9 f10 f11 rwb g h y ⊢ WP c bd (Prog.lift (.load A7 r.toLoadRect hl) >>= k) Q := by
  refine load_step c bd (Sd := Finset.univ) (q := fullShare) y ?_ (Finset.subset_univ _) hk
  unfold St pt; iintro ⟨H8, H9, H10, H11, H14, H12, H13, H7, HR⟩
  isplitl [H7]
  · iexact H7
  iintro H7
  iframe

/-! ## Stores of tiles -/

theorem emb_unit_val {S : Shape} {off sz : Fin S.rank → ℕ} (inb : ∀ a, off a + sz a ≤ S.size a) (x : (Rect.unit off sz inb).shape.Idx) (a : Fin S.rank) :
    ((Rect.unit off sz inb).emb x a).val = off a + (x a).val := by
  rw [Rect.emb_apply]; simp [Rect.unit]

theorem stG {T : Fin 11 → FVec F S128x256 .f32} {n : ℕ} (hG : GuOK c T n g) (hn : n < 11)
    {off : Fin 2 → ℕ} {inb : ∀ a, off a + S128x256.size a ≤ S128x2816.size a} {w : FVec F S128x256 .f32} {hx hm} {k : PUnit → Pg F α}
    (ho : off = ![0, 256 * n]) (hw : w = T ⟨n, hn⟩)
    (hk : ∀ g', GuOK c T (n + 1) g' → St c R s f8 f9 f10 f11 rwb g' h y ⊢ WP c bd (k ⟨⟩) Q) :
    St c R s f8 f9 f10 f11 rwb g h y ⊢ WP c bd (Prog.lift (.store A12 (Rect.unit (s := S128x2816) off S128x256.size inb) w Finset.univ hx hm) >>= k) Q := by
  subst ho; subst hw
  refine store_step c bd (P' := St c R s f8 f9 f10 f11 rwb
    ((A12.access (Rect.unit (s := S128x2816) ![0, 256 * n] S128x256.size inb)).write (Elt F) g (T ⟨n, hn⟩) Finset.univ) h y) g ?_ (hk _ ?_)
  · unfold St pt; iintro ⟨H8, H9, H10, H11, H14, H12, H13, H7, HR⟩
    isplitl [H12]
    · iexact H12
    iintro H12
    iframe
  · intro i hi
    have hi0 : (i 0).val < 128 := (i 0).isLt
    have hi1 : (i 1).val < 2816 := (i 1).isLt
    by_cases hin : 256 * n ≤ (i 1).val
    · have hd : (i 1).val / 256 = n := by omega
      have e : (Rect.unit (s := S128x2816) ![0, 256 * n] S128x256.size inb).emb (ix2 (i 0) ⟨(i 1).val % 256, Nat.mod_lt _ (by decide)⟩) = i := by
        funext a; apply Fin.ext; rw [emb_unit_val]
        fin_cases a <;> simp [ix2] <;> omega
      have := write_whole_in cc0_scratch4 (Rect.unit (s := S128x2816) ![0, 256 * n] S128x256.size inb) g (T ⟨n, hn⟩)
        (ix2 (i 0) ⟨(i 1).val % 256, Nat.mod_lt _ (by decide)⟩)
      rw [e] at this
      refine this.trans ?_
      subst hd; rfl
    · refine (write_whole_out cc0_scratch4 _ g _ ?_).trans (hG i (by omega))
      intro hm
      have := (Rect.mem_set_unit.mp hm) 1
      simp at this; omega

theorem stH {T : Fin 11 → FVec F S128x128 .bf16} {n : ℕ} (hG : HOK c T n h) (hn : n < 11)
    {off : Fin 2 → ℕ} {inb : ∀ a, off a + S128x128.size a ≤ S128x1408.size a} {w : FVec F S128x128 .bf16} {hx hm} {k : PUnit → Pg F α}
    (ho : off = ![0, 128 * n]) (hw : w = T ⟨n, hn⟩)
    (hk : ∀ h', HOK c T (n + 1) h' → St c R s f8 f9 f10 f11 rwb g h' y ⊢ WP c bd (k ⟨⟩) Q) :
    St c R s f8 f9 f10 f11 rwb g h y ⊢ WP c bd (Prog.lift (.store A13 (Rect.unit (s := S128x1408) off S128x128.size inb) w Finset.univ hx hm) >>= k) Q := by
  subst ho; subst hw
  refine store_step c bd (P' := St c R s f8 f9 f10 f11 rwb g
    ((A13.access (Rect.unit (s := S128x1408) ![0, 128 * n] S128x128.size inb)).write (Elt F) h (T ⟨n, hn⟩) Finset.univ) y) h ?_ (hk _ ?_)
  · unfold St pt; iintro ⟨H8, H9, H10, H11, H14, H12, H13, H7, HR⟩
    isplitl [H13]
    · iexact H13
    iintro H13
    iframe
  · intro i hi
    have hi0 : (i 0).val < 128 := (i 0).isLt
    have hi1 : (i 1).val < 1408 := (i 1).isLt
    by_cases hin : 128 * n ≤ (i 1).val
    · have hd : (i 1).val / 128 = n := by omega
      have e : (Rect.unit (s := S128x1408) ![0, 128 * n] S128x128.size inb).emb (ix2 (i 0) ⟨(i 1).val % 128, Nat.mod_lt _ (by decide)⟩) = i := by
        funext a; apply Fin.ext; rw [emb_unit_val]
        fin_cases a <;> simp [ix2] <;> omega
      have := write_whole_in cc0_scratch5 (Rect.unit (s := S128x1408) ![0, 128 * n] S128x128.size inb) h (T ⟨n, hn⟩)
        (ix2 (i 0) ⟨(i 1).val % 128, Nat.mod_lt _ (by decide)⟩)
      rw [e] at this
      refine this.trans ?_
      subst hd; rfl
    · refine (write_whole_out cc0_scratch5 _ h _ ?_).trans (hG i (by omega))
      intro hm
      have := (Rect.mem_set_unit.mp hm) 1
      simp at this; omega

/-- What is read of a block of the window not stored yet is what it was. -/
theorem rd7_of_YOK {w : ℕ} {hw : w + 128 ≤ 1536} {y₀ : Bf F A7 c} {T : Fin 16 → Vec F S128x128 .bf16 → FVec F S128x128 .bf16} {n : ℕ}
    (hY : YOK c w hw y₀ T n y) (hn : n < 16) : rd7 c y w hw ⟨n, hn⟩ = rd7 c y₀ w hw ⟨n, hn⟩ := by
  funext x
  refine (hY ((Rect.unit (s := S1536x2048) ![w, 128 * n] S128x128.size (inb7 hw hn)).emb x)).trans ?_
  rw [dif_neg]
  · rfl
  · rintro ⟨-, h⟩
    rw [emb_unit_val] at h
    simp at h

theorem stY {w : ℕ} {hw : w + 128 ≤ 1536} {y₀ : Bf F A7 c} {T : Fin 16 → Vec F S128x128 .bf16 → FVec F S128x128 .bf16} {n : ℕ}
    (hY : YOK c w hw y₀ T n y) (hn : n < 16)
    {off : Fin 2 → ℕ} {inb : ∀ a, off a + S128x128.size a ≤ S1536x2048.size a} {v : FVec F S128x128 .bf16} {hx hm} {k : PUnit → Pg F α}
    (ho : off = ![w, 128 * n]) (hv : v = T ⟨n, hn⟩ (rd7 c y w hw ⟨n, hn⟩))
    (hk : ∀ y', YOK c w hw y₀ T (n + 1) y' → St c R s f8 f9 f10 f11 rwb g h y' ⊢ WP c bd (k ⟨⟩) Q) :
    St c R s f8 f9 f10 f11 rwb g h y ⊢ WP c bd (Prog.lift (.store A7 (Rect.unit (s := S1536x2048) off S128x128.size inb) v Finset.univ hx hm) >>= k) Q := by
  rw [rd7_of_YOK hY hn] at hv
  subst ho; subst hv
  refine store_step c bd (P' := St c R s f8 f9 f10 f11 rwb g h
    ((A7.access (Rect.unit (s := S1536x2048) ![w, 128 * n] S128x128.size inb)).write (Elt F) y (T ⟨n, hn⟩ (rd7 c y₀ w hw ⟨n, hn⟩)) Finset.univ)) y ?_ (hk _ ?_)
  · unfold St pt; iintro ⟨H8, H9, H10, H11, H14, H12, H13, H7, HR⟩
    isplitl [H7]
    · iexact H7
    iintro H7
    iframe
  · intro i
    have hi0 : (i 0).val < 1536 := (i 0).isLt
    have hi1 : (i 1).val < 2048 := (i 1).isLt
    by_cases hin : (w ≤ (i 0).val ∧ (i 0).val < w + 128) ∧ (128 * n ≤ (i 1).val ∧ (i 1).val < 128 * (n + 1))
    · have hd : (i 1).val / 128 = n := by omega
      have e : (Rect.unit (s := S1536x2048) ![w, 128 * n] S128x128.size inb).emb (ix2 ⟨(i 0).val - w, by omega⟩ ⟨(i 1).val % 128, Nat.mod_lt _ (by decide)⟩) = i := by
        funext a; apply Fin.ext; rw [emb_unit_val]
        fin_cases a <;> simp [ix2] <;> omega
      have := write_whole_in cc0_stg3_0 (Rect.unit (s := S1536x2048) ![w, 128 * n] S128x128.size inb) y (T ⟨n, hn⟩ (rd7 c y₀ w hw ⟨n, hn⟩))
        (ix2 ⟨(i 0).val - w, by omega⟩ ⟨(i 1).val % 128, Nat.mod_lt _ (by decide)⟩)
      rw [e] at this
      refine this.trans ?_
      rw [dif_pos ⟨hin.1, hin.2.2⟩]
      subst hd; rfl
    · refine (write_whole_out cc0_stg3_0 _ y _ ?_).trans ((hY i).trans ?_)
      · intro hm
        have h0 := (Rect.mem_set_unit.mp hm) 0
        have h1 := (Rect.mem_set_unit.mp hm) 1
        simp at h0 h1; omega
      · by_cases h : (w ≤ (i 0).val ∧ (i 0).val < w + 128) ∧ (i 1).val < 128 * n
        · rw [dif_pos h, dif_pos ⟨h.1, by omega⟩]
        · rw [dif_neg h, dif_neg (by omega)]

end Cert.Kernel.Hand

end
-- ==== Proof.Kernel.Compute.lean ====
/-
  One item's arithmetic: from the weights of the item's slot, the row window and the row weights, the
  first product is filled tile by tile, then the gated activations, then the window of the result.
-/
module

public import proofs.«01_k».proof.Proof.Kernel.Trip

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD} {bd : Option ℕ}

theorem hyp_elim {P : sProp (MT nD τ sig Unit (Elt F) ℕ (Pipeline.UD sig nD τ) ℕ) → Bf F A8 c → Bf F A9 c → Bf F A10 c → Bf F A11 c → Bf F A14 c → Bf F A12 c → Bf F A13 c → Bf F A7 c → Prop} {s : ℕ} {Z : sProp (MT nD τ sig Unit (Elt F) ℕ (Pipeline.UD sig nD τ) ℕ)}
    (h0 : ∀ R f8 f9 f10 f11 rwb g h y, P R f8 f9 f10 f11 rwb g h y → St c R s f8 f9 f10 f11 rwb g h y ⊢ Z) :
    iprop(∃ (R : sProp (MT nD τ sig Unit (Elt F) ℕ (Pipeline.UD sig nD τ) ℕ)) (f8 : Bf F A8 c) (f9 : Bf F A9 c) (f10 : Bf F A10 c) (f11 : Bf F A11 c) (rwb : Bf F A14 c) (g : Bf F A12 c) (h : Bf F A13 c) (y : Bf F A7 c),
      ⌜P R f8 f9 f10 f11 rwb g h y⌝ ∗ St c R s f8 f9 f10 f11 rwb g h y) ⊢ Z := by
  iintro ⟨%R, %f8, %f9, %f10, %f11, %rwb, %g, %h, %y, %hf, HS⟩
  iapply (h0 R f8 f9 f10 f11 rwb g h y hf) $$ HS

set_option maxHeartbeats 8000000 in
/-- An item's region, from its state after the weights are there. -/
theorem trip_compute {P : sProp (MT nD τ sig Unit (Elt F) ℕ (Pipeline.UD sig nD τ) ℕ)} {Q : BitVec 32 → sProp (MT nD τ sig Unit (Elt F) ℕ (Pipeline.UD sig nD τ) ℕ)} {v1_0 : BitVec 32} {hw2 : k0_chk2 v1_0} {t : Fin (k0_t2_loop v1_0).trips} {a : BitVec 32}
    (h2 : P ⊢ WP c bd (k0_part2 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8 v1_0 hw2 0#32 1#32 t) (fun o =>
      iprop(∃ (R : sProp (MT nD τ sig Unit (Elt F) ℕ (Pipeline.UD sig nD τ) ℕ)) (f8 : Bf F A8 c) (f9 : Bf F A9 c) (f10 : Bf F A10 c) (f11 : Bf F A11 c) (rwb : Bf F A14 c) (g : Bf F A12 c) (h : Bf F A13 c) (y : Bf F A7 c),
        ⌜o.2.2.2.2.2.2.1 = o.1 ∧ o.2.2.2.2.2.2.2.2.2 = k0_pay8 (F := F) (rd8 c f8 (sf o.2.2.2.2.1) 0) ∧
          ∀ (hw : o.1.toNat + 128 ≤ 1536) (g' : Bf F A12 c) (h' : Bf F A13 c) (y' : Bf F A7 c),
            GuOK c (guT c o.2.2.2.2.2.2.2.2.1 f8 f9 (sf o.2.2.2.2.1)) 11 g' → HOK c (hT c g') 11 h' →
            YOK c o.1.toNat hw y (yB c (k0_pay193 (F := F) o.2.2.1 o.2.2.2.1 o.1) (rd14 c rwb o.1.toNat hw) (rd13 c h') f10 f11 (sf o.2.2.2.2.1)) 16 y' →
            St c R (slotOf o.2.2.2.2.1) f8 f9 f10 f11 rwb g' h' y' ⊢ Q 0#32⌝ ∗ St c R (slotOf o.2.2.2.2.1) f8 f9 f10 f11 rwb g h y))) :
    P ⊢ WP c bd (k0_t2_body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8 v1_0 hw2 t a) Q := by
  refine bind_step c bd ?_
  rw [k0_part56_eq_skeleton]
  unfold k0_part56_skel
  refine bind_step c bd (h2.trans (wp_mono _ _ _ ?_))
  rintro ⟨v115, hw4, v117, v119, v121, hw9, v122, v123, v140, v147⟩
  refine hyp_elim ?_
  intro R f8 f9 f10 f11 rwb g h y ⟨e122, e147, hfin⟩
  simp only at e122 e147 hfin
  subst e122 e147
  have hG : GuOK c (guT c v140 f8 f9 (sf v121)) 0 g := fun i hi => absurd hi (by omega)
  iterate 30
    refine bind_step c bd ?_
    first
      | rw [k0_part3_eq_skeleton, k0_part3_skel]
      | rw [k0_part4_eq_skeleton, k0_part4_skel]
      | rw [k0_part5_eq_skeleton, k0_part5_skel]
      | rw [k0_part6_eq_skeleton, k0_part6_skel]
      | rw [k0_part7_eq_skeleton, k0_part7_skel]
      | rw [k0_part8_eq_skeleton, k0_part8_skel]
      | rw [k0_part9_eq_skeleton, k0_part9_skel]
      | rw [k0_part10_eq_skeleton, k0_part10_skel]
      | rw [k0_part11_eq_skeleton, k0_part11_skel]
      | rw [k0_part12_eq_skeleton, k0_part12_skel]
      | rw [k0_part13_eq_skeleton, k0_part13_skel]
      | rw [k0_part14_eq_skeleton, k0_part14_skel]
      | rw [k0_part15_eq_skeleton, k0_part15_skel]
      | rw [k0_part16_eq_skeleton, k0_part16_skel]
      | rw [k0_part17_eq_skeleton, k0_part17_skel]
      | rw [k0_part18_eq_skeleton, k0_part18_skel]
      | rw [k0_part19_eq_skeleton, k0_part19_skel]
      | rw [k0_part20_eq_skeleton, k0_part20_skel]
      | rw [k0_part21_eq_skeleton, k0_part21_skel]
      | rw [k0_part22_eq_skeleton, k0_part22_skel]
      | rw [k0_part23_eq_skeleton, k0_part23_skel]
      | rw [k0_part24_eq_skeleton, k0_part24_skel]
      | rw [k0_part25_eq_skeleton, k0_part25_skel]
      | rw [k0_part26_eq_skeleton, k0_part26_skel]
      | rw [k0_part27_eq_skeleton, k0_part27_skel]
      | rw [k0_part28_eq_skeleton, k0_part28_skel]
      | rw [k0_part29_eq_skeleton, k0_part29_skel]
      | rw [k0_part30_eq_skeleton, k0_part30_skel]
      | rw [k0_part31_eq_skeleton, k0_part31_skel]
      | rw [k0_part32_eq_skeleton, k0_part32_skel]
    repeat (first
      | ((with_reducible refine ld9 ?_ ?_); · exact unit_sub_slotSet _ rfl rfl)
      | ((with_reducible refine ld8 ?_ ?_); · exact unit_sub_slotSet _ rfl rfl)
      | ((with_reducible refine ld11 ?_ ?_); · exact unit_sub_slotSet _ rfl rfl)
      | ((with_reducible refine ld10 ?_ ?_); · exact unit_sub_slotSet _ rfl rfl)
      | with_reducible refine ld12 ?_
      | with_reducible refine ld13 ?_
      | with_reducible refine ld14 ?_
      | with_reducible refine ld7 ?_
      | ((with_reducible refine stG hG (by decide) ?_ ?_ ?_); · rfl
         · rfl
         clear hG; intro g hG))
    refine pure_step c bd ?_
  refine bind_step c bd ?_
  rw [k0_part33_eq_skeleton, k0_part33_skel]
  repeat (first
      | ((with_reducible refine ld9 ?_ ?_); · exact unit_sub_slotSet _ rfl rfl)
      | ((with_reducible refine ld8 ?_ ?_); · exact unit_sub_slotSet _ rfl rfl)
      | ((with_reducible refine ld11 ?_ ?_); · exact unit_sub_slotSet _ rfl rfl)
      | ((with_reducible refine ld10 ?_ ?_); · exact unit_sub_slotSet _ rfl rfl)
      | with_reducible refine ld12 ?_
      | with_reducible refine ld13 ?_
      | with_reducible refine ld14 ?_
      | with_reducible refine ld7 ?_
      | ((with_reducible refine stG hG (by decide) ?_ ?_ ?_); · rfl
         · rfl
         clear hG; intro g hG))
  have hH : HOK c (hT c g) 0 h := fun i hi => absurd hi (by omega)
  repeat (first
      | ((with_reducible refine ld9 ?_ ?_); · exact unit_sub_slotSet _ rfl rfl)
      | ((with_reducible refine ld8 ?_ ?_); · exact unit_sub_slotSet _ rfl rfl)
      | ((with_reducible refine ld11 ?_ ?_); · exact unit_sub_slotSet _ rfl rfl)
      | ((with_reducible refine ld10 ?_ ?_); · exact unit_sub_slotSet _ rfl rfl)
      | with_reducible refine ld12 ?_
      | with_reducible refine ld13 ?_
      | with_reducible refine ld14 ?_
      | with_reducible refine ld7 ?_
      | ((with_reducible refine stH hH (by decide) ?_ ?_ ?_); · rfl
         · rfl
         clear hH; intro h hH))
  refine pure_step c bd ?_
  iterate 3
    refine bind_step c bd ?_
    first
      | rw [k0_part34_eq_skeleton, k0_part34_skel]
      | rw [k0_part35_eq_skeleton, k0_part35_skel]
      | rw [k0_part36_eq_skeleton, k0_part36_skel]
    repeat (first
      | ((with_reducible refine ld9 ?_ ?_); · exact unit_sub_slotSet _ rfl rfl)
      | ((with_reducible refine ld8 ?_ ?_); · exact unit_sub_slotSet _ rfl rfl)
      | ((with_reducible refine ld11 ?_ ?_); · exact unit_sub_slotSet _ rfl rfl)
      | ((with_reducible refine ld10 ?_ ?_); · exact unit_sub_slotSet _ rfl rfl)
      | with_reducible refine ld12 ?_
      | with_reducible refine ld13 ?_
      | with_reducible refine ld14 ?_
      | with_reducible refine ld7 ?_
      | ((with_reducible refine stH hH (by decide) ?_ ?_ ?_); · rfl
         · rfl
         clear hH; intro h hH))
    refine pure_step c bd ?_
  refine bind_step c bd ?_
  rw [k0_part37_eq_skeleton, k0_part37_skel]
  repeat (first
      | ((with_reducible refine ld9 ?_ ?_); · exact unit_sub_slotSet _ rfl rfl)
      | ((with_reducible refine ld8 ?_ ?_); · exact unit_sub_slotSet _ rfl rfl)
      | ((with_reducible refine ld11 ?_ ?_); · exact unit_sub_slotSet _ rfl rfl)
      | ((with_reducible refine ld10 ?_ ?_); · exact unit_sub_slotSet _ rfl rfl)
      | with_reducible refine ld12 ?_
      | with_reducible refine ld13 ?_
      | with_reducible refine ld14 ?_
      | with_reducible refine ld7 ?_
      | ((with_reducible refine stH hH (by decide) ?_ ?_ ?_); · rfl
         · rfl
         clear hH; intro h hH))
  refine pure_step c bd ?_
  have hw : v122.toNat + 128 ≤ 1536 := (k0_off233_inb v122 hw4) 0
  have hY : YOK c v122.toNat hw y (yB c (k0_pay193 (F := F) v117 v119 v122) (rd14 c rwb v122.toNat hw) (rd13 c h) f10 f11 (sf v121)) 0 y :=
    yok_zero (F := F) c _ hw y _
  iterate 18
    refine bind_step c bd ?_
    first
      | rw [k0_part38_eq_skeleton, k0_part38_skel]
      | rw [k0_part39_eq_skeleton, k0_part39_skel]
      | rw [k0_part40_eq_skeleton, k0_part40_skel]
      | rw [k0_part41_eq_skeleton, k0_part41_skel]
      | rw [k0_part42_eq_skeleton, k0_part42_skel]
      | rw [k0_part43_eq_skeleton, k0_part43_skel]
      | rw [k0_part44_eq_skeleton, k0_part44_skel]
      | rw [k0_part45_eq_skeleton, k0_part45_skel]
      | rw [k0_part46_eq_skeleton, k0_part46_skel]
      | rw [k0_part47_eq_skeleton, k0_part47_skel]
      | rw [k0_part48_eq_skeleton, k0_part48_skel]
      | rw [k0_part49_eq_skeleton, k0_part49_skel]
      | rw [k0_part50_eq_skeleton, k0_part50_skel]
      | rw [k0_part51_eq_skeleton, k0_part51_skel]
      | rw [k0_part52_eq_skeleton, k0_part52_skel]
      | rw [k0_part53_eq_skeleton, k0_part53_skel]
      | rw [k0_part54_eq_skeleton, k0_part54_skel]
      | rw [k0_part55_eq_skeleton, k0_part55_skel]
    repeat (first
      | ((with_reducible refine ld9 ?_ ?_); · exact unit_sub_slotSet _ rfl rfl)
      | ((with_reducible refine ld8 ?_ ?_); · exact unit_sub_slotSet _ rfl rfl)
      | ((with_reducible refine ld11 ?_ ?_); · exact unit_sub_slotSet _ rfl rfl)
      | ((with_reducible refine ld10 ?_ ?_); · exact unit_sub_slotSet _ rfl rfl)
      | with_reducible refine ld12 ?_
      | with_reducible refine ld13 ?_
      | with_reducible refine ld14 ?_
      | with_reducible refine ld7 ?_
      | ((with_reducible refine stY hY (by decide) ?_ ?_ ?_); · rfl
         · rfl
         clear hY; intro y' hY))
    refine pure_step c bd ?_
  refine pure_step c bd ?_
  repeat (first
      | ((with_reducible refine ld9 ?_ ?_); · exact unit_sub_slotSet _ rfl rfl)
      | ((with_reducible refine ld8 ?_ ?_); · exact unit_sub_slotSet _ rfl rfl)
      | ((with_reducible refine ld11 ?_ ?_); · exact unit_sub_slotSet _ rfl rfl)
      | ((with_reducible refine ld10 ?_ ?_); · exact unit_sub_slotSet _ rfl rfl)
      | with_reducible refine ld12 ?_
      | with_reducible refine ld13 ?_
      | with_reducible refine ld14 ?_
      | with_reducible refine ld7 ?_
      | ((with_reducible refine stY hY (by decide) ?_ ?_ ?_); · rfl
         · rfl
         clear hY; intro y' hY))
  refine pure_step c bd ?_
  exact hfin hw _ _ _ hG hH hY

end Cert.Kernel.Hand
end
-- ==== Proof.Kernel.Step.lean ====
/-
  One item: the operands it needs are in its slot before its arithmetic runs, and the next expert's are
  started when its expert is new.
-/
module

public import proofs.«01_k».proof.Proof.Kernel.Slots
public import proofs.«01_k».proof.Proof.Kernel.Compute

@[expose] public section

noncomputable section

namespace Cert.Kernel.Hand

open Cert.Kernel Cert.Kernel.Gen Cert.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Items of one expert -/

theorem slotOf_nat (j : BitVec 32) : slotOf j = j.toNat % 2 := by
  simp only [slotOf, Scalar.andi, BitVec.toNat_and]
  exact Nat.and_one_is_mod _

theorem same_next {of : ℕ → ℕ} {f : Tbl} {n t u : ℕ} (hF : Fin1 of f n) (hS : Same f t n u) (hu : u < n) (hne : it f 4 u ≠ it f 4 t) :
    it f 4 u = it f 4 t + 1 := by
  obtain ⟨h1, h2, h3⟩ := hS
  obtain ⟨v, rfl⟩ : ∃ v, u = v + 1 := ⟨u - 1, by omega⟩
  have hv := h3 v (by omega) (by omega)
  rcases (hF.tab.step v hu).2 with ⟨h, -⟩ | h
  · exact absurd (h.trans hv) hne
  · omega

theorem same_step {of : ℕ → ℕ} {f : Tbl} {n t u : ℕ} (hF : Fin1 of f n) (hS : Same f t n u) (hu : t + 1 < u) :
    it f 4 (t + 1) = it f 4 t ∧ it f 0 (t + 1) = it f 0 t ∧ Same f (t + 1) n u := by
  obtain ⟨h1, h2, h3⟩ := hS
  have h4 := h3 (t + 1) (by omega) hu
  refine ⟨h4, ?_, ⟨hu, h2, fun v hv hv' => by rw [h3 v (by omega) hv', h4]⟩⟩
  rcases (hF.tab.step t (by omega)).2 with ⟨-, h⟩ | h
  · exact h
  · omega

section Inv

variable (c : Dev nD) (V : Hb F c) (f15 : Bf F A15 c) (n : ℕ) (x1 : Bf F A1 c) (rwb : Bf F A14 c) (YI : ℕ → Bf F A7 c → Prop)

/-- Item `t` is its expert's first. -/
def First (t : ℕ) : Prop := t = 0 ∨ it f15 4 t ≠ it f15 4 (t - 1)

/-- The slot that is not `j`'s, when the next expert's first item is `u`. -/
def Next (j u : ℕ) : sProp 𝕄 := if u < n then Flying c V (1 - j % 2) (it f15 0 u) else iprop(Idle c (1 - j % 2) ∗ Hbm c V)

/-- Item `t`'s operands are there; the next expert's are on their way, if there is one. -/
def Mid (t : ℕ) : sProp 𝕄 :=
  iprop(∃ u, ⌜Same f15 t n u ∧ it f15 4 u ≠ it f15 4 t⌝ ∗ Landed c V (it f15 4 t % 2) (it f15 0 t) ∗ Next c V f15 n (it f15 4 t) u)

/-- The two slots before item `t`. -/
def Slots (t : ℕ) : sProp 𝕄 :=
  open Classical in
  if t < n then
    if First c f15 t then iprop(Flying c V (it f15 4 t % 2) (it f15 0 t) ∗ Idle c (1 - it f15 4 t % 2)) else Mid c V f15 n t
  else iprop(Idle c 0 ∗ Idle c 1 ∗ Hbm c V)

theorem mid_next {of : ℕ → ℕ} (hF : Fin1 of f15 n) (t : ℕ) (ht : t < n) : Mid c V f15 n t ⊢ Slots c V f15 n (t + 1) := by
  unfold Mid
  refine ex_elim fun u => pure_sep fun ⟨hS, hne⟩ => ?_
  have h1 := hS.1
  by_cases hu : t + 1 < u
  · obtain ⟨hJ, hE, hS'⟩ := same_step hF hS hu
    have htn : t + 1 < n := by have := hS.2.1; omega
    have hnf : ¬ First c f15 (t + 1) := by
      unfold First
      rintro (h | h)
      · omega
      · exact h hJ
    unfold Slots
    rw [if_pos htn, if_neg hnf]
    unfold Mid
    iintro H
    iexists u
    isplitr
    · ipureintro
      exact ⟨hS', by rw [hJ]; exact hne⟩
    rw [hJ, hE]
    iexact H
  · have hu' : u = t + 1 := by omega
    subst hu'
    unfold Next Slots
    by_cases htn : t + 1 < n
    · have hJ := same_next hF hS htn hne
      have hf : First c f15 (t + 1) := Or.inr (by show it f15 4 (t + 1) ≠ it f15 4 t; omega)
      rw [if_pos htn, if_pos htn, if_pos hf]
      have e1 : 1 - it f15 4 t % 2 = it f15 4 (t + 1) % 2 := by omega
      have e2 : 1 - it f15 4 (t + 1) % 2 = it f15 4 t % 2 := by omega
      rw [e1, e2]
      iintro ⟨HL, HF⟩
      isplitl [HF]; · iexact HF
      iapply (landed_idle c V _ _) $$ HL
    · rw [if_neg htn, if_neg htn]
      rcases Nat.mod_two_eq_zero_or_one (it f15 4 t) with e | e
      · rw [e]
        iintro ⟨HL, HI, HH⟩
        isplitl [HL]; · iapply (landed_idle c V _ _) $$ HL
        isplitl [HI]; · iexact HI
        iexact HH
      · rw [e]
        iintro ⟨HL, HI, HH⟩
        isplitl [HI]; · iexact HI
        isplitl [HL]; · iapply (landed_idle c V _ _) $$ HL
        iexact HH

/-- What an item's arithmetic does to what is said of the result. -/
def YStep : Prop :=
  ∀ t < n, ∀ (W L H : BitVec 32) (s : Fin 2) (hw : W.toNat + 128 ≤ 1536) (f8 : Bf F A8 c) (f9 : Bf F A9 c) (f10 : Bf F A10 c) (f11 : Bf F A11 c)
    (g : Bf F A12 c) (h : Bf F A13 c) (y y' : Bf F A7 c),
    W.toNat = it f15 1 t → L.toNat = it f15 2 t → H.toNat = it f15 3 t → YI t y →
    Holds c A8 A3 s (it f15 0 t) V.V3 f8 → Holds c A9 A4 s (it f15 0 t) V.V4 f9 →
    Holds c A10 A5 s (it f15 0 t) V.V5 f10 → Holds c A11 A6 s (it f15 0 t) V.V6 f11 →
    GuOK c (guT c (rd1 c x1 W.toNat hw) f8 f9 s) 11 g → HOK c (hT c g) 11 h →
    YOK c W.toNat hw y (yB c (k0_pay193 (F := F) L H W) (rd14 c rwb W.toNat hw) (rd13 c h) f10 f11 s) 16 y' → YI (t + 1) y'

/-- The loop's invariant. -/
def Inv (t : ℕ) (a : BitVec 32) : sProp 𝕄 :=
  iprop(∃ (g : Bf F A12 c) (h : Bf F A13 c) (y : Bf F A7 c), ⌜YI t y⌝ ∗ pt A15 c f15 ∗ pt A1 c x1 ∗ pt A14 c rwb ∗ pt A12 c g ∗ pt A13 c h ∗ pt A7 c y
    ∗ (∃ O, owes (c : Thread nD τ) 0 O) ∗ Slots c V f15 n t)

end Inv

section Step

variable (c : Dev nD)

theorem slot8 (s : ℕ) (f : Bf F A8 c) : (Slot c A8 s f : sProp 𝕄) = (A8.view.loc (c : Thread nD τ) ↦[slotSet 2 1024 2816 s]{fullShare} f) :=
  congrArg (fun M => (A8.view.loc (c : Thread nD τ) ↦[M]{fullShare} f : sProp 𝕄)) Finset.map_refl
theorem slot9 (s : ℕ) (f : Bf F A9 c) : (Slot c A9 s f : sProp 𝕄) = (A9.view.loc (c : Thread nD τ) ↦[slotSet 2 16 2816 s]{fullShare} f) :=
  congrArg (fun M => (A9.view.loc (c : Thread nD τ) ↦[M]{fullShare} f : sProp 𝕄)) Finset.map_refl
theorem slot10 (s : ℕ) (f : Bf F A10 c) : (Slot c A10 s f : sProp 𝕄) = (A10.view.loc (c : Thread nD τ) ↦[slotSet 2 704 2048 s]{fullShare} f) :=
  congrArg (fun M => (A10.view.loc (c : Thread nD τ) ↦[M]{fullShare} f : sProp 𝕄)) Finset.map_refl
theorem slot11 (s : ℕ) (f : Bf F A11 c) : (Slot c A11 s f : sProp 𝕄) = (A11.view.loc (c : Thread nD τ) ↦[slotSet 2 11 2048 s]{fullShare} f) :=
  congrArg (fun M => (A11.view.loc (c : Thread nD τ) ↦[M]{fullShare} f : sProp 𝕄)) Finset.map_refl

/-- A step whose result is not used, then the rest. -/
theorem seq_step {α β : Type} (bd : Option ℕ) {p : Pg F β} {k : β → Pg F α} {Q : α → sProp 𝕄} {P : sProp 𝕄} (M : sProp 𝕄)
    (h1 : P ⊢ WP c bd p (fun _ => M)) (h2 : ∀ b, M ⊢ WP c bd (k b) Q) : P ⊢ WP c bd (p >>= k) Q :=
  bind_step c bd (BIBase.Entails.trans h1 (wp_mono _ _ _ fun b => h2 b))

theorem ne0_bit (b : BitVec 1) : Scalar.cmpi .ne (Scalar.extui b : BitVec 32) 0#32 = b := by revert b; decide
theorem ori_bit (a b : BitVec 1) : Scalar.ori a b = 1#1 ↔ a = 1#1 ∨ b = 1#1 := by revert a b; decide
theorem andi_bit (a b : BitVec 1) : Scalar.andi a b = 1#1 ↔ a = 1#1 ∧ b = 1#1 := by revert a b; decide

theorem cond2_iff (f15 : Bf F A15 c) (v1_0 : BitVec 32) (t : Fin (k0_t2_loop v1_0).trips) (v121 v128 : BitVec 32) (ht : t.val < 74)
    (h1 : v121.toNat = it f15 4 t) (h2 : v128.toNat = it f15 4 (t - 1)) : k0_cond2 v1_0 t v121 v128 = 1#1 ↔ First c f15 t := by
  have e : k0_cond2 v1_0 t v121 v128 = Scalar.cmpi .ne (Scalar.extui (Scalar.ori (Scalar.cmpi .eq (Scf.iv 0#32 1#32 t.val) 0#32) (Scalar.cmpi .ne v128 v121)) : BitVec 32) 0#32 := rfl
  rw [e, ne0_bit, ori_bit, cmpi_eq_nat, cmpi_ne_nat, t2_iv _ ht, h1, h2]
  unfold First
  show t.val = 0 ∨ _ ↔ _
  exact or_congr_right ne_comm

theorem cond3_iff (f15 : Bf F A15 c) (v1_0 : BitVec 32) (t : Fin (k0_t2_loop v1_0).trips) (v121 v128 u : BitVec 32) (ht : t.val < 74)
    (h1 : v121.toNat = it f15 4 t) (h2 : v128.toNat = it f15 4 (t - 1)) (hn : v1_0.toNat ≤ 74) (hu : u.toNat ≤ 74) :
    k0_cond3 v1_0 t v121 v128 u = 1#1 ↔ First c f15 t ∧ u.toNat < v1_0.toNat := by
  have e : k0_cond3 v1_0 t v121 v128 u = Scalar.cmpi .ne (Scalar.extui (Scalar.andi (Scalar.ori (Scalar.cmpi .eq (Scf.iv 0#32 1#32 t.val) 0#32) (Scalar.cmpi .ne v128 v121))
    (Scalar.cmpi .slt u v1_0)) : BitVec 32) 0#32 := rfl
  rw [e, ne0_bit, andi_bit, ori_bit, cmpi_eq_nat, cmpi_ne_nat, t2_iv _ ht, h1, h2, cmpi_slt_iff (by omega) (by omega)]
  unfold First
  refine and_congr_left' ?_
  show t.val = 0 ∨ _ ↔ _
  exact or_congr_right ne_comm

/-- The search for the next expert's first item, as a step. -/
theorem search_step {of : ℕ → ℕ} {n : ℕ} {α : Type} (f : Bf F A15 c) (hF : Fin1 of f n) (v1_0 : BitVec 32) (hw2 : k0_chk2 v1_0) (t : Fin (k0_t2_loop v1_0).trips)
    (v113 v115 : BitVec 32) (hw4 : k0_chk4 v115) (v121 v128 : BitVec 32) (hw5 : k0_chk5 v1_0 t v113 v121 v128) (ht : t.val < n) (u : BitVec 32) (hu : u.toNat = t.val + 1)
    {k : BitVec 32 → Pg F α} {Q : α → sProp 𝕄} {X : sProp 𝕄}
    (h : ∀ r : BitVec 32, Same f t.val n r.toNat ∧ it f 4 r.toNat ≠ it f 4 t.val → iprop(pt A15 c f ∗ X) ⊢ WP c none (k r) Q) :
    iprop(pt A15 c f ∗ X) ⊢ WP c none (Prog.lift (.call (2 : (Λ₀ F).Label) ⟨v1_0, hw2, t, v113, v115, hw4, v121, v128, hw5, A15, Memref.isWhole_whole _, u⟩) >>= k) Q := by
  have hS : Same f t.val n u.toNat := by
    rw [hu]
    exact ⟨by omega, by omega, fun v h1 h2 => by rw [show v = t.val by omega]⟩
  refine bind_step c none ?_
  refine BIBase.Entails.trans ?_ (wp_call_spec Variants.nat (c : Thread nD τ) none Set.univ (spec2 c t.val n f) n (fun u hu => by cases hu)
    (while2_le c f hF v1_0 hw2 t v113 v115 hw4 v121 v128 hw5 ht n u hS (by omega)))
  rw [spec2_apply]
  iintro ⟨H, HX⟩
  isplitl [H]; · iexact H
  iintro %r %hr H
  iapply (le_wp_ret _ _ _ _ _)
  iapply (h r hr)
  isplitl [H]; · iexact H
  iexact HX

/-- What the arithmetic of an item starts from. -/
abbrev Pre2 (V : Hb F c) (f15 : Bf F A15 c) (n : ℕ) (x1 : Bf F A1 c) (rwb : Bf F A14 c) (g : Bf F A12 c) (h : Bf F A13 c) (y : Bf F A7 c) (Z : sProp 𝕄) : sProp 𝕄 :=
  iprop(pt A15 c f15 ∗ (pt A1 c x1 ∗ pt A14 c rwb ∗ pt A12 c g ∗ pt A13 c h ∗ pt A7 c y ∗ (∃ O, owes (c : Thread nD τ) 0 O) ∗ Z))

/-- What the arithmetic of an item is handed, to end in `Q`. -/
def Post2 (Q : BitVec 32 → sProp 𝕄) (o : Σ' (v115 : Elt F .i32) (k0_hw4 : k0_chk4 v115) (v117 : Elt F .i32) (v119 : Elt F .i32) (v121 : Elt F .i32) (k0_hw9 : k0_chk9 v121)
    (v122 : BitVec 32) (v123 : BitVec 32) (v140 : Vec F S128x2048 .bf16), IVec S1024x1x256 32) : sProp 𝕄 :=
  iprop(∃ (R : sProp 𝕄) (f8 : Bf F A8 c) (f9 : Bf F A9 c) (f10 : Bf F A10 c) (f11 : Bf F A11 c) (rwb : Bf F A14 c) (g : Bf F A12 c) (h : Bf F A13 c) (y : Bf F A7 c),
        ⌜o.2.2.2.2.2.2.1 = o.1 ∧ o.2.2.2.2.2.2.2.2.2 = k0_pay8 (F := F) (rd8 c f8 (sf o.2.2.2.2.1) 0) ∧
          ∀ (hw : o.1.toNat + 128 ≤ 1536) (g' : Bf F A12 c) (h' : Bf F A13 c) (y' : Bf F A7 c),
            GuOK c (guT c o.2.2.2.2.2.2.2.2.1 f8 f9 (sf o.2.2.2.2.1)) 11 g' → HOK c (hT c g') 11 h' →
            YOK c o.1.toNat hw y (yB c (k0_pay193 (F := F) o.2.2.1 o.2.2.2.1 o.1) (rd14 c rwb o.1.toNat hw) (rd13 c h') f10 f11 (sf o.2.2.2.2.1)) 16 y' →
            St c R (slotOf o.2.2.2.2.1) f8 f9 f10 f11 rwb g' h' y' ⊢ Q 0#32⌝ ∗ St c R (slotOf o.2.2.2.2.1) f8 f9 f10 f11 rwb g h y)

variable (V : Hb F c) (f15 : Bf F A15 c) {of : ℕ → ℕ} (v1_0 : BitVec 32) (x1 : Bf F A1 c) (rwb : Bf F A14 c) (YI : ℕ → Bf F A7 c → Prop)

/-- The two loads that begin an item's arithmetic. -/
theorem trip_tail (hF : Fin1 of f15 v1_0.toNat) (hY : YStep c V f15 v1_0.toNat x1 rwb YI) (t : ℕ) (htn : t < v1_0.toNat)
    (v115 v117 v119 v121 : BitVec 32) (hw4 : k0_chk4 v115) (hw9 : k0_chk9 v121) (hW : v115.toNat = it f15 1 t) (hL : v117.toNat = it f15 2 t)
    (hH : v119.toNat = it f15 3 t) (hJ : v121.toNat = it f15 4 t) (g : Bf F A12 c) (h : Bf F A13 c) (y : Bf F A7 c) (hy : YI t y) :
    Pre2 c V f15 v1_0.toNat x1 rwb g h y (Mid c V f15 v1_0.toNat t) ⊢ WP c none (do
      let v140 : Vec F S128x2048 .bf16 ← Prog.lift (.load A1 (Rect.unit (s := S1536x2048) (k0_off45 v115) S128x2048.size (k0_off45_inb v115 hw4)).toLoadRect (View.loadsAt_vmem h_S128x2048))
      let v142 : Vec F S1x1024x256 .i8 ← Prog.lift (.load A8 (Rect.unit (s := S2x1024x2816) (k0_off46 v121) S1x1024x256.size (k0_off46_inb v121 hw9)).toLoadRect (View.loadsAt_vmem h_S1x1024x256))
      pure ⟨v115, hw4, v117, v119, v121, hw9, v115, Scalar.andi v121 1#32, v140, k0_pay8 v142⟩)
      (Post2 c (Inv c V f15 v1_0.toNat x1 rwb YI (t + 1))) := by
  have hit := hF.tab.item t htn
  have hslot : slotOf v121 = it f15 4 t % 2 := by rw [slotOf_nat, hJ]
  have hw : v115.toNat + 128 ≤ 1536 := by rw [hW]; have := hit.2.2.2.1; omega
  refine BIBase.Entails.trans (Q := iprop(∃ f8 : Bf F A8 c, ∃ f9 : Bf F A9 c, ∃ f10 : Bf F A10 c, ∃ f11 : Bf F A11 c,
    ⌜Holds c A8 A3 (slotOf v121) (it f15 0 t) V.V3 f8 ∧ Holds c A9 A4 (slotOf v121) (it f15 0 t) V.V4 f9
      ∧ Holds c A10 A5 (slotOf v121) (it f15 0 t) V.V5 f10 ∧ Holds c A11 A6 (slotOf v121) (it f15 0 t) V.V6 f11⌝
    ∗ St c iprop(pt A15 c f15 ∗ pt A1 c x1 ∗ (∃ O, owes (c : Thread nD τ) 0 O) ∗ Sems c (slotOf v121)
        ∗ ∃ u, ⌜Same f15 t v1_0.toNat u ∧ it f15 4 u ≠ it f15 4 t⌝ ∗ Next c V f15 v1_0.toNat (it f15 4 t) u)
      (slotOf v121) f8 f9 f10 f11 rwb g h y)) ?_ ?_
  · unfold Mid Landed St
    rw [← hslot]
    iintro ⟨H15, H1, H14, H12, H13, H7, HO, %u, %hu, ⟨⟨%f8, %h8, H8⟩, ⟨%f9, %h9, H9⟩, ⟨%f10, %h10, H10⟩, ⟨%f11, %h11, H11⟩, Hs⟩, HN⟩
    iexists f8
    iexists f9
    iexists f10
    iexists f11
    isplitr
    · ipureintro; exact ⟨h8, h9, h10, h11⟩
    rw [← slot8, ← slot9, ← slot10, ← slot11]
    iframe
    iexists u
    isplitr
    · ipureintro; exact hu
    iexact HN
  refine ex_elim fun f8 => ex_elim fun f9 => ex_elim fun f10 => ex_elim fun f11 => pure_sep fun ⟨h8, h9, h10, h11⟩ => ?_
  refine load_step c none (Sd := Finset.univ) (q := fullShare) x1 ?_ (Finset.subset_univ _) ?_
  · unfold St
    iintro ⟨H8, H9, H10, H11, H14, H12, H13, H7, H15, H1, HR⟩
    isplitl [H1]
    · iexact H1
    iintro H1
    iframe
  refine ld8 (unit_sub_slotSet _ rfl rfl) ?_
  refine pure_step c none ?_
  unfold Post2
  iintro HS
  iexists _
  iexists f8
  iexists f9
  iexists f10
  iexists f11
  iexists rwb
  iexists g
  iexists h
  iexists y
  isplitr
  swap; · iexact HS
  ipureintro
  refine ⟨rfl, rfl, fun hw' g' h' y' hG hH' hY' => ?_⟩
  have hyn := hY t htn v115 v117 v119 (sf v121) hw f8 f9 f10 f11 g' h' y y' hW hL hH hy h8 h9 h10 h11 hG hH' hY'
  have hmid := mid_next c V f15 v1_0.toNat hF t htn
  refine BIBase.Entails.trans (Q := Pre2 c V f15 v1_0.toNat x1 rwb g' h' y' (Mid c V f15 v1_0.toNat t)) ?_ ?_
  · unfold Pre2 Mid Landed St
    rw [← hslot, ← slot8, ← slot9, ← slot10, ← slot11]
    iintro ⟨H8, H9, H10, H11, H14, H12, H13, H7, H15, H1, HO, Hs, %u, %hu, HN⟩
    iframe
    iexists u
    isplitr
    · ipureintro; exact hu
    isplitr [HN]
    swap; · iexact HN
    isplitl [H8]
    · iexists f8; isplitr; · ipureintro; exact h8
      iexact H8
    isplitl [H9]
    · iexists f9; isplitr; · ipureintro; exact h9
      iexact H9
    isplitl [H10]
    · iexists f10; isplitr; · ipureintro; exact h10
      iexact H10
    isplitl [H11]
    · iexists f11; isplitr; · ipureintro; exact h11
      iexact H11
    iexact Hs
  unfold Inv
  iintro ⟨H15, H1, H14, H12, H13, H7, HO, HM⟩
  iexists g'
  iexists h'
  iexists y'
  isplitr
  · ipureintro; exact hyn
  ihave HM := hmid $$ HM
  iframe

set_option maxHeartbeats 4000000 in
theorem trip (hF : Fin1 of f15 v1_0.toNat) (hY : YStep c V f15 v1_0.toNat x1 rwb YI) (hw2 : k0_chk2 v1_0) (t : Fin (k0_t2_loop v1_0).trips) (a : BitVec 32) :
    Inv c V f15 v1_0.toNat x1 rwb YI t.val a ⊢ WP c none (k0_t2_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8 v1_0 hw2 t a) (Inv c V f15 v1_0.toNat x1 rwb YI (t.val + 1)) := by
  have hn := hF.len
  have htn : t.val < v1_0.toNat := by have h1 := t.isLt; have h2 := t2_trips v1_0 hn; omega
  have ht74 : t.val < 74 := by omega
  have hit := hF.tab.item t.val htn
  refine trip_compute ?_
  refine BIBase.Entails.trans (Q := iprop(∃ g : Bf F A12 c, ∃ h : Bf F A13 c, ∃ y : Bf F A7 c, ⌜YI t.val y⌝ ∗ Pre2 c V f15 v1_0.toNat x1 rwb g h y (Slots c V f15 v1_0.toNat t.val))) ?_ ?_
  · exact BIBase.Entails.refl
  refine ex_elim fun g => ex_elim fun h => ex_elim fun y => pure_sep fun hy => ?_
  show _ ⊢ WP c none _ (Post2 c (Inv c V f15 v1_0.toNat x1 rwb YI (t.val + 1)))
  rw [k0_part2_eq_skeleton]
  unfold k0_part2_skel
  dsimp only
  refine tld c none f15 0 t.val ?_ (by omega) fun v113 hE => ?_
  · show ![0, (Scf.iv 0#32 1#32 t.val).toNat] = _
    rw [t2_iv _ ht74]; rfl
  refine tld c none f15 1 t.val ?_ (by omega) fun v115 hW => ?_
  · show ![1, (Scf.iv 0#32 1#32 t.val).toNat] = _
    rw [t2_iv _ ht74]; rfl
  refine assume_step c none (chk4_of v115 (by rw [hW]; exact hit.2.2.2.2.1) (by rw [hW]; exact hit.2.2.2.1)) ?_
  refine tld c none f15 2 t.val ?_ (by omega) fun v117 hL => ?_
  · show ![2, (Scf.iv 0#32 1#32 t.val).toNat] = _
    rw [t2_iv _ ht74]; rfl
  refine tld c none f15 3 t.val ?_ (by omega) fun v119 hH => ?_
  · show ![3, (Scf.iv 0#32 1#32 t.val).toNat] = _
    rw [t2_iv _ ht74]; rfl
  refine tld c none f15 4 t.val ?_ (by omega) fun v121 hJ => ?_
  · show ![4, (Scf.iv 0#32 1#32 t.val).toNat] = _
    rw [t2_iv _ ht74]; rfl
  refine assume_step c none (chk9_of v121) ?_
  refine tld c none f15 4 (t.val - 1) ?_ (by omega) fun v128 hJ' => ?_
  · show ![4, (Scalar.maxsi (Scalar.subi (Scf.iv 0#32 1#32 t.val) 1#32) 0#32).toNat] = _
    rw [prev_nat _ ht74]; rfl
  have hE60 : v113.toNat < 60 := by rw [hE]; exact hit.1
  refine assume_step c none (chk5_of v1_0 t v113 v121 v128 hE60) ?_
  have hslot : slotOf v121 = it f15 4 t.val % 2 := by rw [slotOf_nat, hJ]
  have hs2 : it f15 4 t.val % 2 < 2 := Nat.mod_lt _ (by decide)
  have hc2 := cond2_iff c f15 v1_0 t v121 v128 ht74 hJ hJ'
  have hos : (1 - it f15 4 t.val % 2) < 2 := by omega
  have oslot : (Scalar.subi 1#32 (Scalar.andi v121 1#32)).toNat = 1 - it f15 4 t.val % 2 := by rw [other_lt, hslot]
  have hu1 : (Scalar.addi (Scf.iv 0#32 1#32 t.val) 1#32).toNat = t.val + 1 := by
    rw [addi_nat (by rw [t2_iv _ ht74]; show _ + 1 < _; omega), t2_iv _ ht74]; rfl
  have htail := fun hw4 hw9 => trip_tail c V f15 v1_0 x1 rwb YI hF hY t.val htn v115 v117 v119 v121 hw4 hw9 hW hL hH hJ g h y hy
  unfold Slots
  rw [if_pos htn]
  refine dite_step c none (fun hc => ?_) (fun hc => ?_)
  · have hf := hc2.mp hc
    rw [if_pos hf]
    refine BIBase.Entails.trans (Q := iprop((Flying c V (it f15 4 t.val % 2) (it f15 0 t.val) ∗ ∃ O, owes (c : Thread nD τ) 0 O)
      ∗ (pt A15 c f15 ∗ pt A1 c x1 ∗ pt A14 c rwb ∗ pt A12 c g ∗ pt A13 c h ∗ pt A7 c y ∗ Idle c (1 - it f15 4 t.val % 2)))) ?_ ?_
    · iintro ⟨H15, H1, H14, H12, H13, H7, HO, HF, HI⟩
      iframe
    refine waits4 c V none (it f15 4 t.val % 2) (it f15 0 t.val) ?_ ?_ ?_ ?_ ?_
    · exact cell_eq _ _ 0 hs2 (by rw [← hslot]; rfl)
    · exact cell_eq _ _ 1 hs2 (by rw [← hslot]; rfl)
    · exact cell_eq _ _ 2 hs2 (by rw [← hslot]; rfl)
    · exact cell_eq _ _ 3 hs2 (by rw [← hslot]; rfl)
    refine BIBase.Entails.trans (Q := iprop(pt A15 c f15 ∗ (pt A1 c x1 ∗ pt A14 c rwb ∗ pt A12 c g ∗ pt A13 c h ∗ pt A7 c y ∗ (∃ O, owes (c : Thread nD τ) 0 O)
      ∗ Landed c V (it f15 4 t.val % 2) (it f15 0 t.val) ∗ Hbm c V ∗ Idle c (1 - it f15 4 t.val % 2)))) ?_ ?_
    · iintro ⟨⟨HL, HH, HO⟩, H15, H1, H14, H12, H13, H7, HI⟩
      iframe
    refine search_step c f15 hF v1_0 hw2 t v113 v115 _ v121 v128 _ htn _ hu1 fun r hr => ?_
    obtain ⟨hS, hne⟩ := hr
    have hr74 : r.toNat ≤ 74 := by have := hS.2.1; omega
    refine assume_step c none (chk7_of v1_0 t v121 v128 r (by omega)) ?_
    have hc3 := cond3_iff c f15 v1_0 t v121 v128 r ht74 hJ hJ' hn hr74
    refine dite_step c none (fun hc => ?_) (fun hc => ?_)
    · obtain ⟨hf, hrn⟩ := hc3.mp hc
      refine tld c none f15 0 r.toNat rfl (by omega) fun v2510 hE' => ?_
      have hE60' : v2510.toNat < 60 := by rw [hE']; exact (hF.tab.item r.toNat hrn).1
      refine assume_step c none (chk8_of v1_0 t v121 v128 r v2510 hE60') ?_
      refine BIBase.Entails.trans (Q := iprop((Idle c (1 - it f15 4 t.val % 2) ∗ Hbm c V)
        ∗ (pt A15 c f15 ∗ pt A1 c x1 ∗ pt A14 c rwb ∗ pt A12 c g ∗ pt A13 c h ∗ pt A7 c y ∗ (∃ O, owes (c : Thread nD τ) 0 O)
          ∗ Landed c V (it f15 4 t.val % 2) (it f15 0 t.val)))) ?_ ?_
      · iintro ⟨H15, H1, H14, H12, H13, H7, HO, HL, HH, HI⟩
        iframe
      refine starts4 c V none (1 - it f15 4 t.val % 2) (it f15 0 r.toNat) ?_ ?_ ?_ ?_ ?_ ?_ ?_ ?_ ?_ ?_ ?_ ?_ ?_
      · exact cell_eq _ _ 0 hos (by rw [← oslot]; rfl)
      · exact cell_eq _ _ 1 hos (by rw [← oslot]; rfl)
      · exact cell_eq _ _ 2 hos (by rw [← oslot]; rfl)
      · exact cell_eq _ _ 3 hos (by rw [← oslot]; rfl)
      · rw [← hE']; rfl
      · rw [← hE']; rfl
      · rw [← hE']; rfl
      · rw [← hE']; rfl
      · rw [← oslot]; rfl
      · rw [← oslot]; rfl
      · rw [← oslot]; rfl
      · rw [← oslot]; rfl
      refine BIBase.Entails.trans ?_ (htail _ _)
      unfold Pre2 Mid Next
      iintro ⟨HF, H15, H1, H14, H12, H13, H7, HO, HL⟩
      iframe
      iexists r.toNat
      isplitr
      · ipureintro; exact ⟨hS, hne⟩
      rw [if_pos hrn]
      iframe
    · have hrn : ¬ r.toNat < v1_0.toNat := fun h => hc (hc3.mpr ⟨hf, h⟩)
      refine BIBase.Entails.trans ?_ (htail _ _)
      unfold Pre2 Mid Next
      iintro ⟨H15, H1, H14, H12, H13, H7, HO, HL, HH, HI⟩
      iframe
      iexists r.toNat
      isplitr
      · ipureintro; exact ⟨hS, hne⟩
      rw [if_neg hrn]
      iframe
  · have hf : ¬ First c f15 t.val := fun h => hc (hc2.mpr h)
    rw [if_neg hf]
    refine search_step c f15 hF v1_0 hw2 t v113 v115 _ v121 v128 _ htn _ hu1 fun r hr => ?_
    obtain ⟨hS, hne⟩ := hr
    have hr74 : r.toNat ≤ 74 := by have := hS.2.1; omega
    refine assume_step c none (chk7_of v1_0 t v121 v128 r (by omega)) ?_
    have hc3 := cond3_iff c f15 v1_0 t v121 v128 r ht74 hJ hJ' hn hr74
    refine dite_step c none (fun hc => absurd (hc3.mp hc).1 hf) (fun hc => ?_)
    exact htail _ _

end Step

end Cert.Kernel.Hand

end
-- ==== Proof.Kernel.Body.lean ====
/-
  The whole kernel body: the list is built and its end marked, the first expert's operands are started, the
  result is cleared and the row weights are spread over lanes, and then every item is run.
-/
module

public import proofs.«01_k».proof.Proof.Kernel.Step

@[expose] public section

noncomputable section

namespace Cert.Kernel.Hand

open Cert.Kernel Cert.Kernel.Gen Cert.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Fill

variable (c : Dev nD)

theorem inbR2 {k : ℕ} (hk : k < 12) : ∀ a, (![k, 0] : Fin 2 → ℕ) a + S1x128.size a ≤ S12x128.size a := by
  intro a; fin_cases a <;> simp [Shape.size] <;> omega

/-- Row `k` of the row weights. -/
def rd2 (f : Bf F A2 c) (k : Fin 12) : Vec F S1x128 .f32 :=
  A2.view.readAt (Elt F) (Rect.unit (s := S12x128) ![k.val, 0] S1x128.size (inbR2 k.2)).toLoadRect f

/-- The first `128 * n` rows of the spread row weights are there. -/
def RWOK (f2 : Bf F A2 c) (n : ℕ) (f : Bf F A14 c) : Prop :=
  ∀ i : S1536x128.Idx, (i 0).val < 128 * n →
    f i = k0_pay575 (F := F) (rd2 c f2 ⟨(i 0).val / 128, by have := (i 0).isLt; simp [Shape.size] at this; omega⟩)
      (ix2 ⟨(i 0).val % 128, Nat.mod_lt _ (by decide)⟩ (i 1))

/-- The result is cleared. -/
def Y0 (y : Bf F A7 c) : Prop := ∀ i : S1536x2048.Idx, y i = k0_pay574 (F := F) i

/-- The buffers that are filled. -/
abbrev FS (f2 : Bf F A2 c) (y : Bf F A7 c) (f14 : Bf F A14 c) (X : sProp 𝕄) : sProp 𝕄 := iprop(pt A2 c f2 ∗ pt A7 c y ∗ pt A14 c f14 ∗ X)

variable {c}
variable {α : Type} {f2 : Bf F A2 c} {y : Bf F A7 c} {f14 : Bf F A14 c} {X : sProp (MT nD τ sig Unit (Elt F) ℕ (Pipeline.UD sig nD τ) ℕ)} {Q : α → sProp (MT nD τ sig Unit (Elt F) ℕ (Pipeline.UD sig nD τ) ℕ)}

theorem fl2 {r : Rect S12x128} {hl : A2.view.LoadsAt r.toLoadRect} {k : (r.shape.Idx → Elt F _) → Pg F α}
    (hk : FS c f2 y f14 X ⊢ WP c none (k (A2.view.readAt (Elt F) r.toLoadRect f2)) Q) :
    FS c f2 y f14 X ⊢ WP c none (Prog.lift (.load A2 r.toLoadRect hl) >>= k) Q := by
  refine load_step c none (Sd := Finset.univ) (q := fullShare) f2 ?_ (Finset.subset_univ _) hk
  iintro ⟨H2, H7, H14, HX⟩
  isplitl [H2]
  · iexact H2
  iintro H2
  unfold FS
  iframe

theorem fl14 {r : Rect S1536x128} {hl : A14.view.LoadsAt r.toLoadRect} {k : (r.shape.Idx → Elt F _) → Pg F α}
    (hk : FS c f2 y f14 X ⊢ WP c none (k (A14.view.readAt (Elt F) r.toLoadRect f14)) Q) :
    FS c f2 y f14 X ⊢ WP c none (Prog.lift (.load A14 r.toLoadRect hl) >>= k) Q := by
  refine load_step c none (Sd := Finset.univ) (q := fullShare) f14 ?_ (Finset.subset_univ _) hk
  iintro ⟨H2, H7, H14, HX⟩
  isplitl [H14]
  · iexact H14
  iintro H14
  unfold FS
  iframe

theorem fl7 {r : Rect S1536x2048} {hl : A7.view.LoadsAt r.toLoadRect} {k : (r.shape.Idx → Elt F _) → Pg F α}
    (hk : FS c f2 y f14 X ⊢ WP c none (k (A7.view.readAt (Elt F) r.toLoadRect y)) Q) :
    FS c f2 y f14 X ⊢ WP c none (Prog.lift (.load A7 r.toLoadRect hl) >>= k) Q := by
  refine load_step c none (Sd := Finset.univ) (q := fullShare) y ?_ (Finset.subset_univ _) hk
  iintro ⟨H2, H7, H14, HX⟩
  isplitl [H7]
  · iexact H7
  iintro H7
  unfold FS
  iframe

theorem fs7 {inb : ∀ a, (![0, 0] : Fin 2 → ℕ) a + S1536x2048.size a ≤ S1536x2048.size a} {hx hm} {k : PUnit → Pg F α}
    (hk : ∀ y', Y0 c y' → FS c f2 y' f14 X ⊢ WP c none (k ⟨⟩) Q) :
    FS c f2 y f14 X ⊢ WP c none (Prog.lift (.store A7 (Rect.unit (s := S1536x2048) ![0, 0] S1536x2048.size inb) (k0_pay574 (F := F)) Finset.univ hx hm) >>= k) Q := by
  refine store_step c none (P' := FS c f2 ((A7.access (Rect.unit (s := S1536x2048) ![0, 0] S1536x2048.size inb)).write (Elt F) y (k0_pay574 (F := F)) Finset.univ) f14 X)
    y ?_ (hk _ ?_)
  · iintro ⟨H2, H7, H14, HX⟩
    isplitl [H7]
    · iexact H7
    iintro H7
    unfold FS
    iframe
  · intro i
    have e : (Rect.unit (s := S1536x2048) ![0, 0] S1536x2048.size inb).emb i = i := by
      funext a; apply Fin.ext; rw [emb_unit_val]
      fin_cases a <;> simp
    have := write_whole_in cc0_stg3_0 (Rect.unit (s := S1536x2048) ![0, 0] S1536x2048.size inb) y (k0_pay574 (F := F)) i
    rw [e] at this
    exact this

theorem fs14 {n : ℕ} (hG : RWOK c f2 n f14) (hn : n < 12)
    {off : Fin 2 → ℕ} {inb : ∀ a, off a + S128x128.size a ≤ S1536x128.size a} {w : FVec F S128x128 .f32} {hx hm} {k : PUnit → Pg F α}
    (ho : off = ![128 * n, 0]) (hw : w = k0_pay575 (F := F) (rd2 c f2 ⟨n, hn⟩))
    (hk : ∀ f', RWOK c f2 (n + 1) f' → FS c f2 y f' X ⊢ WP c none (k ⟨⟩) Q) :
    FS c f2 y f14 X ⊢ WP c none (Prog.lift (.store A14 (Rect.unit (s := S1536x128) off S128x128.size inb) w Finset.univ hx hm) >>= k) Q := by
  subst ho; subst hw
  refine store_step c none (P' := FS c f2 y
    ((A14.access (Rect.unit (s := S1536x128) ![128 * n, 0] S128x128.size inb)).write (Elt F) f14 (k0_pay575 (F := F) (rd2 c f2 ⟨n, hn⟩)) Finset.univ) X) f14 ?_ (hk _ ?_)
  · iintro ⟨H2, H7, H14, HX⟩
    isplitl [H14]
    · iexact H14
    iintro H14
    unfold FS
    iframe
  · intro i hi
    have hi1 : (i 1).val < 128 := (i 1).isLt
    have hi0 : (i 0).val < 1536 := (i 0).isLt
    by_cases hin : 128 * n ≤ (i 0).val
    · have hd : (i 0).val / 128 = n := by omega
      have e : (Rect.unit (s := S1536x128) ![128 * n, 0] S128x128.size inb).emb (ix2 ⟨(i 0).val % 128, Nat.mod_lt _ (by decide)⟩ (i 1)) = i := by
        funext a; apply Fin.ext; rw [emb_unit_val]
        fin_cases a <;> simp [ix2] <;> omega
      have := write_whole_in cc0_scratch6 (Rect.unit (s := S1536x128) ![128 * n, 0] S128x128.size inb) f14 (k0_pay575 (F := F) (rd2 c f2 ⟨n, hn⟩))
        (ix2 ⟨(i 0).val % 128, Nat.mod_lt _ (by decide)⟩ (i 1))
      rw [e] at this
      refine this.trans ?_
      subst hd; rfl
    · refine (write_whole_out cc0_scratch6 _ f14 _ ?_).trans (hG i (by omega))
      intro hm
      have := (Rect.mem_set_unit.mp hm) 0
      simp at this; omega

theorem rwok0 : RWOK c f2 0 f14 := fun i hi => by omega

/-- Clearing the result and the first two rows of row weights. -/
theorem fill112 (v1_0 : BitVec 32) (hw2 : k0_chk2 v1_0) {Q : (Σ' (v1_0 : BitVec 32) (k0_hw2 : k0_chk2 v1_0), FVec F S128x128 .f32) → sProp (MT nD τ sig Unit (Elt F) ℕ (Pipeline.UD sig nD τ) ℕ)} {hl8 hx8 hm8 hl9 hl14 hx14 hm14 hl17 hl22 hx22 hm22 hl25}
    (hk : ∀ y' f', Y0 c y' → RWOK c f2 2 f' → FS c f2 y' f' X ⊢ Q ⟨v1_0, hw2, k0_pay577 (rd2 c f2 ⟨2, by decide⟩)⟩) :
    FS c f2 y f14 X ⊢ WP c none (do
      let v8 : Vec F S1536x2048 .bf16 ← Prog.lift (.load A7 (Rect.unit (s := S1536x2048) ![0, 0] S1536x2048.size inb_S1536x2048_S1536x2048_0_0).toLoadRect hl8)
      Prog.lift (.store A7 (Rect.unit (s := S1536x2048) ![0, 0] S1536x2048.size inb_S1536x2048_S1536x2048_0_0) (k0_pay574 (F := F)) Finset.univ hx8 hm8)
      let v9 : Vec F S1x128 .f32 ← Prog.lift (.load A2 (Rect.unit (s := S12x128) ![0, 0] S1x128.size inb_S12x128_S1x128_0_0).toLoadRect hl9)
      let v14 : Vec F S128x128 .f32 ← Prog.lift (.load A14 (Rect.unit (s := S1536x128) ![0, 0] S128x128.size inb_S1536x128_S128x128_0_0).toLoadRect hl14)
      Prog.lift (.store A14 (Rect.unit (s := S1536x128) ![0, 0] S128x128.size inb_S1536x128_S128x128_0_0) (k0_pay575 v9) Finset.univ hx14 hm14)
      let v17 : Vec F S1x128 .f32 ← Prog.lift (.load A2 (Rect.unit (s := S12x128) ![1, 0] S1x128.size inb_S12x128_S1x128_1_0).toLoadRect hl17)
      let v22 : Vec F S128x128 .f32 ← Prog.lift (.load A14 (Rect.unit (s := S1536x128) ![128, 0] S128x128.size inb_S1536x128_S128x128_128_0).toLoadRect hl22)
      Prog.lift (.store A14 (Rect.unit (s := S1536x128) ![128, 0] S128x128.size inb_S1536x128_S128x128_128_0) (k0_pay576 v17) Finset.univ hx22 hm22)
      let v25 : Vec F S1x128 .f32 ← Prog.lift (.load A2 (Rect.unit (s := S12x128) ![2, 0] S1x128.size inb_S12x128_S1x128_2_0).toLoadRect hl25)
      pure ⟨v1_0, hw2, k0_pay577 v25⟩) Q := by
  refine fl7 ?_
  refine fs7 fun y' hy => ?_
  refine fl2 ?_
  refine fl14 ?_
  refine fs14 (n := 0) rwok0 (by decide) rfl rfl fun f' hf => ?_
  refine fl2 ?_
  refine fl14 ?_
  refine fs14 (n := 1) hf (by decide) rfl rfl fun f'' hf' => ?_
  refine fl2 ?_
  exact pure_step c none (hk _ _ hy hf')

theorem part113 (hG : RWOK c f2 2 f14) (v29 : FVec F S128x128 .f32) (hv : v29 = k0_pay577 (rd2 c f2 ⟨2, by decide⟩)) {Q : PUnit → sProp (MT nD τ sig Unit (Elt F) ℕ (Pipeline.UD sig nD τ) ℕ)}
    (hk : ∀ f', RWOK c f2 7 f' → FS c f2 y f' X ⊢ Q ⟨⟩) :
    FS c f2 y f14 X ⊢ WP c none (k0_part113 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8 v29) Q := by
  subst hv
  rw [k0_part113_eq_skeleton]
  unfold k0_part113_skel
  dsimp only
  refine fl14 ?_
  refine fs14 (n := 2) hG (by decide) rfl rfl fun f3 h3 => ?_
  refine fl2 ?_
  refine fl14 ?_
  refine fs14 (n := 3) h3 (by decide) rfl rfl fun f4 h4 => ?_
  refine fl2 ?_
  refine fl14 ?_
  refine fs14 (n := 4) h4 (by decide) rfl rfl fun f5 h5 => ?_
  refine fl2 ?_
  refine fl14 ?_
  refine fs14 (n := 5) h5 (by decide) rfl rfl fun f6 h6 => ?_
  refine fl2 ?_
  refine fl14 ?_
  refine fs14 (n := 6) h6 (by decide) rfl rfl fun f7 h7 => ?_
  exact pure_step c none (hk _ h7)

theorem part114 (hG : RWOK c f2 7 f14) {Q : (Σ' (v101 : FVec F S128x128 .f32), Vec F S128x128 .f32) → sProp (MT nD τ sig Unit (Elt F) ℕ (Pipeline.UD sig nD τ) ℕ)}
    (hk : ∀ f' v, RWOK c f2 11 f' → FS c f2 y f' X ⊢ Q ⟨k0_pay587 (rd2 c f2 ⟨11, by decide⟩), v⟩) :
    FS c f2 y f14 X ⊢ WP c none (k0_part114 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8) Q := by
  rw [k0_part114_eq_skeleton]
  unfold k0_part114_skel
  dsimp only
  refine fl2 ?_
  refine fl14 ?_
  refine fs14 (n := 7) hG (by decide) rfl rfl fun f3 h3 => ?_
  refine fl2 ?_
  refine fl14 ?_
  refine fs14 (n := 8) h3 (by decide) rfl rfl fun f4 h4 => ?_
  refine fl2 ?_
  refine fl14 ?_
  refine fs14 (n := 9) h4 (by decide) rfl rfl fun f5 h5 => ?_
  refine fl2 ?_
  refine fl14 ?_
  refine fs14 (n := 10) h5 (by decide) rfl rfl fun f6 h6 => ?_
  refine fl2 ?_
  refine fl14 ?_
  exact pure_step c none (hk _ _ h6)

end Fill

section Body

variable (c : Dev nD) (V : Hb F c)

/-- A loop at the head of a program, by an invariant, with a resource the loop does not touch. -/
theorem for_step {σ β : Type} {lb ub st : BitVec 32} {hok : Scf.OK lb ub st} {init : σ} {bd : Fin (Scf.trips lb ub st) → σ → Pg F σ} (I : ℕ → σ → sProp 𝕄)
    (hbody : ∀ t a, I t.val a ⊢ WP c none (bd t a) (I (t.val + 1))) {X : sProp 𝕄} {kk : σ → Pg F β} {Q : β → sProp 𝕄}
    (hk : ∀ acc, iprop(I (Scf.trips lb ub st) acc ∗ X) ⊢ WP c none (kk acc) Q) :
    iprop(I 0 init ∗ X) ⊢ WP c none (Scf.for lb ub st hok init bd >>= kk) Q := by
  have hloop : I 0 init ⊢ iprop((∀ acc, I (Scf.trips lb ub st) acc -∗ WP c none (kk acc) Q) -∗ WP c none (Scf.for lb ub st hok init bd >>= kk) Q) :=
    Scf.wp_for_bind frame (wpE (defs₀ (F := F)) Variants.nat (c : Thread nD τ) none) Set.univ lb ub st hok init bd I hbody
  iintro ⟨HI, HX⟩
  iapply hloop $$ HI
  iintro %acc HI
  iapply (hk acc)
  isplitl [HI]; · iexact HI
  iexact HX

/-- The first expert's operands are started. -/
theorem part1 (f15 : Bf F A15 c) {of : ℕ → ℕ} (v1_0 : BitVec 32) (h1 : k0_cond1 v1_0 = 1#1) (hF : Fin1 of f15 v1_0.toNat) (hn : 0 < v1_0.toNat) {X : sProp 𝕄} {Q : PUnit → sProp 𝕄}
    (hk : iprop(Flying c V 0 (it f15 0 0) ∗ (pt A15 c f15 ∗ X)) ⊢ Q ⟨⟩) :
    iprop(pt A15 c f15 ∗ ((Idle c 0 ∗ Hbm c V) ∗ X)) ⊢ WP c none (k0_part1 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8 v1_0 h1) Q := by
  rw [k0_part1_eq_skeleton]
  unfold k0_part1_skel
  dsimp only
  refine tld c none f15 0 0 rfl (by decide) fun v112 hE => ?_
  refine assume_step c none (chk3_of v1_0 v112 (by rw [hE]; exact (hF.tab.item 0 hn).1)) ?_
  refine BIBase.Entails.trans (Q := iprop((Idle c 0 ∗ Hbm c V) ∗ (pt A15 c f15 ∗ X))) ?_ ?_
  · iintro ⟨H15, HI, HX⟩
    iframe
  refine starts4 c V none 0 (it f15 0 0) ?_ ?_ ?_ ?_ ?_ ?_ ?_ ?_ ?_ ?_ ?_ ?_ ?_
  · exact cell_eq _ 0 0 (by decide) rfl
  · exact cell_eq _ 0 1 (by decide) rfl
  · exact cell_eq _ 0 2 (by decide) rfl
  · exact cell_eq _ 0 3 (by decide) rfl
  · rw [← hE]; rfl
  · rw [← hE]; rfl
  · rw [← hE]; rfl
  · rw [← hE]; rfl
  · rfl
  · rfl
  · rfl
  · rfl
  exact pure_step c none hk

theorem cond1_iff (n : BitVec 32) (h : n.toNat ≤ 74) : k0_cond1 n = 1#1 ↔ 0 < n.toNat := by
  have e : k0_cond1 n = Scalar.cmpi .ne (Scalar.extui (Scalar.cmpi .sgt n 0#32) : BitVec 32) 0#32 := rfl
  rw [e, ne0_bit]
  exact (cmpi_slt_iff (x := 0#32) (y := n) (by decide) (by omega))

theorem offs_zero (f0 : Bf F A0 c) : offs c f0 0 = 0 := rfl

theorem offs_61 (f0 : Bf F A0 c) : offs c f0 61 = offs c f0 60 := by
  unfold offs
  rw [Finset.sum_range_succ]
  simp

/-- What is held before the items run. -/
def Ready (f0 : Bf F A0 c) (x1 : Bf F A1 c) (f2 : Bf F A2 c) (o : Σ' (v1_0 : BitVec 32) (k0_hw2 : k0_chk2 v1_0), FVec F S128x128 .f32) : sProp 𝕄 :=
  iprop(∃ (f15 : Bf F A15 c) (y : Bf F A7 c) (f14 : Bf F A14 c), ⌜Fin1 (offs c f0) f15 o.1.toNat ∧ Y0 c y ∧ RWOK c f2 2 f14 ∧ o.2.2 = k0_pay577 (rd2 c f2 ⟨2, by decide⟩)⌝
    ∗ FS c f2 y f14 iprop(pt A0 c f0 ∗ pt A1 c x1 ∗ pt A15 c f15 ∗ (∃ g, pt A12 c g) ∗ (∃ h, pt A13 c h) ∗ (∃ O, owes (c : Thread nD τ) 0 O) ∗ Slots c V f15 o.1.toNat 0))

/-- What the body starts from. -/
def Start (f0 : Bf F A0 c) (x1 : Bf F A1 c) (f2 : Bf F A2 c) : sProp 𝕄 :=
  iprop(pt A0 c f0 ∗ pt A1 c x1 ∗ pt A2 c f2 ∗ (∃ y, pt A7 c y) ∗ Idle c 0 ∗ Idle c 1 ∗ (∃ g, pt A12 c g) ∗ (∃ h, pt A13 c h) ∗ (∃ f14, pt A14 c f14)
    ∗ (∃ f15, pt A15 c f15) ∗ Hbm c V ∗ ∃ O, owes (c : Thread nD τ) 0 O)

set_option maxHeartbeats 4000000 in
theorem part112 (f0 : Bf F A0 c) (x1 : Bf F A1 c) (f2 : Bf F A2 c) (ho : offs c f0 60 ≤ 1536) :
    Start c V f0 x1 f2 ⊢ WP c none (k0_part112 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8) (Ready c V f0 x1 f2) := by
  rw [k0_part112_eq_skeleton]
  unfold k0_part112_skel
  dsimp only
  refine BIBase.Entails.trans (Q := iprop(inv1 c f0 0 (0#32, 0#32, 0#32) ∗ (pt A1 c x1 ∗ pt A2 c f2 ∗ (∃ y, pt A7 c y) ∗ Idle c 0 ∗ Idle c 1 ∗ (∃ g, pt A12 c g) ∗ (∃ h, pt A13 c h)
    ∗ (∃ f14, pt A14 c f14) ∗ Hbm c V ∗ ∃ O, owes (c : Thread nD τ) 0 O))) ?_ ?_
  · unfold Start inv1
    iintro ⟨H0, H1, H2, H7, HI0, HI1, H12, H13, H14, ⟨%f15, H15⟩, HH, HO⟩
    isplitl [H0 H15]
    · iexists f15
      isplitr
      · ipureintro
        exact ⟨Cur.start f15 (offs_zero c f0), rfl⟩
      isplitl [H15]; · iexact H15
      iexact H0
    iframe
  refine for_step c (fun t a => inv1 c f0 t a) (fun t a => t1_trip c f0 ho t a) (fun acc => ?_)
  obtain ⟨n, na, lo⟩ := acc
  dsimp only
  rw [show Scf.trips (0#32) (Scalar.addi 0#32 60#32) 1#32 = 60 from t1_trips]
  unfold inv1
  dsimp only
  refine BIBase.Entails.trans (Q := iprop(∃ f15 : Bf F A15 c, (⌜Cur (offs c f0) f15 60 n.toNat (offs c f0 60) na.toNat ∧ lo.toNat = offs c f0 60⌝
    ∗ pt A15 c f15 ∗ (pt A0 c f0 ∗ pt A1 c x1 ∗ pt A2 c f2 ∗ (∃ y, pt A7 c y) ∗ Idle c 0 ∗ Idle c 1 ∗ (∃ g, pt A12 c g) ∗ (∃ h, pt A13 c h)
    ∗ (∃ f14, pt A14 c f14) ∗ Hbm c V ∗ ∃ O, owes (c : Thread nD τ) 0 O)))) ?_ ?_
  · iintro ⟨⟨%f15, HP, H15, H0⟩, HX⟩
    iexists f15
    isplitl [HP]; · iexact HP
    isplitl [H15]; · iexact H15
    isplitl [H0]; · iexact H0
    iexact HX
  refine ex_elim fun f15 => pure_sep fun ⟨hC, _⟩ => ?_
  have hlen : n.toNat ≤ 74 := by
    have h61 := offs_61 c f0
    rcases hC.cnt with h1 | h1 <;> omega
  refine assume_step c none (chk2_of n hlen) ?_
  refine tld c none f15 4 n.toNat rfl (by omega) fun w hw => ?_
  refine tst c none f15 ?_
  have hwr : ∀ k' u', it (wrT c f15 (k0_off7_inb n (chk2_of n hlen)) 4294967295#32) k' u' = if k' = 4 ∧ u' = n.toNat then (4294967295#32 : BitVec 32).toNat else it f15 k' u' :=
    fun k' u' => it_wr c f15 _ _ 4 n.toNat rfl (by omega) k' u'
  have hF : Fin1 (offs c f0) (wrT c f15 (k0_off7_inb n (chk2_of n hlen)) 4294967295#32) n.toNat :=
    hC.fin (offs_61 c f0) ho (by rw [hwr, if_pos ⟨rfl, rfl⟩]; rfl) (fun k u hu => by rw [hwr, if_neg (fun h => hu h.2)])
  generalize wrT c f15 (k0_off7_inb n (chk2_of n hlen)) 4294967295#32 = f at hF ⊢
  have fin : ∀ (y : Bf F A7 c) (f14 : Bf F A14 c), Y0 c y → RWOK c f2 2 f14 →
      FS c f2 y f14 iprop(pt A0 c f0 ∗ pt A1 c x1 ∗ pt A15 c f ∗ (∃ g, pt A12 c g) ∗ (∃ h, pt A13 c h) ∗ (∃ O, owes (c : Thread nD τ) 0 O) ∗ Slots c V f n.toNat 0)
      ⊢ Ready c V f0 x1 f2 ⟨n, chk2_of n hlen, k0_pay577 (rd2 c f2 ⟨2, by decide⟩)⟩ := by
    intro y f14 hy hr
    unfold Ready
    iintro H
    iexists f, y, f14
    isplitr
    · ipureintro; exact ⟨hF, hy, hr, rfl⟩
    iexact H
  refine dite_step c none (fun hc => ?_) (fun hc => ?_)
  · have hn : 0 < n.toNat := (cond1_iff n hlen).1 hc
    refine bind_step c none ?_
    refine BIBase.Entails.trans (Q := iprop(pt A15 c f ∗ ((Idle c 0 ∗ Hbm c V) ∗ (pt A0 c f0 ∗ pt A1 c x1 ∗ pt A2 c f2 ∗ (∃ y, pt A7 c y) ∗ Idle c 1
      ∗ (∃ g, pt A12 c g) ∗ (∃ h, pt A13 c h) ∗ (∃ f14, pt A14 c f14) ∗ ∃ O, owes (c : Thread nD τ) 0 O)))) ?_ ?_
    · iintro ⟨H15, H0, H1, H2, H7, HI0, HI1, H12, H13, H14, HH, HO⟩
      iframe
    refine part1 c V f n hc hF hn ?_
    have hz := (hF.tab.zero hn).2
    have hsl : iprop(Flying c V 0 (it f 0 0) ∗ Idle c 1) ⊢ Slots c V f n.toNat 0 := by
      unfold Slots
      rw [if_pos hn, if_pos (show First c f 0 from Or.inl rfl), hz]
    refine BIBase.Entails.trans (Q := iprop(∃ y, ∃ f14, FS c f2 y f14
      iprop(pt A0 c f0 ∗ pt A1 c x1 ∗ pt A15 c f ∗ (∃ g, pt A12 c g) ∗ (∃ h, pt A13 c h) ∗ (∃ O, owes (c : Thread nD τ) 0 O) ∗ Slots c V f n.toNat 0))) ?_ ?_
    · iintro ⟨HF, H15, H0, H1, H2, ⟨%y, H7⟩, HI1, H12, H13, ⟨%f14, H14⟩, HO⟩
      iexists y, f14
      isplitl [H2]; · iexact H2
      isplitl [H7]; · iexact H7
      isplitl [H14]; · iexact H14
      isplitl [H0]; · iexact H0
      isplitl [H1]; · iexact H1
      isplitl [H15]; · iexact H15
      isplitl [H12]; · iexact H12
      isplitl [H13]; · iexact H13
      isplitl [HO]; · iexact HO
      iapply hsl
      isplitl [HF]; · iexact HF
      iexact HI1
    refine ex_elim fun y => ex_elim fun f14 => ?_
    exact fill112 n (chk2_of n hlen) fin
  · have hn : ¬ 0 < n.toNat := fun h => hc ((cond1_iff n hlen).2 h)
    have hsl : iprop(Idle c 0 ∗ Idle c 1 ∗ Hbm c V) ⊢ Slots c V f n.toNat 0 := by
      unfold Slots
      rw [if_neg hn]
    refine BIBase.Entails.trans (Q := iprop(∃ y, ∃ f14, FS c f2 y f14
      iprop(pt A0 c f0 ∗ pt A1 c x1 ∗ pt A15 c f ∗ (∃ g, pt A12 c g) ∗ (∃ h, pt A13 c h) ∗ (∃ O, owes (c : Thread nD τ) 0 O) ∗ Slots c V f n.toNat 0))) ?_ ?_
    · iintro ⟨H15, H0, H1, H2, ⟨%y, H7⟩, HI0, HI1, H12, H13, ⟨%f14, H14⟩, HH, HO⟩
      iexists y, f14
      isplitl [H2]; · iexact H2
      isplitl [H7]; · iexact H7
      isplitl [H14]; · iexact H14
      isplitl [H0]; · iexact H0
      isplitl [H1]; · iexact H1
      isplitl [H15]; · iexact H15
      isplitl [H12]; · iexact H12
      isplitl [H13]; · iexact H13
      isplitl [HO]; · iexact HO
      iapply hsl
      isplitl [HI0]; · iexact HI0
      isplitl [HI1]; · iexact HI1
      iexact HH
    refine ex_elim fun y => ex_elim fun f14 => ?_
    exact fill112 n (chk2_of n hlen) fin

/-- What the body ends with, `YF` of the result. -/
def Done (f0 : Bf F A0 c) (x1 : Bf F A1 c) (f2 : Bf F A2 c) (YF : Bf F A7 c → Prop) : sProp 𝕄 :=
  iprop(pt A0 c f0 ∗ pt A1 c x1 ∗ pt A2 c f2 ∗ (∃ y, ⌜YF y⌝ ∗ pt A7 c y) ∗ Idle c 0 ∗ Idle c 1 ∗ (∃ g, pt A12 c g) ∗ (∃ h, pt A13 c h) ∗ (∃ f14, pt A14 c f14)
    ∗ (∃ f15, pt A15 c f15) ∗ Hbm c V ∗ ∃ O, owes (c : Thread nD τ) 0 O)

set_option maxHeartbeats 4000000 in
/-- The body, given that the items carry `YI` from the cleared result to `YF`. -/
theorem body (f0 : Bf F A0 c) (x1 : Bf F A1 c) (f2 : Bf F A2 c) (ho : offs c f0 60 ≤ 1536)
    (YI : Bf F A15 c → ℕ → Bf F A14 c → ℕ → Bf F A7 c → Prop) (YF : Bf F A7 c → Prop)
    (h0 : ∀ f15 n rwb y, Fin1 (offs c f0) f15 n → RWOK c f2 12 rwb → Y0 c y → YI f15 n rwb 0 y)
    (hY : ∀ f15 n rwb, Fin1 (offs c f0) f15 n → RWOK c f2 12 rwb → YStep c V f15 n x1 rwb (YI f15 n rwb))
    (hN : ∀ f15 n rwb y, Fin1 (offs c f0) f15 n → RWOK c f2 12 rwb → YI f15 n rwb n y → YF y) :
    Start c V f0 x1 f2 ⊢ WP c none (cc0_moe_w4a16 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8) (fun _ => Done c V f0 x1 f2 YF) := by
  rw [cc0_moe_w4a16_eq_skeleton]
  unfold cc0_moe_w4a16_skel
  dsimp only
  refine bind_step c none ((part112 c V f0 x1 f2 ho).trans (wp_mono _ _ _ fun o => ?_))
  obtain ⟨n, hw2, v29⟩ := o
  unfold Ready
  dsimp only
  refine ex_elim fun f15 => ex_elim fun y => ex_elim fun f14 => pure_sep fun ⟨hF, hy, hr, hv⟩ => ?_
  refine bind_step c none (part113 hr v29 hv fun f14 hr => ?_)
  refine bind_step c none (part114 hr fun f14 v102 hr => ?_)
  dsimp only
  refine fs14 (n := 11) hr (by decide) rfl rfl fun rwb hr => ?_
  have hlen := hF.len
  refine BIBase.Entails.trans (Q := iprop(Inv c V f15 n.toNat x1 rwb (YI f15 n.toNat rwb) 0 0#32 ∗ (pt A0 c f0 ∗ pt A2 c f2))) ?_ ?_
  · unfold Inv
    iintro ⟨H2, H7, H14, H0, H1, H15, ⟨%g, H12⟩, ⟨%h, H13⟩, HO, HS⟩
    isplitr [H0 H2]
    · iexists g, h, y
      isplitr
      · ipureintro; exact h0 f15 n.toNat rwb y hF hr hy
      isplitl [H15]; · iexact H15
      isplitl [H1]; · iexact H1
      isplitl [H14]; · iexact H14
      isplitl [H12]; · iexact H12
      isplitl [H13]; · iexact H13
      isplitl [H7]; · iexact H7
      isplitl [HO]; · iexact HO
      iexact HS
    isplitl [H0]; · iexact H0
    iexact H2
  refine for_step c (fun t a => Inv c V f15 n.toNat x1 rwb (YI f15 n.toNat rwb) t a) (fun t a => trip c V f15 n x1 rwb (YI f15 n.toNat rwb) hF (hY f15 n.toNat rwb hF hr) hw2 t a) (fun acc => ?_)
  have e : Scf.trips (k0_t2_loop n).lb (k0_t2_loop n).ub (k0_t2_loop n).st = n.toNat := t2_trips n hlen
  refine BIBase.Entails.trans (Q := iprop(Inv c V f15 n.toNat x1 rwb (YI f15 n.toNat rwb) n.toNat acc ∗ (pt A0 c f0 ∗ pt A2 c f2))) (by rw [← e]) ?_
  refine bind_step c none (eq_step c none (Scf.for_eq_ret _ _ _ _ _ _ (t3_trips n)) (pure_step c none (pure_step c none ?_)))
  unfold Inv Done Slots
  rw [if_neg (lt_irrefl _)]
  iintro ⟨⟨%g, %h, %y', %hYI, H15, H1, H14, H12, H13, H7, HO, HI0, HI1, HH⟩, H0, H2⟩
  isplitl [H0]; · iexact H0
  isplitl [H1]; · iexact H1
  isplitl [H2]; · iexact H2
  isplitl [H7]
  · iexists y'
    isplitr
    · ipureintro; exact hN f15 n.toNat rwb y' hF hr hYI
    iexact H7
  isplitl [HI0]; · iexact HI0
  isplitl [HI1]; · iexact HI1
  isplitl [H12]
  · iexists g; iexact H12
  isplitl [H13]
  · iexists h; iexact H13
  isplitl [H14]
  · iexists rwb; iexact H14
  isplitl [H15]
  · iexists f15; iexact H15
  isplitl [HH]; · iexact HH
  iexact HO

end Body

end Cert.Kernel.Hand

end
-- ==== Proof.Kernel.Launch.lean ====
/-
  The launch: the kernel's body triple carried through the pipeline to a run of the whole program, at any
  predicate of the result the body is shown to reach.
-/
module

public import proofs.«01_k».proof.Proof.Kernel.Body
public import Idealize.ShloMosaic.Lib.Pipeline.ArrRel
public import Idealize.ShloMosaic.Lib.StableHlo.RunRead

@[expose] public section

noncomputable section

namespace Cert.Kernel.Hand

open Cert.Kernel Cert.Kernel.Gen Cert.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]

local notation "𝕄" => MT nD τ sig Unit (Elt F) ℕ (Pipeline.UD sig nD τ) ℕ

/-! ## A double buffer in its two slots -/

section Halves

variable (c : Dev nD)

theorem univ_sdiff_slot {a b : ℕ} : (Finset.univ \ slotSet 2 a b 0 : Finset (⟨3, ![2, a, b]⟩ : Shape).Idx) = slotSet 2 a b 1 := by
  ext i
  have h : (i 0).val < 2 := (i 0).isLt
  rw [Finset.mem_sdiff, mem_slotSet, mem_slotSet]
  simp only [Finset.mem_univ, true_and]
  omega

theorem split8 (f : Bf F A8 c) : (pt A8 c f : sProp 𝕄) ⊢ iprop(Slot c A8 0 f ∗ Slot c A8 1 f) := by
  rw [slot8, slot8]
  have h : (A8.view.loc (c : Thread nD τ) ↦[Finset.univ]{fullShare} f : sProp 𝕄)
      ⊢ iprop((A8.view.loc (c : Thread nD τ) ↦[slotSet 2 1024 2816 0]{fullShare} f) ∗ A8.view.loc (c : Thread nD τ) ↦[Finset.univ \ slotSet 2 1024 2816 0]{fullShare} f) :=
    (pointsTo_split_subset (Finset.subset_univ _)).1
  rw [univ_sdiff_slot] at h
  exact h

theorem join8 (f g : Bf F A8 c) : iprop(Slot c A8 0 f ∗ Slot c A8 1 g) ⊢ (iprop(∃ f, pt A8 c f) : sProp 𝕄) := by
  rw [slot8, slot8]
  have h : iprop((A8.view.loc (c : Thread nD τ) ↦[slotSet 2 1024 2816 0]{fullShare} f) ∗ A8.view.loc (c : Thread nD τ) ↦[Finset.univ \ slotSet 2 1024 2816 0]{fullShare} g)
      ⊢ (A8.view.loc (c : Thread nD τ) ↦[Finset.univ]{fullShare} (slotSet 2 1024 2816 0).piecewise f g : sProp 𝕄) :=
    pointsTo_join_subset (Finset.subset_univ _)
  rw [univ_sdiff_slot] at h
  refine h.trans ?_
  iintro H
  iexists _
  iexact H

theorem split9 (f : Bf F A9 c) : (pt A9 c f : sProp 𝕄) ⊢ iprop(Slot c A9 0 f ∗ Slot c A9 1 f) := by
  rw [slot9, slot9]
  have h : (A9.view.loc (c : Thread nD τ) ↦[Finset.univ]{fullShare} f : sProp 𝕄)
      ⊢ iprop((A9.view.loc (c : Thread nD τ) ↦[slotSet 2 16 2816 0]{fullShare} f) ∗ A9.view.loc (c : Thread nD τ) ↦[Finset.univ \ slotSet 2 16 2816 0]{fullShare} f) :=
    (pointsTo_split_subset (Finset.subset_univ _)).1
  rw [univ_sdiff_slot] at h
  exact h

theorem join9 (f g : Bf F A9 c) : iprop(Slot c A9 0 f ∗ Slot c A9 1 g) ⊢ (iprop(∃ f, pt A9 c f) : sProp 𝕄) := by
  rw [slot9, slot9]
  have h : iprop((A9.view.loc (c : Thread nD τ) ↦[slotSet 2 16 2816 0]{fullShare} f) ∗ A9.view.loc (c : Thread nD τ) ↦[Finset.univ \ slotSet 2 16 2816 0]{fullShare} g)
      ⊢ (A9.view.loc (c : Thread nD τ) ↦[Finset.univ]{fullShare} (slotSet 2 16 2816 0).piecewise f g : sProp 𝕄) :=
    pointsTo_join_subset (Finset.subset_univ _)
  rw [univ_sdiff_slot] at h
  refine h.trans ?_
  iintro H
  iexists _
  iexact H

theorem split10 (f : Bf F A10 c) : (pt A10 c f : sProp 𝕄) ⊢ iprop(Slot c A10 0 f ∗ Slot c A10 1 f) := by
  rw [slot10, slot10]
  have h : (A10.view.loc (c : Thread nD τ) ↦[Finset.univ]{fullShare} f : sProp 𝕄)
      ⊢ iprop((A10.view.loc (c : Thread nD τ) ↦[slotSet 2 704 2048 0]{fullShare} f) ∗ A10.view.loc (c : Thread nD τ) ↦[Finset.univ \ slotSet 2 704 2048 0]{fullShare} f) :=
    (pointsTo_split_subset (Finset.subset_univ _)).1
  rw [univ_sdiff_slot] at h
  exact h

theorem join10 (f g : Bf F A10 c) : iprop(Slot c A10 0 f ∗ Slot c A10 1 g) ⊢ (iprop(∃ f, pt A10 c f) : sProp 𝕄) := by
  rw [slot10, slot10]
  have h : iprop((A10.view.loc (c : Thread nD τ) ↦[slotSet 2 704 2048 0]{fullShare} f) ∗ A10.view.loc (c : Thread nD τ) ↦[Finset.univ \ slotSet 2 704 2048 0]{fullShare} g)
      ⊢ (A10.view.loc (c : Thread nD τ) ↦[Finset.univ]{fullShare} (slotSet 2 704 2048 0).piecewise f g : sProp 𝕄) :=
    pointsTo_join_subset (Finset.subset_univ _)
  rw [univ_sdiff_slot] at h
  refine h.trans ?_
  iintro H
  iexists _
  iexact H

theorem split11 (f : Bf F A11 c) : (pt A11 c f : sProp 𝕄) ⊢ iprop(Slot c A11 0 f ∗ Slot c A11 1 f) := by
  rw [slot11, slot11]
  have h : (A11.view.loc (c : Thread nD τ) ↦[Finset.univ]{fullShare} f : sProp 𝕄)
      ⊢ iprop((A11.view.loc (c : Thread nD τ) ↦[slotSet 2 11 2048 0]{fullShare} f) ∗ A11.view.loc (c : Thread nD τ) ↦[Finset.univ \ slotSet 2 11 2048 0]{fullShare} f) :=
    (pointsTo_split_subset (Finset.subset_univ _)).1
  rw [univ_sdiff_slot] at h
  exact h

theorem join11 (f g : Bf F A11 c) : iprop(Slot c A11 0 f ∗ Slot c A11 1 g) ⊢ (iprop(∃ f, pt A11 c f) : sProp 𝕄) := by
  rw [slot11, slot11]
  have h : iprop((A11.view.loc (c : Thread nD τ) ↦[slotSet 2 11 2048 0]{fullShare} f) ∗ A11.view.loc (c : Thread nD τ) ↦[Finset.univ \ slotSet 2 11 2048 0]{fullShare} g)
      ⊢ (A11.view.loc (c : Thread nD τ) ↦[Finset.univ]{fullShare} (slotSet 2 11 2048 0).piecewise f g : sProp 𝕄) :=
    pointsTo_join_subset (Finset.subset_univ _)
  rw [univ_sdiff_slot] at h
  refine h.trans ?_
  iintro H
  iexists _
  iexact H

theorem idle_intro : iprop((∃ f, pt A8 c f) ∗ (∃ f, pt A9 c f) ∗ (∃ f, pt A10 c f) ∗ (∃ f, pt A11 c f) ∗ Sems (F := F) c 0 ∗ Sems c 1)
    ⊢ (iprop(Idle c 0 ∗ Idle c 1) : sProp 𝕄) := by
  unfold Idle
  iintro ⟨⟨%a, Ha⟩, ⟨%b, Hb⟩, ⟨%d, Hd⟩, ⟨%e, He⟩, HS0, HS1⟩
  ihave Ha := (split8 c a) $$ Ha
  ihave Hb := (split9 c b) $$ Hb
  ihave Hd := (split10 c d) $$ Hd
  ihave He := (split11 c e) $$ He
  icases Ha with ⟨Ha0, Ha1⟩
  icases Hb with ⟨Hb0, Hb1⟩
  icases Hd with ⟨Hd0, Hd1⟩
  icases He with ⟨He0, He1⟩
  isplitl [Ha0 Hb0 Hd0 He0 HS0]
  · isplitl [Ha0]
    · iexists a; iexact Ha0
    isplitl [Hb0]
    · iexists b; iexact Hb0
    isplitl [Hd0]
    · iexists d; iexact Hd0
    isplitl [He0]
    · iexists e; iexact He0
    iexact HS0
  · isplitl [Ha1]
    · iexists a; iexact Ha1
    isplitl [Hb1]
    · iexists b; iexact Hb1
    isplitl [Hd1]
    · iexists d; iexact Hd1
    isplitl [He1]
    · iexists e; iexact He1
    iexact HS1

theorem idle_elim : (iprop(Idle c 0 ∗ Idle c 1) : sProp 𝕄)
    ⊢ iprop((∃ f, pt A8 c f) ∗ (∃ f, pt A9 c f) ∗ (∃ f, pt A10 c f) ∗ (∃ f, pt A11 c f) ∗ Sems (F := F) c 0 ∗ Sems c 1) := by
  unfold Idle
  iintro ⟨⟨⟨%a0, Ha0⟩, ⟨%b0, Hb0⟩, ⟨%d0, Hd0⟩, ⟨%e0, He0⟩, HS0⟩, ⟨%a1, Ha1⟩, ⟨%b1, Hb1⟩, ⟨%d1, Hd1⟩, ⟨%e1, He1⟩, HS1⟩
  isplitl [Ha0 Ha1]
  · iapply (join8 c a0 a1)
    isplitl [Ha0]; · iexact Ha0
    iexact Ha1
  isplitl [Hb0 Hb1]
  · iapply (join9 c b0 b1)
    isplitl [Hb0]; · iexact Hb0
    iexact Hb1
  isplitl [Hd0 Hd1]
  · iapply (join10 c d0 d1)
    isplitl [Hd0]; · iexact Hd0
    iexact Hd1
  isplitl [He0 He1]
  · iapply (join11 c e0 e1)
    isplitl [He0]; · iexact He0
    iexact He1
  isplitl [HS0]; · iexact HS0
  iexact HS1

end Halves

/-! ## The program up to the kernel, and what the kernel holds -/

variable (m : (ℓ : Loc nD τ sig) → Buf (Elt F) ℓ) (ρ : Dev nD → PrngReg)

/-- A buffer's contents when the kernel starts. -/
def V (c : Dev nD) (b : Ref sig .tc) : Buf (Elt F) ((c : Thread nD τ).loc b) := StableHlo.after hostOps0 (fun b => m (c, b)) b

theorem hmain : Pipeline.HMain (Ix := Unit) (Name := ℕ) (U := Pipeline.UD sig nD τ) (Lvl := ℕ) cfgs 0 defs₀ Variants.nat m (main (F := F)) (V m) :=
  Pipeline.hmain_prefix cfgs 0 defs₀ Variants.nat m main hostOps0 hostOps0_sub (by simp [hostOps0, StableHlo.reshape]) main_chain

abbrev osem0 : Fin 8 → SemLoc sig := fun j => (![SemLoc.dma 4, SemLoc.dma 5, SemLoc.dma 6, SemLoc.dma 7, SemLoc.dma 8, SemLoc.dma 9, SemLoc.dma 10, SemLoc.dma 11] : Fin 8 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0
          ∗ semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0) := by
  rw [Pipeline.ownSems0_eq_of_list c osem0 [0, 1, 2, 3, 4, 5, 6, 7] (by decide) (by decide)]; rfl

theorem sems_intro (c : Dev nD) :
    (iprop(semVal ((c : Thread nD τ), SemLoc.dma 4) 0 ∗ semVal ((c : Thread nD τ), SemLoc.dma 5) 0
          ∗ semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0) : sProp 𝕄)
      ⊢ iprop(Sems (F := F) c 0 ∗ Sems c 1) := by
  unfold Sems
  rw [show cell 0 0 = 4 by decide, show cell 0 1 = 5 by decide, show cell 0 2 = 6 by decide, show cell 0 3 = 7 by decide,
    show cell 1 0 = 8 by decide, show cell 1 1 = 9 by decide, show cell 1 2 = 10 by decide, show cell 1 3 = 11 by decide]
  iintro ⟨H0, H1, H2, H3, H4, H5, H6, H7⟩
  isplitl [H0 H1 H2 H3]
  · iframe
  iframe

theorem sems_elim (c : Dev nD) : iprop(Sems (F := F) c 0 ∗ Sems c 1)
    ⊢ (iprop(semVal ((c : Thread nD τ), SemLoc.dma 4) 0 ∗ semVal ((c : Thread nD τ), SemLoc.dma 5) 0
          ∗ semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0) : sProp 𝕄) := by
  unfold Sems
  rw [show cell 0 0 = 4 by decide, show cell 0 1 = 5 by decide, show cell 0 2 = 6 by decide, show cell 0 3 = 7 by decide,
    show cell 1 0 = 8 by decide, show cell 1 1 = 9 by decide, show cell 1 2 = 10 by decide, show cell 1 3 = 11 by decide]
  iintro ⟨⟨H0, H1, H2, H3⟩, H4, H5, H6, H7⟩
  iframe

/-- The operands the kernel's own copies read. -/
def H0 : Finset (Ref sig .tc) := {main_arg3, main_arg4, main_arg5, main_arg6}
theorem H0_sub : H0 ⊆ Pipeline.restRefs sig spec0 := by decide

def hbV (c : Dev nD) : Hb F c := ⟨V m c main_arg3, V m c main_arg4, V m c main_arg5, V m c main_arg6⟩

theorem hbmPts0_eq (c : Dev nD) :
    (bigSep H0 (fun b => ((c : Thread nD τ).loc b) ↦{fullShare} V m c b) : sProp 𝕄) = Hbm c (hbV m c) := by
  rw [BI.bigSep_eq_bigSepL_of_eq [main_arg3, main_arg4, main_arg5, main_arg6] (by decide) (by decide)]; rfl

/-- What the region's invariant holds, in the body's terms. -/
def Phi (c : Dev nD) : sProp 𝕄 := Pipeline.ΦD osem0 spec0 H0 (V m) c

theorem phi_start (c : Dev nD) (f0 : Bf F A0 c) (x1 : Bf F A1 c) (f2 : Bf F A2 c) (y : Bf F A7 c) :
    iprop(Phi m c ∗ pt A0 c f0 ∗ pt A1 c x1 ∗ pt A2 c f2 ∗ pt A7 c y ∗ ∃ O, owes (c : Thread nD τ) 0 O)
      ⊢ iprop(Start c (hbV m c) f0 x1 f2 ∗ ∃ r, prngReg c r) := by
  unfold Phi Start
  rw [Pipeline.ΦD_eq, scopedRest0_eq, ownSems00_eq, hbmPts0_eq]
  iintro ⟨⟨⟨H8, H9, H10, H11, H12, H13, H14, H15⟩, Hg, Hs, HH⟩, Hf0, Hx1, Hf2, Hy, HO⟩
  ihave Hs := (sems_intro (F := F) c) $$ Hs
  icases Hs with ⟨Hs0, Hs1⟩
  isplitr [Hg]
  swap
  · iexact Hg
  isplitl [Hf0]; · iexact Hf0
  isplitl [Hx1]; · iexact Hx1
  isplitl [Hf2]; · iexact Hf2
  isplitl [Hy]
  · iexists y; iexact Hy
  ihave HI := (idle_intro (F := F) c) $$ [H8 H9 H10 H11 Hs0 Hs1]
  · isplitl [H8]; · iexact H8
    isplitl [H9]; · iexact H9
    isplitl [H10]; · iexact H10
    isplitl [H11]; · iexact H11
    isplitl [Hs0]; · iexact Hs0
    iexact Hs1
  icases HI with ⟨HI0, HI1⟩
  isplitl [HI0]; · iexact HI0
  isplitl [HI1]; · iexact HI1
  isplitl [H12]; · iexact H12
  isplitl [H13]; · iexact H13
  isplitl [H14]; · iexact H14
  isplitl [H15]; · iexact H15
  isplitl [HH]; · iexact HH
  iexact HO

theorem done_phi (c : Dev nD) (f0 : Bf F A0 c) (x1 : Bf F A1 c) (f2 : Bf F A2 c) (YF : Bf F A7 c → Prop) :
    iprop(Done c (hbV m c) f0 x1 f2 YF ∗ ∃ r, prngReg c r)
      ⊢ iprop(Phi m c ∗ pt A0 c f0 ∗ pt A1 c x1 ∗ pt A2 c f2 ∗ (∃ y, ⌜YF y⌝ ∗ pt A7 c y) ∗ ∃ O, owes (c : Thread nD τ) 0 O) := by
  unfold Phi Done
  rw [Pipeline.ΦD_eq, scopedRest0_eq, ownSems00_eq, hbmPts0_eq]
  iintro ⟨⟨Hf0, Hx1, Hf2, Hy, HI0, HI1, H12, H13, H14, H15, HH, HO⟩, Hg⟩
  ihave HI := (idle_elim (F := F) c) $$ [HI0 HI1]
  · isplitl [HI0]; · iexact HI0
    iexact HI1
  icases HI with ⟨H8, H9, H10, H11, Hs0, Hs1⟩
  ihave Hs := (sems_elim (F := F) c) $$ [Hs0 Hs1]
  · isplitl [Hs0]; · iexact Hs0
    iexact Hs1
  isplitl [H8 H9 H10 H11 H12 H13 H14 H15 Hg Hs HH]
  · isplitl [H8 H9 H10 H11 H12 H13 H14 H15]
    · isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    isplitl [Hg]; · iexact Hg
    isplitl [Hs]; · iexact Hs
    iexact HH
  isplitl [Hf0]; · iexact Hf0
  isplitl [Hx1]; · iexact Hx1
  isplitl [Hf2]; · iexact Hf2
  isplitl [Hy]; · iexact Hy
  iexact HO

/-! ## The proof data and the body's obligation -/

variable (YF : Dev nD → (S1536x2048.Idx → Elt F .bf16) → Prop)

/-- The pipeline's data on core `c`: the three inputs left as found, the result at anything `YF` holds of. -/
def rdat (c : Dev nD) : RDat τ (Elt F) Unit ℕ (Pipeline.UD sig nD τ) ℕ (cfg0 (F := F)) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => YF c X
  Φ _ := Phi m c
  q _ := fullShare
  owed _ := 0

theorem finds0 (c : Dev nD) (t : Fin (cfg0 (F := F)).N) (Y : S60.Idx → Elt F .i32) (h : (rdat m YF c).Finds 0 t Y) : Y = V m c main_arg1 := by
  obtain ⟨d, e⟩ := ((rdat m YF c).finds_of_fetch (w := 0) (fetch0_0 t) Y).1 h
  rw [e]
  funext j
  unfold RDat.fetched Window.fill
  have hm : ((cfg0 (F := F)).win 0).moved ((cfg0 (F := F)).grid.coords t) j = true :=
    (((cfg0 (F := F)).win 0).moved_iff _ j).mpr fun a => (j a).isLt
  rw [dif_pos hm]
  show V m c main_arg1 _ = V m c main_arg1 j
  refine congrArg (V m c main_arg1) (funext fun a => Fin.ext ?_)
  show 0 * _ + 1 * (j a).val = (j a).val
  rw [Nat.zero_mul, Nat.zero_add, Nat.one_mul]

theorem finds1 (c : Dev nD) (t : Fin (cfg0 (F := F)).N) (Y : S1536x2048.Idx → Elt F .bf16) (h : (rdat m YF c).Finds 1 t Y) : Y = V m c main_arg0 := by
  obtain ⟨d, e⟩ := ((rdat m YF c).finds_of_fetch (w := 1) (fetch0_1 t) Y).1 h
  rw [e]
  funext j
  unfold RDat.fetched Window.fill
  have hm : ((cfg0 (F := F)).win 1).moved ((cfg0 (F := F)).grid.coords t) j = true :=
    (((cfg0 (F := F)).win 1).moved_iff _ j).mpr fun a => (j a).isLt
  rw [dif_pos hm]
  show V m c main_arg0 _ = V m c main_arg0 j
  refine congrArg (V m c main_arg0) (funext fun a => Fin.ext ?_)
  show 0 * _ + 1 * (j a).val = (j a).val
  rw [Nat.zero_mul, Nat.zero_add, Nat.one_mul]

theorem finds2 (c : Dev nD) (t : Fin (cfg0 (F := F)).N) (Y : S12x128.Idx → Elt F .f32) (h : (rdat m YF c).Finds 2 t Y) : Y = V m c main_v0 := by
  obtain ⟨d, e⟩ := ((rdat m YF c).finds_of_fetch (w := 2) (fetch0_2 t) Y).1 h
  rw [e]
  funext j
  unfold RDat.fetched Window.fill
  have hm : ((cfg0 (F := F)).win 2).moved ((cfg0 (F := F)).grid.coords t) j = true :=
    (((cfg0 (F := F)).win 2).moved_iff _ j).mpr fun a => (j a).isLt
  rw [dif_pos hm]
  show V m c main_v0 _ = V m c main_v0 j
  refine congrArg (V m c main_v0) (funext fun a => Fin.ext ?_)
  show 0 * _ + 1 * (j a).val = (j a).val
  rw [Nat.zero_mul, Nat.zero_add, Nat.one_mul]

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem slots_zero (t : Fin (cfg0 (F := F)).N) (k : Fin 4) : (cfg0 (F := F)).slots t k = (match k with | 0 => (0 : Fin 1) | 1 => (0 : Fin 1) | 2 => (0 : Fin 1) | 3 => (0 : Fin 1)) := by
  match k with
  | 0 => exact Subsingleton.elim (α := Fin 1) _ _
  | 1 => exact Subsingleton.elim (α := Fin 1) _ _
  | 2 => exact Subsingleton.elim (α := Fin 1) _ _
  | 3 => exact Subsingleton.elim (α := Fin 1) _ _

theorem bodyAt_eq (t : Fin (cfg0 (F := F)).N) : bodyAt0 (F := F) t = cc0_moe_w4a16 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8 := rfl

variable (hb : ∀ c, Start c (hbV m c) (V m c main_arg1) (V m c main_arg0) (V m c main_v0)
  ⊢ WP c none (cc0_moe_w4a16 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8) (fun _ => Done c (hbV m c) (V m c main_arg1) (V m c main_arg0) (V m c main_v0) (YF c)))

include hb in
theorem sound_body (c : Dev nD) (y : Bf F A7 c) :
    iprop(Phi m c ∗ (∃ O, owes (c : Thread nD τ) 0 O) ∗ pt A0 c (V m c main_arg1) ∗ pt A1 c (V m c main_arg0) ∗ pt A2 c (V m c main_v0) ∗ pt A7 c y)
      ⊢ WP c none (cc0_moe_w4a16 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8) (fun _ => iprop(Phi m c ∗ (∃ O, owes (c : Thread nD τ) 0 O)
        ∗ pt A0 c (V m c main_arg1) ∗ pt A1 c (V m c main_arg0) ∗ pt A2 c (V m c main_v0) ∗ (∃ y, ⌜YF c y⌝ ∗ pt A7 c y))) := by
  refine BIBase.Entails.trans (Q := iprop(Start c (hbV m c) (V m c main_arg1) (V m c main_arg0) (V m c main_v0) ∗ ∃ r, prngReg c r)) ?_ ?_
  · refine BIBase.Entails.trans ?_ (phi_start m c _ _ _ y)
    iintro ⟨HP, HO, H0, H1, H2, H7⟩
    isplitl [HP]; · iexact HP
    isplitl [H0]; · iexact H0
    isplitl [H1]; · iexact H1
    isplitl [H2]; · iexact H2
    isplitl [H7]; · iexact H7
    iexact HO
  refine BIBase.Entails.trans (Q := iprop(WP c none (cc0_moe_w4a16 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8) (fun _ => Done c (hbV m c) (V m c main_arg1) (V m c main_arg0) (V m c main_v0) (YF c)) ∗ ∃ r, prngReg c r)) ?_ ?_
  · iintro ⟨HS, Hg⟩
    isplitl [HS]
    · iapply (hb c); iexact HS
    iexact Hg
  refine BIBase.Entails.trans (wp_frame_r _ _ _) ?_
  refine wp_mono _ _ _ fun _ => ?_
  refine BIBase.Entails.trans (done_phi m c _ _ _ (YF c)) ?_
  iintro ⟨HP, H0, H1, H2, H7, HO⟩
  isplitl [HP]; · iexact HP
  isplitl [HO]; · iexact HO
  isplitl [H0]; · iexact H0
  isplitl [H1]; · iexact H1
  isplitl [H2]; · iexact H2
  iexact H7

include hb in
theorem body_obligation (c : Dev nD) : (rdat m YF c).BodyObligation (defs₀ (F := F)) Variants.nat () Set.univ := fun t Y hY => by
  rw [bigSep_W0, bigSep_W0, defs₀_row, bodyAt_eq]
  have e0 := finds0 m YF c t (Y 0) (hY 0)
  have e1 := finds1 m YF c t (Y 1) (hY 1)
  have e2 := finds2 m YF c t (Y 2) (hY 2)
  have k0 : (owns (c : Thread nD τ) (((cfg0 (F := F)).win 0).stage ((cfg0 (F := F)).slots t 0)) fullShare (Y 0) : sProp 𝕄) = pt A0 c (V m c main_arg1) := by
    rw [e0]; exact owns_whole _ _ _ _
  have k1 : (owns (c : Thread nD τ) (((cfg0 (F := F)).win 1).stage ((cfg0 (F := F)).slots t 1)) fullShare (Y 1) : sProp 𝕄) = pt A1 c (V m c main_arg0) := by
    rw [e1]; exact owns_whole _ _ _ _
  have k2 : (owns (c : Thread nD τ) (((cfg0 (F := F)).win 2).stage ((cfg0 (F := F)).slots t 2)) fullShare (Y 2) : sProp 𝕄) = pt A2 c (V m c main_v0) := by
    rw [e2]; exact owns_whole _ _ _ _
  have k3 : ∀ y, (owns (c : Thread nD τ) (((cfg0 (F := F)).win 3).stage ((cfg0 (F := F)).slots t 3)) fullShare y : sProp 𝕄) = pt A7 c y :=
    fun y => owns_whole _ _ _ _
  have l0 := (BIBase.Entails.of_eq k0)
  have l1 := (BIBase.Entails.of_eq k1)
  have l2 := (BIBase.Entails.of_eq k2)
  have l3 := (BIBase.Entails.of_eq (k3 (Y 3)))
  have j0 := (BIBase.Entails.of_eq k0.symm)
  have j1 := (BIBase.Entails.of_eq k1.symm)
  have j2 := (BIBase.Entails.of_eq k2.symm)
  have j3 := fun y => (BIBase.Entails.of_eq (k3 y).symm)
  unfold RDat.owesAt Pipeline.owesWithin
  rw [show (rdat m YF c).owed t.castSucc = 0 from rfl, show (rdat m YF c).owed t.succ = 0 from rfl,
    show (rdat m YF c).Φ t.castSucc = Phi m c from rfl, show (rdat m YF c).Φ t.succ = Phi m c from rfl]
  refine BIBase.Entails.trans ?_ ((sound_body m YF hb c (Y 3)).trans (wp_mono _ _ _ fun _ => ?_))
  · iintro ⟨HP, ⟨%W, -, HO⟩, H0, H1, H2, H7⟩
    isplitl [HP]; · iexact HP
    isplitl [HO]
    · iexists W; iexact HO
    isplitl [H0]
    · iapply l0; iexact H0
    isplitl [H1]
    · iapply l1; iexact H1
    isplitl [H2]
    · iapply l2; iexact H2
    iapply l3
    iexact H7
  · iintro ⟨HP, ⟨%W, HO⟩, H0, H1, H2, ⟨%y, %hy, H7⟩⟩
    isplitl [HP]; · iexact HP
    isplitl [HO]
    · iexists W
      isplitr
      · ipureintro; exact fun _ _ => Or.inl trivial
      iexact HO
    isplitl [H0]
    · iexists (Y 0)
      isplitr
      · ipureintro; rfl
      iapply j0
      iexact H0
    isplitl [H1]
    · iexists (Y 1)
      isplitr
      · ipureintro; rfl
      iapply j1
      iexact H1
    isplitl [H2]
    · iexists (Y 2)
      isplitr
      · ipureintro; rfl
      iapply j2
      iexact H2
    iexists y
    isplitr
    · ipureintro; exact hy
    iapply (j3 y)
    iexact H7

/-! ## The run -/

include hb in
set_option backward.isDefEq.respectTransparency.types false in
theorem run_main : θ_run defs (onTc (τ := τ) (main (F := F))) (s₀ m ρ)
    (fun r => RDat.FramePost (cfgs 0) (rdat m YF) (V m) r ∧ r.2.sem = fun _ => 0) :=
  RDat.θ_run_frame_dma (Q' := _) cfgs (0 : Fin 1) launch0 osem0 defs₀ Variants.nat (rdat m YF) ownSemFacts0 H0 H0_sub m ρ main
    (hbody := fun c => body_obligation m YF hb c) (hshare := fun c w => (rdat m YF c).share_full (fun _ => rfl) w)
    (howed := fun _ _ => rfl) (V := V m) (hmain := hmain m) (hA := fun c w => rfl)
    (hin := fun _ => .rfl) (hout := fun _ => .rfl)

theorem V_arg0 (c : Dev nD) : V m c main_arg0 = m (c, main_arg0) := by
  unfold V hostOps0
  after_reads_simp

theorem V_arg1 (c : Dev nD) : V m c main_arg1 = m (c, main_arg1) := by
  unfold V hostOps0
  after_reads_simp

theorem V_arg2 (c : Dev nD) : V m c main_arg2 = m (c, main_arg2) := by
  unfold V hostOps0
  after_reads_simp

theorem V_arg3 (c : Dev nD) : V m c main_arg3 = m (c, main_arg3) := by
  unfold V hostOps0
  after_reads_simp

theorem V_arg4 (c : Dev nD) : V m c main_arg4 = m (c, main_arg4) := by
  unfold V hostOps0
  after_reads_simp

theorem V_arg5 (c : Dev nD) : V m c main_arg5 = m (c, main_arg5) := by
  unfold V hostOps0
  after_reads_simp

theorem V_arg6 (c : Dev nD) : V m c main_arg6 = m (c, main_arg6) := by
  unfold V hostOps0
  after_reads_simp

theorem out_of (c : Dev nD) (G : Bf F A7 c) (hG : (rdat m YF c).ArrAt (3 : Fin 4) (cfg0 (F := F)).N G) : YF c G := by
  have hW : ((cfg0 (F := F)).win 3).WholeAt (t0_0 : Fin (cfg0 (F := F)).N) := (by decide +kernel : win0_3.WholeAt (t0_0 : Fin grid0.N))
  obtain ⟨X, hX, hj⟩ := RDat.ArrAt.emb_eq_of_wholeAt (cfg := cfg0 (F := F)) (rd := rdat m YF c) (w := (3 : Fin 4)) hG hW
  obtain ⟨Y, -, hX⟩ := hX
  have e : G = X := funext fun j => hj j
  rw [e]
  exact hX

theorem in_of (c : Dev nD) (w : Fin 4) (hw : ((cfg0 (F := F)).win w).isOut = false)
    (G : Buf (Elt F) (((cfg0 (F := F)).win w).arr.view.loc (c.tc : Thread nD τ))) (hG : (rdat m YF c).ArrAt w (cfg0 (F := F)).N G) :
    G = (rdat m YF c).A w := by
  rw [RDat.ArrAt_in (rdat m YF c) w hw] at hG
  exact hG

theorem post_of (r : PUnit × MemSt nD τ sig (Elt F)) (h : RDat.FramePost (cfg0 (F := F)) (rdat m YF) (V m) r) (c : Dev nD) :
    (∀ w, (rdat m YF c).ArrAt w (cfg0 (F := F)).N (r.2.mem (((cfg0 (F := F)).spec w).arr.view.loc (c.tc : Thread nD τ))))
      ∧ ∀ b ∈ Pipeline.restRefs sig spec0, r.2.mem ((c.tc : Thread nD τ).loc b) = V m c b := h c

include hb in
/-- THE RUN: the program terminates with every semaphore at zero, its arguments as they were and its result
    where the body's triple puts it. -/
theorem run_spec : θ_run defs (onTc (τ := τ) (main (F := F))) ⟨m, fun _ => 0, ρ⟩ (fun r => (∀ c : Dev nD,
      YF c (r.2.mem ((c.tc : Thread nD τ).loc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run_main m ρ YF hb)
  have hc := post_of m YF r h.1 c
  exact ⟨out_of m YF c _ (hc.1 3), (in_of m YF c 1 rfl _ (hc.1 1)).trans (V_arg0 m c), (in_of m YF c 0 rfl _ (hc.1 0)).trans (V_arg1 m c),
    (hc.2 main_arg2 (Pipeline.mem_restRefs_of main_arg2 (by decide) (by decide))).trans (V_arg2 m c),
    (hc.2 main_arg3 (Pipeline.mem_restRefs_of main_arg3 (by decide) (by decide))).trans (V_arg3 m c),
    (hc.2 main_arg4 (Pipeline.mem_restRefs_of main_arg4 (by decide) (by decide))).trans (V_arg4 m c),
    (hc.2 main_arg5 (Pipeline.mem_restRefs_of main_arg5 (by decide) (by decide))).trans (V_arg5 m c),
    (hc.2 main_arg6 (Pipeline.mem_restRefs_of main_arg6 (by decide) (by decide))).trans (V_arg6 m c)⟩

end Cert.Kernel.Hand

end
-- ==== Proof.Kernel.Frame.lean ====
/-
  The frame: on group sizes that fit, the program runs to its end with its arguments unchanged and every
  semaphore back at zero.
-/
module

public import proofs.«01_k».proof.Proof.Kernel.Launch

@[expose] public section

noncomputable section

namespace Cert.Kernel.Hand

open Cert.Kernel Cert.Kernel.Gen Cert.Hand
open Idealize.ShloMosaic Idealize.ShloMosaic.TcCoe Idealize.ShloMosaic.ValueIdx
open Idealize.SL.Sem

variable {F : FTy → Type} [FloatOps F]

theorem frame (m : (ℓ : Loc nD τ sig) → Buf (Elt F) ℓ) (ρ : Dev nD → PrngReg) (ho : ∀ c : Dev nD, offs (F := F) c (m ((c.tc : Thread nD τ).loc main_arg1)) 60 ≤ 1536) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => (h.1 c).2, h.2⟩) (run_spec m ρ (fun _ _ => True) fun c => ?_)
  exact body c (hbV m c) (V m c main_arg1) (V m c main_arg0) (V m c main_v0) (by rw [V_arg1]; exact ho c)
    (fun _ _ _ _ _ => True) (fun _ => True) (fun _ _ _ _ _ _ _ => trivial) (fun _ _ _ _ _ => by unfold YStep; intros; trivial)
    (fun _ _ _ _ _ _ _ => trivial)

end Cert.Kernel.Hand

end
-- ==== Proof.KernelIdeal.Base.lean ====
/-
  The rules the kernel's body is stepped by. A buffer the kernel holds is held under its memref at
  contents named in the statement; a load continues at what is read, a store at the contents written.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Transfers
public import Idealize.ShloMosaic.Lib.Tactic
public import Idealize.ShloMosaic.Lib.ValueIdxCore

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- Programs of the kernel's thread. -/
abbrev Pg (F : FTy → Type) [FloatOps F] (α : Type) : Type 1 := Prog (TpuEff nD τ sig (Elt F) (Λ₀ F) .tc) α

/-- The weakest precondition of a program of core `c`, its calls bounded by `bd`. -/
abbrev WP {α : Type} (c : Dev nD) (bd : Option ℕ) (p : Pg F α) (Q : α → sProp 𝕄) : sProp 𝕄 :=
  wp frame (wpE (defs₀ (F := F)) Variants.nat (c : Thread nD τ) bd) Set.univ p Q

variable {α β : Type} (c : Dev nD) (bd : Option ℕ)

theorem bind_step {p : Pg F β} {k : β → Pg F α} {Q : α → sProp 𝕄} {P : sProp 𝕄}
    (h : P ⊢ WP c bd p (fun b => WP c bd (k b) Q)) : P ⊢ WP c bd (p >>= k) Q := by
  rw [WP, wp_bind]; exact h

theorem pure_step {a : α} {Q : α → sProp 𝕄} {P : sProp 𝕄} (h : P ⊢ Q a) : P ⊢ WP c bd (pure a) Q :=
  h.trans (le_wp_ret _ _ _ a Q)

/-- A program equal to another is stepped by it. -/
theorem eq_step {p p' : Pg F α} {Q : α → sProp 𝕄} {P : sProp 𝕄} (e : p = p') (h : P ⊢ WP c bd p' Q) : P ⊢ WP c bd p Q := e ▸ h

theorem assume_step {A : Prop} {d : Decidable A} {k : PLift A → Pg F α} {Q : α → sProp 𝕄} {P : sProp 𝕄}
    (hA : A) (h : P ⊢ WP c bd (k ⟨hA⟩) Q) : P ⊢ WP c bd (Prog.lift (TpuEff.assume A d) >>= k) Q :=
  h.trans (wp_assume Variants.nat (c : Thread nD τ) bd Set.univ (k := k) hA)

theorem load_step {cs : CoreSpace} {S : Shape} {e : EltTy} {M : Memref sig .tc cs S e} {r : LoadRect S} {hl : M.view.LoadsAt r}
    {k : (r.shape.Idx → Elt F e) → Pg F α} {Q : α → sProp 𝕄} {P : sProp 𝕄}
    {Sd : Finset (Idx (M.view.loc (c : Thread nD τ)))} {q : PosShare TreeShare} (f : Buf (Elt F) (M.view.loc (c : Thread nD τ)))
    (hP : P ⊢ iprop((M.view.loc (c : Thread nD τ) ↦[Sd]{q} f) ∗ ((M.view.loc (c : Thread nD τ) ↦[Sd]{q} f) -∗ P)))
    (hS : M.view.setOn r.set ⊆ Sd) (h : P ⊢ WP c bd (k (M.view.readAt (Elt F) r f)) Q) :
    P ⊢ WP c bd (Prog.lift (.load M r hl) >>= k) Q := by
  refine hP.trans ?_
  iintro ⟨Hm, Hr⟩
  iapply (wp_load Variants.nat (c : Thread nD τ) bd Set.univ hS) $$ Hm
  iintro Hm
  iapply h
  iapply Hr
  iexact Hm

theorem smemLoad_step {S : Shape} {M : Memref sig .tc .smem S .i32} {r : Rect S} {h1 : r.shape.numel = 1} {hp : EltTy.packing .i32 = 1}
    {k : Elt F .i32 → Pg F α} {Q : α → sProp 𝕄} {P : sProp 𝕄}
    {Sd : Finset (Idx (M.view.loc (c : Thread nD τ)))} {q : PosShare TreeShare} (f : Buf (Elt F) (M.view.loc (c : Thread nD τ)))
    (hP : P ⊢ iprop((M.view.loc (c : Thread nD τ) ↦[Sd]{q} f) ∗ ((M.view.loc (c : Thread nD τ) ↦[Sd]{q} f) -∗ P)))
    (hS : M.view.setOn r.set ⊆ Sd) (h : P ⊢ WP c bd (k (M.view.readAt (Elt F) r.toLoadRect f (Shape.Idx.first (h1.symm ▸ Nat.one_pos)))) Q) :
    P ⊢ WP c bd (smemLoad M r h1 hp >>= k) Q := by
  refine hP.trans ?_
  iintro ⟨Hm, Hr⟩
  iapply (wp_load Variants.nat (c : Thread nD τ) bd Set.univ hS) $$ Hm
  iintro Hm
  iapply h
  iapply Hr
  iexact Hm

theorem store_step {cs : CoreSpace} {S : Shape} {e : EltTy} {M : Memref sig .tc cs S e} {r : Rect S} {w : r.shape.Idx → Elt F e}
    {hx : (M.access r).Stores Finset.univ} {hm} {k : PUnit → Pg F α} {Q : α → sProp 𝕄} {P P' : sProp 𝕄}
    (f : Buf (Elt F) (M.view.loc (c : Thread nD τ)))
    (hP : P ⊢ iprop((M.view.loc (c : Thread nD τ) ↦{fullShare} f) ∗ ((M.view.loc (c : Thread nD τ) ↦{fullShare} ((M.access r).write (Elt F) f w Finset.univ)) -∗ P')))
    (h : P' ⊢ WP c bd (k ⟨⟩) Q) :
    P ⊢ WP c bd (Prog.lift (.store M r w Finset.univ hx hm) >>= k) Q := by
  refine hP.trans ?_
  iintro ⟨Hm, Hr⟩
  have hw : (M.view.loc (c : Thread nD τ) ↦{fullShare} f : sProp 𝕄)
      ⊢ iprop(((M.view.loc (c : Thread nD τ) ↦{fullShare} ((M.access r).write (Elt F) f w Finset.univ)) -∗ WP c bd (k ⟨⟩) Q)
        -∗ WP c bd (.op (.store M r w Finset.univ hx hm) k) Q) :=
    wp_store (m := M) (r := r) (f := f) (S := Finset.univ) (w := w) (hx := hx) (hm := hm) (k := k) Variants.nat (c : Thread nD τ) bd Set.univ (Finset.subset_univ _)
  iapply hw $$ Hm
  iintro Hm
  iapply h
  iapply Hr
  iexact Hm

theorem ite_step {A : Prop} {d : Decidable A} {p q : Pg F α} {Q : α → sProp 𝕄} {P : sProp 𝕄}
    (h1 : A → P ⊢ WP c bd p Q) (h2 : ¬A → P ⊢ WP c bd q Q) : P ⊢ WP c bd (if A then p else q) Q := by
  split
  · exact h1 ‹_›
  · exact h2 ‹_›

theorem dite_step {A : Prop} {d : Decidable A} {p : A → Pg F α} {q : ¬A → Pg F α} {Q : α → sProp 𝕄} {P : sProp 𝕄}
    (h1 : ∀ h : A, P ⊢ WP c bd (p h) Q) (h2 : ∀ h : ¬A, P ⊢ WP c bd (q h) Q) : P ⊢ WP c bd (if h : A then p h else q h) Q := by
  split
  · exact h1 ‹_›
  · exact h2 ‹_›

/-! ## What a whole buffer's rectangle reads and writes, by coordinates -/

variable {Val : EltTy → Type}

theorem readAt_whole_apply (b : Ref sig .tc) (r : Rect b.ty.shape) (f : b.ty.Contents Val) (x : r.shape.Idx) :
    (Memref.whole b : Memref sig .tc b.space b.ty.shape b.ty.elt).view.readAt Val r.toLoadRect f x = f (r.emb x) := rfl

theorem write_whole_in (b : Ref sig .tc) (r : Rect b.ty.shape) (f : b.ty.Contents Val) (w : r.shape.Idx → Val b.ty.elt)
    (x : r.shape.Idx) :
    ((Memref.whole b : Memref sig .tc b.space b.ty.shape b.ty.elt).access r).write Val f w Finset.univ (r.emb x) = w x :=
  View.write_emb_of_mem (v := (Memref.whole b : Memref sig .tc b.space b.ty.shape b.ty.elt).access r) f w (Finset.mem_univ x)

theorem write_whole_out (b : Ref sig .tc) (r : Rect b.ty.shape) (f : b.ty.Contents Val) (w : r.shape.Idx → Val b.ty.elt)
    {i : b.ty.Idx} (h : i ∉ r.set) :
    ((Memref.whole b : Memref sig .tc b.space b.ty.shape b.ty.elt).access r).write Val f w Finset.univ i = f i := by
  refine View.write_of_not_mem (v := (Memref.whole b : Memref sig .tc b.space b.ty.shape b.ty.elt).access r) f w Finset.univ ?_
  intro hm
  apply h
  have : ((Memref.whole b : Memref sig .tc b.space b.ty.shape b.ty.elt).access r).set = r.set := View.set_slice_whole b r
  rw [← this]; exact hm

/-! ## The operands -/

abbrev A0 : Memref sig .tc .smem S60 .i32 := Memref.whole cc0_stg0_0
abbrev A1 : Memref sig .tc .vmem S1536x2048 .bf16 := Memref.whole cc0_stg1_0
abbrev A2 : Memref sig .tc .vmem S12x128 .f32 := Memref.whole cc0_stg2_0
abbrev A3 : Memref sig .tc .hbm S60x1024x2816 .i8 := Memref.whole main_arg3
abbrev A4 : Memref sig .tc .hbm S60x16x2816 .bf16 := Memref.whole main_arg4
abbrev A5 : Memref sig .tc .hbm S60x704x2048 .i8 := Memref.whole main_arg5
abbrev A6 : Memref sig .tc .hbm S60x11x2048 .bf16 := Memref.whole main_arg6
abbrev A7 : Memref sig .tc .vmem S1536x2048 .bf16 := Memref.whole cc0_stg3_0
abbrev A8 : Memref sig .tc .vmem S2x1024x2816 .i8 := Memref.whole cc0_scratch0
abbrev A9 : Memref sig .tc .vmem S2x16x2816 .bf16 := Memref.whole cc0_scratch1
abbrev A10 : Memref sig .tc .vmem S2x704x2048 .i8 := Memref.whole cc0_scratch2
abbrev A11 : Memref sig .tc .vmem S2x11x2048 .bf16 := Memref.whole cc0_scratch3
abbrev A12 : Memref sig .tc .vmem S128x2816 .f32 := Memref.whole cc0_scratch4
abbrev A13 : Memref sig .tc .vmem S128x1408 .bf16 := Memref.whole cc0_scratch5
abbrev A14 : Memref sig .tc .vmem S1536x128 .f32 := Memref.whole cc0_scratch6
abbrev A15 : Memref sig .tc .smem S5x128 .i32 := Memref.whole cc0_scratch7

/-- The contents of the buffer behind a memref. -/
abbrev Bf (F : FTy → Type) [FloatOps F] {sp : Space} {S : Shape} {e : EltTy} (M : Memref sig .tc sp S e) (c : Dev nD) : Type :=
  Buf (Elt F) (M.view.loc (c : Thread nD τ))
/-- A memref's buffer held whole. -/
abbrev pt {sp : Space} {S : Shape} {e : EltTy} (M : Memref sig .tc sp S e) (c : Dev nD) (f : Bf F M c) : sProp 𝕄 :=
  M.view.loc (c : Thread nD τ) ↦{fullShare} f
/-- The elements of slot (or member) `s` of a stack of three axes. -/
def slotSet (n a b s : ℕ) : Finset (⟨3, ![n, a, b]⟩ : Shape).Idx := Finset.univ.filter fun i => (i 0).val = s
theorem mem_slotSet {n a b s : ℕ} {i : (⟨3, ![n, a, b]⟩ : Shape).Idx} : i ∈ slotSet n a b s ↔ (i 0).val = s := by
  simp [slotSet]
/-- A rectangle one thick at coordinate `s` lies in slot `s`. -/
theorem unit_sub_slotSet {n a b s : ℕ} {off sz : Fin 3 → ℕ} (inb : ∀ i, off i + sz i ≤ (⟨3, ![n, a, b]⟩ : Shape).size i)
    (h0 : off 0 = s) (hz : sz 0 = 1) : (Rect.unit (s := ⟨3, ![n, a, b]⟩) off sz inb).set ⊆ slotSet n a b s := by
  intro i hi
  have := (Rect.mem_set_unit.mp hi) 0
  rw [mem_slotSet]; omega

end Cert.KernelIdeal.Hand

end
-- ==== Proof.KernelIdeal.Ring.lean ====
/-
  One operand's transfers. A slot of the stack held in fast memory is either free, or receiving a member
  of the stack held outside, or filled with that member. The rules for starting a transfer and for waiting
  for it move between these.
-/
module

public import proofs.«01_k».proof.Proof.KernelIdeal.Base

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Pair

variable {n a b : ℕ} {e : EltTy} (c : Dev nD)

/-- The window one thick at member `s`, without its leading axis. -/
abbrev member {sp : Space} (M : Memref sig .tc sp ⟨3, ![n, a, b]⟩ e) (o : Fin 3 → ℕ) (inb : ∀ i, o i + (![1, a, b] : Fin 3 → ℕ) i ≤ (⟨3, ![n, a, b]⟩ : Shape).size i)
    (hq : (⟨3, ![1, a, b]⟩ : Shape).Squeezes ⟨2, ![a, b]⟩) : Memref sig .tc sp ⟨2, ![a, b]⟩ e :=
  (M.slice (Rect.unit (s := ⟨3, ![n, a, b]⟩) o ![1, a, b] inb) (fun _ => rfl)).squeeze ⟨2, ![a, b]⟩ hq

/-- The index of the squeezed window under coordinates `x`, `y`. -/
def sqIx (hq : (⟨3, ![1, a, b]⟩ : Shape).Squeezes ⟨2, ![a, b]⟩) (x : Fin a) (y : Fin b) : (⟨2, ![a, b]⟩ : Shape).Idx :=
  (Shape.reshapeEquiv hq.numel_eq).symm (ix3 (0 : Fin 1) x y)

theorem member_emb {sp : Space} (M : Memref sig .tc sp ⟨3, ![n, a, b]⟩ e) {o : Fin 3 → ℕ} (inb : ∀ i, o i + (![1, a, b] : Fin 3 → ℕ) i ≤ (⟨3, ![n, a, b]⟩ : Shape).size i)
    (hq : (⟨3, ![1, a, b]⟩ : Shape).Squeezes ⟨2, ![a, b]⟩) (s : Fin n) (ho : o = ![s.val, 0, 0]) (x : Fin a) (y : Fin b) :
    (member M o inb hq).view.emb (sqIx hq x y) = M.view.emb (ix3 s x y) := by
  have : (member M o inb hq).view.emb (sqIx hq x y)
      = M.view.emb ((Rect.unit (s := ⟨3, ![n, a, b]⟩) o ![1, a, b] inb).emb (Shape.reshapeEquiv hq.numel_eq (sqIx hq x y))) := rfl
  rw [this, sqIx, Equiv.apply_symm_apply]
  refine congrArg M.view.emb ?_
  subst ho
  refine (eq_ix3 _).trans ?_
  have h0 : (Rect.unit (s := ⟨3, ![n, a, b]⟩) ![s.val, 0, 0] ![1, a, b] inb).emb (ix3 (0 : Fin 1) x y) 0 = s := Fin.ext (by show s.val + 1 * 0 = _; omega)
  have h1 : (Rect.unit (s := ⟨3, ![n, a, b]⟩) ![s.val, 0, 0] ![1, a, b] inb).emb (ix3 (0 : Fin 1) x y) 1 = x := Fin.ext (by show 0 + 1 * x.val = _; omega)
  have h2 : (Rect.unit (s := ⟨3, ![n, a, b]⟩) ![s.val, 0, 0] ![1, a, b] inb).emb (ix3 (0 : Fin 1) x y) 2 = y := Fin.ext (by show 0 + 1 * y.val = _; omega)
  exact congr (congr (congrArg ix3 h0) h1) h2

theorem member_read {sp : Space} (M : Memref sig .tc sp ⟨3, ![n, a, b]⟩ e) {o : Fin 3 → ℕ} (inb : ∀ i, o i + (![1, a, b] : Fin 3 → ℕ) i ≤ (⟨3, ![n, a, b]⟩ : Shape).size i)
    (hq : (⟨3, ![1, a, b]⟩ : Shape).Squeezes ⟨2, ![a, b]⟩) (s : Fin n) (ho : o = ![s.val, 0, 0]) (x : Fin a) (y : Fin b) (f : M.view.ty.Contents (Elt F)) :
    (member M o inb hq).view.read (Elt F) f (sqIx hq x y) = M.view.read (Elt F) f (ix3 s x y) :=
  congrArg (fun i => _root_.cast (congrArg (Elt F) M.view.elt_eq) (f i)) (member_emb M inb hq s ho x y)

theorem member_set {sp : Space} (M : Memref sig .tc sp ⟨3, ![n, a, b]⟩ e) {o : Fin 3 → ℕ} (inb : ∀ i, o i + (![1, a, b] : Fin 3 → ℕ) i ≤ (⟨3, ![n, a, b]⟩ : Shape).size i)
    (hq : (⟨3, ![1, a, b]⟩ : Shape).Squeezes ⟨2, ![a, b]⟩) (s : ℕ) (ho : o = ![s, 0, 0]) :
    (member M o inb hq).view.set ⊆ M.view.setOn (slotSet n a b s) := by
  subst ho
  intro i hi
  obtain ⟨j, -, rfl⟩ := Finset.mem_map.mp hi
  refine Finset.mem_map.mpr ⟨(Rect.unit (s := ⟨3, ![n, a, b]⟩) ![s, 0, 0] ![1, a, b] inb).emb (Shape.reshapeEquiv hq.numel_eq j), ?_, rfl⟩
  rw [mem_slotSet]
  have h : ((Shape.reshapeEquiv hq.numel_eq j) 0).val < 1 := ((Shape.reshapeEquiv hq.numel_eq j) 0).isLt
  show s + 1 * ((Shape.reshapeEquiv hq.numel_eq j) 0).val = s
  omega

variable (D : Memref sig .tc .vmem ⟨3, ![2, a, b]⟩ e) (S : Memref sig .tc .hbm ⟨3, ![60, a, b]⟩ e)

/-- Slot `s` held at contents `f`. -/
abbrev Slot (s : ℕ) (f : Bf F D c) : sProp 𝕄 := D.view.loc (c : Thread nD τ) ↦[D.view.setOn (slotSet 2 a b s)]{fullShare} f

/-- Slot `s` of `f` holds member `m` of `V`. -/
def Holds (s m : ℕ) (V : Bf F S c) (f : Bf F D c) : Prop :=
  ∀ (h : s < 2) (h' : m < 60) (x : Fin a) (y : Fin b), D.view.read (Elt F) f (ix3 ⟨s, h⟩ x y) = S.view.read (Elt F) V (ix3 ⟨m, h'⟩ x y)

/-- The bytes one member's transfer is counted by. -/
abbrev bytes : ℕ := D.view.ref.dmaCredit (⟨2, ![a, b]⟩ : Shape) e

/-- Slot `s` receives member `m`, outside stack and all. -/
def InFl (sm : SemLoc sig) (s m : ℕ) (V : Bf F S c) : sProp 𝕄 :=
  iprop(∃ P R : sProp 𝕄, Transfers.Flight (countersEmb (U := Pipeline.UD sig nD τ)) (c : Thread nD τ) sm () (bytes D) P ∗ R
    ∗ ⌜iprop(P ∗ R) ⊢ iprop((∃ f : Bf F D c, ⌜Holds c D S s m V f⌝ ∗ Slot c D s f) ∗ (S.view.loc (c : Thread nD τ) ↦{fullShare} V))⌝)

/-- What a transfer of member `m` leaves in slot `s`. -/
theorem landed {os od : Fin 3 → ℕ}
    {is : ∀ i, os i + (![1, a, b] : Fin 3 → ℕ) i ≤ (⟨3, ![60, a, b]⟩ : Shape).size i}
    {id' : ∀ i, od i + (![1, a, b] : Fin 3 → ℕ) i ≤ (⟨3, ![2, a, b]⟩ : Shape).size i}
    {hq : (⟨3, ![1, a, b]⟩ : Shape).Squeezes ⟨2, ![a, b]⟩} (s m : ℕ) (V : Bf F S c) (hos : os = ![m, 0, 0]) (hod : od = ![s, 0, 0])
    (fd : Bf F D c) :
    Holds c D S s m V ((member D od id' hq).view.write (Elt F) fd ((member S os is hq).view.read (Elt F) V) Finset.univ) := by
  intro hs hm x y
  rw [← member_read D id' hq ⟨s, hs⟩ hod x y, ← member_read S is hq ⟨m, hm⟩ hos x y]
  exact congrFun (View.read_write_univ (v := (member D od id' hq).view) (Val := Elt F) fd ((member S os is hq).view.read (Elt F) V)) (sqIx hq x y)

theorem start_step {α : Type} (bd : Option ℕ) {os od : Fin 3 → ℕ}
    {is : ∀ i, os i + (![1, a, b] : Fin 3 → ℕ) i ≤ (⟨3, ![60, a, b]⟩ : Shape).size i}
    {id' : ∀ i, od i + (![1, a, b] : Fin 3 → ℕ) i ≤ (⟨3, ![2, a, b]⟩ : Shape).size i}
    {hq : (⟨3, ![1, a, b]⟩ : Shape).Squeezes ⟨2, ![a, b]⟩}
    {sm : DmaSem sig} {hsrc : (member S os is hq).view.WordExact} {hdst : (member D od id' hq).view.WordExact}
    {hsem : DmaTarget.Typed .hbm (.dma sm) (DmaTarget.here (nD := nD) (τ := τ) (p := .tc) (member D od id' hq))} {k : PUnit → Pg F α} {Q : α → sProp 𝕄} {X : sProp 𝕄}
    (s m : ℕ) (V : Bf F S c) (hos : os = ![m, 0, 0]) (hod : od = ![s, 0, 0]) (hN : 0 < bytes D)
    (h : iprop(InFl c D S (.dma sm) s m V ∗ X) ⊢ WP c bd (k ⟨⟩) Q) :
    iprop(((∃ f : Bf F D c, Slot c D s f) ∗ semVal ((c : Thread nD τ), SemLoc.dma sm) 0 ∗ (S.view.loc (c : Thread nD τ) ↦{fullShare} V)) ∗ X)
      ⊢ WP c bd (Prog.lift (.enqueueDma (member S os is hq) (.here (member D od id' hq)) (.dma sm) hsrc hdst hsem) >>= k) Q := by
  have hsp : (S.view.loc (c : Thread nD τ) ↦{fullShare} V : sProp 𝕄) ⊢ iprop((S.view.loc (c : Thread nD τ) ↦[(member S os is hq).view.set]{fullShare} V)
      ∗ S.view.loc (c : Thread nD τ) ↦[Finset.univ \ (member S os is hq).view.set]{fullShare} V) := (pointsTo_split_subset (Finset.subset_univ _)).1
  have hA : (member D od id' hq).view.amount (.dma sm) = bytes D := rfl
  have hdma : ∀ fd : Bf F D c, iprop((S.view.loc (c : Thread nD τ) ↦[(member S os is hq).view.set]{fullShare} V) ∗ (Slot c D s fd)
      ∗ semVal ((c : Thread nD τ), SemLoc.dma sm) 0)
      ⊢ iprop((Transfers.Flight (countersEmb (U := Pipeline.UD sig nD τ)) (c : Thread nD τ) (.dma sm) () (bytes D)
          iprop((Slot c D s ((member D od id' hq).view.write (Elt F) fd ((member S os is hq).view.read (Elt F) V) Finset.univ))
            ∗ (S.view.loc (c : Thread nD τ) ↦[(member S os is hq).view.set]{fullShare} V))
          -∗ WP c bd (k ⟨⟩) Q) -∗ WP c bd (.op (.enqueueDma (member S os is hq) (.here (member D od id' hq)) (.dma sm) hsrc hdst hsem) k) Q) :=
    fun fd => Transfers.wp_dmaLocal (sp' := .vmem) (s₀ := ⟨2, ![a, b]⟩) (s := ⟨2, ![a, b]⟩) (e₀ := e) (e := e) (sm := .dma sm) (src := member S os is hq) (dst := member D od id' hq) (via := .same)
      (hsrc := hsrc) (hdst := hdst) (hsem := hsem) (k := k) (fs := V) (fd := fd) (q := fullShare) (Sd := D.view.setOn (slotSet 2 a b s))
      (countersEmb (U := Pipeline.UD sig nD τ)) Variants.nat (c : Thread nD τ) bd () (bytes D) hA hN (member_set D id' hq s hod)
  have hback : ∀ fd : Bf F D c, iprop(iprop((Slot c D s ((member D od id' hq).view.write (Elt F) fd ((member S os is hq).view.read (Elt F) V) Finset.univ))
        ∗ (S.view.loc (c : Thread nD τ) ↦[(member S os is hq).view.set]{fullShare} V))
      ∗ S.view.loc (c : Thread nD τ) ↦[Finset.univ \ (member S os is hq).view.set]{fullShare} V)
      ⊢ iprop((∃ f : Bf F D c, ⌜Holds c D S s m V f⌝ ∗ Slot c D s f) ∗ (S.view.loc (c : Thread nD τ) ↦{fullShare} V)) := by
    intro fd
    have hl := landed (is := is) (id' := id') (hq := hq) c D S s m V hos hod fd
    have hj : iprop((S.view.loc (c : Thread nD τ) ↦[(member S os is hq).view.set]{fullShare} V)
      ∗ S.view.loc (c : Thread nD τ) ↦[Finset.univ \ (member S os is hq).view.set]{fullShare} V)
      ⊢ (S.view.loc (c : Thread nD τ) ↦{fullShare} V : sProp 𝕄) := (pointsTo_split_subset (Finset.subset_univ _)).2
    iintro ⟨⟨HD, HS⟩, HR⟩
    isplitl [HD]
    · iexists _
      isplitr
      swap; · iexact HD
      ipureintro
      exact hl
    · iapply hj
      isplitl [HS]; · iexact HS
      iexact HR
  refine BIBase.Entails.trans (Q := iprop(∃ fd : Bf F D c, iprop((S.view.loc (c : Thread nD τ) ↦[(member S os is hq).view.set]{fullShare} V) ∗ (Slot c D s fd)
      ∗ semVal ((c : Thread nD τ), SemLoc.dma sm) 0) ∗ (S.view.loc (c : Thread nD τ) ↦[Finset.univ \ (member S os is hq).view.set]{fullShare} V) ∗ X)) ?_ ?_
  · iintro ⟨⟨⟨%fd, HD⟩, Hs, HS⟩, HX⟩
    ihave HS := hsp $$ HS
    icases HS with ⟨HS, HR⟩
    iexists fd
    isplitl [HS HD Hs]
    · isplitl [HS]; · iexact HS
      isplitl [HD]; · iexact HD
      iexact Hs
    isplitl [HR]; · iexact HR
    iexact HX
  iintro ⟨%fd, HA, HR, HX⟩
  iapply (hdma fd) $$ HA
  iintro HF
  iapply h
  isplitr [HX]
  · unfold InFl
    iexists _
    iexists _
    isplitl [HF]; · iexact HF
    isplitl [HR]; · iexact HR
    ipureintro
    exact hback fd
  · iexact HX

theorem wait_step {α : Type} (bd : Option ℕ) {os od : Fin 3 → ℕ}
    {is : ∀ i, os i + (![1, a, b] : Fin 3 → ℕ) i ≤ (⟨3, ![60, a, b]⟩ : Shape).size i}
    {id' : ∀ i, od i + (![1, a, b] : Fin 3 → ℕ) i ≤ (⟨3, ![2, a, b]⟩ : Shape).size i}
    {hq : (⟨3, ![1, a, b]⟩ : Shape).Squeezes ⟨2, ![a, b]⟩}
    {sm : DmaSem sig} {hsrc : (member S os is hq).view.WordExact} {hdst : (member D od id' hq).view.WordExact}
    {k : PUnit → Pg F α} {Q : α → sProp 𝕄} {X : sProp 𝕄}
    (s m : ℕ) (V : Bf F S c)
    (h : iprop(((∃ f : Bf F D c, ⌜Holds c D S s m V f⌝ ∗ Slot c D s f) ∗ semVal ((c : Thread nD τ), SemLoc.dma sm) 0 ∗ (S.view.loc (c : Thread nD τ) ↦{fullShare} V)
        ∗ ∃ W, owes (c : Thread nD τ) 0 W) ∗ X) ⊢ WP c bd (k ⟨⟩) Q) :
    iprop((InFl c D S (.dma sm) s m V ∗ ∃ W, owes (c : Thread nD τ) 0 W) ∗ X)
      ⊢ WP c bd (Prog.lift (.waitDma2 sm (member S os is hq) (member D od id' hq) hsrc hdst) >>= k) Q := by
  unfold InFl
  iintro ⟨⟨⟨%P, %R, HF, HR, %hP⟩, %W, HO⟩, HX⟩
  iapply (Transfers.wp_waitLocal (countersEmb (U := Pipeline.UD sig nD τ)) Variants.nat (c : Thread nD τ) bd () (N := bytes D) rfl) $$ [HF HO]
  · isplitl [HF]; · iexact HF
    iexact HO
  iintro ⟨HP, Hs, HO⟩
  iapply h
  ihave HL := hP $$ [HP HR]
  · isplitl [HP]; · iexact HP
    iexact HR
  icases HL with ⟨HL, HS⟩
  isplitr [HX]
  · isplitl [HL]; · iexact HL
    isplitl [Hs]; · iexact Hs
    isplitl [HS]; · iexact HS
    iexists _; iexact HO
  · iexact HX

end Pair

end Cert.KernelIdeal.Hand

end
-- ==== Proof.KernelIdeal.List.lean ====
/-
  The kernel builds its work list: for every expert a loop of single entries, each stored by its five words.
-/
module

public import proofs.«01_k».proof.Proof.KernelIdeal.Base
public import proofs.«01_k».proof.Proof.Items

@[expose] public section

noncomputable section

namespace Cert.KernelIdeal.Hand

open Cert.KernelIdeal Cert.KernelIdeal.Gen Cert.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem ex_elim {β : Type} {Φ : β → sProp 𝕄} {Q : sProp 𝕄} (h : ∀ a, Φ a ⊢ Q) : iprop(∃ a, Φ a) ⊢ Q := by
  iintro ⟨%a, H⟩
  iapply (h a) $$ H

theorem pure_sep {φ : Prop} {X Q : sProp 𝕄} (h : φ → X ⊢ Q) : iprop(⌜φ⌝ ∗ X) ⊢ Q := by
  iintro ⟨%hφ, H⟩
  iapply (h hφ) $$ H

/-! ## One word of the table -/

theorem unit1_emb {n m : ℕ} {o : Fin 2 → ℕ} (h : ∀ a, o a + S1x1.size a ≤ (⟨2, ![n, m]⟩ : Shape).size a) (k u : ℕ) (ho : o = ![k, u])
    (hk : k < n) (hu : u < m) (x : (Rect.unit (s := ⟨2, ![n, m]⟩) o S1x1.size h).shape.Idx) :
    (Rect.unit (s := ⟨2, ![n, m]⟩) o S1x1.size h).emb x = ix2 ⟨k, hk⟩ ⟨u, hu⟩ := by
  subst ho
  refine (eq_ix2 _).trans (congrArg₂ ix2 ?_ ?_)
  · have h1 : (x 0).val < 1 := (x 0).isLt
    have : (Rect.unit (s := ⟨2, ![n, m]⟩) ![k, u] S1x1.size h).emb x 0 = k + 1 * (x 0).val := rfl
    refine Fin.ext ?_
    show _ = k
    rw [this]; omega
  · have h1 : (x 1).val < 1 := (x 1).isLt
    have : (Rect.unit (s := ⟨2, ![n, m]⟩) ![k, u] S1x1.size h).emb x 1 = u + 1 * (x 1).val := rfl
    refine Fin.ext ?_
    show _ = u
    rw [this]; omega

/-- What a load of one word of the table reads. -/
theorem it_read (c : Dev nD) (f : Bf F A15 c) {o : Fin 2 → ℕ} (h : ∀ a, o a + S1x1.size a ≤ S5x128.size a) (k : Fin 5) (u : ℕ)
    (ho : o = ![k.val, u]) (hu : u < 128) (x : (Rect.unit (s := S5x128) o S1x1.size h).shape.Idx) :
    BitVec.toNat (A15.view.readAt (Elt F) (Rect.unit (s := S5x128) o S1x1.size h).toLoadRect f x) = it f k u := by
  have : A15.view.readAt (Elt F) (Rect.unit (s := S5x128) o S1x1.size h).toLoadRect f x
      = f (ix2 k ⟨u, hu⟩) :=
    (readAt_whole_apply cc0_scratch7 _ f x).trans (congrArg f (unit1_emb h k.val u ho k.isLt hu x))
  rw [this, it, dif_pos hu]

/-- The table after one word is stored. -/
abbrev wrT (c : Dev nD) (f : Bf F A15 c) {o : Fin 2 → ℕ} (h : ∀ a, o a + S1x1.size a ≤ S5x128.size a) (v : BitVec 32) : Bf F A15 c :=
  (A15.access (Rect.unit (s := S5x128) o S1x1.size h)).write (Elt F) f (fun _ => v) Finset.univ

theorem it_wr (c : Dev nD) (f : Bf F A15 c) {o : Fin 2 → ℕ} (h : ∀ a, o a + S1x1.size a ≤ S5x128.size a) (v : BitVec 32) (k : Fin 5) (u : ℕ)
    (ho : o = ![k.val, u]) (hu : u < 128) (k' : Fin 5) (u' : ℕ) :
    it (wrT c f h v) k' u' = if k' = k ∧ u' = u then v.toNat else it f k' u' := by
  have hx : (0 : ℕ) < 1 := one_pos
  by_cases hc : k' = k ∧ u' = u
  · obtain ⟨rfl, rfl⟩ := hc
    rw [if_pos ⟨rfl, rfl⟩, it, dif_pos hu]
    have e := unit1_emb h k'.val u' ho k'.isLt hu (Shape.Idx.first (by show (0:ℕ) < _; exact one_pos))
    have := write_whole_in (Val := Elt F) cc0_scratch7 (Rect.unit (s := S5x128) o S1x1.size h) f (fun _ => v) (Shape.Idx.first (by show (0:ℕ) < _; exact one_pos))
    have e' : (ix2 k' ⟨u', hu⟩ : S5x128.Idx) = (Rect.unit (s := S5x128) o S1x1.size h).emb (Shape.Idx.first (by show (0:ℕ) < _; exact one_pos)) := e.symm
    exact congrArg BitVec.toNat ((congrArg (wrT c f h v) e').trans this)
  · rw [if_neg hc]
    unfold it
    split
    · rename_i hu'
      refine congrArg BitVec.toNat (write_whole_out (Val := Elt F) cc0_scratch7 (Rect.unit (s := S5x128) o S1x1.size h) f (fun _ => v) ?_)
      intro hm
      subst ho
      have h0 := (Rect.mem_set_unit.mp hm) 0
      have h1 := (Rect.mem_set_unit.mp hm) 1
      apply hc
      have a0 : k.val ≤ k'.val ∧ k'.val < k.val + 1 := h0
      have a1 : u ≤ u' ∧ u' < u + 1 := h1
      exact ⟨Fin.ext (by omega), by omega⟩
    · rfl

/-- A word's place is in the table. -/
theorem inb15 {o : Fin 2 → ℕ} (k u : ℕ) (ho : o = ![k, u]) (hk : k < 5) (hu : u < 128) : ∀ a, o a + S1x1.size a ≤ S5x128.size a := by
  subst ho
  intro a
  match a with
  | ⟨0, _⟩ => show k + 1 ≤ 5; omega
  | ⟨1, _⟩ => show u + 1 ≤ 128; omega

/-- The table after item `n`'s five words are stored. -/
def put5 (c : Dev nD) (f : Bf F A15 c) (n : ℕ) (hn : n < 128) (v0 v1 v2 v3 v4 : BitVec 32) : Bf F A15 c :=
  wrT c (wrT c (wrT c (wrT c (wrT c f (inb15 0 n rfl (by omega) hn) v0) (inb15 1 n rfl (by omega) hn) v1) (inb15 2 n rfl (by omega) hn) v2)
    (inb15 3 n rfl (by omega) hn) v3) (inb15 4 n rfl (by omega) hn) v4

theorem it_put5 (c : Dev nD) (f : Bf F A15 c) (n : ℕ) (hn : n < 128) (v0 v1 v2 v3 v4 : BitVec 32) (k : Fin 5) (u : ℕ) :
    it (put5 c f n hn v0 v1 v2 v3 v4) k u = if u = n then (![v0, v1, v2, v3, v4] k).toNat else it f k u := by
  have hw : ∀ (g : Bf F A15 c) (j : Fin 5) (v : BitVec 32), it (wrT c g (inb15 j.val n rfl (by omega) hn) v) k u
      = if k = j ∧ u = n then v.toNat else it g k u := fun g j v => it_wr c g _ v j n rfl hn k u
  have h := (hw (wrT c (wrT c (wrT c (wrT c f (inb15 0 n rfl (by omega) hn) v0) (inb15 1 n rfl (by omega) hn) v1) (inb15 2 n rfl (by omega) hn) v2)
    (inb15 3 n rfl (by omega) hn) v3) 4 v4)
  have h3 := hw (wrT c (wrT c (wrT c f (inb15 0 n rfl (by omega) hn) v0) (inb15 1 n rfl (by omega) hn) v1) (inb15 2 n rfl (by omega) hn) v2) 3 v3
  have h2 := hw (wrT c (wrT c f (inb15 0 n rfl (by omega) hn) v0) (inb15 1 n rfl (by omega) hn) v1) 2 v2
  have h1 := hw (wrT c f (inb15 0 n rfl (by omega) hn) v0) 1 v1
  have h0 := hw f 0 v0
  refine h.trans ?_
  rw [show it (wrT c (wrT c (wrT c (wrT c f (inb15 0 n rfl (by omega) hn) v0) (inb15 1 n rfl (by omega) hn) v1) (inb15 2 n rfl (by omega) hn) v2)
    (inb15 3 n rfl (by omega) hn) v3) k u = _ from h3,
    show it (wrT c (wrT c (wrT c f (inb15 0 n rfl (by omega) hn) v0) (inb15 1 n rfl (by omega) hn) v1) (inb15 2 n rfl (by omega) hn) v2) k u = _ from h2,
    show it (wrT c (wrT c f (inb15 0 n rfl (by omega) hn) v0) (inb15 1 n rfl (by omega) hn) v1) k u = _ from h1,
    show it (wrT c f (inb15 0 n rfl (by omega) hn) v0) k u = _ from h0]
  by_cases hu : u = n
  · fin_cases k <;> simp [hu]
  · simp [hu]

/-- The rows of every expert below `e`, added up. -/
def offs (c : Dev nD) (f0 : Bf F A0 c) (e : ℕ) : ℕ :=
  ∑ i ∈ Finset.range e, if h : i < 60 then BitVec.toNat (w := 32) (f0 (ix1 ⟨i, h⟩)) else 0

theorem offs_succ (c : Dev nD) (f0 : Bf F A0 c) (e : ℕ) (h : e < 60) :
    offs c f0 (e + 1) = offs c f0 e + BitVec.toNat (w := 32) (f0 (ix1 ⟨e, h⟩)) := by
  rw [offs, Finset.sum_range_succ, dif_pos h]; rfl

theorem offs_mono (c : Dev nD) (f0 : Bf F A0 c) {a b : ℕ} (h : a ≤ b) : offs c f0 a ≤ offs c f0 b :=
  Finset.sum_le_sum_of_subset (by intro x; simp only [Finset.mem_range]; omega)

/-! ## Steps on the table -/

section Steps

variable {α : Type} (c : Dev nD) (bd : Option ℕ)

theorem tld (f : Bf F A15 c) {X : sProp 𝕄} {o : Fin 2 → ℕ} {inb : ∀ a, o a + S1x1.size a ≤ S5x128.size a}
    {h1 : (Rect.unit (s := S5x128) o S1x1.size inb).shape.numel = 1} {hp : EltTy.packing .i32 = 1} {kk : Elt F .i32 → Pg F α} {Q : α → sProp 𝕄}
    (k : Fin 5) (u : ℕ) (ho : o = ![k.val, u]) (hu : u < 128)
    (h : ∀ w : BitVec 32, w.toNat = it f k u → iprop(pt A15 c f ∗ X) ⊢ WP c bd (kk w) Q) :
    iprop(pt A15 c f ∗ X) ⊢ WP c bd (smemLoad A15 (Rect.unit (s := S5x128) o S1x1.size inb) h1 hp >>= kk) Q := by
  refine smemLoad_step c bd f (Sd := Finset.univ) (q := fullShare) ?_ (Finset.subset_univ _) (h _ (it_read c f inb k u ho hu _))
  iintro ⟨H, HX⟩
  isplitl [H]; · iexact H
  iintro H
  isplitl [H]; · iexact H
  iexact HX

theorem tld0 (f : Bf F A0 c) {X : sProp 𝕄} {o : Fin 1 → ℕ} {inb : ∀ a, o a + S1.size a ≤ S60.size a}
    {h1 : (Rect.unit (s := S60) o S1.size inb).shape.numel = 1} {hp : EltTy.packing .i32 = 1} {kk : Elt F .i32 → Pg F α} {Q : α → sProp 𝕄}
    (u : ℕ) (ho : o = ![u]) (hu : u < 60)
    (h : iprop(pt A0 c f ∗ X) ⊢ WP c bd (kk (f (ix1 ⟨u, hu⟩))) Q) :
    iprop(pt A0 c f ∗ X) ⊢ WP c bd (smemLoad A0 (Rect.unit (s := S60) o S1.size inb) h1 hp >>= kk) Q := by
  refine smemLoad_step c bd f (Sd := Finset.univ) (q := fullShare) ?_ (Finset.subset_univ _) ?_
  · iintro ⟨H, HX⟩
    isplitl [H]; · iexact H
    iintro H
    isplitl [H]; · iexact H
    iexact HX
  · have e : ∀ x : (Rect.unit (s := S60) o S1.size inb).shape.Idx, A0.view.readAt (Elt F) (Rect.unit (s := S60) o S1.size inb).toLoadRect f x = f (ix1 ⟨u, hu⟩) := by
      intro x
      refine (readAt_whole_apply cc0_stg0_0 _ f x).trans (congrArg f ?_)
      subst ho
      funext a
      match a with
      | ⟨0, _⟩ =>
        have h1 : (x 0).val < 1 := (x 0).isLt
        refine Fin.ext ?_
        show u + 1 * (x 0).val = u
        omega
    rw [e]; exact h

theorem tst (f : Bf F A15 c) {X : sProp 𝕄} {o : Fin 2 → ℕ} {inb : ∀ a, o a + S1x1.size a ≤ S5x128.size a} {v : BitVec 32}
    {hx : (A15.access (Rect.unit (s := S5x128) o S1x1.size inb)).Stores Finset.univ} {hm} {kk : PUnit → Pg F α} {Q : α → sProp 𝕄}
    (h : iprop(pt A15 c (wrT c f inb v) ∗ X) ⊢ WP c bd (kk ⟨⟩) Q) :
    iprop(pt A15 c f ∗ X) ⊢ WP c bd (Prog.lift (.store A15 (Rect.unit (s := S5x128) o S1x1.size inb) (fun _ => v) Finset.univ hx hm) >>= kk) Q := by
  refine store_step c bd f ?_ h
  iintro ⟨H, HX⟩
  isplitl [H]; · iexact H
  iintro H
  isplitl [H]; · iexact H
  iexact HX

end Steps

/-! ## The inner loop: one expert's items -/

section While1

variable (c : Dev nD) (of : ℕ → ℕ)

/-- From a list standing inside an expert's rows, the loop ends with the expert's rows covered. -/
def spec1 (e na : ℕ) (f : Bf F A15 c) : sWPT 𝕄 (BitVec 32 × BitVec 32) := do
  sWPT.consume (pt A15 c f)
  let r ← sWPT.arbitrary
  let f' ← sWPT.arbitrary (X := Bf F A15 c)
  sWPT.assume (Cur of f' e r.1.toNat (of (e + 1)) na)
  sWPT.produce (pt A15 c f')
  pure r

theorem spec1_apply (e na : ℕ) (f : Bf F A15 c) (K : BitVec 32 × BitVec 32 → sProp 𝕄) :
    spec1 c of e na f K = iprop(pt A15 c f ∗ ∀ r : BitVec 32 × BitVec 32, ∀ f' : Bf F A15 c,
      ⌜Cur of f' e r.1.toNat (of (e + 1)) na⌝ -∗ (pt A15 c f' -∗ K r)) := rfl

theorem t1_trips : k0_t1_loop.trips = 60 := by decide

theorem while1_le (t : Fin k0_t1_loop.trips) (v114 a19 : BitVec 32) (hv : v114.toNat = of (t.val + 1)) (ho : of (t.val + 1) ≤ 1536) :
    ∀ (k : ℕ) (f : Bf F A15 c) (n r : BitVec 32), Cur of f t.val n.toNat r.toNat a19.toNat → of (t.val + 1) - r.toNat ≤ k →
    ∀ K, spec1 c of t.val a19.toNat f K ⊢ wp frame (wpE (defs₀ (F := F)) Variants.nat (c : Thread nD τ) (some k)) Set.univ
      (defs₀ (F := F) .tc 1 ⟨t, v114, A15, Memref.isWhole_whole _, a19, n, r⟩) K := by
  have ht : t.val < 60 := lt_of_lt_of_eq t.isLt t1_trips
  intro k
  induction k with
  | zero =>
    intro f n r hC hk K
    have hr := hC.hi
    have e : (defs₀ (F := F) .tc 1 ⟨t, v114, A15, Memref.isWhole_whole _, a19, n, r⟩ : Pg F _)
        = cc0_while1_skel t v114 A15 (Memref.isWhole_whole _) a19 n r := congrFun (congrFun (congrFun (congrFun (congrFun (congrFun (congrFun cc0_while1_eq_skeleton t) v114) A15) _) a19) n) r
    rw [spec1_apply, e, cc0_while1_skel]
    refine ite_step c _ ?_ fun _ => ?_
    · intro hc
      rw [cmpi_slt_iff (by omega) (by omega)] at hc
      omega
    · refine pure_step c _ ?_
      have hre : r.toNat = of (t.val + 1) := by omega
      iintro ⟨H, HK⟩
      rw [hre] at hC
      iapply HK
      · ipureintro; exact hC
      · iexact H
  | succ k ih =>
    intro f n r hC hk K
    have hr := hC.hi
    have e : (defs₀ (F := F) .tc 1 ⟨t, v114, A15, Memref.isWhole_whole _, a19, n, r⟩ : Pg F _)
        = cc0_while1_skel t v114 A15 (Memref.isWhole_whole _) a19 n r := congrFun (congrFun (congrFun (congrFun (congrFun (congrFun (congrFun cc0_while1_eq_skeleton t) v114) A15) _) a19) n) r
    rw [spec1_apply, e, cc0_while1_skel]
    refine ite_step c _ ?_ fun hc => ?_
    · intro hc
      rw [cmpi_slt_iff (by omega) (by omega), hv] at hc
      have hn : n.toNat < 100 := hC.n_lt ht hc ho
      have hw : (Scalar.minsi (Scalar.andi r 4294967280#32) 1408#32).toNat = min (r.toNat / 16 * 16) 1408 := by
        rw [minsi_nat (by rw [and16 (by omega)]; omega) (by decide), and16 (by omega)]; rfl
      have hw2 : (Scalar.addi (Scalar.minsi (Scalar.andi r 4294967280#32) 1408#32) 128#32).toNat = min (r.toNat / 16 * 16) 1408 + 128 := by
        rw [addi_nat (by rw [hw]; show _ + 128 < _; omega), hw]; rfl
      have hr' : (Scalar.minsi v114 (Scalar.addi (Scalar.minsi (Scalar.andi r 4294967280#32) 1408#32) 128#32)).toNat
          = min (of (t.val + 1)) (min (r.toNat / 16 * 16) 1408 + 128) := by
        rw [minsi_nat (by omega) (by rw [hw2]; omega), hw2, hv]
      have hn1 : (Scalar.addi n 1#32).toNat = n.toNat + 1 := by rw [addi_nat (by show _ + 1 < _; omega)]; rfl
      have htv : (Scf.iv 0#32 1#32 t.val).toNat = t.val := iv_nat _ (by omega)
      refine assume_step c _ ⟨inb15 0 n.toNat rfl (by omega) (by omega), inb15 1 n.toNat rfl (by omega) (by omega), inb15 2 n.toNat rfl (by omega) (by omega),
        inb15 3 n.toNat rfl (by omega) (by omega), inb15 4 n.toNat rfl (by omega) (by omega)⟩ ?_
      refine tld c _ f 0 n.toNat rfl (by omega) fun _ _ => ?_
      refine tst c _ f ?_
      refine tld c _ _ 1 n.toNat rfl (by omega) fun _ _ => ?_
      refine tst c _ _ ?_
      refine tld c _ _ 2 n.toNat rfl (by omega) fun _ _ => ?_
      refine tst c _ _ ?_
      refine tld c _ _ 3 n.toNat rfl (by omega) fun _ _ => ?_
      refine tst c _ _ ?_
      refine tld c _ _ 4 n.toNat rfl (by omega) fun _ _ => ?_
      refine tst c _ _ ?_
      have hC' : Cur of (put5 c f n.toNat (by omega) (Scf.iv 0#32 1#32 t.val) (Scalar.minsi (Scalar.andi r 4294967280#32) 1408#32) r
          (Scalar.minsi v114 (Scalar.addi (Scalar.minsi (Scalar.andi r 4294967280#32) 1408#32) 128#32)) a19) t.val (Scalar.addi n 1#32).toNat
          (Scalar.minsi v114 (Scalar.addi (Scalar.minsi (Scalar.andi r 4294967280#32) 1408#32) 128#32)).toNat a19.toNat := by
        rw [hn1]
        refine hC.push ht hc ho rfl hr' ?_ ?_ ?_ ?_ ?_ ?_
        · rw [it_put5, if_pos rfl]; exact htv
        · rw [it_put5, if_pos rfl]; exact hw
        · rw [it_put5, if_pos rfl]; rfl
        · rw [it_put5, if_pos rfl]; rfl
        · rw [it_put5, if_pos rfl]; rfl
        · intro j u hu
          rw [it_put5, if_neg hu]
      refine BIBase.Entails.trans ?_ (wp_call_spec Variants.nat (c : Thread nD τ) (some (k + 1)) Set.univ
        (spec1 c of t.val a19.toNat (put5 c f n.toNat (by omega) (Scf.iv 0#32 1#32 t.val) (Scalar.minsi (Scalar.andi r 4294967280#32) 1408#32) r
          (Scalar.minsi v114 (Scalar.addi (Scalar.minsi (Scalar.andi r 4294967280#32) 1408#32) 128#32)) a19)) k
        (fun u hu => by cases hu; exact Nat.lt_succ_self k)
        (ih _ (Scalar.addi n 1#32) _ hC' (by rw [hr']; omega)))
      rw [spec1_apply]
      iintro ⟨H, HK⟩
      isplitl [H]; · iexact H
      iintro %r %f' %hC'' H
      iapply (le_wp_ret _ _ _ _ _)
      iapply HK
      · ipureintro; exact hC''
      · iexact H
    · rw [cmpi_slt_iff (by omega) (by omega)] at hc
      refine pure_step c _ ?_
      have hre : r.toNat = of (t.val + 1) := by omega
      iintro ⟨H, HK⟩
      rw [hre] at hC
      iapply HK
      · ipureintro; exact hC
      · iexact H

end While1

/-! ## The outer loop: the experts in turn -/

section Outer

variable (c : Dev nD)

/-- The table while expert `e` is next, with the loop's three words. -/
def inv1 (f0 : Bf F A0 c) (e : ℕ) (acc : BitVec 32 × BitVec 32 × BitVec 32) : sProp 𝕄 :=
  iprop(∃ f15 : Bf F A15 c, ⌜Cur (offs c f0) f15 e acc.1.toNat (offs c f0 e) acc.2.1.toNat ∧ acc.2.2.toNat = offs c f0 e⌝
    ∗ pt A15 c f15 ∗ pt A0 c f0)

theorem one_bit (b : BitVec 1) : (Scalar.extui b : BitVec 32).toNat = if b = 1#1 then 1 else 0 := by
  revert b; decide

theorem t1_trip (f0 : Bf F A0 c) (ho : offs c f0 60 ≤ 1536) (t : Fin k0_t1_loop.trips) (acc : BitVec 32 × BitVec 32 × BitVec 32)
 :
    inv1 c f0 t.val acc ⊢ WP c none (k0_t1_body A0 (Memref.isWhole_whole _) A1 (Memref.isWhole_whole _) A2 (Memref.isWhole_whole _)
      A3 (Memref.isWhole_whole _) A4 (Memref.isWhole_whole _) A5 (Memref.isWhole_whole _) A6 (Memref.isWhole_whole _) A7 (Memref.isWhole_whole _)
      A8 (Memref.isWhole_whole _) A9 (Memref.isWhole_whole _) A10 (Memref.isWhole_whole _) A11 (Memref.isWhole_whole _) A12 (Memref.isWhole_whole _)
      A13 (Memref.isWhole_whole _) A14 (Memref.isWhole_whole _) A15 (Memref.isWhole_whole _) cc0_scratch8 t acc) (inv1 c f0 (t.val + 1)) := by
  have ht : t.val < 60 := lt_of_lt_of_eq t.isLt t1_trips
  obtain ⟨n, na, lo⟩ := acc
  have hm : offs c f0 (t.val + 1) ≤ offs c f0 60 := offs_mono c f0 (by omega)
  have hm0 : offs c f0 t.val ≤ offs c f0 (t.val + 1) := offs_mono c f0 (by omega)
  have hsz := offs_succ c f0 t.val ht
  unfold k0_t1_body
  dsimp only
  refine BIBase.Entails.trans (Q := iprop(∃ f15 : Bf F A15 c, pt A0 c f0 ∗ (⌜Cur (offs c f0) f15 t.val n.toNat (offs c f0 t.val) na.toNat ∧ lo.toNat = offs c f0 t.val⌝
    ∗ pt A15 c f15))) ?_ ?_
  · unfold inv1
    iintro ⟨%f15, %hC, H15, H0⟩
    iexists f15
    isplitl [H0]; · iexact H0
    isplitr; · ipureintro; exact hC
    iexact H15
  refine ex_elim fun f15 => ?_
  refine tld0 c none f0 t.val ?_ ht ?_
  · show ![(Scf.iv 0#32 1#32 t.val).toNat] = _
    rw [iv_nat _ (by omega)]
  refine BIBase.Entails.trans (Q := iprop(⌜Cur (offs c f0) f15 t.val n.toNat (offs c f0 t.val) na.toNat ∧ lo.toNat = offs c f0 t.val⌝
    ∗ (pt A15 c f15 ∗ pt A0 c f0))) ?_ ?_
  · iintro ⟨H0, %hC, H15⟩
    isplitr; · ipureintro; exact hC
    isplitl [H15]; · iexact H15
    iexact H0
  refine pure_sep fun hC => ?_
  obtain ⟨hC, hlo⟩ := hC
  have hv : (Scalar.addi lo (f0 (ix1 ⟨t.val, ht⟩)) : BitVec 32).toNat = offs c f0 (t.val + 1) := by
    rw [addi_nat (by omega), hsz, hlo]
  refine bind_step c none ?_
  refine BIBase.Entails.trans ?_ (wp_call_spec Variants.nat (c : Thread nD τ) none Set.univ
        (spec1 c (offs c f0) t.val na.toNat f15) 1536 (fun u hu => by cases hu)
        (while1_le c (offs c f0) t _ na hv (by omega) 1536 f15 n lo (by rw [hlo]; exact hC) (by omega)))
  rw [spec1_apply]
  iintro ⟨H, H0⟩
  isplitl [H]; · iexact H
  iintro %r %f' %hC' H
  iapply (le_wp_ret _ _ _ _ _)
  iapply (le_wp_ret _ _ _ _ _)
  unfold inv1
  iexists f'
  isplitr
  · ipureintro
    refine ⟨?_, hv⟩
    have hn := hC'.next (offs_mono c f0 (by omega))
    have hna := hC'.na_le
    have hlen : r.1.toNat ≤ 74 := by rcases hC'.cnt with h1 | h1 <;> omega
    have hb : (Scalar.extui (Scalar.cmpi .sgt (Scalar.addi lo (f0 (ix1 ⟨t.val, ht⟩))) lo) : BitVec 32).toNat
        = if offs c f0 t.val < offs c f0 (t.val + 1) then 1 else 0 := by
      rw [one_bit]
      have : (Scalar.cmpi .sgt (Scalar.addi lo (f0 (ix1 ⟨t.val, ht⟩))) lo = 1#1) ↔ offs c f0 t.val < offs c f0 (t.val + 1) := by
        refine (cmpi_slt_iff (x := lo) (y := Scalar.addi lo (f0 (ix1 ⟨t.val, ht⟩))) (by omega) (by rw [hv]; omega)).trans ?_
        rw [hv, hlo]
      simp only [this]
    have he : (Scalar.addi na (Scalar.extui (Scalar.cmpi .sgt (Scalar.addi lo (f0 (ix1 ⟨t.val, ht⟩))) lo)) : BitVec 32).toNat
        = na.toNat + if offs c f0 t.val < offs c f0 (t.val + 1) then 1 else 0 := by
      rw [addi_nat (by rw [hb]; split <;> omega), hb]
    show Cur _ _ _ r.1.toNat _ (Scalar.addi na (Scalar.extui (Scalar.cmpi .sgt (Scalar.addi lo (f0 (ix1 ⟨t.val, ht⟩))) lo)) : BitVec 32).toNat
    rw [he]; exact hn
  isplitl [H]; · iexact H
  iexact H0

end Outer

/-! ## The search for the next expert's first item -/

section While2

variable (c : Dev nD)

/-- Items from `t` up to `u` are of one expert. -/
def Same (f : Tbl) (t n u : ℕ) : Prop := t < u ∧ u ≤ n ∧ ∀ v, t ≤ v → v < u → it f 4 v = it f 4 t

/-- The search ends at the first entry of another number. -/
def spec2 (t n : ℕ) (f : Bf F A15 c) : sWPT 𝕄 (BitVec 32) := do
  sWPT.consume (pt A15 c f)
  let r ← sWPT.arbitrary
  sWPT.assume (Same f t n (BitVec.toNat (w := 32) r) ∧ it f 4 (BitVec.toNat (w := 32) r) ≠ it f 4 t)
  sWPT.produce (pt A15 c f)
  pure r

theorem spec2_apply (t n : ℕ) (f : Bf F A15 c) (K : BitVec 32 → sProp 𝕄) :
    spec2 c t n f K = iprop(pt A15 c f ∗ ∀ r : BitVec 32, ⌜Same f t n r.toNat ∧ it f 4 r.toNat ≠ it f 4 t⌝ -∗ (pt A15 c f -∗ K r)) := rfl

theorem while2_le {of : ℕ → ℕ} {n : ℕ} (f : Bf F A15 c) (hF : Fin1 of f n) (v1_0 : BitVec 32) (hw2 : k0_chk2 v1_0) (t : Fin (k0_t2_loop v1_0).trips)
    (v113 v115 : BitVec 32) (hw4 : k0_chk4 v115) (v121 v128 : BitVec 32) (hw5 : k0_chk5 v1_0 t v113 v121 v128) (ht : t.val < n) :
    ∀ (k : ℕ) (u : BitVec 32), Same f t.val n u.toNat → n - u.toNat ≤ k →
    ∀ K, spec2 c t.val n f K ⊢ wp frame (wpE (defs₀ (F := F)) Variants.nat (c : Thread nD τ) (some k)) Set.univ
      (defs₀ (F := F) .tc 2 ⟨v1_0, hw2, t, v113, v115, hw4, v121, v128, hw5, A15, Memref.isWhole_whole _, u⟩) K := by
  have hlen := hF.len
  have hJ := hF.tab.J_le t.val ht
  intro k
  induction k with
  | zero =>
    intro u hS hk K
    obtain ⟨h1, h2, h3⟩ := hS
    have hun : u.toNat = n := by omega
    have e : (defs₀ (F := F) .tc 2 ⟨v1_0, hw2, t, v113, v115, hw4, v121, v128, hw5, A15, Memref.isWhole_whole _, u⟩ : Pg F _)
        = cc0_while2_skel v1_0 hw2 t v113 v115 hw4 v121 v128 hw5 A15 (Memref.isWhole_whole _) u := rfl
    rw [spec2_apply, e, cc0_while2_skel]
    refine assume_step c _ (inb15 4 u.toNat rfl (by omega) (by omega)) ?_
    refine tld c _ f 4 u.toNat rfl (by omega) fun a ha => ?_
    refine tld c _ f 4 t.val ?_ (by omega) fun b hb => ?_
    · show ![4, (Scf.iv 0#32 1#32 t.val).toNat] = _
      rw [iv_nat _ (by omega)]; rfl
    have hne : it f 4 u.toNat ≠ it f 4 t.val := by rw [hun, hF.mark]; omega
    refine ite_step c _ ?_ fun _ => ?_
    · intro hc
      exact absurd (cmpi_eq_nat.mp hc) (by rw [ha, hb]; exact hne)
    · refine pure_step c _ ?_
      iintro ⟨H, HK⟩
      iapply HK
      · ipureintro; exact ⟨⟨h1, h2, h3⟩, hne⟩
      · iexact H
  | succ k ih =>
    intro u hS hk K
    obtain ⟨h1, h2, h3⟩ := hS
    have e : (defs₀ (F := F) .tc 2 ⟨v1_0, hw2, t, v113, v115, hw4, v121, v128, hw5, A15, Memref.isWhole_whole _, u⟩ : Pg F _)
        = cc0_while2_skel v1_0 hw2 t v113 v115 hw4 v121 v128 hw5 A15 (Memref.isWhole_whole _) u := rfl
    rw [spec2_apply, e, cc0_while2_skel]
    refine assume_step c _ (inb15 4 u.toNat rfl (by omega) (by omega)) ?_
    refine tld c _ f 4 u.toNat rfl (by omega) fun a ha => ?_
    refine tld c _ f 4 t.val ?_ (by omega) fun b hb => ?_
    · show ![4, (Scf.iv 0#32 1#32 t.val).toNat] = _
      rw [iv_nat _ (by omega)]; rfl
    refine ite_step c _ ?_ fun hc => ?_
    · intro hc
      have heq : it f 4 u.toNat = it f 4 t.val := by rw [← ha, ← hb]; exact cmpi_eq_nat.mp hc
      have hun : u.toNat ≠ n := by intro hun; rw [hun, hF.mark] at heq; omega
      have hu1 : (Scalar.addi u 1#32).toNat = u.toNat + 1 := by rw [addi_nat (by show _ + 1 < _; omega)]; rfl
      refine BIBase.Entails.trans ?_ (wp_call_spec Variants.nat (c : Thread nD τ) (some (k + 1)) Set.univ
        (spec2 c t.val n f) k (fun u hu => by cases hu; exact Nat.lt_succ_self k)
        (ih (Scalar.addi u 1#32) ?_ (by rw [hu1]; omega)))
      · rw [spec2_apply]
        iintro ⟨H, HK⟩
        isplitl [H]; · iexact H
        iintro %r %hr H
        iapply (le_wp_ret _ _ _ _ _)
        iapply HK
        · ipureintro; exact hr
        · iexact H
      · rw [hu1]
        refine ⟨by omega, by omega, fun v hv hv' => ?_⟩
        by_cases hvu : v = u.toNat
        · rw [hvu]; exact heq
        · exact h3 v hv (by omega)
    · refine pure_step c _ ?_
      iintro ⟨H, HK⟩
      iapply HK
      · ipureintro
        refine ⟨⟨h1, h2, h3⟩, fun heq => hc (cmpi_eq_nat.mpr ?_)⟩
        rw [ha, hb]; exact heq
      · iexact H

end While2

end Cert.KernelIdeal.Hand

end
-- ==== Proof.KernelIdeal.Tiles.lean ====
/-
  What one item's arithmetic leaves in each tile, written once for every tile: the nibbles of a block of
  packed rows, the block times its scales, the three products, the gate and the masked blend.
-/
module

public import proofs.«01_k».proof.Proof.KernelIdeal.Base

@[expose] public section

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] (c : Dev nD)

/-! ## Slots and rectangles -/

/-- The slot an item's weights lie in. -/
def slotOf (j : BitVec 32) : ℕ := (Scalar.andi j 1#32).toNat
theorem slotOf_lt (j : BitVec 32) : slotOf j < 2 := by
  simp only [slotOf, Scalar.andi, BitVec.toNat_and]
  exact lt_of_le_of_lt Nat.and_le_right (by decide)

/-- The same, as an index. -/
def sf (j : BitVec 32) : Fin 2 := ⟨slotOf j, slotOf_lt j⟩

theorem inb8 {s n : ℕ} (hs : s < 2) (hn : n < 11) : ∀ a, (![s, 0, 256 * n] : Fin 3 → ℕ) a + S1x1024x256.size a ≤ S2x1024x2816.size a := by
  intro a; fin_cases a <;> simp [Shape.size] <;> omega
theorem inb9 {s n k : ℕ} (hs : s < 2) (hn : n < 11) (hk : k < 16) : ∀ a, (![s, k, 256 * n] : Fin 3 → ℕ) a + S1x1x256.size a ≤ S2x16x2816.size a := by
  intro a; fin_cases a <;> simp [Shape.size] <;> omega
theorem inb10 {s n : ℕ} (hs : s < 2) (hn : n < 8) : ∀ a, (![s, 0, 256 * n] : Fin 3 → ℕ) a + S1x704x256.size a ≤ S2x704x2048.size a := by
  intro a; fin_cases a <;> simp [Shape.size] <;> omega
theorem inb11 {s n k : ℕ} (hs : s < 2) (hn : n < 8) (hk : k < 11) : ∀ a, (![s, k, 256 * n] : Fin 3 → ℕ) a + S1x1x256.size a ≤ S2x11x2048.size a := by
  intro a; fin_cases a <;> simp [Shape.size] <;> omega
theorem inb12 {n : ℕ} (hn : n < 22) : ∀ a, (![0, 128 * n] : Fin 2 → ℕ) a + S128x128.size a ≤ S128x2816.size a := by
  intro a; fin_cases a <;> simp [Shape.size] <;> omega

/-- Block `n` of 256 columns of slot `s` of the first weights. -/
def rd8 (f : Bf F A8 c) (s : Fin 2) (n : Fin 11) : Vec F S1x1024x256 .i8 :=
  A8.view.readAt (Elt F) (Rect.unit (s := S2x1024x2816) ![s, 0, 256 * n] S1x1024x256.size (inb8 s.2 n.2)).toLoadRect f
/-- Row `k` of block `n` of the first scales. -/
def rd9 (f : Bf F A9 c) (s : Fin 2) (n : Fin 11) (k : Fin 16) : Vec F S1x1x256 .bf16 :=
  A9.view.readAt (Elt F) (Rect.unit (s := S2x16x2816) ![s, k, 256 * n] S1x1x256.size (inb9 s.2 n.2 k.2)).toLoadRect f
/-- Block `n` of the second weights. -/
def rd10 (f : Bf F A10 c) (s : Fin 2) (n : Fin 8) : Vec F S1x704x256 .i8 :=
  A10.view.readAt (Elt F) (Rect.unit (s := S2x704x2048) ![s, 0, 256 * n] S1x704x256.size (inb10 s.2 n.2)).toLoadRect f
/-- Row `k` of block `n` of the second scales. -/
def rd11 (f : Bf F A11 c) (s : Fin 2) (n : Fin 8) (k : Fin 11) : Vec F S1x1x256 .bf16 :=
  A11.view.readAt (Elt F) (Rect.unit (s := S2x11x2048) ![s, k, 256 * n] S1x1x256.size (inb11 s.2 n.2 k.2)).toLoadRect f
/-- Block `n` of 128 columns of the first product. -/
def rd12 (f : Bf F A12 c) (n : Fin 22) : Vec F S128x128 .f32 :=
  A12.view.readAt (Elt F) (Rect.unit (s := S128x2816) ![0, 128 * n] S128x128.size (inb12 n.2)).toLoadRect f
/-- The gated activations, whole. -/
def rd13 (f : Bf F A13 c) : Vec F S128x1408 .bf16 :=
  A13.view.readAt (Elt F) (Rect.unit (s := S128x1408) ![0, 0] S128x1408.size inb_S128x1408_S128x1408_0_0).toLoadRect f

/-! ## Dequantisation -/

/-- The signed nibbles of 1024 packed rows. -/
def nib (w : Vec F S1x1024x256 .i8) : FVec F S2048x256 .bf16 := k0_pay9 (F := F) (k0_pay8 (F := F) w)
/-- The signed nibbles of 704 packed rows. -/
def nib' (w : Vec F S1x704x256 .i8) : FVec F S1408x256 .bf16 := k0_pay194 (F := F) w

/-- 128 rows from `o` times their scale row. -/
def wsl (q : FVec F S2048x256 .bf16) (s : Vec F S1x1x256 .bf16) (o : Fin 2 → ℕ) (h : S2048x256.Slices o S128x256) : FVec F S128x256 .bf16 :=
  mulf (extractStridedSlice S128x256 o q h) (broadcastTo S128x256 (shapeCast S1x256 s shapeCasts_S1x1x256_S1x256) broadcasts_S1x256_S128x256)
def wsl' (q : FVec F S1408x256 .bf16) (s : Vec F S1x1x256 .bf16) (o : Fin 2 → ℕ) (h : S1408x256.Slices o S128x256) : FVec F S128x256 .bf16 :=
  mulf (extractStridedSlice S128x256 o q h) (broadcastTo S128x256 (shapeCast S1x256 s shapeCasts_S1x1x256_S1x256) broadcasts_S1x256_S128x256)

def deq (q : FVec F S2048x256 .bf16) (s : Fin 16 → Vec F S1x1x256 .bf16) : FVec F S2048x256 .bf16 :=
  concatenate S2048x256 0 [⟨S128x256, wsl q (s 0) ![0, 0] slices_S2048x256_o0_0_S128x256⟩,
      ⟨S128x256, wsl q (s 1) ![128, 0] slices_S2048x256_o128_0_S128x256⟩,
      ⟨S128x256, wsl q (s 2) ![256, 0] slices_S2048x256_o256_0_S128x256⟩,
      ⟨S128x256, wsl q (s 3) ![384, 0] slices_S2048x256_o384_0_S128x256⟩,
      ⟨S128x256, wsl q (s 4) ![512, 0] slices_S2048x256_o512_0_S128x256⟩,
      ⟨S128x256, wsl q (s 5) ![640, 0] slices_S2048x256_o640_0_S128x256⟩,
      ⟨S128x256, wsl q (s 6) ![768, 0] slices_S2048x256_o768_0_S128x256⟩,
      ⟨S128x256, wsl q (s 7) ![896, 0] slices_S2048x256_o896_0_S128x256⟩,
      ⟨S128x256, wsl q (s 8) ![1024, 0] slices_S2048x256_o1024_0_S128x256⟩,
      ⟨S128x256, wsl q (s 9) ![1152, 0] slices_S2048x256_o1152_0_S128x256⟩,
      ⟨S128x256, wsl q (s 10) ![1280, 0] slices_S2048x256_o1280_0_S128x256⟩,
      ⟨S128x256, wsl q (s 11) ![1408, 0] slices_S2048x256_o1408_0_S128x256⟩,
      ⟨S128x256, wsl q (s 12) ![1536, 0] slices_S2048x256_o1536_0_S128x256⟩,
      ⟨S128x256, wsl q (s 13) ![1664, 0] slices_S2048x256_o1664_0_S128x256⟩,
      ⟨S128x256, wsl q (s 14) ![1792, 0] slices_S2048x256_o1792_0_S128x256⟩,
      ⟨S128x256, wsl q (s 15) ![1920, 0] slices_S2048x256_o1920_0_S128x256⟩] concatenates_S128x256_S128x256_S128x256_S128x256_S128x256_S128x256_S128x256_S128x256_S128x256_S128x256_S128x256_S128x256_S128x256_S128x256_S128x256_S128x256_S2048x256_d0
def deq' (q : FVec F S1408x256 .bf16) (s : Fin 11 → Vec F S1x1x256 .bf16) : FVec F S1408x256 .bf16 :=
  concatenate S1408x256 0 [⟨S128x256, wsl' q (s 0) ![0, 0] slices_S1408x256_o0_0_S128x256⟩,
      ⟨S128x256, wsl' q (s 1) ![128, 0] slices_S1408x256_o128_0_S128x256⟩,
      ⟨S128x256, wsl' q (s 2) ![256, 0] slices_S1408x256_o256_0_S128x256⟩,
      ⟨S128x256, wsl' q (s 3) ![384, 0] slices_S1408x256_o384_0_S128x256⟩,
      ⟨S128x256, wsl' q (s 4) ![512, 0] slices_S1408x256_o512_0_S128x256⟩,
      ⟨S128x256, wsl' q (s 5) ![640, 0] slices_S1408x256_o640_0_S128x256⟩,
      ⟨S128x256, wsl' q (s 6) ![768, 0] slices_S1408x256_o768_0_S128x256⟩,
      ⟨S128x256, wsl' q (s 7) ![896, 0] slices_S1408x256_o896_0_S128x256⟩,
      ⟨S128x256, wsl' q (s 8) ![1024, 0] slices_S1408x256_o1024_0_S128x256⟩,
      ⟨S128x256, wsl' q (s 9) ![1152, 0] slices_S1408x256_o1152_0_S128x256⟩,
      ⟨S128x256, wsl' q (s 10) ![1280, 0] slices_S1408x256_o1280_0_S128x256⟩] concatenates_S128x256_S128x256_S128x256_S128x256_S128x256_S128x256_S128x256_S128x256_S128x256_S128x256_S128x256_S1408x256_d0

/-! ## The tiles -/

/-- Tile `n` of the first product. -/
def guT (x : Vec F S128x2048 .bf16) (f8 : Bf F A8 c) (f9 : Bf F A9 c) (s : Fin 2) (n : Fin 11) : FVec F S128x256 .f32 :=
  shapeCast S128x256 (matmul dot_S128x2048_S2048x256_S128x256_1_0_0_1_n_n none x (deq (nib (rd8 c f8 s n)) (rd9 c f9 s n))
    (constant S128x256 .f32 0x00000000#32)) shapeCasts_S128x256_S128x256
/-- A tile of the gated activations. -/
def hP (g v : Vec F S128x128 .f32) : FVec F S128x128 .bf16 := k0_pay180 g v
/-- Tile `n` of the gated activations, of the first product. -/
def hT (gu : Bf F A12 c) (n : Fin 11) : FVec F S128x128 .bf16 :=
  hP (rd12 c gu ⟨n, by omega⟩) (rd12 c gu ⟨11 + n, by omega⟩)
/-- Tile `n` of the second product. -/
def mmT (h : Vec F S128x1408 .bf16) (f10 : Bf F A10 c) (f11 : Bf F A11 c) (s : Fin 2) (n : Fin 8) : FVec F S128x256 .f32 :=
  matmul dot_S128x1408_S1408x256_S128x256_1_0_0_1_n_n none h (deq' (nib' (rd10 c f10 s n)) (rd11 c f11 s n))
    (constant S128x256 .f32 0x00000000#32)
/-- One half of a tile of 256 columns. -/
def half (v : FVec F S128x256 .f32) : Fin 2 → FVec F S128x128 .f32
  | 0 => extractStridedSlice S128x128 ![0, 0] v slices_S128x256_o0_0_S128x128
  | 1 => extractStridedSlice S128x128 ![0, 128] v slices_S128x256_o0_128_S128x128
/-- The blend: where the row is the item's the product times the row's weight, else what was there. -/
def blend (mk : IVec S128x128 1) (rw : Vec F S128x128 .f32) (v : FVec F S128x128 .f32) (old : Vec F S128x128 .bf16) : FVec F S128x128 .bf16 :=
  truncf .bf16 (select mk (mulf v rw) (extf .f32 (shapeCast S128x128 old shapeCasts_S128x128_S128x128) bitsLt_bf16_f32)) bitsLt_bf16_f32
/-- What is stored to block `2 n + i` of 128 columns. -/
def yT (mk : IVec S128x128 1) (rw : Vec F S128x128 .f32) (h : Vec F S128x1408 .bf16) (f10 : Bf F A10 c) (f11 : Bf F A11 c) (s : Fin 2)
    (n : Fin 8) (i : Fin 2) (old : Vec F S128x128 .bf16) : FVec F S128x128 .bf16 :=
  blend mk rw (half (mmT c h f10 f11 s n) i) old

end Cert.KernelIdeal.Hand

end
-- ==== Proof.KernelIdeal.Checks.lean ====
/-
  The kernel's own assertions about offsets, from what is known of an item's words.
-/
module

public import proofs.«01_k».proof.Proof.KernelIdeal.List
public import proofs.«01_k».proof.Proof.KernelIdeal.Tiles
public import Idealize.ShloMosaic.Lib.LoopRemainder

@[expose] public section

noncomputable section

namespace Cert.KernelIdeal.Hand

open Cert.KernelIdeal Cert.KernelIdeal.Gen Cert.Hand
open Idealize.ShloMosaic Idealize.ShloMosaic.TcCoe Idealize.ShloMosaic.Tactic Idealize.ShloMosaic.ValueIdx

theorem inb3 {n a b a' b' : ℕ} {o : Fin 3 → ℕ} (m x y : ℕ) (hm : m < n) (ho : o = ![m, x, y]) (hx : x + a' ≤ a) (hy : y + b' ≤ b) :
    ∀ i, o i + (⟨3, ![1, a', b']⟩ : Shape).size i ≤ (⟨3, ![n, a, b]⟩ : Shape).size i := by
  subst ho
  intro i; fin_cases i
  · exact hm
  · exact hx
  · exact hy

theorem inb2 {n m a b : ℕ} {o : Fin 2 → ℕ} (x y : ℕ) (ho : o = ![x, y]) (hx : x + a ≤ n) (hy : y + b ≤ m) :
    ∀ i, o i + (⟨2, ![a, b]⟩ : Shape).size i ≤ (⟨2, ![n, m]⟩ : Shape).size i := by
  subst ho
  intro i; fin_cases i
  · exact hx
  · exact hy

theorem ww3 {n a b p : ℕ} {o : Fin 3 → ℕ} {inb : ∀ i, o i + (⟨3, ![1, a, b]⟩ : Shape).size i ≤ (⟨3, ![n, a, b]⟩ : Shape).size i} (m : ℕ)
    (ho : o = ![m, 0, 0]) : (Rect.unit (s := ⟨3, ![n, a, b]⟩) o (⟨3, ![1, a, b]⟩ : Shape).size inb).WholeWords p := by
  subst ho
  exact .inr ⟨(by decide : 2 ≤ 3), rfl, rfl, rfl⟩

theorem pk2 {n m a b p : ℕ} {o : Fin 2 → ℕ} {inb : ∀ i, o i + (⟨2, ![a, b]⟩ : Shape).size i ≤ (⟨2, ![n, m]⟩ : Shape).size i} (x y : ℕ)
    (ho : o = ![x, y]) (hx : p ∣ x) (ha : p ∣ a) : (Rect.unit (s := ⟨2, ![n, m]⟩) o (⟨2, ![a, b]⟩ : Shape).size inb).PackedRows p := by
  subst ho
  exact .inr ⟨le_refl 2, rfl, .inl ⟨hx, ha⟩⟩

/-- The other slot. -/
theorem other_lt (j : BitVec 32) : (Scalar.subi 1#32 (Scalar.andi j 1#32)).toNat = 1 - slotOf j := by
  have h := slotOf_lt j
  have hb : (Scalar.subi 1#32 (Scalar.andi j 1#32)).toNat = (2 ^ 32 - (Scalar.andi j 1#32).toNat + 1) % 2 ^ 32 := BitVec.toNat_sub _ _
  rw [hb]
  have : (Scalar.andi j 1#32).toNat = slotOf j := rfl
  rw [this]; omega

theorem chk3_of (n E : BitVec 32) (h : E.toNat < 60) : k0_chk3 n E :=
  ⟨fun _ => inb3 _ _ _ h rfl (by decide) (by decide), fun _ _ => ww3 _ rfl, fun _ => inb3 _ _ _ h rfl (by decide) (by decide), fun _ _ => ww3 _ rfl,
   fun _ => inb3 _ _ _ h rfl (by decide) (by decide), fun _ _ => ww3 _ rfl, fun _ => inb3 _ _ _ h rfl (by decide) (by decide), fun _ _ => ww3 _ rfl⟩

theorem chk4_of (W : BitVec 32) (h16 : 16 ∣ W.toNat) (h : W.toNat ≤ 1408) : k0_chk4 W := by
  have h2 : 2 ∣ W.toNat := by omega
  have hm : 16 ∣ (k0_mult1 W).toNat := h16
  have h128 : W.toNat + 128 ≤ 1536 := by omega
  unfold k0_chk4 k0_chk4_0 k0_chk4_1
  repeat' apply And.intro
  all_goals first
    | exact hm
    | exact inb2 W.toNat _ rfl h128 (by decide)
    | exact fun _ => pk2 W.toNat _ rfl h2 (by decide)

theorem chk5_of (n : BitVec 32) (t : Fin (k0_t2_loop n).trips) (E j v128 : BitVec 32) (h : E.toNat < 60) : k0_chk5 n t E j v128 := by
  have hs := slotOf_lt j
  unfold k0_chk5
  repeat' apply And.intro
  all_goals first
    | exact fun _ => inb3 _ _ _ h rfl (by decide) (by decide)
    | exact fun _ => inb3 (slotOf j) _ _ hs rfl (by decide) (by decide)
    | exact fun _ => inb2 (slotOf j) _ rfl hs (by decide)
    | exact fun _ _ => ww3 _ rfl

theorem chk7_of (n : BitVec 32) (t : Fin (k0_t2_loop n).trips) (j v128 u : BitVec 32) (h : u.toNat < 128) : k0_chk7 n t j v128 u := by
  have hs : (Scalar.subi 1#32 (Scalar.andi j 1#32)).toNat < 2 := by rw [other_lt]; omega
  unfold k0_chk7
  repeat' apply And.intro
  all_goals first
    | exact fun _ => inb2 0 u.toNat rfl (by decide) h
    | exact fun _ => inb3 (Scalar.subi 1#32 (Scalar.andi j 1#32)).toNat _ _ hs rfl (by decide) (by decide)
    | exact fun _ => inb2 (Scalar.subi 1#32 (Scalar.andi j 1#32)).toNat _ rfl hs (by decide)
    | exact fun _ _ => ww3 _ rfl

theorem chk8_of (n : BitVec 32) (t : Fin (k0_t2_loop n).trips) (j v128 u E : BitVec 32) (h : E.toNat < 60) : k0_chk8 n t j v128 u E := by
  unfold k0_chk8
  repeat' apply And.intro
  all_goals first
    | exact fun _ => inb3 _ _ _ h rfl (by decide) (by decide)
    | exact fun _ _ => ww3 _ rfl

set_option maxHeartbeats 0 in
theorem chk9_of (j : BitVec 32) : k0_chk9 j := by
  have hs := slotOf_lt j
  unfold k0_chk9 k0_chk9_0 k0_chk9_1 k0_chk9_2 k0_chk9_3 k0_chk9_4 k0_chk9_5 k0_chk9_6 k0_chk9_7 k0_chk9_8
  repeat' apply And.intro
  all_goals exact inb3 (slotOf j) _ _ hs rfl (by decide) (by decide)

/-! ## The two loops over the items -/

theorem sub0 (x : BitVec 32) : Scalar.subi x 0#32 = x := BitVec.sub_zero x
theorem add0 (x : BitVec 32) : Scalar.addi 0#32 x = x := BitVec.zero_add x

theorem t2_ub (n : BitVec 32) : (k0_t2_loop n).ub = n := by
  show Scalar.addi 0#32 (Scalar.muli (Scalar.divsi (Scalar.subi n 0#32) 1#32) 1#32) = n
  rw [Scalar.muli_divsi_one, sub0, add0]

theorem t2_trips (n : BitVec 32) (h : n.toNat ≤ 74) : (k0_t2_loop n).trips = n.toNat := by
  have hi : n.toInt = n.toNat := BitVec.toInt_eq_toNat_of_lt (by omega)
  show Scf.trips 0#32 (k0_t2_loop n).ub 1#32 = _
  rw [t2_ub]
  have h1 : (1#32 : BitVec 32).toInt = 1 := by decide
  have h0 : (0#32 : BitVec 32).toInt = 0 := by decide
  unfold Scf.trips
  rw [h1, h0, hi]; omega

theorem t2_ok (n : BitVec 32) (h : n.toNat ≤ 74) : (k0_t2_loop n).OK := by
  have h1 : (1#32 : BitVec 32).toInt = 1 := by decide
  have h0 : (0#32 : BitVec 32).toInt = 0 := by decide
  refine ⟨by show (0 : ℤ) < (1#32 : BitVec 32).toInt; rw [h1]; decide, ?_⟩
  have := t2_trips n h
  show (0#32 : BitVec 32).toInt + ((k0_t2_loop n).trips : ℤ) * (1#32 : BitVec 32).toInt < _
  rw [h1, h0, this]; omega

theorem t3_trips (n : BitVec 32) : (k0_t3_loop n).trips = 0 := Scf.rem_trips 0#32 (Scalar.subi n 0#32)

theorem t3_no (n : BitVec 32) {P : Prop} (k : Fin (k0_t3_loop n).trips) : P := (Scf.rem_no_trip 0#32 (Scalar.subi n 0#32) k).elim

theorem t2_iv (t : ℕ) (h : t < 74) : (Scf.iv 0#32 1#32 t).toNat = t := iv_nat t (by omega)

/-- The item before, for the first item itself. -/
theorem prev_nat (t : ℕ) (h : t < 74) : (Scalar.maxsi (Scalar.subi (Scf.iv 0#32 1#32 t) 1#32) 0#32).toNat = t - 1 := by
  have : ∀ t < 74, (Scalar.maxsi (Scalar.subi (Scf.iv 0#32 1#32 t) 1#32) 0#32).toNat = t - 1 := by decide +kernel
  exact this t h

theorem chk2_of (n : BitVec 32) (h : n.toNat ≤ 74) : k0_chk2 n := by
  have hlt : ∀ t : Fin (k0_t2_loop n).trips, t.val < 74 := fun t => by have h1 := t.isLt; have h2 := t2_trips n h; omega
  have hiv : ∀ t : Fin (k0_t2_loop n).trips, (Scf.iv 0#32 1#32 t.val).toNat + 1 ≤ 128 := fun t => by rw [t2_iv _ (hlt t)]; have := hlt t; omega
  have hpv : ∀ t : Fin (k0_t2_loop n).trips, (Scalar.maxsi (Scalar.subi (Scf.iv 0#32 1#32 t.val) 1#32) 0#32).toNat + 1 ≤ 128 := fun t => by
    rw [prev_nat _ (hlt t)]; have := hlt t; omega
  have hn : n.toNat + 1 ≤ 128 := by omega
  refine ⟨inb2 _ _ rfl (by decide) hn, t2_ok n h, fun t => inb2 _ _ rfl (by decide) (hiv t), fun t => inb2 _ _ rfl (by decide) (hiv t),
    fun t => inb2 _ _ rfl (by decide) (hiv t), fun t => inb2 _ _ rfl (by decide) (hiv t), fun t => inb2 _ _ rfl (by decide) (hiv t),
    fun t => inb2 _ _ rfl (by decide) (hpv t), fun t => inb2 _ _ rfl (by decide) (hiv t), Scf.rem_ok 0#32 (Scalar.subi n 0#32),
    fun k => t3_no n k, fun k => t3_no n k, fun k => t3_no n k, fun k => t3_no n k, fun k => t3_no n k, fun k => t3_no n k, fun k => t3_no n k⟩

end Cert.KernelIdeal.Hand

end
-- ==== Proof.KernelIdeal.Slots.lean ====
/-
  The four operands of one expert together: the two slots of all four stacks, and the rules for starting
  an expert's four transfers and for waiting for them.
-/
module

public import proofs.«01_k».proof.Proof.KernelIdeal.Ring
public import proofs.«01_k».proof.Proof.KernelIdeal.Checks

@[expose] public section

noncomputable section

namespace Cert.KernelIdeal.Hand

open Cert.KernelIdeal Cert.KernelIdeal.Gen Cert.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The semaphore of operand `k` at slot `s`. -/
def cell (s : ℕ) (k : Fin 4) : DmaSem sig := cc0_scratch8.ix (ix2 ⟨s % 2, Nat.mod_lt _ (by decide)⟩ k)

theorem cell_eq {o : Fin 2 → ℕ} (inb : ∀ a, o a + S1x1.size a ≤ S2x4.size a) (s : ℕ) (k : Fin 4) (hs : s < 2) (ho : o = ![s, k.val]) :
    ((cc0_scratch8.slice (Rect.unit (s := S2x4) o S1x1.size inb)).squeeze S_ squeezes_S1x1_S_).sem = cell s k := by
  have : ((cc0_scratch8.slice (Rect.unit (s := S2x4) o S1x1.size inb)).squeeze S_ squeezes_S1x1_S_).sem
      = cc0_scratch8.ix ((Rect.unit (s := S2x4) o S1x1.size inb).emb (Shape.reshapeEquiv squeezes_S1x1_S_.numel_eq fun i => i.elim0)) := rfl
  rw [this, unit1_emb inb s k.val ho hs k.isLt]
  unfold cell
  refine congrArg _ (congrArg₂ ix2 (Fin.ext ?_) rfl)
  show s = s % 2
  omega

variable (c : Dev nD)

/-- The quantized weights and scales outside, at known contents. -/
structure Hb (F : FTy → Type) [FloatOps F] (c : Dev nD) where
  V3 : Bf F A3 c
  V4 : Bf F A4 c
  V5 : Bf F A5 c
  V6 : Bf F A6 c

variable (V : Hb F c)

/-- All four held whole. -/
def Hbm : sProp 𝕄 :=
  iprop((A3.view.loc (c : Thread nD τ) ↦{fullShare} V.V3) ∗ (A4.view.loc (c : Thread nD τ) ↦{fullShare} V.V4)
    ∗ (A5.view.loc (c : Thread nD τ) ↦{fullShare} V.V5) ∗ (A6.view.loc (c : Thread nD τ) ↦{fullShare} V.V6))

/-- The semaphores of slot `s` at zero. -/
def Sems (s : ℕ) : sProp 𝕄 :=
  iprop(semVal ((c : Thread nD τ), SemLoc.dma (cell s 0)) 0 ∗ semVal ((c : Thread nD τ), SemLoc.dma (cell s 1)) 0
    ∗ semVal ((c : Thread nD τ), SemLoc.dma (cell s 2)) 0 ∗ semVal ((c : Thread nD τ), SemLoc.dma (cell s 3)) 0)

/-- Slot `s` free. -/
def Idle (s : ℕ) : sProp 𝕄 :=
  iprop((∃ f : Bf F A8 c, Slot c A8 s f) ∗ (∃ f : Bf F A9 c, Slot c A9 s f) ∗ (∃ f : Bf F A10 c, Slot c A10 s f)
    ∗ (∃ f : Bf F A11 c, Slot c A11 s f) ∗ Sems c s)

/-- Slot `s` filled with expert `m`'s operands. -/
def Landed (s m : ℕ) : sProp 𝕄 :=
  iprop((∃ f : Bf F A8 c, ⌜Holds c A8 A3 s m V.V3 f⌝ ∗ Slot c A8 s f) ∗ (∃ f : Bf F A9 c, ⌜Holds c A9 A4 s m V.V4 f⌝ ∗ Slot c A9 s f)
    ∗ (∃ f : Bf F A10 c, ⌜Holds c A10 A5 s m V.V5 f⌝ ∗ Slot c A10 s f) ∗ (∃ f : Bf F A11 c, ⌜Holds c A11 A6 s m V.V6 f⌝ ∗ Slot c A11 s f) ∗ Sems c s)

/-- Slot `s` receiving expert `m`'s operands. -/
def Flying (s m : ℕ) : sProp 𝕄 :=
  iprop(InFl c A8 A3 (.dma (cell s 0)) s m V.V3 ∗ InFl c A9 A4 (.dma (cell s 1)) s m V.V4
    ∗ InFl c A10 A5 (.dma (cell s 2)) s m V.V5 ∗ InFl c A11 A6 (.dma (cell s 3)) s m V.V6)

theorem landed_idle (s m : ℕ) : Landed c V s m ⊢ Idle (F := F) c s := by
  unfold Landed Idle
  iintro ⟨⟨%a, -, Ha⟩, ⟨%b, -, Hb⟩, ⟨%d, -, Hd⟩, ⟨%e, -, He⟩, Hs⟩
  isplitl [Ha]; · iexists a; iexact Ha
  isplitl [Hb]; · iexists b; iexact Hb
  isplitl [Hd]; · iexists d; iexact Hd
  isplitl [He]; · iexists e; iexact He
  iexact Hs

section Steps

variable {n a b : ℕ} {e : EltTy} (D : Memref sig .tc .vmem ⟨3, ![2, a, b]⟩ e) (S : Memref sig .tc .hbm ⟨3, ![60, a, b]⟩ e)

/-- Starting a transfer, its semaphore named. -/
theorem start_at {α : Type} (bd : Option ℕ) {os od : Fin 3 → ℕ}
    {is : ∀ i, os i + (⟨3, ![1, a, b]⟩ : Shape).size i ≤ (⟨3, ![60, a, b]⟩ : Shape).size i}
    {id' : ∀ i, od i + (⟨3, ![1, a, b]⟩ : Shape).size i ≤ (⟨3, ![2, a, b]⟩ : Shape).size i}
    {hq : (⟨3, ![1, a, b]⟩ : Shape).Squeezes ⟨2, ![a, b]⟩}
    {sm : DmaSem sig} {hsrc : (member S os is hq).view.WordExact} {hdst : (member D od id' hq).view.WordExact}
    {hsem : DmaTarget.Typed .hbm (.dma sm) (DmaTarget.here (nD := nD) (τ := τ) (p := .tc) (member D od id' hq))} {k : PUnit → Pg F α} {Q : α → sProp 𝕄} {X Y : sProp 𝕄}
    (s m : ℕ) (W : Bf F S c) (sm' : DmaSem sig) (hsm : sm = sm') (hos : os = ![m, 0, 0]) (hod : od = ![s, 0, 0]) (hN : 0 < bytes D)
    (hY : Y ⊢ iprop(((∃ f : Bf F D c, Slot c D s f) ∗ semVal ((c : Thread nD τ), SemLoc.dma sm') 0 ∗ (S.view.loc (c : Thread nD τ) ↦{fullShare} W)) ∗ X))
    (h : iprop(InFl c D S (.dma sm') s m W ∗ X) ⊢ WP c bd (k ⟨⟩) Q) :
    Y ⊢ WP c bd (Prog.lift (.enqueueDma (member S os is hq) (.here (member D od id' hq)) (.dma sm) hsrc hdst hsem) >>= k) Q := by
  subst hsm
  exact BIBase.Entails.trans hY (start_step c D S bd s m W hos hod hN h)

/-- Waiting for a transfer, its semaphore named. -/
theorem wait_at {α : Type} (bd : Option ℕ) {os od : Fin 3 → ℕ}
    {is : ∀ i, os i + (⟨3, ![1, a, b]⟩ : Shape).size i ≤ (⟨3, ![60, a, b]⟩ : Shape).size i}
    {id' : ∀ i, od i + (⟨3, ![1, a, b]⟩ : Shape).size i ≤ (⟨3, ![2, a, b]⟩ : Shape).size i}
    {hq : (⟨3, ![1, a, b]⟩ : Shape).Squeezes ⟨2, ![a, b]⟩}
    {sm : DmaSem sig} {hsrc : (member S os is hq).view.WordExact} {hdst : (member D od id' hq).view.WordExact}
    {k : PUnit → Pg F α} {Q : α → sProp 𝕄} {X Y : sProp 𝕄}
    (s m : ℕ) (W : Bf F S c) (sm' : DmaSem sig) (hsm : sm = sm')
    (hY : Y ⊢ iprop((InFl c D S (.dma sm') s m W ∗ ∃ O, owes (c : Thread nD τ) 0 O) ∗ X))
    (h : iprop(((∃ f : Bf F D c, ⌜Holds c D S s m W f⌝ ∗ Slot c D s f) ∗ semVal ((c : Thread nD τ), SemLoc.dma sm') 0 ∗ (S.view.loc (c : Thread nD τ) ↦{fullShare} W)
        ∗ ∃ O, owes (c : Thread nD τ) 0 O) ∗ X) ⊢ WP c bd (k ⟨⟩) Q) :
    Y ⊢ WP c bd (Prog.lift (.waitDma2 sm (member S os is hq) (member D od id' hq) hsrc hdst) >>= k) Q := by
  subst hsm
  exact BIBase.Entails.trans hY (wait_step c D S bd s m W h)

end Steps

/-- What starting the four transfers into slot `s` takes, operand by operand. -/
def Go (s : ℕ) : sProp 𝕄 :=
  iprop(((∃ f : Bf F A8 c, Slot c A8 s f) ∗ semVal ((c : Thread nD τ), SemLoc.dma (cell s 0)) 0 ∗ (A3.view.loc (c : Thread nD τ) ↦{fullShare} V.V3))
      ∗ ((∃ f : Bf F A9 c, Slot c A9 s f) ∗ semVal ((c : Thread nD τ), SemLoc.dma (cell s 1)) 0 ∗ (A4.view.loc (c : Thread nD τ) ↦{fullShare} V.V4))
      ∗ ((∃ f : Bf F A10 c, Slot c A10 s f) ∗ semVal ((c : Thread nD τ), SemLoc.dma (cell s 2)) 0 ∗ (A5.view.loc (c : Thread nD τ) ↦{fullShare} V.V5))
      ∗ ((∃ f : Bf F A11 c, Slot c A11 s f) ∗ semVal ((c : Thread nD τ), SemLoc.dma (cell s 3)) 0 ∗ (A6.view.loc (c : Thread nD τ) ↦{fullShare} V.V6)))

theorem go_of_idle (s : ℕ) : iprop(Idle c s ∗ Hbm c V) ⊢ Go c V s := by
  unfold Idle Hbm Sems Go
  iintro ⟨⟨Ha, Hb, Hd, He, H0, H1, H2, H3⟩, G0, G1, G2, G3⟩
  isplitl [Ha H0 G0]
  · isplitl [Ha]; · iexact Ha
    isplitl [H0]; · iexact H0
    iexact G0
  isplitl [Hb H1 G1]
  · isplitl [Hb]; · iexact Hb
    isplitl [H1]; · iexact H1
    iexact G1
  isplitl [Hd H2 G2]
  · isplitl [Hd]; · iexact Hd
    isplitl [H2]; · iexact H2
    iexact G2
  isplitl [He]; · iexact He
  isplitl [H3]; · iexact H3
  iexact G3

theorem starts4 {α : Type} (bd : Option ℕ) {os3 os4 os5 os6 od8 od9 od10 od11 : Fin 3 → ℕ}
    {is3 : ∀ i, os3 i + S1x1024x2816.size i ≤ S60x1024x2816.size i} {is4 : ∀ i, os4 i + S1x16x2816.size i ≤ S60x16x2816.size i}
    {is5 : ∀ i, os5 i + S1x704x2048.size i ≤ S60x704x2048.size i} {is6 : ∀ i, os6 i + S1x11x2048.size i ≤ S60x11x2048.size i}
    {id8 : ∀ i, od8 i + S1x1024x2816.size i ≤ S2x1024x2816.size i} {id9 : ∀ i, od9 i + S1x16x2816.size i ≤ S2x16x2816.size i}
    {id10 : ∀ i, od10 i + S1x704x2048.size i ≤ S2x704x2048.size i} {id11 : ∀ i, od11 i + S1x11x2048.size i ≤ S2x11x2048.size i}
    {hq8 : S1x1024x2816.Squeezes S1024x2816} {hq9 : S1x16x2816.Squeezes S16x2816} {hq10 : S1x704x2048.Squeezes S704x2048} {hq11 : S1x11x2048.Squeezes S11x2048}
    {sm0 sm1 sm2 sm3 : DmaSem sig}
    {p0 p1 p2 p3 q0 q1 q2 q3 r0 r1 r2 r3} {k : PUnit → Pg F α} {Q : α → sProp 𝕄} {X : sProp 𝕄} (s m : ℕ)
    (h0 : sm0 = cell s 0) (h1 : sm1 = cell s 1) (h2 : sm2 = cell s 2) (h3 : sm3 = cell s 3)
    (ho3 : os3 = ![m, 0, 0]) (ho4 : os4 = ![m, 0, 0]) (ho5 : os5 = ![m, 0, 0]) (ho6 : os6 = ![m, 0, 0])
    (ho8 : od8 = ![s, 0, 0]) (ho9 : od9 = ![s, 0, 0]) (ho10 : od10 = ![s, 0, 0]) (ho11 : od11 = ![s, 0, 0])
    (h : iprop(Flying c V s m ∗ X) ⊢ WP c bd (k ⟨⟩) Q) :
    iprop((Idle c s ∗ Hbm c V) ∗ X) ⊢ WP c bd (do
      Prog.lift (.enqueueDma ((A3.slice (Rect.unit (s := S60x1024x2816) os3 S1x1024x2816.size is3) (fun _ => rfl)).squeeze S1024x2816 hq8)
        (.here ((A8.slice (Rect.unit (s := S2x1024x2816) od8 S1x1024x2816.size id8) (fun _ => rfl)).squeeze S1024x2816 hq8)) (.dma sm0) p0 q0 r0)
      Prog.lift (.enqueueDma ((A4.slice (Rect.unit (s := S60x16x2816) os4 S1x16x2816.size is4) (fun _ => rfl)).squeeze S16x2816 hq9)
        (.here ((A9.slice (Rect.unit (s := S2x16x2816) od9 S1x16x2816.size id9) (fun _ => rfl)).squeeze S16x2816 hq9)) (.dma sm1) p1 q1 r1)
      Prog.lift (.enqueueDma ((A5.slice (Rect.unit (s := S60x704x2048) os5 S1x704x2048.size is5) (fun _ => rfl)).squeeze S704x2048 hq10)
        (.here ((A10.slice (Rect.unit (s := S2x704x2048) od10 S1x704x2048.size id10) (fun _ => rfl)).squeeze S704x2048 hq10)) (.dma sm2) p2 q2 r2)
      let u ← Prog.lift (.enqueueDma ((A6.slice (Rect.unit (s := S60x11x2048) os6 S1x11x2048.size is6) (fun _ => rfl)).squeeze S11x2048 hq11)
        (.here ((A11.slice (Rect.unit (s := S2x11x2048) od11 S1x11x2048.size id11) (fun _ => rfl)).squeeze S11x2048 hq11)) (.dma sm3) p3 q3 r3)
      k u) Q := by
  have hgo := go_of_idle c V s
  unfold Go at hgo
  refine start_at (a := 1024) (b := 2816) (X := iprop(((∃ f : Bf F A9 c, Slot c A9 s f) ∗ semVal ((c : Thread nD τ), SemLoc.dma (cell s 1)) 0 ∗ (A4.view.loc (c : Thread nD τ) ↦{fullShare} V.V4))
      ∗ ((∃ f : Bf F A10 c, Slot c A10 s f) ∗ semVal ((c : Thread nD τ), SemLoc.dma (cell s 2)) 0 ∗ (A5.view.loc (c : Thread nD τ) ↦{fullShare} V.V5))
      ∗ ((∃ f : Bf F A11 c, Slot c A11 s f) ∗ semVal ((c : Thread nD τ), SemLoc.dma (cell s 3)) 0 ∗ (A6.view.loc (c : Thread nD τ) ↦{fullShare} V.V6)) ∗ X))
      c A8 A3 bd s m V.V3 (cell s 0) h0 ho3 ho8 (by decide) ?_ ?_
  · iintro ⟨HI, HX⟩
    ihave HG := hgo $$ HI
    icases HG with ⟨G0, G1, G2, G3⟩
    isplitl [G0]; · iexact G0
    isplitl [G1]; · iexact G1
    isplitl [G2]; · iexact G2
    isplitl [G3]; · iexact G3
    iexact HX
  refine start_at (a := 16) (b := 2816) (X := iprop(InFl c A8 A3 (.dma (cell s 0)) s m V.V3
      ∗ ((∃ f : Bf F A10 c, Slot c A10 s f) ∗ semVal ((c : Thread nD τ), SemLoc.dma (cell s 2)) 0 ∗ (A5.view.loc (c : Thread nD τ) ↦{fullShare} V.V5))
      ∗ ((∃ f : Bf F A11 c, Slot c A11 s f) ∗ semVal ((c : Thread nD τ), SemLoc.dma (cell s 3)) 0 ∗ (A6.view.loc (c : Thread nD τ) ↦{fullShare} V.V6)) ∗ X))
      c A9 A4 bd s m V.V4 (cell s 1) h1 ho4 ho9 (by decide) ?_ ?_
  · iintro ⟨G0, G1, G2, G3, HX⟩
    isplitl [G1]; · iexact G1
    isplitl [G0]; · iexact G0
    isplitl [G2]; · iexact G2
    isplitl [G3]; · iexact G3
    iexact HX
  refine start_at (a := 704) (b := 2048) (X := iprop(InFl c A8 A3 (.dma (cell s 0)) s m V.V3 ∗ InFl c A9 A4 (.dma (cell s 1)) s m V.V4
      ∗ ((∃ f : Bf F A11 c, Slot c A11 s f) ∗ semVal ((c : Thread nD τ), SemLoc.dma (cell s 3)) 0 ∗ (A6.view.loc (c : Thread nD τ) ↦{fullShare} V.V6)) ∗ X))
      c A10 A5 bd s m V.V5 (cell s 2) h2 ho5 ho10 (by decide) ?_ ?_
  · iintro ⟨G1, G0, G2, G3, HX⟩
    isplitl [G2]; · iexact G2
    isplitl [G0]; · iexact G0
    isplitl [G1]; · iexact G1
    isplitl [G3]; · iexact G3
    iexact HX
  refine start_at (a := 11) (b := 2048) (X := iprop(InFl c A8 A3 (.dma (cell s 0)) s m V.V3 ∗ InFl c A9 A4 (.dma (cell s 1)) s m V.V4
      ∗ InFl c A10 A5 (.dma (cell s 2)) s m V.V5 ∗ X))
      c A11 A6 bd s m V.V6 (cell s 3) h3 ho6 ho11 (by decide) ?_ ?_
  · iintro ⟨G2, G0, G1, G3, HX⟩
    isplitl [G3]; · iexact G3
    isplitl [G0]; · iexact G0
    isplitl [G1]; · iexact G1
    isplitl [G2]; · iexact G2
    iexact HX
  refine BIBase.Entails.trans ?_ h
  unfold Flying
  iintro ⟨G3, G0, G1, G2, HX⟩
  isplitr [HX]
  · isplitl [G0]; · iexact G0
    isplitl [G1]; · iexact G1
    isplitl [G2]; · iexact G2
    iexact G3
  · iexact HX

theorem waits4 {α : Type} (bd : Option ℕ) {os3 os4 os5 os6 od8 od9 od10 od11 : Fin 3 → ℕ}
    {is3 : ∀ i, os3 i + S1x1024x2816.size i ≤ S60x1024x2816.size i} {is4 : ∀ i, os4 i + S1x16x2816.size i ≤ S60x16x2816.size i}
    {is5 : ∀ i, os5 i + S1x704x2048.size i ≤ S60x704x2048.size i} {is6 : ∀ i, os6 i + S1x11x2048.size i ≤ S60x11x2048.size i}
    {id8 : ∀ i, od8 i + S1x1024x2816.size i ≤ S2x1024x2816.size i} {id9 : ∀ i, od9 i + S1x16x2816.size i ≤ S2x16x2816.size i}
    {id10 : ∀ i, od10 i + S1x704x2048.size i ≤ S2x704x2048.size i} {id11 : ∀ i, od11 i + S1x11x2048.size i ≤ S2x11x2048.size i}
    {hq8 : S1x1024x2816.Squeezes S1024x2816} {hq9 : S1x16x2816.Squeezes S16x2816} {hq10 : S1x704x2048.Squeezes S704x2048} {hq11 : S1x11x2048.Squeezes S11x2048}
    {sm0 sm1 sm2 sm3 : DmaSem sig}
    {p0 p1 p2 p3 q0 q1 q2 q3} {k : PUnit → Pg F α} {Q : α → sProp 𝕄} {X : sProp 𝕄} (s m : ℕ)
    (h0 : sm0 = cell s 0) (h1 : sm1 = cell s 1) (h2 : sm2 = cell s 2) (h3 : sm3 = cell s 3)
    (h : iprop((Landed c V s m ∗ Hbm c V ∗ ∃ O, owes (c : Thread nD τ) 0 O) ∗ X) ⊢ WP c bd (k ⟨⟩) Q) :
    iprop((Flying c V s m ∗ ∃ O, owes (c : Thread nD τ) 0 O) ∗ X) ⊢ WP c bd (do
      Prog.lift (.waitDma2 sm0 ((A3.slice (Rect.unit (s := S60x1024x2816) os3 S1x1024x2816.size is3) (fun _ => rfl)).squeeze S1024x2816 hq8)
        ((A8.slice (Rect.unit (s := S2x1024x2816) od8 S1x1024x2816.size id8) (fun _ => rfl)).squeeze S1024x2816 hq8) p0 q0)
      Prog.lift (.waitDma2 sm1 ((A4.slice (Rect.unit (s := S60x16x2816) os4 S1x16x2816.size is4) (fun _ => rfl)).squeeze S16x2816 hq9)
        ((A9.slice (Rect.unit (s := S2x16x2816) od9 S1x16x2816.size id9) (fun _ => rfl)).squeeze S16x2816 hq9) p1 q1)
      Prog.lift (.waitDma2 sm2 ((A5.slice (Rect.unit (s := S60x704x2048) os5 S1x704x2048.size is5) (fun _ => rfl)).squeeze S704x2048 hq10)
        ((A10.slice (Rect.unit (s := S2x704x2048) od10 S1x704x2048.size id10) (fun _ => rfl)).squeeze S704x2048 hq10) p2 q2)
      let u ← Prog.lift (.waitDma2 sm3 ((A6.slice (Rect.unit (s := S60x11x2048) os6 S1x11x2048.size is6) (fun _ => rfl)).squeeze S11x2048 hq11)
        ((A11.slice (Rect.unit (s := S2x11x2048) od11 S1x11x2048.size id11) (fun _ => rfl)).squeeze S11x2048 hq11) p3 q3)
      k u) Q := by
  refine wait_at (a := 1024) (b := 2816) (X := iprop(InFl c A9 A4 (.dma (cell s 1)) s m V.V4 ∗ InFl c A10 A5 (.dma (cell s 2)) s m V.V5
      ∗ InFl c A11 A6 (.dma (cell s 3)) s m V.V6 ∗ X)) c A8 A3 bd s m V.V3 (cell s 0) h0 ?_ ?_
  · unfold Flying
    iintro ⟨⟨⟨G0, G1, G2, G3⟩, HO⟩, HX⟩
    isplitl [G0 HO]
    · isplitl [G0]; · iexact G0
      iexact HO
    isplitl [G1]; · iexact G1
    isplitl [G2]; · iexact G2
    isplitl [G3]; · iexact G3
    iexact HX
  refine wait_at (a := 16) (b := 2816) (X := iprop(((∃ f : Bf F A8 c, ⌜Holds c A8 A3 s m V.V3 f⌝ ∗ Slot c A8 s f) ∗ semVal ((c : Thread nD τ), SemLoc.dma (cell s 0)) 0
        ∗ (A3.view.loc (c : Thread nD τ) ↦{fullShare} V.V3)) ∗ InFl c A10 A5 (.dma (cell s 2)) s m V.V5
      ∗ InFl c A11 A6 (.dma (cell s 3)) s m V.V6 ∗ X)) c A9 A4 bd s m V.V4 (cell s 1) h1 ?_ ?_
  · iintro ⟨⟨L0, L1, L2, HO⟩, G1, G2, G3, HX⟩
    isplitl [G1 HO]
    · isplitl [G1]; · iexact G1
      iexact HO
    isplitl [L0 L1 L2]
    · isplitl [L0]; · iexact L0
      isplitl [L1]; · iexact L1
      iexact L2
    isplitl [G2]; · iexact G2
    isplitl [G3]; · iexact G3
    iexact HX
  refine wait_at (a := 704) (b := 2048) (X := iprop(((∃ f : Bf F A8 c, ⌜Holds c A8 A3 s m V.V3 f⌝ ∗ Slot c A8 s f) ∗ semVal ((c : Thread nD τ), SemLoc.dma (cell s 0)) 0
        ∗ (A3.view.loc (c : Thread nD τ) ↦{fullShare} V.V3))
      ∗ ((∃ f : Bf F A9 c, ⌜Holds c A9 A4 s m V.V4 f⌝ ∗ Slot c A9 s f) ∗ semVal ((c : Thread nD τ), SemLoc.dma (cell s 1)) 0
        ∗ (A4.view.loc (c : Thread nD τ) ↦{fullShare} V.V4)) ∗ InFl c A11 A6 (.dma (cell s 3)) s m V.V6 ∗ X)) c A10 A5 bd s m V.V5 (cell s 2) h2 ?_ ?_
  · iintro ⟨⟨L0, L1, L2, HO⟩, G1, G2, G3, HX⟩
    isplitl [G2 HO]
    · isplitl [G2]; · iexact G2
      iexact HO
    isplitl [G1]; · iexact G1
    isplitl [L0 L1 L2]
    · isplitl [L0]; · iexact L0
      isplitl [L1]; · iexact L1
      iexact L2
    isplitl [G3]; · iexact G3
    iexact HX
  refine wait_at (a := 11) (b := 2048) (X := iprop(((∃ f : Bf F A8 c, ⌜Holds c A8 A3 s m V.V3 f⌝ ∗ Slot c A8 s f) ∗ semVal ((c : Thread nD τ), SemLoc.dma (cell s 0)) 0
        ∗ (A3.view.loc (c : Thread nD τ) ↦{fullShare} V.V3))
      ∗ ((∃ f : Bf F A9 c, ⌜Holds c A9 A4 s m V.V4 f⌝ ∗ Slot c A9 s f) ∗ semVal ((c : Thread nD τ), SemLoc.dma (cell s 1)) 0
        ∗ (A4.view.loc (c : Thread nD τ) ↦{fullShare} V.V4))
      ∗ ((∃ f : Bf F A10 c, ⌜Holds c A10 A5 s m V.V5 f⌝ ∗ Slot c A10 s f) ∗ semVal ((c : Thread nD τ), SemLoc.dma (cell s 2)) 0
        ∗ (A5.view.loc (c : Thread nD τ) ↦{fullShare} V.V5)) ∗ X)) c A11 A6 bd s m V.V6 (cell s 3) h3 ?_ ?_
  · iintro ⟨⟨L0, L1, L2, HO⟩, G1, G2, G3, HX⟩
    isplitl [G3 HO]
    · isplitl [G3]; · iexact G3
      iexact HO
    isplitl [G1]; · iexact G1
    isplitl [G2]; · iexact G2
    isplitl [L0 L1 L2]
    · isplitl [L0]; · iexact L0
      isplitl [L1]; · iexact L1
      iexact L2
    iexact HX
  refine BIBase.Entails.trans ?_ h
  unfold Landed Hbm Sems
  iintro ⟨⟨L3, S3, P3, HO⟩, ⟨L0, S0, P0⟩, ⟨L1, S1, P1⟩, ⟨L2, S2, P2⟩, HX⟩
  isplitr [HX]
  · isplitl [L0 L1 L2 L3 S0 S1 S2 S3]
    · isplitl [L0]; · iexact L0
      isplitl [L1]; · iexact L1
      isplitl [L2]; · iexact L2
      isplitl [L3]; · iexact L3
      isplitl [S0]; · iexact S0
      isplitl [S1]; · iexact S1
      isplitl [S2]; · iexact S2
      iexact S3
    isplitl [P0 P1 P2 P3]
    · isplitl [P0]; · iexact P0
      isplitl [P1]; · iexact P1
      isplitl [P2]; · iexact P2
      iexact P3
    iexact HO
  · iexact HX

end Cert.KernelIdeal.Hand

end
-- ==== Proof.KernelIdeal.Trip.lean ====
/-
  One item's arithmetic: from the weights of the item's slot, the row window and the row weights, the
  first product is filled tile by tile, then the gated activations, then the window of the result.
-/
module

public import proofs.«01_k».proof.Proof.KernelIdeal.Tiles

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (bd : Option ℕ)

/-! ## What the tiles stored so far say of a buffer -/

/-- The first `n` tiles of 256 columns hold `T`. -/
def GuOK (T : Fin 11 → FVec F S128x256 .f32) (n : ℕ) (g : Bf F A12 c) : Prop :=
  ∀ i : S128x2816.Idx, (i 1).val < 256 * n →
    g i = T ⟨(i 1).val / 256, by have := (i 1).isLt; simp [Shape.size] at this; omega⟩ (ix2 (i 0) ⟨(i 1).val % 256, Nat.mod_lt _ (by decide)⟩)
/-- The first `n` tiles of 128 columns hold `T`. -/
def HOK (T : Fin 11 → FVec F S128x128 .bf16) (n : ℕ) (h : Bf F A13 c) : Prop :=
  ∀ i : S128x1408.Idx, (i 1).val < 128 * n →
    h i = T ⟨(i 1).val / 128, by have := (i 1).isLt; simp [Shape.size] at this; omega⟩ (ix2 (i 0) ⟨(i 1).val % 128, Nat.mod_lt _ (by decide)⟩)

theorem inb7 {w b : ℕ} (hw : w + 128 ≤ 1536) (hb : b < 16) : ∀ a, (![w, 128 * b] : Fin 2 → ℕ) a + S128x128.size a ≤ S1536x2048.size a := by
  intro a; fin_cases a <;> simp [Shape.size] <;> omega
theorem inb14 {w : ℕ} (hw : w + 128 ≤ 1536) : ∀ a, (![w, 0] : Fin 2 → ℕ) a + S128x128.size a ≤ S1536x128.size a := by
  intro a; fin_cases a <;> simp [Shape.size] <;> omega
theorem inb1 {w : ℕ} (hw : w + 128 ≤ 1536) : ∀ a, (![w, 0] : Fin 2 → ℕ) a + S128x2048.size a ≤ S1536x2048.size a := by
  intro a; fin_cases a <;> simp [Shape.size] <;> omega

/-- Block `b` of 128 columns of the window at row `w`. -/
def rd7 (y : Bf F A7 c) (w : ℕ) (hw : w + 128 ≤ 1536) (b : Fin 16) : Vec F S128x128 .bf16 :=
  A7.view.readAt (Elt F) (Rect.unit (s := S1536x2048) ![w, 128 * b] S128x128.size (inb7 hw b.2)).toLoadRect y
/-- The row weights of the window at row `w`. -/
def rd14 (f : Bf F A14 c) (w : ℕ) (hw : w + 128 ≤ 1536) : Vec F S128x128 .f32 :=
  A14.view.readAt (Elt F) (Rect.unit (s := S1536x128) ![w, 0] S128x128.size (inb14 hw)).toLoadRect f
/-- The rows of the window at row `w`. -/
def rd1 (f : Bf F A1 c) (w : ℕ) (hw : w + 128 ≤ 1536) : Vec F S128x2048 .bf16 :=
  A1.view.readAt (Elt F) (Rect.unit (s := S1536x2048) ![w, 0] S128x2048.size (inb1 hw)).toLoadRect f

/-- The first `n` blocks of the window at row `w` hold `T` of what they held; the rest is as it was. -/
def YOK (w : ℕ) (hw : w + 128 ≤ 1536) (y₀ : Bf F A7 c) (T : Fin 16 → Vec F S128x128 .bf16 → FVec F S128x128 .bf16) (n : ℕ) (y : Bf F A7 c) : Prop :=
  ∀ i : S1536x2048.Idx, y i =
    if h : (w ≤ (i 0).val ∧ (i 0).val < w + 128) ∧ (i 1).val < 128 * n then
      have hb : (i 1).val / 128 < 16 := by have := (i 1).isLt; simp [Shape.size] at this; omega
      T ⟨(i 1).val / 128, hb⟩ (rd7 c y₀ w hw ⟨(i 1).val / 128, hb⟩) (ix2 ⟨(i 0).val - w, by omega⟩ ⟨(i 1).val % 128, Nat.mod_lt _ (by decide)⟩)
    else y₀ i

theorem yok_zero (w : ℕ) (hw : w + 128 ≤ 1536) (y₀ : Bf F A7 c) (T : Fin 16 → Vec F S128x128 .bf16 → FVec F S128x128 .bf16) : YOK c w hw y₀ T 0 y₀ := by
  intro i
  rw [dif_neg]
  rintro ⟨-, h⟩
  exact absurd h (by simp)

/-- The blocks of the window, in the order they are stored. -/
def yB (mk : IVec S128x128 1) (rw : Vec F S128x128 .f32) (h : Vec F S128x1408 .bf16) (f10 : Bf F A10 c) (f11 : Bf F A11 c) (s : Fin 2)
    (b : Fin 16) : Vec F S128x128 .bf16 → FVec F S128x128 .bf16 :=
  yT c mk rw h f10 f11 s ⟨b / 2, by omega⟩ ⟨b % 2, by omega⟩

/-! ## The state an item's arithmetic runs over -/

/-- The slot `s` of the four weight buffers, the row weights, the two intermediate buffers, the result, and a rest untouched. -/
def St (R : sProp 𝕄) (s : ℕ) (f8 : Bf F A8 c) (f9 : Bf F A9 c) (f10 : Bf F A10 c) (f11 : Bf F A11 c) (rwb : Bf F A14 c)
    (g : Bf F A12 c) (h : Bf F A13 c) (y : Bf F A7 c) : sProp 𝕄 :=
  iprop((A8.view.loc (c : Thread nD τ) ↦[slotSet 2 1024 2816 s]{fullShare} f8) ∗ (A9.view.loc (c : Thread nD τ) ↦[slotSet 2 16 2816 s]{fullShare} f9) ∗
    (A10.view.loc (c : Thread nD τ) ↦[slotSet 2 704 2048 s]{fullShare} f10) ∗ (A11.view.loc (c : Thread nD τ) ↦[slotSet 2 11 2048 s]{fullShare} f11) ∗
    pt A14 c rwb ∗ pt A12 c g ∗ pt A13 c h ∗ pt A7 c y ∗ R)

variable {c bd}
variable {α : Type} {R : sProp (MT nD τ sig Unit (Elt F) ℕ (Pipeline.UD sig nD τ) ℕ)} {s : ℕ} {f8 : Bf F A8 c} {f9 : Bf F A9 c} {f10 : Bf F A10 c} {f11 : Bf F A11 c} {rwb : Bf F A14 c}
  {g : Bf F A12 c} {h : Bf F A13 c} {y : Bf F A7 c} {Q : α → sProp (MT nD τ sig Unit (Elt F) ℕ (Pipeline.UD sig nD τ) ℕ)}

theorem ld8 {r : Rect S2x1024x2816} {hl : A8.view.LoadsAt r.toLoadRect} {k : (r.shape.Idx → Elt F _) → Pg F α} (hr : r.set ⊆ slotSet 2 1024 2816 s)
    (hk : St c R s f8 f9 f10 f11 rwb g h y ⊢ WP c bd (k (A8.view.readAt (Elt F) r.toLoadRect f8)) Q) :
    St c R s f8 f9 f10 f11 rwb g h y ⊢ WP c bd (Prog.lift (.load A8 r.toLoadRect hl) >>= k) Q := by
  refine load_step c bd (Sd := slotSet 2 1024 2816 s) (q := fullShare) f8 ?_ ?_ hk
  · unfold St; iintro ⟨H8, H9, H10, H11, H14, H12, H13, H7, HR⟩
    isplitl [H8]
    · iexact H8
    iintro H8
    iframe
  · intro i hi; obtain ⟨j, hj, rfl⟩ := Finset.mem_map.mp hi; exact hr hj

theorem ld9 {r : Rect S2x16x2816} {hl : A9.view.LoadsAt r.toLoadRect} {k : (r.shape.Idx → Elt F _) → Pg F α} (hr : r.set ⊆ slotSet 2 16 2816 s)
    (hk : St c R s f8 f9 f10 f11 rwb g h y ⊢ WP c bd (k (A9.view.readAt (Elt F) r.toLoadRect f9)) Q) :
    St c R s f8 f9 f10 f11 rwb g h y ⊢ WP c bd (Prog.lift (.load A9 r.toLoadRect hl) >>= k) Q := by
  refine load_step c bd (Sd := slotSet 2 16 2816 s) (q := fullShare) f9 ?_ ?_ hk
  · unfold St; iintro ⟨H8, H9, H10, H11, H14, H12, H13, H7, HR⟩
    isplitl [H9]
    · iexact H9
    iintro H9
    iframe
  · intro i hi; obtain ⟨j, hj, rfl⟩ := Finset.mem_map.mp hi; exact hr hj

theorem ld10 {r : Rect S2x704x2048} {hl : A10.view.LoadsAt r.toLoadRect} {k : (r.shape.Idx → Elt F _) → Pg F α} (hr : r.set ⊆ slotSet 2 704 2048 s)
    (hk : St c R s f8 f9 f10 f11 rwb g h y ⊢ WP c bd (k (A10.view.readAt (Elt F) r.toLoadRect f10)) Q) :
    St c R s f8 f9 f10 f11 rwb g h y ⊢ WP c bd (Prog.lift (.load A10 r.toLoadRect hl) >>= k) Q := by
  refine load_step c bd (Sd := slotSet 2 704 2048 s) (q := fullShare) f10 ?_ ?_ hk
  · unfold St; iintro ⟨H8, H9, H10, H11, H14, H12, H13, H7, HR⟩
    isplitl [H10]
    · iexact H10
    iintro H10
    iframe
  · intro i hi; obtain ⟨j, hj, rfl⟩ := Finset.mem_map.mp hi; exact hr hj

theorem ld11 {r : Rect S2x11x2048} {hl : A11.view.LoadsAt r.toLoadRect} {k : (r.shape.Idx → Elt F _) → Pg F α} (hr : r.set ⊆ slotSet 2 11 2048 s)
    (hk : St c R s f8 f9 f10 f11 rwb g h y ⊢ WP c bd (k (A11.view.readAt (Elt F) r.toLoadRect f11)) Q) :
    St c R s f8 f9 f10 f11 rwb g h y ⊢ WP c bd (Prog.lift (.load A11 r.toLoadRect hl) >>= k) Q := by
  refine load_step c bd (Sd := slotSet 2 11 2048 s) (q := fullShare) f11 ?_ ?_ hk
  · unfold St; iintro ⟨H8, H9, H10, H11, H14, H12, H13, H7, HR⟩
    isplitl [H11]
    · iexact H11
    iintro H11
    iframe
  · intro i hi; obtain ⟨j, hj, rfl⟩ := Finset.mem_map.mp hi; exact hr hj

theorem ld12 {r : Rect S128x2816} {hl : A12.view.LoadsAt r.toLoadRect} {k : (r.shape.Idx → Elt F _) → Pg F α}
    (hk : St c R s f8 f9 f10 f11 rwb g h y ⊢ WP c bd (k (A12.view.readAt (Elt F) r.toLoadRect g)) Q) :
    St c R s f8 f9 f10 f11 rwb g h y ⊢ WP c bd (Prog.lift (.load A12 r.toLoadRect hl) >>= k) Q := by
  refine load_step c bd (Sd := Finset.univ) (q := fullShare) g ?_ (Finset.subset_univ _) hk
  unfold St pt; iintro ⟨H8, H9, H10, H11, H14, H12, H13, H7, HR⟩
  isplitl [H12]
  · iexact H12
  iintro H12
  iframe

theorem ld13 {r : Rect S128x1408} {hl : A13.view.LoadsAt r.toLoadRect} {k : (r.shape.Idx → Elt F _) → Pg F α}
    (hk : St c R s f8 f9 f10 f11 rwb g h y ⊢ WP c bd (k (A13.view.readAt (Elt F) r.toLoadRect h)) Q) :
    St c R s f8 f9 f10 f11 rwb g h y ⊢ WP c bd (Prog.lift (.load A13 r.toLoadRect hl) >>= k) Q := by
  refine load_step c bd (Sd := Finset.univ) (q := fullShare) h ?_ (Finset.subset_univ _) hk
  unfold St pt; iintro ⟨H8, H9, H10, H11, H14, H12, H13, H7, HR⟩
  isplitl [H13]
  · iexact H13
  iintro H13
  iframe

theorem ld14 {r : Rect S1536x128} {hl : A14.view.LoadsAt r.toLoadRect} {k : (r.shape.Idx → Elt F _) → Pg F α}
    (hk : St c R s f8 f9 f10 f11 rwb g h y ⊢ WP c bd (k (A14.view.readAt (Elt F) r.toLoadRect rwb)) Q) :
    St c R s f8 f9 f10 f11 rwb g h y ⊢ WP c bd (Prog.lift (.load A14 r.toLoadRect hl) >>= k) Q := by
  refine load_step c bd (Sd := Finset.univ) (q := fullShare) rwb ?_ (Finset.subset_univ _) hk
  unfold St pt; iintro ⟨H8, H9, H10, H11, H14, H12, H13, H7, HR⟩
  isplitl [H14]
  · iexact H14
  iintro H14
  iframe

theorem ld7 {r : Rect S1536x2048} {hl : A7.view.LoadsAt r.toLoadRect} {k : (r.shape.Idx → Elt F _) → Pg F α}
    (hk : St c R s f8 f9 f10 f11 rwb g h y ⊢ WP c bd (k (A7.view.readAt (Elt F) r.toLoadRect y)) Q) :
    St c R s f8 f9 f10 f11 rwb g h y ⊢ WP c bd (Prog.lift (.load A7 r.toLoadRect hl) >>= k) Q := by
  refine load_step c bd (Sd := Finset.univ) (q := fullShare) y ?_ (Finset.subset_univ _) hk
  unfold St pt; iintro ⟨H8, H9, H10, H11, H14, H12, H13, H7, HR⟩
  isplitl [H7]
  · iexact H7
  iintro H7
  iframe

/-! ## Stores of tiles -/

theorem emb_unit_val {S : Shape} {off sz : Fin S.rank → ℕ} (inb : ∀ a, off a + sz a ≤ S.size a) (x : (Rect.unit off sz inb).shape.Idx) (a : Fin S.rank) :
    ((Rect.unit off sz inb).emb x a).val = off a + (x a).val := by
  rw [Rect.emb_apply]; simp [Rect.unit]

theorem stG {T : Fin 11 → FVec F S128x256 .f32} {n : ℕ} (hG : GuOK c T n g) (hn : n < 11)
    {off : Fin 2 → ℕ} {inb : ∀ a, off a + S128x256.size a ≤ S128x2816.size a} {w : FVec F S128x256 .f32} {hx hm} {k : PUnit → Pg F α}
    (ho : off = ![0, 256 * n]) (hw : w = T ⟨n, hn⟩)
    (hk : ∀ g', GuOK c T (n + 1) g' → St c R s f8 f9 f10 f11 rwb g' h y ⊢ WP c bd (k ⟨⟩) Q) :
    St c R s f8 f9 f10 f11 rwb g h y ⊢ WP c bd (Prog.lift (.store A12 (Rect.unit (s := S128x2816) off S128x256.size inb) w Finset.univ hx hm) >>= k) Q := by
  subst ho; subst hw
  refine store_step c bd (P' := St c R s f8 f9 f10 f11 rwb
    ((A12.access (Rect.unit (s := S128x2816) ![0, 256 * n] S128x256.size inb)).write (Elt F) g (T ⟨n, hn⟩) Finset.univ) h y) g ?_ (hk _ ?_)
  · unfold St pt; iintro ⟨H8, H9, H10, H11, H14, H12, H13, H7, HR⟩
    isplitl [H12]
    · iexact H12
    iintro H12
    iframe
  · intro i hi
    have hi0 : (i 0).val < 128 := (i 0).isLt
    have hi1 : (i 1).val < 2816 := (i 1).isLt
    by_cases hin : 256 * n ≤ (i 1).val
    · have hd : (i 1).val / 256 = n := by omega
      have e : (Rect.unit (s := S128x2816) ![0, 256 * n] S128x256.size inb).emb (ix2 (i 0) ⟨(i 1).val % 256, Nat.mod_lt _ (by decide)⟩) = i := by
        funext a; apply Fin.ext; rw [emb_unit_val]
        fin_cases a <;> simp [ix2] <;> omega
      have := write_whole_in cc0_scratch4 (Rect.unit (s := S128x2816) ![0, 256 * n] S128x256.size inb) g (T ⟨n, hn⟩)
        (ix2 (i 0) ⟨(i 1).val % 256, Nat.mod_lt _ (by decide)⟩)
      rw [e] at this
      refine this.trans ?_
      subst hd; rfl
    · refine (write_whole_out cc0_scratch4 _ g _ ?_).trans (hG i (by omega))
      intro hm
      have := (Rect.mem_set_unit.mp hm) 1
      simp at this; omega

theorem stH {T : Fin 11 → FVec F S128x128 .bf16} {n : ℕ} (hG : HOK c T n h) (hn : n < 11)
    {off : Fin 2 → ℕ} {inb : ∀ a, off a + S128x128.size a ≤ S128x1408.size a} {w : FVec F S128x128 .bf16} {hx hm} {k : PUnit → Pg F α}
    (ho : off = ![0, 128 * n]) (hw : w = T ⟨n, hn⟩)
    (hk : ∀ h', HOK c T (n + 1) h' → St c R s f8 f9 f10 f11 rwb g h' y ⊢ WP c bd (k ⟨⟩) Q) :
    St c R s f8 f9 f10 f11 rwb g h y ⊢ WP c bd (Prog.lift (.store A13 (Rect.unit (s := S128x1408) off S128x128.size inb) w Finset.univ hx hm) >>= k) Q := by
  subst ho; subst hw
  refine store_step c bd (P' := St c R s f8 f9 f10 f11 rwb g
    ((A13.access (Rect.unit (s := S128x1408) ![0, 128 * n] S128x128.size inb)).write (Elt F) h (T ⟨n, hn⟩) Finset.univ) y) h ?_ (hk _ ?_)
  · unfold St pt; iintro ⟨H8, H9, H10, H11, H14, H12, H13, H7, HR⟩
    isplitl [H13]
    · iexact H13
    iintro H13
    iframe
  · intro i hi
    have hi0 : (i 0).val < 128 := (i 0).isLt
    have hi1 : (i 1).val < 1408 := (i 1).isLt
    by_cases hin : 128 * n ≤ (i 1).val
    · have hd : (i 1).val / 128 = n := by omega
      have e : (Rect.unit (s := S128x1408) ![0, 128 * n] S128x128.size inb).emb (ix2 (i 0) ⟨(i 1).val % 128, Nat.mod_lt _ (by decide)⟩) = i := by
        funext a; apply Fin.ext; rw [emb_unit_val]
        fin_cases a <;> simp [ix2] <;> omega
      have := write_whole_in cc0_scratch5 (Rect.unit (s := S128x1408) ![0, 128 * n] S128x128.size inb) h (T ⟨n, hn⟩)
        (ix2 (i 0) ⟨(i 1).val % 128, Nat.mod_lt _ (by decide)⟩)
      rw [e] at this
      refine this.trans ?_
      subst hd; rfl
    · refine (write_whole_out cc0_scratch5 _ h _ ?_).trans (hG i (by omega))
      intro hm
      have := (Rect.mem_set_unit.mp hm) 1
      simp at this; omega

/-- What is read of a block of the window not stored yet is what it was. -/
theorem rd7_of_YOK {w : ℕ} {hw : w + 128 ≤ 1536} {y₀ : Bf F A7 c} {T : Fin 16 → Vec F S128x128 .bf16 → FVec F S128x128 .bf16} {n : ℕ}
    (hY : YOK c w hw y₀ T n y) (hn : n < 16) : rd7 c y w hw ⟨n, hn⟩ = rd7 c y₀ w hw ⟨n, hn⟩ := by
  funext x
  refine (hY ((Rect.unit (s := S1536x2048) ![w, 128 * n] S128x128.size (inb7 hw hn)).emb x)).trans ?_
  rw [dif_neg]
  · rfl
  · rintro ⟨-, h⟩
    rw [emb_unit_val] at h
    simp at h

theorem stY {w : ℕ} {hw : w + 128 ≤ 1536} {y₀ : Bf F A7 c} {T : Fin 16 → Vec F S128x128 .bf16 → FVec F S128x128 .bf16} {n : ℕ}
    (hY : YOK c w hw y₀ T n y) (hn : n < 16)
    {off : Fin 2 → ℕ} {inb : ∀ a, off a + S128x128.size a ≤ S1536x2048.size a} {v : FVec F S128x128 .bf16} {hx hm} {k : PUnit → Pg F α}
    (ho : off = ![w, 128 * n]) (hv : v = T ⟨n, hn⟩ (rd7 c y w hw ⟨n, hn⟩))
    (hk : ∀ y', YOK c w hw y₀ T (n + 1) y' → St c R s f8 f9 f10 f11 rwb g h y' ⊢ WP c bd (k ⟨⟩) Q) :
    St c R s f8 f9 f10 f11 rwb g h y ⊢ WP c bd (Prog.lift (.store A7 (Rect.unit (s := S1536x2048) off S128x128.size inb) v Finset.univ hx hm) >>= k) Q := by
  rw [rd7_of_YOK hY hn] at hv
  subst ho; subst hv
  refine store_step c bd (P' := St c R s f8 f9 f10 f11 rwb g h
    ((A7.access (Rect.unit (s := S1536x2048) ![w, 128 * n] S128x128.size inb)).write (Elt F) y (T ⟨n, hn⟩ (rd7 c y₀ w hw ⟨n, hn⟩)) Finset.univ)) y ?_ (hk _ ?_)
  · unfold St pt; iintro ⟨H8, H9, H10, H11, H14, H12, H13, H7, HR⟩
    isplitl [H7]
    · iexact H7
    iintro H7
    iframe
  · intro i
    have hi0 : (i 0).val < 1536 := (i 0).isLt
    have hi1 : (i 1).val < 2048 := (i 1).isLt
    by_cases hin : (w ≤ (i 0).val ∧ (i 0).val < w + 128) ∧ (128 * n ≤ (i 1).val ∧ (i 1).val < 128 * (n + 1))
    · have hd : (i 1).val / 128 = n := by omega
      have e : (Rect.unit (s := S1536x2048) ![w, 128 * n] S128x128.size inb).emb (ix2 ⟨(i 0).val - w, by omega⟩ ⟨(i 1).val % 128, Nat.mod_lt _ (by decide)⟩) = i := by
        funext a; apply Fin.ext; rw [emb_unit_val]
        fin_cases a <;> simp [ix2] <;> omega
      have := write_whole_in cc0_stg3_0 (Rect.unit (s := S1536x2048) ![w, 128 * n] S128x128.size inb) y (T ⟨n, hn⟩ (rd7 c y₀ w hw ⟨n, hn⟩))
        (ix2 ⟨(i 0).val - w, by omega⟩ ⟨(i 1).val % 128, Nat.mod_lt _ (by decide)⟩)
      rw [e] at this
      refine this.trans ?_
      rw [dif_pos ⟨hin.1, hin.2.2⟩]
      subst hd; rfl
    · refine (write_whole_out cc0_stg3_0 _ y _ ?_).trans ((hY i).trans ?_)
      · intro hm
        have h0 := (Rect.mem_set_unit.mp hm) 0
        have h1 := (Rect.mem_set_unit.mp hm) 1
        simp at h0 h1; omega
      · by_cases h : (w ≤ (i 0).val ∧ (i 0).val < w + 128) ∧ (i 1).val < 128 * n
        · rw [dif_pos h, dif_pos ⟨h.1, by omega⟩]
        · rw [dif_neg h, dif_neg (by omega)]

end Cert.KernelIdeal.Hand

end
-- ==== Proof.KernelIdeal.Compute.lean ====
/-
  One item's arithmetic: from the weights of the item's slot, the row window and the row weights, the
  first product is filled tile by tile, then the gated activations, then the window of the result.
-/
module

public import proofs.«01_k».proof.Proof.KernelIdeal.Trip

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD} {bd : Option ℕ}

theorem hyp_elim {P : sProp (MT nD τ sig Unit (Elt F) ℕ (Pipeline.UD sig nD τ) ℕ) → Bf F A8 c → Bf F A9 c → Bf F A10 c → Bf F A11 c → Bf F A14 c → Bf F A12 c → Bf F A13 c → Bf F A7 c → Prop} {s : ℕ} {Z : sProp (MT nD τ sig Unit (Elt F) ℕ (Pipeline.UD sig nD τ) ℕ)}
    (h0 : ∀ R f8 f9 f10 f11 rwb g h y, P R f8 f9 f10 f11 rwb g h y → St c R s f8 f9 f10 f11 rwb g h y ⊢ Z) :
    iprop(∃ (R : sProp (MT nD τ sig Unit (Elt F) ℕ (Pipeline.UD sig nD τ) ℕ)) (f8 : Bf F A8 c) (f9 : Bf F A9 c) (f10 : Bf F A10 c) (f11 : Bf F A11 c) (rwb : Bf F A14 c) (g : Bf F A12 c) (h : Bf F A13 c) (y : Bf F A7 c),
      ⌜P R f8 f9 f10 f11 rwb g h y⌝ ∗ St c R s f8 f9 f10 f11 rwb g h y) ⊢ Z := by
  iintro ⟨%R, %f8, %f9, %f10, %f11, %rwb, %g, %h, %y, %hf, HS⟩
  iapply (h0 R f8 f9 f10 f11 rwb g h y hf) $$ HS

set_option maxHeartbeats 8000000 in
/-- An item's region, from its state after the weights are there. -/
theorem trip_compute {P : sProp (MT nD τ sig Unit (Elt F) ℕ (Pipeline.UD sig nD τ) ℕ)} {Q : BitVec 32 → sProp (MT nD τ sig Unit (Elt F) ℕ (Pipeline.UD sig nD τ) ℕ)} {v1_0 : BitVec 32} {hw2 : k0_chk2 v1_0} {t : Fin (k0_t2_loop v1_0).trips} {a : BitVec 32}
    (h2 : P ⊢ WP c bd (k0_part2 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8 v1_0 hw2 0#32 1#32 t) (fun o =>
      iprop(∃ (R : sProp (MT nD τ sig Unit (Elt F) ℕ (Pipeline.UD sig nD τ) ℕ)) (f8 : Bf F A8 c) (f9 : Bf F A9 c) (f10 : Bf F A10 c) (f11 : Bf F A11 c) (rwb : Bf F A14 c) (g : Bf F A12 c) (h : Bf F A13 c) (y : Bf F A7 c),
        ⌜o.2.2.2.2.2.2.1 = o.1 ∧ o.2.2.2.2.2.2.2.2.2 = k0_pay8 (F := F) (rd8 c f8 (sf o.2.2.2.2.1) 0) ∧
          ∀ (hw : o.1.toNat + 128 ≤ 1536) (g' : Bf F A12 c) (h' : Bf F A13 c) (y' : Bf F A7 c),
            GuOK c (guT c o.2.2.2.2.2.2.2.2.1 f8 f9 (sf o.2.2.2.2.1)) 11 g' → HOK c (hT c g') 11 h' →
            YOK c o.1.toNat hw y (yB c (k0_pay193 (F := F) o.2.2.1 o.2.2.2.1 o.1) (rd14 c rwb o.1.toNat hw) (rd13 c h') f10 f11 (sf o.2.2.2.2.1)) 16 y' →
            St c R (slotOf o.2.2.2.2.1) f8 f9 f10 f11 rwb g' h' y' ⊢ Q 0#32⌝ ∗ St c R (slotOf o.2.2.2.2.1) f8 f9 f10 f11 rwb g h y))) :
    P ⊢ WP c bd (k0_t2_body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8 v1_0 hw2 t a) Q := by
  refine bind_step c bd ?_
  rw [k0_part56_eq_skeleton]
  unfold k0_part56_skel
  refine bind_step c bd (h2.trans (wp_mono _ _ _ ?_))
  rintro ⟨v115, hw4, v117, v119, v121, hw9, v122, v123, v140, v147⟩
  refine hyp_elim ?_
  intro R f8 f9 f10 f11 rwb g h y ⟨e122, e147, hfin⟩
  simp only at e122 e147 hfin
  subst e122 e147
  have hG : GuOK c (guT c v140 f8 f9 (sf v121)) 0 g := fun i hi => absurd hi (by omega)
  iterate 30
    refine bind_step c bd ?_
    first
      | rw [k0_part3_eq_skeleton, k0_part3_skel]
      | rw [k0_part4_eq_skeleton, k0_part4_skel]
      | rw [k0_part5_eq_skeleton, k0_part5_skel]
      | rw [k0_part6_eq_skeleton, k0_part6_skel]
      | rw [k0_part7_eq_skeleton, k0_part7_skel]
      | rw [k0_part8_eq_skeleton, k0_part8_skel]
      | rw [k0_part9_eq_skeleton, k0_part9_skel]
      | rw [k0_part10_eq_skeleton, k0_part10_skel]
      | rw [k0_part11_eq_skeleton, k0_part11_skel]
      | rw [k0_part12_eq_skeleton, k0_part12_skel]
      | rw [k0_part13_eq_skeleton, k0_part13_skel]
      | rw [k0_part14_eq_skeleton, k0_part14_skel]
      | rw [k0_part15_eq_skeleton, k0_part15_skel]
      | rw [k0_part16_eq_skeleton, k0_part16_skel]
      | rw [k0_part17_eq_skeleton, k0_part17_skel]
      | rw [k0_part18_eq_skeleton, k0_part18_skel]
      | rw [k0_part19_eq_skeleton, k0_part19_skel]
      | rw [k0_part20_eq_skeleton, k0_part20_skel]
      | rw [k0_part21_eq_skeleton, k0_part21_skel]
      | rw [k0_part22_eq_skeleton, k0_part22_skel]
      | rw [k0_part23_eq_skeleton, k0_part23_skel]
      | rw [k0_part24_eq_skeleton, k0_part24_skel]
      | rw [k0_part25_eq_skeleton, k0_part25_skel]
      | rw [k0_part26_eq_skeleton, k0_part26_skel]
      | rw [k0_part27_eq_skeleton, k0_part27_skel]
      | rw [k0_part28_eq_skeleton, k0_part28_skel]
      | rw [k0_part29_eq_skeleton, k0_part29_skel]
      | rw [k0_part30_eq_skeleton, k0_part30_skel]
      | rw [k0_part31_eq_skeleton, k0_part31_skel]
      | rw [k0_part32_eq_skeleton, k0_part32_skel]
    repeat (first
      | ((with_reducible refine ld9 ?_ ?_); · exact unit_sub_slotSet _ rfl rfl)
      | ((with_reducible refine ld8 ?_ ?_); · exact unit_sub_slotSet _ rfl rfl)
      | ((with_reducible refine ld11 ?_ ?_); · exact unit_sub_slotSet _ rfl rfl)
      | ((with_reducible refine ld10 ?_ ?_); · exact unit_sub_slotSet _ rfl rfl)
      | with_reducible refine ld12 ?_
      | with_reducible refine ld13 ?_
      | with_reducible refine ld14 ?_
      | with_reducible refine ld7 ?_
      | ((with_reducible refine stG hG (by decide) ?_ ?_ ?_); · rfl
         · rfl
         clear hG; intro g hG))
    refine pure_step c bd ?_
  refine bind_step c bd ?_
  rw [k0_part33_eq_skeleton, k0_part33_skel]
  repeat (first
      | ((with_reducible refine ld9 ?_ ?_); · exact unit_sub_slotSet _ rfl rfl)
      | ((with_reducible refine ld8 ?_ ?_); · exact unit_sub_slotSet _ rfl rfl)
      | ((with_reducible refine ld11 ?_ ?_); · exact unit_sub_slotSet _ rfl rfl)
      | ((with_reducible refine ld10 ?_ ?_); · exact unit_sub_slotSet _ rfl rfl)
      | with_reducible refine ld12 ?_
      | with_reducible refine ld13 ?_
      | with_reducible refine ld14 ?_
      | with_reducible refine ld7 ?_
      | ((with_reducible refine stG hG (by decide) ?_ ?_ ?_); · rfl
         · rfl
         clear hG; intro g hG))
  have hH : HOK c (hT c g) 0 h := fun i hi => absurd hi (by omega)
  repeat (first
      | ((with_reducible refine ld9 ?_ ?_); · exact unit_sub_slotSet _ rfl rfl)
      | ((with_reducible refine ld8 ?_ ?_); · exact unit_sub_slotSet _ rfl rfl)
      | ((with_reducible refine ld11 ?_ ?_); · exact unit_sub_slotSet _ rfl rfl)
      | ((with_reducible refine ld10 ?_ ?_); · exact unit_sub_slotSet _ rfl rfl)
      | with_reducible refine ld12 ?_
      | with_reducible refine ld13 ?_
      | with_reducible refine ld14 ?_
      | with_reducible refine ld7 ?_
      | ((with_reducible refine stH hH (by decide) ?_ ?_ ?_); · rfl
         · rfl
         clear hH; intro h hH))
  refine pure_step c bd ?_
  iterate 3
    refine bind_step c bd ?_
    first
      | rw [k0_part34_eq_skeleton, k0_part34_skel]
      | rw [k0_part35_eq_skeleton, k0_part35_skel]
      | rw [k0_part36_eq_skeleton, k0_part36_skel]
    repeat (first
      | ((with_reducible refine ld9 ?_ ?_); · exact unit_sub_slotSet _ rfl rfl)
      | ((with_reducible refine ld8 ?_ ?_); · exact unit_sub_slotSet _ rfl rfl)
      | ((with_reducible refine ld11 ?_ ?_); · exact unit_sub_slotSet _ rfl rfl)
      | ((with_reducible refine ld10 ?_ ?_); · exact unit_sub_slotSet _ rfl rfl)
      | with_reducible refine ld12 ?_
      | with_reducible refine ld13 ?_
      | with_reducible refine ld14 ?_
      | with_reducible refine ld7 ?_
      | ((with_reducible refine stH hH (by decide) ?_ ?_ ?_); · rfl
         · rfl
         clear hH; intro h hH))
    refine pure_step c bd ?_
  refine bind_step c bd ?_
  rw [k0_part37_eq_skeleton, k0_part37_skel]
  repeat (first
      | ((with_reducible refine ld9 ?_ ?_); · exact unit_sub_slotSet _ rfl rfl)
      | ((with_reducible refine ld8 ?_ ?_); · exact unit_sub_slotSet _ rfl rfl)
      | ((with_reducible refine ld11 ?_ ?_); · exact unit_sub_slotSet _ rfl rfl)
      | ((with_reducible refine ld10 ?_ ?_); · exact unit_sub_slotSet _ rfl rfl)
      | with_reducible refine ld12 ?_
      | with_reducible refine ld13 ?_
      | with_reducible refine ld14 ?_
      | with_reducible refine ld7 ?_
      | ((with_reducible refine stH hH (by decide) ?_ ?_ ?_); · rfl
         · rfl
         clear hH; intro h hH))
  refine pure_step c bd ?_
  have hw : v122.toNat + 128 ≤ 1536 := (k0_off233_inb v122 hw4) 0
  have hY : YOK c v122.toNat hw y (yB c (k0_pay193 (F := F) v117 v119 v122) (rd14 c rwb v122.toNat hw) (rd13 c h) f10 f11 (sf v121)) 0 y :=
    yok_zero (F := F) c _ hw y _
  iterate 18
    refine bind_step c bd ?_
    first
      | rw [k0_part38_eq_skeleton, k0_part38_skel]
      | rw [k0_part39_eq_skeleton, k0_part39_skel]
      | rw [k0_part40_eq_skeleton, k0_part40_skel]
      | rw [k0_part41_eq_skeleton, k0_part41_skel]
      | rw [k0_part42_eq_skeleton, k0_part42_skel]
      | rw [k0_part43_eq_skeleton, k0_part43_skel]
      | rw [k0_part44_eq_skeleton, k0_part44_skel]
      | rw [k0_part45_eq_skeleton, k0_part45_skel]
      | rw [k0_part46_eq_skeleton, k0_part46_skel]
      | rw [k0_part47_eq_skeleton, k0_part47_skel]
      | rw [k0_part48_eq_skeleton, k0_part48_skel]
      | rw [k0_part49_eq_skeleton, k0_part49_skel]
      | rw [k0_part50_eq_skeleton, k0_part50_skel]
      | rw [k0_part51_eq_skeleton, k0_part51_skel]
      | rw [k0_part52_eq_skeleton, k0_part52_skel]
      | rw [k0_part53_eq_skeleton, k0_part53_skel]
      | rw [k0_part54_eq_skeleton, k0_part54_skel]
      | rw [k0_part55_eq_skeleton, k0_part55_skel]
    repeat (first
      | ((with_reducible refine ld9 ?_ ?_); · exact unit_sub_slotSet _ rfl rfl)
      | ((with_reducible refine ld8 ?_ ?_); · exact unit_sub_slotSet _ rfl rfl)
      | ((with_reducible refine ld11 ?_ ?_); · exact unit_sub_slotSet _ rfl rfl)
      | ((with_reducible refine ld10 ?_ ?_); · exact unit_sub_slotSet _ rfl rfl)
      | with_reducible refine ld12 ?_
      | with_reducible refine ld13 ?_
      | with_reducible refine ld14 ?_
      | with_reducible refine ld7 ?_
      | ((with_reducible refine stY hY (by decide) ?_ ?_ ?_); · rfl
         · rfl
         clear hY; intro y' hY))
    refine pure_step c bd ?_
  refine pure_step c bd ?_
  repeat (first
      | ((with_reducible refine ld9 ?_ ?_); · exact unit_sub_slotSet _ rfl rfl)
      | ((with_reducible refine ld8 ?_ ?_); · exact unit_sub_slotSet _ rfl rfl)
      | ((with_reducible refine ld11 ?_ ?_); · exact unit_sub_slotSet _ rfl rfl)
      | ((with_reducible refine ld10 ?_ ?_); · exact unit_sub_slotSet _ rfl rfl)
      | with_reducible refine ld12 ?_
      | with_reducible refine ld13 ?_
      | with_reducible refine ld14 ?_
      | with_reducible refine ld7 ?_
      | ((with_reducible refine stY hY (by decide) ?_ ?_ ?_); · rfl
         · rfl
         clear hY; intro y' hY))
  refine pure_step c bd ?_
  exact hfin hw _ _ _ hG hH hY

end Cert.KernelIdeal.Hand
end
-- ==== Proof.KernelIdeal.Step.lean ====
/-
  One item: the operands it needs are in its slot before its arithmetic runs, and the next expert's are
  started when its expert is new.
-/
module

public import proofs.«01_k».proof.Proof.KernelIdeal.Slots
public import proofs.«01_k».proof.Proof.KernelIdeal.Compute

@[expose] public section

noncomputable section

namespace Cert.KernelIdeal.Hand

open Cert.KernelIdeal Cert.KernelIdeal.Gen Cert.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Items of one expert -/

theorem slotOf_nat (j : BitVec 32) : slotOf j = j.toNat % 2 := by
  simp only [slotOf, Scalar.andi, BitVec.toNat_and]
  exact Nat.and_one_is_mod _

theorem same_next {of : ℕ → ℕ} {f : Tbl} {n t u : ℕ} (hF : Fin1 of f n) (hS : Same f t n u) (hu : u < n) (hne : it f 4 u ≠ it f 4 t) :
    it f 4 u = it f 4 t + 1 := by
  obtain ⟨h1, h2, h3⟩ := hS
  obtain ⟨v, rfl⟩ : ∃ v, u = v + 1 := ⟨u - 1, by omega⟩
  have hv := h3 v (by omega) (by omega)
  rcases (hF.tab.step v hu).2 with ⟨h, -⟩ | h
  · exact absurd (h.trans hv) hne
  · omega

theorem same_step {of : ℕ → ℕ} {f : Tbl} {n t u : ℕ} (hF : Fin1 of f n) (hS : Same f t n u) (hu : t + 1 < u) :
    it f 4 (t + 1) = it f 4 t ∧ it f 0 (t + 1) = it f 0 t ∧ Same f (t + 1) n u := by
  obtain ⟨h1, h2, h3⟩ := hS
  have h4 := h3 (t + 1) (by omega) hu
  refine ⟨h4, ?_, ⟨hu, h2, fun v hv hv' => by rw [h3 v (by omega) hv', h4]⟩⟩
  rcases (hF.tab.step t (by omega)).2 with ⟨-, h⟩ | h
  · exact h
  · omega

section Inv

variable (c : Dev nD) (V : Hb F c) (f15 : Bf F A15 c) (n : ℕ) (x1 : Bf F A1 c) (rwb : Bf F A14 c) (YI : ℕ → Bf F A7 c → Prop)

/-- Item `t` is its expert's first. -/
def First (t : ℕ) : Prop := t = 0 ∨ it f15 4 t ≠ it f15 4 (t - 1)

/-- The slot that is not `j`'s, when the next expert's first item is `u`. -/
def Next (j u : ℕ) : sProp 𝕄 := if u < n then Flying c V (1 - j % 2) (it f15 0 u) else iprop(Idle c (1 - j % 2) ∗ Hbm c V)

/-- Item `t`'s operands are there; the next expert's are on their way, if there is one. -/
def Mid (t : ℕ) : sProp 𝕄 :=
  iprop(∃ u, ⌜Same f15 t n u ∧ it f15 4 u ≠ it f15 4 t⌝ ∗ Landed c V (it f15 4 t % 2) (it f15 0 t) ∗ Next c V f15 n (it f15 4 t) u)

/-- The two slots before item `t`. -/
def Slots (t : ℕ) : sProp 𝕄 :=
  open Classical in
  if t < n then
    if First c f15 t then iprop(Flying c V (it f15 4 t % 2) (it f15 0 t) ∗ Idle c (1 - it f15 4 t % 2)) else Mid c V f15 n t
  else iprop(Idle c 0 ∗ Idle c 1 ∗ Hbm c V)

theorem mid_next {of : ℕ → ℕ} (hF : Fin1 of f15 n) (t : ℕ) (ht : t < n) : Mid c V f15 n t ⊢ Slots c V f15 n (t + 1) := by
  unfold Mid
  refine ex_elim fun u => pure_sep fun ⟨hS, hne⟩ => ?_
  have h1 := hS.1
  by_cases hu : t + 1 < u
  · obtain ⟨hJ, hE, hS'⟩ := same_step hF hS hu
    have htn : t + 1 < n := by have := hS.2.1; omega
    have hnf : ¬ First c f15 (t + 1) := by
      unfold First
      rintro (h | h)
      · omega
      · exact h hJ
    unfold Slots
    rw [if_pos htn, if_neg hnf]
    unfold Mid
    iintro H
    iexists u
    isplitr
    · ipureintro
      exact ⟨hS', by rw [hJ]; exact hne⟩
    rw [hJ, hE]
    iexact H
  · have hu' : u = t + 1 := by omega
    subst hu'
    unfold Next Slots
    by_cases htn : t + 1 < n
    · have hJ := same_next hF hS htn hne
      have hf : First c f15 (t + 1) := Or.inr (by show it f15 4 (t + 1) ≠ it f15 4 t; omega)
      rw [if_pos htn, if_pos htn, if_pos hf]
      have e1 : 1 - it f15 4 t % 2 = it f15 4 (t + 1) % 2 := by omega
      have e2 : 1 - it f15 4 (t + 1) % 2 = it f15 4 t % 2 := by omega
      rw [e1, e2]
      iintro ⟨HL, HF⟩
      isplitl [HF]; · iexact HF
      iapply (landed_idle c V _ _) $$ HL
    · rw [if_neg htn, if_neg htn]
      rcases Nat.mod_two_eq_zero_or_one (it f15 4 t) with e | e
      · rw [e]
        iintro ⟨HL, HI, HH⟩
        isplitl [HL]; · iapply (landed_idle c V _ _) $$ HL
        isplitl [HI]; · iexact HI
        iexact HH
      · rw [e]
        iintro ⟨HL, HI, HH⟩
        isplitl [HI]; · iexact HI
        isplitl [HL]; · iapply (landed_idle c V _ _) $$ HL
        iexact HH

/-- What an item's arithmetic does to what is said of the result. -/
def YStep : Prop :=
  ∀ t < n, ∀ (W L H : BitVec 32) (s : Fin 2) (hw : W.toNat + 128 ≤ 1536) (f8 : Bf F A8 c) (f9 : Bf F A9 c) (f10 : Bf F A10 c) (f11 : Bf F A11 c)
    (g : Bf F A12 c) (h : Bf F A13 c) (y y' : Bf F A7 c),
    W.toNat = it f15 1 t → L.toNat = it f15 2 t → H.toNat = it f15 3 t → YI t y →
    Holds c A8 A3 s (it f15 0 t) V.V3 f8 → Holds c A9 A4 s (it f15 0 t) V.V4 f9 →
    Holds c A10 A5 s (it f15 0 t) V.V5 f10 → Holds c A11 A6 s (it f15 0 t) V.V6 f11 →
    GuOK c (guT c (rd1 c x1 W.toNat hw) f8 f9 s) 11 g → HOK c (hT c g) 11 h →
    YOK c W.toNat hw y (yB c (k0_pay193 (F := F) L H W) (rd14 c rwb W.toNat hw) (rd13 c h) f10 f11 s) 16 y' → YI (t + 1) y'

/-- The loop's invariant. -/
def Inv (t : ℕ) (a : BitVec 32) : sProp 𝕄 :=
  iprop(∃ (g : Bf F A12 c) (h : Bf F A13 c) (y : Bf F A7 c), ⌜YI t y⌝ ∗ pt A15 c f15 ∗ pt A1 c x1 ∗ pt A14 c rwb ∗ pt A12 c g ∗ pt A13 c h ∗ pt A7 c y
    ∗ (∃ O, owes (c : Thread nD τ) 0 O) ∗ Slots c V f15 n t)

end Inv

section Step

variable (c : Dev nD)

theorem slot8 (s : ℕ) (f : Bf F A8 c) : (Slot c A8 s f : sProp 𝕄) = (A8.view.loc (c : Thread nD τ) ↦[slotSet 2 1024 2816 s]{fullShare} f) :=
  congrArg (fun M => (A8.view.loc (c : Thread nD τ) ↦[M]{fullShare} f : sProp 𝕄)) Finset.map_refl
theorem slot9 (s : ℕ) (f : Bf F A9 c) : (Slot c A9 s f : sProp 𝕄) = (A9.view.loc (c : Thread nD τ) ↦[slotSet 2 16 2816 s]{fullShare} f) :=
  congrArg (fun M => (A9.view.loc (c : Thread nD τ) ↦[M]{fullShare} f : sProp 𝕄)) Finset.map_refl
theorem slot10 (s : ℕ) (f : Bf F A10 c) : (Slot c A10 s f : sProp 𝕄) = (A10.view.loc (c : Thread nD τ) ↦[slotSet 2 704 2048 s]{fullShare} f) :=
  congrArg (fun M => (A10.view.loc (c : Thread nD τ) ↦[M]{fullShare} f : sProp 𝕄)) Finset.map_refl
theorem slot11 (s : ℕ) (f : Bf F A11 c) : (Slot c A11 s f : sProp 𝕄) = (A11.view.loc (c : Thread nD τ) ↦[slotSet 2 11 2048 s]{fullShare} f) :=
  congrArg (fun M => (A11.view.loc (c : Thread nD τ) ↦[M]{fullShare} f : sProp 𝕄)) Finset.map_refl

/-- A step whose result is not used, then the rest. -/
theorem seq_step {α β : Type} (bd : Option ℕ) {p : Pg F β} {k : β → Pg F α} {Q : α → sProp 𝕄} {P : sProp 𝕄} (M : sProp 𝕄)
    (h1 : P ⊢ WP c bd p (fun _ => M)) (h2 : ∀ b, M ⊢ WP c bd (k b) Q) : P ⊢ WP c bd (p >>= k) Q :=
  bind_step c bd (BIBase.Entails.trans h1 (wp_mono _ _ _ fun b => h2 b))

theorem ne0_bit (b : BitVec 1) : Scalar.cmpi .ne (Scalar.extui b : BitVec 32) 0#32 = b := by revert b; decide
theorem ori_bit (a b : BitVec 1) : Scalar.ori a b = 1#1 ↔ a = 1#1 ∨ b = 1#1 := by revert a b; decide
theorem andi_bit (a b : BitVec 1) : Scalar.andi a b = 1#1 ↔ a = 1#1 ∧ b = 1#1 := by revert a b; decide

theorem cond2_iff (f15 : Bf F A15 c) (v1_0 : BitVec 32) (t : Fin (k0_t2_loop v1_0).trips) (v121 v128 : BitVec 32) (ht : t.val < 74)
    (h1 : v121.toNat = it f15 4 t) (h2 : v128.toNat = it f15 4 (t - 1)) : k0_cond2 v1_0 t v121 v128 = 1#1 ↔ First c f15 t := by
  have e : k0_cond2 v1_0 t v121 v128 = Scalar.cmpi .ne (Scalar.extui (Scalar.ori (Scalar.cmpi .eq (Scf.iv 0#32 1#32 t.val) 0#32) (Scalar.cmpi .ne v128 v121)) : BitVec 32) 0#32 := rfl
  rw [e, ne0_bit, ori_bit, cmpi_eq_nat, cmpi_ne_nat, t2_iv _ ht, h1, h2]
  unfold First
  show t.val = 0 ∨ _ ↔ _
  exact or_congr_right ne_comm

theorem cond3_iff (f15 : Bf F A15 c) (v1_0 : BitVec 32) (t : Fin (k0_t2_loop v1_0).trips) (v121 v128 u : BitVec 32) (ht : t.val < 74)
    (h1 : v121.toNat = it f15 4 t) (h2 : v128.toNat = it f15 4 (t - 1)) (hn : v1_0.toNat ≤ 74) (hu : u.toNat ≤ 74) :
    k0_cond3 v1_0 t v121 v128 u = 1#1 ↔ First c f15 t ∧ u.toNat < v1_0.toNat := by
  have e : k0_cond3 v1_0 t v121 v128 u = Scalar.cmpi .ne (Scalar.extui (Scalar.andi (Scalar.ori (Scalar.cmpi .eq (Scf.iv 0#32 1#32 t.val) 0#32) (Scalar.cmpi .ne v128 v121))
    (Scalar.cmpi .slt u v1_0)) : BitVec 32) 0#32 := rfl
  rw [e, ne0_bit, andi_bit, ori_bit, cmpi_eq_nat, cmpi_ne_nat, t2_iv _ ht, h1, h2, cmpi_slt_iff (by omega) (by omega)]
  unfold First
  refine and_congr_left' ?_
  show t.val = 0 ∨ _ ↔ _
  exact or_congr_right ne_comm

/-- The search for the next expert's first item, as a step. -/
theorem search_step {of : ℕ → ℕ} {n : ℕ} {α : Type} (f : Bf F A15 c) (hF : Fin1 of f n) (v1_0 : BitVec 32) (hw2 : k0_chk2 v1_0) (t : Fin (k0_t2_loop v1_0).trips)
    (v113 v115 : BitVec 32) (hw4 : k0_chk4 v115) (v121 v128 : BitVec 32) (hw5 : k0_chk5 v1_0 t v113 v121 v128) (ht : t.val < n) (u : BitVec 32) (hu : u.toNat = t.val + 1)
    {k : BitVec 32 → Pg F α} {Q : α → sProp 𝕄} {X : sProp 𝕄}
    (h : ∀ r : BitVec 32, Same f t.val n r.toNat ∧ it f 4 r.toNat ≠ it f 4 t.val → iprop(pt A15 c f ∗ X) ⊢ WP c none (k r) Q) :
    iprop(pt A15 c f ∗ X) ⊢ WP c none (Prog.lift (.call (2 : (Λ₀ F).Label) ⟨v1_0, hw2, t, v113, v115, hw4, v121, v128, hw5, A15, Memref.isWhole_whole _, u⟩) >>= k) Q := by
  have hS : Same f t.val n u.toNat := by
    rw [hu]
    exact ⟨by omega, by omega, fun v h1 h2 => by rw [show v = t.val by omega]⟩
  refine bind_step c none ?_
  refine BIBase.Entails.trans ?_ (wp_call_spec Variants.nat (c : Thread nD τ) none Set.univ (spec2 c t.val n f) n (fun u hu => by cases hu)
    (while2_le c f hF v1_0 hw2 t v113 v115 hw4 v121 v128 hw5 ht n u hS (by omega)))
  rw [spec2_apply]
  iintro ⟨H, HX⟩
  isplitl [H]; · iexact H
  iintro %r %hr H
  iapply (le_wp_ret _ _ _ _ _)
  iapply (h r hr)
  isplitl [H]; · iexact H
  iexact HX

/-- What the arithmetic of an item starts from. -/
abbrev Pre2 (V : Hb F c) (f15 : Bf F A15 c) (n : ℕ) (x1 : Bf F A1 c) (rwb : Bf F A14 c) (g : Bf F A12 c) (h : Bf F A13 c) (y : Bf F A7 c) (Z : sProp 𝕄) : sProp 𝕄 :=
  iprop(pt A15 c f15 ∗ (pt A1 c x1 ∗ pt A14 c rwb ∗ pt A12 c g ∗ pt A13 c h ∗ pt A7 c y ∗ (∃ O, owes (c : Thread nD τ) 0 O) ∗ Z))

/-- What the arithmetic of an item is handed, to end in `Q`. -/
def Post2 (Q : BitVec 32 → sProp 𝕄) (o : Σ' (v115 : Elt F .i32) (k0_hw4 : k0_chk4 v115) (v117 : Elt F .i32) (v119 : Elt F .i32) (v121 : Elt F .i32) (k0_hw9 : k0_chk9 v121)
    (v122 : BitVec 32) (v123 : BitVec 32) (v140 : Vec F S128x2048 .bf16), IVec S1024x1x256 32) : sProp 𝕄 :=
  iprop(∃ (R : sProp 𝕄) (f8 : Bf F A8 c) (f9 : Bf F A9 c) (f10 : Bf F A10 c) (f11 : Bf F A11 c) (rwb : Bf F A14 c) (g : Bf F A12 c) (h : Bf F A13 c) (y : Bf F A7 c),
        ⌜o.2.2.2.2.2.2.1 = o.1 ∧ o.2.2.2.2.2.2.2.2.2 = k0_pay8 (F := F) (rd8 c f8 (sf o.2.2.2.2.1) 0) ∧
          ∀ (hw : o.1.toNat + 128 ≤ 1536) (g' : Bf F A12 c) (h' : Bf F A13 c) (y' : Bf F A7 c),
            GuOK c (guT c o.2.2.2.2.2.2.2.2.1 f8 f9 (sf o.2.2.2.2.1)) 11 g' → HOK c (hT c g') 11 h' →
            YOK c o.1.toNat hw y (yB c (k0_pay193 (F := F) o.2.2.1 o.2.2.2.1 o.1) (rd14 c rwb o.1.toNat hw) (rd13 c h') f10 f11 (sf o.2.2.2.2.1)) 16 y' →
            St c R (slotOf o.2.2.2.2.1) f8 f9 f10 f11 rwb g' h' y' ⊢ Q 0#32⌝ ∗ St c R (slotOf o.2.2.2.2.1) f8 f9 f10 f11 rwb g h y)

variable (V : Hb F c) (f15 : Bf F A15 c) {of : ℕ → ℕ} (v1_0 : BitVec 32) (x1 : Bf F A1 c) (rwb : Bf F A14 c) (YI : ℕ → Bf F A7 c → Prop)

/-- The two loads that begin an item's arithmetic. -/
theorem trip_tail (hF : Fin1 of f15 v1_0.toNat) (hY : YStep c V f15 v1_0.toNat x1 rwb YI) (t : ℕ) (htn : t < v1_0.toNat)
    (v115 v117 v119 v121 : BitVec 32) (hw4 : k0_chk4 v115) (hw9 : k0_chk9 v121) (hW : v115.toNat = it f15 1 t) (hL : v117.toNat = it f15 2 t)
    (hH : v119.toNat = it f15 3 t) (hJ : v121.toNat = it f15 4 t) (g : Bf F A12 c) (h : Bf F A13 c) (y : Bf F A7 c) (hy : YI t y) :
    Pre2 c V f15 v1_0.toNat x1 rwb g h y (Mid c V f15 v1_0.toNat t) ⊢ WP c none (do
      let v140 : Vec F S128x2048 .bf16 ← Prog.lift (.load A1 (Rect.unit (s := S1536x2048) (k0_off45 v115) S128x2048.size (k0_off45_inb v115 hw4)).toLoadRect (View.loadsAt_vmem h_S128x2048))
      let v142 : Vec F S1x1024x256 .i8 ← Prog.lift (.load A8 (Rect.unit (s := S2x1024x2816) (k0_off46 v121) S1x1024x256.size (k0_off46_inb v121 hw9)).toLoadRect (View.loadsAt_vmem h_S1x1024x256))
      pure ⟨v115, hw4, v117, v119, v121, hw9, v115, Scalar.andi v121 1#32, v140, k0_pay8 v142⟩)
      (Post2 c (Inv c V f15 v1_0.toNat x1 rwb YI (t + 1))) := by
  have hit := hF.tab.item t htn
  have hslot : slotOf v121 = it f15 4 t % 2 := by rw [slotOf_nat, hJ]
  have hw : v115.toNat + 128 ≤ 1536 := by rw [hW]; have := hit.2.2.2.1; omega
  refine BIBase.Entails.trans (Q := iprop(∃ f8 : Bf F A8 c, ∃ f9 : Bf F A9 c, ∃ f10 : Bf F A10 c, ∃ f11 : Bf F A11 c,
    ⌜Holds c A8 A3 (slotOf v121) (it f15 0 t) V.V3 f8 ∧ Holds c A9 A4 (slotOf v121) (it f15 0 t) V.V4 f9
      ∧ Holds c A10 A5 (slotOf v121) (it f15 0 t) V.V5 f10 ∧ Holds c A11 A6 (slotOf v121) (it f15 0 t) V.V6 f11⌝
    ∗ St c iprop(pt A15 c f15 ∗ pt A1 c x1 ∗ (∃ O, owes (c : Thread nD τ) 0 O) ∗ Sems c (slotOf v121)
        ∗ ∃ u, ⌜Same f15 t v1_0.toNat u ∧ it f15 4 u ≠ it f15 4 t⌝ ∗ Next c V f15 v1_0.toNat (it f15 4 t) u)
      (slotOf v121) f8 f9 f10 f11 rwb g h y)) ?_ ?_
  · unfold Mid Landed St
    rw [← hslot]
    iintro ⟨H15, H1, H14, H12, H13, H7, HO, %u, %hu, ⟨⟨%f8, %h8, H8⟩, ⟨%f9, %h9, H9⟩, ⟨%f10, %h10, H10⟩, ⟨%f11, %h11, H11⟩, Hs⟩, HN⟩
    iexists f8
    iexists f9
    iexists f10
    iexists f11
    isplitr
    · ipureintro; exact ⟨h8, h9, h10, h11⟩
    rw [← slot8, ← slot9, ← slot10, ← slot11]
    iframe
    iexists u
    isplitr
    · ipureintro; exact hu
    iexact HN
  refine ex_elim fun f8 => ex_elim fun f9 => ex_elim fun f10 => ex_elim fun f11 => pure_sep fun ⟨h8, h9, h10, h11⟩ => ?_
  refine load_step c none (Sd := Finset.univ) (q := fullShare) x1 ?_ (Finset.subset_univ _) ?_
  · unfold St
    iintro ⟨H8, H9, H10, H11, H14, H12, H13, H7, H15, H1, HR⟩
    isplitl [H1]
    · iexact H1
    iintro H1
    iframe
  refine ld8 (unit_sub_slotSet _ rfl rfl) ?_
  refine pure_step c none ?_
  unfold Post2
  iintro HS
  iexists _
  iexists f8
  iexists f9
  iexists f10
  iexists f11
  iexists rwb
  iexists g
  iexists h
  iexists y
  isplitr
  swap; · iexact HS
  ipureintro
  refine ⟨rfl, rfl, fun hw' g' h' y' hG hH' hY' => ?_⟩
  have hyn := hY t htn v115 v117 v119 (sf v121) hw f8 f9 f10 f11 g' h' y y' hW hL hH hy h8 h9 h10 h11 hG hH' hY'
  have hmid := mid_next c V f15 v1_0.toNat hF t htn
  refine BIBase.Entails.trans (Q := Pre2 c V f15 v1_0.toNat x1 rwb g' h' y' (Mid c V f15 v1_0.toNat t)) ?_ ?_
  · unfold Pre2 Mid Landed St
    rw [← hslot, ← slot8, ← slot9, ← slot10, ← slot11]
    iintro ⟨H8, H9, H10, H11, H14, H12, H13, H7, H15, H1, HO, Hs, %u, %hu, HN⟩
    iframe
    iexists u
    isplitr
    · ipureintro; exact hu
    isplitr [HN]
    swap; · iexact HN
    isplitl [H8]
    · iexists f8; isplitr; · ipureintro; exact h8
      iexact H8
    isplitl [H9]
    · iexists f9; isplitr; · ipureintro; exact h9
      iexact H9
    isplitl [H10]
    · iexists f10; isplitr; · ipureintro; exact h10
      iexact H10
    isplitl [H11]
    · iexists f11; isplitr; · ipureintro; exact h11
      iexact H11
    iexact Hs
  unfold Inv
  iintro ⟨H15, H1, H14, H12, H13, H7, HO, HM⟩
  iexists g'
  iexists h'
  iexists y'
  isplitr
  · ipureintro; exact hyn
  ihave HM := hmid $$ HM
  iframe

set_option maxHeartbeats 4000000 in
theorem trip (hF : Fin1 of f15 v1_0.toNat) (hY : YStep c V f15 v1_0.toNat x1 rwb YI) (hw2 : k0_chk2 v1_0) (t : Fin (k0_t2_loop v1_0).trips) (a : BitVec 32) :
    Inv c V f15 v1_0.toNat x1 rwb YI t.val a ⊢ WP c none (k0_t2_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8 v1_0 hw2 t a) (Inv c V f15 v1_0.toNat x1 rwb YI (t.val + 1)) := by
  have hn := hF.len
  have htn : t.val < v1_0.toNat := by have h1 := t.isLt; have h2 := t2_trips v1_0 hn; omega
  have ht74 : t.val < 74 := by omega
  have hit := hF.tab.item t.val htn
  refine trip_compute ?_
  refine BIBase.Entails.trans (Q := iprop(∃ g : Bf F A12 c, ∃ h : Bf F A13 c, ∃ y : Bf F A7 c, ⌜YI t.val y⌝ ∗ Pre2 c V f15 v1_0.toNat x1 rwb g h y (Slots c V f15 v1_0.toNat t.val))) ?_ ?_
  · exact BIBase.Entails.refl
  refine ex_elim fun g => ex_elim fun h => ex_elim fun y => pure_sep fun hy => ?_
  show _ ⊢ WP c none _ (Post2 c (Inv c V f15 v1_0.toNat x1 rwb YI (t.val + 1)))
  rw [k0_part2_eq_skeleton]
  unfold k0_part2_skel
  dsimp only
  refine tld c none f15 0 t.val ?_ (by omega) fun v113 hE => ?_
  · show ![0, (Scf.iv 0#32 1#32 t.val).toNat] = _
    rw [t2_iv _ ht74]; rfl
  refine tld c none f15 1 t.val ?_ (by omega) fun v115 hW => ?_
  · show ![1, (Scf.iv 0#32 1#32 t.val).toNat] = _
    rw [t2_iv _ ht74]; rfl
  refine assume_step c none (chk4_of v115 (by rw [hW]; exact hit.2.2.2.2.1) (by rw [hW]; exact hit.2.2.2.1)) ?_
  refine tld c none f15 2 t.val ?_ (by omega) fun v117 hL => ?_
  · show ![2, (Scf.iv 0#32 1#32 t.val).toNat] = _
    rw [t2_iv _ ht74]; rfl
  refine tld c none f15 3 t.val ?_ (by omega) fun v119 hH => ?_
  · show ![3, (Scf.iv 0#32 1#32 t.val).toNat] = _
    rw [t2_iv _ ht74]; rfl
  refine tld c none f15 4 t.val ?_ (by omega) fun v121 hJ => ?_
  · show ![4, (Scf.iv 0#32 1#32 t.val).toNat] = _
    rw [t2_iv _ ht74]; rfl
  refine assume_step c none (chk9_of v121) ?_
  refine tld c none f15 4 (t.val - 1) ?_ (by omega) fun v128 hJ' => ?_
  · show ![4, (Scalar.maxsi (Scalar.subi (Scf.iv 0#32 1#32 t.val) 1#32) 0#32).toNat] = _
    rw [prev_nat _ ht74]; rfl
  have hE60 : v113.toNat < 60 := by rw [hE]; exact hit.1
  refine assume_step c none (chk5_of v1_0 t v113 v121 v128 hE60) ?_
  have hslot : slotOf v121 = it f15 4 t.val % 2 := by rw [slotOf_nat, hJ]
  have hs2 : it f15 4 t.val % 2 < 2 := Nat.mod_lt _ (by decide)
  have hc2 := cond2_iff c f15 v1_0 t v121 v128 ht74 hJ hJ'
  have hos : (1 - it f15 4 t.val % 2) < 2 := by omega
  have oslot : (Scalar.subi 1#32 (Scalar.andi v121 1#32)).toNat = 1 - it f15 4 t.val % 2 := by rw [other_lt, hslot]
  have hu1 : (Scalar.addi (Scf.iv 0#32 1#32 t.val) 1#32).toNat = t.val + 1 := by
    rw [addi_nat (by rw [t2_iv _ ht74]; show _ + 1 < _; omega), t2_iv _ ht74]; rfl
  have htail := fun hw4 hw9 => trip_tail c V f15 v1_0 x1 rwb YI hF hY t.val htn v115 v117 v119 v121 hw4 hw9 hW hL hH hJ g h y hy
  unfold Slots
  rw [if_pos htn]
  refine dite_step c none (fun hc => ?_) (fun hc => ?_)
  · have hf := hc2.mp hc
    rw [if_pos hf]
    refine BIBase.Entails.trans (Q := iprop((Flying c V (it f15 4 t.val % 2) (it f15 0 t.val) ∗ ∃ O, owes (c : Thread nD τ) 0 O)
      ∗ (pt A15 c f15 ∗ pt A1 c x1 ∗ pt A14 c rwb ∗ pt A12 c g ∗ pt A13 c h ∗ pt A7 c y ∗ Idle c (1 - it f15 4 t.val % 2)))) ?_ ?_
    · iintro ⟨H15, H1, H14, H12, H13, H7, HO, HF, HI⟩
      iframe
    refine waits4 c V none (it f15 4 t.val % 2) (it f15 0 t.val) ?_ ?_ ?_ ?_ ?_
    · exact cell_eq _ _ 0 hs2 (by rw [← hslot]; rfl)
    · exact cell_eq _ _ 1 hs2 (by rw [← hslot]; rfl)
    · exact cell_eq _ _ 2 hs2 (by rw [← hslot]; rfl)
    · exact cell_eq _ _ 3 hs2 (by rw [← hslot]; rfl)
    refine BIBase.Entails.trans (Q := iprop(pt A15 c f15 ∗ (pt A1 c x1 ∗ pt A14 c rwb ∗ pt A12 c g ∗ pt A13 c h ∗ pt A7 c y ∗ (∃ O, owes (c : Thread nD τ) 0 O)
      ∗ Landed c V (it f15 4 t.val % 2) (it f15 0 t.val) ∗ Hbm c V ∗ Idle c (1 - it f15 4 t.val % 2)))) ?_ ?_
    · iintro ⟨⟨HL, HH, HO⟩, H15, H1, H14, H12, H13, H7, HI⟩
      iframe
    refine search_step c f15 hF v1_0 hw2 t v113 v115 _ v121 v128 _ htn _ hu1 fun r hr => ?_
    obtain ⟨hS, hne⟩ := hr
    have hr74 : r.toNat ≤ 74 := by have := hS.2.1; omega
    refine assume_step c none (chk7_of v1_0 t v121 v128 r (by omega)) ?_
    have hc3 := cond3_iff c f15 v1_0 t v121 v128 r ht74 hJ hJ' hn hr74
    refine dite_step c none (fun hc => ?_) (fun hc => ?_)
    · obtain ⟨hf, hrn⟩ := hc3.mp hc
      refine tld c none f15 0 r.toNat rfl (by omega) fun v2510 hE' => ?_
      have hE60' : v2510.toNat < 60 := by rw [hE']; exact (hF.tab.item r.toNat hrn).1
      refine assume_step c none (chk8_of v1_0 t v121 v128 r v2510 hE60') ?_
      refine BIBase.Entails.trans (Q := iprop((Idle c (1 - it f15 4 t.val % 2) ∗ Hbm c V)
        ∗ (pt A15 c f15 ∗ pt A1 c x1 ∗ pt A14 c rwb ∗ pt A12 c g ∗ pt A13 c h ∗ pt A7 c y ∗ (∃ O, owes (c : Thread nD τ) 0 O)
          ∗ Landed c V (it f15 4 t.val % 2) (it f15 0 t.val)))) ?_ ?_
      · iintro ⟨H15, H1, H14, H12, H13, H7, HO, HL, HH, HI⟩
        iframe
      refine starts4 c V none (1 - it f15 4 t.val % 2) (it f15 0 r.toNat) ?_ ?_ ?_ ?_ ?_ ?_ ?_ ?_ ?_ ?_ ?_ ?_ ?_
      · exact cell_eq _ _ 0 hos (by rw [← oslot]; rfl)
      · exact cell_eq _ _ 1 hos (by rw [← oslot]; rfl)
      · exact cell_eq _ _ 2 hos (by rw [← oslot]; rfl)
      · exact cell_eq _ _ 3 hos (by rw [← oslot]; rfl)
      · rw [← hE']; rfl
      · rw [← hE']; rfl
      · rw [← hE']; rfl
      · rw [← hE']; rfl
      · rw [← oslot]; rfl
      · rw [← oslot]; rfl
      · rw [← oslot]; rfl
      · rw [← oslot]; rfl
      refine BIBase.Entails.trans ?_ (htail _ _)
      unfold Pre2 Mid Next
      iintro ⟨HF, H15, H1, H14, H12, H13, H7, HO, HL⟩
      iframe
      iexists r.toNat
      isplitr
      · ipureintro; exact ⟨hS, hne⟩
      rw [if_pos hrn]
      iframe
    · have hrn : ¬ r.toNat < v1_0.toNat := fun h => hc (hc3.mpr ⟨hf, h⟩)
      refine BIBase.Entails.trans ?_ (htail _ _)
      unfold Pre2 Mid Next
      iintro ⟨H15, H1, H14, H12, H13, H7, HO, HL, HH, HI⟩
      iframe
      iexists r.toNat
      isplitr
      · ipureintro; exact ⟨hS, hne⟩
      rw [if_neg hrn]
      iframe
  · have hf : ¬ First c f15 t.val := fun h => hc (hc2.mpr h)
    rw [if_neg hf]
    refine search_step c f15 hF v1_0 hw2 t v113 v115 _ v121 v128 _ htn _ hu1 fun r hr => ?_
    obtain ⟨hS, hne⟩ := hr
    have hr74 : r.toNat ≤ 74 := by have := hS.2.1; omega
    refine assume_step c none (chk7_of v1_0 t v121 v128 r (by omega)) ?_
    have hc3 := cond3_iff c f15 v1_0 t v121 v128 r ht74 hJ hJ' hn hr74
    refine dite_step c none (fun hc => absurd (hc3.mp hc).1 hf) (fun hc => ?_)
    exact htail _ _

end Step

end Cert.KernelIdeal.Hand

end
-- ==== Proof.KernelIdeal.Body.lean ====
/-
  The whole kernel body: the list is built and its end marked, the first expert's operands are started, the
  result is cleared and the row weights are spread over lanes, and then every item is run.
-/
module

public import proofs.«01_k».proof.Proof.KernelIdeal.Step

@[expose] public section

noncomputable section

namespace Cert.KernelIdeal.Hand

open Cert.KernelIdeal Cert.KernelIdeal.Gen Cert.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Fill

variable (c : Dev nD)

theorem inbR2 {k : ℕ} (hk : k < 12) : ∀ a, (![k, 0] : Fin 2 → ℕ) a + S1x128.size a ≤ S12x128.size a := by
  intro a; fin_cases a <;> simp [Shape.size] <;> omega

/-- Row `k` of the row weights. -/
def rd2 (f : Bf F A2 c) (k : Fin 12) : Vec F S1x128 .f32 :=
  A2.view.readAt (Elt F) (Rect.unit (s := S12x128) ![k.val, 0] S1x128.size (inbR2 k.2)).toLoadRect f

/-- The first `128 * n` rows of the spread row weights are there. -/
def RWOK (f2 : Bf F A2 c) (n : ℕ) (f : Bf F A14 c) : Prop :=
  ∀ i : S1536x128.Idx, (i 0).val < 128 * n →
    f i = k0_pay575 (F := F) (rd2 c f2 ⟨(i 0).val / 128, by have := (i 0).isLt; simp [Shape.size] at this; omega⟩)
      (ix2 ⟨(i 0).val % 128, Nat.mod_lt _ (by decide)⟩ (i 1))

/-- The result is cleared. -/
def Y0 (y : Bf F A7 c) : Prop := ∀ i : S1536x2048.Idx, y i = k0_pay574 (F := F) i

/-- The buffers that are filled. -/
abbrev FS (f2 : Bf F A2 c) (y : Bf F A7 c) (f14 : Bf F A14 c) (X : sProp 𝕄) : sProp 𝕄 := iprop(pt A2 c f2 ∗ pt A7 c y ∗ pt A14 c f14 ∗ X)

variable {c}
variable {α : Type} {f2 : Bf F A2 c} {y : Bf F A7 c} {f14 : Bf F A14 c} {X : sProp (MT nD τ sig Unit (Elt F) ℕ (Pipeline.UD sig nD τ) ℕ)} {Q : α → sProp (MT nD τ sig Unit (Elt F) ℕ (Pipeline.UD sig nD τ) ℕ)}

theorem fl2 {r : Rect S12x128} {hl : A2.view.LoadsAt r.toLoadRect} {k : (r.shape.Idx → Elt F _) → Pg F α}
    (hk : FS c f2 y f14 X ⊢ WP c none (k (A2.view.readAt (Elt F) r.toLoadRect f2)) Q) :
    FS c f2 y f14 X ⊢ WP c none (Prog.lift (.load A2 r.toLoadRect hl) >>= k) Q := by
  refine load_step c none (Sd := Finset.univ) (q := fullShare) f2 ?_ (Finset.subset_univ _) hk
  iintro ⟨H2, H7, H14, HX⟩
  isplitl [H2]
  · iexact H2
  iintro H2
  unfold FS
  iframe

theorem fl14 {r : Rect S1536x128} {hl : A14.view.LoadsAt r.toLoadRect} {k : (r.shape.Idx → Elt F _) → Pg F α}
    (hk : FS c f2 y f14 X ⊢ WP c none (k (A14.view.readAt (Elt F) r.toLoadRect f14)) Q) :
    FS c f2 y f14 X ⊢ WP c none (Prog.lift (.load A14 r.toLoadRect hl) >>= k) Q := by
  refine load_step c none (Sd := Finset.univ) (q := fullShare) f14 ?_ (Finset.subset_univ _) hk
  iintro ⟨H2, H7, H14, HX⟩
  isplitl [H14]
  · iexact H14
  iintro H14
  unfold FS
  iframe

theorem fl7 {r : Rect S1536x2048} {hl : A7.view.LoadsAt r.toLoadRect} {k : (r.shape.Idx → Elt F _) → Pg F α}
    (hk : FS c f2 y f14 X ⊢ WP c none (k (A7.view.readAt (Elt F) r.toLoadRect y)) Q) :
    FS c f2 y f14 X ⊢ WP c none (Prog.lift (.load A7 r.toLoadRect hl) >>= k) Q := by
  refine load_step c none (Sd := Finset.univ) (q := fullShare) y ?_ (Finset.subset_univ _) hk
  iintro ⟨H2, H7, H14, HX⟩
  isplitl [H7]
  · iexact H7
  iintro H7
  unfold FS
  iframe

theorem fs7 {inb : ∀ a, (![0, 0] : Fin 2 → ℕ) a + S1536x2048.size a ≤ S1536x2048.size a} {hx hm} {k : PUnit → Pg F α}
    (hk : ∀ y', Y0 c y' → FS c f2 y' f14 X ⊢ WP c none (k ⟨⟩) Q) :
    FS c f2 y f14 X ⊢ WP c none (Prog.lift (.store A7 (Rect.unit (s := S1536x2048) ![0, 0] S1536x2048.size inb) (k0_pay574 (F := F)) Finset.univ hx hm) >>= k) Q := by
  refine store_step c none (P' := FS c f2 ((A7.access (Rect.unit (s := S1536x2048) ![0, 0] S1536x2048.size inb)).write (Elt F) y (k0_pay574 (F := F)) Finset.univ) f14 X)
    y ?_ (hk _ ?_)
  · iintro ⟨H2, H7, H14, HX⟩
    isplitl [H7]
    · iexact H7
    iintro H7
    unfold FS
    iframe
  · intro i
    have e : (Rect.unit (s := S1536x2048) ![0, 0] S1536x2048.size inb).emb i = i := by
      funext a; apply Fin.ext; rw [emb_unit_val]
      fin_cases a <;> simp
    have := write_whole_in cc0_stg3_0 (Rect.unit (s := S1536x2048) ![0, 0] S1536x2048.size inb) y (k0_pay574 (F := F)) i
    rw [e] at this
    exact this

theorem fs14 {n : ℕ} (hG : RWOK c f2 n f14) (hn : n < 12)
    {off : Fin 2 → ℕ} {inb : ∀ a, off a + S128x128.size a ≤ S1536x128.size a} {w : FVec F S128x128 .f32} {hx hm} {k : PUnit → Pg F α}
    (ho : off = ![128 * n, 0]) (hw : w = k0_pay575 (F := F) (rd2 c f2 ⟨n, hn⟩))
    (hk : ∀ f', RWOK c f2 (n + 1) f' → FS c f2 y f' X ⊢ WP c none (k ⟨⟩) Q) :
    FS c f2 y f14 X ⊢ WP c none (Prog.lift (.store A14 (Rect.unit (s := S1536x128) off S128x128.size inb) w Finset.univ hx hm) >>= k) Q := by
  subst ho; subst hw
  refine store_step c none (P' := FS c f2 y
    ((A14.access (Rect.unit (s := S1536x128) ![128 * n, 0] S128x128.size inb)).write (Elt F) f14 (k0_pay575 (F := F) (rd2 c f2 ⟨n, hn⟩)) Finset.univ) X) f14 ?_ (hk _ ?_)
  · iintro ⟨H2, H7, H14, HX⟩
    isplitl [H14]
    · iexact H14
    iintro H14
    unfold FS
    iframe
  · intro i hi
    have hi1 : (i 1).val < 128 := (i 1).isLt
    have hi0 : (i 0).val < 1536 := (i 0).isLt
    by_cases hin : 128 * n ≤ (i 0).val
    · have hd : (i 0).val / 128 = n := by omega
      have e : (Rect.unit (s := S1536x128) ![128 * n, 0] S128x128.size inb).emb (ix2 ⟨(i 0).val % 128, Nat.mod_lt _ (by decide)⟩ (i 1)) = i := by
        funext a; apply Fin.ext; rw [emb_unit_val]
        fin_cases a <;> simp [ix2] <;> omega
      have := write_whole_in cc0_scratch6 (Rect.unit (s := S1536x128) ![128 * n, 0] S128x128.size inb) f14 (k0_pay575 (F := F) (rd2 c f2 ⟨n, hn⟩))
        (ix2 ⟨(i 0).val % 128, Nat.mod_lt _ (by decide)⟩ (i 1))
      rw [e] at this
      refine this.trans ?_
      subst hd; rfl
    · refine (write_whole_out cc0_scratch6 _ f14 _ ?_).trans (hG i (by omega))
      intro hm
      have := (Rect.mem_set_unit.mp hm) 0
      simp at this; omega

theorem rwok0 : RWOK c f2 0 f14 := fun i hi => by omega

/-- Clearing the result and the first two rows of row weights. -/
theorem fill112 (v1_0 : BitVec 32) (hw2 : k0_chk2 v1_0) {Q : (Σ' (v1_0 : BitVec 32) (k0_hw2 : k0_chk2 v1_0), FVec F S128x128 .f32) → sProp (MT nD τ sig Unit (Elt F) ℕ (Pipeline.UD sig nD τ) ℕ)} {hl8 hx8 hm8 hl9 hl14 hx14 hm14 hl17 hl22 hx22 hm22 hl25}
    (hk : ∀ y' f', Y0 c y' → RWOK c f2 2 f' → FS c f2 y' f' X ⊢ Q ⟨v1_0, hw2, k0_pay577 (rd2 c f2 ⟨2, by decide⟩)⟩) :
    FS c f2 y f14 X ⊢ WP c none (do
      let v8 : Vec F S1536x2048 .bf16 ← Prog.lift (.load A7 (Rect.unit (s := S1536x2048) ![0, 0] S1536x2048.size inb_S1536x2048_S1536x2048_0_0).toLoadRect hl8)
      Prog.lift (.store A7 (Rect.unit (s := S1536x2048) ![0, 0] S1536x2048.size inb_S1536x2048_S1536x2048_0_0) (k0_pay574 (F := F)) Finset.univ hx8 hm8)
      let v9 : Vec F S1x128 .f32 ← Prog.lift (.load A2 (Rect.unit (s := S12x128) ![0, 0] S1x128.size inb_S12x128_S1x128_0_0).toLoadRect hl9)
      let v14 : Vec F S128x128 .f32 ← Prog.lift (.load A14 (Rect.unit (s := S1536x128) ![0, 0] S128x128.size inb_S1536x128_S128x128_0_0).toLoadRect hl14)
      Prog.lift (.store A14 (Rect.unit (s := S1536x128) ![0, 0] S128x128.size inb_S1536x128_S128x128_0_0) (k0_pay575 v9) Finset.univ hx14 hm14)
      let v17 : Vec F S1x128 .f32 ← Prog.lift (.load A2 (Rect.unit (s := S12x128) ![1, 0] S1x128.size inb_S12x128_S1x128_1_0).toLoadRect hl17)
      let v22 : Vec F S128x128 .f32 ← Prog.lift (.load A14 (Rect.unit (s := S1536x128) ![128, 0] S128x128.size inb_S1536x128_S128x128_128_0).toLoadRect hl22)
      Prog.lift (.store A14 (Rect.unit (s := S1536x128) ![128, 0] S128x128.size inb_S1536x128_S128x128_128_0) (k0_pay576 v17) Finset.univ hx22 hm22)
      let v25 : Vec F S1x128 .f32 ← Prog.lift (.load A2 (Rect.unit (s := S12x128) ![2, 0] S1x128.size inb_S12x128_S1x128_2_0).toLoadRect hl25)
      pure ⟨v1_0, hw2, k0_pay577 v25⟩) Q := by
  refine fl7 ?_
  refine fs7 fun y' hy => ?_
  refine fl2 ?_
  refine fl14 ?_
  refine fs14 (n := 0) rwok0 (by decide) rfl rfl fun f' hf => ?_
  refine fl2 ?_
  refine fl14 ?_
  refine fs14 (n := 1) hf (by decide) rfl rfl fun f'' hf' => ?_
  refine fl2 ?_
  exact pure_step c none (hk _ _ hy hf')

theorem part113 (hG : RWOK c f2 2 f14) (v29 : FVec F S128x128 .f32) (hv : v29 = k0_pay577 (rd2 c f2 ⟨2, by decide⟩)) {Q : PUnit → sProp (MT nD τ sig Unit (Elt F) ℕ (Pipeline.UD sig nD τ) ℕ)}
    (hk : ∀ f', RWOK c f2 7 f' → FS c f2 y f' X ⊢ Q ⟨⟩) :
    FS c f2 y f14 X ⊢ WP c none (k0_part113 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8 v29) Q := by
  subst hv
  rw [k0_part113_eq_skeleton]
  unfold k0_part113_skel
  dsimp only
  refine fl14 ?_
  refine fs14 (n := 2) hG (by decide) rfl rfl fun f3 h3 => ?_
  refine fl2 ?_
  refine fl14 ?_
  refine fs14 (n := 3) h3 (by decide) rfl rfl fun f4 h4 => ?_
  refine fl2 ?_
  refine fl14 ?_
  refine fs14 (n := 4) h4 (by decide) rfl rfl fun f5 h5 => ?_
  refine fl2 ?_
  refine fl14 ?_
  refine fs14 (n := 5) h5 (by decide) rfl rfl fun f6 h6 => ?_
  refine fl2 ?_
  refine fl14 ?_
  refine fs14 (n := 6) h6 (by decide) rfl rfl fun f7 h7 => ?_
  exact pure_step c none (hk _ h7)

theorem part114 (hG : RWOK c f2 7 f14) {Q : (Σ' (v101 : FVec F S128x128 .f32), Vec F S128x128 .f32) → sProp (MT nD τ sig Unit (Elt F) ℕ (Pipeline.UD sig nD τ) ℕ)}
    (hk : ∀ f' v, RWOK c f2 11 f' → FS c f2 y f' X ⊢ Q ⟨k0_pay587 (rd2 c f2 ⟨11, by decide⟩), v⟩) :
    FS c f2 y f14 X ⊢ WP c none (k0_part114 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8) Q := by
  rw [k0_part114_eq_skeleton]
  unfold k0_part114_skel
  dsimp only
  refine fl2 ?_
  refine fl14 ?_
  refine fs14 (n := 7) hG (by decide) rfl rfl fun f3 h3 => ?_
  refine fl2 ?_
  refine fl14 ?_
  refine fs14 (n := 8) h3 (by decide) rfl rfl fun f4 h4 => ?_
  refine fl2 ?_
  refine fl14 ?_
  refine fs14 (n := 9) h4 (by decide) rfl rfl fun f5 h5 => ?_
  refine fl2 ?_
  refine fl14 ?_
  refine fs14 (n := 10) h5 (by decide) rfl rfl fun f6 h6 => ?_
  refine fl2 ?_
  refine fl14 ?_
  exact pure_step c none (hk _ _ h6)

end Fill

section Body

variable (c : Dev nD) (V : Hb F c)

/-- A loop at the head of a program, by an invariant, with a resource the loop does not touch. -/
theorem for_step {σ β : Type} {lb ub st : BitVec 32} {hok : Scf.OK lb ub st} {init : σ} {bd : Fin (Scf.trips lb ub st) → σ → Pg F σ} (I : ℕ → σ → sProp 𝕄)
    (hbody : ∀ t a, I t.val a ⊢ WP c none (bd t a) (I (t.val + 1))) {X : sProp 𝕄} {kk : σ → Pg F β} {Q : β → sProp 𝕄}
    (hk : ∀ acc, iprop(I (Scf.trips lb ub st) acc ∗ X) ⊢ WP c none (kk acc) Q) :
    iprop(I 0 init ∗ X) ⊢ WP c none (Scf.for lb ub st hok init bd >>= kk) Q := by
  have hloop : I 0 init ⊢ iprop((∀ acc, I (Scf.trips lb ub st) acc -∗ WP c none (kk acc) Q) -∗ WP c none (Scf.for lb ub st hok init bd >>= kk) Q) :=
    Scf.wp_for_bind frame (wpE (defs₀ (F := F)) Variants.nat (c : Thread nD τ) none) Set.univ lb ub st hok init bd I hbody
  iintro ⟨HI, HX⟩
  iapply hloop $$ HI
  iintro %acc HI
  iapply (hk acc)
  isplitl [HI]; · iexact HI
  iexact HX

/-- The first expert's operands are started. -/
theorem part1 (f15 : Bf F A15 c) {of : ℕ → ℕ} (v1_0 : BitVec 32) (h1 : k0_cond1 v1_0 = 1#1) (hF : Fin1 of f15 v1_0.toNat) (hn : 0 < v1_0.toNat) {X : sProp 𝕄} {Q : PUnit → sProp 𝕄}
    (hk : iprop(Flying c V 0 (it f15 0 0) ∗ (pt A15 c f15 ∗ X)) ⊢ Q ⟨⟩) :
    iprop(pt A15 c f15 ∗ ((Idle c 0 ∗ Hbm c V) ∗ X)) ⊢ WP c none (k0_part1 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8 v1_0 h1) Q := by
  rw [k0_part1_eq_skeleton]
  unfold k0_part1_skel
  dsimp only
  refine tld c none f15 0 0 rfl (by decide) fun v112 hE => ?_
  refine assume_step c none (chk3_of v1_0 v112 (by rw [hE]; exact (hF.tab.item 0 hn).1)) ?_
  refine BIBase.Entails.trans (Q := iprop((Idle c 0 ∗ Hbm c V) ∗ (pt A15 c f15 ∗ X))) ?_ ?_
  · iintro ⟨H15, HI, HX⟩
    iframe
  refine starts4 c V none 0 (it f15 0 0) ?_ ?_ ?_ ?_ ?_ ?_ ?_ ?_ ?_ ?_ ?_ ?_ ?_
  · exact cell_eq _ 0 0 (by decide) rfl
  · exact cell_eq _ 0 1 (by decide) rfl
  · exact cell_eq _ 0 2 (by decide) rfl
  · exact cell_eq _ 0 3 (by decide) rfl
  · rw [← hE]; rfl
  · rw [← hE]; rfl
  · rw [← hE]; rfl
  · rw [← hE]; rfl
  · rfl
  · rfl
  · rfl
  · rfl
  exact pure_step c none hk

theorem cond1_iff (n : BitVec 32) (h : n.toNat ≤ 74) : k0_cond1 n = 1#1 ↔ 0 < n.toNat := by
  have e : k0_cond1 n = Scalar.cmpi .ne (Scalar.extui (Scalar.cmpi .sgt n 0#32) : BitVec 32) 0#32 := rfl
  rw [e, ne0_bit]
  exact (cmpi_slt_iff (x := 0#32) (y := n) (by decide) (by omega))

theorem offs_zero (f0 : Bf F A0 c) : offs c f0 0 = 0 := rfl

theorem offs_61 (f0 : Bf F A0 c) : offs c f0 61 = offs c f0 60 := by
  unfold offs
  rw [Finset.sum_range_succ]
  simp

/-- What is held before the items run. -/
def Ready (f0 : Bf F A0 c) (x1 : Bf F A1 c) (f2 : Bf F A2 c) (o : Σ' (v1_0 : BitVec 32) (k0_hw2 : k0_chk2 v1_0), FVec F S128x128 .f32) : sProp 𝕄 :=
  iprop(∃ (f15 : Bf F A15 c) (y : Bf F A7 c) (f14 : Bf F A14 c), ⌜Fin1 (offs c f0) f15 o.1.toNat ∧ Y0 c y ∧ RWOK c f2 2 f14 ∧ o.2.2 = k0_pay577 (rd2 c f2 ⟨2, by decide⟩)⌝
    ∗ FS c f2 y f14 iprop(pt A0 c f0 ∗ pt A1 c x1 ∗ pt A15 c f15 ∗ (∃ g, pt A12 c g) ∗ (∃ h, pt A13 c h) ∗ (∃ O, owes (c : Thread nD τ) 0 O) ∗ Slots c V f15 o.1.toNat 0))

/-- What the body starts from. -/
def Start (f0 : Bf F A0 c) (x1 : Bf F A1 c) (f2 : Bf F A2 c) : sProp 𝕄 :=
  iprop(pt A0 c f0 ∗ pt A1 c x1 ∗ pt A2 c f2 ∗ (∃ y, pt A7 c y) ∗ Idle c 0 ∗ Idle c 1 ∗ (∃ g, pt A12 c g) ∗ (∃ h, pt A13 c h) ∗ (∃ f14, pt A14 c f14)
    ∗ (∃ f15, pt A15 c f15) ∗ Hbm c V ∗ ∃ O, owes (c : Thread nD τ) 0 O)

set_option maxHeartbeats 4000000 in
theorem part112 (f0 : Bf F A0 c) (x1 : Bf F A1 c) (f2 : Bf F A2 c) (ho : offs c f0 60 ≤ 1536) :
    Start c V f0 x1 f2 ⊢ WP c none (k0_part112 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8) (Ready c V f0 x1 f2) := by
  rw [k0_part112_eq_skeleton]
  unfold k0_part112_skel
  dsimp only
  refine BIBase.Entails.trans (Q := iprop(inv1 c f0 0 (0#32, 0#32, 0#32) ∗ (pt A1 c x1 ∗ pt A2 c f2 ∗ (∃ y, pt A7 c y) ∗ Idle c 0 ∗ Idle c 1 ∗ (∃ g, pt A12 c g) ∗ (∃ h, pt A13 c h)
    ∗ (∃ f14, pt A14 c f14) ∗ Hbm c V ∗ ∃ O, owes (c : Thread nD τ) 0 O))) ?_ ?_
  · unfold Start inv1
    iintro ⟨H0, H1, H2, H7, HI0, HI1, H12, H13, H14, ⟨%f15, H15⟩, HH, HO⟩
    isplitl [H0 H15]
    · iexists f15
      isplitr
      · ipureintro
        exact ⟨Cur.start f15 (offs_zero c f0), rfl⟩
      isplitl [H15]; · iexact H15
      iexact H0
    iframe
  refine for_step c (fun t a => inv1 c f0 t a) (fun t a => t1_trip c f0 ho t a) (fun acc => ?_)
  obtain ⟨n, na, lo⟩ := acc
  dsimp only
  rw [show Scf.trips (0#32) (Scalar.addi 0#32 60#32) 1#32 = 60 from t1_trips]
  unfold inv1
  dsimp only
  refine BIBase.Entails.trans (Q := iprop(∃ f15 : Bf F A15 c, (⌜Cur (offs c f0) f15 60 n.toNat (offs c f0 60) na.toNat ∧ lo.toNat = offs c f0 60⌝
    ∗ pt A15 c f15 ∗ (pt A0 c f0 ∗ pt A1 c x1 ∗ pt A2 c f2 ∗ (∃ y, pt A7 c y) ∗ Idle c 0 ∗ Idle c 1 ∗ (∃ g, pt A12 c g) ∗ (∃ h, pt A13 c h)
    ∗ (∃ f14, pt A14 c f14) ∗ Hbm c V ∗ ∃ O, owes (c : Thread nD τ) 0 O)))) ?_ ?_
  · iintro ⟨⟨%f15, HP, H15, H0⟩, HX⟩
    iexists f15
    isplitl [HP]; · iexact HP
    isplitl [H15]; · iexact H15
    isplitl [H0]; · iexact H0
    iexact HX
  refine ex_elim fun f15 => pure_sep fun ⟨hC, _⟩ => ?_
  have hlen : n.toNat ≤ 74 := by
    have h61 := offs_61 c f0
    rcases hC.cnt with h1 | h1 <;> omega
  refine assume_step c none (chk2_of n hlen) ?_
  refine tld c none f15 4 n.toNat rfl (by omega) fun w hw => ?_
  refine tst c none f15 ?_
  have hwr : ∀ k' u', it (wrT c f15 (k0_off7_inb n (chk2_of n hlen)) 4294967295#32) k' u' = if k' = 4 ∧ u' = n.toNat then (4294967295#32 : BitVec 32).toNat else it f15 k' u' :=
    fun k' u' => it_wr c f15 _ _ 4 n.toNat rfl (by omega) k' u'
  have hF : Fin1 (offs c f0) (wrT c f15 (k0_off7_inb n (chk2_of n hlen)) 4294967295#32) n.toNat :=
    hC.fin (offs_61 c f0) ho (by rw [hwr, if_pos ⟨rfl, rfl⟩]; rfl) (fun k u hu => by rw [hwr, if_neg (fun h => hu h.2)])
  generalize wrT c f15 (k0_off7_inb n (chk2_of n hlen)) 4294967295#32 = f at hF ⊢
  have fin : ∀ (y : Bf F A7 c) (f14 : Bf F A14 c), Y0 c y → RWOK c f2 2 f14 →
      FS c f2 y f14 iprop(pt A0 c f0 ∗ pt A1 c x1 ∗ pt A15 c f ∗ (∃ g, pt A12 c g) ∗ (∃ h, pt A13 c h) ∗ (∃ O, owes (c : Thread nD τ) 0 O) ∗ Slots c V f n.toNat 0)
      ⊢ Ready c V f0 x1 f2 ⟨n, chk2_of n hlen, k0_pay577 (rd2 c f2 ⟨2, by decide⟩)⟩ := by
    intro y f14 hy hr
    unfold Ready
    iintro H
    iexists f, y, f14
    isplitr
    · ipureintro; exact ⟨hF, hy, hr, rfl⟩
    iexact H
  refine dite_step c none (fun hc => ?_) (fun hc => ?_)
  · have hn : 0 < n.toNat := (cond1_iff n hlen).1 hc
    refine bind_step c none ?_
    refine BIBase.Entails.trans (Q := iprop(pt A15 c f ∗ ((Idle c 0 ∗ Hbm c V) ∗ (pt A0 c f0 ∗ pt A1 c x1 ∗ pt A2 c f2 ∗ (∃ y, pt A7 c y) ∗ Idle c 1
      ∗ (∃ g, pt A12 c g) ∗ (∃ h, pt A13 c h) ∗ (∃ f14, pt A14 c f14) ∗ ∃ O, owes (c : Thread nD τ) 0 O)))) ?_ ?_
    · iintro ⟨H15, H0, H1, H2, H7, HI0, HI1, H12, H13, H14, HH, HO⟩
      iframe
    refine part1 c V f n hc hF hn ?_
    have hz := (hF.tab.zero hn).2
    have hsl : iprop(Flying c V 0 (it f 0 0) ∗ Idle c 1) ⊢ Slots c V f n.toNat 0 := by
      unfold Slots
      rw [if_pos hn, if_pos (show First c f 0 from Or.inl rfl), hz]
    refine BIBase.Entails.trans (Q := iprop(∃ y, ∃ f14, FS c f2 y f14
      iprop(pt A0 c f0 ∗ pt A1 c x1 ∗ pt A15 c f ∗ (∃ g, pt A12 c g) ∗ (∃ h, pt A13 c h) ∗ (∃ O, owes (c : Thread nD τ) 0 O) ∗ Slots c V f n.toNat 0))) ?_ ?_
    · iintro ⟨HF, H15, H0, H1, H2, ⟨%y, H7⟩, HI1, H12, H13, ⟨%f14, H14⟩, HO⟩
      iexists y, f14
      isplitl [H2]; · iexact H2
      isplitl [H7]; · iexact H7
      isplitl [H14]; · iexact H14
      isplitl [H0]; · iexact H0
      isplitl [H1]; · iexact H1
      isplitl [H15]; · iexact H15
      isplitl [H12]; · iexact H12
      isplitl [H13]; · iexact H13
      isplitl [HO]; · iexact HO
      iapply hsl
      isplitl [HF]; · iexact HF
      iexact HI1
    refine ex_elim fun y => ex_elim fun f14 => ?_
    exact fill112 n (chk2_of n hlen) fin
  · have hn : ¬ 0 < n.toNat := fun h => hc ((cond1_iff n hlen).2 h)
    have hsl : iprop(Idle c 0 ∗ Idle c 1 ∗ Hbm c V) ⊢ Slots c V f n.toNat 0 := by
      unfold Slots
      rw [if_neg hn]
    refine BIBase.Entails.trans (Q := iprop(∃ y, ∃ f14, FS c f2 y f14
      iprop(pt A0 c f0 ∗ pt A1 c x1 ∗ pt A15 c f ∗ (∃ g, pt A12 c g) ∗ (∃ h, pt A13 c h) ∗ (∃ O, owes (c : Thread nD τ) 0 O) ∗ Slots c V f n.toNat 0))) ?_ ?_
    · iintro ⟨H15, H0, H1, H2, ⟨%y, H7⟩, HI0, HI1, H12, H13, ⟨%f14, H14⟩, HH, HO⟩
      iexists y, f14
      isplitl [H2]; · iexact H2
      isplitl [H7]; · iexact H7
      isplitl [H14]; · iexact H14
      isplitl [H0]; · iexact H0
      isplitl [H1]; · iexact H1
      isplitl [H15]; · iexact H15
      isplitl [H12]; · iexact H12
      isplitl [H13]; · iexact H13
      isplitl [HO]; · iexact HO
      iapply hsl
      isplitl [HI0]; · iexact HI0
      isplitl [HI1]; · iexact HI1
      iexact HH
    refine ex_elim fun y => ex_elim fun f14 => ?_
    exact fill112 n (chk2_of n hlen) fin

/-- What the body ends with, `YF` of the result. -/
def Done (f0 : Bf F A0 c) (x1 : Bf F A1 c) (f2 : Bf F A2 c) (YF : Bf F A7 c → Prop) : sProp 𝕄 :=
  iprop(pt A0 c f0 ∗ pt A1 c x1 ∗ pt A2 c f2 ∗ (∃ y, ⌜YF y⌝ ∗ pt A7 c y) ∗ Idle c 0 ∗ Idle c 1 ∗ (∃ g, pt A12 c g) ∗ (∃ h, pt A13 c h) ∗ (∃ f14, pt A14 c f14)
    ∗ (∃ f15, pt A15 c f15) ∗ Hbm c V ∗ ∃ O, owes (c : Thread nD τ) 0 O)

set_option maxHeartbeats 4000000 in
/-- The body, given that the items carry `YI` from the cleared result to `YF`. -/
theorem body (f0 : Bf F A0 c) (x1 : Bf F A1 c) (f2 : Bf F A2 c) (ho : offs c f0 60 ≤ 1536)
    (YI : Bf F A15 c → ℕ → Bf F A14 c → ℕ → Bf F A7 c → Prop) (YF : Bf F A7 c → Prop)
    (h0 : ∀ f15 n rwb y, Fin1 (offs c f0) f15 n → RWOK c f2 12 rwb → Y0 c y → YI f15 n rwb 0 y)
    (hY : ∀ f15 n rwb, Fin1 (offs c f0) f15 n → RWOK c f2 12 rwb → YStep c V f15 n x1 rwb (YI f15 n rwb))
    (hN : ∀ f15 n rwb y, Fin1 (offs c f0) f15 n → RWOK c f2 12 rwb → YI f15 n rwb n y → YF y) :
    Start c V f0 x1 f2 ⊢ WP c none (cc0_moe_w4a16 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8) (fun _ => Done c V f0 x1 f2 YF) := by
  rw [cc0_moe_w4a16_eq_skeleton]
  unfold cc0_moe_w4a16_skel
  dsimp only
  refine bind_step c none ((part112 c V f0 x1 f2 ho).trans (wp_mono _ _ _ fun o => ?_))
  obtain ⟨n, hw2, v29⟩ := o
  unfold Ready
  dsimp only
  refine ex_elim fun f15 => ex_elim fun y => ex_elim fun f14 => pure_sep fun ⟨hF, hy, hr, hv⟩ => ?_
  refine bind_step c none (part113 hr v29 hv fun f14 hr => ?_)
  refine bind_step c none (part114 hr fun f14 v102 hr => ?_)
  dsimp only
  refine fs14 (n := 11) hr (by decide) rfl rfl fun rwb hr => ?_
  have hlen := hF.len
  refine BIBase.Entails.trans (Q := iprop(Inv c V f15 n.toNat x1 rwb (YI f15 n.toNat rwb) 0 0#32 ∗ (pt A0 c f0 ∗ pt A2 c f2))) ?_ ?_
  · unfold Inv
    iintro ⟨H2, H7, H14, H0, H1, H15, ⟨%g, H12⟩, ⟨%h, H13⟩, HO, HS⟩
    isplitr [H0 H2]
    · iexists g, h, y
      isplitr
      · ipureintro; exact h0 f15 n.toNat rwb y hF hr hy
      isplitl [H15]; · iexact H15
      isplitl [H1]; · iexact H1
      isplitl [H14]; · iexact H14
      isplitl [H12]; · iexact H12
      isplitl [H13]; · iexact H13
      isplitl [H7]; · iexact H7
      isplitl [HO]; · iexact HO
      iexact HS
    isplitl [H0]; · iexact H0
    iexact H2
  refine for_step c (fun t a => Inv c V f15 n.toNat x1 rwb (YI f15 n.toNat rwb) t a) (fun t a => trip c V f15 n x1 rwb (YI f15 n.toNat rwb) hF (hY f15 n.toNat rwb hF hr) hw2 t a) (fun acc => ?_)
  have e : Scf.trips (k0_t2_loop n).lb (k0_t2_loop n).ub (k0_t2_loop n).st = n.toNat := t2_trips n hlen
  refine BIBase.Entails.trans (Q := iprop(Inv c V f15 n.toNat x1 rwb (YI f15 n.toNat rwb) n.toNat acc ∗ (pt A0 c f0 ∗ pt A2 c f2))) (by rw [← e]) ?_
  refine bind_step c none (eq_step c none (Scf.for_eq_ret _ _ _ _ _ _ (t3_trips n)) (pure_step c none (pure_step c none ?_)))
  unfold Inv Done Slots
  rw [if_neg (lt_irrefl _)]
  iintro ⟨⟨%g, %h, %y', %hYI, H15, H1, H14, H12, H13, H7, HO, HI0, HI1, HH⟩, H0, H2⟩
  isplitl [H0]; · iexact H0
  isplitl [H1]; · iexact H1
  isplitl [H2]; · iexact H2
  isplitl [H7]
  · iexists y'
    isplitr
    · ipureintro; exact hN f15 n.toNat rwb y' hF hr hYI
    iexact H7
  isplitl [HI0]; · iexact HI0
  isplitl [HI1]; · iexact HI1
  isplitl [H12]
  · iexists g; iexact H12
  isplitl [H13]
  · iexists h; iexact H13
  isplitl [H14]
  · iexists rwb; iexact H14
  isplitl [H15]
  · iexists f15; iexact H15
  isplitl [HH]; · iexact HH
  iexact HO

end Body

end Cert.KernelIdeal.Hand

end
-- ==== Proof.KernelIdeal.Launch.lean ====
/-
  The launch: the kernel's body triple carried through the pipeline to a run of the whole program, at any
  predicate of the result the body is shown to reach.
-/
module

public import proofs.«01_k».proof.Proof.KernelIdeal.Body
public import Idealize.ShloMosaic.Lib.Pipeline.ArrRel
public import Idealize.ShloMosaic.Lib.StableHlo.RunRead

@[expose] public section

noncomputable section

namespace Cert.KernelIdeal.Hand

open Cert.KernelIdeal Cert.KernelIdeal.Gen Cert.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]

local notation "𝕄" => MT nD τ sig Unit (Elt F) ℕ (Pipeline.UD sig nD τ) ℕ

/-! ## A double buffer in its two slots -/

section Halves

variable (c : Dev nD)

theorem univ_sdiff_slot {a b : ℕ} : (Finset.univ \ slotSet 2 a b 0 : Finset (⟨3, ![2, a, b]⟩ : Shape).Idx) = slotSet 2 a b 1 := by
  ext i
  have h : (i 0).val < 2 := (i 0).isLt
  rw [Finset.mem_sdiff, mem_slotSet, mem_slotSet]
  simp only [Finset.mem_univ, true_and]
  omega

theorem split8 (f : Bf F A8 c) : (pt A8 c f : sProp 𝕄) ⊢ iprop(Slot c A8 0 f ∗ Slot c A8 1 f) := by
  rw [slot8, slot8]
  have h : (A8.view.loc (c : Thread nD τ) ↦[Finset.univ]{fullShare} f : sProp 𝕄)
      ⊢ iprop((A8.view.loc (c : Thread nD τ) ↦[slotSet 2 1024 2816 0]{fullShare} f) ∗ A8.view.loc (c : Thread nD τ) ↦[Finset.univ \ slotSet 2 1024 2816 0]{fullShare} f) :=
    (pointsTo_split_subset (Finset.subset_univ _)).1
  rw [univ_sdiff_slot] at h
  exact h

theorem join8 (f g : Bf F A8 c) : iprop(Slot c A8 0 f ∗ Slot c A8 1 g) ⊢ (iprop(∃ f, pt A8 c f) : sProp 𝕄) := by
  rw [slot8, slot8]
  have h : iprop((A8.view.loc (c : Thread nD τ) ↦[slotSet 2 1024 2816 0]{fullShare} f) ∗ A8.view.loc (c : Thread nD τ) ↦[Finset.univ \ slotSet 2 1024 2816 0]{fullShare} g)
      ⊢ (A8.view.loc (c : Thread nD τ) ↦[Finset.univ]{fullShare} (slotSet 2 1024 2816 0).piecewise f g : sProp 𝕄) :=
    pointsTo_join_subset (Finset.subset_univ _)
  rw [univ_sdiff_slot] at h
  refine h.trans ?_
  iintro H
  iexists _
  iexact H

theorem split9 (f : Bf F A9 c) : (pt A9 c f : sProp 𝕄) ⊢ iprop(Slot c A9 0 f ∗ Slot c A9 1 f) := by
  rw [slot9, slot9]
  have h : (A9.view.loc (c : Thread nD τ) ↦[Finset.univ]{fullShare} f : sProp 𝕄)
      ⊢ iprop((A9.view.loc (c : Thread nD τ) ↦[slotSet 2 16 2816 0]{fullShare} f) ∗ A9.view.loc (c : Thread nD τ) ↦[Finset.univ \ slotSet 2 16 2816 0]{fullShare} f) :=
    (pointsTo_split_subset (Finset.subset_univ _)).1
  rw [univ_sdiff_slot] at h
  exact h

theorem join9 (f g : Bf F A9 c) : iprop(Slot c A9 0 f ∗ Slot c A9 1 g) ⊢ (iprop(∃ f, pt A9 c f) : sProp 𝕄) := by
  rw [slot9, slot9]
  have h : iprop((A9.view.loc (c : Thread nD τ) ↦[slotSet 2 16 2816 0]{fullShare} f) ∗ A9.view.loc (c : Thread nD τ) ↦[Finset.univ \ slotSet 2 16 2816 0]{fullShare} g)
      ⊢ (A9.view.loc (c : Thread nD τ) ↦[Finset.univ]{fullShare} (slotSet 2 16 2816 0).piecewise f g : sProp 𝕄) :=
    pointsTo_join_subset (Finset.subset_univ _)
  rw [univ_sdiff_slot] at h
  refine h.trans ?_
  iintro H
  iexists _
  iexact H

theorem split10 (f : Bf F A10 c) : (pt A10 c f : sProp 𝕄) ⊢ iprop(Slot c A10 0 f ∗ Slot c A10 1 f) := by
  rw [slot10, slot10]
  have h : (A10.view.loc (c : Thread nD τ) ↦[Finset.univ]{fullShare} f : sProp 𝕄)
      ⊢ iprop((A10.view.loc (c : Thread nD τ) ↦[slotSet 2 704 2048 0]{fullShare} f) ∗ A10.view.loc (c : Thread nD τ) ↦[Finset.univ \ slotSet 2 704 2048 0]{fullShare} f) :=
    (pointsTo_split_subset (Finset.subset_univ _)).1
  rw [univ_sdiff_slot] at h
  exact h

theorem join10 (f g : Bf F A10 c) : iprop(Slot c A10 0 f ∗ Slot c A10 1 g) ⊢ (iprop(∃ f, pt A10 c f) : sProp 𝕄) := by
  rw [slot10, slot10]
  have h : iprop((A10.view.loc (c : Thread nD τ) ↦[slotSet 2 704 2048 0]{fullShare} f) ∗ A10.view.loc (c : Thread nD τ) ↦[Finset.univ \ slotSet 2 704 2048 0]{fullShare} g)
      ⊢ (A10.view.loc (c : Thread nD τ) ↦[Finset.univ]{fullShare} (slotSet 2 704 2048 0).piecewise f g : sProp 𝕄) :=
    pointsTo_join_subset (Finset.subset_univ _)
  rw [univ_sdiff_slot] at h
  refine h.trans ?_
  iintro H
  iexists _
  iexact H

theorem split11 (f : Bf F A11 c) : (pt A11 c f : sProp 𝕄) ⊢ iprop(Slot c A11 0 f ∗ Slot c A11 1 f) := by
  rw [slot11, slot11]
  have h : (A11.view.loc (c : Thread nD τ) ↦[Finset.univ]{fullShare} f : sProp 𝕄)
      ⊢ iprop((A11.view.loc (c : Thread nD τ) ↦[slotSet 2 11 2048 0]{fullShare} f) ∗ A11.view.loc (c : Thread nD τ) ↦[Finset.univ \ slotSet 2 11 2048 0]{fullShare} f) :=
    (pointsTo_split_subset (Finset.subset_univ _)).1
  rw [univ_sdiff_slot] at h
  exact h

theorem join11 (f g : Bf F A11 c) : iprop(Slot c A11 0 f ∗ Slot c A11 1 g) ⊢ (iprop(∃ f, pt A11 c f) : sProp 𝕄) := by
  rw [slot11, slot11]
  have h : iprop((A11.view.loc (c : Thread nD τ) ↦[slotSet 2 11 2048 0]{fullShare} f) ∗ A11.view.loc (c : Thread nD τ) ↦[Finset.univ \ slotSet 2 11 2048 0]{fullShare} g)
      ⊢ (A11.view.loc (c : Thread nD τ) ↦[Finset.univ]{fullShare} (slotSet 2 11 2048 0).piecewise f g : sProp 𝕄) :=
    pointsTo_join_subset (Finset.subset_univ _)
  rw [univ_sdiff_slot] at h
  refine h.trans ?_
  iintro H
  iexists _
  iexact H

theorem idle_intro : iprop((∃ f, pt A8 c f) ∗ (∃ f, pt A9 c f) ∗ (∃ f, pt A10 c f) ∗ (∃ f, pt A11 c f) ∗ Sems (F := F) c 0 ∗ Sems c 1)
    ⊢ (iprop(Idle c 0 ∗ Idle c 1) : sProp 𝕄) := by
  unfold Idle
  iintro ⟨⟨%a, Ha⟩, ⟨%b, Hb⟩, ⟨%d, Hd⟩, ⟨%e, He⟩, HS0, HS1⟩
  ihave Ha := (split8 c a) $$ Ha
  ihave Hb := (split9 c b) $$ Hb
  ihave Hd := (split10 c d) $$ Hd
  ihave He := (split11 c e) $$ He
  icases Ha with ⟨Ha0, Ha1⟩
  icases Hb with ⟨Hb0, Hb1⟩
  icases Hd with ⟨Hd0, Hd1⟩
  icases He with ⟨He0, He1⟩
  isplitl [Ha0 Hb0 Hd0 He0 HS0]
  · isplitl [Ha0]
    · iexists a; iexact Ha0
    isplitl [Hb0]
    · iexists b; iexact Hb0
    isplitl [Hd0]
    · iexists d; iexact Hd0
    isplitl [He0]
    · iexists e; iexact He0
    iexact HS0
  · isplitl [Ha1]
    · iexists a; iexact Ha1
    isplitl [Hb1]
    · iexists b; iexact Hb1
    isplitl [Hd1]
    · iexists d; iexact Hd1
    isplitl [He1]
    · iexists e; iexact He1
    iexact HS1

theorem idle_elim : (iprop(Idle c 0 ∗ Idle c 1) : sProp 𝕄)
    ⊢ iprop((∃ f, pt A8 c f) ∗ (∃ f, pt A9 c f) ∗ (∃ f, pt A10 c f) ∗ (∃ f, pt A11 c f) ∗ Sems (F := F) c 0 ∗ Sems c 1) := by
  unfold Idle
  iintro ⟨⟨⟨%a0, Ha0⟩, ⟨%b0, Hb0⟩, ⟨%d0, Hd0⟩, ⟨%e0, He0⟩, HS0⟩, ⟨%a1, Ha1⟩, ⟨%b1, Hb1⟩, ⟨%d1, Hd1⟩, ⟨%e1, He1⟩, HS1⟩
  isplitl [Ha0 Ha1]
  · iapply (join8 c a0 a1)
    isplitl [Ha0]; · iexact Ha0
    iexact Ha1
  isplitl [Hb0 Hb1]
  · iapply (join9 c b0 b1)
    isplitl [Hb0]; · iexact Hb0
    iexact Hb1
  isplitl [Hd0 Hd1]
  · iapply (join10 c d0 d1)
    isplitl [Hd0]; · iexact Hd0
    iexact Hd1
  isplitl [He0 He1]
  · iapply (join11 c e0 e1)
    isplitl [He0]; · iexact He0
    iexact He1
  isplitl [HS0]; · iexact HS0
  iexact HS1

end Halves

/-! ## The program up to the kernel, and what the kernel holds -/

variable (m : (ℓ : Loc nD τ sig) → Buf (Elt F) ℓ) (ρ : Dev nD → PrngReg)

/-- A buffer's contents when the kernel starts. -/
def V (c : Dev nD) (b : Ref sig .tc) : Buf (Elt F) ((c : Thread nD τ).loc b) := StableHlo.after hostOps0 (fun b => m (c, b)) b

theorem hmain : Pipeline.HMain (Ix := Unit) (Name := ℕ) (U := Pipeline.UD sig nD τ) (Lvl := ℕ) cfgs 0 defs₀ Variants.nat m (main (F := F)) (V m) :=
  Pipeline.hmain_prefix cfgs 0 defs₀ Variants.nat m main hostOps0 hostOps0_sub (by simp [hostOps0, StableHlo.reshape]) main_chain

abbrev osem0 : Fin 8 → SemLoc sig := fun j => (![SemLoc.dma 4, SemLoc.dma 5, SemLoc.dma 6, SemLoc.dma 7, SemLoc.dma 8, SemLoc.dma 9, SemLoc.dma 10, SemLoc.dma 11] : Fin 8 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0
          ∗ semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0) := by
  rw [Pipeline.ownSems0_eq_of_list c osem0 [0, 1, 2, 3, 4, 5, 6, 7] (by decide) (by decide)]; rfl

theorem sems_intro (c : Dev nD) :
    (iprop(semVal ((c : Thread nD τ), SemLoc.dma 4) 0 ∗ semVal ((c : Thread nD τ), SemLoc.dma 5) 0
          ∗ semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0) : sProp 𝕄)
      ⊢ iprop(Sems (F := F) c 0 ∗ Sems c 1) := by
  unfold Sems
  rw [show cell 0 0 = 4 by decide, show cell 0 1 = 5 by decide, show cell 0 2 = 6 by decide, show cell 0 3 = 7 by decide,
    show cell 1 0 = 8 by decide, show cell 1 1 = 9 by decide, show cell 1 2 = 10 by decide, show cell 1 3 = 11 by decide]
  iintro ⟨H0, H1, H2, H3, H4, H5, H6, H7⟩
  isplitl [H0 H1 H2 H3]
  · iframe
  iframe

theorem sems_elim (c : Dev nD) : iprop(Sems (F := F) c 0 ∗ Sems c 1)
    ⊢ (iprop(semVal ((c : Thread nD τ), SemLoc.dma 4) 0 ∗ semVal ((c : Thread nD τ), SemLoc.dma 5) 0
          ∗ semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0) : sProp 𝕄) := by
  unfold Sems
  rw [show cell 0 0 = 4 by decide, show cell 0 1 = 5 by decide, show cell 0 2 = 6 by decide, show cell 0 3 = 7 by decide,
    show cell 1 0 = 8 by decide, show cell 1 1 = 9 by decide, show cell 1 2 = 10 by decide, show cell 1 3 = 11 by decide]
  iintro ⟨⟨H0, H1, H2, H3⟩, H4, H5, H6, H7⟩
  iframe

/-- The operands the kernel's own copies read. -/
def H0 : Finset (Ref sig .tc) := {main_arg3, main_arg4, main_arg5, main_arg6}
theorem H0_sub : H0 ⊆ Pipeline.restRefs sig spec0 := by decide

def hbV (c : Dev nD) : Hb F c := ⟨V m c main_arg3, V m c main_arg4, V m c main_arg5, V m c main_arg6⟩

theorem hbmPts0_eq (c : Dev nD) :
    (bigSep H0 (fun b => ((c : Thread nD τ).loc b) ↦{fullShare} V m c b) : sProp 𝕄) = Hbm c (hbV m c) := by
  rw [BI.bigSep_eq_bigSepL_of_eq [main_arg3, main_arg4, main_arg5, main_arg6] (by decide) (by decide)]; rfl

/-- What the region's invariant holds, in the body's terms. -/
def Phi (c : Dev nD) : sProp 𝕄 := Pipeline.ΦD osem0 spec0 H0 (V m) c

theorem phi_start (c : Dev nD) (f0 : Bf F A0 c) (x1 : Bf F A1 c) (f2 : Bf F A2 c) (y : Bf F A7 c) :
    iprop(Phi m c ∗ pt A0 c f0 ∗ pt A1 c x1 ∗ pt A2 c f2 ∗ pt A7 c y ∗ ∃ O, owes (c : Thread nD τ) 0 O)
      ⊢ iprop(Start c (hbV m c) f0 x1 f2 ∗ ∃ r, prngReg c r) := by
  unfold Phi Start
  rw [Pipeline.ΦD_eq, scopedRest0_eq, ownSems00_eq, hbmPts0_eq]
  iintro ⟨⟨⟨H8, H9, H10, H11, H12, H13, H14, H15⟩, Hg, Hs, HH⟩, Hf0, Hx1, Hf2, Hy, HO⟩
  ihave Hs := (sems_intro (F := F) c) $$ Hs
  icases Hs with ⟨Hs0, Hs1⟩
  isplitr [Hg]
  swap
  · iexact Hg
  isplitl [Hf0]; · iexact Hf0
  isplitl [Hx1]; · iexact Hx1
  isplitl [Hf2]; · iexact Hf2
  isplitl [Hy]
  · iexists y; iexact Hy
  ihave HI := (idle_intro (F := F) c) $$ [H8 H9 H10 H11 Hs0 Hs1]
  · isplitl [H8]; · iexact H8
    isplitl [H9]; · iexact H9
    isplitl [H10]; · iexact H10
    isplitl [H11]; · iexact H11
    isplitl [Hs0]; · iexact Hs0
    iexact Hs1
  icases HI with ⟨HI0, HI1⟩
  isplitl [HI0]; · iexact HI0
  isplitl [HI1]; · iexact HI1
  isplitl [H12]; · iexact H12
  isplitl [H13]; · iexact H13
  isplitl [H14]; · iexact H14
  isplitl [H15]; · iexact H15
  isplitl [HH]; · iexact HH
  iexact HO

theorem done_phi (c : Dev nD) (f0 : Bf F A0 c) (x1 : Bf F A1 c) (f2 : Bf F A2 c) (YF : Bf F A7 c → Prop) :
    iprop(Done c (hbV m c) f0 x1 f2 YF ∗ ∃ r, prngReg c r)
      ⊢ iprop(Phi m c ∗ pt A0 c f0 ∗ pt A1 c x1 ∗ pt A2 c f2 ∗ (∃ y, ⌜YF y⌝ ∗ pt A7 c y) ∗ ∃ O, owes (c : Thread nD τ) 0 O) := by
  unfold Phi Done
  rw [Pipeline.ΦD_eq, scopedRest0_eq, ownSems00_eq, hbmPts0_eq]
  iintro ⟨⟨Hf0, Hx1, Hf2, Hy, HI0, HI1, H12, H13, H14, H15, HH, HO⟩, Hg⟩
  ihave HI := (idle_elim (F := F) c) $$ [HI0 HI1]
  · isplitl [HI0]; · iexact HI0
    iexact HI1
  icases HI with ⟨H8, H9, H10, H11, Hs0, Hs1⟩
  ihave Hs := (sems_elim (F := F) c) $$ [Hs0 Hs1]
  · isplitl [Hs0]; · iexact Hs0
    iexact Hs1
  isplitl [H8 H9 H10 H11 H12 H13 H14 H15 Hg Hs HH]
  · isplitl [H8 H9 H10 H11 H12 H13 H14 H15]
    · isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    isplitl [Hg]; · iexact Hg
    isplitl [Hs]; · iexact Hs
    iexact HH
  isplitl [Hf0]; · iexact Hf0
  isplitl [Hx1]; · iexact Hx1
  isplitl [Hf2]; · iexact Hf2
  isplitl [Hy]; · iexact Hy
  iexact HO

/-! ## The proof data and the body's obligation -/

variable (YF : Dev nD → (S1536x2048.Idx → Elt F .bf16) → Prop)

/-- The pipeline's data on core `c`: the three inputs left as found, the result at anything `YF` holds of. -/
def rdat (c : Dev nD) : RDat τ (Elt F) Unit ℕ (Pipeline.UD sig nD τ) ℕ (cfg0 (F := F)) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => YF c X
  Φ _ := Phi m c
  q _ := fullShare
  owed _ := 0

theorem finds0 (c : Dev nD) (t : Fin (cfg0 (F := F)).N) (Y : S60.Idx → Elt F .i32) (h : (rdat m YF c).Finds 0 t Y) : Y = V m c main_arg1 := by
  obtain ⟨d, e⟩ := ((rdat m YF c).finds_of_fetch (w := 0) (fetch0_0 t) Y).1 h
  rw [e]
  funext j
  unfold RDat.fetched Window.fill
  have hm : ((cfg0 (F := F)).win 0).moved ((cfg0 (F := F)).grid.coords t) j = true :=
    (((cfg0 (F := F)).win 0).moved_iff _ j).mpr fun a => (j a).isLt
  rw [dif_pos hm]
  show V m c main_arg1 _ = V m c main_arg1 j
  refine congrArg (V m c main_arg1) (funext fun a => Fin.ext ?_)
  show 0 * _ + 1 * (j a).val = (j a).val
  rw [Nat.zero_mul, Nat.zero_add, Nat.one_mul]

theorem finds1 (c : Dev nD) (t : Fin (cfg0 (F := F)).N) (Y : S1536x2048.Idx → Elt F .bf16) (h : (rdat m YF c).Finds 1 t Y) : Y = V m c main_arg0 := by
  obtain ⟨d, e⟩ := ((rdat m YF c).finds_of_fetch (w := 1) (fetch0_1 t) Y).1 h
  rw [e]
  funext j
  unfold RDat.fetched Window.fill
  have hm : ((cfg0 (F := F)).win 1).moved ((cfg0 (F := F)).grid.coords t) j = true :=
    (((cfg0 (F := F)).win 1).moved_iff _ j).mpr fun a => (j a).isLt
  rw [dif_pos hm]
  show V m c main_arg0 _ = V m c main_arg0 j
  refine congrArg (V m c main_arg0) (funext fun a => Fin.ext ?_)
  show 0 * _ + 1 * (j a).val = (j a).val
  rw [Nat.zero_mul, Nat.zero_add, Nat.one_mul]

theorem finds2 (c : Dev nD) (t : Fin (cfg0 (F := F)).N) (Y : S12x128.Idx → Elt F .f32) (h : (rdat m YF c).Finds 2 t Y) : Y = V m c main_v0 := by
  obtain ⟨d, e⟩ := ((rdat m YF c).finds_of_fetch (w := 2) (fetch0_2 t) Y).1 h
  rw [e]
  funext j
  unfold RDat.fetched Window.fill
  have hm : ((cfg0 (F := F)).win 2).moved ((cfg0 (F := F)).grid.coords t) j = true :=
    (((cfg0 (F := F)).win 2).moved_iff _ j).mpr fun a => (j a).isLt
  rw [dif_pos hm]
  show V m c main_v0 _ = V m c main_v0 j
  refine congrArg (V m c main_v0) (funext fun a => Fin.ext ?_)
  show 0 * _ + 1 * (j a).val = (j a).val
  rw [Nat.zero_mul, Nat.zero_add, Nat.one_mul]

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem slots_zero (t : Fin (cfg0 (F := F)).N) (k : Fin 4) : (cfg0 (F := F)).slots t k = (match k with | 0 => (0 : Fin 1) | 1 => (0 : Fin 1) | 2 => (0 : Fin 1) | 3 => (0 : Fin 1)) := by
  match k with
  | 0 => exact Subsingleton.elim (α := Fin 1) _ _
  | 1 => exact Subsingleton.elim (α := Fin 1) _ _
  | 2 => exact Subsingleton.elim (α := Fin 1) _ _
  | 3 => exact Subsingleton.elim (α := Fin 1) _ _

theorem bodyAt_eq (t : Fin (cfg0 (F := F)).N) : bodyAt0 (F := F) t = cc0_moe_w4a16 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8 := rfl

variable (hb : ∀ c, Start c (hbV m c) (V m c main_arg1) (V m c main_arg0) (V m c main_v0)
  ⊢ WP c none (cc0_moe_w4a16 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8) (fun _ => Done c (hbV m c) (V m c main_arg1) (V m c main_arg0) (V m c main_v0) (YF c)))

include hb in
theorem sound_body (c : Dev nD) (y : Bf F A7 c) :
    iprop(Phi m c ∗ (∃ O, owes (c : Thread nD τ) 0 O) ∗ pt A0 c (V m c main_arg1) ∗ pt A1 c (V m c main_arg0) ∗ pt A2 c (V m c main_v0) ∗ pt A7 c y)
      ⊢ WP c none (cc0_moe_w4a16 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8) (fun _ => iprop(Phi m c ∗ (∃ O, owes (c : Thread nD τ) 0 O)
        ∗ pt A0 c (V m c main_arg1) ∗ pt A1 c (V m c main_arg0) ∗ pt A2 c (V m c main_v0) ∗ (∃ y, ⌜YF c y⌝ ∗ pt A7 c y))) := by
  refine BIBase.Entails.trans (Q := iprop(Start c (hbV m c) (V m c main_arg1) (V m c main_arg0) (V m c main_v0) ∗ ∃ r, prngReg c r)) ?_ ?_
  · refine BIBase.Entails.trans ?_ (phi_start m c _ _ _ y)
    iintro ⟨HP, HO, H0, H1, H2, H7⟩
    isplitl [HP]; · iexact HP
    isplitl [H0]; · iexact H0
    isplitl [H1]; · iexact H1
    isplitl [H2]; · iexact H2
    isplitl [H7]; · iexact H7
    iexact HO
  refine BIBase.Entails.trans (Q := iprop(WP c none (cc0_moe_w4a16 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) cc0_scratch8) (fun _ => Done c (hbV m c) (V m c main_arg1) (V m c main_arg0) (V m c main_v0) (YF c)) ∗ ∃ r, prngReg c r)) ?_ ?_
  · iintro ⟨HS, Hg⟩
    isplitl [HS]
    · iapply (hb c); iexact HS
    iexact Hg
  refine BIBase.Entails.trans (wp_frame_r _ _ _) ?_
  refine wp_mono _ _ _ fun _ => ?_
  refine BIBase.Entails.trans (done_phi m c _ _ _ (YF c)) ?_
  iintro ⟨HP, H0, H1, H2, H7, HO⟩
  isplitl [HP]; · iexact HP
  isplitl [HO]; · iexact HO
  isplitl [H0]; · iexact H0
  isplitl [H1]; · iexact H1
  isplitl [H2]; · iexact H2
  iexact H7

include hb in
theorem body_obligation (c : Dev nD) : (rdat m YF c).BodyObligation (defs₀ (F := F)) Variants.nat () Set.univ := fun t Y hY => by
  rw [bigSep_W0, bigSep_W0, defs₀_row, bodyAt_eq]
  have e0 := finds0 m YF c t (Y 0) (hY 0)
  have e1 := finds1 m YF c t (Y 1) (hY 1)
  have e2 := finds2 m YF c t (Y 2) (hY 2)
  have k0 : (owns (c : Thread nD τ) (((cfg0 (F := F)).win 0).stage ((cfg0 (F := F)).slots t 0)) fullShare (Y 0) : sProp 𝕄) = pt A0 c (V m c main_arg1) := by
    rw [e0]; exact owns_whole _ _ _ _
  have k1 : (owns (c : Thread nD τ) (((cfg0 (F := F)).win 1).stage ((cfg0 (F := F)).slots t 1)) fullShare (Y 1) : sProp 𝕄) = pt A1 c (V m c main_arg0) := by
    rw [e1]; exact owns_whole _ _ _ _
  have k2 : (owns (c : Thread nD τ) (((cfg0 (F := F)).win 2).stage ((cfg0 (F := F)).slots t 2)) fullShare (Y 2) : sProp 𝕄) = pt A2 c (V m c main_v0) := by
    rw [e2]; exact owns_whole _ _ _ _
  have k3 : ∀ y, (owns (c : Thread nD τ) (((cfg0 (F := F)).win 3).stage ((cfg0 (F := F)).slots t 3)) fullShare y : sProp 𝕄) = pt A7 c y :=
    fun y => owns_whole _ _ _ _
  have l0 := (BIBase.Entails.of_eq k0)
  have l1 := (BIBase.Entails.of_eq k1)
  have l2 := (BIBase.Entails.of_eq k2)
  have l3 := (BIBase.Entails.of_eq (k3 (Y 3)))
  have j0 := (BIBase.Entails.of_eq k0.symm)
  have j1 := (BIBase.Entails.of_eq k1.symm)
  have j2 := (BIBase.Entails.of_eq k2.symm)
  have j3 := fun y => (BIBase.Entails.of_eq (k3 y).symm)
  unfold RDat.owesAt Pipeline.owesWithin
  rw [show (rdat m YF c).owed t.castSucc = 0 from rfl, show (rdat m YF c).owed t.succ = 0 from rfl,
    show (rdat m YF c).Φ t.castSucc = Phi m c from rfl, show (rdat m YF c).Φ t.succ = Phi m c from rfl]
  refine BIBase.Entails.trans ?_ ((sound_body m YF hb c (Y 3)).trans (wp_mono _ _ _ fun _ => ?_))
  · iintro ⟨HP, ⟨%W, -, HO⟩, H0, H1, H2, H7⟩
    isplitl [HP]; · iexact HP
    isplitl [HO]
    · iexists W; iexact HO
    isplitl [H0]
    · iapply l0; iexact H0
    isplitl [H1]
    · iapply l1; iexact H1
    isplitl [H2]
    · iapply l2; iexact H2
    iapply l3
    iexact H7
  · iintro ⟨HP, ⟨%W, HO⟩, H0, H1, H2, ⟨%y, %hy, H7⟩⟩
    isplitl [HP]; · iexact HP
    isplitl [HO]
    · iexists W
      isplitr
      · ipureintro; exact fun _ _ => Or.inl trivial
      iexact HO
    isplitl [H0]
    · iexists (Y 0)
      isplitr
      · ipureintro; rfl
      iapply j0
      iexact H0
    isplitl [H1]
    · iexists (Y 1)
      isplitr
      · ipureintro; rfl
      iapply j1
      iexact H1
    isplitl [H2]
    · iexists (Y 2)
      isplitr
      · ipureintro; rfl
      iapply j2
      iexact H2
    iexists y
    isplitr
    · ipureintro; exact hy
    iapply (j3 y)
    iexact H7

/-! ## The run -/

include hb in
set_option backward.isDefEq.respectTransparency.types false in
theorem run_main : θ_run defs (onTc (τ := τ) (main (F := F))) (s₀ m ρ)
    (fun r => RDat.FramePost (cfgs 0) (rdat m YF) (V m) r ∧ r.2.sem = fun _ => 0) :=
  RDat.θ_run_frame_dma (Q' := _) cfgs (0 : Fin 1) launch0 osem0 defs₀ Variants.nat (rdat m YF) ownSemFacts0 H0 H0_sub m ρ main
    (hbody := fun c => body_obligation m YF hb c) (hshare := fun c w => (rdat m YF c).share_full (fun _ => rfl) w)
    (howed := fun _ _ => rfl) (V := V m) (hmain := hmain m) (hA := fun c w => rfl)
    (hin := fun _ => .rfl) (hout := fun _ => .rfl)

theorem V_arg0 (c : Dev nD) : V m c main_arg0 = m (c, main_arg0) := by
  unfold V hostOps0
  after_reads_simp

theorem V_arg1 (c : Dev nD) : V m c main_arg1 = m (c, main_arg1) := by
  unfold V hostOps0
  after_reads_simp

theorem V_arg2 (c : Dev nD) : V m c main_arg2 = m (c, main_arg2) := by
  unfold V hostOps0
  after_reads_simp

theorem V_arg3 (c : Dev nD) : V m c main_arg3 = m (c, main_arg3) := by
  unfold V hostOps0
  after_reads_simp

theorem V_arg4 (c : Dev nD) : V m c main_arg4 = m (c, main_arg4) := by
  unfold V hostOps0
  after_reads_simp

theorem V_arg5 (c : Dev nD) : V m c main_arg5 = m (c, main_arg5) := by
  unfold V hostOps0
  after_reads_simp

theorem V_arg6 (c : Dev nD) : V m c main_arg6 = m (c, main_arg6) := by
  unfold V hostOps0
  after_reads_simp

theorem out_of (c : Dev nD) (G : Bf F A7 c) (hG : (rdat m YF c).ArrAt (3 : Fin 4) (cfg0 (F := F)).N G) : YF c G := by
  have hW : ((cfg0 (F := F)).win 3).WholeAt (t0_0 : Fin (cfg0 (F := F)).N) := (by decide +kernel : win0_3.WholeAt (t0_0 : Fin grid0.N))
  obtain ⟨X, hX, hj⟩ := RDat.ArrAt.emb_eq_of_wholeAt (cfg := cfg0 (F := F)) (rd := rdat m YF c) (w := (3 : Fin 4)) hG hW
  obtain ⟨Y, -, hX⟩ := hX
  have e : G = X := funext fun j => hj j
  rw [e]
  exact hX

theorem in_of (c : Dev nD) (w : Fin 4) (hw : ((cfg0 (F := F)).win w).isOut = false)
    (G : Buf (Elt F) (((cfg0 (F := F)).win w).arr.view.loc (c.tc : Thread nD τ))) (hG : (rdat m YF c).ArrAt w (cfg0 (F := F)).N G) :
    G = (rdat m YF c).A w := by
  rw [RDat.ArrAt_in (rdat m YF c) w hw] at hG
  exact hG

theorem post_of (r : PUnit × MemSt nD τ sig (Elt F)) (h : RDat.FramePost (cfg0 (F := F)) (rdat m YF) (V m) r) (c : Dev nD) :
    (∀ w, (rdat m YF c).ArrAt w (cfg0 (F := F)).N (r.2.mem (((cfg0 (F := F)).spec w).arr.view.loc (c.tc : Thread nD τ))))
      ∧ ∀ b ∈ Pipeline.restRefs sig spec0, r.2.mem ((c.tc : Thread nD τ).loc b) = V m c b := h c

include hb in
/-- THE RUN: the program terminates with every semaphore at zero, its arguments as they were and its result
    where the body's triple puts it. -/
theorem run_spec : θ_run defs (onTc (τ := τ) (main (F := F))) ⟨m, fun _ => 0, ρ⟩ (fun r => (∀ c : Dev nD,
      YF c (r.2.mem ((c.tc : Thread nD τ).loc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run_main m ρ YF hb)
  have hc := post_of m YF r h.1 c
  exact ⟨out_of m YF c _ (hc.1 3), (in_of m YF c 1 rfl _ (hc.1 1)).trans (V_arg0 m c), (in_of m YF c 0 rfl _ (hc.1 0)).trans (V_arg1 m c),
    (hc.2 main_arg2 (Pipeline.mem_restRefs_of main_arg2 (by decide) (by decide))).trans (V_arg2 m c),
    (hc.2 main_arg3 (Pipeline.mem_restRefs_of main_arg3 (by decide) (by decide))).trans (V_arg3 m c),
    (hc.2 main_arg4 (Pipeline.mem_restRefs_of main_arg4 (by decide) (by decide))).trans (V_arg4 m c),
    (hc.2 main_arg5 (Pipeline.mem_restRefs_of main_arg5 (by decide) (by decide))).trans (V_arg5 m c),
    (hc.2 main_arg6 (Pipeline.mem_restRefs_of main_arg6 (by decide) (by decide))).trans (V_arg6 m c)⟩

end Cert.KernelIdeal.Hand

end
-- ==== Proof.KernelIdeal.Frame.lean ====
/-
  The frame: on group sizes that fit, the program runs to its end with its arguments unchanged and every
  semaphore back at zero.
-/
module

public import proofs.«01_k».proof.Proof.KernelIdeal.Launch

@[expose] public section

noncomputable section

namespace Cert.KernelIdeal.Hand

open Cert.KernelIdeal Cert.KernelIdeal.Gen Cert.Hand
open Idealize.ShloMosaic Idealize.ShloMosaic.TcCoe Idealize.ShloMosaic.ValueIdx
open Idealize.SL.Sem

variable {F : FTy → Type} [FloatOps F]

theorem frame (m : (ℓ : Loc nD τ sig) → Buf (Elt F) ℓ) (ρ : Dev nD → PrngReg) (ho : ∀ c : Dev nD, offs (F := F) c (m ((c.tc : Thread nD τ).loc main_arg1)) 60 ≤ 1536) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => (h.1 c).2, h.2⟩) (run_spec m ρ (fun _ _ => True) fun c => ?_)
  exact body c (hbV m c) (V m c main_arg1) (V m c main_arg0) (V m c main_v0) (by rw [V_arg1]; exact ho c)
    (fun _ _ _ _ _ => True) (fun _ => True) (fun _ _ _ _ _ _ _ => trivial) (fun _ _ _ _ _ => by unfold YStep; intros; trivial)
    (fun _ _ _ _ _ _ _ => trivial)

end Cert.KernelIdeal.Hand

end
-- ==== Proof.Value.Spec.lean ====
/-
  The value both programs compute, written on plain functions: the weights of one expert, the first product
  of a row, the gate, the second product and the row's weight.
-/
module

public import Mathlib.Data.EReal.Operations
public import Mathlib.Data.EReal.Inv
public import Idealize.ShloMosaic.Lib.Pointwise

@[expose] public section

open scoped BigOperators

noncomputable section

namespace Cert.Hand

open Idealize.ShloMosaic

/-- The arrays, each a function of its coordinates. -/
structure In where
  x : Fin 1536 → Fin 2048 → EReal
  rw : Fin 1536 → EReal
  w1 : Fin 60 → Fin 1024 → Fin 2816 → BitVec 8
  s1 : Fin 60 → Fin 16 → Fin 2816 → EReal
  w2 : Fin 60 → Fin 704 → Fin 2048 → BitVec 8
  s2 : Fin 60 → Fin 11 → Fin 2048 → EReal

/-- One of the two nibbles of a packed byte, less eight. -/
def nbl (b : BitVec 8) (p : ℕ) : ℤ := ((b.toNat / 16 ^ p % 16 : ℕ) : ℤ) - 8

/-- The first weights of expert `e`. -/
def W1 (I : In) (e : Fin 60) (k : Fin 2048) (n : Fin 2816) : EReal :=
  (((nbl (I.w1 e ⟨k / 2, by omega⟩ n) (k % 2) : ℤ) : ℝ) : EReal) * I.s1 e ⟨k / 128, by omega⟩ n
/-- The second weights of expert `e`. -/
def W2 (I : In) (e : Fin 60) (k : Fin 1408) (n : Fin 2048) : EReal :=
  (((nbl (I.w2 e ⟨k / 2, by omega⟩ n) (k % 2) : ℤ) : ℝ) : EReal) * I.s2 e ⟨k / 128, by omega⟩ n
/-- The first product of row `r` under expert `e`. -/
def Gu (I : In) (e : Fin 60) (r : Fin 1536) (n : Fin 2816) : EReal := ∑ k : Fin 2048, I.x r k * W1 I e k n
/-- The gate times the other half. -/
def gate (g v : EReal) : EReal := Ideal.div g (1 + Ideal.exp (-g)) * v
/-- The gated activations of row `r`. -/
def Hh (I : In) (e : Fin 60) (r : Fin 1536) (j : Fin 1408) : EReal :=
  gate (Gu I e r ⟨j, by omega⟩) (Gu I e r ⟨1408 + j, by omega⟩)
/-- Row `r` of the result under expert `e`. -/
def Out (I : In) (e : Fin 60) (r : Fin 1536) (n : Fin 2048) : EReal :=
  (∑ k : Fin 1408, Hh I e r k * W2 I e k n) * I.rw r

theorem exp_nonneg (x : EReal) : 0 ≤ Ideal.exp x := by
  induction x with
  | bot => exact le_rfl
  | top => exact le_top
  | coe r => exact EReal.coe_nonneg.mpr (Real.exp_pos r).le
theorem one_add_exp_ne (x : EReal) : 1 + Ideal.exp x ≠ 0 :=
  ne_of_gt (lt_of_lt_of_le zero_lt_one (le_add_of_nonneg_right (exp_nonneg x)))
/-- The gate as the product by a reciprocal. -/
theorem gate_eq (g v : EReal) : g * Ideal.div 1 (1 + Ideal.exp (-g)) * v = gate g v := by
  simp only [gate, Ideal.div, if_neg (one_add_exp_ne _), one_mul]
theorem gate_eq' (g v : EReal) : Ideal.div g (1 + Ideal.exp (0 - g)) * v = gate g v := by
  simp only [gate, zero_sub]

/-- The pattern of eight. -/
theorem ofBits_eight : Ideal.ofBits .bf16 0x4100#16 = ((8 : ℝ) : EReal) := by
  simp [Ideal.ofBits, Ideal.ieee, -EReal.coe_mul]; norm_num

/-- A byte's nibble, moved to the top of a word and back: the nibble less eight, of the byte with both
top bits of its nibbles flipped. -/
theorem nbl_lo : ∀ b : BitVec 8, ((((b ^^^ 136#8).setWidth 32 <<< 28).sshiftRight 28).setWidth 4).toInt = nbl b 0 := by
  decide +kernel
theorem nbl_hi : ∀ b : BitVec 8, ((((b ^^^ 136#8).setWidth 32 <<< 24).sshiftRight 28).setWidth 4).toInt = nbl b 1 := by
  decide +kernel
/-- The same as the reference takes it: a mask or a shift, less eight. -/
theorem nbl_and : ∀ b : BitVec 8, (b.setWidth 32 &&& 15#32).toInt - 8 = nbl b 0 := by decide +kernel
theorem nbl_shr : ∀ b : BitVec 8, ((b.setWidth 32).sshiftRight 4).toInt - 8 = nbl b 1 := by decide +kernel

/-- The result: a row of expert `e` holds `Out`, a row past the last expert's zero (`of`: where each
expert's rows begin). -/
def Spec (I : In) (of : ℕ → ℕ) (y : Fin 1536 → Fin 2048 → EReal) : Prop :=
  (∀ (r : Fin 1536) (n : Fin 2048) (e : Fin 60), of e ≤ r → r < of (e + 1) → y r n = Out I e r n) ∧
  ∀ (r : Fin 1536) (n : Fin 2048), of 60 ≤ r → y r n = 0

/-- A row below the last expert's end is some expert's. -/
theorem exists_expert {of : ℕ → ℕ} (h0 : of 0 = 0) {r : ℕ} (E : ℕ) (h : r < of E) : ∃ e < E, of e ≤ r ∧ r < of (e + 1) := by
  induction E with
  | zero => omega
  | succ E ih =>
    by_cases hr : of E ≤ r
    · exact ⟨E, by omega, hr, h⟩
    · obtain ⟨e, h1, h2⟩ := ih (by omega)
      exact ⟨e, by omega, h2⟩

/-- Two arrays that hold the result are one. -/
theorem Spec.unique {I : In} {of : ℕ → ℕ} (h0 : of 0 = 0) {y z : Fin 1536 → Fin 2048 → EReal}
    (hy : Spec I of y) (hz : Spec I of z) (r : Fin 1536) (n : Fin 2048) : y r n = z r n := by
  by_cases h : of 60 ≤ r
  · rw [hy.2 r n h, hz.2 r n h]
  · obtain ⟨e, he, h1, h2⟩ := exists_expert h0 (r := r) 60 (by omega)
    rw [hy.1 r n ⟨e, he⟩ h1 h2, hz.1 r n ⟨e, he⟩ h1 h2]

end Cert.Hand

end
-- ==== Proof.Value.Tile.lean ====
/-
  The kernel's tiles read at an index over the extended reals: the nibbles, the dequantised blocks, the
  products, the gate, the mask and the blend.
-/
module

public import proofs.«01_k».proof.Proof.KernelIdeal.Tiles
public import proofs.«01_k».proof.Proof.Value.Spec
public import Idealize.ShloMosaic.Lib.WordCmp
public import Idealize.ShloMosaic.Lib.Pipeline.Value

@[expose] public section

set_option maxRecDepth 16384

noncomputable section

namespace Cert.KernelIdeal.Hand

open Cert.KernelIdeal Cert.KernelIdeal.Gen Cert.Hand
open Idealize.ShloMosaic Idealize.ShloMosaic.TcCoe

/-- The word the kernel makes of a byte at row `r`, as a number. -/
theorem nib_word (b : BitVec 8) (r : ℕ) (hr : r < 2 ^ 31) :
    (BitVec.setWidth 4 (IntOp.shrsi ArithUnit.vector (IntOp.shli ArithUnit.vector (BitVec.setWidth 32 (IntOp.xori b 136#8))
      (IntOp.subi (28#32) (IntOp.muli (4#32) (IntOp.andi (BitVec.ofNat 32 r) 1#32)))) 28#32)).toInt = nbl b (r % 2) := by
  have hm : IntOp.andi (BitVec.ofNat 32 r) 1#32 = BitVec.ofNat 32 (r % 2) := by
    apply BitVec.eq_of_toNat_eq
    simp only [IntOp.andi, BitVec.toNat_and, BitVec.toNat_ofNat]
    rw [show (1 % 2 ^ 32 : ℕ) = 1 from rfl, Nat.and_one_is_mod]
    omega
  rw [hm]
  rcases Nat.mod_two_eq_zero_or_one r with h | h <;> rw [h]
  · exact nbl_lo b
  · exact nbl_hi b

theorem nib_at (w : Vec Ideal S1x1024x256 .i8) (r : Fin 2048) (n : Fin 256) :
    nib w (ix2 r n) = (((nbl (w (ix3 0 ⟨r / 2, by omega⟩ n)) (r % 2) : ℤ) : ℝ) : EReal) := by
  pointwise [nib, k0_pay8, k0_pay9]
  rw [← nib_word _ r (by omega)]
  rfl
theorem nib'_at (w : Vec Ideal S1x704x256 .i8) (r : Fin 1408) (n : Fin 256) :
    nib' w (ix2 r n) = (((nbl (w (ix3 0 ⟨r / 2, by omega⟩ n)) (r % 2) : ℤ) : ℝ) : EReal) := by
  pointwise [nib', k0_pay194]
  rw [← nib_word _ r (by omega)]
  rfl

/-- The first weights' dequantised block: piece `k` holds rows `128 k` on. -/
theorem deq_at (q : FVec Ideal S2048x256 .bf16) (s : Fin 16 → Vec Ideal S1x1x256 .bf16) (r : Fin 2048) (n : Fin 256) :
    deq q s (ix2 r n) = q (ix2 r n) * s ⟨r / 128, by omega⟩ (ix3 0 0 n) := by
  have hsl : ∀ k : Fin 16, S2048x256.Slices ![128 * k, 0] S128x256 := by decide
  have e : deq q s (ix2 r n) = wsl q (s ⟨r / 128, by omega⟩) ![128 * (r / 128), 0] (hsl ⟨r / 128, by omega⟩) (ix2 ⟨r % 128, by omega⟩ n) :=
    concatenate_ofFn_apply (t := S2048x256) (s₁ := S128x256) 0 (N := 16)
      (fun k => wsl q (s k) ![128 * k, 0] (hsl k)) (by exact concatenates_S128x256_S128x256_S128x256_S128x256_S128x256_S128x256_S128x256_S128x256_S128x256_S128x256_S128x256_S128x256_S128x256_S128x256_S128x256_S128x256_S2048x256_d0)
      rfl 128 rfl (ix2 r n) ⟨r / 128, by omega⟩ rfl (ix2 ⟨r % 128, by omega⟩ n) rfl
      (fun b hb => by match b with | 0 => exact absurd rfl hb | 1 => rfl)
  rw [e]
  pointwise [wsl]
  congr 3
  exact Fin.ext (by show 128 * (r.val / 128) + r.val % 128 = r.val; omega)

/-- The second weights' dequantised block. -/
theorem deq'_at (q : FVec Ideal S1408x256 .bf16) (s : Fin 11 → Vec Ideal S1x1x256 .bf16) (r : Fin 1408) (n : Fin 256) :
    deq' q s (ix2 r n) = q (ix2 r n) * s ⟨r / 128, by omega⟩ (ix3 0 0 n) := by
  have hsl : ∀ k : Fin 11, S1408x256.Slices ![128 * k, 0] S128x256 := by decide
  have e : deq' q s (ix2 r n) = wsl' q (s ⟨r / 128, by omega⟩) ![128 * (r / 128), 0] (hsl ⟨r / 128, by omega⟩) (ix2 ⟨r % 128, by omega⟩ n) :=
    concatenate_ofFn_apply (t := S1408x256) (s₁ := S128x256) 0 (N := 11)
      (fun k => wsl' q (s k) ![128 * k, 0] (hsl k)) (by exact concatenates_S128x256_S128x256_S128x256_S128x256_S128x256_S128x256_S128x256_S128x256_S128x256_S128x256_S128x256_S1408x256_d0)
      rfl 128 rfl (ix2 r n) ⟨r / 128, by omega⟩ rfl (ix2 ⟨r % 128, by omega⟩ n) rfl
      (fun b hb => by match b with | 0 => exact absurd rfl hb | 1 => rfl)
  rw [e]
  pointwise [wsl']
  congr 3
  exact Fin.ext (by show 128 * (r.val / 128) + r.val % 128 = r.val; omega)

theorem mm_at (x : FVec Ideal S128x2048 .bf16) (q : FVec Ideal S2048x256 .bf16) (r : Fin 128) (n : Fin 256) :
   shapeCast S128x256 (matmul dot_S128x2048_S2048x256_S128x256_1_0_0_1_n_n none x q
    (constant S128x256 .f32 0x00000000#32)) shapeCasts_S128x256_S128x256 (ix2 r n) = ∑ k : Fin 2048, x (ix2 r k) * q (ix2 k n) := by
  pointwise
theorem mm'_at (x : FVec Ideal S128x1408 .bf16) (q : FVec Ideal S1408x256 .bf16) (r : Fin 128) (n : Fin 256) :
   matmul dot_S128x1408_S1408x256_S128x256_1_0_0_1_n_n none x q
    (constant S128x256 .f32 0x00000000#32) (ix2 r n) = ∑ k : Fin 1408, x (ix2 r k) * q (ix2 k n) := by
  pointwise
theorem hP_at (g v : Vec Ideal S128x128 .f32) (r n : Fin 128) :
    hP g v (ix2 r n) = gate (g (ix2 r n)) (v (ix2 r n)) := by
  pointwise [hP, k0_pay180]
  simp only [gate, zero_sub]
theorem ofBool_one (b : Bool) : BitVec.ofBool b = 1#1 ↔ b = true := by cases b <;> decide
theorem pay193_at (L H W : BitVec 32) (hL : L.toNat < 4096) (hH : H.toNat < 4096) (hW : W.toNat < 4096) (r n : Fin 128) :
    k0_pay193 (F := Ideal) L H W (ix2 r n) = 1#1 ↔ L.toNat ≤ W.toNat + r ∧ W.toNat + r < H.toNat := by
  pointwise [k0_pay193]
  have hr := r.isLt
  have e : (IntOp.addi W (BitVec.ofNat 32 ↑r)).toNat = W.toNat + r := by
    simp only [IntOp.addi, BitVec.toNat_add, BitVec.toNat_ofNat]; omega
  have i1 := BitVec.toInt_eq_toNat_of_lt (x := IntOp.addi W (BitVec.ofNat 32 ↑r)) (by omega)
  have i2 := BitVec.toInt_eq_toNat_of_lt (x := L) (by omega)
  have i3 := BitVec.toInt_eq_toNat_of_lt (x := H) (by omega)
  rw [IntOp.andi_eq_one, WordCmp.cmpi_sge_eq, WordCmp.cmpi_slt_eq, i1, i2, i3, e]
  rw [ofBool_one, ofBool_one, decide_eq_true_eq, decide_eq_true_eq, Int.ofNat_le, Int.ofNat_lt]
theorem pay575_at (v : Vec Ideal S1x128 .f32) (r n : Fin 128) :
    k0_pay575 (F := Ideal) v (ix2 r n) = v (ix2 0 r) := by
  pointwise [k0_pay575]
theorem pay574_at (i : S1536x2048.Idx) :
    k0_pay574 (F := Ideal) i = 0 := by
  pointwise [k0_pay574]
theorem blend_at (mk : IVec S128x128 1) (rw v : FVec Ideal S128x128 .f32) (old : Vec Ideal S128x128 .bf16)  (r n : Fin 128) :
    blend mk rw v old (ix2 r n) = if mk (ix2 r n) = 1#1 then v (ix2 r n) * rw (ix2 r n) else old (ix2 r n) := by
  pointwise [blend]
  rfl
theorem half_at (v : FVec Ideal S128x256 .f32) (i : Fin 2) (r n : Fin 128) :
    half v i (ix2 r n) = v (ix2 r ⟨128 * i + n, by omega⟩) := by
  fin_cases i
  · pointwise [half]
  · pointwise [half]
end Cert.KernelIdeal.Hand

end
-- ==== Proof.Value.Item.lean ====
/-
  What one item leaves in its tiles, as numbers: the first product, the gated activations and the blocks of
  the result, from the expert's weights in the item's slot.
-/
module

public import proofs.«01_k».proof.Proof.KernelIdeal.Body
public import proofs.«01_k».proof.Proof.Value.Tile

@[expose] public section

set_option maxRecDepth 16384

open scoped BigOperators

noncomputable section

namespace Cert.KernelIdeal.Hand

open Cert.KernelIdeal Cert.KernelIdeal.Gen Cert.Hand
open Idealize.ShloMosaic Idealize.ShloMosaic.TcCoe

variable (c : Dev nD)

/-- The arrays of the kernel's buffers. -/
def inOf (V : Hb Ideal c) (x1 : Bf Ideal A1 c) (f2 : Bf Ideal A2 c) : In where
  x r k := x1 (ix2 r k)
  rw r := f2 (ix2 ⟨r / 128, by omega⟩ ⟨r % 128, by omega⟩)
  w1 e k n := V.V3 (ix3 e k n)
  s1 e k n := V.V4 (ix3 e k n)
  w2 e k n := V.V5 (ix3 e k n)
  s2 e k n := V.V6 (ix3 e k n)

theorem vix2 {n0 n1 : ℕ} (a : Fin n0) (b : Fin n1) : ValueIdx.ix2 a b = ix2 a b := by
  funext i; match i with | 0 => rfl | 1 => rfl
theorem vix3 {n0 n1 n2 : ℕ} (a : Fin n0) (b : Fin n1) (d : Fin n2) : ValueIdx.ix3 a b d = ix3 a b d := by
  funext i; match i with | 0 => rfl | 1 => rfl | 2 => rfl

section Reads
variable {c}
theorem rd8_at (f : Bf Ideal A8 c) (s : Fin 2) (n : Fin 11) (a : Fin 1024) (b : Fin 256) :
    rd8 c f s n (ix3 0 a b) = f (ix3 s a ⟨256 * n + b, by omega⟩) := by
  refine congrArg f (?_ : (Rect.unit _ _ _).emb _ = _)
  funext i; apply Fin.ext; rw [emb_unit_val]
  match i with | 0 => rfl | 1 => exact Nat.zero_add _ | 2 => rfl
theorem rd9_at (f : Bf Ideal A9 c) (s : Fin 2) (n : Fin 11) (k : Fin 16) (b : Fin 256) :
    rd9 c f s n k (ix3 0 0 b) = f (ix3 s k ⟨256 * n + b, by omega⟩) := by
  refine congrArg f (?_ : (Rect.unit _ _ _).emb _ = _)
  funext i; apply Fin.ext; rw [emb_unit_val]
  match i with | 0 => rfl | 1 => rfl | 2 => rfl
theorem rd10_at (f : Bf Ideal A10 c) (s : Fin 2) (n : Fin 8) (a : Fin 704) (b : Fin 256) :
    rd10 c f s n (ix3 0 a b) = f (ix3 s a ⟨256 * n + b, by omega⟩) := by
  refine congrArg f (?_ : (Rect.unit _ _ _).emb _ = _)
  funext i; apply Fin.ext; rw [emb_unit_val]
  match i with | 0 => rfl | 1 => exact Nat.zero_add _ | 2 => rfl
theorem rd11_at (f : Bf Ideal A11 c) (s : Fin 2) (n : Fin 8) (k : Fin 11) (b : Fin 256) :
    rd11 c f s n k (ix3 0 0 b) = f (ix3 s k ⟨256 * n + b, by omega⟩) := by
  refine congrArg f (?_ : (Rect.unit _ _ _).emb _ = _)
  funext i; apply Fin.ext; rw [emb_unit_val]
  match i with | 0 => rfl | 1 => rfl | 2 => rfl
theorem rd12_at (f : Bf Ideal A12 c) (n : Fin 22) (r b : Fin 128) :
    rd12 c f n (ix2 r b) = f (ix2 r ⟨128 * n + b, by omega⟩) := by
  refine congrArg f (?_ : (Rect.unit _ _ _).emb _ = _)
  funext i; apply Fin.ext; rw [emb_unit_val]
  match i with | 0 => exact Nat.zero_add _ | 1 => rfl
theorem rd13_at (f : Bf Ideal A13 c) (r : Fin 128) (b : Fin 1408) : rd13 c f (ix2 r b) = f (ix2 r b) := by
  refine congrArg f (?_ : (Rect.unit _ _ _).emb _ = _)
  funext i; apply Fin.ext; rw [emb_unit_val]
  match i with | 0 => exact Nat.zero_add _ | 1 => exact Nat.zero_add _
theorem rd1_at (f : Bf Ideal A1 c) (w : ℕ) (hw : w + 128 ≤ 1536) (r : Fin 128) (k : Fin 2048) :
    rd1 c f w hw (ix2 r k) = f (ix2 ⟨w + r, by omega⟩ k) := by
  refine congrArg f (?_ : (Rect.unit _ _ _).emb _ = _)
  funext i; apply Fin.ext; rw [emb_unit_val]
  match i with | 0 => rfl | 1 => exact Nat.zero_add _
theorem rd14_at (f : Bf Ideal A14 c) (w : ℕ) (hw : w + 128 ≤ 1536) (r k : Fin 128) :
    rd14 c f w hw (ix2 r k) = f (ix2 ⟨w + r, by omega⟩ k) := by
  refine congrArg f (?_ : (Rect.unit _ _ _).emb _ = _)
  funext i; apply Fin.ext; rw [emb_unit_val]
  match i with | 0 => rfl | 1 => exact Nat.zero_add _
theorem rd7_at (f : Bf Ideal A7 c) (w : ℕ) (hw : w + 128 ≤ 1536) (b : Fin 16) (r k : Fin 128) :
    rd7 c f w hw b (ix2 r k) = f (ix2 ⟨w + r, by omega⟩ ⟨128 * b + k, by omega⟩) := by
  refine congrArg f (?_ : (Rect.unit _ _ _).emb _ = _)
  funext i; apply Fin.ext; rw [emb_unit_val]
  match i with | 0 => rfl | 1 => rfl
theorem rd2_at (f : Bf Ideal A2 c) (k : Fin 12) (r : Fin 128) : rd2 c f k (ix2 0 r) = f (ix2 k r) := by
  refine congrArg f (?_ : (Rect.unit _ _ _).emb _ = _)
  funext i; apply Fin.ext; rw [emb_unit_val]
  match i with | 0 => rfl | 1 => exact Nat.zero_add _
end Reads

variable {c}
variable {V : Hb Ideal c} {x1 : Bf Ideal A1 c} {f2 : Bf Ideal A2 c} {s : Fin 2} {e : Fin 60} {w : ℕ} (hw : w + 128 ≤ 1536)
  {f8 : Bf Ideal A8 c} {f9 : Bf Ideal A9 c} {f10 : Bf Ideal A10 c} {f11 : Bf Ideal A11 c} {g : Bf Ideal A12 c} {h : Bf Ideal A13 c}

theorem at8 (h8 : Holds c A8 A3 s e V.V3 f8) (x : Fin 1024) (y : Fin 2816) : f8 (ix3 s x y) = V.V3 (ix3 e x y) := by
  have := h8 s.2 e.2 x y; rw [vix3, vix3] at this; exact this
theorem at9 (h9 : Holds c A9 A4 s e V.V4 f9) (x : Fin 16) (y : Fin 2816) : f9 (ix3 s x y) = V.V4 (ix3 e x y) := by
  have := h9 s.2 e.2 x y; rw [vix3, vix3] at this; exact this
theorem at10 (h10 : Holds c A10 A5 s e V.V5 f10) (x : Fin 704) (y : Fin 2048) : f10 (ix3 s x y) = V.V5 (ix3 e x y) := by
  have := h10 s.2 e.2 x y; rw [vix3, vix3] at this; exact this
theorem at11 (h11 : Holds c A11 A6 s e V.V6 f11) (x : Fin 11) (y : Fin 2048) : f11 (ix3 s x y) = V.V6 (ix3 e x y) := by
  have := h11 s.2 e.2 x y; rw [vix3, vix3] at this; exact this

/-- The first product. -/
theorem gu_at (h8 : Holds c A8 A3 s e V.V3 f8) (h9 : Holds c A9 A4 s e V.V4 f9)
    (hg : GuOK c (guT c (rd1 c x1 w hw) f8 f9 s) 11 g) (r : Fin 128) (n : Fin 2816) :
    g (ix2 r n) = Gu (inOf c V x1 f2) e ⟨w + r, by omega⟩ n := by
  have e1 : g (ix2 r n) = guT c (rd1 c x1 w hw) f8 f9 s ⟨n / 256, by omega⟩ (ix2 r ⟨n % 256, by omega⟩) :=
    (hg (ix2 r n) (by show n.val < _; omega)).trans (congrArg _ (vix2 _ _))
  refine e1.trans ?_
  refine (mm_at _ _ _ _).trans (Finset.sum_congr rfl fun k _ => ?_)
  have hn : (⟨256 * (n.val / 256) + n.val % 256, by omega⟩ : Fin 2816) = n := Fin.ext (by show 256 * (n.val / 256) + n.val % 256 = n.val; omega)
  rw [rd1_at, deq_at, nib_at, rd8_at, rd9_at, at8 h8, at9 h9]
  simp only [Gu, W1, inOf, ix2_1, hn]

/-- The gated activations. -/
theorem hh_at (h8 : Holds c A8 A3 s e V.V3 f8) (h9 : Holds c A9 A4 s e V.V4 f9)
    (hg : GuOK c (guT c (rd1 c x1 w hw) f8 f9 s) 11 g) (hh : HOK c (hT c g) 11 h) (r : Fin 128) (j : Fin 1408) :
    h (ix2 r j) = Hh (inOf c V x1 f2) e ⟨w + r, by omega⟩ j := by
  have e1 : h (ix2 r j) = hT c g ⟨j / 128, by omega⟩ (ix2 r ⟨j % 128, by omega⟩) :=
    (hh (ix2 r j) (by show j.val < _; omega)).trans (congrArg _ (vix2 _ _))
  refine e1.trans ?_
  refine (hP_at _ _ _ _).trans ?_
  rw [rd12_at, rd12_at, gu_at hw h8 h9 hg, gu_at hw h8 h9 hg (f2 := f2)]
  have h1 : (⟨128 * (j.val / 128) + j.val % 128, by omega⟩ : Fin 2816) = ⟨j, by omega⟩ := Fin.ext (by show 128 * (j.val / 128) + j.val % 128 = j.val; omega)
  have h2 : (⟨128 * (11 + j.val / 128) + j.val % 128, by omega⟩ : Fin 2816) = ⟨1408 + j, by omega⟩ :=
    Fin.ext (by show 128 * (11 + j.val / 128) + j.val % 128 = 1408 + j.val; omega)
  simp only [Hh, ix2_1]
  exact congrArg₂ gate (congrArg _ h1) (congrArg _ h2)

/-- A block of the result. -/
theorem y_at (h8 : Holds c A8 A3 s e V.V3 f8) (h9 : Holds c A9 A4 s e V.V4 f9)
    (h10 : Holds c A10 A5 s e V.V5 f10) (h11 : Holds c A11 A6 s e V.V6 f11)
    (hg : GuOK c (guT c (rd1 c x1 w hw) f8 f9 s) 11 g) (hh : HOK c (hT c g) 11 h) {rwb : Bf Ideal A14 c} (hr : RWOK c f2 12 rwb)
    (mk : IVec S128x128 1) (b : Fin 16) (old : Vec Ideal S128x128 .bf16) (r k : Fin 128) :
    yB c mk (rd14 c rwb w hw) (rd13 c h) f10 f11 s b old (ix2 r k) =
      if mk (ix2 r k) = 1#1 then Out (inOf c V x1 f2) e ⟨w + r, by omega⟩ ⟨128 * b + k, by omega⟩ else old (ix2 r k) := by
  refine (blend_at _ _ _ _ _ _).trans (if_congr Iff.rfl ?_ rfl)
  rw [half_at, rd14_at]
  refine congrArg₂ (fun a b : EReal => a * b) ?_ ?_
  · refine (mm'_at _ _ _ _).trans (Finset.sum_congr rfl fun j _ => ?_)
    have hn : (⟨256 * (b.val / 2) + (128 * (b.val % 2) + k.val), by omega⟩ : Fin 2048) = ⟨128 * b + k, by omega⟩ :=
      Fin.ext (by show 256 * (b.val / 2) + (128 * (b.val % 2) + k.val) = 128 * b.val + k.val; omega)
    rw [rd13_at, hh_at hw h8 h9 hg hh (f2 := f2), deq'_at, nib'_at, rd10_at, rd11_at, at10 h10, at11 h11]
    simp only [W2, inOf, hn]
  · have e1 : rwb (ix2 ⟨w + r, by omega⟩ k) = k0_pay575 (F := Ideal) (rd2 c f2 ⟨(w + r) / 128, by omega⟩) (ix2 ⟨(w + r) % 128, by omega⟩ k) :=
      (hr (ix2 ⟨w + r, by omega⟩ k) (by show w + r.val < _; omega)).trans (congrArg _ (vix2 _ _))
    refine e1.trans ?_
    refine (pay575_at _ _ _).trans ?_
    rw [rd2_at]
    rfl

end Cert.KernelIdeal.Hand

end
-- ==== Proof.Value.Rows.lean ====
/-
  The result of the whole list: after `t` items the rows below the last one's end hold their experts' values
  and the others zero.
-/
module

public import proofs.«01_k».proof.Proof.KernelIdeal.Launch
public import proofs.«01_k».proof.Proof.Value.Item

@[expose] public section

set_option maxRecDepth 16384

open scoped BigOperators

noncomputable section

namespace Cert.KernelIdeal.Hand

open Cert.KernelIdeal Cert.KernelIdeal.Gen Cert.Hand
open Idealize.ShloMosaic Idealize.ShloMosaic.TcCoe
open Idealize.SL.Sem

variable {c : Dev nD}

/-- A window's blocks, as numbers. -/
theorem yok_at {V : Hb Ideal c} {x1 : Bf Ideal A1 c} {f2 : Bf Ideal A2 c} {s : Fin 2} {e : Fin 60} {W L H : BitVec 32} (hw : W.toNat + 128 ≤ 1536)
    {f8 : Bf Ideal A8 c} {f9 : Bf Ideal A9 c} {f10 : Bf Ideal A10 c} {f11 : Bf Ideal A11 c} {g : Bf Ideal A12 c} {h : Bf Ideal A13 c}
    {y y' : Bf Ideal A7 c} {rwb : Bf Ideal A14 c}
    (h8 : Holds c A8 A3 s e V.V3 f8) (h9 : Holds c A9 A4 s e V.V4 f9)
    (h10 : Holds c A10 A5 s e V.V5 f10) (h11 : Holds c A11 A6 s e V.V6 f11)
    (hg : GuOK c (guT c (rd1 c x1 W.toNat hw) f8 f9 s) 11 g) (hh : HOK c (hT c g) 11 h) (hr : RWOK c f2 12 rwb)
    (hy : YOK c W.toNat hw y (yB c (k0_pay193 (F := Ideal) L H W) (rd14 c rwb W.toNat hw) (rd13 c h) f10 f11 s) 16 y')
    (h1 : W.toNat ≤ L.toNat) (h2 : L.toNat < H.toNat) (h3 : H.toNat ≤ W.toNat + 128) (r : Fin 1536) (k : Fin 2048) :
    y' (ix2 r k) = if L.toNat ≤ r ∧ r < H.toNat then Out (inOf c V x1 f2) e r k else y (ix2 r k) := by
  refine (hy (ix2 r k)).trans ?_
  by_cases hin : (W.toNat ≤ r.val ∧ r.val < W.toNat + 128) ∧ k.val < 128 * 16
  · refine (dif_pos hin).trans ?_
    have e1 := congrArg (yB c (k0_pay193 (F := Ideal) L H W) (rd14 c rwb W.toNat hw) (rd13 c h) f10 f11 s ⟨k.val / 128, by omega⟩
      (rd7 c y W.toNat hw ⟨k.val / 128, by omega⟩)) (vix2 (⟨r.val - W.toNat, by omega⟩ : Fin 128) (⟨k.val % 128, by omega⟩ : Fin 128))
    refine Eq.trans e1 ?_
    refine (y_at hw h8 h9 h10 h11 hg hh hr _ _ _ _ _).trans ?_
    refine if_congr ((pay193_at L H W (by omega) (by omega) (by omega) _ _).trans ?_) ?_ ?_
    · show L.toNat ≤ W.toNat + (r.val - W.toNat) ∧ W.toNat + (r.val - W.toNat) < H.toNat ↔ _
      omega
    · exact congrArg₂ (Out _ e) (Fin.ext (by show W.toNat + (r.val - W.toNat) = r.val; omega))
        (Fin.ext (by show 128 * (k.val / 128) + k.val % 128 = k.val; omega))
    · refine (rd7_at _ _ _ _ _ _).trans (congrArg y (congrArg₂ ix2 ?_ ?_))
      · exact Fin.ext (by show W.toNat + (r.val - W.toNat) = r.val; omega)
      · exact Fin.ext (by show 128 * (k.val / 128) + k.val % 128 = k.val; omega)
  · refine (dif_neg hin).trans ?_
    rw [if_neg]
    have := k.isLt
    omega

/-- How many rows the first `t` items cover. -/
def cov (f : Tbl) (t : ℕ) : ℕ := if t = 0 then 0 else it f 3 (t - 1)

/-- The result as a function of its coordinates. -/
def val (y : Bf Ideal A7 c) (r : Fin 1536) (k : Fin 2048) : EReal := y (ix2 r k)

/-- The result after `t` items. -/
def YI (I : In) (of : ℕ → ℕ) (f : Tbl) (t : ℕ) (y : Bf Ideal A7 c) : Prop :=
  (∀ (r : Fin 1536) (k : Fin 2048) (e : Fin 60), of e ≤ r → r < of (e + 1) → r < cov f t → val y r k = Out I e r k) ∧
  ∀ (r : Fin 1536) (k : Fin 2048), cov f t ≤ r → val y r k = 0

theorem cov_eq {of : ℕ → ℕ} {f : Tbl} {n r : ℕ} (h : Tab of f n r) {t : ℕ} (ht : t < n) : it f 2 t = cov f t := by
  cases t with
  | zero => exact (h.zero ht).1
  | succ t => exact (h.step t ht).1

theorem yi_step {V : Hb Ideal c} {x1 : Bf Ideal A1 c} {f2 : Bf Ideal A2 c} {f0 : Bf Ideal A0 c} {f15 : Bf Ideal A15 c} {n : ℕ} {rwb : Bf Ideal A14 c}
    (hf : Fin1 (offs c f0) f15 n) (hr : RWOK c f2 12 rwb) :
    YStep c V f15 n x1 rwb (YI (inOf c V x1 f2) (offs c f0) f15) := by
  intro t ht W L H s hw f8 f9 f10 f11 g h y y' hW hL hH hy h8 h9 h10 h11 hg hh hy'
  obtain ⟨i1, i2, i3, i4, i5, i6, i7, i8⟩ := hf.tab.item t ht
  have hc := cov_eq hf.tab ht
  have hc' : cov f15 (t + 1) = it f15 3 t := by simp [cov]
  have key : ∀ r k, val y' r k = if L.toNat ≤ r.val ∧ r.val < H.toNat then Out (inOf c V x1 f2) ⟨it f15 0 t, i1⟩ r k else val y r k :=
    yok_at (e := ⟨it f15 0 t, i1⟩) hw h8 h9 h10 h11 hg hh hr hy' (by omega) (by omega) (by omega)
  have huniq : ∀ (r e : ℕ), offs c f0 e ≤ r → r < offs c f0 (e + 1) → L.toNat ≤ r → r < H.toNat → e = it f15 0 t := by
    intro r e h1 h2 h3 h4
    rcases lt_trichotomy e (it f15 0 t) with hlt | he | hgt
    · have := offs_mono c f0 (show e + 1 ≤ it f15 0 t from hlt); omega
    · exact he
    · have := offs_mono c f0 (show it f15 0 t + 1 ≤ e from hgt); omega
  constructor
  · intro r k e h1 h2 h3
    rw [key r k]
    by_cases hin : L.toNat ≤ r.val ∧ r.val < H.toNat
    · rw [if_pos hin]
      obtain rfl : e = ⟨it f15 0 t, i1⟩ := Fin.ext (huniq r e h1 h2 hin.1 hin.2)
      rfl
    · rw [if_neg hin]
      exact hy.1 r k e h1 h2 (by omega)
  · intro r k h3
    rw [key r k, if_neg (by omega)]
    exact hy.2 r k (by omega)

theorem yi_zero {I : In} {of : ℕ → ℕ} {f : Tbl} {y : Bf Ideal A7 c} (h : Y0 c y) : YI I of f 0 y :=
  ⟨fun r k e _ _ h => absurd h (by simp [cov]), fun r k _ => (h (ix2 r k)).trans (pay574_at _)⟩

theorem yi_last {I : In} {f0 : Bf Ideal A0 c} {f15 : Bf Ideal A15 c} {n : ℕ} {y : Bf Ideal A7 c} (hf : Fin1 (offs c f0) f15 n)
    (h : YI I (offs c f0) f15 n y) : Spec I (offs c f0) (val y) := by
  have hc : cov f15 n = offs c f0 60 := by
    cases n with
    | zero => exact (hf.tab.first rfl).symm
    | succ n => exact hf.tab.last n rfl
  refine ⟨fun r k e h1 h2 => h.1 r k e h1 h2 ?_, fun r k h1 => h.2 r k (by omega)⟩
  have := offs_mono c f0 (show e.val + 1 ≤ 60 by omega)
  omega

/-- The kernel's run: the result's rows hold their experts' values. -/
theorem value_run (m : (ℓ : Loc nD τ sig) → Buf (Elt Ideal) ℓ) (ρ : Dev nD → PrngReg)
    (ho : ∀ c : Dev nD, offs (F := Ideal) c (m ((c.tc : Thread nD τ).loc main_arg1)) 60 ≤ 1536) :
    θ_run defs (onTc (τ := τ) (main (F := Ideal))) ⟨m, fun _ => 0, ρ⟩ (fun r => (∀ c : Dev nD,
      Spec (inOf c (hbV m c) (V m c main_arg0) (V m c main_v0)) (offs c (V m c main_arg1))
        (val (c := c) (r.2.mem ((c.tc : Thread nD τ).loc main_v1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  run_spec m ρ (fun c (y : S1536x2048.Idx → Elt Ideal .bf16) => Spec (inOf c (hbV m c) (V m c main_arg0) (V m c main_v0)) (offs c (V m c main_arg1)) (val (c := c) y))
    fun c => body c (hbV m c) (V m c main_arg1) (V m c main_arg0) (V m c main_v0) (by rw [V_arg1]; exact ho c)
      (fun f15 _ _ t y => YI (inOf c (hbV m c) (V m c main_arg0) (V m c main_v0)) (offs c (V m c main_arg1)) f15 t y) _
      (fun _ _ _ _ _ _ h => yi_zero h) (fun _ _ _ hf hr => yi_step hf hr) (fun _ _ _ _ hf _ h => yi_last hf h)

end Cert.KernelIdeal.Hand

end
-- ==== Proof.Value.Ref.lean ====
/-
  The reference's result named piece by piece: which rows are an expert's, the dequantised weights, the two
  pairs of masked products and the gate.
-/
module

public import proofs.«01_k».proof.Proof.Gen.ReferenceIdeal.Run
public import proofs.«01_k».proof.Proof.Value.Spec
public import Idealize.ShloMosaic.Lib.WordCmp
public import Idealize.ShloMosaic.Lib.Routing.Ops

@[expose] public section

set_option maxRecDepth 16384

open scoped BigOperators

noncomputable section

namespace Cert.ReferenceIdeal.Hand

open Cert.ReferenceIdeal Cert.ReferenceIdeal.Gen Cert.Hand
open Idealize.ShloMosaic Idealize.ShloMosaic.TcCoe

variable (A0 : FVec Ideal S1536x2048 .bf16) (A1 : IVec S60 32) (A2 : FVec Ideal S1536 .f32) (A3 : IVec S60x1024x2816 8)
  (A4 : FVec Ideal S60x16x2816 .bf16) (A5 : IVec S60x704x2048 8) (A6 : FVec Ideal S60x11x2048 .bf16)

/-- Where each expert's rows end. -/
def cs : IVec S60 32 := Host.reduceWindow IntOp.addi ![60] ![1] ![59] ![0] A1 (broadcastInDim S_ ![] bcast_S_S_ (constantI S_ 32 0#32)) reduceWindows_S60_S60_w60s1p59_0 h_S_
/-- The row numbers. -/
def iot : IVec S60x1536 32 := broadcastInDim S60x1536 ![0, 1] bcast_S1x1536_S60x1536_0_1 (broadcastInDim S1x1536 ![1] bcast_S1536_S1x1536_1 (iotaInDim S1536 32 0))
/-- Whether a row is an expert's. -/
def mine : IVec S60x1536 1 :=
  andi (cmpi .sle (broadcastInDim S60x1536 ![0, 1] bcast_S60x1_S60x1536_0_1 (broadcastInDim S60x1 ![0] bcast_S60_S60x1_0 (subi (cs A1) A1))) iot)
    (cmpi .slt iot (broadcastInDim S60x1536 ![0, 1] bcast_S60x1_S60x1536_0_1 (broadcastInDim S60x1 ![0] bcast_S60_S60x1_0 (cs A1))))
/-- The low nibbles of the first weights, dequantised. -/
def wlo : FVec Ideal S60x1024x2816 .bf16 :=
  mulf (subf (sitofp .bf16 (andi (extui 32 A3 natLt_8_32) (broadcastInDim S60x1024x2816 ![] bcast_S_S60x1024x2816 (constantI S_ 32 15#32)))) (broadcastInDim S60x1024x2816 ![] bcast_S_S60x1024x2816 (constant S_ .bf16 0x4100#16))) (shapeCast _ (broadcastInDim S60x16x64x2816 ![0, 1, 3] bcast_S60x16x2816_S60x16x64x2816_0_1_3 A4) shapeCasts_S60x16x64x2816_S60x1024x2816)
/-- The high nibbles. -/
def whi : FVec Ideal S60x1024x2816 .bf16 :=
  mulf (subf (sitofp .bf16 (Host.shrsi (extui 32 A3 natLt_8_32) (broadcastInDim S60x1024x2816 ![] bcast_S_S60x1024x2816 (constantI S_ 32 4#32)))) (broadcastInDim S60x1024x2816 ![] bcast_S_S60x1024x2816 (constant S_ .bf16 0x4100#16))) (shapeCast _ (broadcastInDim S60x16x64x2816 ![0, 1, 3] bcast_S60x16x2816_S60x16x64x2816_0_1_3 A4) shapeCasts_S60x16x64x2816_S60x1024x2816)
/-- The masked rows of every second column. -/
def xm (x : FVec Ideal S1536x1024 .bf16) : FVec Ideal S60x1536x1024 .bf16 :=
  select (broadcastInDim S60x1536x1024 ![0, 1, 2] bcast_S60x1536x1_S60x1536x1024_0_1_2 (broadcastInDim S60x1536x1 ![0, 1] bcast_S60x1536_S60x1536x1_0_1 (mine A1))) (broadcastInDim S60x1536x1024 ![1, 2] bcast_S1536x1024_S60x1536x1024_1_2 x) (broadcastInDim S60x1536x1024 ![] bcast_S_S60x1536x1024 (sitofp .bf16 (constantI S_ 32 0#32)))
/-- The first product. -/
def gu : FVec Ideal S1536x2816 .f32 :=
  addf (Host.dotGeneral dot_S60x1536x1024_S60x1024x2816_S1536x2816_02_01_1_2_n_n none (xm A1 (Host.slice S1536x1024 ![0, 0] ![1, 2] A0 slicesBy_S1536x2048_S1536x1024_0s1_0s2)) (wlo A3 A4))
    (Host.dotGeneral dot_S60x1536x1024_S60x1024x2816_S1536x2816_02_01_1_2_n_n none (xm A1 (Host.slice S1536x1024 ![0, 1] ![1, 2] A0 slicesBy_S1536x2048_S1536x1024_0s1_1s2)) (whi A3 A4))
/-- The gated activations. -/
def hid (GU : FVec Ideal S1536x2816 .f32) : FVec Ideal S1536x1408 .bf16 :=
  truncf .bf16 (mulf (mulf (extractStridedSlice S1536x1408 ![0, 0] GU slices_S1536x2816_S1536x1408_0_0) (Host.divf (broadcastInDim S1536x1408 ![] bcast_S_S1536x1408 (constant S_ .f32 0x3F800000#32)) (addf (broadcastInDim S1536x1408 ![] bcast_S_S1536x1408 (constant S_ .f32 0x3F800000#32)) (Host.exp (Host.negf (extractStridedSlice S1536x1408 ![0, 0] GU slices_S1536x2816_S1536x1408_0_0)))))) (extractStridedSlice S1536x1408 ![0, 1408] GU slices_S1536x2816_S1536x1408_0_1408)) bitsLt_bf16_f32
/-- The low nibbles of the second weights, dequantised. -/
def vlo : FVec Ideal S60x704x2048 .bf16 :=
  mulf (subf (sitofp .bf16 (andi (extui 32 A5 natLt_8_32) (broadcastInDim S60x704x2048 ![] bcast_S_S60x704x2048 (constantI S_ 32 15#32)))) (broadcastInDim S60x704x2048 ![] bcast_S_S60x704x2048 (constant S_ .bf16 0x4100#16))) (shapeCast _ (broadcastInDim S60x11x64x2048 ![0, 1, 3] bcast_S60x11x2048_S60x11x64x2048_0_1_3 A6) shapeCasts_S60x11x64x2048_S60x704x2048)
/-- The high nibbles. -/
def vhi : FVec Ideal S60x704x2048 .bf16 :=
  mulf (subf (sitofp .bf16 (Host.shrsi (extui 32 A5 natLt_8_32) (broadcastInDim S60x704x2048 ![] bcast_S_S60x704x2048 (constantI S_ 32 4#32)))) (broadcastInDim S60x704x2048 ![] bcast_S_S60x704x2048 (constant S_ .bf16 0x4100#16))) (shapeCast _ (broadcastInDim S60x11x64x2048 ![0, 1, 3] bcast_S60x11x2048_S60x11x64x2048_0_1_3 A6) shapeCasts_S60x11x64x2048_S60x704x2048)
/-- The masked rows of every second column of the activations. -/
def hm (x : FVec Ideal S1536x704 .bf16) : FVec Ideal S60x1536x704 .bf16 :=
  select (broadcastInDim S60x1536x704 ![0, 1, 2] bcast_S60x1536x1_S60x1536x704_0_1_2 (broadcastInDim S60x1536x1 ![0, 1] bcast_S60x1536_S60x1536x1_0_1 (mine A1))) (broadcastInDim S60x1536x704 ![1, 2] bcast_S1536x704_S60x1536x704_1_2 x) (broadcastInDim S60x1536x704 ![] bcast_S_S60x1536x704 (sitofp .bf16 (constantI S_ 32 0#32)))
/-- The second product. -/
def dn (H : FVec Ideal S1536x1408 .bf16) : FVec Ideal S1536x2048 .f32 :=
  addf (Host.dotGeneral dot_S60x1536x704_S60x704x2048_S1536x2048_02_01_1_2_n_n none (hm A1 (Host.slice S1536x704 ![0, 0] ![1, 2] H slicesBy_S1536x1408_S1536x704_0s1_0s2)) (vlo A5 A6))
    (Host.dotGeneral dot_S60x1536x704_S60x704x2048_S1536x2048_02_01_1_2_n_n none (hm A1 (Host.slice S1536x704 ![0, 1] ![1, 2] H slicesBy_S1536x1408_S1536x704_0s1_1s2)) (vhi A5 A6))
/-- How many rows all experts have. -/
def tot : IVec S_ 32 := Host.reduce IntOp.addi A1 (constantI S_ 32 0#32) reducesTo_S60_S_d0 h_S_
/-- The result. -/
def out (D : FVec Ideal S1536x2048 .f32) : FVec Ideal S1536x2048 .bf16 :=
  truncf .bf16 (select (broadcastInDim S1536x2048 ![0, 1] bcast_S1536x1_S1536x2048_0_1 (broadcastInDim S1536x1 ![0] bcast_S1536_S1536x1_0 (cmpi .slt (iotaInDim S1536 32 0) (broadcastInDim S1536 ![] bcast_S_S1536 (tot A1))))) (mulf D (broadcastInDim S1536x2048 ![0, 1] bcast_S1536x1_S1536x2048_0_1 (broadcastInDim S1536x1 ![0] bcast_S1536_S1536x1_0 A2))) (broadcastInDim S1536x2048 ![] bcast_S_S1536x2048 (id (constant S_ .f32 0x00000000#32)))) bitsLt_bf16_f32

/-- The reference's term is these pieces put together. -/
theorem res_eq (m : (ℓ : Loc nD τ sig) → Buf (Elt Ideal) ℓ) (c : Dev nD) :
    Value.res_main_v118 m c = out (m ((c.tc : Thread nD τ).loc main_arg1)) (m ((c.tc : Thread nD τ).loc main_arg2))
      (dn (m ((c.tc : Thread nD τ).loc main_arg1)) (m ((c.tc : Thread nD τ).loc main_arg5)) (m ((c.tc : Thread nD τ).loc main_arg6))
        (hid (gu (m ((c.tc : Thread nD τ).loc main_arg0)) (m ((c.tc : Thread nD τ).loc main_arg1)) (m ((c.tc : Thread nD τ).loc main_arg3)) (m ((c.tc : Thread nD τ).loc main_arg4))))) := rfl

/-! ## The pieces at an index -/

theorem lo_num (b : BitVec 8) : ((((IntOp.andi (BitVec.setWidth 32 b) 15#32).toInt : ℤ) : ℝ) : EReal) - ((8 : ℝ) : EReal) = (((nbl b 0 : ℤ) : ℝ) : EReal) := by
  rw [← nbl_and b, ← EReal.coe_sub]; push_cast; rfl
theorem hi_num (b : BitVec 8) : (((((BitVec.setWidth 32 b).sshiftRight 4).toInt : ℤ) : ℝ) : EReal) - ((8 : ℝ) : EReal) = (((nbl b 1 : ℤ) : ℝ) : EReal) := by
  rw [← nbl_shr b, ← EReal.coe_sub]; push_cast; rfl

theorem wlo_at (e : Fin 60) (k : Fin 1024) (n : Fin 2816) :
    wlo A3 A4 (ix3 e k n) = (((nbl (A3 (ix3 e k n)) 0 : ℤ) : ℝ) : EReal) * A4 (ix3 e ⟨k / 64, by omega⟩ n) := by
  pointwise [wlo]
  refine congrArg (fun a : EReal => a * A4 (ix3 e ⟨k / 64, by omega⟩ n)) ?_
  rw [ofBits_eight]
  exact lo_num _
theorem whi_at (e : Fin 60) (k : Fin 1024) (n : Fin 2816) :
    whi A3 A4 (ix3 e k n) = (((nbl (A3 (ix3 e k n)) 1 : ℤ) : ℝ) : EReal) * A4 (ix3 e ⟨k / 64, by omega⟩ n) := by
  pointwise [whi]
  refine congrArg (fun a : EReal => a * A4 (ix3 e ⟨k / 64, by omega⟩ n)) ?_
  rw [ofBits_eight]
  exact hi_num _
theorem vlo_at (e : Fin 60) (k : Fin 704) (n : Fin 2048) :
    vlo A5 A6 (ix3 e k n) = (((nbl (A5 (ix3 e k n)) 0 : ℤ) : ℝ) : EReal) * A6 (ix3 e ⟨k / 64, by omega⟩ n) := by
  pointwise [vlo]
  refine congrArg (fun a : EReal => a * A6 (ix3 e ⟨k / 64, by omega⟩ n)) ?_
  rw [ofBits_eight]
  exact lo_num _
theorem vhi_at (e : Fin 60) (k : Fin 704) (n : Fin 2048) :
    vhi A5 A6 (ix3 e k n) = (((nbl (A5 (ix3 e k n)) 1 : ℤ) : ℝ) : EReal) * A6 (ix3 e ⟨k / 64, by omega⟩ n) := by
  pointwise [vhi]
  refine congrArg (fun a : EReal => a * A6 (ix3 e ⟨k / 64, by omega⟩ n)) ?_
  rw [ofBits_eight]
  exact hi_num _
theorem xm_at (x : FVec Ideal S1536x1024 .bf16) (e : Fin 60) (r : Fin 1536) (k : Fin 1024) :
    xm A1 x (ix3 e r k) = if mine A1 (ix2 e r) = 1#1 then x (ix2 r k) else 0 := by
  pointwise [xm]
  have h0 : (FloatOps.sitofp (F := Ideal) FTy.bf16 0#32 : EReal) = 0 := by
    show (((0#32 : BitVec 32).toInt : ℝ) : EReal) = 0
    simp
  by_cases h : mine A1 (ix2 e r) = 1#1
  · rw [if_pos h, h]; rfl
  · rw [if_neg h]
    refine Eq.trans ?_ h0
    exact if_neg h
theorem hm_at (x : FVec Ideal S1536x704 .bf16) (e : Fin 60) (r : Fin 1536) (k : Fin 704) :
    hm A1 x (ix3 e r k) = if mine A1 (ix2 e r) = 1#1 then x (ix2 r k) else 0 := by
  pointwise [hm]
  have h0 : (FloatOps.sitofp (F := Ideal) FTy.bf16 0#32 : EReal) = 0 := by
    show (((0#32 : BitVec 32).toInt : ℝ) : EReal) = 0
    simp
  by_cases h : mine A1 (ix2 e r) = 1#1
  · rw [if_pos h, h]; rfl
  · rw [if_neg h]
    refine Eq.trans ?_ h0
    exact if_neg h
theorem dot_at (x : FVec Ideal S60x1536x1024 .bf16) (w : FVec Ideal S60x1024x2816 .bf16) (r : Fin 1536) (n : Fin 2816) :
    (Host.dotGeneral dot_S60x1536x1024_S60x1024x2816_S1536x2816_02_01_1_2_n_n none x w : FVec Ideal S1536x2816 .f32) (ix2 r n)
      = ∑ e : Fin 60, ∑ k : Fin 1024, x (ix3 e r k) * w (ix3 e k n) := by
  pointwise
theorem dot'_at (x : FVec Ideal S60x1536x704 .bf16) (w : FVec Ideal S60x704x2048 .bf16) (r : Fin 1536) (n : Fin 2048) :
    (Host.dotGeneral dot_S60x1536x704_S60x704x2048_S1536x2048_02_01_1_2_n_n none x w : FVec Ideal S1536x2048 .f32) (ix2 r n)
      = ∑ e : Fin 60, ∑ k : Fin 704, x (ix3 e r k) * w (ix3 e k n) := by
  pointwise
theorem hid_at (G : FVec Ideal S1536x2816 .f32) (r : Fin 1536) (j : Fin 1408) :
    hid G (ix2 r j) = gate (G (ix2 r ⟨j, by omega⟩)) (G (ix2 r ⟨1408 + j, by omega⟩)) := by
  pointwise [hid]
  exact gate_eq _ _
theorem ev_at (x : FVec Ideal S1536x2048 .bf16) (r : Fin 1536) (j : Fin 1024) :
    Host.slice S1536x1024 ![0, 0] ![1, 2] x slicesBy_S1536x2048_S1536x1024_0s1_0s2 (ix2 r j) = x (ix2 r ⟨2 * j + 0, by omega⟩) := by
  pointwise
theorem od_at (x : FVec Ideal S1536x2048 .bf16) (r : Fin 1536) (j : Fin 1024) :
    Host.slice S1536x1024 ![0, 1] ![1, 2] x slicesBy_S1536x2048_S1536x1024_0s1_1s2 (ix2 r j) = x (ix2 r ⟨2 * j + 1, by omega⟩) := by
  pointwise
  exact congrArg x (congrArg (ix2 r) (Fin.ext (Nat.add_comm _ _)))
theorem ev'_at (x : FVec Ideal S1536x1408 .bf16) (r : Fin 1536) (j : Fin 704) :
    Host.slice S1536x704 ![0, 0] ![1, 2] x slicesBy_S1536x1408_S1536x704_0s1_0s2 (ix2 r j) = x (ix2 r ⟨2 * j + 0, by omega⟩) := by
  pointwise
theorem od'_at (x : FVec Ideal S1536x1408 .bf16) (r : Fin 1536) (j : Fin 704) :
    Host.slice S1536x704 ![0, 1] ![1, 2] x slicesBy_S1536x1408_S1536x704_0s1_1s2 (ix2 r j) = x (ix2 r ⟨2 * j + 1, by omega⟩) := by
  pointwise
  exact congrArg x (congrArg (ix2 r) (Fin.ext (Nat.add_comm _ _)))
theorem out_at (D : FVec Ideal S1536x2048 .f32) (r : Fin 1536) (n : Fin 2048) :
    out A1 A2 D (ix2 r n) = if IntOp.cmpi CmpIPredicate.slt (BitVec.ofNat 32 r) (tot A1 ix0) = 1#1 then D (ix2 r n) * A2 (ix1 r) else 0 := by
  pointwise [out, id]
  rfl

/-! ## The row ranges -/

/-- The row expert `e` begins at. -/
def of (e : ℕ) : ℕ := ∑ i ∈ Finset.range e, if h : i < 60 then BitVec.toNat (w := 32) (A1 (ix1 ⟨i, h⟩)) else 0

theorem of_succ (e : Fin 60) : of A1 (e + 1) = of A1 e + BitVec.toNat (w := 32) (A1 (ix1 e)) := by
  rw [of, Finset.sum_range_succ, dif_pos e.isLt]; rfl
theorem of_mono {a b : ℕ} (h : a ≤ b) : of A1 a ≤ of A1 b :=
  Finset.sum_le_sum_of_subset (by intro x; simp only [Finset.mem_range]; omega)

theorem size_word (i : Fin 60) : A1 (ValueIdx.ix1 i) = BitVec.ofNat 32 (if h : i.val < 60 then BitVec.toNat (w := 32) (A1 (ix1 ⟨i, h⟩)) else 0) := by
  rw [dif_pos i.isLt]
  have e1 : (ValueIdx.ix1 i : S60.Idx) = ix1 i := by funext a; match a with | 0 => rfl
  rw [e1]
  exact BitVec.eq_of_toNat_eq (by rw [BitVec.toNat_ofNat, Nat.mod_eq_of_lt (BitVec.isLt _)])

theorem tot_eq : tot A1 ix0 = BitVec.ofNat 32 (of A1 60) := by
  refine Eq.trans (congrArg (tot A1) (?_ : (ix0 : S_.Idx) = ValueIdx.ix0)) ?_
  · funext a; exact a.elim0
  · exact Routing.reduce_sum (N := 60) A1 (fun i => if h : i < 60 then BitVec.toNat (w := 32) (A1 (ix1 ⟨i, h⟩)) else 0) (size_word A1) _ _

theorem cs_eq (e : Fin 60) : cs A1 (ix1 e) = BitVec.ofNat 32 (of A1 (e + 1)) := by
  refine Eq.trans (congrArg (cs A1) (?_ : (ix1 e : S60.Idx) = ValueIdx.ix1 e)) ?_
  · funext a; match a with | 0 => rfl
  · exact Routing.cumsum1 (N := 60) (Nm1 := 59) rfl A1 (fun i => if h : i < 60 then BitVec.toNat (w := 32) (A1 (ix1 ⟨i, h⟩)) else 0)
      (size_word A1) _ rfl _ _ e

theorem toInt_small {a : ℕ} (h : a < 4096) : (BitVec.ofNat 32 a).toInt = a := by
  rw [BitVec.toInt_eq_toNat_of_lt (by rw [BitVec.toNat_ofNat]; omega), BitVec.toNat_ofNat]
  omega
theorem ofBool_one (b : Bool) : BitVec.ofBool b = 1#1 ↔ b = true := by cases b <;> decide

theorem mine_at (ho : of A1 60 ≤ 1536) (e : Fin 60) (r : Fin 1536) :
    mine A1 (ix2 e r) = 1#1 ↔ of A1 e ≤ r ∧ r < of A1 (e + 1) := by
  pointwise [mine, iot]
  have h1 := of_succ A1 e
  have h2 := of_mono A1 (show e.val + 1 ≤ 60 by omega)
  have hs : IntOp.subi (cs A1 (ix1 e)) (A1 (ix1 e)) = BitVec.ofNat 32 (of A1 e) := by
    rw [cs_eq]
    apply BitVec.eq_of_toNat_eq
    simp only [IntOp.subi, BitVec.toNat_sub, BitVec.toNat_ofNat]
    have := (A1 (ix1 e)).isLt
    omega
  rw [hs, cs_eq, IntOp.andi_eq_one, WordCmp.cmpi_sle_eq, WordCmp.cmpi_slt_eq, toInt_small (by omega), toInt_small (by omega), toInt_small (by omega),
    ofBool_one, ofBool_one, decide_eq_true_eq, decide_eq_true_eq, Int.ofNat_le, Int.ofNat_lt]

theorem below_at (ho : of A1 60 ≤ 1536) (r : Fin 1536) :
    IntOp.cmpi CmpIPredicate.slt (BitVec.ofNat 32 r) (tot A1 ix0) = 1#1 ↔ r.val < of A1 60 := by
  rw [tot_eq, WordCmp.cmpi_slt_eq, toInt_small (by omega), toInt_small (by omega), ofBool_one, decide_eq_true_eq, Int.ofNat_lt]

end Cert.ReferenceIdeal.Hand

end
-- ==== Proof.Value.RefRows.lean ====
/-
  The reference's result row by row: a masked product over all experts is the product of the row's own, the
  even and the odd columns are together all columns.
-/
module

public import proofs.«01_k».proof.Proof.Value.Ref

@[expose] public section

set_option maxRecDepth 16384

open scoped BigOperators

noncomputable section

namespace Cert.ReferenceIdeal.Hand

open Cert.ReferenceIdeal Cert.ReferenceIdeal.Gen Cert.Hand
open Idealize.ShloMosaic Idealize.ShloMosaic.TcCoe

/-- A masked product summed over all experts is the row's own expert's. -/
theorem one_expert {K : ℕ} (P : Fin 60 → Prop) [DecidablePred P] (a : Fin K → EReal) (w : Fin 60 → Fin K → EReal) (e : Fin 60) (he : P e)
    (hu : ∀ e', P e' → e' = e) : ∑ e' : Fin 60, ∑ k : Fin K, (if P e' then a k else 0) * w e' k = ∑ k : Fin K, a k * w e k := by
  rw [Finset.sum_eq_single e]
  · exact Finset.sum_congr rfl fun k _ => by rw [if_pos he]
  · intro e' _ hne
    exact Finset.sum_eq_zero fun k _ => by rw [if_neg fun h => hne (hu e' h), zero_mul]
  · intro h; exact absurd (Finset.mem_univ e) h

/-- The even and the odd terms are all terms. -/
theorem sum_pairs {K M : ℕ} (hM : M = 2 * K) (f : Fin M → EReal) :
    ∑ k : Fin K, f ⟨2 * k + 0, by omega⟩ + ∑ k : Fin K, f ⟨2 * k + 1, by omega⟩ = ∑ k : Fin M, f k := by
  obtain rfl : M = K * 2 := by omega
  rw [← Equiv.sum_comp finProdFinEquiv f, Fintype.sum_prod_type, ← Finset.sum_add_distrib]
  refine Finset.sum_congr rfl fun k _ => ?_
  rw [Fin.sum_univ_two]
  refine congrArg₂ (fun a b : EReal => a + b) (congrArg f (Fin.ext ?_)) (congrArg f (Fin.ext ?_))
  · simp [finProdFinEquiv]
  · simp [finProdFinEquiv]; omega

variable (A0 : FVec Ideal S1536x2048 .bf16) (A1 : IVec S60 32) (A2 : FVec Ideal S1536 .f32) (A3 : IVec S60x1024x2816 8)
  (A4 : FVec Ideal S60x16x2816 .bf16) (A5 : IVec S60x704x2048 8) (A6 : FVec Ideal S60x11x2048 .bf16)

/-- The arrays of the reference's arguments. -/
def inOf : In where
  x r k := A0 (ix2 r k)
  rw r := A2 (ix1 r)
  w1 e k n := A3 (ix3 e k n)
  s1 e k n := A4 (ix3 e k n)
  w2 e k n := A5 (ix3 e k n)
  s2 e k n := A6 (ix3 e k n)

section
variable {A1}
variable (ho : of A1 60 ≤ 1536) {r : Fin 1536} {e : Fin 60} (h1 : of A1 e ≤ r) (h2 : r < of A1 (e + 1))
include ho h1 h2

theorem mine_only (e' : Fin 60) (h : mine A1 (ix2 e' r) = 1#1) : e' = e := by
  obtain ⟨h3, h4⟩ := (mine_at A1 ho e' r).1 h
  rcases lt_trichotomy e'.val e.val with hlt | he | hgt
  · have := of_mono A1 (show e'.val + 1 ≤ e.val from hlt); omega
  · exact Fin.ext he
  · have := of_mono A1 (show e.val + 1 ≤ e'.val from hgt); omega

theorem gu_at (n : Fin 2816) : gu A0 A1 A3 A4 (ix2 r n) = Gu (inOf A0 A2 A3 A4 A5 A6) e r n := by
  have hm := (mine_at A1 ho e r).2 ⟨h1, h2⟩
  have hu := mine_only ho h1 h2
  rw [Gu, ← sum_pairs (K := 1024) rfl]
  refine congrArg₂ (fun a b : EReal => a + b) ?_ ?_
  · rw [dot_at]
    simp only [xm_at, wlo_at, ev_at]
    rw [one_expert (fun e' => mine A1 (ix2 e' r) = 1#1) _ _ e hm hu]
    refine Finset.sum_congr rfl fun k _ => ?_
    have i1 : (⟨(2 * k.val + 0) / 2, by omega⟩ : Fin 1024) = k := Fin.ext (by show (2 * k.val + 0) / 2 = k.val; omega)
    have i2 : (⟨(2 * k.val + 0) / 128, by omega⟩ : Fin 16) = ⟨k / 64, by omega⟩ := Fin.ext (by show (2 * k.val + 0) / 128 = k.val / 64; omega)
    have i3 : (2 * k.val + 0) % 2 = 0 := by omega
    simp only [W1, inOf, i1, i2, i3]
  · rw [dot_at]
    simp only [xm_at, whi_at, od_at]
    rw [one_expert (fun e' => mine A1 (ix2 e' r) = 1#1) _ _ e hm hu]
    refine Finset.sum_congr rfl fun k _ => ?_
    have i1 : (⟨(2 * k.val + 1) / 2, by omega⟩ : Fin 1024) = k := Fin.ext (by show (2 * k.val + 1) / 2 = k.val; omega)
    have i2 : (⟨(2 * k.val + 1) / 128, by omega⟩ : Fin 16) = ⟨k / 64, by omega⟩ := Fin.ext (by show (2 * k.val + 1) / 128 = k.val / 64; omega)
    have i3 : (2 * k.val + 1) % 2 = 1 := by omega
    simp only [W1, inOf, i1, i2, i3]

theorem dn_at (H : FVec Ideal S1536x1408 .bf16) (n : Fin 2048) :
    dn A1 A5 A6 H (ix2 r n) = ∑ k : Fin 1408, H (ix2 r k) * W2 (inOf A0 A2 A3 A4 A5 A6) e k n := by
  have hm := (mine_at A1 ho e r).2 ⟨h1, h2⟩
  have hu := mine_only ho h1 h2
  rw [← sum_pairs (K := 704) rfl]
  refine congrArg₂ (fun a b : EReal => a + b) ?_ ?_
  · rw [dot'_at]
    simp only [hm_at, vlo_at, ev'_at]
    rw [one_expert (fun e' => mine A1 (ix2 e' r) = 1#1) _ _ e hm hu]
    refine Finset.sum_congr rfl fun k _ => ?_
    have i1 : (⟨(2 * k.val + 0) / 2, by omega⟩ : Fin 704) = k := Fin.ext (by show (2 * k.val + 0) / 2 = k.val; omega)
    have i2 : (⟨(2 * k.val + 0) / 128, by omega⟩ : Fin 11) = ⟨k / 64, by omega⟩ := Fin.ext (by show (2 * k.val + 0) / 128 = k.val / 64; omega)
    have i3 : (2 * k.val + 0) % 2 = 0 := by omega
    simp only [W2, inOf, i1, i2, i3]
  · rw [dot'_at]
    simp only [hm_at, vhi_at, od'_at]
    rw [one_expert (fun e' => mine A1 (ix2 e' r) = 1#1) _ _ e hm hu]
    refine Finset.sum_congr rfl fun k _ => ?_
    have i1 : (⟨(2 * k.val + 1) / 2, by omega⟩ : Fin 704) = k := Fin.ext (by show (2 * k.val + 1) / 2 = k.val; omega)
    have i2 : (⟨(2 * k.val + 1) / 128, by omega⟩ : Fin 11) = ⟨k / 64, by omega⟩ := Fin.ext (by show (2 * k.val + 1) / 128 = k.val / 64; omega)
    have i3 : (2 * k.val + 1) % 2 = 1 := by omega
    simp only [W2, inOf, i1, i2, i3]
end

/-- The reference's result holds every row's value. -/
theorem spec (ho : of A1 60 ≤ 1536) :
    Spec (inOf A0 A2 A3 A4 A5 A6) (of A1) (fun r n => out A1 A2 (dn A1 A5 A6 (hid (gu A0 A1 A3 A4))) (ix2 r n)) := by
  refine ⟨fun r n e h1 h2 => ?_, fun r n h => ?_⟩
  · have h3 := of_mono A1 (show e.val + 1 ≤ 60 by omega)
    refine (out_at A1 A2 _ r n).trans ?_
    rw [if_pos ((below_at A1 ho r).2 (by omega)), dn_at A0 A2 A3 A4 A5 A6 ho h1 h2]
    simp only [hid_at, gu_at A0 A2 A3 A4 A5 A6 ho h1 h2]
    rfl
  · refine (out_at A1 A2 _ r n).trans ?_
    rw [if_neg fun hh => absurd ((below_at A1 ho r).1 hh) (by omega)]

end Cert.ReferenceIdeal.Hand

end
-- ==== Proof.Value.Algebraic.lean ====
/-
  Over the extended reals the kernel and the reference leave one result: both hold every row's value.
-/
module

public import proofs.«01_k».proof.Proof.Value.Rows
public import proofs.«01_k».proof.Proof.Value.RefRows
public import Idealize.ShloMosaic.Lib.StableHlo.RunRead

@[expose] public section

set_option maxRecDepth 16384

noncomputable section

namespace Cert.KernelIdeal.Hand

open Cert.KernelIdeal Cert.KernelIdeal.Gen Cert.Hand
open Idealize.ShloMosaic Idealize.ShloMosaic.TcCoe
open Idealize.SL.Sem

/-- The row weights the kernel is given, at a row. -/
theorem V_v0_at (m : (ℓ : Loc nD τ sig) → Buf (Elt Ideal) ℓ) (c : Dev nD) (r : Fin 1536) :
    (V m c main_v0 : S12x128.Idx → EReal) (ix2 ⟨r / 128, by omega⟩ ⟨r % 128, by omega⟩) = (m ((c.tc : Thread nD τ).loc main_arg2) : S1536.Idx → EReal) (ix1 r) := by
  have e : V m c main_v0 = shapeCast S12x128 (m ((c.tc : Thread nD τ).loc main_arg2) : S1536.Idx → EReal) shapeCasts_S1536_S12x128 := by
    unfold V hostOps0
    after_reads_simp
    rfl
  rw [e]
  pointwise

/-- The kernel's arrays are the reference's, of arguments that agree. -/
theorem in_eq (m : (ℓ : Loc nD τ sig) → Buf (Elt Ideal) ℓ) (c : Dev nD) :
    inOf c (hbV m c) (V m c main_arg0) (V m c main_v0) =
      Cert.ReferenceIdeal.Hand.inOf (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) := by
  have h2 := funext (V_v0_at m c)
  simp only [inOf, hbV, Cert.ReferenceIdeal.Hand.inOf, In.mk.injEq]
  refine ⟨?_, h2, ?_, ?_, ?_, ?_⟩
  · rw [V_arg0]
  · rw [V_arg3]
  · rw [V_arg4]
  · rw [V_arg5]
  · rw [V_arg6]

/-- Where each expert's rows begin, in the two programs. -/
theorem offs_eq (m : (ℓ : Loc nD τ sig) → Buf (Elt Ideal) ℓ) (c : Dev nD) :
    offs c (V m c main_arg1) = Cert.ReferenceIdeal.Hand.of (m ((c.tc : Thread nD τ).loc main_arg1)) := by
  rw [V_arg1]
  funext e
  refine Finset.sum_congr rfl fun i _ => ?_
  split
  · refine congrArg (fun j => BitVec.toNat (w := 32) (m ((c.tc : Thread nD τ).loc main_arg1) j)) ?_
    funext a; match a with | 0 => rfl
  · rfl

/-- Two result arrays that hold every row's value are one. -/
theorem val_ext {c : Dev nD} {y z : Bf Ideal A7 c} (h : ∀ r k, val y r k = val z r k) : y = z := by
  funext i
  have e : i = (ix2 (i 0) (i 1) : S1536x2048.Idx) := eq_ix2 (n0 := 1536) (n1 := 2048) i
  rw [e]
  exact h (i 0) (i 1)

end Cert.KernelIdeal.Hand

end
-- ==== Proof.lean ====
module

public import proofs.«01_k».proof.Defs
public import proofs.«01_k».proof.Proof.Gen.ReferenceIdeal.Run
public import proofs.«01_k».proof.Proof.Sizes
public import proofs.«01_k».proof.Proof.Kernel.Frame
public import proofs.«01_k».proof.Proof.KernelIdeal.Frame
public import proofs.«01_k».proof.Proof.Value.Algebraic

@[expose] public section

noncomputable section

namespace Cert.Proof

open Idealize.ShloMosaic Idealize.SL.Sem

/-- The precondition's stated facts. -/
theorem pre_facts : Cert.Pre_sizes_fit.Facts := ⟨by decide, by decide, by decide⟩

attribute [local instance] pre_facts

/-- The kernel's frame at the bit-exact instance. -/
theorem frame_p : Cert.quiescent_Kernel := fun m g hp =>
  Cert.Kernel.Hand.frame m g fun c => Cert.Hand.sizes_le _ _ _ _ _ _ _ (hp c)

/-- The kernel's frame at the ideal instance. -/
theorem frame_pi : Cert.quiescent_KernelIdeal := fun m g hp =>
  Cert.KernelIdeal.Hand.frame m g fun c => Cert.Hand.sizes_le _ _ _ _ _ _ _ (hp c)

/-- The reference's frame, read off its run. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel and the reference leave equal results over the extended reals. -/
theorem algebraic : Cert.algebraic_KernelIdeal_ReferenceIdeal := fun m g m' g' hp ha => by
  have ho : ∀ c, Cert.KernelIdeal.Hand.offs (F := Ideal) c (m ((c.tc : Thread Cert.KernelIdeal.nD Cert.KernelIdeal.τ).loc Cert.KernelIdeal.main_arg1)) 60 ≤ 1536 :=
    fun c => Cert.Hand.sizes_le _ _ _ _ _ _ _ (hp c)
  refine ⟨fun c => Cert.ReferenceIdeal.Value.res_main_v118 m' c, ?_, Cert.ReferenceIdeal.Value.run m' g'⟩
  refine (θ_run Cert.KernelIdeal.defs _ _).mono (fun r h c => ⟨?_, (h.1 c).2⟩) (Cert.KernelIdeal.Hand.value_run m g ho)
  obtain ⟨h0, h1, h2, h3, h4, h5, h6⟩ := ha c
  have hk := (h.1 c).1
  rw [Cert.KernelIdeal.Hand.in_eq, Cert.KernelIdeal.Hand.offs_eq] at hk
  have hc := ho c
  rw [show m ((c.tc : Thread Cert.KernelIdeal.nD Cert.KernelIdeal.τ).loc Cert.KernelIdeal.main_arg1) = Cert.KernelIdeal.Hand.V m c Cert.KernelIdeal.main_arg1 from (Cert.KernelIdeal.Hand.V_arg1 m c).symm,
    Cert.KernelIdeal.Hand.offs_eq] at hc
  refine Cert.KernelIdeal.Hand.val_ext (fun i k => Cert.Hand.Spec.unique rfl hk ?_ i k)
  have hs := Cert.ReferenceIdeal.Hand.spec (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) hc
  have er := Cert.ReferenceIdeal.Hand.res_eq m' c
  rw [h0, h1, h2, h3, h4, h5, h6] at er
  show Cert.Hand.Spec _ _ (Cert.KernelIdeal.Hand.val (c := c) (Cert.ReferenceIdeal.Value.res_main_v118 m' c))
  rw [er]
  exact hs

/-- Every claim of the certificate. -/
theorem claim : Cert.Claim := ⟨Cert.Kernel.Gen.facts, Cert.KernelIdeal.Gen.facts, Cert.ReferenceIdeal.Gen.facts, pre_facts,
  frame_p, frame_pi, frame_ri, trivial, algebraic⟩

end Cert.Proof

end
